-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_FfnDhn (m : (ℓ : Loc Cert.FfnDhn.nD Cert.FfnDhn.τ Cert.FfnDhn.sig) → Buf (Elt Bits) ℓ) : Prop :=
  True

def Pre_FfnDhnIdeal (m : (ℓ : Loc Cert.FfnDhnIdeal.nD Cert.FfnDhnIdeal.τ Cert.FfnDhnIdeal.sig) → Buf (Elt Ideal) ℓ) : Prop :=
  True

def Pre_FfnDhnReferenceIdeal (m : (ℓ : Loc Cert.FfnDhnReferenceIdeal.nD Cert.FfnDhnReferenceIdeal.τ Cert.FfnDhnReferenceIdeal.sig) → Buf (Elt Ideal) ℓ) : Prop :=
  True

def Pre_FfnDwinA (m : (ℓ : Loc Cert.FfnDwinA.nD Cert.FfnDwinA.τ Cert.FfnDwinA.sig) → Buf (Elt Bits) ℓ) : Prop :=
  True

def Pre_FfnDwinAIdeal (m : (ℓ : Loc Cert.FfnDwinAIdeal.nD Cert.FfnDwinAIdeal.τ Cert.FfnDwinAIdeal.sig) → Buf (Elt Ideal) ℓ) : Prop :=
  True

def Pre_FfnDwinAReferenceIdeal (m : (ℓ : Loc Cert.FfnDwinAReferenceIdeal.nD Cert.FfnDwinAReferenceIdeal.τ Cert.FfnDwinAReferenceIdeal.sig) → Buf (Elt Ideal) ℓ) : Prop :=
  True

def Pre_FfnDwinB (m : (ℓ : Loc Cert.FfnDwinB.nD Cert.FfnDwinB.τ Cert.FfnDwinB.sig) → Buf (Elt Bits) ℓ) : Prop :=
  True

def Pre_FfnDwinBIdeal (m : (ℓ : Loc Cert.FfnDwinBIdeal.nD Cert.FfnDwinBIdeal.τ Cert.FfnDwinBIdeal.sig) → Buf (Elt Ideal) ℓ) : Prop :=
  True

def Pre_FfnDwinBReferenceIdeal (m : (ℓ : Loc Cert.FfnDwinBReferenceIdeal.nD Cert.FfnDwinBReferenceIdeal.τ Cert.FfnDwinBReferenceIdeal.sig) → Buf (Elt Ideal) ℓ) : Prop :=
  True

def Pre_FfnDwout (m : (ℓ : Loc Cert.FfnDwout.nD Cert.FfnDwout.τ Cert.FfnDwout.sig) → Buf (Elt Bits) ℓ) : Prop :=
  True

def Pre_FfnDwoutIdeal (m : (ℓ : Loc Cert.FfnDwoutIdeal.nD Cert.FfnDwoutIdeal.τ Cert.FfnDwoutIdeal.sig) → Buf (Elt Ideal) ℓ) : Prop :=
  True

def Pre_FfnDwoutReferenceIdeal (m : (ℓ : Loc Cert.FfnDwoutReferenceIdeal.nD Cert.FfnDwoutReferenceIdeal.τ Cert.FfnDwoutReferenceIdeal.sig) → Buf (Elt Ideal) ℓ) : Prop :=
  True

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactReferenceIdeal (m : (ℓ : Loc Cert.FfnDactReferenceIdeal.nD Cert.FfnDactReferenceIdeal.τ Cert.FfnDactReferenceIdeal.sig) → Buf (Elt Ideal) ℓ) : Prop :=
  True

def Pre_AttDhn (m : (ℓ : Loc Cert.AttDhn.nD Cert.AttDhn.τ Cert.AttDhn.sig) → Buf (Elt Bits) ℓ) : Prop :=
  True

def Pre_AttDhnIdeal (m : (ℓ : Loc Cert.AttDhnIdeal.nD Cert.AttDhnIdeal.τ Cert.AttDhnIdeal.sig) → Buf (Elt Ideal) ℓ) : Prop :=
  True

def Pre_AttDhnReferenceIdeal (m : (ℓ : Loc Cert.AttDhnReferenceIdeal.nD Cert.AttDhnReferenceIdeal.τ Cert.AttDhnReferenceIdeal.sig) → Buf (Elt Ideal) ℓ) : Prop :=
  True

def Pre_MixDhn (m : (ℓ : Loc Cert.MixDhn.nD Cert.MixDhn.τ Cert.MixDhn.sig) → Buf (Elt Bits) ℓ) : Prop :=
  True

def Pre_MixDhnIdeal (m : (ℓ : Loc Cert.MixDhnIdeal.nD Cert.MixDhnIdeal.τ Cert.MixDhnIdeal.sig) → Buf (Elt Ideal) ℓ) : Prop :=
  True

def Pre_MixDhnReferenceIdeal (m : (ℓ : Loc Cert.MixDhnReferenceIdeal.nD Cert.MixDhnReferenceIdeal.τ Cert.MixDhnReferenceIdeal.sig) → Buf (Elt Ideal) ℓ) : Prop :=
  True

def Pre_AttDwqkv (m : (ℓ : Loc Cert.AttDwqkv.nD Cert.AttDwqkv.τ Cert.AttDwqkv.sig) → Buf (Elt Bits) ℓ) : Prop :=
  True

def Pre_AttDwqkvIdeal (m : (ℓ : Loc Cert.AttDwqkvIdeal.nD Cert.AttDwqkvIdeal.τ Cert.AttDwqkvIdeal.sig) → Buf (Elt Ideal) ℓ) : Prop :=
  True

def Pre_AttDwqkvReferenceIdeal (m : (ℓ : Loc Cert.AttDwqkvReferenceIdeal.nD Cert.AttDwqkvReferenceIdeal.τ Cert.AttDwqkvReferenceIdeal.sig) → Buf (Elt Ideal) ℓ) : Prop :=
  True

def Pre_MixDwin (m : (ℓ : Loc Cert.MixDwin.nD Cert.MixDwin.τ Cert.MixDwin.sig) → Buf (Elt Bits) ℓ) : Prop :=
  True

def Pre_MixDwinIdeal (m : (ℓ : Loc Cert.MixDwinIdeal.nD Cert.MixDwinIdeal.τ Cert.MixDwinIdeal.sig) → Buf (Elt Ideal) ℓ) : Prop :=
  True

def Pre_MixDwinReferenceIdeal (m : (ℓ : Loc Cert.MixDwinReferenceIdeal.nD Cert.MixDwinReferenceIdeal.τ Cert.MixDwinReferenceIdeal.sig) → Buf (Elt Ideal) ℓ) : Prop :=
  True

def Pre_MixDwout (m : (ℓ : Loc Cert.MixDwout.nD Cert.MixDwout.τ Cert.MixDwout.sig) → Buf (Elt Bits) ℓ) : Prop :=
  True

def Pre_MixDwoutIdeal (m : (ℓ : Loc Cert.MixDwoutIdeal.nD Cert.MixDwoutIdeal.τ Cert.MixDwoutIdeal.sig) → Buf (Elt Ideal) ℓ) : Prop :=
  True

def Pre_MixDwoutReferenceIdeal (m : (ℓ : Loc Cert.MixDwoutReferenceIdeal.nD Cert.MixDwoutReferenceIdeal.τ Cert.MixDwoutReferenceIdeal.sig) → Buf (Elt Ideal) ℓ) : Prop :=
  True

def Pre_MixDcat (m : (ℓ : Loc Cert.MixDcat.nD Cert.MixDcat.τ Cert.MixDcat.sig) → Buf (Elt Bits) ℓ) : Prop :=
  True

def Pre_MixDcatIdeal (m : (ℓ : Loc Cert.MixDcatIdeal.nD Cert.MixDcatIdeal.τ Cert.MixDcatIdeal.sig) → Buf (Elt Ideal) ℓ) : Prop :=
  True

def Pre_MixDcatReferenceIdeal (m : (ℓ : Loc Cert.MixDcatReferenceIdeal.nD Cert.MixDcatReferenceIdeal.τ Cert.MixDcatReferenceIdeal.sig) → Buf (Elt Ideal) ℓ) : Prop :=
  True

def Pre_AttDwo (m : (ℓ : Loc Cert.AttDwo.nD Cert.AttDwo.τ Cert.AttDwo.sig) → Buf (Elt Bits) ℓ) : Prop :=
  True

def Pre_AttDwoIdeal (m : (ℓ : Loc Cert.AttDwoIdeal.nD Cert.AttDwoIdeal.τ Cert.AttDwoIdeal.sig) → Buf (Elt Ideal) ℓ) : Prop :=
  True

def Pre_AttDwoReferenceIdeal (m : (ℓ : Loc Cert.AttDwoReferenceIdeal.nD Cert.AttDwoReferenceIdeal.τ Cert.AttDwoReferenceIdeal.sig) → Buf (Elt Ideal) ℓ) : Prop :=
  True

def Pre_AttDmix (m : (ℓ : Loc Cert.AttDmix.nD Cert.AttDmix.τ Cert.AttDmix.sig) → Buf (Elt Bits) ℓ) : Prop :=
  True

def Pre_AttDmixIdeal (m : (ℓ : Loc Cert.AttDmixIdeal.nD Cert.AttDmixIdeal.τ Cert.AttDmixIdeal.sig) → Buf (Elt Ideal) ℓ) : Prop :=
  True

def Pre_AttDmixReferenceIdeal (m : (ℓ : Loc Cert.AttDmixReferenceIdeal.nD Cert.AttDmixReferenceIdeal.τ Cert.AttDmixReferenceIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutReferenceIdeal (m : (ℓ : Loc Cert.AttOutReferenceIdeal.nD Cert.AttOutReferenceIdeal.τ Cert.AttOutReferenceIdeal.sig) → Buf (Elt Ideal) ℓ) : Prop :=
  True

def Pre_S5Dglu (m : (ℓ : Loc Cert.S5Dglu.nD Cert.S5Dglu.τ Cert.S5Dglu.sig) → Buf (Elt Bits) ℓ) : Prop :=
  True

def Pre_S5DgluIdeal (m : (ℓ : Loc Cert.S5DgluIdeal.nD Cert.S5DgluIdeal.τ Cert.S5DgluIdeal.sig) → Buf (Elt Ideal) ℓ) : Prop :=
  True

def Pre_S5DgluReferenceIdeal (m : (ℓ : Loc Cert.S5DgluReferenceIdeal.nD Cert.S5DgluReferenceIdeal.τ Cert.S5DgluReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInReferenceIdeal (m : (ℓ : Loc Cert.FfnInReferenceIdeal.nD Cert.FfnInReferenceIdeal.τ Cert.FfnInReferenceIdeal.sig) → Buf (Elt Ideal) ℓ) : Prop :=
  True

def Pre_S5GluUpdate [hPre_s5_glu_update_on_mesh : Cert.Pre_s5_glu_update_on_mesh.Facts] (m : (ℓ : Loc Cert.S5GluUpdate.nD Cert.S5GluUpdate.τ Cert.S5GluUpdate.sig) → Buf (Elt Bits) ℓ) : Prop :=
  ∀ c : Dev Cert.S5GluUpdate.nD,
    (Cert.Pre_s5_glu_update_on_mesh.fn (F := Bits) (m ((c.tc : Thread Cert.S5GluUpdate.nD Cert.S5GluUpdate.τ).loc Cert.S5GluUpdate.main_arg0)) (m ((c.tc : Thread Cert.S5GluUpdate.nD Cert.S5GluUpdate.τ).loc Cert.S5GluUpdate.main_arg1)) (m ((c.tc : Thread Cert.S5GluUpdate.nD Cert.S5GluUpdate.τ).loc Cert.S5GluUpdate.main_arg2)) (m ((c.tc : Thread Cert.S5GluUpdate.nD Cert.S5GluUpdate.τ).loc Cert.S5GluUpdate.main_arg3)) (m ((c.tc : Thread Cert.S5GluUpdate.nD Cert.S5GluUpdate.τ).loc Cert.S5GluUpdate.main_arg4)) (m ((c.tc : Thread Cert.S5GluUpdate.nD Cert.S5GluUpdate.τ).loc Cert.S5GluUpdate.main_arg5))) = (fun _ => 1#1)

def Pre_S5GluUpdateIdeal [hPre_s5_glu_update_on_mesh : Cert.Pre_s5_glu_update_on_mesh.Facts] (m : (ℓ : Loc Cert.S5GluUpdateIdeal.nD Cert.S5GluUpdateIdeal.τ Cert.S5GluUpdateIdeal.sig) → Buf (Elt Ideal) ℓ) : Prop :=
  ∀ c : Dev Cert.S5GluUpdateIdeal.nD,
    (Cert.Pre_s5_glu_update_on_mesh.fn (F := Ideal) (m ((c.tc : Thread Cert.S5GluUpdateIdeal.nD Cert.S5GluUpdateIdeal.τ).loc Cert.S5GluUpdateIdeal.main_arg0)) (m ((c.tc : Thread Cert.S5GluUpdateIdeal.nD Cert.S5GluUpdateIdeal.τ).loc Cert.S5GluUpdateIdeal.main_arg1)) (m ((c.tc : Thread Cert.S5GluUpdateIdeal.nD Cert.S5GluUpdateIdeal.τ).loc Cert.S5GluUpdateIdeal.main_arg2)) (m ((c.tc : Thread Cert.S5GluUpdateIdeal.nD Cert.S5GluUpdateIdeal.τ).loc Cert.S5GluUpdateIdeal.main_arg3)) (m ((c.tc : Thread Cert.S5GluUpdateIdeal.nD Cert.S5GluUpdateIdeal.τ).loc Cert.S5GluUpdateIdeal.main_arg4)) (m ((c.tc : Thread Cert.S5GluUpdateIdeal.nD Cert.S5GluUpdateIdeal.τ).loc Cert.S5GluUpdateIdeal.main_arg5))) = (fun _ => 1#1)

def Pre_S5GluUpdateReferenceIdeal (m : (ℓ : Loc Cert.S5GluUpdateReferenceIdeal.nD Cert.S5GluUpdateReferenceIdeal.τ Cert.S5GluUpdateReferenceIdeal.sig) → Buf (Elt Ideal) ℓ) : Prop :=
  True

def Pre_S5GluUpdateReferenceIdeal_s5_glu_update_on_mesh [hPre_s5_glu_update_on_mesh : Cert.Pre_s5_glu_update_on_mesh.Facts] (m : (ℓ : Loc Cert.S5GluUpdateReferenceIdeal.nD Cert.S5GluUpdateReferenceIdeal.τ Cert.S5GluUpdateReferenceIdeal.sig) → Buf (Elt Ideal) ℓ) : Prop :=
  ∀ c : Dev Cert.S5GluUpdateReferenceIdeal.nD,
    (Cert.Pre_s5_glu_update_on_mesh.fn (F := Ideal) (m ((c.tc : Thread Cert.S5GluUpdateReferenceIdeal.nD Cert.S5GluUpdateReferenceIdeal.τ).loc Cert.S5GluUpdateReferenceIdeal.main_arg0)) (m ((c.tc : Thread Cert.S5GluUpdateReferenceIdeal.nD Cert.S5GluUpdateReferenceIdeal.τ).loc Cert.S5GluUpdateReferenceIdeal.main_arg1)) (m ((c.tc : Thread Cert.S5GluUpdateReferenceIdeal.nD Cert.S5GluUpdateReferenceIdeal.τ).loc Cert.S5GluUpdateReferenceIdeal.main_arg2)) (m ((c.tc : Thread Cert.S5GluUpdateReferenceIdeal.nD Cert.S5GluUpdateReferenceIdeal.τ).loc Cert.S5GluUpdateReferenceIdeal.main_arg3)) (m ((c.tc : Thread Cert.S5GluUpdateReferenceIdeal.nD Cert.S5GluUpdateReferenceIdeal.τ).loc Cert.S5GluUpdateReferenceIdeal.main_arg4)) (m ((c.tc : Thread Cert.S5GluUpdateReferenceIdeal.nD Cert.S5GluUpdateReferenceIdeal.τ).loc Cert.S5GluUpdateReferenceIdeal.main_arg5))) = (fun _ => 1#1)

def Pre_AttWoUpdate [hPre_att_wo_update_on_mesh : Cert.Pre_att_wo_update_on_mesh.Facts] (m : (ℓ : Loc Cert.AttWoUpdate.nD Cert.AttWoUpdate.τ Cert.AttWoUpdate.sig) → Buf (Elt Bits) ℓ) : Prop :=
  ∀ c : Dev Cert.AttWoUpdate.nD,
    (Cert.Pre_att_wo_update_on_mesh.fn (F := Bits) (m ((c.tc : Thread Cert.AttWoUpdate.nD Cert.AttWoUpdate.τ).loc Cert.AttWoUpdate.main_arg0)) (m ((c.tc : Thread Cert.AttWoUpdate.nD Cert.AttWoUpdate.τ).loc Cert.AttWoUpdate.main_arg1)) (m ((c.tc : Thread Cert.AttWoUpdate.nD Cert.AttWoUpdate.τ).loc Cert.AttWoUpdate.main_arg2)) (m ((c.tc : Thread Cert.AttWoUpdate.nD Cert.AttWoUpdate.τ).loc Cert.AttWoUpdate.main_arg3)) (m ((c.tc : Thread Cert.AttWoUpdate.nD Cert.AttWoUpdate.τ).loc Cert.AttWoUpdate.main_arg4)) (m ((c.tc : Thread Cert.AttWoUpdate.nD Cert.AttWoUpdate.τ).loc Cert.AttWoUpdate.main_arg5))) = (fun _ => 1#1)

def Pre_AttWoUpdateIdeal [hPre_att_wo_update_on_mesh : Cert.Pre_att_wo_update_on_mesh.Facts] (m : (ℓ : Loc Cert.AttWoUpdateIdeal.nD Cert.AttWoUpdateIdeal.τ Cert.AttWoUpdateIdeal.sig) → Buf (Elt Ideal) ℓ) : Prop :=
  ∀ c : Dev Cert.AttWoUpdateIdeal.nD,
    (Cert.Pre_att_wo_update_on_mesh.fn (F := Ideal) (m ((c.tc : Thread Cert.AttWoUpdateIdeal.nD Cert.AttWoUpdateIdeal.τ).loc Cert.AttWoUpdateIdeal.main_arg0)) (m ((c.tc : Thread Cert.AttWoUpdateIdeal.nD Cert.AttWoUpdateIdeal.τ).loc Cert.AttWoUpdateIdeal.main_arg1)) (m ((c.tc : Thread Cert.AttWoUpdateIdeal.nD Cert.AttWoUpdateIdeal.τ).loc Cert.AttWoUpdateIdeal.main_arg2)) (m ((c.tc : Thread Cert.AttWoUpdateIdeal.nD Cert.AttWoUpdateIdeal.τ).loc Cert.AttWoUpdateIdeal.main_arg3)) (m ((c.tc : Thread Cert.AttWoUpdateIdeal.nD Cert.AttWoUpdateIdeal.τ).loc Cert.AttWoUpdateIdeal.main_arg4)) (m ((c.tc : Thread Cert.AttWoUpdateIdeal.nD Cert.AttWoUpdateIdeal.τ).loc Cert.AttWoUpdateIdeal.main_arg5))) = (fun _ => 1#1)

def Pre_AttWoUpdateReferenceIdeal (m : (ℓ : Loc Cert.AttWoUpdateReferenceIdeal.nD Cert.AttWoUpdateReferenceIdeal.τ Cert.AttWoUpdateReferenceIdeal.sig) → Buf (Elt Ideal) ℓ) : Prop :=
  True

def Pre_AttWoUpdateReferenceIdeal_att_wo_update_on_mesh [hPre_att_wo_update_on_mesh : Cert.Pre_att_wo_update_on_mesh.Facts] (m : (ℓ : Loc Cert.AttWoUpdateReferenceIdeal.nD Cert.AttWoUpdateReferenceIdeal.τ Cert.AttWoUpdateReferenceIdeal.sig) → Buf (Elt Ideal) ℓ) : Prop :=
  ∀ c : Dev Cert.AttWoUpdateReferenceIdeal.nD,
    (Cert.Pre_att_wo_update_on_mesh.fn (F := Ideal) (m ((c.tc : Thread Cert.AttWoUpdateReferenceIdeal.nD Cert.AttWoUpdateReferenceIdeal.τ).loc Cert.AttWoUpdateReferenceIdeal.main_arg0)) (m ((c.tc : Thread Cert.AttWoUpdateReferenceIdeal.nD Cert.AttWoUpdateReferenceIdeal.τ).loc Cert.AttWoUpdateReferenceIdeal.main_arg1)) (m ((c.tc : Thread Cert.AttWoUpdateReferenceIdeal.nD Cert.AttWoUpdateReferenceIdeal.τ).loc Cert.AttWoUpdateReferenceIdeal.main_arg2)) (m ((c.tc : Thread Cert.AttWoUpdateReferenceIdeal.nD Cert.AttWoUpdateReferenceIdeal.τ).loc Cert.AttWoUpdateReferenceIdeal.main_arg3)) (m ((c.tc : Thread Cert.AttWoUpdateReferenceIdeal.nD Cert.AttWoUpdateReferenceIdeal.τ).loc Cert.AttWoUpdateReferenceIdeal.main_arg4)) (m ((c.tc : Thread Cert.AttWoUpdateReferenceIdeal.nD Cert.AttWoUpdateReferenceIdeal.τ).loc Cert.AttWoUpdateReferenceIdeal.main_arg5))) = (fun _ => 1#1)

def Pre_MixWoutUpdate [hPre_mix_wout_update_on_mesh : Cert.Pre_mix_wout_update_on_mesh.Facts] (m : (ℓ : Loc Cert.MixWoutUpdate.nD Cert.MixWoutUpdate.τ Cert.MixWoutUpdate.sig) → Buf (Elt Bits) ℓ) : Prop :=
  ∀ c : Dev Cert.MixWoutUpdate.nD,
    (Cert.Pre_mix_wout_update_on_mesh.fn (F := Bits) (m ((c.tc : Thread Cert.MixWoutUpdate.nD Cert.MixWoutUpdate.τ).loc Cert.MixWoutUpdate.main_arg0)) (m ((c.tc : Thread Cert.MixWoutUpdate.nD Cert.MixWoutUpdate.τ).loc Cert.MixWoutUpdate.main_arg1)) (m ((c.tc : Thread Cert.MixWoutUpdate.nD Cert.MixWoutUpdate.τ).loc Cert.MixWoutUpdate.main_arg2)) (m ((c.tc : Thread Cert.MixWoutUpdate.nD Cert.MixWoutUpdate.τ).loc Cert.MixWoutUpdate.main_arg3)) (m ((c.tc : Thread Cert.MixWoutUpdate.nD Cert.MixWoutUpdate.τ).loc Cert.MixWoutUpdate.main_arg4)) (m ((c.tc : Thread Cert.MixWoutUpdate.nD Cert.MixWoutUpdate.τ).loc Cert.MixWoutUpdate.main_arg5))) = (fun _ => 1#1)

def Pre_MixWoutUpdateIdeal [hPre_mix_wout_update_on_mesh : Cert.Pre_mix_wout_update_on_mesh.Facts] (m : (ℓ : Loc Cert.MixWoutUpdateIdeal.nD Cert.MixWoutUpdateIdeal.τ Cert.MixWoutUpdateIdeal.sig) → Buf (Elt Ideal) ℓ) : Prop :=
  ∀ c : Dev Cert.MixWoutUpdateIdeal.nD,
    (Cert.Pre_mix_wout_update_on_mesh.fn (F := Ideal) (m ((c.tc : Thread Cert.MixWoutUpdateIdeal.nD Cert.MixWoutUpdateIdeal.τ).loc Cert.MixWoutUpdateIdeal.main_arg0)) (m ((c.tc : Thread Cert.MixWoutUpdateIdeal.nD Cert.MixWoutUpdateIdeal.τ).loc Cert.MixWoutUpdateIdeal.main_arg1)) (m ((c.tc : Thread Cert.MixWoutUpdateIdeal.nD Cert.MixWoutUpdateIdeal.τ).loc Cert.MixWoutUpdateIdeal.main_arg2)) (m ((c.tc : Thread Cert.MixWoutUpdateIdeal.nD Cert.MixWoutUpdateIdeal.τ).loc Cert.MixWoutUpdateIdeal.main_arg3)) (m ((c.tc : Thread Cert.MixWoutUpdateIdeal.nD Cert.MixWoutUpdateIdeal.τ).loc Cert.MixWoutUpdateIdeal.main_arg4)) (m ((c.tc : Thread Cert.MixWoutUpdateIdeal.nD Cert.MixWoutUpdateIdeal.τ).loc Cert.MixWoutUpdateIdeal.main_arg5))) = (fun _ => 1#1)

def Pre_MixWoutUpdateReferenceIdeal (m : (ℓ : Loc Cert.MixWoutUpdateReferenceIdeal.nD Cert.MixWoutUpdateReferenceIdeal.τ Cert.MixWoutUpdateReferenceIdeal.sig) → Buf (Elt Ideal) ℓ) : Prop :=
  True

def Pre_MixWoutUpdateReferenceIdeal_mix_wout_update_on_mesh [hPre_mix_wout_update_on_mesh : Cert.Pre_mix_wout_update_on_mesh.Facts] (m : (ℓ : Loc Cert.MixWoutUpdateReferenceIdeal.nD Cert.MixWoutUpdateReferenceIdeal.τ Cert.MixWoutUpdateReferenceIdeal.sig) → Buf (Elt Ideal) ℓ) : Prop :=
  ∀ c : Dev Cert.MixWoutUpdateReferenceIdeal.nD,
    (Cert.Pre_mix_wout_update_on_mesh.fn (F := Ideal) (m ((c.tc : Thread Cert.MixWoutUpdateReferenceIdeal.nD Cert.MixWoutUpdateReferenceIdeal.τ).loc Cert.MixWoutUpdateReferenceIdeal.main_arg0)) (m ((c.tc : Thread Cert.MixWoutUpdateReferenceIdeal.nD Cert.MixWoutUpdateReferenceIdeal.τ).loc Cert.MixWoutUpdateReferenceIdeal.main_arg1)) (m ((c.tc : Thread Cert.MixWoutUpdateReferenceIdeal.nD Cert.MixWoutUpdateReferenceIdeal.τ).loc Cert.MixWoutUpdateReferenceIdeal.main_arg2)) (m ((c.tc : Thread Cert.MixWoutUpdateReferenceIdeal.nD Cert.MixWoutUpdateReferenceIdeal.τ).loc Cert.MixWoutUpdateReferenceIdeal.main_arg3)) (m ((c.tc : Thread Cert.MixWoutUpdateReferenceIdeal.nD Cert.MixWoutUpdateReferenceIdeal.τ).loc Cert.MixWoutUpdateReferenceIdeal.main_arg4)) (m ((c.tc : Thread Cert.MixWoutUpdateReferenceIdeal.nD Cert.MixWoutUpdateReferenceIdeal.τ).loc Cert.MixWoutUpdateReferenceIdeal.main_arg5))) = (fun _ => 1#1)

def Pre_MixWinUpdate [hPre_mix_win_update_on_mesh : Cert.Pre_mix_win_update_on_mesh.Facts] (m : (ℓ : Loc Cert.MixWinUpdate.nD Cert.MixWinUpdate.τ Cert.MixWinUpdate.sig) → Buf (Elt Bits) ℓ) : Prop :=
  ∀ c : Dev Cert.MixWinUpdate.nD,
    (Cert.Pre_mix_win_update_on_mesh.fn (F := Bits) (m ((c.tc : Thread Cert.MixWinUpdate.nD Cert.MixWinUpdate.τ).loc Cert.MixWinUpdate.main_arg0)) (m ((c.tc : Thread Cert.MixWinUpdate.nD Cert.MixWinUpdate.τ).loc Cert.MixWinUpdate.main_arg1)) (m ((c.tc : Thread Cert.MixWinUpdate.nD Cert.MixWinUpdate.τ).loc Cert.MixWinUpdate.main_arg2)) (m ((c.tc : Thread Cert.MixWinUpdate.nD Cert.MixWinUpdate.τ).loc Cert.MixWinUpdate.main_arg3)) (m ((c.tc : Thread Cert.MixWinUpdate.nD Cert.MixWinUpdate.τ).loc Cert.MixWinUpdate.main_arg4)) (m ((c.tc : Thread Cert.MixWinUpdate.nD Cert.MixWinUpdate.τ).loc Cert.MixWinUpdate.main_arg5))) = (fun _ => 1#1)

def Pre_MixWinUpdateIdeal [hPre_mix_win_update_on_mesh : Cert.Pre_mix_win_update_on_mesh.Facts] (m : (ℓ : Loc Cert.MixWinUpdateIdeal.nD Cert.MixWinUpdateIdeal.τ Cert.MixWinUpdateIdeal.sig) → Buf (Elt Ideal) ℓ) : Prop :=
  ∀ c : Dev Cert.MixWinUpdateIdeal.nD,
    (Cert.Pre_mix_win_update_on_mesh.fn (F := Ideal) (m ((c.tc : Thread Cert.MixWinUpdateIdeal.nD Cert.MixWinUpdateIdeal.τ).loc Cert.MixWinUpdateIdeal.main_arg0)) (m ((c.tc : Thread Cert.MixWinUpdateIdeal.nD Cert.MixWinUpdateIdeal.τ).loc Cert.MixWinUpdateIdeal.main_arg1)) (m ((c.tc : Thread Cert.MixWinUpdateIdeal.nD Cert.MixWinUpdateIdeal.τ).loc Cert.MixWinUpdateIdeal.main_arg2)) (m ((c.tc : Thread Cert.MixWinUpdateIdeal.nD Cert.MixWinUpdateIdeal.τ).loc Cert.MixWinUpdateIdeal.main_arg3)) (m ((c.tc : Thread Cert.MixWinUpdateIdeal.nD Cert.MixWinUpdateIdeal.τ).loc Cert.MixWinUpdateIdeal.main_arg4)) (m ((c.tc : Thread Cert.MixWinUpdateIdeal.nD Cert.MixWinUpdateIdeal.τ).loc Cert.MixWinUpdateIdeal.main_arg5))) = (fun _ => 1#1)

def Pre_MixWinUpdateReferenceIdeal (m : (ℓ : Loc Cert.MixWinUpdateReferenceIdeal.nD Cert.MixWinUpdateReferenceIdeal.τ Cert.MixWinUpdateReferenceIdeal.sig) → Buf (Elt Ideal) ℓ) : Prop :=
  True

def Pre_MixWinUpdateReferenceIdeal_mix_win_update_on_mesh [hPre_mix_win_update_on_mesh : Cert.Pre_mix_win_update_on_mesh.Facts] (m : (ℓ : Loc Cert.MixWinUpdateReferenceIdeal.nD Cert.MixWinUpdateReferenceIdeal.τ Cert.MixWinUpdateReferenceIdeal.sig) → Buf (Elt Ideal) ℓ) : Prop :=
  ∀ c : Dev Cert.MixWinUpdateReferenceIdeal.nD,
    (Cert.Pre_mix_win_update_on_mesh.fn (F := Ideal) (m ((c.tc : Thread Cert.MixWinUpdateReferenceIdeal.nD Cert.MixWinUpdateReferenceIdeal.τ).loc Cert.MixWinUpdateReferenceIdeal.main_arg0)) (m ((c.tc : Thread Cert.MixWinUpdateReferenceIdeal.nD Cert.MixWinUpdateReferenceIdeal.τ).loc Cert.MixWinUpdateReferenceIdeal.main_arg1)) (m ((c.tc : Thread Cert.MixWinUpdateReferenceIdeal.nD Cert.MixWinUpdateReferenceIdeal.τ).loc Cert.MixWinUpdateReferenceIdeal.main_arg2)) (m ((c.tc : Thread Cert.MixWinUpdateReferenceIdeal.nD Cert.MixWinUpdateReferenceIdeal.τ).loc Cert.MixWinUpdateReferenceIdeal.main_arg3)) (m ((c.tc : Thread Cert.MixWinUpdateReferenceIdeal.nD Cert.MixWinUpdateReferenceIdeal.τ).loc Cert.MixWinUpdateReferenceIdeal.main_arg4)) (m ((c.tc : Thread Cert.MixWinUpdateReferenceIdeal.nD Cert.MixWinUpdateReferenceIdeal.τ).loc Cert.MixWinUpdateReferenceIdeal.main_arg5))) = (fun _ => 1#1)

def Pre_AttWqkvUpdate [hPre_att_wqkv_update_on_mesh : Cert.Pre_att_wqkv_update_on_mesh.Facts] (m : (ℓ : Loc Cert.AttWqkvUpdate.nD Cert.AttWqkvUpdate.τ Cert.AttWqkvUpdate.sig) → Buf (Elt Bits) ℓ) : Prop :=
  ∀ c : Dev Cert.AttWqkvUpdate.nD,
    (Cert.Pre_att_wqkv_update_on_mesh.fn (F := Bits) (m ((c.tc : Thread Cert.AttWqkvUpdate.nD Cert.AttWqkvUpdate.τ).loc Cert.AttWqkvUpdate.main_arg0)) (m ((c.tc : Thread Cert.AttWqkvUpdate.nD Cert.AttWqkvUpdate.τ).loc Cert.AttWqkvUpdate.main_arg1)) (m ((c.tc : Thread Cert.AttWqkvUpdate.nD Cert.AttWqkvUpdate.τ).loc Cert.AttWqkvUpdate.main_arg2)) (m ((c.tc : Thread Cert.AttWqkvUpdate.nD Cert.AttWqkvUpdate.τ).loc Cert.AttWqkvUpdate.main_arg3)) (m ((c.tc : Thread Cert.AttWqkvUpdate.nD Cert.AttWqkvUpdate.τ).loc Cert.AttWqkvUpdate.main_arg4)) (m ((c.tc : Thread Cert.AttWqkvUpdate.nD Cert.AttWqkvUpdate.τ).loc Cert.AttWqkvUpdate.main_arg5))) = (fun _ => 1#1)

def Pre_AttWqkvUpdateIdeal [hPre_att_wqkv_update_on_mesh : Cert.Pre_att_wqkv_update_on_mesh.Facts] (m : (ℓ : Loc Cert.AttWqkvUpdateIdeal.nD Cert.AttWqkvUpdateIdeal.τ Cert.AttWqkvUpdateIdeal.sig) → Buf (Elt Ideal) ℓ) : Prop :=
  ∀ c : Dev Cert.AttWqkvUpdateIdeal.nD,
    (Cert.Pre_att_wqkv_update_on_mesh.fn (F := Ideal) (m ((c.tc : Thread Cert.AttWqkvUpdateIdeal.nD Cert.AttWqkvUpdateIdeal.τ).loc Cert.AttWqkvUpdateIdeal.main_arg0)) (m ((c.tc : Thread Cert.AttWqkvUpdateIdeal.nD Cert.AttWqkvUpdateIdeal.τ).loc Cert.AttWqkvUpdateIdeal.main_arg1)) (m ((c.tc : Thread Cert.AttWqkvUpdateIdeal.nD Cert.AttWqkvUpdateIdeal.τ).loc Cert.AttWqkvUpdateIdeal.main_arg2)) (m ((c.tc : Thread Cert.AttWqkvUpdateIdeal.nD Cert.AttWqkvUpdateIdeal.τ).loc Cert.AttWqkvUpdateIdeal.main_arg3)) (m ((c.tc : Thread Cert.AttWqkvUpdateIdeal.nD Cert.AttWqkvUpdateIdeal.τ).loc Cert.AttWqkvUpdateIdeal.main_arg4)) (m ((c.tc : Thread Cert.AttWqkvUpdateIdeal.nD Cert.AttWqkvUpdateIdeal.τ).loc Cert.AttWqkvUpdateIdeal.main_arg5))) = (fun _ => 1#1)

def Pre_AttWqkvUpdateReferenceIdeal (m : (ℓ : Loc Cert.AttWqkvUpdateReferenceIdeal.nD Cert.AttWqkvUpdateReferenceIdeal.τ Cert.AttWqkvUpdateReferenceIdeal.sig) → Buf (Elt Ideal) ℓ) : Prop :=
  True

def Pre_AttWqkvUpdateReferenceIdeal_att_wqkv_update_on_mesh [hPre_att_wqkv_update_on_mesh : Cert.Pre_att_wqkv_update_on_mesh.Facts] (m : (ℓ : Loc Cert.AttWqkvUpdateReferenceIdeal.nD Cert.AttWqkvUpdateReferenceIdeal.τ Cert.AttWqkvUpdateReferenceIdeal.sig) → Buf (Elt Ideal) ℓ) : Prop :=
  ∀ c : Dev Cert.AttWqkvUpdateReferenceIdeal.nD,
    (Cert.Pre_att_wqkv_update_on_mesh.fn (F := Ideal) (m ((c.tc : Thread Cert.AttWqkvUpdateReferenceIdeal.nD Cert.AttWqkvUpdateReferenceIdeal.τ).loc Cert.AttWqkvUpdateReferenceIdeal.main_arg0)) (m ((c.tc : Thread Cert.AttWqkvUpdateReferenceIdeal.nD Cert.AttWqkvUpdateReferenceIdeal.τ).loc Cert.AttWqkvUpdateReferenceIdeal.main_arg1)) (m ((c.tc : Thread Cert.AttWqkvUpdateReferenceIdeal.nD Cert.AttWqkvUpdateReferenceIdeal.τ).loc Cert.AttWqkvUpdateReferenceIdeal.main_arg2)) (m ((c.tc : Thread Cert.AttWqkvUpdateReferenceIdeal.nD Cert.AttWqkvUpdateReferenceIdeal.τ).loc Cert.AttWqkvUpdateReferenceIdeal.main_arg3)) (m ((c.tc : Thread Cert.AttWqkvUpdateReferenceIdeal.nD Cert.AttWqkvUpdateReferenceIdeal.τ).loc Cert.AttWqkvUpdateReferenceIdeal.main_arg4)) (m ((c.tc : Thread Cert.AttWqkvUpdateReferenceIdeal.nD Cert.AttWqkvUpdateReferenceIdeal.τ).loc Cert.AttWqkvUpdateReferenceIdeal.main_arg5))) = (fun _ => 1#1)

def Pre_FfnWoutUpdate1 [hPre_ffn_wout_update1_on_mesh : Cert.Pre_ffn_wout_update1_on_mesh.Facts] (m : (ℓ : Loc Cert.FfnWoutUpdate1.nD Cert.FfnWoutUpdate1.τ Cert.FfnWoutUpdate1.sig) → Buf (Elt Bits) ℓ) : Prop :=
  ∀ c : Dev Cert.FfnWoutUpdate1.nD,
    (Cert.Pre_ffn_wout_update1_on_mesh.fn (F := Bits) (m ((c.tc : Thread Cert.FfnWoutUpdate1.nD Cert.FfnWoutUpdate1.τ).loc Cert.FfnWoutUpdate1.main_arg0)) (m ((c.tc : Thread Cert.FfnWoutUpdate1.nD Cert.FfnWoutUpdate1.τ).loc Cert.FfnWoutUpdate1.main_arg1)) (m ((c.tc : Thread Cert.FfnWoutUpdate1.nD Cert.FfnWoutUpdate1.τ).loc Cert.FfnWoutUpdate1.main_arg2)) (m ((c.tc : Thread Cert.FfnWoutUpdate1.nD Cert.FfnWoutUpdate1.τ).loc Cert.FfnWoutUpdate1.main_arg3)) (m ((c.tc : Thread Cert.FfnWoutUpdate1.nD Cert.FfnWoutUpdate1.τ).loc Cert.FfnWoutUpdate1.main_arg4)) (m ((c.tc : Thread Cert.FfnWoutUpdate1.nD Cert.FfnWoutUpdate1.τ).loc Cert.FfnWoutUpdate1.main_arg5))) = (fun _ => 1#1)

def Pre_FfnWoutUpdate1Ideal [hPre_ffn_wout_update1_on_mesh : Cert.Pre_ffn_wout_update1_on_mesh.Facts] (m : (ℓ : Loc Cert.FfnWoutUpdate1Ideal.nD Cert.FfnWoutUpdate1Ideal.τ Cert.FfnWoutUpdate1Ideal.sig) → Buf (Elt Ideal) ℓ) : Prop :=
  ∀ c : Dev Cert.FfnWoutUpdate1Ideal.nD,
    (Cert.Pre_ffn_wout_update1_on_mesh.fn (F := Ideal) (m ((c.tc : Thread Cert.FfnWoutUpdate1Ideal.nD Cert.FfnWoutUpdate1Ideal.τ).loc Cert.FfnWoutUpdate1Ideal.main_arg0)) (m ((c.tc : Thread Cert.FfnWoutUpdate1Ideal.nD Cert.FfnWoutUpdate1Ideal.τ).loc Cert.FfnWoutUpdate1Ideal.main_arg1)) (m ((c.tc : Thread Cert.FfnWoutUpdate1Ideal.nD Cert.FfnWoutUpdate1Ideal.τ).loc Cert.FfnWoutUpdate1Ideal.main_arg2)) (m ((c.tc : Thread Cert.FfnWoutUpdate1Ideal.nD Cert.FfnWoutUpdate1Ideal.τ).loc Cert.FfnWoutUpdate1Ideal.main_arg3)) (m ((c.tc : Thread Cert.FfnWoutUpdate1Ideal.nD Cert.FfnWoutUpdate1Ideal.τ).loc Cert.FfnWoutUpdate1Ideal.main_arg4)) (m ((c.tc : Thread Cert.FfnWoutUpdate1Ideal.nD Cert.FfnWoutUpdate1Ideal.τ).loc Cert.FfnWoutUpdate1Ideal.main_arg5))) = (fun _ => 1#1)

def Pre_FfnWoutUpdate1ReferenceIdeal (m : (ℓ : Loc Cert.FfnWoutUpdate1ReferenceIdeal.nD Cert.FfnWoutUpdate1ReferenceIdeal.τ Cert.FfnWoutUpdate1ReferenceIdeal.sig) → Buf (Elt Ideal) ℓ) : Prop :=
  True

def Pre_FfnWoutUpdate1ReferenceIdeal_ffn_wout_update1_on_mesh [hPre_ffn_wout_update1_on_mesh : Cert.Pre_ffn_wout_update1_on_mesh.Facts] (m : (ℓ : Loc Cert.FfnWoutUpdate1ReferenceIdeal.nD Cert.FfnWoutUpdate1ReferenceIdeal.τ Cert.FfnWoutUpdate1ReferenceIdeal.sig) → Buf (Elt Ideal) ℓ) : Prop :=
  ∀ c : Dev Cert.FfnWoutUpdate1ReferenceIdeal.nD,
    (Cert.Pre_ffn_wout_update1_on_mesh.fn (F := Ideal) (m ((c.tc : Thread Cert.FfnWoutUpdate1ReferenceIdeal.nD Cert.FfnWoutUpdate1ReferenceIdeal.τ).loc Cert.FfnWoutUpdate1ReferenceIdeal.main_arg0)) (m ((c.tc : Thread Cert.FfnWoutUpdate1ReferenceIdeal.nD Cert.FfnWoutUpdate1ReferenceIdeal.τ).loc Cert.FfnWoutUpdate1ReferenceIdeal.main_arg1)) (m ((c.tc : Thread Cert.FfnWoutUpdate1ReferenceIdeal.nD Cert.FfnWoutUpdate1ReferenceIdeal.τ).loc Cert.FfnWoutUpdate1ReferenceIdeal.main_arg2)) (m ((c.tc : Thread Cert.FfnWoutUpdate1ReferenceIdeal.nD Cert.FfnWoutUpdate1ReferenceIdeal.τ).loc Cert.FfnWoutUpdate1ReferenceIdeal.main_arg3)) (m ((c.tc : Thread Cert.FfnWoutUpdate1ReferenceIdeal.nD Cert.FfnWoutUpdate1ReferenceIdeal.τ).loc Cert.FfnWoutUpdate1ReferenceIdeal.main_arg4)) (m ((c.tc : Thread Cert.FfnWoutUpdate1ReferenceIdeal.nD Cert.FfnWoutUpdate1ReferenceIdeal.τ).loc Cert.FfnWoutUpdate1ReferenceIdeal.main_arg5))) = (fun _ => 1#1)

def Pre_FfnWinUpdate1 [hPre_ffn_win_update1_on_mesh : Cert.Pre_ffn_win_update1_on_mesh.Facts] (m : (ℓ : Loc Cert.FfnWinUpdate1.nD Cert.FfnWinUpdate1.τ Cert.FfnWinUpdate1.sig) → Buf (Elt Bits) ℓ) : Prop :=
  ∀ c : Dev Cert.FfnWinUpdate1.nD,
    (Cert.Pre_ffn_win_update1_on_mesh.fn (F := Bits) (m ((c.tc : Thread Cert.FfnWinUpdate1.nD Cert.FfnWinUpdate1.τ).loc Cert.FfnWinUpdate1.main_arg0)) (m ((c.tc : Thread Cert.FfnWinUpdate1.nD Cert.FfnWinUpdate1.τ).loc Cert.FfnWinUpdate1.main_arg1)) (m ((c.tc : Thread Cert.FfnWinUpdate1.nD Cert.FfnWinUpdate1.τ).loc Cert.FfnWinUpdate1.main_arg2)) (m ((c.tc : Thread Cert.FfnWinUpdate1.nD Cert.FfnWinUpdate1.τ).loc Cert.FfnWinUpdate1.main_arg3)) (m ((c.tc : Thread Cert.FfnWinUpdate1.nD Cert.FfnWinUpdate1.τ).loc Cert.FfnWinUpdate1.main_arg4)) (m ((c.tc : Thread Cert.FfnWinUpdate1.nD Cert.FfnWinUpdate1.τ).loc Cert.FfnWinUpdate1.main_arg5))) = (fun _ => 1#1)

def Pre_FfnWinUpdate1Ideal [hPre_ffn_win_update1_on_mesh : Cert.Pre_ffn_win_update1_on_mesh.Facts] (m : (ℓ : Loc Cert.FfnWinUpdate1Ideal.nD Cert.FfnWinUpdate1Ideal.τ Cert.FfnWinUpdate1Ideal.sig) → Buf (Elt Ideal) ℓ) : Prop :=
  ∀ c : Dev Cert.FfnWinUpdate1Ideal.nD,
    (Cert.Pre_ffn_win_update1_on_mesh.fn (F := Ideal) (m ((c.tc : Thread Cert.FfnWinUpdate1Ideal.nD Cert.FfnWinUpdate1Ideal.τ).loc Cert.FfnWinUpdate1Ideal.main_arg0)) (m ((c.tc : Thread Cert.FfnWinUpdate1Ideal.nD Cert.FfnWinUpdate1Ideal.τ).loc Cert.FfnWinUpdate1Ideal.main_arg1)) (m ((c.tc : Thread Cert.FfnWinUpdate1Ideal.nD Cert.FfnWinUpdate1Ideal.τ).loc Cert.FfnWinUpdate1Ideal.main_arg2)) (m ((c.tc : Thread Cert.FfnWinUpdate1Ideal.nD Cert.FfnWinUpdate1Ideal.τ).loc Cert.FfnWinUpdate1Ideal.main_arg3)) (m ((c.tc : Thread Cert.FfnWinUpdate1Ideal.nD Cert.FfnWinUpdate1Ideal.τ).loc Cert.FfnWinUpdate1Ideal.main_arg4)) (m ((c.tc : Thread Cert.FfnWinUpdate1Ideal.nD Cert.FfnWinUpdate1Ideal.τ).loc Cert.FfnWinUpdate1Ideal.main_arg5))) = (fun _ => 1#1)

def Pre_FfnWinUpdate1ReferenceIdeal (m : (ℓ : Loc Cert.FfnWinUpdate1ReferenceIdeal.nD Cert.FfnWinUpdate1ReferenceIdeal.τ Cert.FfnWinUpdate1ReferenceIdeal.sig) → Buf (Elt Ideal) ℓ) : Prop :=
  True

def Pre_FfnWinUpdate1ReferenceIdeal_ffn_win_update1_on_mesh [hPre_ffn_win_update1_on_mesh : Cert.Pre_ffn_win_update1_on_mesh.Facts] (m : (ℓ : Loc Cert.FfnWinUpdate1ReferenceIdeal.nD Cert.FfnWinUpdate1ReferenceIdeal.τ Cert.FfnWinUpdate1ReferenceIdeal.sig) → Buf (Elt Ideal) ℓ) : Prop :=
  ∀ c : Dev Cert.FfnWinUpdate1ReferenceIdeal.nD,
    (Cert.Pre_ffn_win_update1_on_mesh.fn (F := Ideal) (m ((c.tc : Thread Cert.FfnWinUpdate1ReferenceIdeal.nD Cert.FfnWinUpdate1ReferenceIdeal.τ).loc Cert.FfnWinUpdate1ReferenceIdeal.main_arg0)) (m ((c.tc : Thread Cert.FfnWinUpdate1ReferenceIdeal.nD Cert.FfnWinUpdate1ReferenceIdeal.τ).loc Cert.FfnWinUpdate1ReferenceIdeal.main_arg1)) (m ((c.tc : Thread Cert.FfnWinUpdate1ReferenceIdeal.nD Cert.FfnWinUpdate1ReferenceIdeal.τ).loc Cert.FfnWinUpdate1ReferenceIdeal.main_arg2)) (m ((c.tc : Thread Cert.FfnWinUpdate1ReferenceIdeal.nD Cert.FfnWinUpdate1ReferenceIdeal.τ).loc Cert.FfnWinUpdate1ReferenceIdeal.main_arg3)) (m ((c.tc : Thread Cert.FfnWinUpdate1ReferenceIdeal.nD Cert.FfnWinUpdate1ReferenceIdeal.τ).loc Cert.FfnWinUpdate1ReferenceIdeal.main_arg4)) (m ((c.tc : Thread Cert.FfnWinUpdate1ReferenceIdeal.nD Cert.FfnWinUpdate1ReferenceIdeal.τ).loc Cert.FfnWinUpdate1ReferenceIdeal.main_arg5))) = (fun _ => 1#1)

def Pre_FfnWoutUpdate [hPre_ffn_wout_update_on_mesh : Cert.Pre_ffn_wout_update_on_mesh.Facts] (m : (ℓ : Loc Cert.FfnWoutUpdate.nD Cert.FfnWoutUpdate.τ Cert.FfnWoutUpdate.sig) → Buf (Elt Bits) ℓ) : Prop :=
  ∀ c : Dev Cert.FfnWoutUpdate.nD,
    (Cert.Pre_ffn_wout_update_on_mesh.fn (F := Bits) (m ((c.tc : Thread Cert.FfnWoutUpdate.nD Cert.FfnWoutUpdate.τ).loc Cert.FfnWoutUpdate.main_arg0)) (m ((c.tc : Thread Cert.FfnWoutUpdate.nD Cert.FfnWoutUpdate.τ).loc Cert.FfnWoutUpdate.main_arg1)) (m ((c.tc : Thread Cert.FfnWoutUpdate.nD Cert.FfnWoutUpdate.τ).loc Cert.FfnWoutUpdate.main_arg2)) (m ((c.tc : Thread Cert.FfnWoutUpdate.nD Cert.FfnWoutUpdate.τ).loc Cert.FfnWoutUpdate.main_arg3)) (m ((c.tc : Thread Cert.FfnWoutUpdate.nD Cert.FfnWoutUpdate.τ).loc Cert.FfnWoutUpdate.main_arg4)) (m ((c.tc : Thread Cert.FfnWoutUpdate.nD Cert.FfnWoutUpdate.τ).loc Cert.FfnWoutUpdate.main_arg5)) (m ((c.tc : Thread Cert.FfnWoutUpdate.nD Cert.FfnWoutUpdate.τ).loc Cert.FfnWoutUpdate.main_arg6)) (m ((c.tc : Thread Cert.FfnWoutUpdate.nD Cert.FfnWoutUpdate.τ).loc Cert.FfnWoutUpdate.main_arg7)) (m ((c.tc : Thread Cert.FfnWoutUpdate.nD Cert.FfnWoutUpdate.τ).loc Cert.FfnWoutUpdate.main_arg8)) (m ((c.tc : Thread Cert.FfnWoutUpdate.nD Cert.FfnWoutUpdate.τ).loc Cert.FfnWoutUpdate.main_arg9))) = (fun _ => 1#1)

def Pre_FfnWoutUpdateIdeal [hPre_ffn_wout_update_on_mesh : Cert.Pre_ffn_wout_update_on_mesh.Facts] (m : (ℓ : Loc Cert.FfnWoutUpdateIdeal.nD Cert.FfnWoutUpdateIdeal.τ Cert.FfnWoutUpdateIdeal.sig) → Buf (Elt Ideal) ℓ) : Prop :=
  ∀ c : Dev Cert.FfnWoutUpdateIdeal.nD,
    (Cert.Pre_ffn_wout_update_on_mesh.fn (F := Ideal) (m ((c.tc : Thread Cert.FfnWoutUpdateIdeal.nD Cert.FfnWoutUpdateIdeal.τ).loc Cert.FfnWoutUpdateIdeal.main_arg0)) (m ((c.tc : Thread Cert.FfnWoutUpdateIdeal.nD Cert.FfnWoutUpdateIdeal.τ).loc Cert.FfnWoutUpdateIdeal.main_arg1)) (m ((c.tc : Thread Cert.FfnWoutUpdateIdeal.nD Cert.FfnWoutUpdateIdeal.τ).loc Cert.FfnWoutUpdateIdeal.main_arg2)) (m ((c.tc : Thread Cert.FfnWoutUpdateIdeal.nD Cert.FfnWoutUpdateIdeal.τ).loc Cert.FfnWoutUpdateIdeal.main_arg3)) (m ((c.tc : Thread Cert.FfnWoutUpdateIdeal.nD Cert.FfnWoutUpdateIdeal.τ).loc Cert.FfnWoutUpdateIdeal.main_arg4)) (m ((c.tc : Thread Cert.FfnWoutUpdateIdeal.nD Cert.FfnWoutUpdateIdeal.τ).loc Cert.FfnWoutUpdateIdeal.main_arg5)) (m ((c.tc : Thread Cert.FfnWoutUpdateIdeal.nD Cert.FfnWoutUpdateIdeal.τ).loc Cert.FfnWoutUpdateIdeal.main_arg6)) (m ((c.tc : Thread Cert.FfnWoutUpdateIdeal.nD Cert.FfnWoutUpdateIdeal.τ).loc Cert.FfnWoutUpdateIdeal.main_arg7)) (m ((c.tc : Thread Cert.FfnWoutUpdateIdeal.nD Cert.FfnWoutUpdateIdeal.τ).loc Cert.FfnWoutUpdateIdeal.main_arg8)) (m ((c.tc : Thread Cert.FfnWoutUpdateIdeal.nD Cert.FfnWoutUpdateIdeal.τ).loc Cert.FfnWoutUpdateIdeal.main_arg9))) = (fun _ => 1#1)

def Pre_FfnWoutUpdateReferenceIdeal (m : (ℓ : Loc Cert.FfnWoutUpdateReferenceIdeal.nD Cert.FfnWoutUpdateReferenceIdeal.τ Cert.FfnWoutUpdateReferenceIdeal.sig) → Buf (Elt Ideal) ℓ) : Prop :=
  True

def Pre_FfnWoutUpdateReferenceIdeal_ffn_wout_update_on_mesh [hPre_ffn_wout_update_on_mesh : Cert.Pre_ffn_wout_update_on_mesh.Facts] (m : (ℓ : Loc Cert.FfnWoutUpdateReferenceIdeal.nD Cert.FfnWoutUpdateReferenceIdeal.τ Cert.FfnWoutUpdateReferenceIdeal.sig) → Buf (Elt Ideal) ℓ) : Prop :=
  ∀ c : Dev Cert.FfnWoutUpdateReferenceIdeal.nD,
    (Cert.Pre_ffn_wout_update_on_mesh.fn (F := Ideal) (m ((c.tc : Thread Cert.FfnWoutUpdateReferenceIdeal.nD Cert.FfnWoutUpdateReferenceIdeal.τ).loc Cert.FfnWoutUpdateReferenceIdeal.main_arg0)) (m ((c.tc : Thread Cert.FfnWoutUpdateReferenceIdeal.nD Cert.FfnWoutUpdateReferenceIdeal.τ).loc Cert.FfnWoutUpdateReferenceIdeal.main_arg1)) (m ((c.tc : Thread Cert.FfnWoutUpdateReferenceIdeal.nD Cert.FfnWoutUpdateReferenceIdeal.τ).loc Cert.FfnWoutUpdateReferenceIdeal.main_arg2)) (m ((c.tc : Thread Cert.FfnWoutUpdateReferenceIdeal.nD Cert.FfnWoutUpdateReferenceIdeal.τ).loc Cert.FfnWoutUpdateReferenceIdeal.main_arg3)) (m ((c.tc : Thread Cert.FfnWoutUpdateReferenceIdeal.nD Cert.FfnWoutUpdateReferenceIdeal.τ).loc Cert.FfnWoutUpdateReferenceIdeal.main_arg4)) (m ((c.tc : Thread Cert.FfnWoutUpdateReferenceIdeal.nD Cert.FfnWoutUpdateReferenceIdeal.τ).loc Cert.FfnWoutUpdateReferenceIdeal.main_arg5)) (m ((c.tc : Thread Cert.FfnWoutUpdateReferenceIdeal.nD Cert.FfnWoutUpdateReferenceIdeal.τ).loc Cert.FfnWoutUpdateReferenceIdeal.main_arg6)) (m ((c.tc : Thread Cert.FfnWoutUpdateReferenceIdeal.nD Cert.FfnWoutUpdateReferenceIdeal.τ).loc Cert.FfnWoutUpdateReferenceIdeal.main_arg7)) (m ((c.tc : Thread Cert.FfnWoutUpdateReferenceIdeal.nD Cert.FfnWoutUpdateReferenceIdeal.τ).loc Cert.FfnWoutUpdateReferenceIdeal.main_arg8)) (m ((c.tc : Thread Cert.FfnWoutUpdateReferenceIdeal.nD Cert.FfnWoutUpdateReferenceIdeal.τ).loc Cert.FfnWoutUpdateReferenceIdeal.main_arg9))) = (fun _ => 1#1)

def Pre_FfnWinUpdate [hPre_ffn_win_update_on_mesh : Cert.Pre_ffn_win_update_on_mesh.Facts] (m : (ℓ : Loc Cert.FfnWinUpdate.nD Cert.FfnWinUpdate.τ Cert.FfnWinUpdate.sig) → Buf (Elt Bits) ℓ) : Prop :=
  ∀ c : Dev Cert.FfnWinUpdate.nD,
    (Cert.Pre_ffn_win_update_on_mesh.fn (F := Bits) (m ((c.tc : Thread Cert.FfnWinUpdate.nD Cert.FfnWinUpdate.τ).loc Cert.FfnWinUpdate.main_arg0)) (m ((c.tc : Thread Cert.FfnWinUpdate.nD Cert.FfnWinUpdate.τ).loc Cert.FfnWinUpdate.main_arg1)) (m ((c.tc : Thread Cert.FfnWinUpdate.nD Cert.FfnWinUpdate.τ).loc Cert.FfnWinUpdate.main_arg2)) (m ((c.tc : Thread Cert.FfnWinUpdate.nD Cert.FfnWinUpdate.τ).loc Cert.FfnWinUpdate.main_arg3)) (m ((c.tc : Thread Cert.FfnWinUpdate.nD Cert.FfnWinUpdate.τ).loc Cert.FfnWinUpdate.main_arg4)) (m ((c.tc : Thread Cert.FfnWinUpdate.nD Cert.FfnWinUpdate.τ).loc Cert.FfnWinUpdate.main_arg5)) (m ((c.tc : Thread Cert.FfnWinUpdate.nD Cert.FfnWinUpdate.τ).loc Cert.FfnWinUpdate.main_arg6)) (m ((c.tc : Thread Cert.FfnWinUpdate.nD Cert.FfnWinUpdate.τ).loc Cert.FfnWinUpdate.main_arg7)) (m ((c.tc : Thread Cert.FfnWinUpdate.nD Cert.FfnWinUpdate.τ).loc Cert.FfnWinUpdate.main_arg8)) (m ((c.tc : Thread Cert.FfnWinUpdate.nD Cert.FfnWinUpdate.τ).loc Cert.FfnWinUpdate.main_arg9))) = (fun _ => 1#1)

def Pre_FfnWinUpdateIdeal [hPre_ffn_win_update_on_mesh : Cert.Pre_ffn_win_update_on_mesh.Facts] (m : (ℓ : Loc Cert.FfnWinUpdateIdeal.nD Cert.FfnWinUpdateIdeal.τ Cert.FfnWinUpdateIdeal.sig) → Buf (Elt Ideal) ℓ) : Prop :=
  ∀ c : Dev Cert.FfnWinUpdateIdeal.nD,
    (Cert.Pre_ffn_win_update_on_mesh.fn (F := Ideal) (m ((c.tc : Thread Cert.FfnWinUpdateIdeal.nD Cert.FfnWinUpdateIdeal.τ).loc Cert.FfnWinUpdateIdeal.main_arg0)) (m ((c.tc : Thread Cert.FfnWinUpdateIdeal.nD Cert.FfnWinUpdateIdeal.τ).loc Cert.FfnWinUpdateIdeal.main_arg1)) (m ((c.tc : Thread Cert.FfnWinUpdateIdeal.nD Cert.FfnWinUpdateIdeal.τ).loc Cert.FfnWinUpdateIdeal.main_arg2)) (m ((c.tc : Thread Cert.FfnWinUpdateIdeal.nD Cert.FfnWinUpdateIdeal.τ).loc Cert.FfnWinUpdateIdeal.main_arg3)) (m ((c.tc : Thread Cert.FfnWinUpdateIdeal.nD Cert.FfnWinUpdateIdeal.τ).loc Cert.FfnWinUpdateIdeal.main_arg4)) (m ((c.tc : Thread Cert.FfnWinUpdateIdeal.nD Cert.FfnWinUpdateIdeal.τ).loc Cert.FfnWinUpdateIdeal.main_arg5)) (m ((c.tc : Thread Cert.FfnWinUpdateIdeal.nD Cert.FfnWinUpdateIdeal.τ).loc Cert.FfnWinUpdateIdeal.main_arg6)) (m ((c.tc : Thread Cert.FfnWinUpdateIdeal.nD Cert.FfnWinUpdateIdeal.τ).loc Cert.FfnWinUpdateIdeal.main_arg7)) (m ((c.tc : Thread Cert.FfnWinUpdateIdeal.nD Cert.FfnWinUpdateIdeal.τ).loc Cert.FfnWinUpdateIdeal.main_arg8)) (m ((c.tc : Thread Cert.FfnWinUpdateIdeal.nD Cert.FfnWinUpdateIdeal.τ).loc Cert.FfnWinUpdateIdeal.main_arg9))) = (fun _ => 1#1)

def Pre_FfnWinUpdateReferenceIdeal (m : (ℓ : Loc Cert.FfnWinUpdateReferenceIdeal.nD Cert.FfnWinUpdateReferenceIdeal.τ Cert.FfnWinUpdateReferenceIdeal.sig) → Buf (Elt Ideal) ℓ) : Prop :=
  True

def Pre_FfnWinUpdateReferenceIdeal_ffn_win_update_on_mesh [hPre_ffn_win_update_on_mesh : Cert.Pre_ffn_win_update_on_mesh.Facts] (m : (ℓ : Loc Cert.FfnWinUpdateReferenceIdeal.nD Cert.FfnWinUpdateReferenceIdeal.τ Cert.FfnWinUpdateReferenceIdeal.sig) → Buf (Elt Ideal) ℓ) : Prop :=
  ∀ c : Dev Cert.FfnWinUpdateReferenceIdeal.nD,
    (Cert.Pre_ffn_win_update_on_mesh.fn (F := Ideal) (m ((c.tc : Thread Cert.FfnWinUpdateReferenceIdeal.nD Cert.FfnWinUpdateReferenceIdeal.τ).loc Cert.FfnWinUpdateReferenceIdeal.main_arg0)) (m ((c.tc : Thread Cert.FfnWinUpdateReferenceIdeal.nD Cert.FfnWinUpdateReferenceIdeal.τ).loc Cert.FfnWinUpdateReferenceIdeal.main_arg1)) (m ((c.tc : Thread Cert.FfnWinUpdateReferenceIdeal.nD Cert.FfnWinUpdateReferenceIdeal.τ).loc Cert.FfnWinUpdateReferenceIdeal.main_arg2)) (m ((c.tc : Thread Cert.FfnWinUpdateReferenceIdeal.nD Cert.FfnWinUpdateReferenceIdeal.τ).loc Cert.FfnWinUpdateReferenceIdeal.main_arg3)) (m ((c.tc : Thread Cert.FfnWinUpdateReferenceIdeal.nD Cert.FfnWinUpdateReferenceIdeal.τ).loc Cert.FfnWinUpdateReferenceIdeal.main_arg4)) (m ((c.tc : Thread Cert.FfnWinUpdateReferenceIdeal.nD Cert.FfnWinUpdateReferenceIdeal.τ).loc Cert.FfnWinUpdateReferenceIdeal.main_arg5)) (m ((c.tc : Thread Cert.FfnWinUpdateReferenceIdeal.nD Cert.FfnWinUpdateReferenceIdeal.τ).loc Cert.FfnWinUpdateReferenceIdeal.main_arg6)) (m ((c.tc : Thread Cert.FfnWinUpdateReferenceIdeal.nD Cert.FfnWinUpdateReferenceIdeal.τ).loc Cert.FfnWinUpdateReferenceIdeal.main_arg7)) (m ((c.tc : Thread Cert.FfnWinUpdateReferenceIdeal.nD Cert.FfnWinUpdateReferenceIdeal.τ).loc Cert.FfnWinUpdateReferenceIdeal.main_arg8)) (m ((c.tc : Thread Cert.FfnWinUpdateReferenceIdeal.nD Cert.FfnWinUpdateReferenceIdeal.τ).loc Cert.FfnWinUpdateReferenceIdeal.main_arg9))) = (fun _ => 1#1)

def Pre_SmallUpdate (m : (ℓ : Loc Cert.SmallUpdate.nD Cert.SmallUpdate.τ Cert.SmallUpdate.sig) → Buf (Elt Bits) ℓ) : Prop :=
  True

def Pre_SmallUpdateIdeal (m : (ℓ : Loc Cert.SmallUpdateIdeal.nD Cert.SmallUpdateIdeal.τ Cert.SmallUpdateIdeal.sig) → Buf (Elt Ideal) ℓ) : Prop :=
  True

def Pre_SmallUpdateReferenceIdeal (m : (ℓ : Loc Cert.SmallUpdateReferenceIdeal.nD Cert.SmallUpdateReferenceIdeal.τ Cert.SmallUpdateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnDhn [hFfnDhn : Cert.FfnDhn.Facts] : Prop :=
  ∀ (m : (ℓ : Loc Cert.FfnDhn.nD Cert.FfnDhn.τ Cert.FfnDhn.sig) → Buf (Elt Bits) ℓ) (g : Dev Cert.FfnDhn.nD → PrngReg), Pre_FfnDhn m →
    θ_run (Cert.FfnDhn.defs (F := Bits)) (onTc (τ := Cert.FfnDhn.τ) (Cert.FfnDhn.main (F := Bits))) ⟨m, fun _ => 0, g⟩ (fun r => (∀ c : Dev Cert.FfnDhn.nD,
      r.2.mem ((c.tc : Thread Cert.FfnDhn.nD Cert.FfnDhn.τ).loc Cert.FfnDhn.main_arg0) = m ((c.tc : Thread Cert.FfnDhn.nD Cert.FfnDhn.τ).loc Cert.FfnDhn.main_arg0)
      ∧ r.2.mem ((c.tc : Thread Cert.FfnDhn.nD Cert.FfnDhn.τ).loc Cert.FfnDhn.main_arg1) = m ((c.tc : Thread Cert.FfnDhn.nD Cert.FfnDhn.τ).loc Cert.FfnDhn.main_arg1)
      ∧ r.2.mem ((c.tc : Thread Cert.FfnDhn.nD Cert.FfnDhn.τ).loc Cert.FfnDhn.main_arg2) = m ((c.tc : Thread Cert.FfnDhn.nD Cert.FfnDhn.τ).loc Cert.FfnDhn.main_arg2)
      ∧ r.2.mem ((c.tc : Thread Cert.FfnDhn.nD Cert.FfnDhn.τ).loc Cert.FfnDhn.main_arg3) = m ((c.tc : Thread Cert.FfnDhn.nD Cert.FfnDhn.τ).loc Cert.FfnDhn.main_arg3)
      ∧ r.2.mem ((c.tc : Thread Cert.FfnDhn.nD Cert.FfnDhn.τ).loc Cert.FfnDhn.main_arg4) = m ((c.tc : Thread Cert.FfnDhn.nD Cert.FfnDhn.τ).loc Cert.FfnDhn.main_arg4)
      ∧ r.2.mem ((c.tc : Thread Cert.FfnDhn.nD Cert.FfnDhn.τ).loc Cert.FfnDhn.main_arg5) = m ((c.tc : Thread Cert.FfnDhn.nD Cert.FfnDhn.τ).loc Cert.FfnDhn.main_arg5))
      ∧ r.2.sem = fun _ => 0)

def quiescent_FfnDhnIdeal [hFfnDhnIdeal : Cert.FfnDhnIdeal.Facts] : Prop :=
  ∀ (m : (ℓ : Loc Cert.FfnDhnIdeal.nD Cert.FfnDhnIdeal.τ Cert.FfnDhnIdeal.sig) → Buf (Elt Ideal) ℓ) (g : Dev Cert.FfnDhnIdeal.nD → PrngReg), Pre_FfnDhnIdeal m →
    θ_run (Cert.FfnDhnIdeal.defs (F := Ideal)) (onTc (τ := Cert.FfnDhnIdeal.τ) (Cert.FfnDhnIdeal.main (F := Ideal))) ⟨m, fun _ => 0, g⟩ (fun r => (∀ c : Dev Cert.FfnDhnIdeal.nD,
      r.2.mem ((c.tc : Thread Cert.FfnDhnIdeal.nD Cert.FfnDhnIdeal.τ).loc Cert.FfnDhnIdeal.main_arg0) = m ((c.tc : Thread Cert.FfnDhnIdeal.nD Cert.FfnDhnIdeal.τ).loc Cert.FfnDhnIdeal.main_arg0)
      ∧ r.2.mem ((c.tc : Thread Cert.FfnDhnIdeal.nD Cert.FfnDhnIdeal.τ).loc Cert.FfnDhnIdeal.main_arg1) = m ((c.tc : Thread Cert.FfnDhnIdeal.nD Cert.FfnDhnIdeal.τ).loc Cert.FfnDhnIdeal.main_arg1)
      ∧ r.2.mem ((c.tc : Thread Cert.FfnDhnIdeal.nD Cert.FfnDhnIdeal.τ).loc Cert.FfnDhnIdeal.main_arg2) = m ((c.tc : Thread Cert.FfnDhnIdeal.nD Cert.FfnDhnIdeal.τ).loc Cert.FfnDhnIdeal.main_arg2)
      ∧ r.2.mem ((c.tc : Thread Cert.FfnDhnIdeal.nD Cert.FfnDhnIdeal.τ).loc Cert.FfnDhnIdeal.main_arg3) = m ((c.tc : Thread Cert.FfnDhnIdeal.nD Cert.FfnDhnIdeal.τ).loc Cert.FfnDhnIdeal.main_arg3)
      ∧ r.2.mem ((c.tc : Thread Cert.FfnDhnIdeal.nD Cert.FfnDhnIdeal.τ).loc Cert.FfnDhnIdeal.main_arg4) = m ((c.tc : Thread Cert.FfnDhnIdeal.nD Cert.FfnDhnIdeal.τ).loc Cert.FfnDhnIdeal.main_arg4)
      ∧ r.2.mem ((c.tc : Thread Cert.FfnDhnIdeal.nD Cert.FfnDhnIdeal.τ).loc Cert.FfnDhnIdeal.main_arg5) = m ((c.tc : Thread Cert.FfnDhnIdeal.nD Cert.FfnDhnIdeal.τ).loc Cert.FfnDhnIdeal.main_arg5))
      ∧ r.2.sem = fun _ => 0)

def quiescent_FfnDhnReferenceIdeal [hFfnDhnReferenceIdeal : Cert.FfnDhnReferenceIdeal.Facts] : Prop :=
  ∀ (m : (ℓ : Loc Cert.FfnDhnReferenceIdeal.nD Cert.FfnDhnReferenceIdeal.τ Cert.FfnDhnReferenceIdeal.sig) → Buf (Elt Ideal) ℓ) (g : Dev Cert.FfnDhnReferenceIdeal.nD → PrngReg), Pre_FfnDhnReferenceIdeal m →
    θ_run (Cert.FfnDhnReferenceIdeal.defs (F := Ideal)) (onTc (τ := Cert.FfnDhnReferenceIdeal.τ) (Cert.FfnDhnReferenceIdeal.main (F := Ideal))) ⟨m, fun _ => 0, g⟩ (fun r => (∀ c : Dev Cert.FfnDhnReferenceIdeal.nD,
      r.2.mem ((c.tc : Thread Cert.FfnDhnReferenceIdeal.nD Cert.FfnDhnReferenceIdeal.τ).loc Cert.FfnDhnReferenceIdeal.main_arg0) = m ((c.tc : Thread Cert.FfnDhnReferenceIdeal.nD Cert.FfnDhnReferenceIdeal.τ).loc Cert.FfnDhnReferenceIdeal.main_arg0)
      ∧ r.2.mem ((c.tc : Thread Cert.FfnDhnReferenceIdeal.nD Cert.FfnDhnReferenceIdeal.τ).loc Cert.FfnDhnReferenceIdeal.main_arg1) = m ((c.tc : Thread Cert.FfnDhnReferenceIdeal.nD Cert.FfnDhnReferenceIdeal.τ).loc Cert.FfnDhnReferenceIdeal.main_arg1)
      ∧ r.2.mem ((c.tc : Thread Cert.FfnDhnReferenceIdeal.nD Cert.FfnDhnReferenceIdeal.τ).loc Cert.FfnDhnReferenceIdeal.main_arg2) = m ((c.tc : Thread Cert.FfnDhnReferenceIdeal.nD Cert.FfnDhnReferenceIdeal.τ).loc Cert.FfnDhnReferenceIdeal.main_arg2)
      ∧ r.2.mem ((c.tc : Thread Cert.FfnDhnReferenceIdeal.nD Cert.FfnDhnReferenceIdeal.τ).loc Cert.FfnDhnReferenceIdeal.main_arg3) = m ((c.tc : Thread Cert.FfnDhnReferenceIdeal.nD Cert.FfnDhnReferenceIdeal.τ).loc Cert.FfnDhnReferenceIdeal.main_arg3)
      ∧ r.2.mem ((c.tc : Thread Cert.FfnDhnReferenceIdeal.nD Cert.FfnDhnReferenceIdeal.τ).loc Cert.FfnDhnReferenceIdeal.main_arg4) = m ((c.tc : Thread Cert.FfnDhnReferenceIdeal.nD Cert.FfnDhnReferenceIdeal.τ).loc Cert.FfnDhnReferenceIdeal.main_arg4)
      ∧ r.2.mem ((c.tc : Thread Cert.FfnDhnReferenceIdeal.nD Cert.FfnDhnReferenceIdeal.τ).loc Cert.FfnDhnReferenceIdeal.main_arg5) = m ((c.tc : Thread Cert.FfnDhnReferenceIdeal.nD Cert.FfnDhnReferenceIdeal.τ).loc Cert.FfnDhnReferenceIdeal.main_arg5))
      ∧ r.2.sem = fun _ => 0)

def quiescent_FfnDwinA [hFfnDwinA : Cert.FfnDwinA.Facts] : Prop :=
  ∀ (m : (ℓ : Loc Cert.FfnDwinA.nD Cert.FfnDwinA.τ Cert.FfnDwinA.sig) → Buf (Elt Bits) ℓ) (g : Dev Cert.FfnDwinA.nD → PrngReg), Pre_FfnDwinA m →
    θ_run (Cert.FfnDwinA.defs (F := Bits)) (onTc (τ := Cert.FfnDwinA.τ) (Cert.FfnDwinA.main (F := Bits))) ⟨m, fun _ => 0, g⟩ (fun r => (∀ c : Dev Cert.FfnDwinA.nD,
      r.2.mem ((c.tc : Thread Cert.FfnDwinA.nD Cert.FfnDwinA.τ).loc Cert.FfnDwinA.main_arg0) = m ((c.tc : Thread Cert.FfnDwinA.nD Cert.FfnDwinA.τ).loc Cert.FfnDwinA.main_arg0)
      ∧ r.2.mem ((c.tc : Thread Cert.FfnDwinA.nD Cert.FfnDwinA.τ).loc Cert.FfnDwinA.main_arg1) = m ((c.tc : Thread Cert.FfnDwinA.nD Cert.FfnDwinA.τ).loc Cert.FfnDwinA.main_arg1))
      ∧ r.2.sem = fun _ => 0)

def quiescent_FfnDwinAIdeal [hFfnDwinAIdeal : Cert.FfnDwinAIdeal.Facts] : Prop :=
  ∀ (m : (ℓ : Loc Cert.FfnDwinAIdeal.nD Cert.FfnDwinAIdeal.τ Cert.FfnDwinAIdeal.sig) → Buf (Elt Ideal) ℓ) (g : Dev Cert.FfnDwinAIdeal.nD → PrngReg), Pre_FfnDwinAIdeal m →
    θ_run (Cert.FfnDwinAIdeal.defs (F := Ideal)) (onTc (τ := Cert.FfnDwinAIdeal.τ) (Cert.FfnDwinAIdeal.main (F := Ideal))) ⟨m, fun _ => 0, g⟩ (fun r => (∀ c : Dev Cert.FfnDwinAIdeal.nD,
      r.2.mem ((c.tc : Thread Cert.FfnDwinAIdeal.nD Cert.FfnDwinAIdeal.τ).loc Cert.FfnDwinAIdeal.main_arg0) = m ((c.tc : Thread Cert.FfnDwinAIdeal.nD Cert.FfnDwinAIdeal.τ).loc Cert.FfnDwinAIdeal.main_arg0)
      ∧ r.2.mem ((c.tc : Thread Cert.FfnDwinAIdeal.nD Cert.FfnDwinAIdeal.τ).loc Cert.FfnDwinAIdeal.main_arg1) = m ((c.tc : Thread Cert.FfnDwinAIdeal.nD Cert.FfnDwinAIdeal.τ).loc Cert.FfnDwinAIdeal.main_arg1))
      ∧ r.2.sem = fun _ => 0)

def quiescent_FfnDwinAReferenceIdeal [hFfnDwinAReferenceIdeal : Cert.FfnDwinAReferenceIdeal.Facts] : Prop :=
  ∀ (m : (ℓ : Loc Cert.FfnDwinAReferenceIdeal.nD Cert.FfnDwinAReferenceIdeal.τ Cert.FfnDwinAReferenceIdeal.sig) → Buf (Elt Ideal) ℓ) (g : Dev Cert.FfnDwinAReferenceIdeal.nD → PrngReg), Pre_FfnDwinAReferenceIdeal m →
    θ_run (Cert.FfnDwinAReferenceIdeal.defs (F := Ideal)) (onTc (τ := Cert.FfnDwinAReferenceIdeal.τ) (Cert.FfnDwinAReferenceIdeal.main (F := Ideal))) ⟨m, fun _ => 0, g⟩ (fun r => (∀ c : Dev Cert.FfnDwinAReferenceIdeal.nD,
      r.2.mem ((c.tc : Thread Cert.FfnDwinAReferenceIdeal.nD Cert.FfnDwinAReferenceIdeal.τ).loc Cert.FfnDwinAReferenceIdeal.main_arg0) = m ((c.tc : Thread Cert.FfnDwinAReferenceIdeal.nD Cert.FfnDwinAReferenceIdeal.τ).loc Cert.FfnDwinAReferenceIdeal.main_arg0)
      ∧ r.2.mem ((c.tc : Thread Cert.FfnDwinAReferenceIdeal.nD Cert.FfnDwinAReferenceIdeal.τ).loc Cert.FfnDwinAReferenceIdeal.main_arg1) = m ((c.tc : Thread Cert.FfnDwinAReferenceIdeal.nD Cert.FfnDwinAReferenceIdeal.τ).loc Cert.FfnDwinAReferenceIdeal.main_arg1))
      ∧ r.2.sem = fun _ => 0)

def quiescent_FfnDwinB [hFfnDwinB : Cert.FfnDwinB.Facts] : Prop :=
  ∀ (m : (ℓ : Loc Cert.FfnDwinB.nD Cert.FfnDwinB.τ Cert.FfnDwinB.sig) → Buf (Elt Bits) ℓ) (g : Dev Cert.FfnDwinB.nD → PrngReg), Pre_FfnDwinB m →
    θ_run (Cert.FfnDwinB.defs (F := Bits)) (onTc (τ := Cert.FfnDwinB.τ) (Cert.FfnDwinB.main (F := Bits))) ⟨m, fun _ => 0, g⟩ (fun r => (∀ c : Dev Cert.FfnDwinB.nD,
      r.2.mem ((c.tc : Thread Cert.FfnDwinB.nD Cert.FfnDwinB.τ).loc Cert.FfnDwinB.main_arg0) = m ((c.tc : Thread Cert.FfnDwinB.nD Cert.FfnDwinB.τ).loc Cert.FfnDwinB.main_arg0)
      ∧ r.2.mem ((c.tc : Thread Cert.FfnDwinB.nD Cert.FfnDwinB.τ).loc Cert.FfnDwinB.main_arg1) = m ((c.tc : Thread Cert.FfnDwinB.nD Cert.FfnDwinB.τ).loc Cert.FfnDwinB.main_arg1)
      ∧ r.2.mem ((c.tc : Thread Cert.FfnDwinB.nD Cert.FfnDwinB.τ).loc Cert.FfnDwinB.main_arg2) = m ((c.tc : Thread Cert.FfnDwinB.nD Cert.FfnDwinB.τ).loc Cert.FfnDwinB.main_arg2))
      ∧ r.2.sem = fun _ => 0)

def quiescent_FfnDwinBIdeal [hFfnDwinBIdeal : Cert.FfnDwinBIdeal.Facts] : Prop :=
  ∀ (m : (ℓ : Loc Cert.FfnDwinBIdeal.nD Cert.FfnDwinBIdeal.τ Cert.FfnDwinBIdeal.sig) → Buf (Elt Ideal) ℓ) (g : Dev Cert.FfnDwinBIdeal.nD → PrngReg), Pre_FfnDwinBIdeal m →
    θ_run (Cert.FfnDwinBIdeal.defs (F := Ideal)) (onTc (τ := Cert.FfnDwinBIdeal.τ) (Cert.FfnDwinBIdeal.main (F := Ideal))) ⟨m, fun _ => 0, g⟩ (fun r => (∀ c : Dev Cert.FfnDwinBIdeal.nD,
      r.2.mem ((c.tc : Thread Cert.FfnDwinBIdeal.nD Cert.FfnDwinBIdeal.τ).loc Cert.FfnDwinBIdeal.main_arg0) = m ((c.tc : Thread Cert.FfnDwinBIdeal.nD Cert.FfnDwinBIdeal.τ).loc Cert.FfnDwinBIdeal.main_arg0)
      ∧ r.2.mem ((c.tc : Thread Cert.FfnDwinBIdeal.nD Cert.FfnDwinBIdeal.τ).loc Cert.FfnDwinBIdeal.main_arg1) = m ((c.tc : Thread Cert.FfnDwinBIdeal.nD Cert.FfnDwinBIdeal.τ).loc Cert.FfnDwinBIdeal.main_arg1)
      ∧ r.2.mem ((c.tc : Thread Cert.FfnDwinBIdeal.nD Cert.FfnDwinBIdeal.τ).loc Cert.FfnDwinBIdeal.main_arg2) = m ((c.tc : Thread Cert.FfnDwinBIdeal.nD Cert.FfnDwinBIdeal.τ).loc Cert.FfnDwinBIdeal.main_arg2))
      ∧ r.2.sem = fun _ => 0)

def quiescent_FfnDwinBReferenceIdeal [hFfnDwinBReferenceIdeal : Cert.FfnDwinBReferenceIdeal.Facts] : Prop :=
  ∀ (m : (ℓ : Loc Cert.FfnDwinBReferenceIdeal.nD Cert.FfnDwinBReferenceIdeal.τ Cert.FfnDwinBReferenceIdeal.sig) → Buf (Elt Ideal) ℓ) (g : Dev Cert.FfnDwinBReferenceIdeal.nD → PrngReg), Pre_FfnDwinBReferenceIdeal m →
    θ_run (Cert.FfnDwinBReferenceIdeal.defs (F := Ideal)) (onTc (τ := Cert.FfnDwinBReferenceIdeal.τ) (Cert.FfnDwinBReferenceIdeal.main (F := Ideal))) ⟨m, fun _ => 0, g⟩ (fun r => (∀ c : Dev Cert.FfnDwinBReferenceIdeal.nD,
      r.2.mem ((c.tc : Thread Cert.FfnDwinBReferenceIdeal.nD Cert.FfnDwinBReferenceIdeal.τ).loc Cert.FfnDwinBReferenceIdeal.main_arg0) = m ((c.tc : Thread Cert.FfnDwinBReferenceIdeal.nD Cert.FfnDwinBReferenceIdeal.τ).loc Cert.FfnDwinBReferenceIdeal.main_arg0)
      ∧ r.2.mem ((c.tc : Thread Cert.FfnDwinBReferenceIdeal.nD Cert.FfnDwinBReferenceIdeal.τ).loc Cert.FfnDwinBReferenceIdeal.main_arg1) = m ((c.tc : Thread Cert.FfnDwinBReferenceIdeal.nD Cert.FfnDwinBReferenceIdeal.τ).loc Cert.FfnDwinBReferenceIdeal.main_arg1)
      ∧ r.2.mem ((c.tc : Thread Cert.FfnDwinBReferenceIdeal.nD Cert.FfnDwinBReferenceIdeal.τ).loc Cert.FfnDwinBReferenceIdeal.main_arg2) = m ((c.tc : Thread Cert.FfnDwinBReferenceIdeal.nD Cert.FfnDwinBReferenceIdeal.τ).loc Cert.FfnDwinBReferenceIdeal.main_arg2))
      ∧ r.2.sem = fun _ => 0)

def quiescent_FfnDwout [hFfnDwout : Cert.FfnDwout.Facts] : Prop :=
  ∀ (m : (ℓ : Loc Cert.FfnDwout.nD Cert.FfnDwout.τ Cert.FfnDwout.sig) → Buf (Elt Bits) ℓ) (g : Dev Cert.FfnDwout.nD → PrngReg), Pre_FfnDwout m →
    θ_run (Cert.FfnDwout.defs (F := Bits)) (onTc (τ := Cert.FfnDwout.τ) (Cert.FfnDwout.main (F := Bits))) ⟨m, fun _ => 0, g⟩ (fun r => (∀ c : Dev Cert.FfnDwout.nD,
      r.2.mem ((c.tc : Thread Cert.FfnDwout.nD Cert.FfnDwout.τ).loc Cert.FfnDwout.main_arg0) = m ((c.tc : Thread Cert.FfnDwout.nD Cert.FfnDwout.τ).loc Cert.FfnDwout.main_arg0)
      ∧ r.2.mem ((c.tc : Thread Cert.FfnDwout.nD Cert.FfnDwout.τ).loc Cert.FfnDwout.main_arg1) = m ((c.tc : Thread Cert.FfnDwout.nD Cert.FfnDwout.τ).loc Cert.FfnDwout.main_arg1))
      ∧ r.2.sem = fun _ => 0)

def quiescent_FfnDwoutIdeal [hFfnDwoutIdeal : Cert.FfnDwoutIdeal.Facts] : Prop :=
  ∀ (m : (ℓ : Loc Cert.FfnDwoutIdeal.nD Cert.FfnDwoutIdeal.τ Cert.FfnDwoutIdeal.sig) → Buf (Elt Ideal) ℓ) (g : Dev Cert.FfnDwoutIdeal.nD → PrngReg), Pre_FfnDwoutIdeal m →
    θ_run (Cert.FfnDwoutIdeal.defs (F := Ideal)) (onTc (τ := Cert.FfnDwoutIdeal.τ) (Cert.FfnDwoutIdeal.main (F := Ideal))) ⟨m, fun _ => 0, g⟩ (fun r => (∀ c : Dev Cert.FfnDwoutIdeal.nD,
      r.2.mem ((c.tc : Thread Cert.FfnDwoutIdeal.nD Cert.FfnDwoutIdeal.τ).loc Cert.FfnDwoutIdeal.main_arg0) = m ((c.tc : Thread Cert.FfnDwoutIdeal.nD Cert.FfnDwoutIdeal.τ).loc Cert.FfnDwoutIdeal.main_arg0)
      ∧ r.2.mem ((c.tc : Thread Cert.FfnDwoutIdeal.nD Cert.FfnDwoutIdeal.τ).loc Cert.FfnDwoutIdeal.main_arg1) = m ((c.tc : Thread Cert.FfnDwoutIdeal.nD Cert.FfnDwoutIdeal.τ).loc Cert.FfnDwoutIdeal.main_arg1))
      ∧ r.2.sem = fun _ => 0)

def quiescent_FfnDwoutReferenceIdeal [hFfnDwoutReferenceIdeal : Cert.FfnDwoutReferenceIdeal.Facts] : Prop :=
  ∀ (m : (ℓ : Loc Cert.FfnDwoutReferenceIdeal.nD Cert.FfnDwoutReferenceIdeal.τ Cert.FfnDwoutReferenceIdeal.sig) → Buf (Elt Ideal) ℓ) (g : Dev Cert.FfnDwoutReferenceIdeal.nD → PrngReg), Pre_FfnDwoutReferenceIdeal m →
    θ_run (Cert.FfnDwoutReferenceIdeal.defs (F := Ideal)) (onTc (τ := Cert.FfnDwoutReferenceIdeal.τ) (Cert.FfnDwoutReferenceIdeal.main (F := Ideal))) ⟨m, fun _ => 0, g⟩ (fun r => (∀ c : Dev Cert.FfnDwoutReferenceIdeal.nD,
      r.2.mem ((c.tc : Thread Cert.FfnDwoutReferenceIdeal.nD Cert.FfnDwoutReferenceIdeal.τ).loc Cert.FfnDwoutReferenceIdeal.main_arg0) = m ((c.tc : Thread Cert.FfnDwoutReferenceIdeal.nD Cert.FfnDwoutReferenceIdeal.τ).loc Cert.FfnDwoutReferenceIdeal.main_arg0)
      ∧ r.2.mem ((c.tc : Thread Cert.FfnDwoutReferenceIdeal.nD Cert.FfnDwoutReferenceIdeal.τ).loc Cert.FfnDwoutReferenceIdeal.main_arg1) = m ((c.tc : Thread Cert.FfnDwoutReferenceIdeal.nD Cert.FfnDwoutReferenceIdeal.τ).loc Cert.FfnDwoutReferenceIdeal.main_arg1))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1))
      ∧ r.2.sem = fun _ => 0)

def quiescent_FfnDactReferenceIdeal [hFfnDactReferenceIdeal : Cert.FfnDactReferenceIdeal.Facts] : Prop :=
  ∀ (m : (ℓ : Loc Cert.FfnDactReferenceIdeal.nD Cert.FfnDactReferenceIdeal.τ Cert.FfnDactReferenceIdeal.sig) → Buf (Elt Ideal) ℓ) (g : Dev Cert.FfnDactReferenceIdeal.nD → PrngReg), Pre_FfnDactReferenceIdeal m →
    θ_run (Cert.FfnDactReferenceIdeal.defs (F := Ideal)) (onTc (τ := Cert.FfnDactReferenceIdeal.τ) (Cert.FfnDactReferenceIdeal.main (F := Ideal))) ⟨m, fun _ => 0, g⟩ (fun r => (∀ c : Dev Cert.FfnDactReferenceIdeal.nD,
      r.2.mem ((c.tc : Thread Cert.FfnDactReferenceIdeal.nD Cert.FfnDactReferenceIdeal.τ).loc Cert.FfnDactReferenceIdeal.main_arg0) = m ((c.tc : Thread Cert.FfnDactReferenceIdeal.nD Cert.FfnDactReferenceIdeal.τ).loc Cert.FfnDactReferenceIdeal.main_arg0)
      ∧ r.2.mem ((c.tc : Thread Cert.FfnDactReferenceIdeal.nD Cert.FfnDactReferenceIdeal.τ).loc Cert.FfnDactReferenceIdeal.main_arg1) = m ((c.tc : Thread Cert.FfnDactReferenceIdeal.nD Cert.FfnDactReferenceIdeal.τ).loc Cert.FfnDactReferenceIdeal.main_arg1))
      ∧ r.2.sem = fun _ => 0)

def quiescent_AttDhn [hAttDhn : Cert.AttDhn.Facts] : Prop :=
  ∀ (m : (ℓ : Loc Cert.AttDhn.nD Cert.AttDhn.τ Cert.AttDhn.sig) → Buf (Elt Bits) ℓ) (g : Dev Cert.AttDhn.nD → PrngReg), Pre_AttDhn m →
    θ_run (Cert.AttDhn.defs (F := Bits)) (onTc (τ := Cert.AttDhn.τ) (Cert.AttDhn.main (F := Bits))) ⟨m, fun _ => 0, g⟩ (fun r => (∀ c : Dev Cert.AttDhn.nD,
      r.2.mem ((c.tc : Thread Cert.AttDhn.nD Cert.AttDhn.τ).loc Cert.AttDhn.main_arg0) = m ((c.tc : Thread Cert.AttDhn.nD Cert.AttDhn.τ).loc Cert.AttDhn.main_arg0)
      ∧ r.2.mem ((c.tc : Thread Cert.AttDhn.nD Cert.AttDhn.τ).loc Cert.AttDhn.main_arg1) = m ((c.tc : Thread Cert.AttDhn.nD Cert.AttDhn.τ).loc Cert.AttDhn.main_arg1)
      ∧ r.2.mem ((c.tc : Thread Cert.AttDhn.nD Cert.AttDhn.τ).loc Cert.AttDhn.main_arg2) = m ((c.tc : Thread Cert.AttDhn.nD Cert.AttDhn.τ).loc Cert.AttDhn.main_arg2)
      ∧ r.2.mem ((c.tc : Thread Cert.AttDhn.nD Cert.AttDhn.τ).loc Cert.AttDhn.main_arg3) = m ((c.tc : Thread Cert.AttDhn.nD Cert.AttDhn.τ).loc Cert.AttDhn.main_arg3)
      ∧ r.2.mem ((c.tc : Thread Cert.AttDhn.nD Cert.AttDhn.τ).loc Cert.AttDhn.main_arg4) = m ((c.tc : Thread Cert.AttDhn.nD Cert.AttDhn.τ).loc Cert.AttDhn.main_arg4))
      ∧ r.2.sem = fun _ => 0)

def quiescent_AttDhnIdeal [hAttDhnIdeal : Cert.AttDhnIdeal.Facts] : Prop :=
  ∀ (m : (ℓ : Loc Cert.AttDhnIdeal.nD Cert.AttDhnIdeal.τ Cert.AttDhnIdeal.sig) → Buf (Elt Ideal) ℓ) (g : Dev Cert.AttDhnIdeal.nD → PrngReg), Pre_AttDhnIdeal m →
    θ_run (Cert.AttDhnIdeal.defs (F := Ideal)) (onTc (τ := Cert.AttDhnIdeal.τ) (Cert.AttDhnIdeal.main (F := Ideal))) ⟨m, fun _ => 0, g⟩ (fun r => (∀ c : Dev Cert.AttDhnIdeal.nD,
      r.2.mem ((c.tc : Thread Cert.AttDhnIdeal.nD Cert.AttDhnIdeal.τ).loc Cert.AttDhnIdeal.main_arg0) = m ((c.tc : Thread Cert.AttDhnIdeal.nD Cert.AttDhnIdeal.τ).loc Cert.AttDhnIdeal.main_arg0)
      ∧ r.2.mem ((c.tc : Thread Cert.AttDhnIdeal.nD Cert.AttDhnIdeal.τ).loc Cert.AttDhnIdeal.main_arg1) = m ((c.tc : Thread Cert.AttDhnIdeal.nD Cert.AttDhnIdeal.τ).loc Cert.AttDhnIdeal.main_arg1)
      ∧ r.2.mem ((c.tc : Thread Cert.AttDhnIdeal.nD Cert.AttDhnIdeal.τ).loc Cert.AttDhnIdeal.main_arg2) = m ((c.tc : Thread Cert.AttDhnIdeal.nD Cert.AttDhnIdeal.τ).loc Cert.AttDhnIdeal.main_arg2)
      ∧ r.2.mem ((c.tc : Thread Cert.AttDhnIdeal.nD Cert.AttDhnIdeal.τ).loc Cert.AttDhnIdeal.main_arg3) = m ((c.tc : Thread Cert.AttDhnIdeal.nD Cert.AttDhnIdeal.τ).loc Cert.AttDhnIdeal.main_arg3)
      ∧ r.2.mem ((c.tc : Thread Cert.AttDhnIdeal.nD Cert.AttDhnIdeal.τ).loc Cert.AttDhnIdeal.main_arg4) = m ((c.tc : Thread Cert.AttDhnIdeal.nD Cert.AttDhnIdeal.τ).loc Cert.AttDhnIdeal.main_arg4))
      ∧ r.2.sem = fun _ => 0)

def quiescent_AttDhnReferenceIdeal [hAttDhnReferenceIdeal : Cert.AttDhnReferenceIdeal.Facts] : Prop :=
  ∀ (m : (ℓ : Loc Cert.AttDhnReferenceIdeal.nD Cert.AttDhnReferenceIdeal.τ Cert.AttDhnReferenceIdeal.sig) → Buf (Elt Ideal) ℓ) (g : Dev Cert.AttDhnReferenceIdeal.nD → PrngReg), Pre_AttDhnReferenceIdeal m →
    θ_run (Cert.AttDhnReferenceIdeal.defs (F := Ideal)) (onTc (τ := Cert.AttDhnReferenceIdeal.τ) (Cert.AttDhnReferenceIdeal.main (F := Ideal))) ⟨m, fun _ => 0, g⟩ (fun r => (∀ c : Dev Cert.AttDhnReferenceIdeal.nD,
      r.2.mem ((c.tc : Thread Cert.AttDhnReferenceIdeal.nD Cert.AttDhnReferenceIdeal.τ).loc Cert.AttDhnReferenceIdeal.main_arg0) = m ((c.tc : Thread Cert.AttDhnReferenceIdeal.nD Cert.AttDhnReferenceIdeal.τ).loc Cert.AttDhnReferenceIdeal.main_arg0)
      ∧ r.2.mem ((c.tc : Thread Cert.AttDhnReferenceIdeal.nD Cert.AttDhnReferenceIdeal.τ).loc Cert.AttDhnReferenceIdeal.main_arg1) = m ((c.tc : Thread Cert.AttDhnReferenceIdeal.nD Cert.AttDhnReferenceIdeal.τ).loc Cert.AttDhnReferenceIdeal.main_arg1)
      ∧ r.2.mem ((c.tc : Thread Cert.AttDhnReferenceIdeal.nD Cert.AttDhnReferenceIdeal.τ).loc Cert.AttDhnReferenceIdeal.main_arg2) = m ((c.tc : Thread Cert.AttDhnReferenceIdeal.nD Cert.AttDhnReferenceIdeal.τ).loc Cert.AttDhnReferenceIdeal.main_arg2)
      ∧ r.2.mem ((c.tc : Thread Cert.AttDhnReferenceIdeal.nD Cert.AttDhnReferenceIdeal.τ).loc Cert.AttDhnReferenceIdeal.main_arg3) = m ((c.tc : Thread Cert.AttDhnReferenceIdeal.nD Cert.AttDhnReferenceIdeal.τ).loc Cert.AttDhnReferenceIdeal.main_arg3)
      ∧ r.2.mem ((c.tc : Thread Cert.AttDhnReferenceIdeal.nD Cert.AttDhnReferenceIdeal.τ).loc Cert.AttDhnReferenceIdeal.main_arg4) = m ((c.tc : Thread Cert.AttDhnReferenceIdeal.nD Cert.AttDhnReferenceIdeal.τ).loc Cert.AttDhnReferenceIdeal.main_arg4))
      ∧ r.2.sem = fun _ => 0)

def quiescent_MixDhn [hMixDhn : Cert.MixDhn.Facts] : Prop :=
  ∀ (m : (ℓ : Loc Cert.MixDhn.nD Cert.MixDhn.τ Cert.MixDhn.sig) → Buf (Elt Bits) ℓ) (g : Dev Cert.MixDhn.nD → PrngReg), Pre_MixDhn m →
    θ_run (Cert.MixDhn.defs (F := Bits)) (onTc (τ := Cert.MixDhn.τ) (Cert.MixDhn.main (F := Bits))) ⟨m, fun _ => 0, g⟩ (fun r => (∀ c : Dev Cert.MixDhn.nD,
      r.2.mem ((c.tc : Thread Cert.MixDhn.nD Cert.MixDhn.τ).loc Cert.MixDhn.main_arg0) = m ((c.tc : Thread Cert.MixDhn.nD Cert.MixDhn.τ).loc Cert.MixDhn.main_arg0)
      ∧ r.2.mem ((c.tc : Thread Cert.MixDhn.nD Cert.MixDhn.τ).loc Cert.MixDhn.main_arg1) = m ((c.tc : Thread Cert.MixDhn.nD Cert.MixDhn.τ).loc Cert.MixDhn.main_arg1)
      ∧ r.2.mem ((c.tc : Thread Cert.MixDhn.nD Cert.MixDhn.τ).loc Cert.MixDhn.main_arg2) = m ((c.tc : Thread Cert.MixDhn.nD Cert.MixDhn.τ).loc Cert.MixDhn.main_arg2)
      ∧ r.2.mem ((c.tc : Thread Cert.MixDhn.nD Cert.MixDhn.τ).loc Cert.MixDhn.main_arg3) = m ((c.tc : Thread Cert.MixDhn.nD Cert.MixDhn.τ).loc Cert.MixDhn.main_arg3)
      ∧ r.2.mem ((c.tc : Thread Cert.MixDhn.nD Cert.MixDhn.τ).loc Cert.MixDhn.main_arg4) = m ((c.tc : Thread Cert.MixDhn.nD Cert.MixDhn.τ).loc Cert.MixDhn.main_arg4))
      ∧ r.2.sem = fun _ => 0)

def quiescent_MixDhnIdeal [hMixDhnIdeal : Cert.MixDhnIdeal.Facts] : Prop :=
  ∀ (m : (ℓ : Loc Cert.MixDhnIdeal.nD Cert.MixDhnIdeal.τ Cert.MixDhnIdeal.sig) → Buf (Elt Ideal) ℓ) (g : Dev Cert.MixDhnIdeal.nD → PrngReg), Pre_MixDhnIdeal m →
    θ_run (Cert.MixDhnIdeal.defs (F := Ideal)) (onTc (τ := Cert.MixDhnIdeal.τ) (Cert.MixDhnIdeal.main (F := Ideal))) ⟨m, fun _ => 0, g⟩ (fun r => (∀ c : Dev Cert.MixDhnIdeal.nD,
      r.2.mem ((c.tc : Thread Cert.MixDhnIdeal.nD Cert.MixDhnIdeal.τ).loc Cert.MixDhnIdeal.main_arg0) = m ((c.tc : Thread Cert.MixDhnIdeal.nD Cert.MixDhnIdeal.τ).loc Cert.MixDhnIdeal.main_arg0)
      ∧ r.2.mem ((c.tc : Thread Cert.MixDhnIdeal.nD Cert.MixDhnIdeal.τ).loc Cert.MixDhnIdeal.main_arg1) = m ((c.tc : Thread Cert.MixDhnIdeal.nD Cert.MixDhnIdeal.τ).loc Cert.MixDhnIdeal.main_arg1)
      ∧ r.2.mem ((c.tc : Thread Cert.MixDhnIdeal.nD Cert.MixDhnIdeal.τ).loc Cert.MixDhnIdeal.main_arg2) = m ((c.tc : Thread Cert.MixDhnIdeal.nD Cert.MixDhnIdeal.τ).loc Cert.MixDhnIdeal.main_arg2)
      ∧ r.2.mem ((c.tc : Thread Cert.MixDhnIdeal.nD Cert.MixDhnIdeal.τ).loc Cert.MixDhnIdeal.main_arg3) = m ((c.tc : Thread Cert.MixDhnIdeal.nD Cert.MixDhnIdeal.τ).loc Cert.MixDhnIdeal.main_arg3)
      ∧ r.2.mem ((c.tc : Thread Cert.MixDhnIdeal.nD Cert.MixDhnIdeal.τ).loc Cert.MixDhnIdeal.main_arg4) = m ((c.tc : Thread Cert.MixDhnIdeal.nD Cert.MixDhnIdeal.τ).loc Cert.MixDhnIdeal.main_arg4))
      ∧ r.2.sem = fun _ => 0)

def quiescent_MixDhnReferenceIdeal [hMixDhnReferenceIdeal : Cert.MixDhnReferenceIdeal.Facts] : Prop :=
  ∀ (m : (ℓ : Loc Cert.MixDhnReferenceIdeal.nD Cert.MixDhnReferenceIdeal.τ Cert.MixDhnReferenceIdeal.sig) → Buf (Elt Ideal) ℓ) (g : Dev Cert.MixDhnReferenceIdeal.nD → PrngReg), Pre_MixDhnReferenceIdeal m →
    θ_run (Cert.MixDhnReferenceIdeal.defs (F := Ideal)) (onTc (τ := Cert.MixDhnReferenceIdeal.τ) (Cert.MixDhnReferenceIdeal.main (F := Ideal))) ⟨m, fun _ => 0, g⟩ (fun r => (∀ c : Dev Cert.MixDhnReferenceIdeal.nD,
      r.2.mem ((c.tc : Thread Cert.MixDhnReferenceIdeal.nD Cert.MixDhnReferenceIdeal.τ).loc Cert.MixDhnReferenceIdeal.main_arg0) = m ((c.tc : Thread Cert.MixDhnReferenceIdeal.nD Cert.MixDhnReferenceIdeal.τ).loc Cert.MixDhnReferenceIdeal.main_arg0)
      ∧ r.2.mem ((c.tc : Thread Cert.MixDhnReferenceIdeal.nD Cert.MixDhnReferenceIdeal.τ).loc Cert.MixDhnReferenceIdeal.main_arg1) = m ((c.tc : Thread Cert.MixDhnReferenceIdeal.nD Cert.MixDhnReferenceIdeal.τ).loc Cert.MixDhnReferenceIdeal.main_arg1)
      ∧ r.2.mem ((c.tc : Thread Cert.MixDhnReferenceIdeal.nD Cert.MixDhnReferenceIdeal.τ).loc Cert.MixDhnReferenceIdeal.main_arg2) = m ((c.tc : Thread Cert.MixDhnReferenceIdeal.nD Cert.MixDhnReferenceIdeal.τ).loc Cert.MixDhnReferenceIdeal.main_arg2)
      ∧ r.2.mem ((c.tc : Thread Cert.MixDhnReferenceIdeal.nD Cert.MixDhnReferenceIdeal.τ).loc Cert.MixDhnReferenceIdeal.main_arg3) = m ((c.tc : Thread Cert.MixDhnReferenceIdeal.nD Cert.MixDhnReferenceIdeal.τ).loc Cert.MixDhnReferenceIdeal.main_arg3)
      ∧ r.2.mem ((c.tc : Thread Cert.MixDhnReferenceIdeal.nD Cert.MixDhnReferenceIdeal.τ).loc Cert.MixDhnReferenceIdeal.main_arg4) = m ((c.tc : Thread Cert.MixDhnReferenceIdeal.nD Cert.MixDhnReferenceIdeal.τ).loc Cert.MixDhnReferenceIdeal.main_arg4))
      ∧ r.2.sem = fun _ => 0)

def quiescent_AttDwqkv [hAttDwqkv : Cert.AttDwqkv.Facts] : Prop :=
  ∀ (m : (ℓ : Loc Cert.AttDwqkv.nD Cert.AttDwqkv.τ Cert.AttDwqkv.sig) → Buf (Elt Bits) ℓ) (g : Dev Cert.AttDwqkv.nD → PrngReg), Pre_AttDwqkv m →
    θ_run (Cert.AttDwqkv.defs (F := Bits)) (onTc (τ := Cert.AttDwqkv.τ) (Cert.AttDwqkv.main (F := Bits))) ⟨m, fun _ => 0, g⟩ (fun r => (∀ c : Dev Cert.AttDwqkv.nD,
      r.2.mem ((c.tc : Thread Cert.AttDwqkv.nD Cert.AttDwqkv.τ).loc Cert.AttDwqkv.main_arg0) = m ((c.tc : Thread Cert.AttDwqkv.nD Cert.AttDwqkv.τ).loc Cert.AttDwqkv.main_arg0)
      ∧ r.2.mem ((c.tc : Thread Cert.AttDwqkv.nD Cert.AttDwqkv.τ).loc Cert.AttDwqkv.main_arg1) = m ((c.tc : Thread Cert.AttDwqkv.nD Cert.AttDwqkv.τ).loc Cert.AttDwqkv.main_arg1))
      ∧ r.2.sem = fun _ => 0)

def quiescent_AttDwqkvIdeal [hAttDwqkvIdeal : Cert.AttDwqkvIdeal.Facts] : Prop :=
  ∀ (m : (ℓ : Loc Cert.AttDwqkvIdeal.nD Cert.AttDwqkvIdeal.τ Cert.AttDwqkvIdeal.sig) → Buf (Elt Ideal) ℓ) (g : Dev Cert.AttDwqkvIdeal.nD → PrngReg), Pre_AttDwqkvIdeal m →
    θ_run (Cert.AttDwqkvIdeal.defs (F := Ideal)) (onTc (τ := Cert.AttDwqkvIdeal.τ) (Cert.AttDwqkvIdeal.main (F := Ideal))) ⟨m, fun _ => 0, g⟩ (fun r => (∀ c : Dev Cert.AttDwqkvIdeal.nD,
      r.2.mem ((c.tc : Thread Cert.AttDwqkvIdeal.nD Cert.AttDwqkvIdeal.τ).loc Cert.AttDwqkvIdeal.main_arg0) = m ((c.tc : Thread Cert.AttDwqkvIdeal.nD Cert.AttDwqkvIdeal.τ).loc Cert.AttDwqkvIdeal.main_arg0)
      ∧ r.2.mem ((c.tc : Thread Cert.AttDwqkvIdeal.nD Cert.AttDwqkvIdeal.τ).loc Cert.AttDwqkvIdeal.main_arg1) = m ((c.tc : Thread Cert.AttDwqkvIdeal.nD Cert.AttDwqkvIdeal.τ).loc Cert.AttDwqkvIdeal.main_arg1))
      ∧ r.2.sem = fun _ => 0)

def quiescent_AttDwqkvReferenceIdeal [hAttDwqkvReferenceIdeal : Cert.AttDwqkvReferenceIdeal.Facts] : Prop :=
  ∀ (m : (ℓ : Loc Cert.AttDwqkvReferenceIdeal.nD Cert.AttDwqkvReferenceIdeal.τ Cert.AttDwqkvReferenceIdeal.sig) → Buf (Elt Ideal) ℓ) (g : Dev Cert.AttDwqkvReferenceIdeal.nD → PrngReg), Pre_AttDwqkvReferenceIdeal m →
    θ_run (Cert.AttDwqkvReferenceIdeal.defs (F := Ideal)) (onTc (τ := Cert.AttDwqkvReferenceIdeal.τ) (Cert.AttDwqkvReferenceIdeal.main (F := Ideal))) ⟨m, fun _ => 0, g⟩ (fun r => (∀ c : Dev Cert.AttDwqkvReferenceIdeal.nD,
      r.2.mem ((c.tc : Thread Cert.AttDwqkvReferenceIdeal.nD Cert.AttDwqkvReferenceIdeal.τ).loc Cert.AttDwqkvReferenceIdeal.main_arg0) = m ((c.tc : Thread Cert.AttDwqkvReferenceIdeal.nD Cert.AttDwqkvReferenceIdeal.τ).loc Cert.AttDwqkvReferenceIdeal.main_arg0)
      ∧ r.2.mem ((c.tc : Thread Cert.AttDwqkvReferenceIdeal.nD Cert.AttDwqkvReferenceIdeal.τ).loc Cert.AttDwqkvReferenceIdeal.main_arg1) = m ((c.tc : Thread Cert.AttDwqkvReferenceIdeal.nD Cert.AttDwqkvReferenceIdeal.τ).loc Cert.AttDwqkvReferenceIdeal.main_arg1))
      ∧ r.2.sem = fun _ => 0)

def quiescent_MixDwin [hMixDwin : Cert.MixDwin.Facts] : Prop :=
  ∀ (m : (ℓ : Loc Cert.MixDwin.nD Cert.MixDwin.τ Cert.MixDwin.sig) → Buf (Elt Bits) ℓ) (g : Dev Cert.MixDwin.nD → PrngReg), Pre_MixDwin m →
    θ_run (Cert.MixDwin.defs (F := Bits)) (onTc (τ := Cert.MixDwin.τ) (Cert.MixDwin.main (F := Bits))) ⟨m, fun _ => 0, g⟩ (fun r => (∀ c : Dev Cert.MixDwin.nD,
      r.2.mem ((c.tc : Thread Cert.MixDwin.nD Cert.MixDwin.τ).loc Cert.MixDwin.main_arg0) = m ((c.tc : Thread Cert.MixDwin.nD Cert.MixDwin.τ).loc Cert.MixDwin.main_arg0)
      ∧ r.2.mem ((c.tc : Thread Cert.MixDwin.nD Cert.MixDwin.τ).loc Cert.MixDwin.main_arg1) = m ((c.tc : Thread Cert.MixDwin.nD Cert.MixDwin.τ).loc Cert.MixDwin.main_arg1))
      ∧ r.2.sem = fun _ => 0)

def quiescent_MixDwinIdeal [hMixDwinIdeal : Cert.MixDwinIdeal.Facts] : Prop :=
  ∀ (m : (ℓ : Loc Cert.MixDwinIdeal.nD Cert.MixDwinIdeal.τ Cert.MixDwinIdeal.sig) → Buf (Elt Ideal) ℓ) (g : Dev Cert.MixDwinIdeal.nD → PrngReg), Pre_MixDwinIdeal m →
    θ_run (Cert.MixDwinIdeal.defs (F := Ideal)) (onTc (τ := Cert.MixDwinIdeal.τ) (Cert.MixDwinIdeal.main (F := Ideal))) ⟨m, fun _ => 0, g⟩ (fun r => (∀ c : Dev Cert.MixDwinIdeal.nD,
      r.2.mem ((c.tc : Thread Cert.MixDwinIdeal.nD Cert.MixDwinIdeal.τ).loc Cert.MixDwinIdeal.main_arg0) = m ((c.tc : Thread Cert.MixDwinIdeal.nD Cert.MixDwinIdeal.τ).loc Cert.MixDwinIdeal.main_arg0)
      ∧ r.2.mem ((c.tc : Thread Cert.MixDwinIdeal.nD Cert.MixDwinIdeal.τ).loc Cert.MixDwinIdeal.main_arg1) = m ((c.tc : Thread Cert.MixDwinIdeal.nD Cert.MixDwinIdeal.τ).loc Cert.MixDwinIdeal.main_arg1))
      ∧ r.2.sem = fun _ => 0)

def quiescent_MixDwinReferenceIdeal [hMixDwinReferenceIdeal : Cert.MixDwinReferenceIdeal.Facts] : Prop :=
  ∀ (m : (ℓ : Loc Cert.MixDwinReferenceIdeal.nD Cert.MixDwinReferenceIdeal.τ Cert.MixDwinReferenceIdeal.sig) → Buf (Elt Ideal) ℓ) (g : Dev Cert.MixDwinReferenceIdeal.nD → PrngReg), Pre_MixDwinReferenceIdeal m →
    θ_run (Cert.MixDwinReferenceIdeal.defs (F := Ideal)) (onTc (τ := Cert.MixDwinReferenceIdeal.τ) (Cert.MixDwinReferenceIdeal.main (F := Ideal))) ⟨m, fun _ => 0, g⟩ (fun r => (∀ c : Dev Cert.MixDwinReferenceIdeal.nD,
      r.2.mem ((c.tc : Thread Cert.MixDwinReferenceIdeal.nD Cert.MixDwinReferenceIdeal.τ).loc Cert.MixDwinReferenceIdeal.main_arg0) = m ((c.tc : Thread Cert.MixDwinReferenceIdeal.nD Cert.MixDwinReferenceIdeal.τ).loc Cert.MixDwinReferenceIdeal.main_arg0)
      ∧ r.2.mem ((c.tc : Thread Cert.MixDwinReferenceIdeal.nD Cert.MixDwinReferenceIdeal.τ).loc Cert.MixDwinReferenceIdeal.main_arg1) = m ((c.tc : Thread Cert.MixDwinReferenceIdeal.nD Cert.MixDwinReferenceIdeal.τ).loc Cert.MixDwinReferenceIdeal.main_arg1))
      ∧ r.2.sem = fun _ => 0)

def quiescent_MixDwout [hMixDwout : Cert.MixDwout.Facts] : Prop :=
  ∀ (m : (ℓ : Loc Cert.MixDwout.nD Cert.MixDwout.τ Cert.MixDwout.sig) → Buf (Elt Bits) ℓ) (g : Dev Cert.MixDwout.nD → PrngReg), Pre_MixDwout m →
    θ_run (Cert.MixDwout.defs (F := Bits)) (onTc (τ := Cert.MixDwout.τ) (Cert.MixDwout.main (F := Bits))) ⟨m, fun _ => 0, g⟩ (fun r => (∀ c : Dev Cert.MixDwout.nD,
      r.2.mem ((c.tc : Thread Cert.MixDwout.nD Cert.MixDwout.τ).loc Cert.MixDwout.main_arg0) = m ((c.tc : Thread Cert.MixDwout.nD Cert.MixDwout.τ).loc Cert.MixDwout.main_arg0)
      ∧ r.2.mem ((c.tc : Thread Cert.MixDwout.nD Cert.MixDwout.τ).loc Cert.MixDwout.main_arg1) = m ((c.tc : Thread Cert.MixDwout.nD Cert.MixDwout.τ).loc Cert.MixDwout.main_arg1))
      ∧ r.2.sem = fun _ => 0)

def quiescent_MixDwoutIdeal [hMixDwoutIdeal : Cert.MixDwoutIdeal.Facts] : Prop :=
  ∀ (m : (ℓ : Loc Cert.MixDwoutIdeal.nD Cert.MixDwoutIdeal.τ Cert.MixDwoutIdeal.sig) → Buf (Elt Ideal) ℓ) (g : Dev Cert.MixDwoutIdeal.nD → PrngReg), Pre_MixDwoutIdeal m →
    θ_run (Cert.MixDwoutIdeal.defs (F := Ideal)) (onTc (τ := Cert.MixDwoutIdeal.τ) (Cert.MixDwoutIdeal.main (F := Ideal))) ⟨m, fun _ => 0, g⟩ (fun r => (∀ c : Dev Cert.MixDwoutIdeal.nD,
      r.2.mem ((c.tc : Thread Cert.MixDwoutIdeal.nD Cert.MixDwoutIdeal.τ).loc Cert.MixDwoutIdeal.main_arg0) = m ((c.tc : Thread Cert.MixDwoutIdeal.nD Cert.MixDwoutIdeal.τ).loc Cert.MixDwoutIdeal.main_arg0)
      ∧ r.2.mem ((c.tc : Thread Cert.MixDwoutIdeal.nD Cert.MixDwoutIdeal.τ).loc Cert.MixDwoutIdeal.main_arg1) = m ((c.tc : Thread Cert.MixDwoutIdeal.nD Cert.MixDwoutIdeal.τ).loc Cert.MixDwoutIdeal.main_arg1))
      ∧ r.2.sem = fun _ => 0)

def quiescent_MixDwoutReferenceIdeal [hMixDwoutReferenceIdeal : Cert.MixDwoutReferenceIdeal.Facts] : Prop :=
  ∀ (m : (ℓ : Loc Cert.MixDwoutReferenceIdeal.nD Cert.MixDwoutReferenceIdeal.τ Cert.MixDwoutReferenceIdeal.sig) → Buf (Elt Ideal) ℓ) (g : Dev Cert.MixDwoutReferenceIdeal.nD → PrngReg), Pre_MixDwoutReferenceIdeal m →
    θ_run (Cert.MixDwoutReferenceIdeal.defs (F := Ideal)) (onTc (τ := Cert.MixDwoutReferenceIdeal.τ) (Cert.MixDwoutReferenceIdeal.main (F := Ideal))) ⟨m, fun _ => 0, g⟩ (fun r => (∀ c : Dev Cert.MixDwoutReferenceIdeal.nD,
      r.2.mem ((c.tc : Thread Cert.MixDwoutReferenceIdeal.nD Cert.MixDwoutReferenceIdeal.τ).loc Cert.MixDwoutReferenceIdeal.main_arg0) = m ((c.tc : Thread Cert.MixDwoutReferenceIdeal.nD Cert.MixDwoutReferenceIdeal.τ).loc Cert.MixDwoutReferenceIdeal.main_arg0)
      ∧ r.2.mem ((c.tc : Thread Cert.MixDwoutReferenceIdeal.nD Cert.MixDwoutReferenceIdeal.τ).loc Cert.MixDwoutReferenceIdeal.main_arg1) = m ((c.tc : Thread Cert.MixDwoutReferenceIdeal.nD Cert.MixDwoutReferenceIdeal.τ).loc Cert.MixDwoutReferenceIdeal.main_arg1))
      ∧ r.2.sem = fun _ => 0)

def quiescent_MixDcat [hMixDcat : Cert.MixDcat.Facts] : Prop :=
  ∀ (m : (ℓ : Loc Cert.MixDcat.nD Cert.MixDcat.τ Cert.MixDcat.sig) → Buf (Elt Bits) ℓ) (g : Dev Cert.MixDcat.nD → PrngReg), Pre_MixDcat m →
    θ_run (Cert.MixDcat.defs (F := Bits)) (onTc (τ := Cert.MixDcat.τ) (Cert.MixDcat.main (F := Bits))) ⟨m, fun _ => 0, g⟩ (fun r => (∀ c : Dev Cert.MixDcat.nD,
      r.2.mem ((c.tc : Thread Cert.MixDcat.nD Cert.MixDcat.τ).loc Cert.MixDcat.main_arg0) = m ((c.tc : Thread Cert.MixDcat.nD Cert.MixDcat.τ).loc Cert.MixDcat.main_arg0)
      ∧ r.2.mem ((c.tc : Thread Cert.MixDcat.nD Cert.MixDcat.τ).loc Cert.MixDcat.main_arg1) = m ((c.tc : Thread Cert.MixDcat.nD Cert.MixDcat.τ).loc Cert.MixDcat.main_arg1))
      ∧ r.2.sem = fun _ => 0)

def quiescent_MixDcatIdeal [hMixDcatIdeal : Cert.MixDcatIdeal.Facts] : Prop :=
  ∀ (m : (ℓ : Loc Cert.MixDcatIdeal.nD Cert.MixDcatIdeal.τ Cert.MixDcatIdeal.sig) → Buf (Elt Ideal) ℓ) (g : Dev Cert.MixDcatIdeal.nD → PrngReg), Pre_MixDcatIdeal m →
    θ_run (Cert.MixDcatIdeal.defs (F := Ideal)) (onTc (τ := Cert.MixDcatIdeal.τ) (Cert.MixDcatIdeal.main (F := Ideal))) ⟨m, fun _ => 0, g⟩ (fun r => (∀ c : Dev Cert.MixDcatIdeal.nD,
      r.2.mem ((c.tc : Thread Cert.MixDcatIdeal.nD Cert.MixDcatIdeal.τ).loc Cert.MixDcatIdeal.main_arg0) = m ((c.tc : Thread Cert.MixDcatIdeal.nD Cert.MixDcatIdeal.τ).loc Cert.MixDcatIdeal.main_arg0)
      ∧ r.2.mem ((c.tc : Thread Cert.MixDcatIdeal.nD Cert.MixDcatIdeal.τ).loc Cert.MixDcatIdeal.main_arg1) = m ((c.tc : Thread Cert.MixDcatIdeal.nD Cert.MixDcatIdeal.τ).loc Cert.MixDcatIdeal.main_arg1))
      ∧ r.2.sem = fun _ => 0)

def quiescent_MixDcatReferenceIdeal [hMixDcatReferenceIdeal : Cert.MixDcatReferenceIdeal.Facts] : Prop :=
  ∀ (m : (ℓ : Loc Cert.MixDcatReferenceIdeal.nD Cert.MixDcatReferenceIdeal.τ Cert.MixDcatReferenceIdeal.sig) → Buf (Elt Ideal) ℓ) (g : Dev Cert.MixDcatReferenceIdeal.nD → PrngReg), Pre_MixDcatReferenceIdeal m →
    θ_run (Cert.MixDcatReferenceIdeal.defs (F := Ideal)) (onTc (τ := Cert.MixDcatReferenceIdeal.τ) (Cert.MixDcatReferenceIdeal.main (F := Ideal))) ⟨m, fun _ => 0, g⟩ (fun r => (∀ c : Dev Cert.MixDcatReferenceIdeal.nD,
      r.2.mem ((c.tc : Thread Cert.MixDcatReferenceIdeal.nD Cert.MixDcatReferenceIdeal.τ).loc Cert.MixDcatReferenceIdeal.main_arg0) = m ((c.tc : Thread Cert.MixDcatReferenceIdeal.nD Cert.MixDcatReferenceIdeal.τ).loc Cert.MixDcatReferenceIdeal.main_arg0)
      ∧ r.2.mem ((c.tc : Thread Cert.MixDcatReferenceIdeal.nD Cert.MixDcatReferenceIdeal.τ).loc Cert.MixDcatReferenceIdeal.main_arg1) = m ((c.tc : Thread Cert.MixDcatReferenceIdeal.nD Cert.MixDcatReferenceIdeal.τ).loc Cert.MixDcatReferenceIdeal.main_arg1))
      ∧ r.2.sem = fun _ => 0)

def quiescent_AttDwo [hAttDwo : Cert.AttDwo.Facts] : Prop :=
  ∀ (m : (ℓ : Loc Cert.AttDwo.nD Cert.AttDwo.τ Cert.AttDwo.sig) → Buf (Elt Bits) ℓ) (g : Dev Cert.AttDwo.nD → PrngReg), Pre_AttDwo m →
    θ_run (Cert.AttDwo.defs (F := Bits)) (onTc (τ := Cert.AttDwo.τ) (Cert.AttDwo.main (F := Bits))) ⟨m, fun _ => 0, g⟩ (fun r => (∀ c : Dev Cert.AttDwo.nD,
      r.2.mem ((c.tc : Thread Cert.AttDwo.nD Cert.AttDwo.τ).loc Cert.AttDwo.main_arg0) = m ((c.tc : Thread Cert.AttDwo.nD Cert.AttDwo.τ).loc Cert.AttDwo.main_arg0)
      ∧ r.2.mem ((c.tc : Thread Cert.AttDwo.nD Cert.AttDwo.τ).loc Cert.AttDwo.main_arg1) = m ((c.tc : Thread Cert.AttDwo.nD Cert.AttDwo.τ).loc Cert.AttDwo.main_arg1))
      ∧ r.2.sem = fun _ => 0)

def quiescent_AttDwoIdeal [hAttDwoIdeal : Cert.AttDwoIdeal.Facts] : Prop :=
  ∀ (m : (ℓ : Loc Cert.AttDwoIdeal.nD Cert.AttDwoIdeal.τ Cert.AttDwoIdeal.sig) → Buf (Elt Ideal) ℓ) (g : Dev Cert.AttDwoIdeal.nD → PrngReg), Pre_AttDwoIdeal m →
    θ_run (Cert.AttDwoIdeal.defs (F := Ideal)) (onTc (τ := Cert.AttDwoIdeal.τ) (Cert.AttDwoIdeal.main (F := Ideal))) ⟨m, fun _ => 0, g⟩ (fun r => (∀ c : Dev Cert.AttDwoIdeal.nD,
      r.2.mem ((c.tc : Thread Cert.AttDwoIdeal.nD Cert.AttDwoIdeal.τ).loc Cert.AttDwoIdeal.main_arg0) = m ((c.tc : Thread Cert.AttDwoIdeal.nD Cert.AttDwoIdeal.τ).loc Cert.AttDwoIdeal.main_arg0)
      ∧ r.2.mem ((c.tc : Thread Cert.AttDwoIdeal.nD Cert.AttDwoIdeal.τ).loc Cert.AttDwoIdeal.main_arg1) = m ((c.tc : Thread Cert.AttDwoIdeal.nD Cert.AttDwoIdeal.τ).loc Cert.AttDwoIdeal.main_arg1))
      ∧ r.2.sem = fun _ => 0)

def quiescent_AttDwoReferenceIdeal [hAttDwoReferenceIdeal : Cert.AttDwoReferenceIdeal.Facts] : Prop :=
  ∀ (m : (ℓ : Loc Cert.AttDwoReferenceIdeal.nD Cert.AttDwoReferenceIdeal.τ Cert.AttDwoReferenceIdeal.sig) → Buf (Elt Ideal) ℓ) (g : Dev Cert.AttDwoReferenceIdeal.nD → PrngReg), Pre_AttDwoReferenceIdeal m →
    θ_run (Cert.AttDwoReferenceIdeal.defs (F := Ideal)) (onTc (τ := Cert.AttDwoReferenceIdeal.τ) (Cert.AttDwoReferenceIdeal.main (F := Ideal))) ⟨m, fun _ => 0, g⟩ (fun r => (∀ c : Dev Cert.AttDwoReferenceIdeal.nD,
      r.2.mem ((c.tc : Thread Cert.AttDwoReferenceIdeal.nD Cert.AttDwoReferenceIdeal.τ).loc Cert.AttDwoReferenceIdeal.main_arg0) = m ((c.tc : Thread Cert.AttDwoReferenceIdeal.nD Cert.AttDwoReferenceIdeal.τ).loc Cert.AttDwoReferenceIdeal.main_arg0)
      ∧ r.2.mem ((c.tc : Thread Cert.AttDwoReferenceIdeal.nD Cert.AttDwoReferenceIdeal.τ).loc Cert.AttDwoReferenceIdeal.main_arg1) = m ((c.tc : Thread Cert.AttDwoReferenceIdeal.nD Cert.AttDwoReferenceIdeal.τ).loc Cert.AttDwoReferenceIdeal.main_arg1))
      ∧ r.2.sem = fun _ => 0)

def quiescent_AttDmix [hAttDmix : Cert.AttDmix.Facts] : Prop :=
  ∀ (m : (ℓ : Loc Cert.AttDmix.nD Cert.AttDmix.τ Cert.AttDmix.sig) → Buf (Elt Bits) ℓ) (g : Dev Cert.AttDmix.nD → PrngReg), Pre_AttDmix m →
    θ_run (Cert.AttDmix.defs (F := Bits)) (onTc (τ := Cert.AttDmix.τ) (Cert.AttDmix.main (F := Bits))) ⟨m, fun _ => 0, g⟩ (fun r => (∀ c : Dev Cert.AttDmix.nD,
      r.2.mem ((c.tc : Thread Cert.AttDmix.nD Cert.AttDmix.τ).loc Cert.AttDmix.main_arg0) = m ((c.tc : Thread Cert.AttDmix.nD Cert.AttDmix.τ).loc Cert.AttDmix.main_arg0)
      ∧ r.2.mem ((c.tc : Thread Cert.AttDmix.nD Cert.AttDmix.τ).loc Cert.AttDmix.main_arg1) = m ((c.tc : Thread Cert.AttDmix.nD Cert.AttDmix.τ).loc Cert.AttDmix.main_arg1))
      ∧ r.2.sem = fun _ => 0)

def quiescent_AttDmixIdeal [hAttDmixIdeal : Cert.AttDmixIdeal.Facts] : Prop :=
  ∀ (m : (ℓ : Loc Cert.AttDmixIdeal.nD Cert.AttDmixIdeal.τ Cert.AttDmixIdeal.sig) → Buf (Elt Ideal) ℓ) (g : Dev Cert.AttDmixIdeal.nD → PrngReg), Pre_AttDmixIdeal m →
    θ_run (Cert.AttDmixIdeal.defs (F := Ideal)) (onTc (τ := Cert.AttDmixIdeal.τ) (Cert.AttDmixIdeal.main (F := Ideal))) ⟨m, fun _ => 0, g⟩ (fun r => (∀ c : Dev Cert.AttDmixIdeal.nD,
      r.2.mem ((c.tc : Thread Cert.AttDmixIdeal.nD Cert.AttDmixIdeal.τ).loc Cert.AttDmixIdeal.main_arg0) = m ((c.tc : Thread Cert.AttDmixIdeal.nD Cert.AttDmixIdeal.τ).loc Cert.AttDmixIdeal.main_arg0)
      ∧ r.2.mem ((c.tc : Thread Cert.AttDmixIdeal.nD Cert.AttDmixIdeal.τ).loc Cert.AttDmixIdeal.main_arg1) = m ((c.tc : Thread Cert.AttDmixIdeal.nD Cert.AttDmixIdeal.τ).loc Cert.AttDmixIdeal.main_arg1))
      ∧ r.2.sem = fun _ => 0)

def quiescent_AttDmixReferenceIdeal [hAttDmixReferenceIdeal : Cert.AttDmixReferenceIdeal.Facts] : Prop :=
  ∀ (m : (ℓ : Loc Cert.AttDmixReferenceIdeal.nD Cert.AttDmixReferenceIdeal.τ Cert.AttDmixReferenceIdeal.sig) → Buf (Elt Ideal) ℓ) (g : Dev Cert.AttDmixReferenceIdeal.nD → PrngReg), Pre_AttDmixReferenceIdeal m →
    θ_run (Cert.AttDmixReferenceIdeal.defs (F := Ideal)) (onTc (τ := Cert.AttDmixReferenceIdeal.τ) (Cert.AttDmixReferenceIdeal.main (F := Ideal))) ⟨m, fun _ => 0, g⟩ (fun r => (∀ c : Dev Cert.AttDmixReferenceIdeal.nD,
      r.2.mem ((c.tc : Thread Cert.AttDmixReferenceIdeal.nD Cert.AttDmixReferenceIdeal.τ).loc Cert.AttDmixReferenceIdeal.main_arg0) = m ((c.tc : Thread Cert.AttDmixReferenceIdeal.nD Cert.AttDmixReferenceIdeal.τ).loc Cert.AttDmixReferenceIdeal.main_arg0)
      ∧ r.2.mem ((c.tc : Thread Cert.AttDmixReferenceIdeal.nD Cert.AttDmixReferenceIdeal.τ).loc Cert.AttDmixReferenceIdeal.main_arg1) = m ((c.tc : Thread Cert.AttDmixReferenceIdeal.nD Cert.AttDmixReferenceIdeal.τ).loc Cert.AttDmixReferenceIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1)
      ∧ r.2.mem ((c.tc : Thread Cert.FfnOutReferenceIdeal.nD Cert.FfnOutReferenceIdeal.τ).loc Cert.FfnOutReferenceIdeal.main_arg2) = m ((c.tc : Thread Cert.FfnOutReferenceIdeal.nD Cert.FfnOutReferenceIdeal.τ).loc Cert.FfnOutReferenceIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1)
      ∧ r.2.mem ((c.tc : Thread Cert.AttOut.nD Cert.AttOut.τ).loc Cert.AttOut.main_arg2) = m ((c.tc : Thread Cert.AttOut.nD Cert.AttOut.τ).loc Cert.AttOut.main_arg2))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
      ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2))
      ∧ r.2.sem = fun _ => 0)

def quiescent_AttOutReferenceIdeal [hAttOutReferenceIdeal : Cert.AttOutReferenceIdeal.Facts] : Prop :=
  ∀ (m : (ℓ : Loc Cert.AttOutReferenceIdeal.nD Cert.AttOutReferenceIdeal.τ Cert.AttOutReferenceIdeal.sig) → Buf (Elt Ideal) ℓ) (g : Dev Cert.AttOutReferenceIdeal.nD → PrngReg), Pre_AttOutReferenceIdeal m →
    θ_run (Cert.AttOutReferenceIdeal.defs (F := Ideal)) (onTc (τ := Cert.AttOutReferenceIdeal.τ) (Cert.AttOutReferenceIdeal.main (F := Ideal))) ⟨m, fun _ => 0, g⟩ (fun r => (∀ c : Dev Cert.AttOutReferenceIdeal.nD,
      r.2.mem ((c.tc : Thread Cert.AttOutReferenceIdeal.nD Cert.AttOutReferenceIdeal.τ).loc Cert.AttOutReferenceIdeal.main_arg0) = m ((c.tc : Thread Cert.AttOutReferenceIdeal.nD Cert.AttOutReferenceIdeal.τ).loc Cert.AttOutReferenceIdeal.main_arg0)
      ∧ r.2.mem ((c.tc : Thread Cert.AttOutReferenceIdeal.nD Cert.AttOutReferenceIdeal.τ).loc Cert.AttOutReferenceIdeal.main_arg1) = m ((c.tc : Thread Cert.AttOutReferenceIdeal.nD Cert.AttOutReferenceIdeal.τ).loc Cert.AttOutReferenceIdeal.main_arg1)
      ∧ r.2.mem ((c.tc : Thread Cert.AttOutReferenceIdeal.nD Cert.AttOutReferenceIdeal.τ).loc Cert.AttOutReferenceIdeal.main_arg2) = m ((c.tc : Thread Cert.AttOutReferenceIdeal.nD Cert.AttOutReferenceIdeal.τ).loc Cert.AttOutReferenceIdeal.main_arg2))
      ∧ r.2.sem = fun _ => 0)

def quiescent_S5Dglu [hS5Dglu : Cert.S5Dglu.Facts] : Prop :=
  ∀ (m : (ℓ : Loc Cert.S5Dglu.nD Cert.S5Dglu.τ Cert.S5Dglu.sig) → Buf (Elt Bits) ℓ) (g : Dev Cert.S5Dglu.nD → PrngReg), Pre_S5Dglu m →
    θ_run (Cert.S5Dglu.defs (F := Bits)) (onTc (τ := Cert.S5Dglu.τ) (Cert.S5Dglu.main (F := Bits))) ⟨m, fun _ => 0, g⟩ (fun r => (∀ c : Dev Cert.S5Dglu.nD,
      r.2.mem ((c.tc : Thread Cert.S5Dglu.nD Cert.S5Dglu.τ).loc Cert.S5Dglu.main_arg0) = m ((c.tc : Thread Cert.S5Dglu.nD Cert.S5Dglu.τ).loc Cert.S5Dglu.main_arg0)
      ∧ r.2.mem ((c.tc : Thread Cert.S5Dglu.nD Cert.S5Dglu.τ).loc Cert.S5Dglu.main_arg1) = m ((c.tc : Thread Cert.S5Dglu.nD Cert.S5Dglu.τ).loc Cert.S5Dglu.main_arg1))
      ∧ r.2.sem = fun _ => 0)

def quiescent_S5DgluIdeal [hS5DgluIdeal : Cert.S5DgluIdeal.Facts] : Prop :=
  ∀ (m : (ℓ : Loc Cert.S5DgluIdeal.nD Cert.S5DgluIdeal.τ Cert.S5DgluIdeal.sig) → Buf (Elt Ideal) ℓ) (g : Dev Cert.S5DgluIdeal.nD → PrngReg), Pre_S5DgluIdeal m →
    θ_run (Cert.S5DgluIdeal.defs (F := Ideal)) (onTc (τ := Cert.S5DgluIdeal.τ) (Cert.S5DgluIdeal.main (F := Ideal))) ⟨m, fun _ => 0, g⟩ (fun r => (∀ c : Dev Cert.S5DgluIdeal.nD,
      r.2.mem ((c.tc : Thread Cert.S5DgluIdeal.nD Cert.S5DgluIdeal.τ).loc Cert.S5DgluIdeal.main_arg0) = m ((c.tc : Thread Cert.S5DgluIdeal.nD Cert.S5DgluIdeal.τ).loc Cert.S5DgluIdeal.main_arg0)
      ∧ r.2.mem ((c.tc : Thread Cert.S5DgluIdeal.nD Cert.S5DgluIdeal.τ).loc Cert.S5DgluIdeal.main_arg1) = m ((c.tc : Thread Cert.S5DgluIdeal.nD Cert.S5DgluIdeal.τ).loc Cert.S5DgluIdeal.main_arg1))
      ∧ r.2.sem = fun _ => 0)

def quiescent_S5DgluReferenceIdeal [hS5DgluReferenceIdeal : Cert.S5DgluReferenceIdeal.Facts] : Prop :=
  ∀ (m : (ℓ : Loc Cert.S5DgluReferenceIdeal.nD Cert.S5DgluReferenceIdeal.τ Cert.S5DgluReferenceIdeal.sig) → Buf (Elt Ideal) ℓ) (g : Dev Cert.S5DgluReferenceIdeal.nD → PrngReg), Pre_S5DgluReferenceIdeal m →
    θ_run (Cert.S5DgluReferenceIdeal.defs (F := Ideal)) (onTc (τ := Cert.S5DgluReferenceIdeal.τ) (Cert.S5DgluReferenceIdeal.main (F := Ideal))) ⟨m, fun _ => 0, g⟩ (fun r => (∀ c : Dev Cert.S5DgluReferenceIdeal.nD,
      r.2.mem ((c.tc : Thread Cert.S5DgluReferenceIdeal.nD Cert.S5DgluReferenceIdeal.τ).loc Cert.S5DgluReferenceIdeal.main_arg0) = m ((c.tc : Thread Cert.S5DgluReferenceIdeal.nD Cert.S5DgluReferenceIdeal.τ).loc Cert.S5DgluReferenceIdeal.main_arg0)
      ∧ r.2.mem ((c.tc : Thread Cert.S5DgluReferenceIdeal.nD Cert.S5DgluReferenceIdeal.τ).loc Cert.S5DgluReferenceIdeal.main_arg1) = m ((c.tc : Thread Cert.S5DgluReferenceIdeal.nD Cert.S5DgluReferenceIdeal.τ).loc Cert.S5DgluReferenceIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2))
      ∧ r.2.sem = fun _ => 0)

def quiescent_S5GluUpdate [hS5GluUpdate : Cert.S5GluUpdate.Facts] [hPre_s5_glu_update_on_mesh : Cert.Pre_s5_glu_update_on_mesh.Facts] : Prop :=
  ∀ (m : (ℓ : Loc Cert.S5GluUpdate.nD Cert.S5GluUpdate.τ Cert.S5GluUpdate.sig) → Buf (Elt Bits) ℓ) (g : Dev Cert.S5GluUpdate.nD → PrngReg), Pre_S5GluUpdate m →
    θ_run (Cert.S5GluUpdate.defs (F := Bits)) (onTc (τ := Cert.S5GluUpdate.τ) (Cert.S5GluUpdate.main (F := Bits))) ⟨m, fun _ => 0, g⟩ (fun r => (∀ c : Dev Cert.S5GluUpdate.nD,
      r.2.mem ((c.tc : Thread Cert.S5GluUpdate.nD Cert.S5GluUpdate.τ).loc Cert.S5GluUpdate.main_arg0) = m ((c.tc : Thread Cert.S5GluUpdate.nD Cert.S5GluUpdate.τ).loc Cert.S5GluUpdate.main_arg0)
      ∧ r.2.mem ((c.tc : Thread Cert.S5GluUpdate.nD Cert.S5GluUpdate.τ).loc Cert.S5GluUpdate.main_arg1) = m ((c.tc : Thread Cert.S5GluUpdate.nD Cert.S5GluUpdate.τ).loc Cert.S5GluUpdate.main_arg1)
      ∧ r.2.mem ((c.tc : Thread Cert.S5GluUpdate.nD Cert.S5GluUpdate.τ).loc Cert.S5GluUpdate.main_arg2) = m ((c.tc : Thread Cert.S5GluUpdate.nD Cert.S5GluUpdate.τ).loc Cert.S5GluUpdate.main_arg2)
      ∧ r.2.mem ((c.tc : Thread Cert.S5GluUpdate.nD Cert.S5GluUpdate.τ).loc Cert.S5GluUpdate.main_arg3) = m ((c.tc : Thread Cert.S5GluUpdate.nD Cert.S5GluUpdate.τ).loc Cert.S5GluUpdate.main_arg3)
      ∧ r.2.mem ((c.tc : Thread Cert.S5GluUpdate.nD Cert.S5GluUpdate.τ).loc Cert.S5GluUpdate.main_arg4) = m ((c.tc : Thread Cert.S5GluUpdate.nD Cert.S5GluUpdate.τ).loc Cert.S5GluUpdate.main_arg4)
      ∧ r.2.mem ((c.tc : Thread Cert.S5GluUpdate.nD Cert.S5GluUpdate.τ).loc Cert.S5GluUpdate.main_arg5) = m ((c.tc : Thread Cert.S5GluUpdate.nD Cert.S5GluUpdate.τ).loc Cert.S5GluUpdate.main_arg5))
      ∧ r.2.sem = fun _ => 0)

def quiescent_S5GluUpdateIdeal [hS5GluUpdateIdeal : Cert.S5GluUpdateIdeal.Facts] [hPre_s5_glu_update_on_mesh : Cert.Pre_s5_glu_update_on_mesh.Facts] : Prop :=
  ∀ (m : (ℓ : Loc Cert.S5GluUpdateIdeal.nD Cert.S5GluUpdateIdeal.τ Cert.S5GluUpdateIdeal.sig) → Buf (Elt Ideal) ℓ) (g : Dev Cert.S5GluUpdateIdeal.nD → PrngReg), Pre_S5GluUpdateIdeal m →
    θ_run (Cert.S5GluUpdateIdeal.defs (F := Ideal)) (onTc (τ := Cert.S5GluUpdateIdeal.τ) (Cert.S5GluUpdateIdeal.main (F := Ideal))) ⟨m, fun _ => 0, g⟩ (fun r => (∀ c : Dev Cert.S5GluUpdateIdeal.nD,
      r.2.mem ((c.tc : Thread Cert.S5GluUpdateIdeal.nD Cert.S5GluUpdateIdeal.τ).loc Cert.S5GluUpdateIdeal.main_arg0) = m ((c.tc : Thread Cert.S5GluUpdateIdeal.nD Cert.S5GluUpdateIdeal.τ).loc Cert.S5GluUpdateIdeal.main_arg0)
      ∧ r.2.mem ((c.tc : Thread Cert.S5GluUpdateIdeal.nD Cert.S5GluUpdateIdeal.τ).loc Cert.S5GluUpdateIdeal.main_arg1) = m ((c.tc : Thread Cert.S5GluUpdateIdeal.nD Cert.S5GluUpdateIdeal.τ).loc Cert.S5GluUpdateIdeal.main_arg1)
      ∧ r.2.mem ((c.tc : Thread Cert.S5GluUpdateIdeal.nD Cert.S5GluUpdateIdeal.τ).loc Cert.S5GluUpdateIdeal.main_arg2) = m ((c.tc : Thread Cert.S5GluUpdateIdeal.nD Cert.S5GluUpdateIdeal.τ).loc Cert.S5GluUpdateIdeal.main_arg2)
      ∧ r.2.mem ((c.tc : Thread Cert.S5GluUpdateIdeal.nD Cert.S5GluUpdateIdeal.τ).loc Cert.S5GluUpdateIdeal.main_arg3) = m ((c.tc : Thread Cert.S5GluUpdateIdeal.nD Cert.S5GluUpdateIdeal.τ).loc Cert.S5GluUpdateIdeal.main_arg3)
      ∧ r.2.mem ((c.tc : Thread Cert.S5GluUpdateIdeal.nD Cert.S5GluUpdateIdeal.τ).loc Cert.S5GluUpdateIdeal.main_arg4) = m ((c.tc : Thread Cert.S5GluUpdateIdeal.nD Cert.S5GluUpdateIdeal.τ).loc Cert.S5GluUpdateIdeal.main_arg4)
      ∧ r.2.mem ((c.tc : Thread Cert.S5GluUpdateIdeal.nD Cert.S5GluUpdateIdeal.τ).loc Cert.S5GluUpdateIdeal.main_arg5) = m ((c.tc : Thread Cert.S5GluUpdateIdeal.nD Cert.S5GluUpdateIdeal.τ).loc Cert.S5GluUpdateIdeal.main_arg5))
      ∧ r.2.sem = fun _ => 0)

def quiescent_S5GluUpdateReferenceIdeal [hS5GluUpdateReferenceIdeal : Cert.S5GluUpdateReferenceIdeal.Facts] : Prop :=
  ∀ (m : (ℓ : Loc Cert.S5GluUpdateReferenceIdeal.nD Cert.S5GluUpdateReferenceIdeal.τ Cert.S5GluUpdateReferenceIdeal.sig) → Buf (Elt Ideal) ℓ) (g : Dev Cert.S5GluUpdateReferenceIdeal.nD → PrngReg), Pre_S5GluUpdateReferenceIdeal m →
    θ_run (Cert.S5GluUpdateReferenceIdeal.defs (F := Ideal)) (onTc (τ := Cert.S5GluUpdateReferenceIdeal.τ) (Cert.S5GluUpdateReferenceIdeal.main (F := Ideal))) ⟨m, fun _ => 0, g⟩ (fun r => (∀ c : Dev Cert.S5GluUpdateReferenceIdeal.nD,
      r.2.mem ((c.tc : Thread Cert.S5GluUpdateReferenceIdeal.nD Cert.S5GluUpdateReferenceIdeal.τ).loc Cert.S5GluUpdateReferenceIdeal.main_arg0) = m ((c.tc : Thread Cert.S5GluUpdateReferenceIdeal.nD Cert.S5GluUpdateReferenceIdeal.τ).loc Cert.S5GluUpdateReferenceIdeal.main_arg0)
      ∧ r.2.mem ((c.tc : Thread Cert.S5GluUpdateReferenceIdeal.nD Cert.S5GluUpdateReferenceIdeal.τ).loc Cert.S5GluUpdateReferenceIdeal.main_arg1) = m ((c.tc : Thread Cert.S5GluUpdateReferenceIdeal.nD Cert.S5GluUpdateReferenceIdeal.τ).loc Cert.S5GluUpdateReferenceIdeal.main_arg1)
      ∧ r.2.mem ((c.tc : Thread Cert.S5GluUpdateReferenceIdeal.nD Cert.S5GluUpdateReferenceIdeal.τ).loc Cert.S5GluUpdateReferenceIdeal.main_arg2) = m ((c.tc : Thread Cert.S5GluUpdateReferenceIdeal.nD Cert.S5GluUpdateReferenceIdeal.τ).loc Cert.S5GluUpdateReferenceIdeal.main_arg2)
      ∧ r.2.mem ((c.tc : Thread Cert.S5GluUpdateReferenceIdeal.nD Cert.S5GluUpdateReferenceIdeal.τ).loc Cert.S5GluUpdateReferenceIdeal.main_arg3) = m ((c.tc : Thread Cert.S5GluUpdateReferenceIdeal.nD Cert.S5GluUpdateReferenceIdeal.τ).loc Cert.S5GluUpdateReferenceIdeal.main_arg3)
      ∧ r.2.mem ((c.tc : Thread Cert.S5GluUpdateReferenceIdeal.nD Cert.S5GluUpdateReferenceIdeal.τ).loc Cert.S5GluUpdateReferenceIdeal.main_arg4) = m ((c.tc : Thread Cert.S5GluUpdateReferenceIdeal.nD Cert.S5GluUpdateReferenceIdeal.τ).loc Cert.S5GluUpdateReferenceIdeal.main_arg4)
      ∧ r.2.mem ((c.tc : Thread Cert.S5GluUpdateReferenceIdeal.nD Cert.S5GluUpdateReferenceIdeal.τ).loc Cert.S5GluUpdateReferenceIdeal.main_arg5) = m ((c.tc : Thread Cert.S5GluUpdateReferenceIdeal.nD Cert.S5GluUpdateReferenceIdeal.τ).loc Cert.S5GluUpdateReferenceIdeal.main_arg5))
      ∧ r.2.sem = fun _ => 0)

def quiescent_S5GluUpdateReferenceIdeal_pre_s5_glu_update_on_mesh [hS5GluUpdateReferenceIdeal : Cert.S5GluUpdateReferenceIdeal.Facts] [hPre_s5_glu_update_on_mesh : Cert.Pre_s5_glu_update_on_mesh.Facts] : Prop :=
  ∀ (m : (ℓ : Loc Cert.S5GluUpdateReferenceIdeal.nD Cert.S5GluUpdateReferenceIdeal.τ Cert.S5GluUpdateReferenceIdeal.sig) → Buf (Elt Ideal) ℓ) (g : Dev Cert.S5GluUpdateReferenceIdeal.nD → PrngReg), Pre_S5GluUpdateReferenceIdeal_s5_glu_update_on_mesh m →
    θ_run (Cert.S5GluUpdateReferenceIdeal.defs (F := Ideal)) (onTc (τ := Cert.S5GluUpdateReferenceIdeal.τ) (Cert.S5GluUpdateReferenceIdeal.main (F := Ideal))) ⟨m, fun _ => 0, g⟩ (fun r => (∀ c : Dev Cert.S5GluUpdateReferenceIdeal.nD,
      r.2.mem ((c.tc : Thread Cert.S5GluUpdateReferenceIdeal.nD Cert.S5GluUpdateReferenceIdeal.τ).loc Cert.S5GluUpdateReferenceIdeal.main_arg0) = m ((c.tc : Thread Cert.S5GluUpdateReferenceIdeal.nD Cert.S5GluUpdateReferenceIdeal.τ).loc Cert.S5GluUpdateReferenceIdeal.main_arg0)
      ∧ r.2.mem ((c.tc : Thread Cert.S5GluUpdateReferenceIdeal.nD Cert.S5GluUpdateReferenceIdeal.τ).loc Cert.S5GluUpdateReferenceIdeal.main_arg1) = m ((c.tc : Thread Cert.S5GluUpdateReferenceIdeal.nD Cert.S5GluUpdateReferenceIdeal.τ).loc Cert.S5GluUpdateReferenceIdeal.main_arg1)
      ∧ r.2.mem ((c.tc : Thread Cert.S5GluUpdateReferenceIdeal.nD Cert.S5GluUpdateReferenceIdeal.τ).loc Cert.S5GluUpdateReferenceIdeal.main_arg2) = m ((c.tc : Thread Cert.S5GluUpdateReferenceIdeal.nD Cert.S5GluUpdateReferenceIdeal.τ).loc Cert.S5GluUpdateReferenceIdeal.main_arg2)
      ∧ r.2.mem ((c.tc : Thread Cert.S5GluUpdateReferenceIdeal.nD Cert.S5GluUpdateReferenceIdeal.τ).loc Cert.S5GluUpdateReferenceIdeal.main_arg3) = m ((c.tc : Thread Cert.S5GluUpdateReferenceIdeal.nD Cert.S5GluUpdateReferenceIdeal.τ).loc Cert.S5GluUpdateReferenceIdeal.main_arg3)
      ∧ r.2.mem ((c.tc : Thread Cert.S5GluUpdateReferenceIdeal.nD Cert.S5GluUpdateReferenceIdeal.τ).loc Cert.S5GluUpdateReferenceIdeal.main_arg4) = m ((c.tc : Thread Cert.S5GluUpdateReferenceIdeal.nD Cert.S5GluUpdateReferenceIdeal.τ).loc Cert.S5GluUpdateReferenceIdeal.main_arg4)
      ∧ r.2.mem ((c.tc : Thread Cert.S5GluUpdateReferenceIdeal.nD Cert.S5GluUpdateReferenceIdeal.τ).loc Cert.S5GluUpdateReferenceIdeal.main_arg5) = m ((c.tc : Thread Cert.S5GluUpdateReferenceIdeal.nD Cert.S5GluUpdateReferenceIdeal.τ).loc Cert.S5GluUpdateReferenceIdeal.main_arg5))
      ∧ r.2.sem = fun _ => 0)

def quiescent_AttWoUpdate [hAttWoUpdate : Cert.AttWoUpdate.Facts] [hPre_att_wo_update_on_mesh : Cert.Pre_att_wo_update_on_mesh.Facts] : Prop :=
  ∀ (m : (ℓ : Loc Cert.AttWoUpdate.nD Cert.AttWoUpdate.τ Cert.AttWoUpdate.sig) → Buf (Elt Bits) ℓ) (g : Dev Cert.AttWoUpdate.nD → PrngReg), Pre_AttWoUpdate m →
    θ_run (Cert.AttWoUpdate.defs (F := Bits)) (onTc (τ := Cert.AttWoUpdate.τ) (Cert.AttWoUpdate.main (F := Bits))) ⟨m, fun _ => 0, g⟩ (fun r => (∀ c : Dev Cert.AttWoUpdate.nD,
      r.2.mem ((c.tc : Thread Cert.AttWoUpdate.nD Cert.AttWoUpdate.τ).loc Cert.AttWoUpdate.main_arg0) = m ((c.tc : Thread Cert.AttWoUpdate.nD Cert.AttWoUpdate.τ).loc Cert.AttWoUpdate.main_arg0)
      ∧ r.2.mem ((c.tc : Thread Cert.AttWoUpdate.nD Cert.AttWoUpdate.τ).loc Cert.AttWoUpdate.main_arg1) = m ((c.tc : Thread Cert.AttWoUpdate.nD Cert.AttWoUpdate.τ).loc Cert.AttWoUpdate.main_arg1)
      ∧ r.2.mem ((c.tc : Thread Cert.AttWoUpdate.nD Cert.AttWoUpdate.τ).loc Cert.AttWoUpdate.main_arg2) = m ((c.tc : Thread Cert.AttWoUpdate.nD Cert.AttWoUpdate.τ).loc Cert.AttWoUpdate.main_arg2)
      ∧ r.2.mem ((c.tc : Thread Cert.AttWoUpdate.nD Cert.AttWoUpdate.τ).loc Cert.AttWoUpdate.main_arg3) = m ((c.tc : Thread Cert.AttWoUpdate.nD Cert.AttWoUpdate.τ).loc Cert.AttWoUpdate.main_arg3)
      ∧ r.2.mem ((c.tc : Thread Cert.AttWoUpdate.nD Cert.AttWoUpdate.τ).loc Cert.AttWoUpdate.main_arg4) = m ((c.tc : Thread Cert.AttWoUpdate.nD Cert.AttWoUpdate.τ).loc Cert.AttWoUpdate.main_arg4)
      ∧ r.2.mem ((c.tc : Thread Cert.AttWoUpdate.nD Cert.AttWoUpdate.τ).loc Cert.AttWoUpdate.main_arg5) = m ((c.tc : Thread Cert.AttWoUpdate.nD Cert.AttWoUpdate.τ).loc Cert.AttWoUpdate.main_arg5))
      ∧ r.2.sem = fun _ => 0)

def quiescent_AttWoUpdateIdeal [hAttWoUpdateIdeal : Cert.AttWoUpdateIdeal.Facts] [hPre_att_wo_update_on_mesh : Cert.Pre_att_wo_update_on_mesh.Facts] : Prop :=
  ∀ (m : (ℓ : Loc Cert.AttWoUpdateIdeal.nD Cert.AttWoUpdateIdeal.τ Cert.AttWoUpdateIdeal.sig) → Buf (Elt Ideal) ℓ) (g : Dev Cert.AttWoUpdateIdeal.nD → PrngReg), Pre_AttWoUpdateIdeal m →
    θ_run (Cert.AttWoUpdateIdeal.defs (F := Ideal)) (onTc (τ := Cert.AttWoUpdateIdeal.τ) (Cert.AttWoUpdateIdeal.main (F := Ideal))) ⟨m, fun _ => 0, g⟩ (fun r => (∀ c : Dev Cert.AttWoUpdateIdeal.nD,
      r.2.mem ((c.tc : Thread Cert.AttWoUpdateIdeal.nD Cert.AttWoUpdateIdeal.τ).loc Cert.AttWoUpdateIdeal.main_arg0) = m ((c.tc : Thread Cert.AttWoUpdateIdeal.nD Cert.AttWoUpdateIdeal.τ).loc Cert.AttWoUpdateIdeal.main_arg0)
      ∧ r.2.mem ((c.tc : Thread Cert.AttWoUpdateIdeal.nD Cert.AttWoUpdateIdeal.τ).loc Cert.AttWoUpdateIdeal.main_arg1) = m ((c.tc : Thread Cert.AttWoUpdateIdeal.nD Cert.AttWoUpdateIdeal.τ).loc Cert.AttWoUpdateIdeal.main_arg1)
      ∧ r.2.mem ((c.tc : Thread Cert.AttWoUpdateIdeal.nD Cert.AttWoUpdateIdeal.τ).loc Cert.AttWoUpdateIdeal.main_arg2) = m ((c.tc : Thread Cert.AttWoUpdateIdeal.nD Cert.AttWoUpdateIdeal.τ).loc Cert.AttWoUpdateIdeal.main_arg2)
      ∧ r.2.mem ((c.tc : Thread Cert.AttWoUpdateIdeal.nD Cert.AttWoUpdateIdeal.τ).loc Cert.AttWoUpdateIdeal.main_arg3) = m ((c.tc : Thread Cert.AttWoUpdateIdeal.nD Cert.AttWoUpdateIdeal.τ).loc Cert.AttWoUpdateIdeal.main_arg3)
      ∧ r.2.mem ((c.tc : Thread Cert.AttWoUpdateIdeal.nD Cert.AttWoUpdateIdeal.τ).loc Cert.AttWoUpdateIdeal.main_arg4) = m ((c.tc : Thread Cert.AttWoUpdateIdeal.nD Cert.AttWoUpdateIdeal.τ).loc Cert.AttWoUpdateIdeal.main_arg4)
      ∧ r.2.mem ((c.tc : Thread Cert.AttWoUpdateIdeal.nD Cert.AttWoUpdateIdeal.τ).loc Cert.AttWoUpdateIdeal.main_arg5) = m ((c.tc : Thread Cert.AttWoUpdateIdeal.nD Cert.AttWoUpdateIdeal.τ).loc Cert.AttWoUpdateIdeal.main_arg5))
      ∧ r.2.sem = fun _ => 0)

def quiescent_AttWoUpdateReferenceIdeal [hAttWoUpdateReferenceIdeal : Cert.AttWoUpdateReferenceIdeal.Facts] : Prop :=
  ∀ (m : (ℓ : Loc Cert.AttWoUpdateReferenceIdeal.nD Cert.AttWoUpdateReferenceIdeal.τ Cert.AttWoUpdateReferenceIdeal.sig) → Buf (Elt Ideal) ℓ) (g : Dev Cert.AttWoUpdateReferenceIdeal.nD → PrngReg), Pre_AttWoUpdateReferenceIdeal m →
    θ_run (Cert.AttWoUpdateReferenceIdeal.defs (F := Ideal)) (onTc (τ := Cert.AttWoUpdateReferenceIdeal.τ) (Cert.AttWoUpdateReferenceIdeal.main (F := Ideal))) ⟨m, fun _ => 0, g⟩ (fun r => (∀ c : Dev Cert.AttWoUpdateReferenceIdeal.nD,
      r.2.mem ((c.tc : Thread Cert.AttWoUpdateReferenceIdeal.nD Cert.AttWoUpdateReferenceIdeal.τ).loc Cert.AttWoUpdateReferenceIdeal.main_arg0) = m ((c.tc : Thread Cert.AttWoUpdateReferenceIdeal.nD Cert.AttWoUpdateReferenceIdeal.τ).loc Cert.AttWoUpdateReferenceIdeal.main_arg0)
      ∧ r.2.mem ((c.tc : Thread Cert.AttWoUpdateReferenceIdeal.nD Cert.AttWoUpdateReferenceIdeal.τ).loc Cert.AttWoUpdateReferenceIdeal.main_arg1) = m ((c.tc : Thread Cert.AttWoUpdateReferenceIdeal.nD Cert.AttWoUpdateReferenceIdeal.τ).loc Cert.AttWoUpdateReferenceIdeal.main_arg1)
      ∧ r.2.mem ((c.tc : Thread Cert.AttWoUpdateReferenceIdeal.nD Cert.AttWoUpdateReferenceIdeal.τ).loc Cert.AttWoUpdateReferenceIdeal.main_arg2) = m ((c.tc : Thread Cert.AttWoUpdateReferenceIdeal.nD Cert.AttWoUpdateReferenceIdeal.τ).loc Cert.AttWoUpdateReferenceIdeal.main_arg2)
      ∧ r.2.mem ((c.tc : Thread Cert.AttWoUpdateReferenceIdeal.nD Cert.AttWoUpdateReferenceIdeal.τ).loc Cert.AttWoUpdateReferenceIdeal.main_arg3) = m ((c.tc : Thread Cert.AttWoUpdateReferenceIdeal.nD Cert.AttWoUpdateReferenceIdeal.τ).loc Cert.AttWoUpdateReferenceIdeal.main_arg3)
      ∧ r.2.mem ((c.tc : Thread Cert.AttWoUpdateReferenceIdeal.nD Cert.AttWoUpdateReferenceIdeal.τ).loc Cert.AttWoUpdateReferenceIdeal.main_arg4) = m ((c.tc : Thread Cert.AttWoUpdateReferenceIdeal.nD Cert.AttWoUpdateReferenceIdeal.τ).loc Cert.AttWoUpdateReferenceIdeal.main_arg4)
      ∧ r.2.mem ((c.tc : Thread Cert.AttWoUpdateReferenceIdeal.nD Cert.AttWoUpdateReferenceIdeal.τ).loc Cert.AttWoUpdateReferenceIdeal.main_arg5) = m ((c.tc : Thread Cert.AttWoUpdateReferenceIdeal.nD Cert.AttWoUpdateReferenceIdeal.τ).loc Cert.AttWoUpdateReferenceIdeal.main_arg5))
      ∧ r.2.sem = fun _ => 0)

def quiescent_AttWoUpdateReferenceIdeal_pre_att_wo_update_on_mesh [hAttWoUpdateReferenceIdeal : Cert.AttWoUpdateReferenceIdeal.Facts] [hPre_att_wo_update_on_mesh : Cert.Pre_att_wo_update_on_mesh.Facts] : Prop :=
  ∀ (m : (ℓ : Loc Cert.AttWoUpdateReferenceIdeal.nD Cert.AttWoUpdateReferenceIdeal.τ Cert.AttWoUpdateReferenceIdeal.sig) → Buf (Elt Ideal) ℓ) (g : Dev Cert.AttWoUpdateReferenceIdeal.nD → PrngReg), Pre_AttWoUpdateReferenceIdeal_att_wo_update_on_mesh m →
    θ_run (Cert.AttWoUpdateReferenceIdeal.defs (F := Ideal)) (onTc (τ := Cert.AttWoUpdateReferenceIdeal.τ) (Cert.AttWoUpdateReferenceIdeal.main (F := Ideal))) ⟨m, fun _ => 0, g⟩ (fun r => (∀ c : Dev Cert.AttWoUpdateReferenceIdeal.nD,
      r.2.mem ((c.tc : Thread Cert.AttWoUpdateReferenceIdeal.nD Cert.AttWoUpdateReferenceIdeal.τ).loc Cert.AttWoUpdateReferenceIdeal.main_arg0) = m ((c.tc : Thread Cert.AttWoUpdateReferenceIdeal.nD Cert.AttWoUpdateReferenceIdeal.τ).loc Cert.AttWoUpdateReferenceIdeal.main_arg0)
      ∧ r.2.mem ((c.tc : Thread Cert.AttWoUpdateReferenceIdeal.nD Cert.AttWoUpdateReferenceIdeal.τ).loc Cert.AttWoUpdateReferenceIdeal.main_arg1) = m ((c.tc : Thread Cert.AttWoUpdateReferenceIdeal.nD Cert.AttWoUpdateReferenceIdeal.τ).loc Cert.AttWoUpdateReferenceIdeal.main_arg1)
      ∧ r.2.mem ((c.tc : Thread Cert.AttWoUpdateReferenceIdeal.nD Cert.AttWoUpdateReferenceIdeal.τ).loc Cert.AttWoUpdateReferenceIdeal.main_arg2) = m ((c.tc : Thread Cert.AttWoUpdateReferenceIdeal.nD Cert.AttWoUpdateReferenceIdeal.τ).loc Cert.AttWoUpdateReferenceIdeal.main_arg2)
      ∧ r.2.mem ((c.tc : Thread Cert.AttWoUpdateReferenceIdeal.nD Cert.AttWoUpdateReferenceIdeal.τ).loc Cert.AttWoUpdateReferenceIdeal.main_arg3) = m ((c.tc : Thread Cert.AttWoUpdateReferenceIdeal.nD Cert.AttWoUpdateReferenceIdeal.τ).loc Cert.AttWoUpdateReferenceIdeal.main_arg3)
      ∧ r.2.mem ((c.tc : Thread Cert.AttWoUpdateReferenceIdeal.nD Cert.AttWoUpdateReferenceIdeal.τ).loc Cert.AttWoUpdateReferenceIdeal.main_arg4) = m ((c.tc : Thread Cert.AttWoUpdateReferenceIdeal.nD Cert.AttWoUpdateReferenceIdeal.τ).loc Cert.AttWoUpdateReferenceIdeal.main_arg4)
      ∧ r.2.mem ((c.tc : Thread Cert.AttWoUpdateReferenceIdeal.nD Cert.AttWoUpdateReferenceIdeal.τ).loc Cert.AttWoUpdateReferenceIdeal.main_arg5) = m ((c.tc : Thread Cert.AttWoUpdateReferenceIdeal.nD Cert.AttWoUpdateReferenceIdeal.τ).loc Cert.AttWoUpdateReferenceIdeal.main_arg5))
      ∧ r.2.sem = fun _ => 0)

def quiescent_MixWoutUpdate [hMixWoutUpdate : Cert.MixWoutUpdate.Facts] [hPre_mix_wout_update_on_mesh : Cert.Pre_mix_wout_update_on_mesh.Facts] : Prop :=
  ∀ (m : (ℓ : Loc Cert.MixWoutUpdate.nD Cert.MixWoutUpdate.τ Cert.MixWoutUpdate.sig) → Buf (Elt Bits) ℓ) (g : Dev Cert.MixWoutUpdate.nD → PrngReg), Pre_MixWoutUpdate m →
    θ_run (Cert.MixWoutUpdate.defs (F := Bits)) (onTc (τ := Cert.MixWoutUpdate.τ) (Cert.MixWoutUpdate.main (F := Bits))) ⟨m, fun _ => 0, g⟩ (fun r => (∀ c : Dev Cert.MixWoutUpdate.nD,
      r.2.mem ((c.tc : Thread Cert.MixWoutUpdate.nD Cert.MixWoutUpdate.τ).loc Cert.MixWoutUpdate.main_arg0) = m ((c.tc : Thread Cert.MixWoutUpdate.nD Cert.MixWoutUpdate.τ).loc Cert.MixWoutUpdate.main_arg0)
      ∧ r.2.mem ((c.tc : Thread Cert.MixWoutUpdate.nD Cert.MixWoutUpdate.τ).loc Cert.MixWoutUpdate.main_arg1) = m ((c.tc : Thread Cert.MixWoutUpdate.nD Cert.MixWoutUpdate.τ).loc Cert.MixWoutUpdate.main_arg1)
      ∧ r.2.mem ((c.tc : Thread Cert.MixWoutUpdate.nD Cert.MixWoutUpdate.τ).loc Cert.MixWoutUpdate.main_arg2) = m ((c.tc : Thread Cert.MixWoutUpdate.nD Cert.MixWoutUpdate.τ).loc Cert.MixWoutUpdate.main_arg2)
      ∧ r.2.mem ((c.tc : Thread Cert.MixWoutUpdate.nD Cert.MixWoutUpdate.τ).loc Cert.MixWoutUpdate.main_arg3) = m ((c.tc : Thread Cert.MixWoutUpdate.nD Cert.MixWoutUpdate.τ).loc Cert.MixWoutUpdate.main_arg3)
      ∧ r.2.mem ((c.tc : Thread Cert.MixWoutUpdate.nD Cert.MixWoutUpdate.τ).loc Cert.MixWoutUpdate.main_arg4) = m ((c.tc : Thread Cert.MixWoutUpdate.nD Cert.MixWoutUpdate.τ).loc Cert.MixWoutUpdate.main_arg4)
      ∧ r.2.mem ((c.tc : Thread Cert.MixWoutUpdate.nD Cert.MixWoutUpdate.τ).loc Cert.MixWoutUpdate.main_arg5) = m ((c.tc : Thread Cert.MixWoutUpdate.nD Cert.MixWoutUpdate.τ).loc Cert.MixWoutUpdate.main_arg5))
      ∧ r.2.sem = fun _ => 0)

def quiescent_MixWoutUpdateIdeal [hMixWoutUpdateIdeal : Cert.MixWoutUpdateIdeal.Facts] [hPre_mix_wout_update_on_mesh : Cert.Pre_mix_wout_update_on_mesh.Facts] : Prop :=
  ∀ (m : (ℓ : Loc Cert.MixWoutUpdateIdeal.nD Cert.MixWoutUpdateIdeal.τ Cert.MixWoutUpdateIdeal.sig) → Buf (Elt Ideal) ℓ) (g : Dev Cert.MixWoutUpdateIdeal.nD → PrngReg), Pre_MixWoutUpdateIdeal m →
    θ_run (Cert.MixWoutUpdateIdeal.defs (F := Ideal)) (onTc (τ := Cert.MixWoutUpdateIdeal.τ) (Cert.MixWoutUpdateIdeal.main (F := Ideal))) ⟨m, fun _ => 0, g⟩ (fun r => (∀ c : Dev Cert.MixWoutUpdateIdeal.nD,
      r.2.mem ((c.tc : Thread Cert.MixWoutUpdateIdeal.nD Cert.MixWoutUpdateIdeal.τ).loc Cert.MixWoutUpdateIdeal.main_arg0) = m ((c.tc : Thread Cert.MixWoutUpdateIdeal.nD Cert.MixWoutUpdateIdeal.τ).loc Cert.MixWoutUpdateIdeal.main_arg0)
      ∧ r.2.mem ((c.tc : Thread Cert.MixWoutUpdateIdeal.nD Cert.MixWoutUpdateIdeal.τ).loc Cert.MixWoutUpdateIdeal.main_arg1) = m ((c.tc : Thread Cert.MixWoutUpdateIdeal.nD Cert.MixWoutUpdateIdeal.τ).loc Cert.MixWoutUpdateIdeal.main_arg1)
      ∧ r.2.mem ((c.tc : Thread Cert.MixWoutUpdateIdeal.nD Cert.MixWoutUpdateIdeal.τ).loc Cert.MixWoutUpdateIdeal.main_arg2) = m ((c.tc : Thread Cert.MixWoutUpdateIdeal.nD Cert.MixWoutUpdateIdeal.τ).loc Cert.MixWoutUpdateIdeal.main_arg2)
      ∧ r.2.mem ((c.tc : Thread Cert.MixWoutUpdateIdeal.nD Cert.MixWoutUpdateIdeal.τ).loc Cert.MixWoutUpdateIdeal.main_arg3) = m ((c.tc : Thread Cert.MixWoutUpdateIdeal.nD Cert.MixWoutUpdateIdeal.τ).loc Cert.MixWoutUpdateIdeal.main_arg3)
      ∧ r.2.mem ((c.tc : Thread Cert.MixWoutUpdateIdeal.nD Cert.MixWoutUpdateIdeal.τ).loc Cert.MixWoutUpdateIdeal.main_arg4) = m ((c.tc : Thread Cert.MixWoutUpdateIdeal.nD Cert.MixWoutUpdateIdeal.τ).loc Cert.MixWoutUpdateIdeal.main_arg4)
      ∧ r.2.mem ((c.tc : Thread Cert.MixWoutUpdateIdeal.nD Cert.MixWoutUpdateIdeal.τ).loc Cert.MixWoutUpdateIdeal.main_arg5) = m ((c.tc : Thread Cert.MixWoutUpdateIdeal.nD Cert.MixWoutUpdateIdeal.τ).loc Cert.MixWoutUpdateIdeal.main_arg5))
      ∧ r.2.sem = fun _ => 0)

def quiescent_MixWoutUpdateReferenceIdeal [hMixWoutUpdateReferenceIdeal : Cert.MixWoutUpdateReferenceIdeal.Facts] : Prop :=
  ∀ (m : (ℓ : Loc Cert.MixWoutUpdateReferenceIdeal.nD Cert.MixWoutUpdateReferenceIdeal.τ Cert.MixWoutUpdateReferenceIdeal.sig) → Buf (Elt Ideal) ℓ) (g : Dev Cert.MixWoutUpdateReferenceIdeal.nD → PrngReg), Pre_MixWoutUpdateReferenceIdeal m →
    θ_run (Cert.MixWoutUpdateReferenceIdeal.defs (F := Ideal)) (onTc (τ := Cert.MixWoutUpdateReferenceIdeal.τ) (Cert.MixWoutUpdateReferenceIdeal.main (F := Ideal))) ⟨m, fun _ => 0, g⟩ (fun r => (∀ c : Dev Cert.MixWoutUpdateReferenceIdeal.nD,
      r.2.mem ((c.tc : Thread Cert.MixWoutUpdateReferenceIdeal.nD Cert.MixWoutUpdateReferenceIdeal.τ).loc Cert.MixWoutUpdateReferenceIdeal.main_arg0) = m ((c.tc : Thread Cert.MixWoutUpdateReferenceIdeal.nD Cert.MixWoutUpdateReferenceIdeal.τ).loc Cert.MixWoutUpdateReferenceIdeal.main_arg0)
      ∧ r.2.mem ((c.tc : Thread Cert.MixWoutUpdateReferenceIdeal.nD Cert.MixWoutUpdateReferenceIdeal.τ).loc Cert.MixWoutUpdateReferenceIdeal.main_arg1) = m ((c.tc : Thread Cert.MixWoutUpdateReferenceIdeal.nD Cert.MixWoutUpdateReferenceIdeal.τ).loc Cert.MixWoutUpdateReferenceIdeal.main_arg1)
      ∧ r.2.mem ((c.tc : Thread Cert.MixWoutUpdateReferenceIdeal.nD Cert.MixWoutUpdateReferenceIdeal.τ).loc Cert.MixWoutUpdateReferenceIdeal.main_arg2) = m ((c.tc : Thread Cert.MixWoutUpdateReferenceIdeal.nD Cert.MixWoutUpdateReferenceIdeal.τ).loc Cert.MixWoutUpdateReferenceIdeal.main_arg2)
      ∧ r.2.mem ((c.tc : Thread Cert.MixWoutUpdateReferenceIdeal.nD Cert.MixWoutUpdateReferenceIdeal.τ).loc Cert.MixWoutUpdateReferenceIdeal.main_arg3) = m ((c.tc : Thread Cert.MixWoutUpdateReferenceIdeal.nD Cert.MixWoutUpdateReferenceIdeal.τ).loc Cert.MixWoutUpdateReferenceIdeal.main_arg3)
      ∧ r.2.mem ((c.tc : Thread Cert.MixWoutUpdateReferenceIdeal.nD Cert.MixWoutUpdateReferenceIdeal.τ).loc Cert.MixWoutUpdateReferenceIdeal.main_arg4) = m ((c.tc : Thread Cert.MixWoutUpdateReferenceIdeal.nD Cert.MixWoutUpdateReferenceIdeal.τ).loc Cert.MixWoutUpdateReferenceIdeal.main_arg4)
      ∧ r.2.mem ((c.tc : Thread Cert.MixWoutUpdateReferenceIdeal.nD Cert.MixWoutUpdateReferenceIdeal.τ).loc Cert.MixWoutUpdateReferenceIdeal.main_arg5) = m ((c.tc : Thread Cert.MixWoutUpdateReferenceIdeal.nD Cert.MixWoutUpdateReferenceIdeal.τ).loc Cert.MixWoutUpdateReferenceIdeal.main_arg5))
      ∧ r.2.sem = fun _ => 0)

def quiescent_MixWoutUpdateReferenceIdeal_pre_mix_wout_update_on_mesh [hMixWoutUpdateReferenceIdeal : Cert.MixWoutUpdateReferenceIdeal.Facts] [hPre_mix_wout_update_on_mesh : Cert.Pre_mix_wout_update_on_mesh.Facts] : Prop :=
  ∀ (m : (ℓ : Loc Cert.MixWoutUpdateReferenceIdeal.nD Cert.MixWoutUpdateReferenceIdeal.τ Cert.MixWoutUpdateReferenceIdeal.sig) → Buf (Elt Ideal) ℓ) (g : Dev Cert.MixWoutUpdateReferenceIdeal.nD → PrngReg), Pre_MixWoutUpdateReferenceIdeal_mix_wout_update_on_mesh m →
    θ_run (Cert.MixWoutUpdateReferenceIdeal.defs (F := Ideal)) (onTc (τ := Cert.MixWoutUpdateReferenceIdeal.τ) (Cert.MixWoutUpdateReferenceIdeal.main (F := Ideal))) ⟨m, fun _ => 0, g⟩ (fun r => (∀ c : Dev Cert.MixWoutUpdateReferenceIdeal.nD,
      r.2.mem ((c.tc : Thread Cert.MixWoutUpdateReferenceIdeal.nD Cert.MixWoutUpdateReferenceIdeal.τ).loc Cert.MixWoutUpdateReferenceIdeal.main_arg0) = m ((c.tc : Thread Cert.MixWoutUpdateReferenceIdeal.nD Cert.MixWoutUpdateReferenceIdeal.τ).loc Cert.MixWoutUpdateReferenceIdeal.main_arg0)
      ∧ r.2.mem ((c.tc : Thread Cert.MixWoutUpdateReferenceIdeal.nD Cert.MixWoutUpdateReferenceIdeal.τ).loc Cert.MixWoutUpdateReferenceIdeal.main_arg1) = m ((c.tc : Thread Cert.MixWoutUpdateReferenceIdeal.nD Cert.MixWoutUpdateReferenceIdeal.τ).loc Cert.MixWoutUpdateReferenceIdeal.main_arg1)
      ∧ r.2.mem ((c.tc : Thread Cert.MixWoutUpdateReferenceIdeal.nD Cert.MixWoutUpdateReferenceIdeal.τ).loc Cert.MixWoutUpdateReferenceIdeal.main_arg2) = m ((c.tc : Thread Cert.MixWoutUpdateReferenceIdeal.nD Cert.MixWoutUpdateReferenceIdeal.τ).loc Cert.MixWoutUpdateReferenceIdeal.main_arg2)
      ∧ r.2.mem ((c.tc : Thread Cert.MixWoutUpdateReferenceIdeal.nD Cert.MixWoutUpdateReferenceIdeal.τ).loc Cert.MixWoutUpdateReferenceIdeal.main_arg3) = m ((c.tc : Thread Cert.MixWoutUpdateReferenceIdeal.nD Cert.MixWoutUpdateReferenceIdeal.τ).loc Cert.MixWoutUpdateReferenceIdeal.main_arg3)
      ∧ r.2.mem ((c.tc : Thread Cert.MixWoutUpdateReferenceIdeal.nD Cert.MixWoutUpdateReferenceIdeal.τ).loc Cert.MixWoutUpdateReferenceIdeal.main_arg4) = m ((c.tc : Thread Cert.MixWoutUpdateReferenceIdeal.nD Cert.MixWoutUpdateReferenceIdeal.τ).loc Cert.MixWoutUpdateReferenceIdeal.main_arg4)
      ∧ r.2.mem ((c.tc : Thread Cert.MixWoutUpdateReferenceIdeal.nD Cert.MixWoutUpdateReferenceIdeal.τ).loc Cert.MixWoutUpdateReferenceIdeal.main_arg5) = m ((c.tc : Thread Cert.MixWoutUpdateReferenceIdeal.nD Cert.MixWoutUpdateReferenceIdeal.τ).loc Cert.MixWoutUpdateReferenceIdeal.main_arg5))
      ∧ r.2.sem = fun _ => 0)

def quiescent_MixWinUpdate [hMixWinUpdate : Cert.MixWinUpdate.Facts] [hPre_mix_win_update_on_mesh : Cert.Pre_mix_win_update_on_mesh.Facts] : Prop :=
  ∀ (m : (ℓ : Loc Cert.MixWinUpdate.nD Cert.MixWinUpdate.τ Cert.MixWinUpdate.sig) → Buf (Elt Bits) ℓ) (g : Dev Cert.MixWinUpdate.nD → PrngReg), Pre_MixWinUpdate m →
    θ_run (Cert.MixWinUpdate.defs (F := Bits)) (onTc (τ := Cert.MixWinUpdate.τ) (Cert.MixWinUpdate.main (F := Bits))) ⟨m, fun _ => 0, g⟩ (fun r => (∀ c : Dev Cert.MixWinUpdate.nD,
      r.2.mem ((c.tc : Thread Cert.MixWinUpdate.nD Cert.MixWinUpdate.τ).loc Cert.MixWinUpdate.main_arg0) = m ((c.tc : Thread Cert.MixWinUpdate.nD Cert.MixWinUpdate.τ).loc Cert.MixWinUpdate.main_arg0)
      ∧ r.2.mem ((c.tc : Thread Cert.MixWinUpdate.nD Cert.MixWinUpdate.τ).loc Cert.MixWinUpdate.main_arg1) = m ((c.tc : Thread Cert.MixWinUpdate.nD Cert.MixWinUpdate.τ).loc Cert.MixWinUpdate.main_arg1)
      ∧ r.2.mem ((c.tc : Thread Cert.MixWinUpdate.nD Cert.MixWinUpdate.τ).loc Cert.MixWinUpdate.main_arg2) = m ((c.tc : Thread Cert.MixWinUpdate.nD Cert.MixWinUpdate.τ).loc Cert.MixWinUpdate.main_arg2)
      ∧ r.2.mem ((c.tc : Thread Cert.MixWinUpdate.nD Cert.MixWinUpdate.τ).loc Cert.MixWinUpdate.main_arg3) = m ((c.tc : Thread Cert.MixWinUpdate.nD Cert.MixWinUpdate.τ).loc Cert.MixWinUpdate.main_arg3)
      ∧ r.2.mem ((c.tc : Thread Cert.MixWinUpdate.nD Cert.MixWinUpdate.τ).loc Cert.MixWinUpdate.main_arg4) = m ((c.tc : Thread Cert.MixWinUpdate.nD Cert.MixWinUpdate.τ).loc Cert.MixWinUpdate.main_arg4)
      ∧ r.2.mem ((c.tc : Thread Cert.MixWinUpdate.nD Cert.MixWinUpdate.τ).loc Cert.MixWinUpdate.main_arg5) = m ((c.tc : Thread Cert.MixWinUpdate.nD Cert.MixWinUpdate.τ).loc Cert.MixWinUpdate.main_arg5))
      ∧ r.2.sem = fun _ => 0)

def quiescent_MixWinUpdateIdeal [hMixWinUpdateIdeal : Cert.MixWinUpdateIdeal.Facts] [hPre_mix_win_update_on_mesh : Cert.Pre_mix_win_update_on_mesh.Facts] : Prop :=
  ∀ (m : (ℓ : Loc Cert.MixWinUpdateIdeal.nD Cert.MixWinUpdateIdeal.τ Cert.MixWinUpdateIdeal.sig) → Buf (Elt Ideal) ℓ) (g : Dev Cert.MixWinUpdateIdeal.nD → PrngReg), Pre_MixWinUpdateIdeal m →
    θ_run (Cert.MixWinUpdateIdeal.defs (F := Ideal)) (onTc (τ := Cert.MixWinUpdateIdeal.τ) (Cert.MixWinUpdateIdeal.main (F := Ideal))) ⟨m, fun _ => 0, g⟩ (fun r => (∀ c : Dev Cert.MixWinUpdateIdeal.nD,
      r.2.mem ((c.tc : Thread Cert.MixWinUpdateIdeal.nD Cert.MixWinUpdateIdeal.τ).loc Cert.MixWinUpdateIdeal.main_arg0) = m ((c.tc : Thread Cert.MixWinUpdateIdeal.nD Cert.MixWinUpdateIdeal.τ).loc Cert.MixWinUpdateIdeal.main_arg0)
      ∧ r.2.mem ((c.tc : Thread Cert.MixWinUpdateIdeal.nD Cert.MixWinUpdateIdeal.τ).loc Cert.MixWinUpdateIdeal.main_arg1) = m ((c.tc : Thread Cert.MixWinUpdateIdeal.nD Cert.MixWinUpdateIdeal.τ).loc Cert.MixWinUpdateIdeal.main_arg1)
      ∧ r.2.mem ((c.tc : Thread Cert.MixWinUpdateIdeal.nD Cert.MixWinUpdateIdeal.τ).loc Cert.MixWinUpdateIdeal.main_arg2) = m ((c.tc : Thread Cert.MixWinUpdateIdeal.nD Cert.MixWinUpdateIdeal.τ).loc Cert.MixWinUpdateIdeal.main_arg2)
      ∧ r.2.mem ((c.tc : Thread Cert.MixWinUpdateIdeal.nD Cert.MixWinUpdateIdeal.τ).loc Cert.MixWinUpdateIdeal.main_arg3) = m ((c.tc : Thread Cert.MixWinUpdateIdeal.nD Cert.MixWinUpdateIdeal.τ).loc Cert.MixWinUpdateIdeal.main_arg3)
      ∧ r.2.mem ((c.tc : Thread Cert.MixWinUpdateIdeal.nD Cert.MixWinUpdateIdeal.τ).loc Cert.MixWinUpdateIdeal.main_arg4) = m ((c.tc : Thread Cert.MixWinUpdateIdeal.nD Cert.MixWinUpdateIdeal.τ).loc Cert.MixWinUpdateIdeal.main_arg4)
      ∧ r.2.mem ((c.tc : Thread Cert.MixWinUpdateIdeal.nD Cert.MixWinUpdateIdeal.τ).loc Cert.MixWinUpdateIdeal.main_arg5) = m ((c.tc : Thread Cert.MixWinUpdateIdeal.nD Cert.MixWinUpdateIdeal.τ).loc Cert.MixWinUpdateIdeal.main_arg5))
      ∧ r.2.sem = fun _ => 0)

def quiescent_MixWinUpdateReferenceIdeal [hMixWinUpdateReferenceIdeal : Cert.MixWinUpdateReferenceIdeal.Facts] : Prop :=
  ∀ (m : (ℓ : Loc Cert.MixWinUpdateReferenceIdeal.nD Cert.MixWinUpdateReferenceIdeal.τ Cert.MixWinUpdateReferenceIdeal.sig) → Buf (Elt Ideal) ℓ) (g : Dev Cert.MixWinUpdateReferenceIdeal.nD → PrngReg), Pre_MixWinUpdateReferenceIdeal m →
    θ_run (Cert.MixWinUpdateReferenceIdeal.defs (F := Ideal)) (onTc (τ := Cert.MixWinUpdateReferenceIdeal.τ) (Cert.MixWinUpdateReferenceIdeal.main (F := Ideal))) ⟨m, fun _ => 0, g⟩ (fun r => (∀ c : Dev Cert.MixWinUpdateReferenceIdeal.nD,
      r.2.mem ((c.tc : Thread Cert.MixWinUpdateReferenceIdeal.nD Cert.MixWinUpdateReferenceIdeal.τ).loc Cert.MixWinUpdateReferenceIdeal.main_arg0) = m ((c.tc : Thread Cert.MixWinUpdateReferenceIdeal.nD Cert.MixWinUpdateReferenceIdeal.τ).loc Cert.MixWinUpdateReferenceIdeal.main_arg0)
      ∧ r.2.mem ((c.tc : Thread Cert.MixWinUpdateReferenceIdeal.nD Cert.MixWinUpdateReferenceIdeal.τ).loc Cert.MixWinUpdateReferenceIdeal.main_arg1) = m ((c.tc : Thread Cert.MixWinUpdateReferenceIdeal.nD Cert.MixWinUpdateReferenceIdeal.τ).loc Cert.MixWinUpdateReferenceIdeal.main_arg1)
      ∧ r.2.mem ((c.tc : Thread Cert.MixWinUpdateReferenceIdeal.nD Cert.MixWinUpdateReferenceIdeal.τ).loc Cert.MixWinUpdateReferenceIdeal.main_arg2) = m ((c.tc : Thread Cert.MixWinUpdateReferenceIdeal.nD Cert.MixWinUpdateReferenceIdeal.τ).loc Cert.MixWinUpdateReferenceIdeal.main_arg2)
      ∧ r.2.mem ((c.tc : Thread Cert.MixWinUpdateReferenceIdeal.nD Cert.MixWinUpdateReferenceIdeal.τ).loc Cert.MixWinUpdateReferenceIdeal.main_arg3) = m ((c.tc : Thread Cert.MixWinUpdateReferenceIdeal.nD Cert.MixWinUpdateReferenceIdeal.τ).loc Cert.MixWinUpdateReferenceIdeal.main_arg3)
      ∧ r.2.mem ((c.tc : Thread Cert.MixWinUpdateReferenceIdeal.nD Cert.MixWinUpdateReferenceIdeal.τ).loc Cert.MixWinUpdateReferenceIdeal.main_arg4) = m ((c.tc : Thread Cert.MixWinUpdateReferenceIdeal.nD Cert.MixWinUpdateReferenceIdeal.τ).loc Cert.MixWinUpdateReferenceIdeal.main_arg4)
      ∧ r.2.mem ((c.tc : Thread Cert.MixWinUpdateReferenceIdeal.nD Cert.MixWinUpdateReferenceIdeal.τ).loc Cert.MixWinUpdateReferenceIdeal.main_arg5) = m ((c.tc : Thread Cert.MixWinUpdateReferenceIdeal.nD Cert.MixWinUpdateReferenceIdeal.τ).loc Cert.MixWinUpdateReferenceIdeal.main_arg5))
      ∧ r.2.sem = fun _ => 0)

def quiescent_MixWinUpdateReferenceIdeal_pre_mix_win_update_on_mesh [hMixWinUpdateReferenceIdeal : Cert.MixWinUpdateReferenceIdeal.Facts] [hPre_mix_win_update_on_mesh : Cert.Pre_mix_win_update_on_mesh.Facts] : Prop :=
  ∀ (m : (ℓ : Loc Cert.MixWinUpdateReferenceIdeal.nD Cert.MixWinUpdateReferenceIdeal.τ Cert.MixWinUpdateReferenceIdeal.sig) → Buf (Elt Ideal) ℓ) (g : Dev Cert.MixWinUpdateReferenceIdeal.nD → PrngReg), Pre_MixWinUpdateReferenceIdeal_mix_win_update_on_mesh m →
    θ_run (Cert.MixWinUpdateReferenceIdeal.defs (F := Ideal)) (onTc (τ := Cert.MixWinUpdateReferenceIdeal.τ) (Cert.MixWinUpdateReferenceIdeal.main (F := Ideal))) ⟨m, fun _ => 0, g⟩ (fun r => (∀ c : Dev Cert.MixWinUpdateReferenceIdeal.nD,
      r.2.mem ((c.tc : Thread Cert.MixWinUpdateReferenceIdeal.nD Cert.MixWinUpdateReferenceIdeal.τ).loc Cert.MixWinUpdateReferenceIdeal.main_arg0) = m ((c.tc : Thread Cert.MixWinUpdateReferenceIdeal.nD Cert.MixWinUpdateReferenceIdeal.τ).loc Cert.MixWinUpdateReferenceIdeal.main_arg0)
      ∧ r.2.mem ((c.tc : Thread Cert.MixWinUpdateReferenceIdeal.nD Cert.MixWinUpdateReferenceIdeal.τ).loc Cert.MixWinUpdateReferenceIdeal.main_arg1) = m ((c.tc : Thread Cert.MixWinUpdateReferenceIdeal.nD Cert.MixWinUpdateReferenceIdeal.τ).loc Cert.MixWinUpdateReferenceIdeal.main_arg1)
      ∧ r.2.mem ((c.tc : Thread Cert.MixWinUpdateReferenceIdeal.nD Cert.MixWinUpdateReferenceIdeal.τ).loc Cert.MixWinUpdateReferenceIdeal.main_arg2) = m ((c.tc : Thread Cert.MixWinUpdateReferenceIdeal.nD Cert.MixWinUpdateReferenceIdeal.τ).loc Cert.MixWinUpdateReferenceIdeal.main_arg2)
      ∧ r.2.mem ((c.tc : Thread Cert.MixWinUpdateReferenceIdeal.nD Cert.MixWinUpdateReferenceIdeal.τ).loc Cert.MixWinUpdateReferenceIdeal.main_arg3) = m ((c.tc : Thread Cert.MixWinUpdateReferenceIdeal.nD Cert.MixWinUpdateReferenceIdeal.τ).loc Cert.MixWinUpdateReferenceIdeal.main_arg3)
      ∧ r.2.mem ((c.tc : Thread Cert.MixWinUpdateReferenceIdeal.nD Cert.MixWinUpdateReferenceIdeal.τ).loc Cert.MixWinUpdateReferenceIdeal.main_arg4) = m ((c.tc : Thread Cert.MixWinUpdateReferenceIdeal.nD Cert.MixWinUpdateReferenceIdeal.τ).loc Cert.MixWinUpdateReferenceIdeal.main_arg4)
      ∧ r.2.mem ((c.tc : Thread Cert.MixWinUpdateReferenceIdeal.nD Cert.MixWinUpdateReferenceIdeal.τ).loc Cert.MixWinUpdateReferenceIdeal.main_arg5) = m ((c.tc : Thread Cert.MixWinUpdateReferenceIdeal.nD Cert.MixWinUpdateReferenceIdeal.τ).loc Cert.MixWinUpdateReferenceIdeal.main_arg5))
      ∧ r.2.sem = fun _ => 0)

def quiescent_AttWqkvUpdate [hAttWqkvUpdate : Cert.AttWqkvUpdate.Facts] [hPre_att_wqkv_update_on_mesh : Cert.Pre_att_wqkv_update_on_mesh.Facts] : Prop :=
  ∀ (m : (ℓ : Loc Cert.AttWqkvUpdate.nD Cert.AttWqkvUpdate.τ Cert.AttWqkvUpdate.sig) → Buf (Elt Bits) ℓ) (g : Dev Cert.AttWqkvUpdate.nD → PrngReg), Pre_AttWqkvUpdate m →
    θ_run (Cert.AttWqkvUpdate.defs (F := Bits)) (onTc (τ := Cert.AttWqkvUpdate.τ) (Cert.AttWqkvUpdate.main (F := Bits))) ⟨m, fun _ => 0, g⟩ (fun r => (∀ c : Dev Cert.AttWqkvUpdate.nD,
      r.2.mem ((c.tc : Thread Cert.AttWqkvUpdate.nD Cert.AttWqkvUpdate.τ).loc Cert.AttWqkvUpdate.main_arg0) = m ((c.tc : Thread Cert.AttWqkvUpdate.nD Cert.AttWqkvUpdate.τ).loc Cert.AttWqkvUpdate.main_arg0)
      ∧ r.2.mem ((c.tc : Thread Cert.AttWqkvUpdate.nD Cert.AttWqkvUpdate.τ).loc Cert.AttWqkvUpdate.main_arg1) = m ((c.tc : Thread Cert.AttWqkvUpdate.nD Cert.AttWqkvUpdate.τ).loc Cert.AttWqkvUpdate.main_arg1)
      ∧ r.2.mem ((c.tc : Thread Cert.AttWqkvUpdate.nD Cert.AttWqkvUpdate.τ).loc Cert.AttWqkvUpdate.main_arg2) = m ((c.tc : Thread Cert.AttWqkvUpdate.nD Cert.AttWqkvUpdate.τ).loc Cert.AttWqkvUpdate.main_arg2)
      ∧ r.2.mem ((c.tc : Thread Cert.AttWqkvUpdate.nD Cert.AttWqkvUpdate.τ).loc Cert.AttWqkvUpdate.main_arg3) = m ((c.tc : Thread Cert.AttWqkvUpdate.nD Cert.AttWqkvUpdate.τ).loc Cert.AttWqkvUpdate.main_arg3)
      ∧ r.2.mem ((c.tc : Thread Cert.AttWqkvUpdate.nD Cert.AttWqkvUpdate.τ).loc Cert.AttWqkvUpdate.main_arg4) = m ((c.tc : Thread Cert.AttWqkvUpdate.nD Cert.AttWqkvUpdate.τ).loc Cert.AttWqkvUpdate.main_arg4)
      ∧ r.2.mem ((c.tc : Thread Cert.AttWqkvUpdate.nD Cert.AttWqkvUpdate.τ).loc Cert.AttWqkvUpdate.main_arg5) = m ((c.tc : Thread Cert.AttWqkvUpdate.nD Cert.AttWqkvUpdate.τ).loc Cert.AttWqkvUpdate.main_arg5))
      ∧ r.2.sem = fun _ => 0)

def quiescent_AttWqkvUpdateIdeal [hAttWqkvUpdateIdeal : Cert.AttWqkvUpdateIdeal.Facts] [hPre_att_wqkv_update_on_mesh : Cert.Pre_att_wqkv_update_on_mesh.Facts] : Prop :=
  ∀ (m : (ℓ : Loc Cert.AttWqkvUpdateIdeal.nD Cert.AttWqkvUpdateIdeal.τ Cert.AttWqkvUpdateIdeal.sig) → Buf (Elt Ideal) ℓ) (g : Dev Cert.AttWqkvUpdateIdeal.nD → PrngReg), Pre_AttWqkvUpdateIdeal m →
    θ_run (Cert.AttWqkvUpdateIdeal.defs (F := Ideal)) (onTc (τ := Cert.AttWqkvUpdateIdeal.τ) (Cert.AttWqkvUpdateIdeal.main (F := Ideal))) ⟨m, fun _ => 0, g⟩ (fun r => (∀ c : Dev Cert.AttWqkvUpdateIdeal.nD,
      r.2.mem ((c.tc : Thread Cert.AttWqkvUpdateIdeal.nD Cert.AttWqkvUpdateIdeal.τ).loc Cert.AttWqkvUpdateIdeal.main_arg0) = m ((c.tc : Thread Cert.AttWqkvUpdateIdeal.nD Cert.AttWqkvUpdateIdeal.τ).loc Cert.AttWqkvUpdateIdeal.main_arg0)
      ∧ r.2.mem ((c.tc : Thread Cert.AttWqkvUpdateIdeal.nD Cert.AttWqkvUpdateIdeal.τ).loc Cert.AttWqkvUpdateIdeal.main_arg1) = m ((c.tc : Thread Cert.AttWqkvUpdateIdeal.nD Cert.AttWqkvUpdateIdeal.τ).loc Cert.AttWqkvUpdateIdeal.main_arg1)
      ∧ r.2.mem ((c.tc : Thread Cert.AttWqkvUpdateIdeal.nD Cert.AttWqkvUpdateIdeal.τ).loc Cert.AttWqkvUpdateIdeal.main_arg2) = m ((c.tc : Thread Cert.AttWqkvUpdateIdeal.nD Cert.AttWqkvUpdateIdeal.τ).loc Cert.AttWqkvUpdateIdeal.main_arg2)
      ∧ r.2.mem ((c.tc : Thread Cert.AttWqkvUpdateIdeal.nD Cert.AttWqkvUpdateIdeal.τ).loc Cert.AttWqkvUpdateIdeal.main_arg3) = m ((c.tc : Thread Cert.AttWqkvUpdateIdeal.nD Cert.AttWqkvUpdateIdeal.τ).loc Cert.AttWqkvUpdateIdeal.main_arg3)
      ∧ r.2.mem ((c.tc : Thread Cert.AttWqkvUpdateIdeal.nD Cert.AttWqkvUpdateIdeal.τ).loc Cert.AttWqkvUpdateIdeal.main_arg4) = m ((c.tc : Thread Cert.AttWqkvUpdateIdeal.nD Cert.AttWqkvUpdateIdeal.τ).loc Cert.AttWqkvUpdateIdeal.main_arg4)
      ∧ r.2.mem ((c.tc : Thread Cert.AttWqkvUpdateIdeal.nD Cert.AttWqkvUpdateIdeal.τ).loc Cert.AttWqkvUpdateIdeal.main_arg5) = m ((c.tc : Thread Cert.AttWqkvUpdateIdeal.nD Cert.AttWqkvUpdateIdeal.τ).loc Cert.AttWqkvUpdateIdeal.main_arg5))
      ∧ r.2.sem = fun _ => 0)

def quiescent_AttWqkvUpdateReferenceIdeal [hAttWqkvUpdateReferenceIdeal : Cert.AttWqkvUpdateReferenceIdeal.Facts] : Prop :=
  ∀ (m : (ℓ : Loc Cert.AttWqkvUpdateReferenceIdeal.nD Cert.AttWqkvUpdateReferenceIdeal.τ Cert.AttWqkvUpdateReferenceIdeal.sig) → Buf (Elt Ideal) ℓ) (g : Dev Cert.AttWqkvUpdateReferenceIdeal.nD → PrngReg), Pre_AttWqkvUpdateReferenceIdeal m →
    θ_run (Cert.AttWqkvUpdateReferenceIdeal.defs (F := Ideal)) (onTc (τ := Cert.AttWqkvUpdateReferenceIdeal.τ) (Cert.AttWqkvUpdateReferenceIdeal.main (F := Ideal))) ⟨m, fun _ => 0, g⟩ (fun r => (∀ c : Dev Cert.AttWqkvUpdateReferenceIdeal.nD,
      r.2.mem ((c.tc : Thread Cert.AttWqkvUpdateReferenceIdeal.nD Cert.AttWqkvUpdateReferenceIdeal.τ).loc Cert.AttWqkvUpdateReferenceIdeal.main_arg0) = m ((c.tc : Thread Cert.AttWqkvUpdateReferenceIdeal.nD Cert.AttWqkvUpdateReferenceIdeal.τ).loc Cert.AttWqkvUpdateReferenceIdeal.main_arg0)
      ∧ r.2.mem ((c.tc : Thread Cert.AttWqkvUpdateReferenceIdeal.nD Cert.AttWqkvUpdateReferenceIdeal.τ).loc Cert.AttWqkvUpdateReferenceIdeal.main_arg1) = m ((c.tc : Thread Cert.AttWqkvUpdateReferenceIdeal.nD Cert.AttWqkvUpdateReferenceIdeal.τ).loc Cert.AttWqkvUpdateReferenceIdeal.main_arg1)
      ∧ r.2.mem ((c.tc : Thread Cert.AttWqkvUpdateReferenceIdeal.nD Cert.AttWqkvUpdateReferenceIdeal.τ).loc Cert.AttWqkvUpdateReferenceIdeal.main_arg2) = m ((c.tc : Thread Cert.AttWqkvUpdateReferenceIdeal.nD Cert.AttWqkvUpdateReferenceIdeal.τ).loc Cert.AttWqkvUpdateReferenceIdeal.main_arg2)
      ∧ r.2.mem ((c.tc : Thread Cert.AttWqkvUpdateReferenceIdeal.nD Cert.AttWqkvUpdateReferenceIdeal.τ).loc Cert.AttWqkvUpdateReferenceIdeal.main_arg3) = m ((c.tc : Thread Cert.AttWqkvUpdateReferenceIdeal.nD Cert.AttWqkvUpdateReferenceIdeal.τ).loc Cert.AttWqkvUpdateReferenceIdeal.main_arg3)
      ∧ r.2.mem ((c.tc : Thread Cert.AttWqkvUpdateReferenceIdeal.nD Cert.AttWqkvUpdateReferenceIdeal.τ).loc Cert.AttWqkvUpdateReferenceIdeal.main_arg4) = m ((c.tc : Thread Cert.AttWqkvUpdateReferenceIdeal.nD Cert.AttWqkvUpdateReferenceIdeal.τ).loc Cert.AttWqkvUpdateReferenceIdeal.main_arg4)
      ∧ r.2.mem ((c.tc : Thread Cert.AttWqkvUpdateReferenceIdeal.nD Cert.AttWqkvUpdateReferenceIdeal.τ).loc Cert.AttWqkvUpdateReferenceIdeal.main_arg5) = m ((c.tc : Thread Cert.AttWqkvUpdateReferenceIdeal.nD Cert.AttWqkvUpdateReferenceIdeal.τ).loc Cert.AttWqkvUpdateReferenceIdeal.main_arg5))
      ∧ r.2.sem = fun _ => 0)

def quiescent_AttWqkvUpdateReferenceIdeal_pre_att_wqkv_update_on_mesh [hAttWqkvUpdateReferenceIdeal : Cert.AttWqkvUpdateReferenceIdeal.Facts] [hPre_att_wqkv_update_on_mesh : Cert.Pre_att_wqkv_update_on_mesh.Facts] : Prop :=
  ∀ (m : (ℓ : Loc Cert.AttWqkvUpdateReferenceIdeal.nD Cert.AttWqkvUpdateReferenceIdeal.τ Cert.AttWqkvUpdateReferenceIdeal.sig) → Buf (Elt Ideal) ℓ) (g : Dev Cert.AttWqkvUpdateReferenceIdeal.nD → PrngReg), Pre_AttWqkvUpdateReferenceIdeal_att_wqkv_update_on_mesh m →
    θ_run (Cert.AttWqkvUpdateReferenceIdeal.defs (F := Ideal)) (onTc (τ := Cert.AttWqkvUpdateReferenceIdeal.τ) (Cert.AttWqkvUpdateReferenceIdeal.main (F := Ideal))) ⟨m, fun _ => 0, g⟩ (fun r => (∀ c : Dev Cert.AttWqkvUpdateReferenceIdeal.nD,
      r.2.mem ((c.tc : Thread Cert.AttWqkvUpdateReferenceIdeal.nD Cert.AttWqkvUpdateReferenceIdeal.τ).loc Cert.AttWqkvUpdateReferenceIdeal.main_arg0) = m ((c.tc : Thread Cert.AttWqkvUpdateReferenceIdeal.nD Cert.AttWqkvUpdateReferenceIdeal.τ).loc Cert.AttWqkvUpdateReferenceIdeal.main_arg0)
      ∧ r.2.mem ((c.tc : Thread Cert.AttWqkvUpdateReferenceIdeal.nD Cert.AttWqkvUpdateReferenceIdeal.τ).loc Cert.AttWqkvUpdateReferenceIdeal.main_arg1) = m ((c.tc : Thread Cert.AttWqkvUpdateReferenceIdeal.nD Cert.AttWqkvUpdateReferenceIdeal.τ).loc Cert.AttWqkvUpdateReferenceIdeal.main_arg1)
      ∧ r.2.mem ((c.tc : Thread Cert.AttWqkvUpdateReferenceIdeal.nD Cert.AttWqkvUpdateReferenceIdeal.τ).loc Cert.AttWqkvUpdateReferenceIdeal.main_arg2) = m ((c.tc : Thread Cert.AttWqkvUpdateReferenceIdeal.nD Cert.AttWqkvUpdateReferenceIdeal.τ).loc Cert.AttWqkvUpdateReferenceIdeal.main_arg2)
      ∧ r.2.mem ((c.tc : Thread Cert.AttWqkvUpdateReferenceIdeal.nD Cert.AttWqkvUpdateReferenceIdeal.τ).loc Cert.AttWqkvUpdateReferenceIdeal.main_arg3) = m ((c.tc : Thread Cert.AttWqkvUpdateReferenceIdeal.nD Cert.AttWqkvUpdateReferenceIdeal.τ).loc Cert.AttWqkvUpdateReferenceIdeal.main_arg3)
      ∧ r.2.mem ((c.tc : Thread Cert.AttWqkvUpdateReferenceIdeal.nD Cert.AttWqkvUpdateReferenceIdeal.τ).loc Cert.AttWqkvUpdateReferenceIdeal.main_arg4) = m ((c.tc : Thread Cert.AttWqkvUpdateReferenceIdeal.nD Cert.AttWqkvUpdateReferenceIdeal.τ).loc Cert.AttWqkvUpdateReferenceIdeal.main_arg4)
      ∧ r.2.mem ((c.tc : Thread Cert.AttWqkvUpdateReferenceIdeal.nD Cert.AttWqkvUpdateReferenceIdeal.τ).loc Cert.AttWqkvUpdateReferenceIdeal.main_arg5) = m ((c.tc : Thread Cert.AttWqkvUpdateReferenceIdeal.nD Cert.AttWqkvUpdateReferenceIdeal.τ).loc Cert.AttWqkvUpdateReferenceIdeal.main_arg5))
      ∧ r.2.sem = fun _ => 0)

def quiescent_FfnWoutUpdate1 [hFfnWoutUpdate1 : Cert.FfnWoutUpdate1.Facts] [hPre_ffn_wout_update1_on_mesh : Cert.Pre_ffn_wout_update1_on_mesh.Facts] : Prop :=
  ∀ (m : (ℓ : Loc Cert.FfnWoutUpdate1.nD Cert.FfnWoutUpdate1.τ Cert.FfnWoutUpdate1.sig) → Buf (Elt Bits) ℓ) (g : Dev Cert.FfnWoutUpdate1.nD → PrngReg), Pre_FfnWoutUpdate1 m →
    θ_run (Cert.FfnWoutUpdate1.defs (F := Bits)) (onTc (τ := Cert.FfnWoutUpdate1.τ) (Cert.FfnWoutUpdate1.main (F := Bits))) ⟨m, fun _ => 0, g⟩ (fun r => (∀ c : Dev Cert.FfnWoutUpdate1.nD,
      r.2.mem ((c.tc : Thread Cert.FfnWoutUpdate1.nD Cert.FfnWoutUpdate1.τ).loc Cert.FfnWoutUpdate1.main_arg0) = m ((c.tc : Thread Cert.FfnWoutUpdate1.nD Cert.FfnWoutUpdate1.τ).loc Cert.FfnWoutUpdate1.main_arg0)
      ∧ r.2.mem ((c.tc : Thread Cert.FfnWoutUpdate1.nD Cert.FfnWoutUpdate1.τ).loc Cert.FfnWoutUpdate1.main_arg1) = m ((c.tc : Thread Cert.FfnWoutUpdate1.nD Cert.FfnWoutUpdate1.τ).loc Cert.FfnWoutUpdate1.main_arg1)
      ∧ r.2.mem ((c.tc : Thread Cert.FfnWoutUpdate1.nD Cert.FfnWoutUpdate1.τ).loc Cert.FfnWoutUpdate1.main_arg2) = m ((c.tc : Thread Cert.FfnWoutUpdate1.nD Cert.FfnWoutUpdate1.τ).loc Cert.FfnWoutUpdate1.main_arg2)
      ∧ r.2.mem ((c.tc : Thread Cert.FfnWoutUpdate1.nD Cert.FfnWoutUpdate1.τ).loc Cert.FfnWoutUpdate1.main_arg3) = m ((c.tc : Thread Cert.FfnWoutUpdate1.nD Cert.FfnWoutUpdate1.τ).loc Cert.FfnWoutUpdate1.main_arg3)
      ∧ r.2.mem ((c.tc : Thread Cert.FfnWoutUpdate1.nD Cert.FfnWoutUpdate1.τ).loc Cert.FfnWoutUpdate1.main_arg4) = m ((c.tc : Thread Cert.FfnWoutUpdate1.nD Cert.FfnWoutUpdate1.τ).loc Cert.FfnWoutUpdate1.main_arg4)
      ∧ r.2.mem ((c.tc : Thread Cert.FfnWoutUpdate1.nD Cert.FfnWoutUpdate1.τ).loc Cert.FfnWoutUpdate1.main_arg5) = m ((c.tc : Thread Cert.FfnWoutUpdate1.nD Cert.FfnWoutUpdate1.τ).loc Cert.FfnWoutUpdate1.main_arg5))
      ∧ r.2.sem = fun _ => 0)

def quiescent_FfnWoutUpdate1Ideal [hFfnWoutUpdate1Ideal : Cert.FfnWoutUpdate1Ideal.Facts] [hPre_ffn_wout_update1_on_mesh : Cert.Pre_ffn_wout_update1_on_mesh.Facts] : Prop :=
  ∀ (m : (ℓ : Loc Cert.FfnWoutUpdate1Ideal.nD Cert.FfnWoutUpdate1Ideal.τ Cert.FfnWoutUpdate1Ideal.sig) → Buf (Elt Ideal) ℓ) (g : Dev Cert.FfnWoutUpdate1Ideal.nD → PrngReg), Pre_FfnWoutUpdate1Ideal m →
    θ_run (Cert.FfnWoutUpdate1Ideal.defs (F := Ideal)) (onTc (τ := Cert.FfnWoutUpdate1Ideal.τ) (Cert.FfnWoutUpdate1Ideal.main (F := Ideal))) ⟨m, fun _ => 0, g⟩ (fun r => (∀ c : Dev Cert.FfnWoutUpdate1Ideal.nD,
      r.2.mem ((c.tc : Thread Cert.FfnWoutUpdate1Ideal.nD Cert.FfnWoutUpdate1Ideal.τ).loc Cert.FfnWoutUpdate1Ideal.main_arg0) = m ((c.tc : Thread Cert.FfnWoutUpdate1Ideal.nD Cert.FfnWoutUpdate1Ideal.τ).loc Cert.FfnWoutUpdate1Ideal.main_arg0)
      ∧ r.2.mem ((c.tc : Thread Cert.FfnWoutUpdate1Ideal.nD Cert.FfnWoutUpdate1Ideal.τ).loc Cert.FfnWoutUpdate1Ideal.main_arg1) = m ((c.tc : Thread Cert.FfnWoutUpdate1Ideal.nD Cert.FfnWoutUpdate1Ideal.τ).loc Cert.FfnWoutUpdate1Ideal.main_arg1)
      ∧ r.2.mem ((c.tc : Thread Cert.FfnWoutUpdate1Ideal.nD Cert.FfnWoutUpdate1Ideal.τ).loc Cert.FfnWoutUpdate1Ideal.main_arg2) = m ((c.tc : Thread Cert.FfnWoutUpdate1Ideal.nD Cert.FfnWoutUpdate1Ideal.τ).loc Cert.FfnWoutUpdate1Ideal.main_arg2)
      ∧ r.2.mem ((c.tc : Thread Cert.FfnWoutUpdate1Ideal.nD Cert.FfnWoutUpdate1Ideal.τ).loc Cert.FfnWoutUpdate1Ideal.main_arg3) = m ((c.tc : Thread Cert.FfnWoutUpdate1Ideal.nD Cert.FfnWoutUpdate1Ideal.τ).loc Cert.FfnWoutUpdate1Ideal.main_arg3)
      ∧ r.2.mem ((c.tc : Thread Cert.FfnWoutUpdate1Ideal.nD Cert.FfnWoutUpdate1Ideal.τ).loc Cert.FfnWoutUpdate1Ideal.main_arg4) = m ((c.tc : Thread Cert.FfnWoutUpdate1Ideal.nD Cert.FfnWoutUpdate1Ideal.τ).loc Cert.FfnWoutUpdate1Ideal.main_arg4)
      ∧ r.2.mem ((c.tc : Thread Cert.FfnWoutUpdate1Ideal.nD Cert.FfnWoutUpdate1Ideal.τ).loc Cert.FfnWoutUpdate1Ideal.main_arg5) = m ((c.tc : Thread Cert.FfnWoutUpdate1Ideal.nD Cert.FfnWoutUpdate1Ideal.τ).loc Cert.FfnWoutUpdate1Ideal.main_arg5))
      ∧ r.2.sem = fun _ => 0)

def quiescent_FfnWoutUpdate1ReferenceIdeal [hFfnWoutUpdate1ReferenceIdeal : Cert.FfnWoutUpdate1ReferenceIdeal.Facts] : Prop :=
  ∀ (m : (ℓ : Loc Cert.FfnWoutUpdate1ReferenceIdeal.nD Cert.FfnWoutUpdate1ReferenceIdeal.τ Cert.FfnWoutUpdate1ReferenceIdeal.sig) → Buf (Elt Ideal) ℓ) (g : Dev Cert.FfnWoutUpdate1ReferenceIdeal.nD → PrngReg), Pre_FfnWoutUpdate1ReferenceIdeal m →
    θ_run (Cert.FfnWoutUpdate1ReferenceIdeal.defs (F := Ideal)) (onTc (τ := Cert.FfnWoutUpdate1ReferenceIdeal.τ) (Cert.FfnWoutUpdate1ReferenceIdeal.main (F := Ideal))) ⟨m, fun _ => 0, g⟩ (fun r => (∀ c : Dev Cert.FfnWoutUpdate1ReferenceIdeal.nD,
      r.2.mem ((c.tc : Thread Cert.FfnWoutUpdate1ReferenceIdeal.nD Cert.FfnWoutUpdate1ReferenceIdeal.τ).loc Cert.FfnWoutUpdate1ReferenceIdeal.main_arg0) = m ((c.tc : Thread Cert.FfnWoutUpdate1ReferenceIdeal.nD Cert.FfnWoutUpdate1ReferenceIdeal.τ).loc Cert.FfnWoutUpdate1ReferenceIdeal.main_arg0)
      ∧ r.2.mem ((c.tc : Thread Cert.FfnWoutUpdate1ReferenceIdeal.nD Cert.FfnWoutUpdate1ReferenceIdeal.τ).loc Cert.FfnWoutUpdate1ReferenceIdeal.main_arg1) = m ((c.tc : Thread Cert.FfnWoutUpdate1ReferenceIdeal.nD Cert.FfnWoutUpdate1ReferenceIdeal.τ).loc Cert.FfnWoutUpdate1ReferenceIdeal.main_arg1)
      ∧ r.2.mem ((c.tc : Thread Cert.FfnWoutUpdate1ReferenceIdeal.nD Cert.FfnWoutUpdate1ReferenceIdeal.τ).loc Cert.FfnWoutUpdate1ReferenceIdeal.main_arg2) = m ((c.tc : Thread Cert.FfnWoutUpdate1ReferenceIdeal.nD Cert.FfnWoutUpdate1ReferenceIdeal.τ).loc Cert.FfnWoutUpdate1ReferenceIdeal.main_arg2)
      ∧ r.2.mem ((c.tc : Thread Cert.FfnWoutUpdate1ReferenceIdeal.nD Cert.FfnWoutUpdate1ReferenceIdeal.τ).loc Cert.FfnWoutUpdate1ReferenceIdeal.main_arg3) = m ((c.tc : Thread Cert.FfnWoutUpdate1ReferenceIdeal.nD Cert.FfnWoutUpdate1ReferenceIdeal.τ).loc Cert.FfnWoutUpdate1ReferenceIdeal.main_arg3)
      ∧ r.2.mem ((c.tc : Thread Cert.FfnWoutUpdate1ReferenceIdeal.nD Cert.FfnWoutUpdate1ReferenceIdeal.τ).loc Cert.FfnWoutUpdate1ReferenceIdeal.main_arg4) = m ((c.tc : Thread Cert.FfnWoutUpdate1ReferenceIdeal.nD Cert.FfnWoutUpdate1ReferenceIdeal.τ).loc Cert.FfnWoutUpdate1ReferenceIdeal.main_arg4)
      ∧ r.2.mem ((c.tc : Thread Cert.FfnWoutUpdate1ReferenceIdeal.nD Cert.FfnWoutUpdate1ReferenceIdeal.τ).loc Cert.FfnWoutUpdate1ReferenceIdeal.main_arg5) = m ((c.tc : Thread Cert.FfnWoutUpdate1ReferenceIdeal.nD Cert.FfnWoutUpdate1ReferenceIdeal.τ).loc Cert.FfnWoutUpdate1ReferenceIdeal.main_arg5))
      ∧ r.2.sem = fun _ => 0)

def quiescent_FfnWoutUpdate1ReferenceIdeal_pre_ffn_wout_update1_on_mesh [hFfnWoutUpdate1ReferenceIdeal : Cert.FfnWoutUpdate1ReferenceIdeal.Facts] [hPre_ffn_wout_update1_on_mesh : Cert.Pre_ffn_wout_update1_on_mesh.Facts] : Prop :=
  ∀ (m : (ℓ : Loc Cert.FfnWoutUpdate1ReferenceIdeal.nD Cert.FfnWoutUpdate1ReferenceIdeal.τ Cert.FfnWoutUpdate1ReferenceIdeal.sig) → Buf (Elt Ideal) ℓ) (g : Dev Cert.FfnWoutUpdate1ReferenceIdeal.nD → PrngReg), Pre_FfnWoutUpdate1ReferenceIdeal_ffn_wout_update1_on_mesh m →
    θ_run (Cert.FfnWoutUpdate1ReferenceIdeal.defs (F := Ideal)) (onTc (τ := Cert.FfnWoutUpdate1ReferenceIdeal.τ) (Cert.FfnWoutUpdate1ReferenceIdeal.main (F := Ideal))) ⟨m, fun _ => 0, g⟩ (fun r => (∀ c : Dev Cert.FfnWoutUpdate1ReferenceIdeal.nD,
      r.2.mem ((c.tc : Thread Cert.FfnWoutUpdate1ReferenceIdeal.nD Cert.FfnWoutUpdate1ReferenceIdeal.τ).loc Cert.FfnWoutUpdate1ReferenceIdeal.main_arg0) = m ((c.tc : Thread Cert.FfnWoutUpdate1ReferenceIdeal.nD Cert.FfnWoutUpdate1ReferenceIdeal.τ).loc Cert.FfnWoutUpdate1ReferenceIdeal.main_arg0)
      ∧ r.2.mem ((c.tc : Thread Cert.FfnWoutUpdate1ReferenceIdeal.nD Cert.FfnWoutUpdate1ReferenceIdeal.τ).loc Cert.FfnWoutUpdate1ReferenceIdeal.main_arg1) = m ((c.tc : Thread Cert.FfnWoutUpdate1ReferenceIdeal.nD Cert.FfnWoutUpdate1ReferenceIdeal.τ).loc Cert.FfnWoutUpdate1ReferenceIdeal.main_arg1)
      ∧ r.2.mem ((c.tc : Thread Cert.FfnWoutUpdate1ReferenceIdeal.nD Cert.FfnWoutUpdate1ReferenceIdeal.τ).loc Cert.FfnWoutUpdate1ReferenceIdeal.main_arg2) = m ((c.tc : Thread Cert.FfnWoutUpdate1ReferenceIdeal.nD Cert.FfnWoutUpdate1ReferenceIdeal.τ).loc Cert.FfnWoutUpdate1ReferenceIdeal.main_arg2)
      ∧ r.2.mem ((c.tc : Thread Cert.FfnWoutUpdate1ReferenceIdeal.nD Cert.FfnWoutUpdate1ReferenceIdeal.τ).loc Cert.FfnWoutUpdate1ReferenceIdeal.main_arg3) = m ((c.tc : Thread Cert.FfnWoutUpdate1ReferenceIdeal.nD Cert.FfnWoutUpdate1ReferenceIdeal.τ).loc Cert.FfnWoutUpdate1ReferenceIdeal.main_arg3)
      ∧ r.2.mem ((c.tc : Thread Cert.FfnWoutUpdate1ReferenceIdeal.nD Cert.FfnWoutUpdate1ReferenceIdeal.τ).loc Cert.FfnWoutUpdate1ReferenceIdeal.main_arg4) = m ((c.tc : Thread Cert.FfnWoutUpdate1ReferenceIdeal.nD Cert.FfnWoutUpdate1ReferenceIdeal.τ).loc Cert.FfnWoutUpdate1ReferenceIdeal.main_arg4)
      ∧ r.2.mem ((c.tc : Thread Cert.FfnWoutUpdate1ReferenceIdeal.nD Cert.FfnWoutUpdate1ReferenceIdeal.τ).loc Cert.FfnWoutUpdate1ReferenceIdeal.main_arg5) = m ((c.tc : Thread Cert.FfnWoutUpdate1ReferenceIdeal.nD Cert.FfnWoutUpdate1ReferenceIdeal.τ).loc Cert.FfnWoutUpdate1ReferenceIdeal.main_arg5))
      ∧ r.2.sem = fun _ => 0)

def quiescent_FfnWinUpdate1 [hFfnWinUpdate1 : Cert.FfnWinUpdate1.Facts] [hPre_ffn_win_update1_on_mesh : Cert.Pre_ffn_win_update1_on_mesh.Facts] : Prop :=
  ∀ (m : (ℓ : Loc Cert.FfnWinUpdate1.nD Cert.FfnWinUpdate1.τ Cert.FfnWinUpdate1.sig) → Buf (Elt Bits) ℓ) (g : Dev Cert.FfnWinUpdate1.nD → PrngReg), Pre_FfnWinUpdate1 m →
    θ_run (Cert.FfnWinUpdate1.defs (F := Bits)) (onTc (τ := Cert.FfnWinUpdate1.τ) (Cert.FfnWinUpdate1.main (F := Bits))) ⟨m, fun _ => 0, g⟩ (fun r => (∀ c : Dev Cert.FfnWinUpdate1.nD,
      r.2.mem ((c.tc : Thread Cert.FfnWinUpdate1.nD Cert.FfnWinUpdate1.τ).loc Cert.FfnWinUpdate1.main_arg0) = m ((c.tc : Thread Cert.FfnWinUpdate1.nD Cert.FfnWinUpdate1.τ).loc Cert.FfnWinUpdate1.main_arg0)
      ∧ r.2.mem ((c.tc : Thread Cert.FfnWinUpdate1.nD Cert.FfnWinUpdate1.τ).loc Cert.FfnWinUpdate1.main_arg1) = m ((c.tc : Thread Cert.FfnWinUpdate1.nD Cert.FfnWinUpdate1.τ).loc Cert.FfnWinUpdate1.main_arg1)
      ∧ r.2.mem ((c.tc : Thread Cert.FfnWinUpdate1.nD Cert.FfnWinUpdate1.τ).loc Cert.FfnWinUpdate1.main_arg2) = m ((c.tc : Thread Cert.FfnWinUpdate1.nD Cert.FfnWinUpdate1.τ).loc Cert.FfnWinUpdate1.main_arg2)
      ∧ r.2.mem ((c.tc : Thread Cert.FfnWinUpdate1.nD Cert.FfnWinUpdate1.τ).loc Cert.FfnWinUpdate1.main_arg3) = m ((c.tc : Thread Cert.FfnWinUpdate1.nD Cert.FfnWinUpdate1.τ).loc Cert.FfnWinUpdate1.main_arg3)
      ∧ r.2.mem ((c.tc : Thread Cert.FfnWinUpdate1.nD Cert.FfnWinUpdate1.τ).loc Cert.FfnWinUpdate1.main_arg4) = m ((c.tc : Thread Cert.FfnWinUpdate1.nD Cert.FfnWinUpdate1.τ).loc Cert.FfnWinUpdate1.main_arg4)
      ∧ r.2.mem ((c.tc : Thread Cert.FfnWinUpdate1.nD Cert.FfnWinUpdate1.τ).loc Cert.FfnWinUpdate1.main_arg5) = m ((c.tc : Thread Cert.FfnWinUpdate1.nD Cert.FfnWinUpdate1.τ).loc Cert.FfnWinUpdate1.main_arg5))
      ∧ r.2.sem = fun _ => 0)

def quiescent_FfnWinUpdate1Ideal [hFfnWinUpdate1Ideal : Cert.FfnWinUpdate1Ideal.Facts] [hPre_ffn_win_update1_on_mesh : Cert.Pre_ffn_win_update1_on_mesh.Facts] : Prop :=
  ∀ (m : (ℓ : Loc Cert.FfnWinUpdate1Ideal.nD Cert.FfnWinUpdate1Ideal.τ Cert.FfnWinUpdate1Ideal.sig) → Buf (Elt Ideal) ℓ) (g : Dev Cert.FfnWinUpdate1Ideal.nD → PrngReg), Pre_FfnWinUpdate1Ideal m →
    θ_run (Cert.FfnWinUpdate1Ideal.defs (F := Ideal)) (onTc (τ := Cert.FfnWinUpdate1Ideal.τ) (Cert.FfnWinUpdate1Ideal.main (F := Ideal))) ⟨m, fun _ => 0, g⟩ (fun r => (∀ c : Dev Cert.FfnWinUpdate1Ideal.nD,
      r.2.mem ((c.tc : Thread Cert.FfnWinUpdate1Ideal.nD Cert.FfnWinUpdate1Ideal.τ).loc Cert.FfnWinUpdate1Ideal.main_arg0) = m ((c.tc : Thread Cert.FfnWinUpdate1Ideal.nD Cert.FfnWinUpdate1Ideal.τ).loc Cert.FfnWinUpdate1Ideal.main_arg0)
      ∧ r.2.mem ((c.tc : Thread Cert.FfnWinUpdate1Ideal.nD Cert.FfnWinUpdate1Ideal.τ).loc Cert.FfnWinUpdate1Ideal.main_arg1) = m ((c.tc : Thread Cert.FfnWinUpdate1Ideal.nD Cert.FfnWinUpdate1Ideal.τ).loc Cert.FfnWinUpdate1Ideal.main_arg1)
      ∧ r.2.mem ((c.tc : Thread Cert.FfnWinUpdate1Ideal.nD Cert.FfnWinUpdate1Ideal.τ).loc Cert.FfnWinUpdate1Ideal.main_arg2) = m ((c.tc : Thread Cert.FfnWinUpdate1Ideal.nD Cert.FfnWinUpdate1Ideal.τ).loc Cert.FfnWinUpdate1Ideal.main_arg2)
      ∧ r.2.mem ((c.tc : Thread Cert.FfnWinUpdate1Ideal.nD Cert.FfnWinUpdate1Ideal.τ).loc Cert.FfnWinUpdate1Ideal.main_arg3) = m ((c.tc : Thread Cert.FfnWinUpdate1Ideal.nD Cert.FfnWinUpdate1Ideal.τ).loc Cert.FfnWinUpdate1Ideal.main_arg3)
      ∧ r.2.mem ((c.tc : Thread Cert.FfnWinUpdate1Ideal.nD Cert.FfnWinUpdate1Ideal.τ).loc Cert.FfnWinUpdate1Ideal.main_arg4) = m ((c.tc : Thread Cert.FfnWinUpdate1Ideal.nD Cert.FfnWinUpdate1Ideal.τ).loc Cert.FfnWinUpdate1Ideal.main_arg4)
      ∧ r.2.mem ((c.tc : Thread Cert.FfnWinUpdate1Ideal.nD Cert.FfnWinUpdate1Ideal.τ).loc Cert.FfnWinUpdate1Ideal.main_arg5) = m ((c.tc : Thread Cert.FfnWinUpdate1Ideal.nD Cert.FfnWinUpdate1Ideal.τ).loc Cert.FfnWinUpdate1Ideal.main_arg5))
      ∧ r.2.sem = fun _ => 0)

def quiescent_FfnWinUpdate1ReferenceIdeal [hFfnWinUpdate1ReferenceIdeal : Cert.FfnWinUpdate1ReferenceIdeal.Facts] : Prop :=
  ∀ (m : (ℓ : Loc Cert.FfnWinUpdate1ReferenceIdeal.nD Cert.FfnWinUpdate1ReferenceIdeal.τ Cert.FfnWinUpdate1ReferenceIdeal.sig) → Buf (Elt Ideal) ℓ) (g : Dev Cert.FfnWinUpdate1ReferenceIdeal.nD → PrngReg), Pre_FfnWinUpdate1ReferenceIdeal m →
    θ_run (Cert.FfnWinUpdate1ReferenceIdeal.defs (F := Ideal)) (onTc (τ := Cert.FfnWinUpdate1ReferenceIdeal.τ) (Cert.FfnWinUpdate1ReferenceIdeal.main (F := Ideal))) ⟨m, fun _ => 0, g⟩ (fun r => (∀ c : Dev Cert.FfnWinUpdate1ReferenceIdeal.nD,
      r.2.mem ((c.tc : Thread Cert.FfnWinUpdate1ReferenceIdeal.nD Cert.FfnWinUpdate1ReferenceIdeal.τ).loc Cert.FfnWinUpdate1ReferenceIdeal.main_arg0) = m ((c.tc : Thread Cert.FfnWinUpdate1ReferenceIdeal.nD Cert.FfnWinUpdate1ReferenceIdeal.τ).loc Cert.FfnWinUpdate1ReferenceIdeal.main_arg0)
      ∧ r.2.mem ((c.tc : Thread Cert.FfnWinUpdate1ReferenceIdeal.nD Cert.FfnWinUpdate1ReferenceIdeal.τ).loc Cert.FfnWinUpdate1ReferenceIdeal.main_arg1) = m ((c.tc : Thread Cert.FfnWinUpdate1ReferenceIdeal.nD Cert.FfnWinUpdate1ReferenceIdeal.τ).loc Cert.FfnWinUpdate1ReferenceIdeal.main_arg1)
      ∧ r.2.mem ((c.tc : Thread Cert.FfnWinUpdate1ReferenceIdeal.nD Cert.FfnWinUpdate1ReferenceIdeal.τ).loc Cert.FfnWinUpdate1ReferenceIdeal.main_arg2) = m ((c.tc : Thread Cert.FfnWinUpdate1ReferenceIdeal.nD Cert.FfnWinUpdate1ReferenceIdeal.τ).loc Cert.FfnWinUpdate1ReferenceIdeal.main_arg2)
      ∧ r.2.mem ((c.tc : Thread Cert.FfnWinUpdate1ReferenceIdeal.nD Cert.FfnWinUpdate1ReferenceIdeal.τ).loc Cert.FfnWinUpdate1ReferenceIdeal.main_arg3) = m ((c.tc : Thread Cert.FfnWinUpdate1ReferenceIdeal.nD Cert.FfnWinUpdate1ReferenceIdeal.τ).loc Cert.FfnWinUpdate1ReferenceIdeal.main_arg3)
      ∧ r.2.mem ((c.tc : Thread Cert.FfnWinUpdate1ReferenceIdeal.nD Cert.FfnWinUpdate1ReferenceIdeal.τ).loc Cert.FfnWinUpdate1ReferenceIdeal.main_arg4) = m ((c.tc : Thread Cert.FfnWinUpdate1ReferenceIdeal.nD Cert.FfnWinUpdate1ReferenceIdeal.τ).loc Cert.FfnWinUpdate1ReferenceIdeal.main_arg4)
      ∧ r.2.mem ((c.tc : Thread Cert.FfnWinUpdate1ReferenceIdeal.nD Cert.FfnWinUpdate1ReferenceIdeal.τ).loc Cert.FfnWinUpdate1ReferenceIdeal.main_arg5) = m ((c.tc : Thread Cert.FfnWinUpdate1ReferenceIdeal.nD Cert.FfnWinUpdate1ReferenceIdeal.τ).loc Cert.FfnWinUpdate1ReferenceIdeal.main_arg5))
      ∧ r.2.sem = fun _ => 0)

def quiescent_FfnWinUpdate1ReferenceIdeal_pre_ffn_win_update1_on_mesh [hFfnWinUpdate1ReferenceIdeal : Cert.FfnWinUpdate1ReferenceIdeal.Facts] [hPre_ffn_win_update1_on_mesh : Cert.Pre_ffn_win_update1_on_mesh.Facts] : Prop :=
  ∀ (m : (ℓ : Loc Cert.FfnWinUpdate1ReferenceIdeal.nD Cert.FfnWinUpdate1ReferenceIdeal.τ Cert.FfnWinUpdate1ReferenceIdeal.sig) → Buf (Elt Ideal) ℓ) (g : Dev Cert.FfnWinUpdate1ReferenceIdeal.nD → PrngReg), Pre_FfnWinUpdate1ReferenceIdeal_ffn_win_update1_on_mesh m →
    θ_run (Cert.FfnWinUpdate1ReferenceIdeal.defs (F := Ideal)) (onTc (τ := Cert.FfnWinUpdate1ReferenceIdeal.τ) (Cert.FfnWinUpdate1ReferenceIdeal.main (F := Ideal))) ⟨m, fun _ => 0, g⟩ (fun r => (∀ c : Dev Cert.FfnWinUpdate1ReferenceIdeal.nD,
      r.2.mem ((c.tc : Thread Cert.FfnWinUpdate1ReferenceIdeal.nD Cert.FfnWinUpdate1ReferenceIdeal.τ).loc Cert.FfnWinUpdate1ReferenceIdeal.main_arg0) = m ((c.tc : Thread Cert.FfnWinUpdate1ReferenceIdeal.nD Cert.FfnWinUpdate1ReferenceIdeal.τ).loc Cert.FfnWinUpdate1ReferenceIdeal.main_arg0)
      ∧ r.2.mem ((c.tc : Thread Cert.FfnWinUpdate1ReferenceIdeal.nD Cert.FfnWinUpdate1ReferenceIdeal.τ).loc Cert.FfnWinUpdate1ReferenceIdeal.main_arg1) = m ((c.tc : Thread Cert.FfnWinUpdate1ReferenceIdeal.nD Cert.FfnWinUpdate1ReferenceIdeal.τ).loc Cert.FfnWinUpdate1ReferenceIdeal.main_arg1)
      ∧ r.2.mem ((c.tc : Thread Cert.FfnWinUpdate1ReferenceIdeal.nD Cert.FfnWinUpdate1ReferenceIdeal.τ).loc Cert.FfnWinUpdate1ReferenceIdeal.main_arg2) = m ((c.tc : Thread Cert.FfnWinUpdate1ReferenceIdeal.nD Cert.FfnWinUpdate1ReferenceIdeal.τ).loc Cert.FfnWinUpdate1ReferenceIdeal.main_arg2)
      ∧ r.2.mem ((c.tc : Thread Cert.FfnWinUpdate1ReferenceIdeal.nD Cert.FfnWinUpdate1ReferenceIdeal.τ).loc Cert.FfnWinUpdate1ReferenceIdeal.main_arg3) = m ((c.tc : Thread Cert.FfnWinUpdate1ReferenceIdeal.nD Cert.FfnWinUpdate1ReferenceIdeal.τ).loc Cert.FfnWinUpdate1ReferenceIdeal.main_arg3)
      ∧ r.2.mem ((c.tc : Thread Cert.FfnWinUpdate1ReferenceIdeal.nD Cert.FfnWinUpdate1ReferenceIdeal.τ).loc Cert.FfnWinUpdate1ReferenceIdeal.main_arg4) = m ((c.tc : Thread Cert.FfnWinUpdate1ReferenceIdeal.nD Cert.FfnWinUpdate1ReferenceIdeal.τ).loc Cert.FfnWinUpdate1ReferenceIdeal.main_arg4)
      ∧ r.2.mem ((c.tc : Thread Cert.FfnWinUpdate1ReferenceIdeal.nD Cert.FfnWinUpdate1ReferenceIdeal.τ).loc Cert.FfnWinUpdate1ReferenceIdeal.main_arg5) = m ((c.tc : Thread Cert.FfnWinUpdate1ReferenceIdeal.nD Cert.FfnWinUpdate1ReferenceIdeal.τ).loc Cert.FfnWinUpdate1ReferenceIdeal.main_arg5))
      ∧ r.2.sem = fun _ => 0)

def quiescent_FfnWoutUpdate [hFfnWoutUpdate : Cert.FfnWoutUpdate.Facts] [hPre_ffn_wout_update_on_mesh : Cert.Pre_ffn_wout_update_on_mesh.Facts] : Prop :=
  ∀ (m : (ℓ : Loc Cert.FfnWoutUpdate.nD Cert.FfnWoutUpdate.τ Cert.FfnWoutUpdate.sig) → Buf (Elt Bits) ℓ) (g : Dev Cert.FfnWoutUpdate.nD → PrngReg), Pre_FfnWoutUpdate m →
    θ_run (Cert.FfnWoutUpdate.defs (F := Bits)) (onTc (τ := Cert.FfnWoutUpdate.τ) (Cert.FfnWoutUpdate.main (F := Bits))) ⟨m, fun _ => 0, g⟩ (fun r => (∀ c : Dev Cert.FfnWoutUpdate.nD,
      r.2.mem ((c.tc : Thread Cert.FfnWoutUpdate.nD Cert.FfnWoutUpdate.τ).loc Cert.FfnWoutUpdate.main_arg0) = m ((c.tc : Thread Cert.FfnWoutUpdate.nD Cert.FfnWoutUpdate.τ).loc Cert.FfnWoutUpdate.main_arg0)
      ∧ r.2.mem ((c.tc : Thread Cert.FfnWoutUpdate.nD Cert.FfnWoutUpdate.τ).loc Cert.FfnWoutUpdate.main_arg1) = m ((c.tc : Thread Cert.FfnWoutUpdate.nD Cert.FfnWoutUpdate.τ).loc Cert.FfnWoutUpdate.main_arg1)
      ∧ r.2.mem ((c.tc : Thread Cert.FfnWoutUpdate.nD Cert.FfnWoutUpdate.τ).loc Cert.FfnWoutUpdate.main_arg2) = m ((c.tc : Thread Cert.FfnWoutUpdate.nD Cert.FfnWoutUpdate.τ).loc Cert.FfnWoutUpdate.main_arg2)
      ∧ r.2.mem ((c.tc : Thread Cert.FfnWoutUpdate.nD Cert.FfnWoutUpdate.τ).loc Cert.FfnWoutUpdate.main_arg3) = m ((c.tc : Thread Cert.FfnWoutUpdate.nD Cert.FfnWoutUpdate.τ).loc Cert.FfnWoutUpdate.main_arg3)
      ∧ r.2.mem ((c.tc : Thread Cert.FfnWoutUpdate.nD Cert.FfnWoutUpdate.τ).loc Cert.FfnWoutUpdate.main_arg4) = m ((c.tc : Thread Cert.FfnWoutUpdate.nD Cert.FfnWoutUpdate.τ).loc Cert.FfnWoutUpdate.main_arg4)
      ∧ r.2.mem ((c.tc : Thread Cert.FfnWoutUpdate.nD Cert.FfnWoutUpdate.τ).loc Cert.FfnWoutUpdate.main_arg5) = m ((c.tc : Thread Cert.FfnWoutUpdate.nD Cert.FfnWoutUpdate.τ).loc Cert.FfnWoutUpdate.main_arg5)
      ∧ r.2.mem ((c.tc : Thread Cert.FfnWoutUpdate.nD Cert.FfnWoutUpdate.τ).loc Cert.FfnWoutUpdate.main_arg6) = m ((c.tc : Thread Cert.FfnWoutUpdate.nD Cert.FfnWoutUpdate.τ).loc Cert.FfnWoutUpdate.main_arg6)
      ∧ r.2.mem ((c.tc : Thread Cert.FfnWoutUpdate.nD Cert.FfnWoutUpdate.τ).loc Cert.FfnWoutUpdate.main_arg7) = m ((c.tc : Thread Cert.FfnWoutUpdate.nD Cert.FfnWoutUpdate.τ).loc Cert.FfnWoutUpdate.main_arg7)
      ∧ r.2.mem ((c.tc : Thread Cert.FfnWoutUpdate.nD Cert.FfnWoutUpdate.τ).loc Cert.FfnWoutUpdate.main_arg8) = m ((c.tc : Thread Cert.FfnWoutUpdate.nD Cert.FfnWoutUpdate.τ).loc Cert.FfnWoutUpdate.main_arg8)
      ∧ r.2.mem ((c.tc : Thread Cert.FfnWoutUpdate.nD Cert.FfnWoutUpdate.τ).loc Cert.FfnWoutUpdate.main_arg9) = m ((c.tc : Thread Cert.FfnWoutUpdate.nD Cert.FfnWoutUpdate.τ).loc Cert.FfnWoutUpdate.main_arg9))
      ∧ r.2.sem = fun _ => 0)

def quiescent_FfnWoutUpdateIdeal [hFfnWoutUpdateIdeal : Cert.FfnWoutUpdateIdeal.Facts] [hPre_ffn_wout_update_on_mesh : Cert.Pre_ffn_wout_update_on_mesh.Facts] : Prop :=
  ∀ (m : (ℓ : Loc Cert.FfnWoutUpdateIdeal.nD Cert.FfnWoutUpdateIdeal.τ Cert.FfnWoutUpdateIdeal.sig) → Buf (Elt Ideal) ℓ) (g : Dev Cert.FfnWoutUpdateIdeal.nD → PrngReg), Pre_FfnWoutUpdateIdeal m →
    θ_run (Cert.FfnWoutUpdateIdeal.defs (F := Ideal)) (onTc (τ := Cert.FfnWoutUpdateIdeal.τ) (Cert.FfnWoutUpdateIdeal.main (F := Ideal))) ⟨m, fun _ => 0, g⟩ (fun r => (∀ c : Dev Cert.FfnWoutUpdateIdeal.nD,
      r.2.mem ((c.tc : Thread Cert.FfnWoutUpdateIdeal.nD Cert.FfnWoutUpdateIdeal.τ).loc Cert.FfnWoutUpdateIdeal.main_arg0) = m ((c.tc : Thread Cert.FfnWoutUpdateIdeal.nD Cert.FfnWoutUpdateIdeal.τ).loc Cert.FfnWoutUpdateIdeal.main_arg0)
      ∧ r.2.mem ((c.tc : Thread Cert.FfnWoutUpdateIdeal.nD Cert.FfnWoutUpdateIdeal.τ).loc Cert.FfnWoutUpdateIdeal.main_arg1) = m ((c.tc : Thread Cert.FfnWoutUpdateIdeal.nD Cert.FfnWoutUpdateIdeal.τ).loc Cert.FfnWoutUpdateIdeal.main_arg1)
      ∧ r.2.mem ((c.tc : Thread Cert.FfnWoutUpdateIdeal.nD Cert.FfnWoutUpdateIdeal.τ).loc Cert.FfnWoutUpdateIdeal.main_arg2) = m ((c.tc : Thread Cert.FfnWoutUpdateIdeal.nD Cert.FfnWoutUpdateIdeal.τ).loc Cert.FfnWoutUpdateIdeal.main_arg2)
      ∧ r.2.mem ((c.tc : Thread Cert.FfnWoutUpdateIdeal.nD Cert.FfnWoutUpdateIdeal.τ).loc Cert.FfnWoutUpdateIdeal.main_arg3) = m ((c.tc : Thread Cert.FfnWoutUpdateIdeal.nD Cert.FfnWoutUpdateIdeal.τ).loc Cert.FfnWoutUpdateIdeal.main_arg3)
      ∧ r.2.mem ((c.tc : Thread Cert.FfnWoutUpdateIdeal.nD Cert.FfnWoutUpdateIdeal.τ).loc Cert.FfnWoutUpdateIdeal.main_arg4) = m ((c.tc : Thread Cert.FfnWoutUpdateIdeal.nD Cert.FfnWoutUpdateIdeal.τ).loc Cert.FfnWoutUpdateIdeal.main_arg4)
      ∧ r.2.mem ((c.tc : Thread Cert.FfnWoutUpdateIdeal.nD Cert.FfnWoutUpdateIdeal.τ).loc Cert.FfnWoutUpdateIdeal.main_arg5) = m ((c.tc : Thread Cert.FfnWoutUpdateIdeal.nD Cert.FfnWoutUpdateIdeal.τ).loc Cert.FfnWoutUpdateIdeal.main_arg5)
      ∧ r.2.mem ((c.tc : Thread Cert.FfnWoutUpdateIdeal.nD Cert.FfnWoutUpdateIdeal.τ).loc Cert.FfnWoutUpdateIdeal.main_arg6) = m ((c.tc : Thread Cert.FfnWoutUpdateIdeal.nD Cert.FfnWoutUpdateIdeal.τ).loc Cert.FfnWoutUpdateIdeal.main_arg6)
      ∧ r.2.mem ((c.tc : Thread Cert.FfnWoutUpdateIdeal.nD Cert.FfnWoutUpdateIdeal.τ).loc Cert.FfnWoutUpdateIdeal.main_arg7) = m ((c.tc : Thread Cert.FfnWoutUpdateIdeal.nD Cert.FfnWoutUpdateIdeal.τ).loc Cert.FfnWoutUpdateIdeal.main_arg7)
      ∧ r.2.mem ((c.tc : Thread Cert.FfnWoutUpdateIdeal.nD Cert.FfnWoutUpdateIdeal.τ).loc Cert.FfnWoutUpdateIdeal.main_arg8) = m ((c.tc : Thread Cert.FfnWoutUpdateIdeal.nD Cert.FfnWoutUpdateIdeal.τ).loc Cert.FfnWoutUpdateIdeal.main_arg8)
      ∧ r.2.mem ((c.tc : Thread Cert.FfnWoutUpdateIdeal.nD Cert.FfnWoutUpdateIdeal.τ).loc Cert.FfnWoutUpdateIdeal.main_arg9) = m ((c.tc : Thread Cert.FfnWoutUpdateIdeal.nD Cert.FfnWoutUpdateIdeal.τ).loc Cert.FfnWoutUpdateIdeal.main_arg9))
      ∧ r.2.sem = fun _ => 0)

def quiescent_FfnWoutUpdateReferenceIdeal [hFfnWoutUpdateReferenceIdeal : Cert.FfnWoutUpdateReferenceIdeal.Facts] : Prop :=
  ∀ (m : (ℓ : Loc Cert.FfnWoutUpdateReferenceIdeal.nD Cert.FfnWoutUpdateReferenceIdeal.τ Cert.FfnWoutUpdateReferenceIdeal.sig) → Buf (Elt Ideal) ℓ) (g : Dev Cert.FfnWoutUpdateReferenceIdeal.nD → PrngReg), Pre_FfnWoutUpdateReferenceIdeal m →
    θ_run (Cert.FfnWoutUpdateReferenceIdeal.defs (F := Ideal)) (onTc (τ := Cert.FfnWoutUpdateReferenceIdeal.τ) (Cert.FfnWoutUpdateReferenceIdeal.main (F := Ideal))) ⟨m, fun _ => 0, g⟩ (fun r => (∀ c : Dev Cert.FfnWoutUpdateReferenceIdeal.nD,
      r.2.mem ((c.tc : Thread Cert.FfnWoutUpdateReferenceIdeal.nD Cert.FfnWoutUpdateReferenceIdeal.τ).loc Cert.FfnWoutUpdateReferenceIdeal.main_arg0) = m ((c.tc : Thread Cert.FfnWoutUpdateReferenceIdeal.nD Cert.FfnWoutUpdateReferenceIdeal.τ).loc Cert.FfnWoutUpdateReferenceIdeal.main_arg0)
      ∧ r.2.mem ((c.tc : Thread Cert.FfnWoutUpdateReferenceIdeal.nD Cert.FfnWoutUpdateReferenceIdeal.τ).loc Cert.FfnWoutUpdateReferenceIdeal.main_arg1) = m ((c.tc : Thread Cert.FfnWoutUpdateReferenceIdeal.nD Cert.FfnWoutUpdateReferenceIdeal.τ).loc Cert.FfnWoutUpdateReferenceIdeal.main_arg1)
      ∧ r.2.mem ((c.tc : Thread Cert.FfnWoutUpdateReferenceIdeal.nD Cert.FfnWoutUpdateReferenceIdeal.τ).loc Cert.FfnWoutUpdateReferenceIdeal.main_arg2) = m ((c.tc : Thread Cert.FfnWoutUpdateReferenceIdeal.nD Cert.FfnWoutUpdateReferenceIdeal.τ).loc Cert.FfnWoutUpdateReferenceIdeal.main_arg2)
      ∧ r.2.mem ((c.tc : Thread Cert.FfnWoutUpdateReferenceIdeal.nD Cert.FfnWoutUpdateReferenceIdeal.τ).loc Cert.FfnWoutUpdateReferenceIdeal.main_arg3) = m ((c.tc : Thread Cert.FfnWoutUpdateReferenceIdeal.nD Cert.FfnWoutUpdateReferenceIdeal.τ).loc Cert.FfnWoutUpdateReferenceIdeal.main_arg3)
      ∧ r.2.mem ((c.tc : Thread Cert.FfnWoutUpdateReferenceIdeal.nD Cert.FfnWoutUpdateReferenceIdeal.τ).loc Cert.FfnWoutUpdateReferenceIdeal.main_arg4) = m ((c.tc : Thread Cert.FfnWoutUpdateReferenceIdeal.nD Cert.FfnWoutUpdateReferenceIdeal.τ).loc Cert.FfnWoutUpdateReferenceIdeal.main_arg4)
      ∧ r.2.mem ((c.tc : Thread Cert.FfnWoutUpdateReferenceIdeal.nD Cert.FfnWoutUpdateReferenceIdeal.τ).loc Cert.FfnWoutUpdateReferenceIdeal.main_arg5) = m ((c.tc : Thread Cert.FfnWoutUpdateReferenceIdeal.nD Cert.FfnWoutUpdateReferenceIdeal.τ).loc Cert.FfnWoutUpdateReferenceIdeal.main_arg5)
      ∧ r.2.mem ((c.tc : Thread Cert.FfnWoutUpdateReferenceIdeal.nD Cert.FfnWoutUpdateReferenceIdeal.τ).loc Cert.FfnWoutUpdateReferenceIdeal.main_arg6) = m ((c.tc : Thread Cert.FfnWoutUpdateReferenceIdeal.nD Cert.FfnWoutUpdateReferenceIdeal.τ).loc Cert.FfnWoutUpdateReferenceIdeal.main_arg6)
      ∧ r.2.mem ((c.tc : Thread Cert.FfnWoutUpdateReferenceIdeal.nD Cert.FfnWoutUpdateReferenceIdeal.τ).loc Cert.FfnWoutUpdateReferenceIdeal.main_arg7) = m ((c.tc : Thread Cert.FfnWoutUpdateReferenceIdeal.nD Cert.FfnWoutUpdateReferenceIdeal.τ).loc Cert.FfnWoutUpdateReferenceIdeal.main_arg7)
      ∧ r.2.mem ((c.tc : Thread Cert.FfnWoutUpdateReferenceIdeal.nD Cert.FfnWoutUpdateReferenceIdeal.τ).loc Cert.FfnWoutUpdateReferenceIdeal.main_arg8) = m ((c.tc : Thread Cert.FfnWoutUpdateReferenceIdeal.nD Cert.FfnWoutUpdateReferenceIdeal.τ).loc Cert.FfnWoutUpdateReferenceIdeal.main_arg8)
      ∧ r.2.mem ((c.tc : Thread Cert.FfnWoutUpdateReferenceIdeal.nD Cert.FfnWoutUpdateReferenceIdeal.τ).loc Cert.FfnWoutUpdateReferenceIdeal.main_arg9) = m ((c.tc : Thread Cert.FfnWoutUpdateReferenceIdeal.nD Cert.FfnWoutUpdateReferenceIdeal.τ).loc Cert.FfnWoutUpdateReferenceIdeal.main_arg9))
      ∧ r.2.sem = fun _ => 0)

def quiescent_FfnWoutUpdateReferenceIdeal_pre_ffn_wout_update_on_mesh [hFfnWoutUpdateReferenceIdeal : Cert.FfnWoutUpdateReferenceIdeal.Facts] [hPre_ffn_wout_update_on_mesh : Cert.Pre_ffn_wout_update_on_mesh.Facts] : Prop :=
  ∀ (m : (ℓ : Loc Cert.FfnWoutUpdateReferenceIdeal.nD Cert.FfnWoutUpdateReferenceIdeal.τ Cert.FfnWoutUpdateReferenceIdeal.sig) → Buf (Elt Ideal) ℓ) (g : Dev Cert.FfnWoutUpdateReferenceIdeal.nD → PrngReg), Pre_FfnWoutUpdateReferenceIdeal_ffn_wout_update_on_mesh m →
    θ_run (Cert.FfnWoutUpdateReferenceIdeal.defs (F := Ideal)) (onTc (τ := Cert.FfnWoutUpdateReferenceIdeal.τ) (Cert.FfnWoutUpdateReferenceIdeal.main (F := Ideal))) ⟨m, fun _ => 0, g⟩ (fun r => (∀ c : Dev Cert.FfnWoutUpdateReferenceIdeal.nD,
      r.2.mem ((c.tc : Thread Cert.FfnWoutUpdateReferenceIdeal.nD Cert.FfnWoutUpdateReferenceIdeal.τ).loc Cert.FfnWoutUpdateReferenceIdeal.main_arg0) = m ((c.tc : Thread Cert.FfnWoutUpdateReferenceIdeal.nD Cert.FfnWoutUpdateReferenceIdeal.τ).loc Cert.FfnWoutUpdateReferenceIdeal.main_arg0)
      ∧ r.2.mem ((c.tc : Thread Cert.FfnWoutUpdateReferenceIdeal.nD Cert.FfnWoutUpdateReferenceIdeal.τ).loc Cert.FfnWoutUpdateReferenceIdeal.main_arg1) = m ((c.tc : Thread Cert.FfnWoutUpdateReferenceIdeal.nD Cert.FfnWoutUpdateReferenceIdeal.τ).loc Cert.FfnWoutUpdateReferenceIdeal.main_arg1)
      ∧ r.2.mem ((c.tc : Thread Cert.FfnWoutUpdateReferenceIdeal.nD Cert.FfnWoutUpdateReferenceIdeal.τ).loc Cert.FfnWoutUpdateReferenceIdeal.main_arg2) = m ((c.tc : Thread Cert.FfnWoutUpdateReferenceIdeal.nD Cert.FfnWoutUpdateReferenceIdeal.τ).loc Cert.FfnWoutUpdateReferenceIdeal.main_arg2)
      ∧ r.2.mem ((c.tc : Thread Cert.FfnWoutUpdateReferenceIdeal.nD Cert.FfnWoutUpdateReferenceIdeal.τ).loc Cert.FfnWoutUpdateReferenceIdeal.main_arg3) = m ((c.tc : Thread Cert.FfnWoutUpdateReferenceIdeal.nD Cert.FfnWoutUpdateReferenceIdeal.τ).loc Cert.FfnWoutUpdateReferenceIdeal.main_arg3)
      ∧ r.2.mem ((c.tc : Thread Cert.FfnWoutUpdateReferenceIdeal.nD Cert.FfnWoutUpdateReferenceIdeal.τ).loc Cert.FfnWoutUpdateReferenceIdeal.main_arg4) = m ((c.tc : Thread Cert.FfnWoutUpdateReferenceIdeal.nD Cert.FfnWoutUpdateReferenceIdeal.τ).loc Cert.FfnWoutUpdateReferenceIdeal.main_arg4)
      ∧ r.2.mem ((c.tc : Thread Cert.FfnWoutUpdateReferenceIdeal.nD Cert.FfnWoutUpdateReferenceIdeal.τ).loc Cert.FfnWoutUpdateReferenceIdeal.main_arg5) = m ((c.tc : Thread Cert.FfnWoutUpdateReferenceIdeal.nD Cert.FfnWoutUpdateReferenceIdeal.τ).loc Cert.FfnWoutUpdateReferenceIdeal.main_arg5)
      ∧ r.2.mem ((c.tc : Thread Cert.FfnWoutUpdateReferenceIdeal.nD Cert.FfnWoutUpdateReferenceIdeal.τ).loc Cert.FfnWoutUpdateReferenceIdeal.main_arg6) = m ((c.tc : Thread Cert.FfnWoutUpdateReferenceIdeal.nD Cert.FfnWoutUpdateReferenceIdeal.τ).loc Cert.FfnWoutUpdateReferenceIdeal.main_arg6)
      ∧ r.2.mem ((c.tc : Thread Cert.FfnWoutUpdateReferenceIdeal.nD Cert.FfnWoutUpdateReferenceIdeal.τ).loc Cert.FfnWoutUpdateReferenceIdeal.main_arg7) = m ((c.tc : Thread Cert.FfnWoutUpdateReferenceIdeal.nD Cert.FfnWoutUpdateReferenceIdeal.τ).loc Cert.FfnWoutUpdateReferenceIdeal.main_arg7)
      ∧ r.2.mem ((c.tc : Thread Cert.FfnWoutUpdateReferenceIdeal.nD Cert.FfnWoutUpdateReferenceIdeal.τ).loc Cert.FfnWoutUpdateReferenceIdeal.main_arg8) = m ((c.tc : Thread Cert.FfnWoutUpdateReferenceIdeal.nD Cert.FfnWoutUpdateReferenceIdeal.τ).loc Cert.FfnWoutUpdateReferenceIdeal.main_arg8)
      ∧ r.2.mem ((c.tc : Thread Cert.FfnWoutUpdateReferenceIdeal.nD Cert.FfnWoutUpdateReferenceIdeal.τ).loc Cert.FfnWoutUpdateReferenceIdeal.main_arg9) = m ((c.tc : Thread Cert.FfnWoutUpdateReferenceIdeal.nD Cert.FfnWoutUpdateReferenceIdeal.τ).loc Cert.FfnWoutUpdateReferenceIdeal.main_arg9))
      ∧ r.2.sem = fun _ => 0)

def quiescent_FfnWinUpdate [hFfnWinUpdate : Cert.FfnWinUpdate.Facts] [hPre_ffn_win_update_on_mesh : Cert.Pre_ffn_win_update_on_mesh.Facts] : Prop :=
  ∀ (m : (ℓ : Loc Cert.FfnWinUpdate.nD Cert.FfnWinUpdate.τ Cert.FfnWinUpdate.sig) → Buf (Elt Bits) ℓ) (g : Dev Cert.FfnWinUpdate.nD → PrngReg), Pre_FfnWinUpdate m →
    θ_run (Cert.FfnWinUpdate.defs (F := Bits)) (onTc (τ := Cert.FfnWinUpdate.τ) (Cert.FfnWinUpdate.main (F := Bits))) ⟨m, fun _ => 0, g⟩ (fun r => (∀ c : Dev Cert.FfnWinUpdate.nD,
      r.2.mem ((c.tc : Thread Cert.FfnWinUpdate.nD Cert.FfnWinUpdate.τ).loc Cert.FfnWinUpdate.main_arg0) = m ((c.tc : Thread Cert.FfnWinUpdate.nD Cert.FfnWinUpdate.τ).loc Cert.FfnWinUpdate.main_arg0)
      ∧ r.2.mem ((c.tc : Thread Cert.FfnWinUpdate.nD Cert.FfnWinUpdate.τ).loc Cert.FfnWinUpdate.main_arg1) = m ((c.tc : Thread Cert.FfnWinUpdate.nD Cert.FfnWinUpdate.τ).loc Cert.FfnWinUpdate.main_arg1)
      ∧ r.2.mem ((c.tc : Thread Cert.FfnWinUpdate.nD Cert.FfnWinUpdate.τ).loc Cert.FfnWinUpdate.main_arg2) = m ((c.tc : Thread Cert.FfnWinUpdate.nD Cert.FfnWinUpdate.τ).loc Cert.FfnWinUpdate.main_arg2)
      ∧ r.2.mem ((c.tc : Thread Cert.FfnWinUpdate.nD Cert.FfnWinUpdate.τ).loc Cert.FfnWinUpdate.main_arg3) = m ((c.tc : Thread Cert.FfnWinUpdate.nD Cert.FfnWinUpdate.τ).loc Cert.FfnWinUpdate.main_arg3)
      ∧ r.2.mem ((c.tc : Thread Cert.FfnWinUpdate.nD Cert.FfnWinUpdate.τ).loc Cert.FfnWinUpdate.main_arg4) = m ((c.tc : Thread Cert.FfnWinUpdate.nD Cert.FfnWinUpdate.τ).loc Cert.FfnWinUpdate.main_arg4)
      ∧ r.2.mem ((c.tc : Thread Cert.FfnWinUpdate.nD Cert.FfnWinUpdate.τ).loc Cert.FfnWinUpdate.main_arg5) = m ((c.tc : Thread Cert.FfnWinUpdate.nD Cert.FfnWinUpdate.τ).loc Cert.FfnWinUpdate.main_arg5)
      ∧ r.2.mem ((c.tc : Thread Cert.FfnWinUpdate.nD Cert.FfnWinUpdate.τ).loc Cert.FfnWinUpdate.main_arg6) = m ((c.tc : Thread Cert.FfnWinUpdate.nD Cert.FfnWinUpdate.τ).loc Cert.FfnWinUpdate.main_arg6)
      ∧ r.2.mem ((c.tc : Thread Cert.FfnWinUpdate.nD Cert.FfnWinUpdate.τ).loc Cert.FfnWinUpdate.main_arg7) = m ((c.tc : Thread Cert.FfnWinUpdate.nD Cert.FfnWinUpdate.τ).loc Cert.FfnWinUpdate.main_arg7)
      ∧ r.2.mem ((c.tc : Thread Cert.FfnWinUpdate.nD Cert.FfnWinUpdate.τ).loc Cert.FfnWinUpdate.main_arg8) = m ((c.tc : Thread Cert.FfnWinUpdate.nD Cert.FfnWinUpdate.τ).loc Cert.FfnWinUpdate.main_arg8)
      ∧ r.2.mem ((c.tc : Thread Cert.FfnWinUpdate.nD Cert.FfnWinUpdate.τ).loc Cert.FfnWinUpdate.main_arg9) = m ((c.tc : Thread Cert.FfnWinUpdate.nD Cert.FfnWinUpdate.τ).loc Cert.FfnWinUpdate.main_arg9))
      ∧ r.2.sem = fun _ => 0)

def quiescent_FfnWinUpdateIdeal [hFfnWinUpdateIdeal : Cert.FfnWinUpdateIdeal.Facts] [hPre_ffn_win_update_on_mesh : Cert.Pre_ffn_win_update_on_mesh.Facts] : Prop :=
  ∀ (m : (ℓ : Loc Cert.FfnWinUpdateIdeal.nD Cert.FfnWinUpdateIdeal.τ Cert.FfnWinUpdateIdeal.sig) → Buf (Elt Ideal) ℓ) (g : Dev Cert.FfnWinUpdateIdeal.nD → PrngReg), Pre_FfnWinUpdateIdeal m →
    θ_run (Cert.FfnWinUpdateIdeal.defs (F := Ideal)) (onTc (τ := Cert.FfnWinUpdateIdeal.τ) (Cert.FfnWinUpdateIdeal.main (F := Ideal))) ⟨m, fun _ => 0, g⟩ (fun r => (∀ c : Dev Cert.FfnWinUpdateIdeal.nD,
      r.2.mem ((c.tc : Thread Cert.FfnWinUpdateIdeal.nD Cert.FfnWinUpdateIdeal.τ).loc Cert.FfnWinUpdateIdeal.main_arg0) = m ((c.tc : Thread Cert.FfnWinUpdateIdeal.nD Cert.FfnWinUpdateIdeal.τ).loc Cert.FfnWinUpdateIdeal.main_arg0)
      ∧ r.2.mem ((c.tc : Thread Cert.FfnWinUpdateIdeal.nD Cert.FfnWinUpdateIdeal.τ).loc Cert.FfnWinUpdateIdeal.main_arg1) = m ((c.tc : Thread Cert.FfnWinUpdateIdeal.nD Cert.FfnWinUpdateIdeal.τ).loc Cert.FfnWinUpdateIdeal.main_arg1)
      ∧ r.2.mem ((c.tc : Thread Cert.FfnWinUpdateIdeal.nD Cert.FfnWinUpdateIdeal.τ).loc Cert.FfnWinUpdateIdeal.main_arg2) = m ((c.tc : Thread Cert.FfnWinUpdateIdeal.nD Cert.FfnWinUpdateIdeal.τ).loc Cert.FfnWinUpdateIdeal.main_arg2)
      ∧ r.2.mem ((c.tc : Thread Cert.FfnWinUpdateIdeal.nD Cert.FfnWinUpdateIdeal.τ).loc Cert.FfnWinUpdateIdeal.main_arg3) = m ((c.tc : Thread Cert.FfnWinUpdateIdeal.nD Cert.FfnWinUpdateIdeal.τ).loc Cert.FfnWinUpdateIdeal.main_arg3)
      ∧ r.2.mem ((c.tc : Thread Cert.FfnWinUpdateIdeal.nD Cert.FfnWinUpdateIdeal.τ).loc Cert.FfnWinUpdateIdeal.main_arg4) = m ((c.tc : Thread Cert.FfnWinUpdateIdeal.nD Cert.FfnWinUpdateIdeal.τ).loc Cert.FfnWinUpdateIdeal.main_arg4)
      ∧ r.2.mem ((c.tc : Thread Cert.FfnWinUpdateIdeal.nD Cert.FfnWinUpdateIdeal.τ).loc Cert.FfnWinUpdateIdeal.main_arg5) = m ((c.tc : Thread Cert.FfnWinUpdateIdeal.nD Cert.FfnWinUpdateIdeal.τ).loc Cert.FfnWinUpdateIdeal.main_arg5)
      ∧ r.2.mem ((c.tc : Thread Cert.FfnWinUpdateIdeal.nD Cert.FfnWinUpdateIdeal.τ).loc Cert.FfnWinUpdateIdeal.main_arg6) = m ((c.tc : Thread Cert.FfnWinUpdateIdeal.nD Cert.FfnWinUpdateIdeal.τ).loc Cert.FfnWinUpdateIdeal.main_arg6)
      ∧ r.2.mem ((c.tc : Thread Cert.FfnWinUpdateIdeal.nD Cert.FfnWinUpdateIdeal.τ).loc Cert.FfnWinUpdateIdeal.main_arg7) = m ((c.tc : Thread Cert.FfnWinUpdateIdeal.nD Cert.FfnWinUpdateIdeal.τ).loc Cert.FfnWinUpdateIdeal.main_arg7)
      ∧ r.2.mem ((c.tc : Thread Cert.FfnWinUpdateIdeal.nD Cert.FfnWinUpdateIdeal.τ).loc Cert.FfnWinUpdateIdeal.main_arg8) = m ((c.tc : Thread Cert.FfnWinUpdateIdeal.nD Cert.FfnWinUpdateIdeal.τ).loc Cert.FfnWinUpdateIdeal.main_arg8)
      ∧ r.2.mem ((c.tc : Thread Cert.FfnWinUpdateIdeal.nD Cert.FfnWinUpdateIdeal.τ).loc Cert.FfnWinUpdateIdeal.main_arg9) = m ((c.tc : Thread Cert.FfnWinUpdateIdeal.nD Cert.FfnWinUpdateIdeal.τ).loc Cert.FfnWinUpdateIdeal.main_arg9))
      ∧ r.2.sem = fun _ => 0)

def quiescent_FfnWinUpdateReferenceIdeal [hFfnWinUpdateReferenceIdeal : Cert.FfnWinUpdateReferenceIdeal.Facts] : Prop :=
  ∀ (m : (ℓ : Loc Cert.FfnWinUpdateReferenceIdeal.nD Cert.FfnWinUpdateReferenceIdeal.τ Cert.FfnWinUpdateReferenceIdeal.sig) → Buf (Elt Ideal) ℓ) (g : Dev Cert.FfnWinUpdateReferenceIdeal.nD → PrngReg), Pre_FfnWinUpdateReferenceIdeal m →
    θ_run (Cert.FfnWinUpdateReferenceIdeal.defs (F := Ideal)) (onTc (τ := Cert.FfnWinUpdateReferenceIdeal.τ) (Cert.FfnWinUpdateReferenceIdeal.main (F := Ideal))) ⟨m, fun _ => 0, g⟩ (fun r => (∀ c : Dev Cert.FfnWinUpdateReferenceIdeal.nD,
      r.2.mem ((c.tc : Thread Cert.FfnWinUpdateReferenceIdeal.nD Cert.FfnWinUpdateReferenceIdeal.τ).loc Cert.FfnWinUpdateReferenceIdeal.main_arg0) = m ((c.tc : Thread Cert.FfnWinUpdateReferenceIdeal.nD Cert.FfnWinUpdateReferenceIdeal.τ).loc Cert.FfnWinUpdateReferenceIdeal.main_arg0)
      ∧ r.2.mem ((c.tc : Thread Cert.FfnWinUpdateReferenceIdeal.nD Cert.FfnWinUpdateReferenceIdeal.τ).loc Cert.FfnWinUpdateReferenceIdeal.main_arg1) = m ((c.tc : Thread Cert.FfnWinUpdateReferenceIdeal.nD Cert.FfnWinUpdateReferenceIdeal.τ).loc Cert.FfnWinUpdateReferenceIdeal.main_arg1)
      ∧ r.2.mem ((c.tc : Thread Cert.FfnWinUpdateReferenceIdeal.nD Cert.FfnWinUpdateReferenceIdeal.τ).loc Cert.FfnWinUpdateReferenceIdeal.main_arg2) = m ((c.tc : Thread Cert.FfnWinUpdateReferenceIdeal.nD Cert.FfnWinUpdateReferenceIdeal.τ).loc Cert.FfnWinUpdateReferenceIdeal.main_arg2)
      ∧ r.2.mem ((c.tc : Thread Cert.FfnWinUpdateReferenceIdeal.nD Cert.FfnWinUpdateReferenceIdeal.τ).loc Cert.FfnWinUpdateReferenceIdeal.main_arg3) = m ((c.tc : Thread Cert.FfnWinUpdateReferenceIdeal.nD Cert.FfnWinUpdateReferenceIdeal.τ).loc Cert.FfnWinUpdateReferenceIdeal.main_arg3)
      ∧ r.2.mem ((c.tc : Thread Cert.FfnWinUpdateReferenceIdeal.nD Cert.FfnWinUpdateReferenceIdeal.τ).loc Cert.FfnWinUpdateReferenceIdeal.main_arg4) = m ((c.tc : Thread Cert.FfnWinUpdateReferenceIdeal.nD Cert.FfnWinUpdateReferenceIdeal.τ).loc Cert.FfnWinUpdateReferenceIdeal.main_arg4)
      ∧ r.2.mem ((c.tc : Thread Cert.FfnWinUpdateReferenceIdeal.nD Cert.FfnWinUpdateReferenceIdeal.τ).loc Cert.FfnWinUpdateReferenceIdeal.main_arg5) = m ((c.tc : Thread Cert.FfnWinUpdateReferenceIdeal.nD Cert.FfnWinUpdateReferenceIdeal.τ).loc Cert.FfnWinUpdateReferenceIdeal.main_arg5)
      ∧ r.2.mem ((c.tc : Thread Cert.FfnWinUpdateReferenceIdeal.nD Cert.FfnWinUpdateReferenceIdeal.τ).loc Cert.FfnWinUpdateReferenceIdeal.main_arg6) = m ((c.tc : Thread Cert.FfnWinUpdateReferenceIdeal.nD Cert.FfnWinUpdateReferenceIdeal.τ).loc Cert.FfnWinUpdateReferenceIdeal.main_arg6)
      ∧ r.2.mem ((c.tc : Thread Cert.FfnWinUpdateReferenceIdeal.nD Cert.FfnWinUpdateReferenceIdeal.τ).loc Cert.FfnWinUpdateReferenceIdeal.main_arg7) = m ((c.tc : Thread Cert.FfnWinUpdateReferenceIdeal.nD Cert.FfnWinUpdateReferenceIdeal.τ).loc Cert.FfnWinUpdateReferenceIdeal.main_arg7)
      ∧ r.2.mem ((c.tc : Thread Cert.FfnWinUpdateReferenceIdeal.nD Cert.FfnWinUpdateReferenceIdeal.τ).loc Cert.FfnWinUpdateReferenceIdeal.main_arg8) = m ((c.tc : Thread Cert.FfnWinUpdateReferenceIdeal.nD Cert.FfnWinUpdateReferenceIdeal.τ).loc Cert.FfnWinUpdateReferenceIdeal.main_arg8)
      ∧ r.2.mem ((c.tc : Thread Cert.FfnWinUpdateReferenceIdeal.nD Cert.FfnWinUpdateReferenceIdeal.τ).loc Cert.FfnWinUpdateReferenceIdeal.main_arg9) = m ((c.tc : Thread Cert.FfnWinUpdateReferenceIdeal.nD Cert.FfnWinUpdateReferenceIdeal.τ).loc Cert.FfnWinUpdateReferenceIdeal.main_arg9))
      ∧ r.2.sem = fun _ => 0)

def quiescent_FfnWinUpdateReferenceIdeal_pre_ffn_win_update_on_mesh [hFfnWinUpdateReferenceIdeal : Cert.FfnWinUpdateReferenceIdeal.Facts] [hPre_ffn_win_update_on_mesh : Cert.Pre_ffn_win_update_on_mesh.Facts] : Prop :=
  ∀ (m : (ℓ : Loc Cert.FfnWinUpdateReferenceIdeal.nD Cert.FfnWinUpdateReferenceIdeal.τ Cert.FfnWinUpdateReferenceIdeal.sig) → Buf (Elt Ideal) ℓ) (g : Dev Cert.FfnWinUpdateReferenceIdeal.nD → PrngReg), Pre_FfnWinUpdateReferenceIdeal_ffn_win_update_on_mesh m →
    θ_run (Cert.FfnWinUpdateReferenceIdeal.defs (F := Ideal)) (onTc (τ := Cert.FfnWinUpdateReferenceIdeal.τ) (Cert.FfnWinUpdateReferenceIdeal.main (F := Ideal))) ⟨m, fun _ => 0, g⟩ (fun r => (∀ c : Dev Cert.FfnWinUpdateReferenceIdeal.nD,
      r.2.mem ((c.tc : Thread Cert.FfnWinUpdateReferenceIdeal.nD Cert.FfnWinUpdateReferenceIdeal.τ).loc Cert.FfnWinUpdateReferenceIdeal.main_arg0) = m ((c.tc : Thread Cert.FfnWinUpdateReferenceIdeal.nD Cert.FfnWinUpdateReferenceIdeal.τ).loc Cert.FfnWinUpdateReferenceIdeal.main_arg0)
      ∧ r.2.mem ((c.tc : Thread Cert.FfnWinUpdateReferenceIdeal.nD Cert.FfnWinUpdateReferenceIdeal.τ).loc Cert.FfnWinUpdateReferenceIdeal.main_arg1) = m ((c.tc : Thread Cert.FfnWinUpdateReferenceIdeal.nD Cert.FfnWinUpdateReferenceIdeal.τ).loc Cert.FfnWinUpdateReferenceIdeal.main_arg1)
      ∧ r.2.mem ((c.tc : Thread Cert.FfnWinUpdateReferenceIdeal.nD Cert.FfnWinUpdateReferenceIdeal.τ).loc Cert.FfnWinUpdateReferenceIdeal.main_arg2) = m ((c.tc : Thread Cert.FfnWinUpdateReferenceIdeal.nD Cert.FfnWinUpdateReferenceIdeal.τ).loc Cert.FfnWinUpdateReferenceIdeal.main_arg2)
      ∧ r.2.mem ((c.tc : Thread Cert.FfnWinUpdateReferenceIdeal.nD Cert.FfnWinUpdateReferenceIdeal.τ).loc Cert.FfnWinUpdateReferenceIdeal.main_arg3) = m ((c.tc : Thread Cert.FfnWinUpdateReferenceIdeal.nD Cert.FfnWinUpdateReferenceIdeal.τ).loc Cert.FfnWinUpdateReferenceIdeal.main_arg3)
      ∧ r.2.mem ((c.tc : Thread Cert.FfnWinUpdateReferenceIdeal.nD Cert.FfnWinUpdateReferenceIdeal.τ).loc Cert.FfnWinUpdateReferenceIdeal.main_arg4) = m ((c.tc : Thread Cert.FfnWinUpdateReferenceIdeal.nD Cert.FfnWinUpdateReferenceIdeal.τ).loc Cert.FfnWinUpdateReferenceIdeal.main_arg4)
      ∧ r.2.mem ((c.tc : Thread Cert.FfnWinUpdateReferenceIdeal.nD Cert.FfnWinUpdateReferenceIdeal.τ).loc Cert.FfnWinUpdateReferenceIdeal.main_arg5) = m ((c.tc : Thread Cert.FfnWinUpdateReferenceIdeal.nD Cert.FfnWinUpdateReferenceIdeal.τ).loc Cert.FfnWinUpdateReferenceIdeal.main_arg5)
      ∧ r.2.mem ((c.tc : Thread Cert.FfnWinUpdateReferenceIdeal.nD Cert.FfnWinUpdateReferenceIdeal.τ).loc Cert.FfnWinUpdateReferenceIdeal.main_arg6) = m ((c.tc : Thread Cert.FfnWinUpdateReferenceIdeal.nD Cert.FfnWinUpdateReferenceIdeal.τ).loc Cert.FfnWinUpdateReferenceIdeal.main_arg6)
      ∧ r.2.mem ((c.tc : Thread Cert.FfnWinUpdateReferenceIdeal.nD Cert.FfnWinUpdateReferenceIdeal.τ).loc Cert.FfnWinUpdateReferenceIdeal.main_arg7) = m ((c.tc : Thread Cert.FfnWinUpdateReferenceIdeal.nD Cert.FfnWinUpdateReferenceIdeal.τ).loc Cert.FfnWinUpdateReferenceIdeal.main_arg7)
      ∧ r.2.mem ((c.tc : Thread Cert.FfnWinUpdateReferenceIdeal.nD Cert.FfnWinUpdateReferenceIdeal.τ).loc Cert.FfnWinUpdateReferenceIdeal.main_arg8) = m ((c.tc : Thread Cert.FfnWinUpdateReferenceIdeal.nD Cert.FfnWinUpdateReferenceIdeal.τ).loc Cert.FfnWinUpdateReferenceIdeal.main_arg8)
      ∧ r.2.mem ((c.tc : Thread Cert.FfnWinUpdateReferenceIdeal.nD Cert.FfnWinUpdateReferenceIdeal.τ).loc Cert.FfnWinUpdateReferenceIdeal.main_arg9) = m ((c.tc : Thread Cert.FfnWinUpdateReferenceIdeal.nD Cert.FfnWinUpdateReferenceIdeal.τ).loc Cert.FfnWinUpdateReferenceIdeal.main_arg9))
      ∧ r.2.sem = fun _ => 0)

def quiescent_SmallUpdate [hSmallUpdate : Cert.SmallUpdate.Facts] : Prop :=
  ∀ (m : (ℓ : Loc Cert.SmallUpdate.nD Cert.SmallUpdate.τ Cert.SmallUpdate.sig) → Buf (Elt Bits) ℓ) (g : Dev Cert.SmallUpdate.nD → PrngReg), Pre_SmallUpdate m →
    θ_run (Cert.SmallUpdate.defs (F := Bits)) (onTc (τ := Cert.SmallUpdate.τ) (Cert.SmallUpdate.main (F := Bits))) ⟨m, fun _ => 0, g⟩ (fun r => (∀ c : Dev Cert.SmallUpdate.nD,
      r.2.mem ((c.tc : Thread Cert.SmallUpdate.nD Cert.SmallUpdate.τ).loc Cert.SmallUpdate.main_arg0) = m ((c.tc : Thread Cert.SmallUpdate.nD Cert.SmallUpdate.τ).loc Cert.SmallUpdate.main_arg0)
      ∧ r.2.mem ((c.tc : Thread Cert.SmallUpdate.nD Cert.SmallUpdate.τ).loc Cert.SmallUpdate.main_arg1) = m ((c.tc : Thread Cert.SmallUpdate.nD Cert.SmallUpdate.τ).loc Cert.SmallUpdate.main_arg1)
      ∧ r.2.mem ((c.tc : Thread Cert.SmallUpdate.nD Cert.SmallUpdate.τ).loc Cert.SmallUpdate.main_arg2) = m ((c.tc : Thread Cert.SmallUpdate.nD Cert.SmallUpdate.τ).loc Cert.SmallUpdate.main_arg2)
      ∧ r.2.mem ((c.tc : Thread Cert.SmallUpdate.nD Cert.SmallUpdate.τ).loc Cert.SmallUpdate.main_arg3) = m ((c.tc : Thread Cert.SmallUpdate.nD Cert.SmallUpdate.τ).loc Cert.SmallUpdate.main_arg3)
      ∧ r.2.mem ((c.tc : Thread Cert.SmallUpdate.nD Cert.SmallUpdate.τ).loc Cert.SmallUpdate.main_arg4) = m ((c.tc : Thread Cert.SmallUpdate.nD Cert.SmallUpdate.τ).loc Cert.SmallUpdate.main_arg4)
      ∧ r.2.mem ((c.tc : Thread Cert.SmallUpdate.nD Cert.SmallUpdate.τ).loc Cert.SmallUpdate.main_arg5) = m ((c.tc : Thread Cert.SmallUpdate.nD Cert.SmallUpdate.τ).loc Cert.SmallUpdate.main_arg5))
      ∧ r.2.sem = fun _ => 0)

def quiescent_SmallUpdateIdeal [hSmallUpdateIdeal : Cert.SmallUpdateIdeal.Facts] : Prop :=
  ∀ (m : (ℓ : Loc Cert.SmallUpdateIdeal.nD Cert.SmallUpdateIdeal.τ Cert.SmallUpdateIdeal.sig) → Buf (Elt Ideal) ℓ) (g : Dev Cert.SmallUpdateIdeal.nD → PrngReg), Pre_SmallUpdateIdeal m →
    θ_run (Cert.SmallUpdateIdeal.defs (F := Ideal)) (onTc (τ := Cert.SmallUpdateIdeal.τ) (Cert.SmallUpdateIdeal.main (F := Ideal))) ⟨m, fun _ => 0, g⟩ (fun r => (∀ c : Dev Cert.SmallUpdateIdeal.nD,
      r.2.mem ((c.tc : Thread Cert.SmallUpdateIdeal.nD Cert.SmallUpdateIdeal.τ).loc Cert.SmallUpdateIdeal.main_arg0) = m ((c.tc : Thread Cert.SmallUpdateIdeal.nD Cert.SmallUpdateIdeal.τ).loc Cert.SmallUpdateIdeal.main_arg0)
      ∧ r.2.mem ((c.tc : Thread Cert.SmallUpdateIdeal.nD Cert.SmallUpdateIdeal.τ).loc Cert.SmallUpdateIdeal.main_arg1) = m ((c.tc : Thread Cert.SmallUpdateIdeal.nD Cert.SmallUpdateIdeal.τ).loc Cert.SmallUpdateIdeal.main_arg1)
      ∧ r.2.mem ((c.tc : Thread Cert.SmallUpdateIdeal.nD Cert.SmallUpdateIdeal.τ).loc Cert.SmallUpdateIdeal.main_arg2) = m ((c.tc : Thread Cert.SmallUpdateIdeal.nD Cert.SmallUpdateIdeal.τ).loc Cert.SmallUpdateIdeal.main_arg2)
      ∧ r.2.mem ((c.tc : Thread Cert.SmallUpdateIdeal.nD Cert.SmallUpdateIdeal.τ).loc Cert.SmallUpdateIdeal.main_arg3) = m ((c.tc : Thread Cert.SmallUpdateIdeal.nD Cert.SmallUpdateIdeal.τ).loc Cert.SmallUpdateIdeal.main_arg3)
      ∧ r.2.mem ((c.tc : Thread Cert.SmallUpdateIdeal.nD Cert.SmallUpdateIdeal.τ).loc Cert.SmallUpdateIdeal.main_arg4) = m ((c.tc : Thread Cert.SmallUpdateIdeal.nD Cert.SmallUpdateIdeal.τ).loc Cert.SmallUpdateIdeal.main_arg4)
      ∧ r.2.mem ((c.tc : Thread Cert.SmallUpdateIdeal.nD Cert.SmallUpdateIdeal.τ).loc Cert.SmallUpdateIdeal.main_arg5) = m ((c.tc : Thread Cert.SmallUpdateIdeal.nD Cert.SmallUpdateIdeal.τ).loc Cert.SmallUpdateIdeal.main_arg5))
      ∧ r.2.sem = fun _ => 0)

def quiescent_SmallUpdateReferenceIdeal [hSmallUpdateReferenceIdeal : Cert.SmallUpdateReferenceIdeal.Facts] : Prop :=
  ∀ (m : (ℓ : Loc Cert.SmallUpdateReferenceIdeal.nD Cert.SmallUpdateReferenceIdeal.τ Cert.SmallUpdateReferenceIdeal.sig) → Buf (Elt Ideal) ℓ) (g : Dev Cert.SmallUpdateReferenceIdeal.nD → PrngReg), Pre_SmallUpdateReferenceIdeal m →
    θ_run (Cert.SmallUpdateReferenceIdeal.defs (F := Ideal)) (onTc (τ := Cert.SmallUpdateReferenceIdeal.τ) (Cert.SmallUpdateReferenceIdeal.main (F := Ideal))) ⟨m, fun _ => 0, g⟩ (fun r => (∀ c : Dev Cert.SmallUpdateReferenceIdeal.nD,
      r.2.mem ((c.tc : Thread Cert.SmallUpdateReferenceIdeal.nD Cert.SmallUpdateReferenceIdeal.τ).loc Cert.SmallUpdateReferenceIdeal.main_arg0) = m ((c.tc : Thread Cert.SmallUpdateReferenceIdeal.nD Cert.SmallUpdateReferenceIdeal.τ).loc Cert.SmallUpdateReferenceIdeal.main_arg0)
      ∧ r.2.mem ((c.tc : Thread Cert.SmallUpdateReferenceIdeal.nD Cert.SmallUpdateReferenceIdeal.τ).loc Cert.SmallUpdateReferenceIdeal.main_arg1) = m ((c.tc : Thread Cert.SmallUpdateReferenceIdeal.nD Cert.SmallUpdateReferenceIdeal.τ).loc Cert.SmallUpdateReferenceIdeal.main_arg1)
      ∧ r.2.mem ((c.tc : Thread Cert.SmallUpdateReferenceIdeal.nD Cert.SmallUpdateReferenceIdeal.τ).loc Cert.SmallUpdateReferenceIdeal.main_arg2) = m ((c.tc : Thread Cert.SmallUpdateReferenceIdeal.nD Cert.SmallUpdateReferenceIdeal.τ).loc Cert.SmallUpdateReferenceIdeal.main_arg2)
      ∧ r.2.mem ((c.tc : Thread Cert.SmallUpdateReferenceIdeal.nD Cert.SmallUpdateReferenceIdeal.τ).loc Cert.SmallUpdateReferenceIdeal.main_arg3) = m ((c.tc : Thread Cert.SmallUpdateReferenceIdeal.nD Cert.SmallUpdateReferenceIdeal.τ).loc Cert.SmallUpdateReferenceIdeal.main_arg3)
      ∧ r.2.mem ((c.tc : Thread Cert.SmallUpdateReferenceIdeal.nD Cert.SmallUpdateReferenceIdeal.τ).loc Cert.SmallUpdateReferenceIdeal.main_arg4) = m ((c.tc : Thread Cert.SmallUpdateReferenceIdeal.nD Cert.SmallUpdateReferenceIdeal.τ).loc Cert.SmallUpdateReferenceIdeal.main_arg4)
      ∧ r.2.mem ((c.tc : Thread Cert.SmallUpdateReferenceIdeal.nD Cert.SmallUpdateReferenceIdeal.τ).loc Cert.SmallUpdateReferenceIdeal.main_arg5) = m ((c.tc : Thread Cert.SmallUpdateReferenceIdeal.nD Cert.SmallUpdateReferenceIdeal.τ).loc Cert.SmallUpdateReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_v69) = v4 c
          ∧ r.2.mem ((c.tc : Thread Cert.ReferenceIdeal.nD Cert.ReferenceIdeal.τ).loc Cert.ReferenceIdeal.main_v70) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnDhn_FfnDhnIdeal : Prop :=
  True

def algebraic_FfnDhnIdeal_FfnDhnReferenceIdeal [hFfnDhnIdeal : Cert.FfnDhnIdeal.Facts] [hFfnDhnReferenceIdeal : Cert.FfnDhnReferenceIdeal.Facts] : Prop :=
  ∀ (m : (ℓ : Loc Cert.FfnDhnIdeal.nD Cert.FfnDhnIdeal.τ Cert.FfnDhnIdeal.sig) → Buf (Elt Ideal) ℓ) (g : Dev Cert.FfnDhnIdeal.nD → PrngReg)
    (m' : (ℓ : Loc Cert.FfnDhnReferenceIdeal.nD Cert.FfnDhnReferenceIdeal.τ Cert.FfnDhnReferenceIdeal.sig) → Buf (Elt Ideal) ℓ) (g' : Dev Cert.FfnDhnReferenceIdeal.nD → PrngReg), Pre_FfnDhnIdeal m →
    (∀ c : Dev Cert.FfnDhnIdeal.nD,
      m' ((c.tc : Thread Cert.FfnDhnReferenceIdeal.nD Cert.FfnDhnReferenceIdeal.τ).loc Cert.FfnDhnReferenceIdeal.main_arg0) = m ((c.tc : Thread Cert.FfnDhnIdeal.nD Cert.FfnDhnIdeal.τ).loc Cert.FfnDhnIdeal.main_arg0)
      ∧ m' ((c.tc : Thread Cert.FfnDhnReferenceIdeal.nD Cert.FfnDhnReferenceIdeal.τ).loc Cert.FfnDhnReferenceIdeal.main_arg1) = m ((c.tc : Thread Cert.FfnDhnIdeal.nD Cert.FfnDhnIdeal.τ).loc Cert.FfnDhnIdeal.main_arg1)
      ∧ m' ((c.tc : Thread Cert.FfnDhnReferenceIdeal.nD Cert.FfnDhnReferenceIdeal.τ).loc Cert.FfnDhnReferenceIdeal.main_arg2) = m ((c.tc : Thread Cert.FfnDhnIdeal.nD Cert.FfnDhnIdeal.τ).loc Cert.FfnDhnIdeal.main_arg2)
      ∧ m' ((c.tc : Thread Cert.FfnDhnReferenceIdeal.nD Cert.FfnDhnReferenceIdeal.τ).loc Cert.FfnDhnReferenceIdeal.main_arg3) = m ((c.tc : Thread Cert.FfnDhnIdeal.nD Cert.FfnDhnIdeal.τ).loc Cert.FfnDhnIdeal.main_arg3)
      ∧ m' ((c.tc : Thread Cert.FfnDhnReferenceIdeal.nD Cert.FfnDhnReferenceIdeal.τ).loc Cert.FfnDhnReferenceIdeal.main_arg4) = m ((c.tc : Thread Cert.FfnDhnIdeal.nD Cert.FfnDhnIdeal.τ).loc Cert.FfnDhnIdeal.main_arg4)
      ∧ m' ((c.tc : Thread Cert.FfnDhnReferenceIdeal.nD Cert.FfnDhnReferenceIdeal.τ).loc Cert.FfnDhnReferenceIdeal.main_arg5) = m ((c.tc : Thread Cert.FfnDhnIdeal.nD Cert.FfnDhnIdeal.τ).loc Cert.FfnDhnIdeal.main_arg5)) →
    ∃ (v0 : (c : Dev Cert.FfnDhnIdeal.nD) → Buf (Elt Ideal) ((c.tc : Thread Cert.FfnDhnIdeal.nD Cert.FfnDhnIdeal.τ).loc Cert.FfnDhnIdeal.main_v1_0)) (v1 : (c : Dev Cert.FfnDhnIdeal.nD) → Buf (Elt Ideal) ((c.tc : Thread Cert.FfnDhnIdeal.nD Cert.FfnDhnIdeal.τ).loc Cert.FfnDhnIdeal.main_v1_1)),
      θ_run (Cert.FfnDhnIdeal.defs (F := Ideal)) (onTc (τ := Cert.FfnDhnIdeal.τ) (Cert.FfnDhnIdeal.main (F := Ideal))) ⟨m, fun _ => 0, g⟩ (fun r => ∀ c : Dev Cert.FfnDhnIdeal.nD,
          r.2.mem ((c.tc : Thread Cert.FfnDhnIdeal.nD Cert.FfnDhnIdeal.τ).loc Cert.FfnDhnIdeal.main_v1_0) = v0 c
          ∧ r.2.mem ((c.tc : Thread Cert.FfnDhnIdeal.nD Cert.FfnDhnIdeal.τ).loc Cert.FfnDhnIdeal.main_v1_1) = v1 c
          ∧ r.2.mem ((c.tc : Thread Cert.FfnDhnIdeal.nD Cert.FfnDhnIdeal.τ).loc Cert.FfnDhnIdeal.main_arg0) = m ((c.tc : Thread Cert.FfnDhnIdeal.nD Cert.FfnDhnIdeal.τ).loc Cert.FfnDhnIdeal.main_arg0)
          ∧ r.2.mem ((c.tc : Thread Cert.FfnDhnIdeal.nD Cert.FfnDhnIdeal.τ).loc Cert.FfnDhnIdeal.main_arg1) = m ((c.tc : Thread Cert.FfnDhnIdeal.nD Cert.FfnDhnIdeal.τ).loc Cert.FfnDhnIdeal.main_arg1)
          ∧ r.2.mem ((c.tc : Thread Cert.FfnDhnIdeal.nD Cert.FfnDhnIdeal.τ).loc Cert.FfnDhnIdeal.main_arg2) = m ((c.tc : Thread Cert.FfnDhnIdeal.nD Cert.FfnDhnIdeal.τ).loc Cert.FfnDhnIdeal.main_arg2)
          ∧ r.2.mem ((c.tc : Thread Cert.FfnDhnIdeal.nD Cert.FfnDhnIdeal.τ).loc Cert.FfnDhnIdeal.main_arg3) = m ((c.tc : Thread Cert.FfnDhnIdeal.nD Cert.FfnDhnIdeal.τ).loc Cert.FfnDhnIdeal.main_arg3)
          ∧ r.2.mem ((c.tc : Thread Cert.FfnDhnIdeal.nD Cert.FfnDhnIdeal.τ).loc Cert.FfnDhnIdeal.main_arg4) = m ((c.tc : Thread Cert.FfnDhnIdeal.nD Cert.FfnDhnIdeal.τ).loc Cert.FfnDhnIdeal.main_arg4)
          ∧ r.2.mem ((c.tc : Thread Cert.FfnDhnIdeal.nD Cert.FfnDhnIdeal.τ).loc Cert.FfnDhnIdeal.main_arg5) = m ((c.tc : Thread Cert.FfnDhnIdeal.nD Cert.FfnDhnIdeal.τ).loc Cert.FfnDhnIdeal.main_arg5))
      ∧ θ_run (Cert.FfnDhnReferenceIdeal.defs (F := Ideal)) (onTc (τ := Cert.FfnDhnReferenceIdeal.τ) (Cert.FfnDhnReferenceIdeal.main (F := Ideal))) ⟨m', fun _ => 0, g'⟩ (fun r => ∀ c : Dev Cert.FfnDhnReferenceIdeal.nD,
          r.2.mem ((c.tc : Thread Cert.FfnDhnReferenceIdeal.nD Cert.FfnDhnReferenceIdeal.τ).loc Cert.FfnDhnReferenceIdeal.main_v42) = v0 c
          ∧ r.2.mem ((c.tc : Thread Cert.FfnDhnReferenceIdeal.nD Cert.FfnDhnReferenceIdeal.τ).loc Cert.FfnDhnReferenceIdeal.main_v43) = v1 c
          ∧ r.2.mem ((c.tc : Thread Cert.FfnDhnReferenceIdeal.nD Cert.FfnDhnReferenceIdeal.τ).loc Cert.FfnDhnReferenceIdeal.main_arg0) = m' ((c.tc : Thread Cert.FfnDhnReferenceIdeal.nD Cert.FfnDhnReferenceIdeal.τ).loc Cert.FfnDhnReferenceIdeal.main_arg0)
          ∧ r.2.mem ((c.tc : Thread Cert.FfnDhnReferenceIdeal.nD Cert.FfnDhnReferenceIdeal.τ).loc Cert.FfnDhnReferenceIdeal.main_arg1) = m' ((c.tc : Thread Cert.FfnDhnReferenceIdeal.nD Cert.FfnDhnReferenceIdeal.τ).loc Cert.FfnDhnReferenceIdeal.main_arg1)
          ∧ r.2.mem ((c.tc : Thread Cert.FfnDhnReferenceIdeal.nD Cert.FfnDhnReferenceIdeal.τ).loc Cert.FfnDhnReferenceIdeal.main_arg2) = m' ((c.tc : Thread Cert.FfnDhnReferenceIdeal.nD Cert.FfnDhnReferenceIdeal.τ).loc Cert.FfnDhnReferenceIdeal.main_arg2)
          ∧ r.2.mem ((c.tc : Thread Cert.FfnDhnReferenceIdeal.nD Cert.FfnDhnReferenceIdeal.τ).loc Cert.FfnDhnReferenceIdeal.main_arg3) = m' ((c.tc : Thread Cert.FfnDhnReferenceIdeal.nD Cert.FfnDhnReferenceIdeal.τ).loc Cert.FfnDhnReferenceIdeal.main_arg3)
          ∧ r.2.mem ((c.tc : Thread Cert.FfnDhnReferenceIdeal.nD Cert.FfnDhnReferenceIdeal.τ).loc Cert.FfnDhnReferenceIdeal.main_arg4) = m' ((c.tc : Thread Cert.FfnDhnReferenceIdeal.nD Cert.FfnDhnReferenceIdeal.τ).loc Cert.FfnDhnReferenceIdeal.main_arg4)
          ∧ r.2.mem ((c.tc : Thread Cert.FfnDhnReferenceIdeal.nD Cert.FfnDhnReferenceIdeal.τ).loc Cert.FfnDhnReferenceIdeal.main_arg5) = m' ((c.tc : Thread Cert.FfnDhnReferenceIdeal.nD Cert.FfnDhnReferenceIdeal.τ).loc Cert.FfnDhnReferenceIdeal.main_arg5))

def preserves_FfnDwinA_FfnDwinAIdeal : Prop :=
  True

def algebraic_FfnDwinAIdeal_FfnDwinAReferenceIdeal [hFfnDwinAIdeal : Cert.FfnDwinAIdeal.Facts] [hFfnDwinAReferenceIdeal : Cert.FfnDwinAReferenceIdeal.Facts] : Prop :=
  ∀ (m : (ℓ : Loc Cert.FfnDwinAIdeal.nD Cert.FfnDwinAIdeal.τ Cert.FfnDwinAIdeal.sig) → Buf (Elt Ideal) ℓ) (g : Dev Cert.FfnDwinAIdeal.nD → PrngReg)
    (m' : (ℓ : Loc Cert.FfnDwinAReferenceIdeal.nD Cert.FfnDwinAReferenceIdeal.τ Cert.FfnDwinAReferenceIdeal.sig) → Buf (Elt Ideal) ℓ) (g' : Dev Cert.FfnDwinAReferenceIdeal.nD → PrngReg), Pre_FfnDwinAIdeal m →
    (∀ c : Dev Cert.FfnDwinAIdeal.nD,
      m' ((c.tc : Thread Cert.FfnDwinAReferenceIdeal.nD Cert.FfnDwinAReferenceIdeal.τ).loc Cert.FfnDwinAReferenceIdeal.main_arg0) = m ((c.tc : Thread Cert.FfnDwinAIdeal.nD Cert.FfnDwinAIdeal.τ).loc Cert.FfnDwinAIdeal.main_arg0)
      ∧ m' ((c.tc : Thread Cert.FfnDwinAReferenceIdeal.nD Cert.FfnDwinAReferenceIdeal.τ).loc Cert.FfnDwinAReferenceIdeal.main_arg1) = m ((c.tc : Thread Cert.FfnDwinAIdeal.nD Cert.FfnDwinAIdeal.τ).loc Cert.FfnDwinAIdeal.main_arg1)) →
    ∃ (v0 : (c : Dev Cert.FfnDwinAIdeal.nD) → Buf (Elt Ideal) ((c.tc : Thread Cert.FfnDwinAIdeal.nD Cert.FfnDwinAIdeal.τ).loc Cert.FfnDwinAIdeal.main_v1)),
      θ_run (Cert.FfnDwinAIdeal.defs (F := Ideal)) (onTc (τ := Cert.FfnDwinAIdeal.τ) (Cert.FfnDwinAIdeal.main (F := Ideal))) ⟨m, fun _ => 0, g⟩ (fun r => ∀ c : Dev Cert.FfnDwinAIdeal.nD,
          r.2.mem ((c.tc : Thread Cert.FfnDwinAIdeal.nD Cert.FfnDwinAIdeal.τ).loc Cert.FfnDwinAIdeal.main_v1) = v0 c
          ∧ r.2.mem ((c.tc : Thread Cert.FfnDwinAIdeal.nD Cert.FfnDwinAIdeal.τ).loc Cert.FfnDwinAIdeal.main_arg0) = m ((c.tc : Thread Cert.FfnDwinAIdeal.nD Cert.FfnDwinAIdeal.τ).loc Cert.FfnDwinAIdeal.main_arg0)
          ∧ r.2.mem ((c.tc : Thread Cert.FfnDwinAIdeal.nD Cert.FfnDwinAIdeal.τ).loc Cert.FfnDwinAIdeal.main_arg1) = m ((c.tc : Thread Cert.FfnDwinAIdeal.nD Cert.FfnDwinAIdeal.τ).loc Cert.FfnDwinAIdeal.main_arg1))
      ∧ θ_run (Cert.FfnDwinAReferenceIdeal.defs (F := Ideal)) (onTc (τ := Cert.FfnDwinAReferenceIdeal.τ) (Cert.FfnDwinAReferenceIdeal.main (F := Ideal))) ⟨m', fun _ => 0, g'⟩ (fun r => ∀ c : Dev Cert.FfnDwinAReferenceIdeal.nD,
          r.2.mem ((c.tc : Thread Cert.FfnDwinAReferenceIdeal.nD Cert.FfnDwinAReferenceIdeal.τ).loc Cert.FfnDwinAReferenceIdeal.main_v7) = v0 c
          ∧ r.2.mem ((c.tc : Thread Cert.FfnDwinAReferenceIdeal.nD Cert.FfnDwinAReferenceIdeal.τ).loc Cert.FfnDwinAReferenceIdeal.main_arg0) = m' ((c.tc : Thread Cert.FfnDwinAReferenceIdeal.nD Cert.FfnDwinAReferenceIdeal.τ).loc Cert.FfnDwinAReferenceIdeal.main_arg0)
          ∧ r.2.mem ((c.tc : Thread Cert.FfnDwinAReferenceIdeal.nD Cert.FfnDwinAReferenceIdeal.τ).loc Cert.FfnDwinAReferenceIdeal.main_arg1) = m' ((c.tc : Thread Cert.FfnDwinAReferenceIdeal.nD Cert.FfnDwinAReferenceIdeal.τ).loc Cert.FfnDwinAReferenceIdeal.main_arg1))

def preserves_FfnDwinB_FfnDwinBIdeal : Prop :=
  True

def algebraic_FfnDwinBIdeal_FfnDwinBReferenceIdeal [hFfnDwinBIdeal : Cert.FfnDwinBIdeal.Facts] [hFfnDwinBReferenceIdeal : Cert.FfnDwinBReferenceIdeal.Facts] : Prop :=
  ∀ (m : (ℓ : Loc Cert.FfnDwinBIdeal.nD Cert.FfnDwinBIdeal.τ Cert.FfnDwinBIdeal.sig) → Buf (Elt Ideal) ℓ) (g : Dev Cert.FfnDwinBIdeal.nD → PrngReg)
    (m' : (ℓ : Loc Cert.FfnDwinBReferenceIdeal.nD Cert.FfnDwinBReferenceIdeal.τ Cert.FfnDwinBReferenceIdeal.sig) → Buf (Elt Ideal) ℓ) (g' : Dev Cert.FfnDwinBReferenceIdeal.nD → PrngReg), Pre_FfnDwinBIdeal m →
    (∀ c : Dev Cert.FfnDwinBIdeal.nD,
      m' ((c.tc : Thread Cert.FfnDwinBReferenceIdeal.nD Cert.FfnDwinBReferenceIdeal.τ).loc Cert.FfnDwinBReferenceIdeal.main_arg0) = m ((c.tc : Thread Cert.FfnDwinBIdeal.nD Cert.FfnDwinBIdeal.τ).loc Cert.FfnDwinBIdeal.main_arg0)
      ∧ m' ((c.tc : Thread Cert.FfnDwinBReferenceIdeal.nD Cert.FfnDwinBReferenceIdeal.τ).loc Cert.FfnDwinBReferenceIdeal.main_arg1) = m ((c.tc : Thread Cert.FfnDwinBIdeal.nD Cert.FfnDwinBIdeal.τ).loc Cert.FfnDwinBIdeal.main_arg1)
      ∧ m' ((c.tc : Thread Cert.FfnDwinBReferenceIdeal.nD Cert.FfnDwinBReferenceIdeal.τ).loc Cert.FfnDwinBReferenceIdeal.main_arg2) = m ((c.tc : Thread Cert.FfnDwinBIdeal.nD Cert.FfnDwinBIdeal.τ).loc Cert.FfnDwinBIdeal.main_arg2)) →
    ∃ (v0 : (c : Dev Cert.FfnDwinBIdeal.nD) → Buf (Elt Ideal) ((c.tc : Thread Cert.FfnDwinBIdeal.nD Cert.FfnDwinBIdeal.τ).loc Cert.FfnDwinBIdeal.main_v0)),
      θ_run (Cert.FfnDwinBIdeal.defs (F := Ideal)) (onTc (τ := Cert.FfnDwinBIdeal.τ) (Cert.FfnDwinBIdeal.main (F := Ideal))) ⟨m, fun _ => 0, g⟩ (fun r => ∀ c : Dev Cert.FfnDwinBIdeal.nD,
          r.2.mem ((c.tc : Thread Cert.FfnDwinBIdeal.nD Cert.FfnDwinBIdeal.τ).loc Cert.FfnDwinBIdeal.main_v0) = v0 c
          ∧ r.2.mem ((c.tc : Thread Cert.FfnDwinBIdeal.nD Cert.FfnDwinBIdeal.τ).loc Cert.FfnDwinBIdeal.main_arg0) = m ((c.tc : Thread Cert.FfnDwinBIdeal.nD Cert.FfnDwinBIdeal.τ).loc Cert.FfnDwinBIdeal.main_arg0)
          ∧ r.2.mem ((c.tc : Thread Cert.FfnDwinBIdeal.nD Cert.FfnDwinBIdeal.τ).loc Cert.FfnDwinBIdeal.main_arg1) = m ((c.tc : Thread Cert.FfnDwinBIdeal.nD Cert.FfnDwinBIdeal.τ).loc Cert.FfnDwinBIdeal.main_arg1)
          ∧ r.2.mem ((c.tc : Thread Cert.FfnDwinBIdeal.nD Cert.FfnDwinBIdeal.τ).loc Cert.FfnDwinBIdeal.main_arg2) = m ((c.tc : Thread Cert.FfnDwinBIdeal.nD Cert.FfnDwinBIdeal.τ).loc Cert.FfnDwinBIdeal.main_arg2))
      ∧ θ_run (Cert.FfnDwinBReferenceIdeal.defs (F := Ideal)) (onTc (τ := Cert.FfnDwinBReferenceIdeal.τ) (Cert.FfnDwinBReferenceIdeal.main (F := Ideal))) ⟨m', fun _ => 0, g'⟩ (fun r => ∀ c : Dev Cert.FfnDwinBReferenceIdeal.nD,
          r.2.mem ((c.tc : Thread Cert.FfnDwinBReferenceIdeal.nD Cert.FfnDwinBReferenceIdeal.τ).loc Cert.FfnDwinBReferenceIdeal.main_v9) = v0 c
          ∧ r.2.mem ((c.tc : Thread Cert.FfnDwinBReferenceIdeal.nD Cert.FfnDwinBReferenceIdeal.τ).loc Cert.FfnDwinBReferenceIdeal.main_arg0) = m' ((c.tc : Thread Cert.FfnDwinBReferenceIdeal.nD Cert.FfnDwinBReferenceIdeal.τ).loc Cert.FfnDwinBReferenceIdeal.main_arg0)
          ∧ r.2.mem ((c.tc : Thread Cert.FfnDwinBReferenceIdeal.nD Cert.FfnDwinBReferenceIdeal.τ).loc Cert.FfnDwinBReferenceIdeal.main_arg1) = m' ((c.tc : Thread Cert.FfnDwinBReferenceIdeal.nD Cert.FfnDwinBReferenceIdeal.τ).loc Cert.FfnDwinBReferenceIdeal.main_arg1)
          ∧ r.2.mem ((c.tc : Thread Cert.FfnDwinBReferenceIdeal.nD Cert.FfnDwinBReferenceIdeal.τ).loc Cert.FfnDwinBReferenceIdeal.main_arg2) = m' ((c.tc : Thread Cert.FfnDwinBReferenceIdeal.nD Cert.FfnDwinBReferenceIdeal.τ).loc Cert.FfnDwinBReferenceIdeal.main_arg2))

def preserves_FfnDwout_FfnDwoutIdeal : Prop :=
  True

def algebraic_FfnDwoutIdeal_FfnDwoutReferenceIdeal [hFfnDwoutIdeal : Cert.FfnDwoutIdeal.Facts] [hFfnDwoutReferenceIdeal : Cert.FfnDwoutReferenceIdeal.Facts] : Prop :=
  ∀ (m : (ℓ : Loc Cert.FfnDwoutIdeal.nD Cert.FfnDwoutIdeal.τ Cert.FfnDwoutIdeal.sig) → Buf (Elt Ideal) ℓ) (g : Dev Cert.FfnDwoutIdeal.nD → PrngReg)
    (m' : (ℓ : Loc Cert.FfnDwoutReferenceIdeal.nD Cert.FfnDwoutReferenceIdeal.τ Cert.FfnDwoutReferenceIdeal.sig) → Buf (Elt Ideal) ℓ) (g' : Dev Cert.FfnDwoutReferenceIdeal.nD → PrngReg), Pre_FfnDwoutIdeal m →
    (∀ c : Dev Cert.FfnDwoutIdeal.nD,
      m' ((c.tc : Thread Cert.FfnDwoutReferenceIdeal.nD Cert.FfnDwoutReferenceIdeal.τ).loc Cert.FfnDwoutReferenceIdeal.main_arg0) = m ((c.tc : Thread Cert.FfnDwoutIdeal.nD Cert.FfnDwoutIdeal.τ).loc Cert.FfnDwoutIdeal.main_arg0)
      ∧ m' ((c.tc : Thread Cert.FfnDwoutReferenceIdeal.nD Cert.FfnDwoutReferenceIdeal.τ).loc Cert.FfnDwoutReferenceIdeal.main_arg1) = m ((c.tc : Thread Cert.FfnDwoutIdeal.nD Cert.FfnDwoutIdeal.τ).loc Cert.FfnDwoutIdeal.main_arg1)) →
    ∃ (v0 : (c : Dev Cert.FfnDwoutIdeal.nD) → Buf (Elt Ideal) ((c.tc : Thread Cert.FfnDwoutIdeal.nD Cert.FfnDwoutIdeal.τ).loc Cert.FfnDwoutIdeal.main_v0)),
      θ_run (Cert.FfnDwoutIdeal.defs (F := Ideal)) (onTc (τ := Cert.FfnDwoutIdeal.τ) (Cert.FfnDwoutIdeal.main (F := Ideal))) ⟨m, fun _ => 0, g⟩ (fun r => ∀ c : Dev Cert.FfnDwoutIdeal.nD,
          r.2.mem ((c.tc : Thread Cert.FfnDwoutIdeal.nD Cert.FfnDwoutIdeal.τ).loc Cert.FfnDwoutIdeal.main_v0) = v0 c
          ∧ r.2.mem ((c.tc : Thread Cert.FfnDwoutIdeal.nD Cert.FfnDwoutIdeal.τ).loc Cert.FfnDwoutIdeal.main_arg0) = m ((c.tc : Thread Cert.FfnDwoutIdeal.nD Cert.FfnDwoutIdeal.τ).loc Cert.FfnDwoutIdeal.main_arg0)
          ∧ r.2.mem ((c.tc : Thread Cert.FfnDwoutIdeal.nD Cert.FfnDwoutIdeal.τ).loc Cert.FfnDwoutIdeal.main_arg1) = m ((c.tc : Thread Cert.FfnDwoutIdeal.nD Cert.FfnDwoutIdeal.τ).loc Cert.FfnDwoutIdeal.main_arg1))
      ∧ θ_run (Cert.FfnDwoutReferenceIdeal.defs (F := Ideal)) (onTc (τ := Cert.FfnDwoutReferenceIdeal.τ) (Cert.FfnDwoutReferenceIdeal.main (F := Ideal))) ⟨m', fun _ => 0, g'⟩ (fun r => ∀ c : Dev Cert.FfnDwoutReferenceIdeal.nD,
          r.2.mem ((c.tc : Thread Cert.FfnDwoutReferenceIdeal.nD Cert.FfnDwoutReferenceIdeal.τ).loc Cert.FfnDwoutReferenceIdeal.main_v5) = v0 c
          ∧ r.2.mem ((c.tc : Thread Cert.FfnDwoutReferenceIdeal.nD Cert.FfnDwoutReferenceIdeal.τ).loc Cert.FfnDwoutReferenceIdeal.main_arg0) = m' ((c.tc : Thread Cert.FfnDwoutReferenceIdeal.nD Cert.FfnDwoutReferenceIdeal.τ).loc Cert.FfnDwoutReferenceIdeal.main_arg0)
          ∧ r.2.mem ((c.tc : Thread Cert.FfnDwoutReferenceIdeal.nD Cert.FfnDwoutReferenceIdeal.τ).loc Cert.FfnDwoutReferenceIdeal.main_arg1) = m' ((c.tc : Thread Cert.FfnDwoutReferenceIdeal.nD Cert.FfnDwoutReferenceIdeal.τ).loc Cert.FfnDwoutReferenceIdeal.main_arg1))

def preserves_FfnDact_FfnDactIdeal : Prop :=
  True

def algebraic_FfnDactIdeal_FfnDactReferenceIdeal [hFfnDactIdeal : Cert.FfnDactIdeal.Facts] [hFfnDactReferenceIdeal : Cert.FfnDactReferenceIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactReferenceIdeal.nD Cert.FfnDactReferenceIdeal.τ Cert.FfnDactReferenceIdeal.sig) → Buf (Elt Ideal) ℓ) (g' : Dev Cert.FfnDactReferenceIdeal.nD → PrngReg), Pre_FfnDactIdeal m →
    (∀ c : Dev Cert.FfnDactIdeal.nD,
      m' ((c.tc : Thread Cert.FfnDactReferenceIdeal.nD Cert.FfnDactReferenceIdeal.τ).loc Cert.FfnDactReferenceIdeal.main_arg0) = m ((c.tc : Thread Cert.FfnDactIdeal.nD Cert.FfnDactIdeal.τ).loc Cert.FfnDactIdeal.main_arg0)
      ∧ m' ((c.tc : Thread Cert.FfnDactReferenceIdeal.nD Cert.FfnDactReferenceIdeal.τ).loc Cert.FfnDactReferenceIdeal.main_arg1) = m ((c.tc : Thread Cert.FfnDactIdeal.nD Cert.FfnDactIdeal.τ).loc Cert.FfnDactIdeal.main_arg1)) →
    ∃ (v0 : (c : Dev Cert.FfnDactIdeal.nD) → Buf (Elt Ideal) ((c.tc : Thread Cert.FfnDactIdeal.nD Cert.FfnDactIdeal.τ).loc Cert.FfnDactIdeal.main_v0)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v0) = v0 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1))
      ∧ θ_run (Cert.FfnDactReferenceIdeal.defs (F := Ideal)) (onTc (τ := Cert.FfnDactReferenceIdeal.τ) (Cert.FfnDactReferenceIdeal.main (F := Ideal))) ⟨m', fun _ => 0, g'⟩ (fun r => ∀ c : Dev Cert.FfnDactReferenceIdeal.nD,
          r.2.mem ((c.tc : Thread Cert.FfnDactReferenceIdeal.nD Cert.FfnDactReferenceIdeal.τ).loc Cert.FfnDactReferenceIdeal.main_v3) = v0 c
          ∧ r.2.mem ((c.tc : Thread Cert.FfnDactReferenceIdeal.nD Cert.FfnDactReferenceIdeal.τ).loc Cert.FfnDactReferenceIdeal.main_arg0) = m' ((c.tc : Thread Cert.FfnDactReferenceIdeal.nD Cert.FfnDactReferenceIdeal.τ).loc Cert.FfnDactReferenceIdeal.main_arg0)
          ∧ r.2.mem ((c.tc : Thread Cert.FfnDactReferenceIdeal.nD Cert.FfnDactReferenceIdeal.τ).loc Cert.FfnDactReferenceIdeal.main_arg1) = m' ((c.tc : Thread Cert.FfnDactReferenceIdeal.nD Cert.FfnDactReferenceIdeal.τ).loc Cert.FfnDactReferenceIdeal.main_arg1))

def preserves_AttDhn_AttDhnIdeal : Prop :=
  True

def algebraic_AttDhnIdeal_AttDhnReferenceIdeal [hAttDhnIdeal : Cert.AttDhnIdeal.Facts] [hAttDhnReferenceIdeal : Cert.AttDhnReferenceIdeal.Facts] : Prop :=
  ∀ (m : (ℓ : Loc Cert.AttDhnIdeal.nD Cert.AttDhnIdeal.τ Cert.AttDhnIdeal.sig) → Buf (Elt Ideal) ℓ) (g : Dev Cert.AttDhnIdeal.nD → PrngReg)
    (m' : (ℓ : Loc Cert.AttDhnReferenceIdeal.nD Cert.AttDhnReferenceIdeal.τ Cert.AttDhnReferenceIdeal.sig) → Buf (Elt Ideal) ℓ) (g' : Dev Cert.AttDhnReferenceIdeal.nD → PrngReg), Pre_AttDhnIdeal m →
    (∀ c : Dev Cert.AttDhnIdeal.nD,
      m' ((c.tc : Thread Cert.AttDhnReferenceIdeal.nD Cert.AttDhnReferenceIdeal.τ).loc Cert.AttDhnReferenceIdeal.main_arg0) = m ((c.tc : Thread Cert.AttDhnIdeal.nD Cert.AttDhnIdeal.τ).loc Cert.AttDhnIdeal.main_arg0)
      ∧ m' ((c.tc : Thread Cert.AttDhnReferenceIdeal.nD Cert.AttDhnReferenceIdeal.τ).loc Cert.AttDhnReferenceIdeal.main_arg1) = m ((c.tc : Thread Cert.AttDhnIdeal.nD Cert.AttDhnIdeal.τ).loc Cert.AttDhnIdeal.main_arg1)
      ∧ m' ((c.tc : Thread Cert.AttDhnReferenceIdeal.nD Cert.AttDhnReferenceIdeal.τ).loc Cert.AttDhnReferenceIdeal.main_arg2) = m ((c.tc : Thread Cert.AttDhnIdeal.nD Cert.AttDhnIdeal.τ).loc Cert.AttDhnIdeal.main_arg2)
      ∧ m' ((c.tc : Thread Cert.AttDhnReferenceIdeal.nD Cert.AttDhnReferenceIdeal.τ).loc Cert.AttDhnReferenceIdeal.main_arg3) = m ((c.tc : Thread Cert.AttDhnIdeal.nD Cert.AttDhnIdeal.τ).loc Cert.AttDhnIdeal.main_arg3)
      ∧ m' ((c.tc : Thread Cert.AttDhnReferenceIdeal.nD Cert.AttDhnReferenceIdeal.τ).loc Cert.AttDhnReferenceIdeal.main_arg4) = m ((c.tc : Thread Cert.AttDhnIdeal.nD Cert.AttDhnIdeal.τ).loc Cert.AttDhnIdeal.main_arg4)) →
    ∃ (v0 : (c : Dev Cert.AttDhnIdeal.nD) → Buf (Elt Ideal) ((c.tc : Thread Cert.AttDhnIdeal.nD Cert.AttDhnIdeal.τ).loc Cert.AttDhnIdeal.main_v1_0)) (v1 : (c : Dev Cert.AttDhnIdeal.nD) → Buf (Elt Ideal) ((c.tc : Thread Cert.AttDhnIdeal.nD Cert.AttDhnIdeal.τ).loc Cert.AttDhnIdeal.main_v1_1)),
      θ_run (Cert.AttDhnIdeal.defs (F := Ideal)) (onTc (τ := Cert.AttDhnIdeal.τ) (Cert.AttDhnIdeal.main (F := Ideal))) ⟨m, fun _ => 0, g⟩ (fun r => ∀ c : Dev Cert.AttDhnIdeal.nD,
          r.2.mem ((c.tc : Thread Cert.AttDhnIdeal.nD Cert.AttDhnIdeal.τ).loc Cert.AttDhnIdeal.main_v1_0) = v0 c
          ∧ r.2.mem ((c.tc : Thread Cert.AttDhnIdeal.nD Cert.AttDhnIdeal.τ).loc Cert.AttDhnIdeal.main_v1_1) = v1 c
          ∧ r.2.mem ((c.tc : Thread Cert.AttDhnIdeal.nD Cert.AttDhnIdeal.τ).loc Cert.AttDhnIdeal.main_arg0) = m ((c.tc : Thread Cert.AttDhnIdeal.nD Cert.AttDhnIdeal.τ).loc Cert.AttDhnIdeal.main_arg0)
          ∧ r.2.mem ((c.tc : Thread Cert.AttDhnIdeal.nD Cert.AttDhnIdeal.τ).loc Cert.AttDhnIdeal.main_arg1) = m ((c.tc : Thread Cert.AttDhnIdeal.nD Cert.AttDhnIdeal.τ).loc Cert.AttDhnIdeal.main_arg1)
          ∧ r.2.mem ((c.tc : Thread Cert.AttDhnIdeal.nD Cert.AttDhnIdeal.τ).loc Cert.AttDhnIdeal.main_arg2) = m ((c.tc : Thread Cert.AttDhnIdeal.nD Cert.AttDhnIdeal.τ).loc Cert.AttDhnIdeal.main_arg2)
          ∧ r.2.mem ((c.tc : Thread Cert.AttDhnIdeal.nD Cert.AttDhnIdeal.τ).loc Cert.AttDhnIdeal.main_arg3) = m ((c.tc : Thread Cert.AttDhnIdeal.nD Cert.AttDhnIdeal.τ).loc Cert.AttDhnIdeal.main_arg3)
          ∧ r.2.mem ((c.tc : Thread Cert.AttDhnIdeal.nD Cert.AttDhnIdeal.τ).loc Cert.AttDhnIdeal.main_arg4) = m ((c.tc : Thread Cert.AttDhnIdeal.nD Cert.AttDhnIdeal.τ).loc Cert.AttDhnIdeal.main_arg4))
      ∧ θ_run (Cert.AttDhnReferenceIdeal.defs (F := Ideal)) (onTc (τ := Cert.AttDhnReferenceIdeal.τ) (Cert.AttDhnReferenceIdeal.main (F := Ideal))) ⟨m', fun _ => 0, g'⟩ (fun r => ∀ c : Dev Cert.AttDhnReferenceIdeal.nD,
          r.2.mem ((c.tc : Thread Cert.AttDhnReferenceIdeal.nD Cert.AttDhnReferenceIdeal.τ).loc Cert.AttDhnReferenceIdeal.main_v41) = v0 c
          ∧ r.2.mem ((c.tc : Thread Cert.AttDhnReferenceIdeal.nD Cert.AttDhnReferenceIdeal.τ).loc Cert.AttDhnReferenceIdeal.main_v42) = v1 c
          ∧ r.2.mem ((c.tc : Thread Cert.AttDhnReferenceIdeal.nD Cert.AttDhnReferenceIdeal.τ).loc Cert.AttDhnReferenceIdeal.main_arg0) = m' ((c.tc : Thread Cert.AttDhnReferenceIdeal.nD Cert.AttDhnReferenceIdeal.τ).loc Cert.AttDhnReferenceIdeal.main_arg0)
          ∧ r.2.mem ((c.tc : Thread Cert.AttDhnReferenceIdeal.nD Cert.AttDhnReferenceIdeal.τ).loc Cert.AttDhnReferenceIdeal.main_arg1) = m' ((c.tc : Thread Cert.AttDhnReferenceIdeal.nD Cert.AttDhnReferenceIdeal.τ).loc Cert.AttDhnReferenceIdeal.main_arg1)
          ∧ r.2.mem ((c.tc : Thread Cert.AttDhnReferenceIdeal.nD Cert.AttDhnReferenceIdeal.τ).loc Cert.AttDhnReferenceIdeal.main_arg2) = m' ((c.tc : Thread Cert.AttDhnReferenceIdeal.nD Cert.AttDhnReferenceIdeal.τ).loc Cert.AttDhnReferenceIdeal.main_arg2)
          ∧ r.2.mem ((c.tc : Thread Cert.AttDhnReferenceIdeal.nD Cert.AttDhnReferenceIdeal.τ).loc Cert.AttDhnReferenceIdeal.main_arg3) = m' ((c.tc : Thread Cert.AttDhnReferenceIdeal.nD Cert.AttDhnReferenceIdeal.τ).loc Cert.AttDhnReferenceIdeal.main_arg3)
          ∧ r.2.mem ((c.tc : Thread Cert.AttDhnReferenceIdeal.nD Cert.AttDhnReferenceIdeal.τ).loc Cert.AttDhnReferenceIdeal.main_arg4) = m' ((c.tc : Thread Cert.AttDhnReferenceIdeal.nD Cert.AttDhnReferenceIdeal.τ).loc Cert.AttDhnReferenceIdeal.main_arg4))

def preserves_MixDhn_MixDhnIdeal : Prop :=
  True

def algebraic_MixDhnIdeal_MixDhnReferenceIdeal [hMixDhnIdeal : Cert.MixDhnIdeal.Facts] [hMixDhnReferenceIdeal : Cert.MixDhnReferenceIdeal.Facts] : Prop :=
  ∀ (m : (ℓ : Loc Cert.MixDhnIdeal.nD Cert.MixDhnIdeal.τ Cert.MixDhnIdeal.sig) → Buf (Elt Ideal) ℓ) (g : Dev Cert.MixDhnIdeal.nD → PrngReg)
    (m' : (ℓ : Loc Cert.MixDhnReferenceIdeal.nD Cert.MixDhnReferenceIdeal.τ Cert.MixDhnReferenceIdeal.sig) → Buf (Elt Ideal) ℓ) (g' : Dev Cert.MixDhnReferenceIdeal.nD → PrngReg), Pre_MixDhnIdeal m →
    (∀ c : Dev Cert.MixDhnIdeal.nD,
      m' ((c.tc : Thread Cert.MixDhnReferenceIdeal.nD Cert.MixDhnReferenceIdeal.τ).loc Cert.MixDhnReferenceIdeal.main_arg0) = m ((c.tc : Thread Cert.MixDhnIdeal.nD Cert.MixDhnIdeal.τ).loc Cert.MixDhnIdeal.main_arg0)
      ∧ m' ((c.tc : Thread Cert.MixDhnReferenceIdeal.nD Cert.MixDhnReferenceIdeal.τ).loc Cert.MixDhnReferenceIdeal.main_arg1) = m ((c.tc : Thread Cert.MixDhnIdeal.nD Cert.MixDhnIdeal.τ).loc Cert.MixDhnIdeal.main_arg1)
      ∧ m' ((c.tc : Thread Cert.MixDhnReferenceIdeal.nD Cert.MixDhnReferenceIdeal.τ).loc Cert.MixDhnReferenceIdeal.main_arg2) = m ((c.tc : Thread Cert.MixDhnIdeal.nD Cert.MixDhnIdeal.τ).loc Cert.MixDhnIdeal.main_arg2)
      ∧ m' ((c.tc : Thread Cert.MixDhnReferenceIdeal.nD Cert.MixDhnReferenceIdeal.τ).loc Cert.MixDhnReferenceIdeal.main_arg3) = m ((c.tc : Thread Cert.MixDhnIdeal.nD Cert.MixDhnIdeal.τ).loc Cert.MixDhnIdeal.main_arg3)
      ∧ m' ((c.tc : Thread Cert.MixDhnReferenceIdeal.nD Cert.MixDhnReferenceIdeal.τ).loc Cert.MixDhnReferenceIdeal.main_arg4) = m ((c.tc : Thread Cert.MixDhnIdeal.nD Cert.MixDhnIdeal.τ).loc Cert.MixDhnIdeal.main_arg4)) →
    ∃ (v0 : (c : Dev Cert.MixDhnIdeal.nD) → Buf (Elt Ideal) ((c.tc : Thread Cert.MixDhnIdeal.nD Cert.MixDhnIdeal.τ).loc Cert.MixDhnIdeal.main_v1_0)) (v1 : (c : Dev Cert.MixDhnIdeal.nD) → Buf (Elt Ideal) ((c.tc : Thread Cert.MixDhnIdeal.nD Cert.MixDhnIdeal.τ).loc Cert.MixDhnIdeal.main_v1_1)),
      θ_run (Cert.MixDhnIdeal.defs (F := Ideal)) (onTc (τ := Cert.MixDhnIdeal.τ) (Cert.MixDhnIdeal.main (F := Ideal))) ⟨m, fun _ => 0, g⟩ (fun r => ∀ c : Dev Cert.MixDhnIdeal.nD,
          r.2.mem ((c.tc : Thread Cert.MixDhnIdeal.nD Cert.MixDhnIdeal.τ).loc Cert.MixDhnIdeal.main_v1_0) = v0 c
          ∧ r.2.mem ((c.tc : Thread Cert.MixDhnIdeal.nD Cert.MixDhnIdeal.τ).loc Cert.MixDhnIdeal.main_v1_1) = v1 c
          ∧ r.2.mem ((c.tc : Thread Cert.MixDhnIdeal.nD Cert.MixDhnIdeal.τ).loc Cert.MixDhnIdeal.main_arg0) = m ((c.tc : Thread Cert.MixDhnIdeal.nD Cert.MixDhnIdeal.τ).loc Cert.MixDhnIdeal.main_arg0)
          ∧ r.2.mem ((c.tc : Thread Cert.MixDhnIdeal.nD Cert.MixDhnIdeal.τ).loc Cert.MixDhnIdeal.main_arg1) = m ((c.tc : Thread Cert.MixDhnIdeal.nD Cert.MixDhnIdeal.τ).loc Cert.MixDhnIdeal.main_arg1)
          ∧ r.2.mem ((c.tc : Thread Cert.MixDhnIdeal.nD Cert.MixDhnIdeal.τ).loc Cert.MixDhnIdeal.main_arg2) = m ((c.tc : Thread Cert.MixDhnIdeal.nD Cert.MixDhnIdeal.τ).loc Cert.MixDhnIdeal.main_arg2)
          ∧ r.2.mem ((c.tc : Thread Cert.MixDhnIdeal.nD Cert.MixDhnIdeal.τ).loc Cert.MixDhnIdeal.main_arg3) = m ((c.tc : Thread Cert.MixDhnIdeal.nD Cert.MixDhnIdeal.τ).loc Cert.MixDhnIdeal.main_arg3)
          ∧ r.2.mem ((c.tc : Thread Cert.MixDhnIdeal.nD Cert.MixDhnIdeal.τ).loc Cert.MixDhnIdeal.main_arg4) = m ((c.tc : Thread Cert.MixDhnIdeal.nD Cert.MixDhnIdeal.τ).loc Cert.MixDhnIdeal.main_arg4))
      ∧ θ_run (Cert.MixDhnReferenceIdeal.defs (F := Ideal)) (onTc (τ := Cert.MixDhnReferenceIdeal.τ) (Cert.MixDhnReferenceIdeal.main (F := Ideal))) ⟨m', fun _ => 0, g'⟩ (fun r => ∀ c : Dev Cert.MixDhnReferenceIdeal.nD,
          r.2.mem ((c.tc : Thread Cert.MixDhnReferenceIdeal.nD Cert.MixDhnReferenceIdeal.τ).loc Cert.MixDhnReferenceIdeal.main_v41) = v0 c
          ∧ r.2.mem ((c.tc : Thread Cert.MixDhnReferenceIdeal.nD Cert.MixDhnReferenceIdeal.τ).loc Cert.MixDhnReferenceIdeal.main_v42) = v1 c
          ∧ r.2.mem ((c.tc : Thread Cert.MixDhnReferenceIdeal.nD Cert.MixDhnReferenceIdeal.τ).loc Cert.MixDhnReferenceIdeal.main_arg0) = m' ((c.tc : Thread Cert.MixDhnReferenceIdeal.nD Cert.MixDhnReferenceIdeal.τ).loc Cert.MixDhnReferenceIdeal.main_arg0)
          ∧ r.2.mem ((c.tc : Thread Cert.MixDhnReferenceIdeal.nD Cert.MixDhnReferenceIdeal.τ).loc Cert.MixDhnReferenceIdeal.main_arg1) = m' ((c.tc : Thread Cert.MixDhnReferenceIdeal.nD Cert.MixDhnReferenceIdeal.τ).loc Cert.MixDhnReferenceIdeal.main_arg1)
          ∧ r.2.mem ((c.tc : Thread Cert.MixDhnReferenceIdeal.nD Cert.MixDhnReferenceIdeal.τ).loc Cert.MixDhnReferenceIdeal.main_arg2) = m' ((c.tc : Thread Cert.MixDhnReferenceIdeal.nD Cert.MixDhnReferenceIdeal.τ).loc Cert.MixDhnReferenceIdeal.main_arg2)
          ∧ r.2.mem ((c.tc : Thread Cert.MixDhnReferenceIdeal.nD Cert.MixDhnReferenceIdeal.τ).loc Cert.MixDhnReferenceIdeal.main_arg3) = m' ((c.tc : Thread Cert.MixDhnReferenceIdeal.nD Cert.MixDhnReferenceIdeal.τ).loc Cert.MixDhnReferenceIdeal.main_arg3)
          ∧ r.2.mem ((c.tc : Thread Cert.MixDhnReferenceIdeal.nD Cert.MixDhnReferenceIdeal.τ).loc Cert.MixDhnReferenceIdeal.main_arg4) = m' ((c.tc : Thread Cert.MixDhnReferenceIdeal.nD Cert.MixDhnReferenceIdeal.τ).loc Cert.MixDhnReferenceIdeal.main_arg4))

def preserves_AttDwqkv_AttDwqkvIdeal : Prop :=
  True

def algebraic_AttDwqkvIdeal_AttDwqkvReferenceIdeal [hAttDwqkvIdeal : Cert.AttDwqkvIdeal.Facts] [hAttDwqkvReferenceIdeal : Cert.AttDwqkvReferenceIdeal.Facts] : Prop :=
  ∀ (m : (ℓ : Loc Cert.AttDwqkvIdeal.nD Cert.AttDwqkvIdeal.τ Cert.AttDwqkvIdeal.sig) → Buf (Elt Ideal) ℓ) (g : Dev Cert.AttDwqkvIdeal.nD → PrngReg)
    (m' : (ℓ : Loc Cert.AttDwqkvReferenceIdeal.nD Cert.AttDwqkvReferenceIdeal.τ Cert.AttDwqkvReferenceIdeal.sig) → Buf (Elt Ideal) ℓ) (g' : Dev Cert.AttDwqkvReferenceIdeal.nD → PrngReg), Pre_AttDwqkvIdeal m →
    (∀ c : Dev Cert.AttDwqkvIdeal.nD,
      m' ((c.tc : Thread Cert.AttDwqkvReferenceIdeal.nD Cert.AttDwqkvReferenceIdeal.τ).loc Cert.AttDwqkvReferenceIdeal.main_arg0) = m ((c.tc : Thread Cert.AttDwqkvIdeal.nD Cert.AttDwqkvIdeal.τ).loc Cert.AttDwqkvIdeal.main_arg0)
      ∧ m' ((c.tc : Thread Cert.AttDwqkvReferenceIdeal.nD Cert.AttDwqkvReferenceIdeal.τ).loc Cert.AttDwqkvReferenceIdeal.main_arg1) = m ((c.tc : Thread Cert.AttDwqkvIdeal.nD Cert.AttDwqkvIdeal.τ).loc Cert.AttDwqkvIdeal.main_arg1)) →
    ∃ (v0 : (c : Dev Cert.AttDwqkvIdeal.nD) → Buf (Elt Ideal) ((c.tc : Thread Cert.AttDwqkvIdeal.nD Cert.AttDwqkvIdeal.τ).loc Cert.AttDwqkvIdeal.main_v0)),
      θ_run (Cert.AttDwqkvIdeal.defs (F := Ideal)) (onTc (τ := Cert.AttDwqkvIdeal.τ) (Cert.AttDwqkvIdeal.main (F := Ideal))) ⟨m, fun _ => 0, g⟩ (fun r => ∀ c : Dev Cert.AttDwqkvIdeal.nD,
          r.2.mem ((c.tc : Thread Cert.AttDwqkvIdeal.nD Cert.AttDwqkvIdeal.τ).loc Cert.AttDwqkvIdeal.main_v0) = v0 c
          ∧ r.2.mem ((c.tc : Thread Cert.AttDwqkvIdeal.nD Cert.AttDwqkvIdeal.τ).loc Cert.AttDwqkvIdeal.main_arg0) = m ((c.tc : Thread Cert.AttDwqkvIdeal.nD Cert.AttDwqkvIdeal.τ).loc Cert.AttDwqkvIdeal.main_arg0)
          ∧ r.2.mem ((c.tc : Thread Cert.AttDwqkvIdeal.nD Cert.AttDwqkvIdeal.τ).loc Cert.AttDwqkvIdeal.main_arg1) = m ((c.tc : Thread Cert.AttDwqkvIdeal.nD Cert.AttDwqkvIdeal.τ).loc Cert.AttDwqkvIdeal.main_arg1))
      ∧ θ_run (Cert.AttDwqkvReferenceIdeal.defs (F := Ideal)) (onTc (τ := Cert.AttDwqkvReferenceIdeal.τ) (Cert.AttDwqkvReferenceIdeal.main (F := Ideal))) ⟨m', fun _ => 0, g'⟩ (fun r => ∀ c : Dev Cert.AttDwqkvReferenceIdeal.nD,
          r.2.mem ((c.tc : Thread Cert.AttDwqkvReferenceIdeal.nD Cert.AttDwqkvReferenceIdeal.τ).loc Cert.AttDwqkvReferenceIdeal.main_v7) = v0 c
          ∧ r.2.mem ((c.tc : Thread Cert.AttDwqkvReferenceIdeal.nD Cert.AttDwqkvReferenceIdeal.τ).loc Cert.AttDwqkvReferenceIdeal.main_arg0) = m' ((c.tc : Thread Cert.AttDwqkvReferenceIdeal.nD Cert.AttDwqkvReferenceIdeal.τ).loc Cert.AttDwqkvReferenceIdeal.main_arg0)
          ∧ r.2.mem ((c.tc : Thread Cert.AttDwqkvReferenceIdeal.nD Cert.AttDwqkvReferenceIdeal.τ).loc Cert.AttDwqkvReferenceIdeal.main_arg1) = m' ((c.tc : Thread Cert.AttDwqkvReferenceIdeal.nD Cert.AttDwqkvReferenceIdeal.τ).loc Cert.AttDwqkvReferenceIdeal.main_arg1))

def preserves_MixDwin_MixDwinIdeal : Prop :=
  True

def algebraic_MixDwinIdeal_MixDwinReferenceIdeal [hMixDwinIdeal : Cert.MixDwinIdeal.Facts] [hMixDwinReferenceIdeal : Cert.MixDwinReferenceIdeal.Facts] : Prop :=
  ∀ (m : (ℓ : Loc Cert.MixDwinIdeal.nD Cert.MixDwinIdeal.τ Cert.MixDwinIdeal.sig) → Buf (Elt Ideal) ℓ) (g : Dev Cert.MixDwinIdeal.nD → PrngReg)
    (m' : (ℓ : Loc Cert.MixDwinReferenceIdeal.nD Cert.MixDwinReferenceIdeal.τ Cert.MixDwinReferenceIdeal.sig) → Buf (Elt Ideal) ℓ) (g' : Dev Cert.MixDwinReferenceIdeal.nD → PrngReg), Pre_MixDwinIdeal m →
    (∀ c : Dev Cert.MixDwinIdeal.nD,
      m' ((c.tc : Thread Cert.MixDwinReferenceIdeal.nD Cert.MixDwinReferenceIdeal.τ).loc Cert.MixDwinReferenceIdeal.main_arg0) = m ((c.tc : Thread Cert.MixDwinIdeal.nD Cert.MixDwinIdeal.τ).loc Cert.MixDwinIdeal.main_arg0)
      ∧ m' ((c.tc : Thread Cert.MixDwinReferenceIdeal.nD Cert.MixDwinReferenceIdeal.τ).loc Cert.MixDwinReferenceIdeal.main_arg1) = m ((c.tc : Thread Cert.MixDwinIdeal.nD Cert.MixDwinIdeal.τ).loc Cert.MixDwinIdeal.main_arg1)) →
    ∃ (v0 : (c : Dev Cert.MixDwinIdeal.nD) → Buf (Elt Ideal) ((c.tc : Thread Cert.MixDwinIdeal.nD Cert.MixDwinIdeal.τ).loc Cert.MixDwinIdeal.main_v0)),
      θ_run (Cert.MixDwinIdeal.defs (F := Ideal)) (onTc (τ := Cert.MixDwinIdeal.τ) (Cert.MixDwinIdeal.main (F := Ideal))) ⟨m, fun _ => 0, g⟩ (fun r => ∀ c : Dev Cert.MixDwinIdeal.nD,
          r.2.mem ((c.tc : Thread Cert.MixDwinIdeal.nD Cert.MixDwinIdeal.τ).loc Cert.MixDwinIdeal.main_v0) = v0 c
          ∧ r.2.mem ((c.tc : Thread Cert.MixDwinIdeal.nD Cert.MixDwinIdeal.τ).loc Cert.MixDwinIdeal.main_arg0) = m ((c.tc : Thread Cert.MixDwinIdeal.nD Cert.MixDwinIdeal.τ).loc Cert.MixDwinIdeal.main_arg0)
          ∧ r.2.mem ((c.tc : Thread Cert.MixDwinIdeal.nD Cert.MixDwinIdeal.τ).loc Cert.MixDwinIdeal.main_arg1) = m ((c.tc : Thread Cert.MixDwinIdeal.nD Cert.MixDwinIdeal.τ).loc Cert.MixDwinIdeal.main_arg1))
      ∧ θ_run (Cert.MixDwinReferenceIdeal.defs (F := Ideal)) (onTc (τ := Cert.MixDwinReferenceIdeal.τ) (Cert.MixDwinReferenceIdeal.main (F := Ideal))) ⟨m', fun _ => 0, g'⟩ (fun r => ∀ c : Dev Cert.MixDwinReferenceIdeal.nD,
          r.2.mem ((c.tc : Thread Cert.MixDwinReferenceIdeal.nD Cert.MixDwinReferenceIdeal.τ).loc Cert.MixDwinReferenceIdeal.main_v7) = v0 c
          ∧ r.2.mem ((c.tc : Thread Cert.MixDwinReferenceIdeal.nD Cert.MixDwinReferenceIdeal.τ).loc Cert.MixDwinReferenceIdeal.main_arg0) = m' ((c.tc : Thread Cert.MixDwinReferenceIdeal.nD Cert.MixDwinReferenceIdeal.τ).loc Cert.MixDwinReferenceIdeal.main_arg0)
          ∧ r.2.mem ((c.tc : Thread Cert.MixDwinReferenceIdeal.nD Cert.MixDwinReferenceIdeal.τ).loc Cert.MixDwinReferenceIdeal.main_arg1) = m' ((c.tc : Thread Cert.MixDwinReferenceIdeal.nD Cert.MixDwinReferenceIdeal.τ).loc Cert.MixDwinReferenceIdeal.main_arg1))

def preserves_MixDwout_MixDwoutIdeal : Prop :=
  True

def algebraic_MixDwoutIdeal_MixDwoutReferenceIdeal [hMixDwoutIdeal : Cert.MixDwoutIdeal.Facts] [hMixDwoutReferenceIdeal : Cert.MixDwoutReferenceIdeal.Facts] : Prop :=
  ∀ (m : (ℓ : Loc Cert.MixDwoutIdeal.nD Cert.MixDwoutIdeal.τ Cert.MixDwoutIdeal.sig) → Buf (Elt Ideal) ℓ) (g : Dev Cert.MixDwoutIdeal.nD → PrngReg)
    (m' : (ℓ : Loc Cert.MixDwoutReferenceIdeal.nD Cert.MixDwoutReferenceIdeal.τ Cert.MixDwoutReferenceIdeal.sig) → Buf (Elt Ideal) ℓ) (g' : Dev Cert.MixDwoutReferenceIdeal.nD → PrngReg), Pre_MixDwoutIdeal m →
    (∀ c : Dev Cert.MixDwoutIdeal.nD,
      m' ((c.tc : Thread Cert.MixDwoutReferenceIdeal.nD Cert.MixDwoutReferenceIdeal.τ).loc Cert.MixDwoutReferenceIdeal.main_arg0) = m ((c.tc : Thread Cert.MixDwoutIdeal.nD Cert.MixDwoutIdeal.τ).loc Cert.MixDwoutIdeal.main_arg0)
      ∧ m' ((c.tc : Thread Cert.MixDwoutReferenceIdeal.nD Cert.MixDwoutReferenceIdeal.τ).loc Cert.MixDwoutReferenceIdeal.main_arg1) = m ((c.tc : Thread Cert.MixDwoutIdeal.nD Cert.MixDwoutIdeal.τ).loc Cert.MixDwoutIdeal.main_arg1)) →
    ∃ (v0 : (c : Dev Cert.MixDwoutIdeal.nD) → Buf (Elt Ideal) ((c.tc : Thread Cert.MixDwoutIdeal.nD Cert.MixDwoutIdeal.τ).loc Cert.MixDwoutIdeal.main_v0)),
      θ_run (Cert.MixDwoutIdeal.defs (F := Ideal)) (onTc (τ := Cert.MixDwoutIdeal.τ) (Cert.MixDwoutIdeal.main (F := Ideal))) ⟨m, fun _ => 0, g⟩ (fun r => ∀ c : Dev Cert.MixDwoutIdeal.nD,
          r.2.mem ((c.tc : Thread Cert.MixDwoutIdeal.nD Cert.MixDwoutIdeal.τ).loc Cert.MixDwoutIdeal.main_v0) = v0 c
          ∧ r.2.mem ((c.tc : Thread Cert.MixDwoutIdeal.nD Cert.MixDwoutIdeal.τ).loc Cert.MixDwoutIdeal.main_arg0) = m ((c.tc : Thread Cert.MixDwoutIdeal.nD Cert.MixDwoutIdeal.τ).loc Cert.MixDwoutIdeal.main_arg0)
          ∧ r.2.mem ((c.tc : Thread Cert.MixDwoutIdeal.nD Cert.MixDwoutIdeal.τ).loc Cert.MixDwoutIdeal.main_arg1) = m ((c.tc : Thread Cert.MixDwoutIdeal.nD Cert.MixDwoutIdeal.τ).loc Cert.MixDwoutIdeal.main_arg1))
      ∧ θ_run (Cert.MixDwoutReferenceIdeal.defs (F := Ideal)) (onTc (τ := Cert.MixDwoutReferenceIdeal.τ) (Cert.MixDwoutReferenceIdeal.main (F := Ideal))) ⟨m', fun _ => 0, g'⟩ (fun r => ∀ c : Dev Cert.MixDwoutReferenceIdeal.nD,
          r.2.mem ((c.tc : Thread Cert.MixDwoutReferenceIdeal.nD Cert.MixDwoutReferenceIdeal.τ).loc Cert.MixDwoutReferenceIdeal.main_v5) = v0 c
          ∧ r.2.mem ((c.tc : Thread Cert.MixDwoutReferenceIdeal.nD Cert.MixDwoutReferenceIdeal.τ).loc Cert.MixDwoutReferenceIdeal.main_arg0) = m' ((c.tc : Thread Cert.MixDwoutReferenceIdeal.nD Cert.MixDwoutReferenceIdeal.τ).loc Cert.MixDwoutReferenceIdeal.main_arg0)
          ∧ r.2.mem ((c.tc : Thread Cert.MixDwoutReferenceIdeal.nD Cert.MixDwoutReferenceIdeal.τ).loc Cert.MixDwoutReferenceIdeal.main_arg1) = m' ((c.tc : Thread Cert.MixDwoutReferenceIdeal.nD Cert.MixDwoutReferenceIdeal.τ).loc Cert.MixDwoutReferenceIdeal.main_arg1))

def preserves_MixDcat_MixDcatIdeal : Prop :=
  True

def algebraic_MixDcatIdeal_MixDcatReferenceIdeal [hMixDcatIdeal : Cert.MixDcatIdeal.Facts] [hMixDcatReferenceIdeal : Cert.MixDcatReferenceIdeal.Facts] : Prop :=
  ∀ (m : (ℓ : Loc Cert.MixDcatIdeal.nD Cert.MixDcatIdeal.τ Cert.MixDcatIdeal.sig) → Buf (Elt Ideal) ℓ) (g : Dev Cert.MixDcatIdeal.nD → PrngReg)
    (m' : (ℓ : Loc Cert.MixDcatReferenceIdeal.nD Cert.MixDcatReferenceIdeal.τ Cert.MixDcatReferenceIdeal.sig) → Buf (Elt Ideal) ℓ) (g' : Dev Cert.MixDcatReferenceIdeal.nD → PrngReg), Pre_MixDcatIdeal m →
    (∀ c : Dev Cert.MixDcatIdeal.nD,
      m' ((c.tc : Thread Cert.MixDcatReferenceIdeal.nD Cert.MixDcatReferenceIdeal.τ).loc Cert.MixDcatReferenceIdeal.main_arg0) = m ((c.tc : Thread Cert.MixDcatIdeal.nD Cert.MixDcatIdeal.τ).loc Cert.MixDcatIdeal.main_arg0)
      ∧ m' ((c.tc : Thread Cert.MixDcatReferenceIdeal.nD Cert.MixDcatReferenceIdeal.τ).loc Cert.MixDcatReferenceIdeal.main_arg1) = m ((c.tc : Thread Cert.MixDcatIdeal.nD Cert.MixDcatIdeal.τ).loc Cert.MixDcatIdeal.main_arg1)) →
    ∃ (v0 : (c : Dev Cert.MixDcatIdeal.nD) → Buf (Elt Ideal) ((c.tc : Thread Cert.MixDcatIdeal.nD Cert.MixDcatIdeal.τ).loc Cert.MixDcatIdeal.main_v0)),
      θ_run (Cert.MixDcatIdeal.defs (F := Ideal)) (onTc (τ := Cert.MixDcatIdeal.τ) (Cert.MixDcatIdeal.main (F := Ideal))) ⟨m, fun _ => 0, g⟩ (fun r => ∀ c : Dev Cert.MixDcatIdeal.nD,
          r.2.mem ((c.tc : Thread Cert.MixDcatIdeal.nD Cert.MixDcatIdeal.τ).loc Cert.MixDcatIdeal.main_v0) = v0 c
          ∧ r.2.mem ((c.tc : Thread Cert.MixDcatIdeal.nD Cert.MixDcatIdeal.τ).loc Cert.MixDcatIdeal.main_arg0) = m ((c.tc : Thread Cert.MixDcatIdeal.nD Cert.MixDcatIdeal.τ).loc Cert.MixDcatIdeal.main_arg0)
          ∧ r.2.mem ((c.tc : Thread Cert.MixDcatIdeal.nD Cert.MixDcatIdeal.τ).loc Cert.MixDcatIdeal.main_arg1) = m ((c.tc : Thread Cert.MixDcatIdeal.nD Cert.MixDcatIdeal.τ).loc Cert.MixDcatIdeal.main_arg1))
      ∧ θ_run (Cert.MixDcatReferenceIdeal.defs (F := Ideal)) (onTc (τ := Cert.MixDcatReferenceIdeal.τ) (Cert.MixDcatReferenceIdeal.main (F := Ideal))) ⟨m', fun _ => 0, g'⟩ (fun r => ∀ c : Dev Cert.MixDcatReferenceIdeal.nD,
          r.2.mem ((c.tc : Thread Cert.MixDcatReferenceIdeal.nD Cert.MixDcatReferenceIdeal.τ).loc Cert.MixDcatReferenceIdeal.main_v3) = v0 c
          ∧ r.2.mem ((c.tc : Thread Cert.MixDcatReferenceIdeal.nD Cert.MixDcatReferenceIdeal.τ).loc Cert.MixDcatReferenceIdeal.main_arg0) = m' ((c.tc : Thread Cert.MixDcatReferenceIdeal.nD Cert.MixDcatReferenceIdeal.τ).loc Cert.MixDcatReferenceIdeal.main_arg0)
          ∧ r.2.mem ((c.tc : Thread Cert.MixDcatReferenceIdeal.nD Cert.MixDcatReferenceIdeal.τ).loc Cert.MixDcatReferenceIdeal.main_arg1) = m' ((c.tc : Thread Cert.MixDcatReferenceIdeal.nD Cert.MixDcatReferenceIdeal.τ).loc Cert.MixDcatReferenceIdeal.main_arg1))

def preserves_AttDwo_AttDwoIdeal : Prop :=
  True

def algebraic_AttDwoIdeal_AttDwoReferenceIdeal [hAttDwoIdeal : Cert.AttDwoIdeal.Facts] [hAttDwoReferenceIdeal : Cert.AttDwoReferenceIdeal.Facts] : Prop :=
  ∀ (m : (ℓ : Loc Cert.AttDwoIdeal.nD Cert.AttDwoIdeal.τ Cert.AttDwoIdeal.sig) → Buf (Elt Ideal) ℓ) (g : Dev Cert.AttDwoIdeal.nD → PrngReg)
    (m' : (ℓ : Loc Cert.AttDwoReferenceIdeal.nD Cert.AttDwoReferenceIdeal.τ Cert.AttDwoReferenceIdeal.sig) → Buf (Elt Ideal) ℓ) (g' : Dev Cert.AttDwoReferenceIdeal.nD → PrngReg), Pre_AttDwoIdeal m →
    (∀ c : Dev Cert.AttDwoIdeal.nD,
      m' ((c.tc : Thread Cert.AttDwoReferenceIdeal.nD Cert.AttDwoReferenceIdeal.τ).loc Cert.AttDwoReferenceIdeal.main_arg0) = m ((c.tc : Thread Cert.AttDwoIdeal.nD Cert.AttDwoIdeal.τ).loc Cert.AttDwoIdeal.main_arg0)
      ∧ m' ((c.tc : Thread Cert.AttDwoReferenceIdeal.nD Cert.AttDwoReferenceIdeal.τ).loc Cert.AttDwoReferenceIdeal.main_arg1) = m ((c.tc : Thread Cert.AttDwoIdeal.nD Cert.AttDwoIdeal.τ).loc Cert.AttDwoIdeal.main_arg1)) →
    ∃ (v0 : (c : Dev Cert.AttDwoIdeal.nD) → Buf (Elt Ideal) ((c.tc : Thread Cert.AttDwoIdeal.nD Cert.AttDwoIdeal.τ).loc Cert.AttDwoIdeal.main_v0)),
      θ_run (Cert.AttDwoIdeal.defs (F := Ideal)) (onTc (τ := Cert.AttDwoIdeal.τ) (Cert.AttDwoIdeal.main (F := Ideal))) ⟨m, fun _ => 0, g⟩ (fun r => ∀ c : Dev Cert.AttDwoIdeal.nD,
          r.2.mem ((c.tc : Thread Cert.AttDwoIdeal.nD Cert.AttDwoIdeal.τ).loc Cert.AttDwoIdeal.main_v0) = v0 c
          ∧ r.2.mem ((c.tc : Thread Cert.AttDwoIdeal.nD Cert.AttDwoIdeal.τ).loc Cert.AttDwoIdeal.main_arg0) = m ((c.tc : Thread Cert.AttDwoIdeal.nD Cert.AttDwoIdeal.τ).loc Cert.AttDwoIdeal.main_arg0)
          ∧ r.2.mem ((c.tc : Thread Cert.AttDwoIdeal.nD Cert.AttDwoIdeal.τ).loc Cert.AttDwoIdeal.main_arg1) = m ((c.tc : Thread Cert.AttDwoIdeal.nD Cert.AttDwoIdeal.τ).loc Cert.AttDwoIdeal.main_arg1))
      ∧ θ_run (Cert.AttDwoReferenceIdeal.defs (F := Ideal)) (onTc (τ := Cert.AttDwoReferenceIdeal.τ) (Cert.AttDwoReferenceIdeal.main (F := Ideal))) ⟨m', fun _ => 0, g'⟩ (fun r => ∀ c : Dev Cert.AttDwoReferenceIdeal.nD,
          r.2.mem ((c.tc : Thread Cert.AttDwoReferenceIdeal.nD Cert.AttDwoReferenceIdeal.τ).loc Cert.AttDwoReferenceIdeal.main_v4) = v0 c
          ∧ r.2.mem ((c.tc : Thread Cert.AttDwoReferenceIdeal.nD Cert.AttDwoReferenceIdeal.τ).loc Cert.AttDwoReferenceIdeal.main_arg0) = m' ((c.tc : Thread Cert.AttDwoReferenceIdeal.nD Cert.AttDwoReferenceIdeal.τ).loc Cert.AttDwoReferenceIdeal.main_arg0)
          ∧ r.2.mem ((c.tc : Thread Cert.AttDwoReferenceIdeal.nD Cert.AttDwoReferenceIdeal.τ).loc Cert.AttDwoReferenceIdeal.main_arg1) = m' ((c.tc : Thread Cert.AttDwoReferenceIdeal.nD Cert.AttDwoReferenceIdeal.τ).loc Cert.AttDwoReferenceIdeal.main_arg1))

def preserves_AttDmix_AttDmixIdeal : Prop :=
  True

def algebraic_AttDmixIdeal_AttDmixReferenceIdeal [hAttDmixIdeal : Cert.AttDmixIdeal.Facts] [hAttDmixReferenceIdeal : Cert.AttDmixReferenceIdeal.Facts] : Prop :=
  ∀ (m : (ℓ : Loc Cert.AttDmixIdeal.nD Cert.AttDmixIdeal.τ Cert.AttDmixIdeal.sig) → Buf (Elt Ideal) ℓ) (g : Dev Cert.AttDmixIdeal.nD → PrngReg)
    (m' : (ℓ : Loc Cert.AttDmixReferenceIdeal.nD Cert.AttDmixReferenceIdeal.τ Cert.AttDmixReferenceIdeal.sig) → Buf (Elt Ideal) ℓ) (g' : Dev Cert.AttDmixReferenceIdeal.nD → PrngReg), Pre_AttDmixIdeal m →
    (∀ c : Dev Cert.AttDmixIdeal.nD,
      m' ((c.tc : Thread Cert.AttDmixReferenceIdeal.nD Cert.AttDmixReferenceIdeal.τ).loc Cert.AttDmixReferenceIdeal.main_arg0) = m ((c.tc : Thread Cert.AttDmixIdeal.nD Cert.AttDmixIdeal.τ).loc Cert.AttDmixIdeal.main_arg0)
      ∧ m' ((c.tc : Thread Cert.AttDmixReferenceIdeal.nD Cert.AttDmixReferenceIdeal.τ).loc Cert.AttDmixReferenceIdeal.main_arg1) = m ((c.tc : Thread Cert.AttDmixIdeal.nD Cert.AttDmixIdeal.τ).loc Cert.AttDmixIdeal.main_arg1)) →
    ∃ (v0 : (c : Dev Cert.AttDmixIdeal.nD) → Buf (Elt Ideal) ((c.tc : Thread Cert.AttDmixIdeal.nD Cert.AttDmixIdeal.τ).loc Cert.AttDmixIdeal.main_v0)),
      θ_run (Cert.AttDmixIdeal.defs (F := Ideal)) (onTc (τ := Cert.AttDmixIdeal.τ) (Cert.AttDmixIdeal.main (F := Ideal))) ⟨m, fun _ => 0, g⟩ (fun r => ∀ c : Dev Cert.AttDmixIdeal.nD,
          r.2.mem ((c.tc : Thread Cert.AttDmixIdeal.nD Cert.AttDmixIdeal.τ).loc Cert.AttDmixIdeal.main_v0) = v0 c
          ∧ r.2.mem ((c.tc : Thread Cert.AttDmixIdeal.nD Cert.AttDmixIdeal.τ).loc Cert.AttDmixIdeal.main_arg0) = m ((c.tc : Thread Cert.AttDmixIdeal.nD Cert.AttDmixIdeal.τ).loc Cert.AttDmixIdeal.main_arg0)
          ∧ r.2.mem ((c.tc : Thread Cert.AttDmixIdeal.nD Cert.AttDmixIdeal.τ).loc Cert.AttDmixIdeal.main_arg1) = m ((c.tc : Thread Cert.AttDmixIdeal.nD Cert.AttDmixIdeal.τ).loc Cert.AttDmixIdeal.main_arg1))
      ∧ θ_run (Cert.AttDmixReferenceIdeal.defs (F := Ideal)) (onTc (τ := Cert.AttDmixReferenceIdeal.τ) (Cert.AttDmixReferenceIdeal.main (F := Ideal))) ⟨m', fun _ => 0, g'⟩ (fun r => ∀ c : Dev Cert.AttDmixReferenceIdeal.nD,
          r.2.mem ((c.tc : Thread Cert.AttDmixReferenceIdeal.nD Cert.AttDmixReferenceIdeal.τ).loc Cert.AttDmixReferenceIdeal.main_v3) = v0 c
          ∧ r.2.mem ((c.tc : Thread Cert.AttDmixReferenceIdeal.nD Cert.AttDmixReferenceIdeal.τ).loc Cert.AttDmixReferenceIdeal.main_arg0) = m' ((c.tc : Thread Cert.AttDmixReferenceIdeal.nD Cert.AttDmixReferenceIdeal.τ).loc Cert.AttDmixReferenceIdeal.main_arg0)
          ∧ r.2.mem ((c.tc : Thread Cert.AttDmixReferenceIdeal.nD Cert.AttDmixReferenceIdeal.τ).loc Cert.AttDmixReferenceIdeal.main_arg1) = m' ((c.tc : Thread Cert.AttDmixReferenceIdeal.nD Cert.AttDmixReferenceIdeal.τ).loc Cert.AttDmixReferenceIdeal.main_arg1))

def preserves_FfnOut_FfnOutIdeal : Prop :=
  True

def algebraic_FfnOutIdeal_FfnOutReferenceIdeal [hFfnOutIdeal : Cert.FfnOutIdeal.Facts] [hFfnOutReferenceIdeal : Cert.FfnOutReferenceIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)
      ∧ m' ((c.tc : Thread Cert.FfnOutReferenceIdeal.nD Cert.FfnOutReferenceIdeal.τ).loc Cert.FfnOutReferenceIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v3) = v0 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1)
          ∧ r.2.mem ((c.tc : Thread Cert.FfnOutReferenceIdeal.nD Cert.FfnOutReferenceIdeal.τ).loc Cert.FfnOutReferenceIdeal.main_arg2) = m' ((c.tc : Thread Cert.FfnOutReferenceIdeal.nD Cert.FfnOutReferenceIdeal.τ).loc Cert.FfnOutReferenceIdeal.main_arg2))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v3) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2))

def preserves_AttOut_AttOutIdeal : Prop :=
  True

def algebraic_AttOutIdeal_AttOutReferenceIdeal [hAttOutIdeal : Cert.AttOutIdeal.Facts] [hAttOutReferenceIdeal : Cert.AttOutReferenceIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutReferenceIdeal.nD Cert.AttOutReferenceIdeal.τ Cert.AttOutReferenceIdeal.sig) → Buf (Elt Ideal) ℓ) (g' : Dev Cert.AttOutReferenceIdeal.nD → PrngReg), Pre_AttOutIdeal m →
    (∀ c : Dev Cert.AttOutIdeal.nD,
      m' ((c.tc : Thread Cert.AttOutReferenceIdeal.nD Cert.AttOutReferenceIdeal.τ).loc Cert.AttOutReferenceIdeal.main_arg0) = m ((c.tc : Thread Cert.AttOutIdeal.nD Cert.AttOutIdeal.τ).loc Cert.AttOutIdeal.main_arg0)
      ∧ m' ((c.tc : Thread Cert.AttOutReferenceIdeal.nD Cert.AttOutReferenceIdeal.τ).loc Cert.AttOutReferenceIdeal.main_arg1) = m ((c.tc : Thread Cert.AttOutIdeal.nD Cert.AttOutIdeal.τ).loc Cert.AttOutIdeal.main_arg1)
      ∧ m' ((c.tc : Thread Cert.AttOutReferenceIdeal.nD Cert.AttOutReferenceIdeal.τ).loc Cert.AttOutReferenceIdeal.main_arg2) = m ((c.tc : Thread Cert.AttOutIdeal.nD Cert.AttOutIdeal.τ).loc Cert.AttOutIdeal.main_arg2)) →
    ∃ (v0 : (c : Dev Cert.AttOutIdeal.nD) → Buf (Elt Ideal) ((c.tc : Thread Cert.AttOutIdeal.nD Cert.AttOutIdeal.τ).loc Cert.AttOutIdeal.main_v0)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v0) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
          ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2))
      ∧ θ_run (Cert.AttOutReferenceIdeal.defs (F := Ideal)) (onTc (τ := Cert.AttOutReferenceIdeal.τ) (Cert.AttOutReferenceIdeal.main (F := Ideal))) ⟨m', fun _ => 0, g'⟩ (fun r => ∀ c : Dev Cert.AttOutReferenceIdeal.nD,
          r.2.mem ((c.tc : Thread Cert.AttOutReferenceIdeal.nD Cert.AttOutReferenceIdeal.τ).loc Cert.AttOutReferenceIdeal.main_v3) = v0 c
          ∧ r.2.mem ((c.tc : Thread Cert.AttOutReferenceIdeal.nD Cert.AttOutReferenceIdeal.τ).loc Cert.AttOutReferenceIdeal.main_arg0) = m' ((c.tc : Thread Cert.AttOutReferenceIdeal.nD Cert.AttOutReferenceIdeal.τ).loc Cert.AttOutReferenceIdeal.main_arg0)
          ∧ r.2.mem ((c.tc : Thread Cert.AttOutReferenceIdeal.nD Cert.AttOutReferenceIdeal.τ).loc Cert.AttOutReferenceIdeal.main_arg1) = m' ((c.tc : Thread Cert.AttOutReferenceIdeal.nD Cert.AttOutReferenceIdeal.τ).loc Cert.AttOutReferenceIdeal.main_arg1)
          ∧ r.2.mem ((c.tc : Thread Cert.AttOutReferenceIdeal.nD Cert.AttOutReferenceIdeal.τ).loc Cert.AttOutReferenceIdeal.main_arg2) = m' ((c.tc : Thread Cert.AttOutReferenceIdeal.nD Cert.AttOutReferenceIdeal.τ).loc Cert.AttOutReferenceIdeal.main_arg2))

def preserves_S5Dglu_S5DgluIdeal : Prop :=
  True

def algebraic_S5DgluIdeal_S5DgluReferenceIdeal [hS5DgluIdeal : Cert.S5DgluIdeal.Facts] [hS5DgluReferenceIdeal : Cert.S5DgluReferenceIdeal.Facts] : Prop :=
  ∀ (m : (ℓ : Loc Cert.S5DgluIdeal.nD Cert.S5DgluIdeal.τ Cert.S5DgluIdeal.sig) → Buf (Elt Ideal) ℓ) (g : Dev Cert.S5DgluIdeal.nD → PrngReg)
    (m' : (ℓ : Loc Cert.S5DgluReferenceIdeal.nD Cert.S5DgluReferenceIdeal.τ Cert.S5DgluReferenceIdeal.sig) → Buf (Elt Ideal) ℓ) (g' : Dev Cert.S5DgluReferenceIdeal.nD → PrngReg), Pre_S5DgluIdeal m →
    (∀ c : Dev Cert.S5DgluIdeal.nD,
      m' ((c.tc : Thread Cert.S5DgluReferenceIdeal.nD Cert.S5DgluReferenceIdeal.τ).loc Cert.S5DgluReferenceIdeal.main_arg0) = m ((c.tc : Thread Cert.S5DgluIdeal.nD Cert.S5DgluIdeal.τ).loc Cert.S5DgluIdeal.main_arg0)
      ∧ m' ((c.tc : Thread Cert.S5DgluReferenceIdeal.nD Cert.S5DgluReferenceIdeal.τ).loc Cert.S5DgluReferenceIdeal.main_arg1) = m ((c.tc : Thread Cert.S5DgluIdeal.nD Cert.S5DgluIdeal.τ).loc Cert.S5DgluIdeal.main_arg1)) →
    ∃ (v0 : (c : Dev Cert.S5DgluIdeal.nD) → Buf (Elt Ideal) ((c.tc : Thread Cert.S5DgluIdeal.nD Cert.S5DgluIdeal.τ).loc Cert.S5DgluIdeal.main_v0)),
      θ_run (Cert.S5DgluIdeal.defs (F := Ideal)) (onTc (τ := Cert.S5DgluIdeal.τ) (Cert.S5DgluIdeal.main (F := Ideal))) ⟨m, fun _ => 0, g⟩ (fun r => ∀ c : Dev Cert.S5DgluIdeal.nD,
          r.2.mem ((c.tc : Thread Cert.S5DgluIdeal.nD Cert.S5DgluIdeal.τ).loc Cert.S5DgluIdeal.main_v0) = v0 c
          ∧ r.2.mem ((c.tc : Thread Cert.S5DgluIdeal.nD Cert.S5DgluIdeal.τ).loc Cert.S5DgluIdeal.main_arg0) = m ((c.tc : Thread Cert.S5DgluIdeal.nD Cert.S5DgluIdeal.τ).loc Cert.S5DgluIdeal.main_arg0)
          ∧ r.2.mem ((c.tc : Thread Cert.S5DgluIdeal.nD Cert.S5DgluIdeal.τ).loc Cert.S5DgluIdeal.main_arg1) = m ((c.tc : Thread Cert.S5DgluIdeal.nD Cert.S5DgluIdeal.τ).loc Cert.S5DgluIdeal.main_arg1))
      ∧ θ_run (Cert.S5DgluReferenceIdeal.defs (F := Ideal)) (onTc (τ := Cert.S5DgluReferenceIdeal.τ) (Cert.S5DgluReferenceIdeal.main (F := Ideal))) ⟨m', fun _ => 0, g'⟩ (fun r => ∀ c : Dev Cert.S5DgluReferenceIdeal.nD,
          r.2.mem ((c.tc : Thread Cert.S5DgluReferenceIdeal.nD Cert.S5DgluReferenceIdeal.τ).loc Cert.S5DgluReferenceIdeal.main_v6) = v0 c
          ∧ r.2.mem ((c.tc : Thread Cert.S5DgluReferenceIdeal.nD Cert.S5DgluReferenceIdeal.τ).loc Cert.S5DgluReferenceIdeal.main_arg0) = m' ((c.tc : Thread Cert.S5DgluReferenceIdeal.nD Cert.S5DgluReferenceIdeal.τ).loc Cert.S5DgluReferenceIdeal.main_arg0)
          ∧ r.2.mem ((c.tc : Thread Cert.S5DgluReferenceIdeal.nD Cert.S5DgluReferenceIdeal.τ).loc Cert.S5DgluReferenceIdeal.main_arg1) = m' ((c.tc : Thread Cert.S5DgluReferenceIdeal.nD Cert.S5DgluReferenceIdeal.τ).loc Cert.S5DgluReferenceIdeal.main_arg1))

def preserves_FfnIn_FfnInIdeal : Prop :=
  True

def algebraic_FfnInIdeal_FfnInReferenceIdeal [hFfnInIdeal : Cert.FfnInIdeal.Facts] [hFfnInReferenceIdeal : Cert.FfnInReferenceIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInIdeal m →
    (∀ c : Dev Cert.FfnInIdeal.nD,
      m' ((c.tc : Thread Cert.FfnInReferenceIdeal.nD Cert.FfnInReferenceIdeal.τ).loc Cert.FfnInReferenceIdeal.main_arg0) = m ((c.tc : Thread Cert.FfnInIdeal.nD Cert.FfnInIdeal.τ).loc Cert.FfnInIdeal.main_arg0)
      ∧ m' ((c.tc : Thread Cert.FfnInReferenceIdeal.nD Cert.FfnInReferenceIdeal.τ).loc Cert.FfnInReferenceIdeal.main_arg1) = m ((c.tc : Thread Cert.FfnInIdeal.nD Cert.FfnInIdeal.τ).loc Cert.FfnInIdeal.main_arg1)
      ∧ m' ((c.tc : Thread Cert.FfnInReferenceIdeal.nD Cert.FfnInReferenceIdeal.τ).loc Cert.FfnInReferenceIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v1_0)) (v1 : (c : Dev Cert.FfnInIdeal.nD) → Buf (Elt Ideal) ((c.tc : Thread Cert.FfnInIdeal.nD Cert.FfnInIdeal.τ).loc Cert.FfnInIdeal.main_v1_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v1_0) = v0 c
          ∧ r.2.mem ((c.tc : Thread Cert.FfnInIdeal.nD Cert.FfnInIdeal.τ).loc Cert.FfnInIdeal.main_v1_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v13) = v0 c
          ∧ r.2.mem ((c.tc : Thread Cert.FfnInReferenceIdeal.nD Cert.FfnInReferenceIdeal.τ).loc Cert.FfnInReferenceIdeal.main_v16) = v1 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1)
          ∧ r.2.mem ((c.tc : Thread Cert.FfnInReferenceIdeal.nD Cert.FfnInReferenceIdeal.τ).loc Cert.FfnInReferenceIdeal.main_arg2) = m' ((c.tc : Thread Cert.FfnInReferenceIdeal.nD Cert.FfnInReferenceIdeal.τ).loc Cert.FfnInReferenceIdeal.main_arg2))

def preserves_S5GluUpdate_S5GluUpdateIdeal : Prop :=
  True

def algebraic_S5GluUpdateIdeal_S5GluUpdateReferenceIdeal [hS5GluUpdateIdeal : Cert.S5GluUpdateIdeal.Facts] [hS5GluUpdateReferenceIdeal : Cert.S5GluUpdateReferenceIdeal.Facts] [hPre_s5_glu_update_on_mesh : Cert.Pre_s5_glu_update_on_mesh.Facts] : Prop :=
  ∀ (m : (ℓ : Loc Cert.S5GluUpdateIdeal.nD Cert.S5GluUpdateIdeal.τ Cert.S5GluUpdateIdeal.sig) → Buf (Elt Ideal) ℓ) (g : Dev Cert.S5GluUpdateIdeal.nD → PrngReg)
    (m' : (ℓ : Loc Cert.S5GluUpdateReferenceIdeal.nD Cert.S5GluUpdateReferenceIdeal.τ Cert.S5GluUpdateReferenceIdeal.sig) → Buf (Elt Ideal) ℓ) (g' : Dev Cert.S5GluUpdateReferenceIdeal.nD → PrngReg), Pre_S5GluUpdateIdeal m →
    (∀ c : Dev Cert.S5GluUpdateIdeal.nD,
      m' ((c.tc : Thread Cert.S5GluUpdateReferenceIdeal.nD Cert.S5GluUpdateReferenceIdeal.τ).loc Cert.S5GluUpdateReferenceIdeal.main_arg0) = m ((c.tc : Thread Cert.S5GluUpdateIdeal.nD Cert.S5GluUpdateIdeal.τ).loc Cert.S5GluUpdateIdeal.main_arg0)
      ∧ m' ((c.tc : Thread Cert.S5GluUpdateReferenceIdeal.nD Cert.S5GluUpdateReferenceIdeal.τ).loc Cert.S5GluUpdateReferenceIdeal.main_arg1) = m ((c.tc : Thread Cert.S5GluUpdateIdeal.nD Cert.S5GluUpdateIdeal.τ).loc Cert.S5GluUpdateIdeal.main_arg1)
      ∧ m' ((c.tc : Thread Cert.S5GluUpdateReferenceIdeal.nD Cert.S5GluUpdateReferenceIdeal.τ).loc Cert.S5GluUpdateReferenceIdeal.main_arg2) = m ((c.tc : Thread Cert.S5GluUpdateIdeal.nD Cert.S5GluUpdateIdeal.τ).loc Cert.S5GluUpdateIdeal.main_arg2)
      ∧ m' ((c.tc : Thread Cert.S5GluUpdateReferenceIdeal.nD Cert.S5GluUpdateReferenceIdeal.τ).loc Cert.S5GluUpdateReferenceIdeal.main_arg3) = m ((c.tc : Thread Cert.S5GluUpdateIdeal.nD Cert.S5GluUpdateIdeal.τ).loc Cert.S5GluUpdateIdeal.main_arg3)
      ∧ m' ((c.tc : Thread Cert.S5GluUpdateReferenceIdeal.nD Cert.S5GluUpdateReferenceIdeal.τ).loc Cert.S5GluUpdateReferenceIdeal.main_arg4) = m ((c.tc : Thread Cert.S5GluUpdateIdeal.nD Cert.S5GluUpdateIdeal.τ).loc Cert.S5GluUpdateIdeal.main_arg4)
      ∧ m' ((c.tc : Thread Cert.S5GluUpdateReferenceIdeal.nD Cert.S5GluUpdateReferenceIdeal.τ).loc Cert.S5GluUpdateReferenceIdeal.main_arg5) = m ((c.tc : Thread Cert.S5GluUpdateIdeal.nD Cert.S5GluUpdateIdeal.τ).loc Cert.S5GluUpdateIdeal.main_arg5)) →
    ∃ (v0 : (c : Dev Cert.S5GluUpdateIdeal.nD) → Buf (Elt Ideal) ((c.tc : Thread Cert.S5GluUpdateIdeal.nD Cert.S5GluUpdateIdeal.τ).loc Cert.S5GluUpdateIdeal.main_v1_0)) (v1 : (c : Dev Cert.S5GluUpdateIdeal.nD) → Buf (Elt Ideal) ((c.tc : Thread Cert.S5GluUpdateIdeal.nD Cert.S5GluUpdateIdeal.τ).loc Cert.S5GluUpdateIdeal.main_v1_1)) (v2 : (c : Dev Cert.S5GluUpdateIdeal.nD) → Buf (Elt Ideal) ((c.tc : Thread Cert.S5GluUpdateIdeal.nD Cert.S5GluUpdateIdeal.τ).loc Cert.S5GluUpdateIdeal.main_v1_2)) (v3 : (c : Dev Cert.S5GluUpdateIdeal.nD) → Buf (Elt Ideal) ((c.tc : Thread Cert.S5GluUpdateIdeal.nD Cert.S5GluUpdateIdeal.τ).loc Cert.S5GluUpdateIdeal.main_v1_3)),
      θ_run (Cert.S5GluUpdateIdeal.defs (F := Ideal)) (onTc (τ := Cert.S5GluUpdateIdeal.τ) (Cert.S5GluUpdateIdeal.main (F := Ideal))) ⟨m, fun _ => 0, g⟩ (fun r => ∀ c : Dev Cert.S5GluUpdateIdeal.nD,
          r.2.mem ((c.tc : Thread Cert.S5GluUpdateIdeal.nD Cert.S5GluUpdateIdeal.τ).loc Cert.S5GluUpdateIdeal.main_v1_0) = v0 c
          ∧ r.2.mem ((c.tc : Thread Cert.S5GluUpdateIdeal.nD Cert.S5GluUpdateIdeal.τ).loc Cert.S5GluUpdateIdeal.main_v1_1) = v1 c
          ∧ r.2.mem ((c.tc : Thread Cert.S5GluUpdateIdeal.nD Cert.S5GluUpdateIdeal.τ).loc Cert.S5GluUpdateIdeal.main_v1_2) = v2 c
          ∧ r.2.mem ((c.tc : Thread Cert.S5GluUpdateIdeal.nD Cert.S5GluUpdateIdeal.τ).loc Cert.S5GluUpdateIdeal.main_v1_3) = v3 c
          ∧ r.2.mem ((c.tc : Thread Cert.S5GluUpdateIdeal.nD Cert.S5GluUpdateIdeal.τ).loc Cert.S5GluUpdateIdeal.main_arg0) = m ((c.tc : Thread Cert.S5GluUpdateIdeal.nD Cert.S5GluUpdateIdeal.τ).loc Cert.S5GluUpdateIdeal.main_arg0)
          ∧ r.2.mem ((c.tc : Thread Cert.S5GluUpdateIdeal.nD Cert.S5GluUpdateIdeal.τ).loc Cert.S5GluUpdateIdeal.main_arg1) = m ((c.tc : Thread Cert.S5GluUpdateIdeal.nD Cert.S5GluUpdateIdeal.τ).loc Cert.S5GluUpdateIdeal.main_arg1)
          ∧ r.2.mem ((c.tc : Thread Cert.S5GluUpdateIdeal.nD Cert.S5GluUpdateIdeal.τ).loc Cert.S5GluUpdateIdeal.main_arg2) = m ((c.tc : Thread Cert.S5GluUpdateIdeal.nD Cert.S5GluUpdateIdeal.τ).loc Cert.S5GluUpdateIdeal.main_arg2)
          ∧ r.2.mem ((c.tc : Thread Cert.S5GluUpdateIdeal.nD Cert.S5GluUpdateIdeal.τ).loc Cert.S5GluUpdateIdeal.main_arg3) = m ((c.tc : Thread Cert.S5GluUpdateIdeal.nD Cert.S5GluUpdateIdeal.τ).loc Cert.S5GluUpdateIdeal.main_arg3)
          ∧ r.2.mem ((c.tc : Thread Cert.S5GluUpdateIdeal.nD Cert.S5GluUpdateIdeal.τ).loc Cert.S5GluUpdateIdeal.main_arg4) = m ((c.tc : Thread Cert.S5GluUpdateIdeal.nD Cert.S5GluUpdateIdeal.τ).loc Cert.S5GluUpdateIdeal.main_arg4)
          ∧ r.2.mem ((c.tc : Thread Cert.S5GluUpdateIdeal.nD Cert.S5GluUpdateIdeal.τ).loc Cert.S5GluUpdateIdeal.main_arg5) = m ((c.tc : Thread Cert.S5GluUpdateIdeal.nD Cert.S5GluUpdateIdeal.τ).loc Cert.S5GluUpdateIdeal.main_arg5))
      ∧ θ_run (Cert.S5GluUpdateReferenceIdeal.defs (F := Ideal)) (onTc (τ := Cert.S5GluUpdateReferenceIdeal.τ) (Cert.S5GluUpdateReferenceIdeal.main (F := Ideal))) ⟨m', fun _ => 0, g'⟩ (fun r => ∀ c : Dev Cert.S5GluUpdateReferenceIdeal.nD,
          r.2.mem ((c.tc : Thread Cert.S5GluUpdateReferenceIdeal.nD Cert.S5GluUpdateReferenceIdeal.τ).loc Cert.S5GluUpdateReferenceIdeal.main_v5) = v0 c
          ∧ r.2.mem ((c.tc : Thread Cert.S5GluUpdateReferenceIdeal.nD Cert.S5GluUpdateReferenceIdeal.τ).loc Cert.S5GluUpdateReferenceIdeal.main_v29) = v1 c
          ∧ r.2.mem ((c.tc : Thread Cert.S5GluUpdateReferenceIdeal.nD Cert.S5GluUpdateReferenceIdeal.τ).loc Cert.S5GluUpdateReferenceIdeal.main_v10) = v2 c
          ∧ r.2.mem ((c.tc : Thread Cert.S5GluUpdateReferenceIdeal.nD Cert.S5GluUpdateReferenceIdeal.τ).loc Cert.S5GluUpdateReferenceIdeal.main_v16) = v3 c
          ∧ r.2.mem ((c.tc : Thread Cert.S5GluUpdateReferenceIdeal.nD Cert.S5GluUpdateReferenceIdeal.τ).loc Cert.S5GluUpdateReferenceIdeal.main_arg0) = m' ((c.tc : Thread Cert.S5GluUpdateReferenceIdeal.nD Cert.S5GluUpdateReferenceIdeal.τ).loc Cert.S5GluUpdateReferenceIdeal.main_arg0)
          ∧ r.2.mem ((c.tc : Thread Cert.S5GluUpdateReferenceIdeal.nD Cert.S5GluUpdateReferenceIdeal.τ).loc Cert.S5GluUpdateReferenceIdeal.main_arg1) = m' ((c.tc : Thread Cert.S5GluUpdateReferenceIdeal.nD Cert.S5GluUpdateReferenceIdeal.τ).loc Cert.S5GluUpdateReferenceIdeal.main_arg1)
          ∧ r.2.mem ((c.tc : Thread Cert.S5GluUpdateReferenceIdeal.nD Cert.S5GluUpdateReferenceIdeal.τ).loc Cert.S5GluUpdateReferenceIdeal.main_arg2) = m' ((c.tc : Thread Cert.S5GluUpdateReferenceIdeal.nD Cert.S5GluUpdateReferenceIdeal.τ).loc Cert.S5GluUpdateReferenceIdeal.main_arg2)
          ∧ r.2.mem ((c.tc : Thread Cert.S5GluUpdateReferenceIdeal.nD Cert.S5GluUpdateReferenceIdeal.τ).loc Cert.S5GluUpdateReferenceIdeal.main_arg3) = m' ((c.tc : Thread Cert.S5GluUpdateReferenceIdeal.nD Cert.S5GluUpdateReferenceIdeal.τ).loc Cert.S5GluUpdateReferenceIdeal.main_arg3)
          ∧ r.2.mem ((c.tc : Thread Cert.S5GluUpdateReferenceIdeal.nD Cert.S5GluUpdateReferenceIdeal.τ).loc Cert.S5GluUpdateReferenceIdeal.main_arg4) = m' ((c.tc : Thread Cert.S5GluUpdateReferenceIdeal.nD Cert.S5GluUpdateReferenceIdeal.τ).loc Cert.S5GluUpdateReferenceIdeal.main_arg4)
          ∧ r.2.mem ((c.tc : Thread Cert.S5GluUpdateReferenceIdeal.nD Cert.S5GluUpdateReferenceIdeal.τ).loc Cert.S5GluUpdateReferenceIdeal.main_arg5) = m' ((c.tc : Thread Cert.S5GluUpdateReferenceIdeal.nD Cert.S5GluUpdateReferenceIdeal.τ).loc Cert.S5GluUpdateReferenceIdeal.main_arg5))

def preserves_AttWoUpdate_AttWoUpdateIdeal : Prop :=
  True

def algebraic_AttWoUpdateIdeal_AttWoUpdateReferenceIdeal [hAttWoUpdateIdeal : Cert.AttWoUpdateIdeal.Facts] [hAttWoUpdateReferenceIdeal : Cert.AttWoUpdateReferenceIdeal.Facts] [hPre_att_wo_update_on_mesh : Cert.Pre_att_wo_update_on_mesh.Facts] : Prop :=
  ∀ (m : (ℓ : Loc Cert.AttWoUpdateIdeal.nD Cert.AttWoUpdateIdeal.τ Cert.AttWoUpdateIdeal.sig) → Buf (Elt Ideal) ℓ) (g : Dev Cert.AttWoUpdateIdeal.nD → PrngReg)
    (m' : (ℓ : Loc Cert.AttWoUpdateReferenceIdeal.nD Cert.AttWoUpdateReferenceIdeal.τ Cert.AttWoUpdateReferenceIdeal.sig) → Buf (Elt Ideal) ℓ) (g' : Dev Cert.AttWoUpdateReferenceIdeal.nD → PrngReg), Pre_AttWoUpdateIdeal m →
    (∀ c : Dev Cert.AttWoUpdateIdeal.nD,
      m' ((c.tc : Thread Cert.AttWoUpdateReferenceIdeal.nD Cert.AttWoUpdateReferenceIdeal.τ).loc Cert.AttWoUpdateReferenceIdeal.main_arg0) = m ((c.tc : Thread Cert.AttWoUpdateIdeal.nD Cert.AttWoUpdateIdeal.τ).loc Cert.AttWoUpdateIdeal.main_arg0)
      ∧ m' ((c.tc : Thread Cert.AttWoUpdateReferenceIdeal.nD Cert.AttWoUpdateReferenceIdeal.τ).loc Cert.AttWoUpdateReferenceIdeal.main_arg1) = m ((c.tc : Thread Cert.AttWoUpdateIdeal.nD Cert.AttWoUpdateIdeal.τ).loc Cert.AttWoUpdateIdeal.main_arg1)
      ∧ m' ((c.tc : Thread Cert.AttWoUpdateReferenceIdeal.nD Cert.AttWoUpdateReferenceIdeal.τ).loc Cert.AttWoUpdateReferenceIdeal.main_arg2) = m ((c.tc : Thread Cert.AttWoUpdateIdeal.nD Cert.AttWoUpdateIdeal.τ).loc Cert.AttWoUpdateIdeal.main_arg2)
      ∧ m' ((c.tc : Thread Cert.AttWoUpdateReferenceIdeal.nD Cert.AttWoUpdateReferenceIdeal.τ).loc Cert.AttWoUpdateReferenceIdeal.main_arg3) = m ((c.tc : Thread Cert.AttWoUpdateIdeal.nD Cert.AttWoUpdateIdeal.τ).loc Cert.AttWoUpdateIdeal.main_arg3)
      ∧ m' ((c.tc : Thread Cert.AttWoUpdateReferenceIdeal.nD Cert.AttWoUpdateReferenceIdeal.τ).loc Cert.AttWoUpdateReferenceIdeal.main_arg4) = m ((c.tc : Thread Cert.AttWoUpdateIdeal.nD Cert.AttWoUpdateIdeal.τ).loc Cert.AttWoUpdateIdeal.main_arg4)
      ∧ m' ((c.tc : Thread Cert.AttWoUpdateReferenceIdeal.nD Cert.AttWoUpdateReferenceIdeal.τ).loc Cert.AttWoUpdateReferenceIdeal.main_arg5) = m ((c.tc : Thread Cert.AttWoUpdateIdeal.nD Cert.AttWoUpdateIdeal.τ).loc Cert.AttWoUpdateIdeal.main_arg5)) →
    ∃ (v0 : (c : Dev Cert.AttWoUpdateIdeal.nD) → Buf (Elt Ideal) ((c.tc : Thread Cert.AttWoUpdateIdeal.nD Cert.AttWoUpdateIdeal.τ).loc Cert.AttWoUpdateIdeal.main_v1_0)) (v1 : (c : Dev Cert.AttWoUpdateIdeal.nD) → Buf (Elt Ideal) ((c.tc : Thread Cert.AttWoUpdateIdeal.nD Cert.AttWoUpdateIdeal.τ).loc Cert.AttWoUpdateIdeal.main_v1_1)) (v2 : (c : Dev Cert.AttWoUpdateIdeal.nD) → Buf (Elt Ideal) ((c.tc : Thread Cert.AttWoUpdateIdeal.nD Cert.AttWoUpdateIdeal.τ).loc Cert.AttWoUpdateIdeal.main_v1_2)) (v3 : (c : Dev Cert.AttWoUpdateIdeal.nD) → Buf (Elt Ideal) ((c.tc : Thread Cert.AttWoUpdateIdeal.nD Cert.AttWoUpdateIdeal.τ).loc Cert.AttWoUpdateIdeal.main_v1_3)),
      θ_run (Cert.AttWoUpdateIdeal.defs (F := Ideal)) (onTc (τ := Cert.AttWoUpdateIdeal.τ) (Cert.AttWoUpdateIdeal.main (F := Ideal))) ⟨m, fun _ => 0, g⟩ (fun r => ∀ c : Dev Cert.AttWoUpdateIdeal.nD,
          r.2.mem ((c.tc : Thread Cert.AttWoUpdateIdeal.nD Cert.AttWoUpdateIdeal.τ).loc Cert.AttWoUpdateIdeal.main_v1_0) = v0 c
          ∧ r.2.mem ((c.tc : Thread Cert.AttWoUpdateIdeal.nD Cert.AttWoUpdateIdeal.τ).loc Cert.AttWoUpdateIdeal.main_v1_1) = v1 c
          ∧ r.2.mem ((c.tc : Thread Cert.AttWoUpdateIdeal.nD Cert.AttWoUpdateIdeal.τ).loc Cert.AttWoUpdateIdeal.main_v1_2) = v2 c
          ∧ r.2.mem ((c.tc : Thread Cert.AttWoUpdateIdeal.nD Cert.AttWoUpdateIdeal.τ).loc Cert.AttWoUpdateIdeal.main_v1_3) = v3 c
          ∧ r.2.mem ((c.tc : Thread Cert.AttWoUpdateIdeal.nD Cert.AttWoUpdateIdeal.τ).loc Cert.AttWoUpdateIdeal.main_arg0) = m ((c.tc : Thread Cert.AttWoUpdateIdeal.nD Cert.AttWoUpdateIdeal.τ).loc Cert.AttWoUpdateIdeal.main_arg0)
          ∧ r.2.mem ((c.tc : Thread Cert.AttWoUpdateIdeal.nD Cert.AttWoUpdateIdeal.τ).loc Cert.AttWoUpdateIdeal.main_arg1) = m ((c.tc : Thread Cert.AttWoUpdateIdeal.nD Cert.AttWoUpdateIdeal.τ).loc Cert.AttWoUpdateIdeal.main_arg1)
          ∧ r.2.mem ((c.tc : Thread Cert.AttWoUpdateIdeal.nD Cert.AttWoUpdateIdeal.τ).loc Cert.AttWoUpdateIdeal.main_arg2) = m ((c.tc : Thread Cert.AttWoUpdateIdeal.nD Cert.AttWoUpdateIdeal.τ).loc Cert.AttWoUpdateIdeal.main_arg2)
          ∧ r.2.mem ((c.tc : Thread Cert.AttWoUpdateIdeal.nD Cert.AttWoUpdateIdeal.τ).loc Cert.AttWoUpdateIdeal.main_arg3) = m ((c.tc : Thread Cert.AttWoUpdateIdeal.nD Cert.AttWoUpdateIdeal.τ).loc Cert.AttWoUpdateIdeal.main_arg3)
          ∧ r.2.mem ((c.tc : Thread Cert.AttWoUpdateIdeal.nD Cert.AttWoUpdateIdeal.τ).loc Cert.AttWoUpdateIdeal.main_arg4) = m ((c.tc : Thread Cert.AttWoUpdateIdeal.nD Cert.AttWoUpdateIdeal.τ).loc Cert.AttWoUpdateIdeal.main_arg4)
          ∧ r.2.mem ((c.tc : Thread Cert.AttWoUpdateIdeal.nD Cert.AttWoUpdateIdeal.τ).loc Cert.AttWoUpdateIdeal.main_arg5) = m ((c.tc : Thread Cert.AttWoUpdateIdeal.nD Cert.AttWoUpdateIdeal.τ).loc Cert.AttWoUpdateIdeal.main_arg5))
      ∧ θ_run (Cert.AttWoUpdateReferenceIdeal.defs (F := Ideal)) (onTc (τ := Cert.AttWoUpdateReferenceIdeal.τ) (Cert.AttWoUpdateReferenceIdeal.main (F := Ideal))) ⟨m', fun _ => 0, g'⟩ (fun r => ∀ c : Dev Cert.AttWoUpdateReferenceIdeal.nD,
          r.2.mem ((c.tc : Thread Cert.AttWoUpdateReferenceIdeal.nD Cert.AttWoUpdateReferenceIdeal.τ).loc Cert.AttWoUpdateReferenceIdeal.main_v4) = v0 c
          ∧ r.2.mem ((c.tc : Thread Cert.AttWoUpdateReferenceIdeal.nD Cert.AttWoUpdateReferenceIdeal.τ).loc Cert.AttWoUpdateReferenceIdeal.main_v28) = v1 c
          ∧ r.2.mem ((c.tc : Thread Cert.AttWoUpdateReferenceIdeal.nD Cert.AttWoUpdateReferenceIdeal.τ).loc Cert.AttWoUpdateReferenceIdeal.main_v9) = v2 c
          ∧ r.2.mem ((c.tc : Thread Cert.AttWoUpdateReferenceIdeal.nD Cert.AttWoUpdateReferenceIdeal.τ).loc Cert.AttWoUpdateReferenceIdeal.main_v15) = v3 c
          ∧ r.2.mem ((c.tc : Thread Cert.AttWoUpdateReferenceIdeal.nD Cert.AttWoUpdateReferenceIdeal.τ).loc Cert.AttWoUpdateReferenceIdeal.main_arg0) = m' ((c.tc : Thread Cert.AttWoUpdateReferenceIdeal.nD Cert.AttWoUpdateReferenceIdeal.τ).loc Cert.AttWoUpdateReferenceIdeal.main_arg0)
          ∧ r.2.mem ((c.tc : Thread Cert.AttWoUpdateReferenceIdeal.nD Cert.AttWoUpdateReferenceIdeal.τ).loc Cert.AttWoUpdateReferenceIdeal.main_arg1) = m' ((c.tc : Thread Cert.AttWoUpdateReferenceIdeal.nD Cert.AttWoUpdateReferenceIdeal.τ).loc Cert.AttWoUpdateReferenceIdeal.main_arg1)
          ∧ r.2.mem ((c.tc : Thread Cert.AttWoUpdateReferenceIdeal.nD Cert.AttWoUpdateReferenceIdeal.τ).loc Cert.AttWoUpdateReferenceIdeal.main_arg2) = m' ((c.tc : Thread Cert.AttWoUpdateReferenceIdeal.nD Cert.AttWoUpdateReferenceIdeal.τ).loc Cert.AttWoUpdateReferenceIdeal.main_arg2)
          ∧ r.2.mem ((c.tc : Thread Cert.AttWoUpdateReferenceIdeal.nD Cert.AttWoUpdateReferenceIdeal.τ).loc Cert.AttWoUpdateReferenceIdeal.main_arg3) = m' ((c.tc : Thread Cert.AttWoUpdateReferenceIdeal.nD Cert.AttWoUpdateReferenceIdeal.τ).loc Cert.AttWoUpdateReferenceIdeal.main_arg3)
          ∧ r.2.mem ((c.tc : Thread Cert.AttWoUpdateReferenceIdeal.nD Cert.AttWoUpdateReferenceIdeal.τ).loc Cert.AttWoUpdateReferenceIdeal.main_arg4) = m' ((c.tc : Thread Cert.AttWoUpdateReferenceIdeal.nD Cert.AttWoUpdateReferenceIdeal.τ).loc Cert.AttWoUpdateReferenceIdeal.main_arg4)
          ∧ r.2.mem ((c.tc : Thread Cert.AttWoUpdateReferenceIdeal.nD Cert.AttWoUpdateReferenceIdeal.τ).loc Cert.AttWoUpdateReferenceIdeal.main_arg5) = m' ((c.tc : Thread Cert.AttWoUpdateReferenceIdeal.nD Cert.AttWoUpdateReferenceIdeal.τ).loc Cert.AttWoUpdateReferenceIdeal.main_arg5))

def preserves_MixWoutUpdate_MixWoutUpdateIdeal : Prop :=
  True

def algebraic_MixWoutUpdateIdeal_MixWoutUpdateReferenceIdeal [hMixWoutUpdateIdeal : Cert.MixWoutUpdateIdeal.Facts] [hMixWoutUpdateReferenceIdeal : Cert.MixWoutUpdateReferenceIdeal.Facts] [hPre_mix_wout_update_on_mesh : Cert.Pre_mix_wout_update_on_mesh.Facts] : Prop :=
  ∀ (m : (ℓ : Loc Cert.MixWoutUpdateIdeal.nD Cert.MixWoutUpdateIdeal.τ Cert.MixWoutUpdateIdeal.sig) → Buf (Elt Ideal) ℓ) (g : Dev Cert.MixWoutUpdateIdeal.nD → PrngReg)
    (m' : (ℓ : Loc Cert.MixWoutUpdateReferenceIdeal.nD Cert.MixWoutUpdateReferenceIdeal.τ Cert.MixWoutUpdateReferenceIdeal.sig) → Buf (Elt Ideal) ℓ) (g' : Dev Cert.MixWoutUpdateReferenceIdeal.nD → PrngReg), Pre_MixWoutUpdateIdeal m →
    (∀ c : Dev Cert.MixWoutUpdateIdeal.nD,
      m' ((c.tc : Thread Cert.MixWoutUpdateReferenceIdeal.nD Cert.MixWoutUpdateReferenceIdeal.τ).loc Cert.MixWoutUpdateReferenceIdeal.main_arg0) = m ((c.tc : Thread Cert.MixWoutUpdateIdeal.nD Cert.MixWoutUpdateIdeal.τ).loc Cert.MixWoutUpdateIdeal.main_arg0)
      ∧ m' ((c.tc : Thread Cert.MixWoutUpdateReferenceIdeal.nD Cert.MixWoutUpdateReferenceIdeal.τ).loc Cert.MixWoutUpdateReferenceIdeal.main_arg1) = m ((c.tc : Thread Cert.MixWoutUpdateIdeal.nD Cert.MixWoutUpdateIdeal.τ).loc Cert.MixWoutUpdateIdeal.main_arg1)
      ∧ m' ((c.tc : Thread Cert.MixWoutUpdateReferenceIdeal.nD Cert.MixWoutUpdateReferenceIdeal.τ).loc Cert.MixWoutUpdateReferenceIdeal.main_arg2) = m ((c.tc : Thread Cert.MixWoutUpdateIdeal.nD Cert.MixWoutUpdateIdeal.τ).loc Cert.MixWoutUpdateIdeal.main_arg2)
      ∧ m' ((c.tc : Thread Cert.MixWoutUpdateReferenceIdeal.nD Cert.MixWoutUpdateReferenceIdeal.τ).loc Cert.MixWoutUpdateReferenceIdeal.main_arg3) = m ((c.tc : Thread Cert.MixWoutUpdateIdeal.nD Cert.MixWoutUpdateIdeal.τ).loc Cert.MixWoutUpdateIdeal.main_arg3)
      ∧ m' ((c.tc : Thread Cert.MixWoutUpdateReferenceIdeal.nD Cert.MixWoutUpdateReferenceIdeal.τ).loc Cert.MixWoutUpdateReferenceIdeal.main_arg4) = m ((c.tc : Thread Cert.MixWoutUpdateIdeal.nD Cert.MixWoutUpdateIdeal.τ).loc Cert.MixWoutUpdateIdeal.main_arg4)
      ∧ m' ((c.tc : Thread Cert.MixWoutUpdateReferenceIdeal.nD Cert.MixWoutUpdateReferenceIdeal.τ).loc Cert.MixWoutUpdateReferenceIdeal.main_arg5) = m ((c.tc : Thread Cert.MixWoutUpdateIdeal.nD Cert.MixWoutUpdateIdeal.τ).loc Cert.MixWoutUpdateIdeal.main_arg5)) →
    ∃ (v0 : (c : Dev Cert.MixWoutUpdateIdeal.nD) → Buf (Elt Ideal) ((c.tc : Thread Cert.MixWoutUpdateIdeal.nD Cert.MixWoutUpdateIdeal.τ).loc Cert.MixWoutUpdateIdeal.main_v1_0)) (v1 : (c : Dev Cert.MixWoutUpdateIdeal.nD) → Buf (Elt Ideal) ((c.tc : Thread Cert.MixWoutUpdateIdeal.nD Cert.MixWoutUpdateIdeal.τ).loc Cert.MixWoutUpdateIdeal.main_v1_1)) (v2 : (c : Dev Cert.MixWoutUpdateIdeal.nD) → Buf (Elt Ideal) ((c.tc : Thread Cert.MixWoutUpdateIdeal.nD Cert.MixWoutUpdateIdeal.τ).loc Cert.MixWoutUpdateIdeal.main_v1_2)) (v3 : (c : Dev Cert.MixWoutUpdateIdeal.nD) → Buf (Elt Ideal) ((c.tc : Thread Cert.MixWoutUpdateIdeal.nD Cert.MixWoutUpdateIdeal.τ).loc Cert.MixWoutUpdateIdeal.main_v1_3)),
      θ_run (Cert.MixWoutUpdateIdeal.defs (F := Ideal)) (onTc (τ := Cert.MixWoutUpdateIdeal.τ) (Cert.MixWoutUpdateIdeal.main (F := Ideal))) ⟨m, fun _ => 0, g⟩ (fun r => ∀ c : Dev Cert.MixWoutUpdateIdeal.nD,
          r.2.mem ((c.tc : Thread Cert.MixWoutUpdateIdeal.nD Cert.MixWoutUpdateIdeal.τ).loc Cert.MixWoutUpdateIdeal.main_v1_0) = v0 c
          ∧ r.2.mem ((c.tc : Thread Cert.MixWoutUpdateIdeal.nD Cert.MixWoutUpdateIdeal.τ).loc Cert.MixWoutUpdateIdeal.main_v1_1) = v1 c
          ∧ r.2.mem ((c.tc : Thread Cert.MixWoutUpdateIdeal.nD Cert.MixWoutUpdateIdeal.τ).loc Cert.MixWoutUpdateIdeal.main_v1_2) = v2 c
          ∧ r.2.mem ((c.tc : Thread Cert.MixWoutUpdateIdeal.nD Cert.MixWoutUpdateIdeal.τ).loc Cert.MixWoutUpdateIdeal.main_v1_3) = v3 c
          ∧ r.2.mem ((c.tc : Thread Cert.MixWoutUpdateIdeal.nD Cert.MixWoutUpdateIdeal.τ).loc Cert.MixWoutUpdateIdeal.main_arg0) = m ((c.tc : Thread Cert.MixWoutUpdateIdeal.nD Cert.MixWoutUpdateIdeal.τ).loc Cert.MixWoutUpdateIdeal.main_arg0)
          ∧ r.2.mem ((c.tc : Thread Cert.MixWoutUpdateIdeal.nD Cert.MixWoutUpdateIdeal.τ).loc Cert.MixWoutUpdateIdeal.main_arg1) = m ((c.tc : Thread Cert.MixWoutUpdateIdeal.nD Cert.MixWoutUpdateIdeal.τ).loc Cert.MixWoutUpdateIdeal.main_arg1)
          ∧ r.2.mem ((c.tc : Thread Cert.MixWoutUpdateIdeal.nD Cert.MixWoutUpdateIdeal.τ).loc Cert.MixWoutUpdateIdeal.main_arg2) = m ((c.tc : Thread Cert.MixWoutUpdateIdeal.nD Cert.MixWoutUpdateIdeal.τ).loc Cert.MixWoutUpdateIdeal.main_arg2)
          ∧ r.2.mem ((c.tc : Thread Cert.MixWoutUpdateIdeal.nD Cert.MixWoutUpdateIdeal.τ).loc Cert.MixWoutUpdateIdeal.main_arg3) = m ((c.tc : Thread Cert.MixWoutUpdateIdeal.nD Cert.MixWoutUpdateIdeal.τ).loc Cert.MixWoutUpdateIdeal.main_arg3)
          ∧ r.2.mem ((c.tc : Thread Cert.MixWoutUpdateIdeal.nD Cert.MixWoutUpdateIdeal.τ).loc Cert.MixWoutUpdateIdeal.main_arg4) = m ((c.tc : Thread Cert.MixWoutUpdateIdeal.nD Cert.MixWoutUpdateIdeal.τ).loc Cert.MixWoutUpdateIdeal.main_arg4)
          ∧ r.2.mem ((c.tc : Thread Cert.MixWoutUpdateIdeal.nD Cert.MixWoutUpdateIdeal.τ).loc Cert.MixWoutUpdateIdeal.main_arg5) = m ((c.tc : Thread Cert.MixWoutUpdateIdeal.nD Cert.MixWoutUpdateIdeal.τ).loc Cert.MixWoutUpdateIdeal.main_arg5))
      ∧ θ_run (Cert.MixWoutUpdateReferenceIdeal.defs (F := Ideal)) (onTc (τ := Cert.MixWoutUpdateReferenceIdeal.τ) (Cert.MixWoutUpdateReferenceIdeal.main (F := Ideal))) ⟨m', fun _ => 0, g'⟩ (fun r => ∀ c : Dev Cert.MixWoutUpdateReferenceIdeal.nD,
          r.2.mem ((c.tc : Thread Cert.MixWoutUpdateReferenceIdeal.nD Cert.MixWoutUpdateReferenceIdeal.τ).loc Cert.MixWoutUpdateReferenceIdeal.main_v5) = v0 c
          ∧ r.2.mem ((c.tc : Thread Cert.MixWoutUpdateReferenceIdeal.nD Cert.MixWoutUpdateReferenceIdeal.τ).loc Cert.MixWoutUpdateReferenceIdeal.main_v29) = v1 c
          ∧ r.2.mem ((c.tc : Thread Cert.MixWoutUpdateReferenceIdeal.nD Cert.MixWoutUpdateReferenceIdeal.τ).loc Cert.MixWoutUpdateReferenceIdeal.main_v10) = v2 c
          ∧ r.2.mem ((c.tc : Thread Cert.MixWoutUpdateReferenceIdeal.nD Cert.MixWoutUpdateReferenceIdeal.τ).loc Cert.MixWoutUpdateReferenceIdeal.main_v16) = v3 c
          ∧ r.2.mem ((c.tc : Thread Cert.MixWoutUpdateReferenceIdeal.nD Cert.MixWoutUpdateReferenceIdeal.τ).loc Cert.MixWoutUpdateReferenceIdeal.main_arg0) = m' ((c.tc : Thread Cert.MixWoutUpdateReferenceIdeal.nD Cert.MixWoutUpdateReferenceIdeal.τ).loc Cert.MixWoutUpdateReferenceIdeal.main_arg0)
          ∧ r.2.mem ((c.tc : Thread Cert.MixWoutUpdateReferenceIdeal.nD Cert.MixWoutUpdateReferenceIdeal.τ).loc Cert.MixWoutUpdateReferenceIdeal.main_arg1) = m' ((c.tc : Thread Cert.MixWoutUpdateReferenceIdeal.nD Cert.MixWoutUpdateReferenceIdeal.τ).loc Cert.MixWoutUpdateReferenceIdeal.main_arg1)
          ∧ r.2.mem ((c.tc : Thread Cert.MixWoutUpdateReferenceIdeal.nD Cert.MixWoutUpdateReferenceIdeal.τ).loc Cert.MixWoutUpdateReferenceIdeal.main_arg2) = m' ((c.tc : Thread Cert.MixWoutUpdateReferenceIdeal.nD Cert.MixWoutUpdateReferenceIdeal.τ).loc Cert.MixWoutUpdateReferenceIdeal.main_arg2)
          ∧ r.2.mem ((c.tc : Thread Cert.MixWoutUpdateReferenceIdeal.nD Cert.MixWoutUpdateReferenceIdeal.τ).loc Cert.MixWoutUpdateReferenceIdeal.main_arg3) = m' ((c.tc : Thread Cert.MixWoutUpdateReferenceIdeal.nD Cert.MixWoutUpdateReferenceIdeal.τ).loc Cert.MixWoutUpdateReferenceIdeal.main_arg3)
          ∧ r.2.mem ((c.tc : Thread Cert.MixWoutUpdateReferenceIdeal.nD Cert.MixWoutUpdateReferenceIdeal.τ).loc Cert.MixWoutUpdateReferenceIdeal.main_arg4) = m' ((c.tc : Thread Cert.MixWoutUpdateReferenceIdeal.nD Cert.MixWoutUpdateReferenceIdeal.τ).loc Cert.MixWoutUpdateReferenceIdeal.main_arg4)
          ∧ r.2.mem ((c.tc : Thread Cert.MixWoutUpdateReferenceIdeal.nD Cert.MixWoutUpdateReferenceIdeal.τ).loc Cert.MixWoutUpdateReferenceIdeal.main_arg5) = m' ((c.tc : Thread Cert.MixWoutUpdateReferenceIdeal.nD Cert.MixWoutUpdateReferenceIdeal.τ).loc Cert.MixWoutUpdateReferenceIdeal.main_arg5))

def preserves_MixWinUpdate_MixWinUpdateIdeal : Prop :=
  True

def algebraic_MixWinUpdateIdeal_MixWinUpdateReferenceIdeal [hMixWinUpdateIdeal : Cert.MixWinUpdateIdeal.Facts] [hMixWinUpdateReferenceIdeal : Cert.MixWinUpdateReferenceIdeal.Facts] [hPre_mix_win_update_on_mesh : Cert.Pre_mix_win_update_on_mesh.Facts] : Prop :=
  ∀ (m : (ℓ : Loc Cert.MixWinUpdateIdeal.nD Cert.MixWinUpdateIdeal.τ Cert.MixWinUpdateIdeal.sig) → Buf (Elt Ideal) ℓ) (g : Dev Cert.MixWinUpdateIdeal.nD → PrngReg)
    (m' : (ℓ : Loc Cert.MixWinUpdateReferenceIdeal.nD Cert.MixWinUpdateReferenceIdeal.τ Cert.MixWinUpdateReferenceIdeal.sig) → Buf (Elt Ideal) ℓ) (g' : Dev Cert.MixWinUpdateReferenceIdeal.nD → PrngReg), Pre_MixWinUpdateIdeal m →
    (∀ c : Dev Cert.MixWinUpdateIdeal.nD,
      m' ((c.tc : Thread Cert.MixWinUpdateReferenceIdeal.nD Cert.MixWinUpdateReferenceIdeal.τ).loc Cert.MixWinUpdateReferenceIdeal.main_arg0) = m ((c.tc : Thread Cert.MixWinUpdateIdeal.nD Cert.MixWinUpdateIdeal.τ).loc Cert.MixWinUpdateIdeal.main_arg0)
      ∧ m' ((c.tc : Thread Cert.MixWinUpdateReferenceIdeal.nD Cert.MixWinUpdateReferenceIdeal.τ).loc Cert.MixWinUpdateReferenceIdeal.main_arg1) = m ((c.tc : Thread Cert.MixWinUpdateIdeal.nD Cert.MixWinUpdateIdeal.τ).loc Cert.MixWinUpdateIdeal.main_arg1)
      ∧ m' ((c.tc : Thread Cert.MixWinUpdateReferenceIdeal.nD Cert.MixWinUpdateReferenceIdeal.τ).loc Cert.MixWinUpdateReferenceIdeal.main_arg2) = m ((c.tc : Thread Cert.MixWinUpdateIdeal.nD Cert.MixWinUpdateIdeal.τ).loc Cert.MixWinUpdateIdeal.main_arg2)
      ∧ m' ((c.tc : Thread Cert.MixWinUpdateReferenceIdeal.nD Cert.MixWinUpdateReferenceIdeal.τ).loc Cert.MixWinUpdateReferenceIdeal.main_arg3) = m ((c.tc : Thread Cert.MixWinUpdateIdeal.nD Cert.MixWinUpdateIdeal.τ).loc Cert.MixWinUpdateIdeal.main_arg3)
      ∧ m' ((c.tc : Thread Cert.MixWinUpdateReferenceIdeal.nD Cert.MixWinUpdateReferenceIdeal.τ).loc Cert.MixWinUpdateReferenceIdeal.main_arg4) = m ((c.tc : Thread Cert.MixWinUpdateIdeal.nD Cert.MixWinUpdateIdeal.τ).loc Cert.MixWinUpdateIdeal.main_arg4)
      ∧ m' ((c.tc : Thread Cert.MixWinUpdateReferenceIdeal.nD Cert.MixWinUpdateReferenceIdeal.τ).loc Cert.MixWinUpdateReferenceIdeal.main_arg5) = m ((c.tc : Thread Cert.MixWinUpdateIdeal.nD Cert.MixWinUpdateIdeal.τ).loc Cert.MixWinUpdateIdeal.main_arg5)) →
    ∃ (v0 : (c : Dev Cert.MixWinUpdateIdeal.nD) → Buf (Elt Ideal) ((c.tc : Thread Cert.MixWinUpdateIdeal.nD Cert.MixWinUpdateIdeal.τ).loc Cert.MixWinUpdateIdeal.main_v5)) (v1 : (c : Dev Cert.MixWinUpdateIdeal.nD) → Buf (Elt Ideal) ((c.tc : Thread Cert.MixWinUpdateIdeal.nD Cert.MixWinUpdateIdeal.τ).loc Cert.MixWinUpdateIdeal.main_v6)) (v2 : (c : Dev Cert.MixWinUpdateIdeal.nD) → Buf (Elt Ideal) ((c.tc : Thread Cert.MixWinUpdateIdeal.nD Cert.MixWinUpdateIdeal.τ).loc Cert.MixWinUpdateIdeal.main_v7)) (v3 : (c : Dev Cert.MixWinUpdateIdeal.nD) → Buf (Elt Ideal) ((c.tc : Thread Cert.MixWinUpdateIdeal.nD Cert.MixWinUpdateIdeal.τ).loc Cert.MixWinUpdateIdeal.main_v8)),
      θ_run (Cert.MixWinUpdateIdeal.defs (F := Ideal)) (onTc (τ := Cert.MixWinUpdateIdeal.τ) (Cert.MixWinUpdateIdeal.main (F := Ideal))) ⟨m, fun _ => 0, g⟩ (fun r => ∀ c : Dev Cert.MixWinUpdateIdeal.nD,
          r.2.mem ((c.tc : Thread Cert.MixWinUpdateIdeal.nD Cert.MixWinUpdateIdeal.τ).loc Cert.MixWinUpdateIdeal.main_v5) = v0 c
          ∧ r.2.mem ((c.tc : Thread Cert.MixWinUpdateIdeal.nD Cert.MixWinUpdateIdeal.τ).loc Cert.MixWinUpdateIdeal.main_v6) = v1 c
          ∧ r.2.mem ((c.tc : Thread Cert.MixWinUpdateIdeal.nD Cert.MixWinUpdateIdeal.τ).loc Cert.MixWinUpdateIdeal.main_v7) = v2 c
          ∧ r.2.mem ((c.tc : Thread Cert.MixWinUpdateIdeal.nD Cert.MixWinUpdateIdeal.τ).loc Cert.MixWinUpdateIdeal.main_v8) = v3 c
          ∧ r.2.mem ((c.tc : Thread Cert.MixWinUpdateIdeal.nD Cert.MixWinUpdateIdeal.τ).loc Cert.MixWinUpdateIdeal.main_arg0) = m ((c.tc : Thread Cert.MixWinUpdateIdeal.nD Cert.MixWinUpdateIdeal.τ).loc Cert.MixWinUpdateIdeal.main_arg0)
          ∧ r.2.mem ((c.tc : Thread Cert.MixWinUpdateIdeal.nD Cert.MixWinUpdateIdeal.τ).loc Cert.MixWinUpdateIdeal.main_arg1) = m ((c.tc : Thread Cert.MixWinUpdateIdeal.nD Cert.MixWinUpdateIdeal.τ).loc Cert.MixWinUpdateIdeal.main_arg1)
          ∧ r.2.mem ((c.tc : Thread Cert.MixWinUpdateIdeal.nD Cert.MixWinUpdateIdeal.τ).loc Cert.MixWinUpdateIdeal.main_arg2) = m ((c.tc : Thread Cert.MixWinUpdateIdeal.nD Cert.MixWinUpdateIdeal.τ).loc Cert.MixWinUpdateIdeal.main_arg2)
          ∧ r.2.mem ((c.tc : Thread Cert.MixWinUpdateIdeal.nD Cert.MixWinUpdateIdeal.τ).loc Cert.MixWinUpdateIdeal.main_arg3) = m ((c.tc : Thread Cert.MixWinUpdateIdeal.nD Cert.MixWinUpdateIdeal.τ).loc Cert.MixWinUpdateIdeal.main_arg3)
          ∧ r.2.mem ((c.tc : Thread Cert.MixWinUpdateIdeal.nD Cert.MixWinUpdateIdeal.τ).loc Cert.MixWinUpdateIdeal.main_arg4) = m ((c.tc : Thread Cert.MixWinUpdateIdeal.nD Cert.MixWinUpdateIdeal.τ).loc Cert.MixWinUpdateIdeal.main_arg4)
          ∧ r.2.mem ((c.tc : Thread Cert.MixWinUpdateIdeal.nD Cert.MixWinUpdateIdeal.τ).loc Cert.MixWinUpdateIdeal.main_arg5) = m ((c.tc : Thread Cert.MixWinUpdateIdeal.nD Cert.MixWinUpdateIdeal.τ).loc Cert.MixWinUpdateIdeal.main_arg5))
      ∧ θ_run (Cert.MixWinUpdateReferenceIdeal.defs (F := Ideal)) (onTc (τ := Cert.MixWinUpdateReferenceIdeal.τ) (Cert.MixWinUpdateReferenceIdeal.main (F := Ideal))) ⟨m', fun _ => 0, g'⟩ (fun r => ∀ c : Dev Cert.MixWinUpdateReferenceIdeal.nD,
          r.2.mem ((c.tc : Thread Cert.MixWinUpdateReferenceIdeal.nD Cert.MixWinUpdateReferenceIdeal.τ).loc Cert.MixWinUpdateReferenceIdeal.main_v6) = v0 c
          ∧ r.2.mem ((c.tc : Thread Cert.MixWinUpdateReferenceIdeal.nD Cert.MixWinUpdateReferenceIdeal.τ).loc Cert.MixWinUpdateReferenceIdeal.main_v30) = v1 c
          ∧ r.2.mem ((c.tc : Thread Cert.MixWinUpdateReferenceIdeal.nD Cert.MixWinUpdateReferenceIdeal.τ).loc Cert.MixWinUpdateReferenceIdeal.main_v11) = v2 c
          ∧ r.2.mem ((c.tc : Thread Cert.MixWinUpdateReferenceIdeal.nD Cert.MixWinUpdateReferenceIdeal.τ).loc Cert.MixWinUpdateReferenceIdeal.main_v17) = v3 c
          ∧ r.2.mem ((c.tc : Thread Cert.MixWinUpdateReferenceIdeal.nD Cert.MixWinUpdateReferenceIdeal.τ).loc Cert.MixWinUpdateReferenceIdeal.main_arg0) = m' ((c.tc : Thread Cert.MixWinUpdateReferenceIdeal.nD Cert.MixWinUpdateReferenceIdeal.τ).loc Cert.MixWinUpdateReferenceIdeal.main_arg0)
          ∧ r.2.mem ((c.tc : Thread Cert.MixWinUpdateReferenceIdeal.nD Cert.MixWinUpdateReferenceIdeal.τ).loc Cert.MixWinUpdateReferenceIdeal.main_arg1) = m' ((c.tc : Thread Cert.MixWinUpdateReferenceIdeal.nD Cert.MixWinUpdateReferenceIdeal.τ).loc Cert.MixWinUpdateReferenceIdeal.main_arg1)
          ∧ r.2.mem ((c.tc : Thread Cert.MixWinUpdateReferenceIdeal.nD Cert.MixWinUpdateReferenceIdeal.τ).loc Cert.MixWinUpdateReferenceIdeal.main_arg2) = m' ((c.tc : Thread Cert.MixWinUpdateReferenceIdeal.nD Cert.MixWinUpdateReferenceIdeal.τ).loc Cert.MixWinUpdateReferenceIdeal.main_arg2)
          ∧ r.2.mem ((c.tc : Thread Cert.MixWinUpdateReferenceIdeal.nD Cert.MixWinUpdateReferenceIdeal.τ).loc Cert.MixWinUpdateReferenceIdeal.main_arg3) = m' ((c.tc : Thread Cert.MixWinUpdateReferenceIdeal.nD Cert.MixWinUpdateReferenceIdeal.τ).loc Cert.MixWinUpdateReferenceIdeal.main_arg3)
          ∧ r.2.mem ((c.tc : Thread Cert.MixWinUpdateReferenceIdeal.nD Cert.MixWinUpdateReferenceIdeal.τ).loc Cert.MixWinUpdateReferenceIdeal.main_arg4) = m' ((c.tc : Thread Cert.MixWinUpdateReferenceIdeal.nD Cert.MixWinUpdateReferenceIdeal.τ).loc Cert.MixWinUpdateReferenceIdeal.main_arg4)
          ∧ r.2.mem ((c.tc : Thread Cert.MixWinUpdateReferenceIdeal.nD Cert.MixWinUpdateReferenceIdeal.τ).loc Cert.MixWinUpdateReferenceIdeal.main_arg5) = m' ((c.tc : Thread Cert.MixWinUpdateReferenceIdeal.nD Cert.MixWinUpdateReferenceIdeal.τ).loc Cert.MixWinUpdateReferenceIdeal.main_arg5))

def preserves_AttWqkvUpdate_AttWqkvUpdateIdeal : Prop :=
  True

def algebraic_AttWqkvUpdateIdeal_AttWqkvUpdateReferenceIdeal [hAttWqkvUpdateIdeal : Cert.AttWqkvUpdateIdeal.Facts] [hAttWqkvUpdateReferenceIdeal : Cert.AttWqkvUpdateReferenceIdeal.Facts] [hPre_att_wqkv_update_on_mesh : Cert.Pre_att_wqkv_update_on_mesh.Facts] : Prop :=
  ∀ (m : (ℓ : Loc Cert.AttWqkvUpdateIdeal.nD Cert.AttWqkvUpdateIdeal.τ Cert.AttWqkvUpdateIdeal.sig) → Buf (Elt Ideal) ℓ) (g : Dev Cert.AttWqkvUpdateIdeal.nD → PrngReg)
    (m' : (ℓ : Loc Cert.AttWqkvUpdateReferenceIdeal.nD Cert.AttWqkvUpdateReferenceIdeal.τ Cert.AttWqkvUpdateReferenceIdeal.sig) → Buf (Elt Ideal) ℓ) (g' : Dev Cert.AttWqkvUpdateReferenceIdeal.nD → PrngReg), Pre_AttWqkvUpdateIdeal m →
    (∀ c : Dev Cert.AttWqkvUpdateIdeal.nD,
      m' ((c.tc : Thread Cert.AttWqkvUpdateReferenceIdeal.nD Cert.AttWqkvUpdateReferenceIdeal.τ).loc Cert.AttWqkvUpdateReferenceIdeal.main_arg0) = m ((c.tc : Thread Cert.AttWqkvUpdateIdeal.nD Cert.AttWqkvUpdateIdeal.τ).loc Cert.AttWqkvUpdateIdeal.main_arg0)
      ∧ m' ((c.tc : Thread Cert.AttWqkvUpdateReferenceIdeal.nD Cert.AttWqkvUpdateReferenceIdeal.τ).loc Cert.AttWqkvUpdateReferenceIdeal.main_arg1) = m ((c.tc : Thread Cert.AttWqkvUpdateIdeal.nD Cert.AttWqkvUpdateIdeal.τ).loc Cert.AttWqkvUpdateIdeal.main_arg1)
      ∧ m' ((c.tc : Thread Cert.AttWqkvUpdateReferenceIdeal.nD Cert.AttWqkvUpdateReferenceIdeal.τ).loc Cert.AttWqkvUpdateReferenceIdeal.main_arg2) = m ((c.tc : Thread Cert.AttWqkvUpdateIdeal.nD Cert.AttWqkvUpdateIdeal.τ).loc Cert.AttWqkvUpdateIdeal.main_arg2)
      ∧ m' ((c.tc : Thread Cert.AttWqkvUpdateReferenceIdeal.nD Cert.AttWqkvUpdateReferenceIdeal.τ).loc Cert.AttWqkvUpdateReferenceIdeal.main_arg3) = m ((c.tc : Thread Cert.AttWqkvUpdateIdeal.nD Cert.AttWqkvUpdateIdeal.τ).loc Cert.AttWqkvUpdateIdeal.main_arg3)
      ∧ m' ((c.tc : Thread Cert.AttWqkvUpdateReferenceIdeal.nD Cert.AttWqkvUpdateReferenceIdeal.τ).loc Cert.AttWqkvUpdateReferenceIdeal.main_arg4) = m ((c.tc : Thread Cert.AttWqkvUpdateIdeal.nD Cert.AttWqkvUpdateIdeal.τ).loc Cert.AttWqkvUpdateIdeal.main_arg4)
      ∧ m' ((c.tc : Thread Cert.AttWqkvUpdateReferenceIdeal.nD Cert.AttWqkvUpdateReferenceIdeal.τ).loc Cert.AttWqkvUpdateReferenceIdeal.main_arg5) = m ((c.tc : Thread Cert.AttWqkvUpdateIdeal.nD Cert.AttWqkvUpdateIdeal.τ).loc Cert.AttWqkvUpdateIdeal.main_arg5)) →
    ∃ (v0 : (c : Dev Cert.AttWqkvUpdateIdeal.nD) → Buf (Elt Ideal) ((c.tc : Thread Cert.AttWqkvUpdateIdeal.nD Cert.AttWqkvUpdateIdeal.τ).loc Cert.AttWqkvUpdateIdeal.main_v5)) (v1 : (c : Dev Cert.AttWqkvUpdateIdeal.nD) → Buf (Elt Ideal) ((c.tc : Thread Cert.AttWqkvUpdateIdeal.nD Cert.AttWqkvUpdateIdeal.τ).loc Cert.AttWqkvUpdateIdeal.main_v6)) (v2 : (c : Dev Cert.AttWqkvUpdateIdeal.nD) → Buf (Elt Ideal) ((c.tc : Thread Cert.AttWqkvUpdateIdeal.nD Cert.AttWqkvUpdateIdeal.τ).loc Cert.AttWqkvUpdateIdeal.main_v7)) (v3 : (c : Dev Cert.AttWqkvUpdateIdeal.nD) → Buf (Elt Ideal) ((c.tc : Thread Cert.AttWqkvUpdateIdeal.nD Cert.AttWqkvUpdateIdeal.τ).loc Cert.AttWqkvUpdateIdeal.main_v8)),
      θ_run (Cert.AttWqkvUpdateIdeal.defs (F := Ideal)) (onTc (τ := Cert.AttWqkvUpdateIdeal.τ) (Cert.AttWqkvUpdateIdeal.main (F := Ideal))) ⟨m, fun _ => 0, g⟩ (fun r => ∀ c : Dev Cert.AttWqkvUpdateIdeal.nD,
          r.2.mem ((c.tc : Thread Cert.AttWqkvUpdateIdeal.nD Cert.AttWqkvUpdateIdeal.τ).loc Cert.AttWqkvUpdateIdeal.main_v5) = v0 c
          ∧ r.2.mem ((c.tc : Thread Cert.AttWqkvUpdateIdeal.nD Cert.AttWqkvUpdateIdeal.τ).loc Cert.AttWqkvUpdateIdeal.main_v6) = v1 c
          ∧ r.2.mem ((c.tc : Thread Cert.AttWqkvUpdateIdeal.nD Cert.AttWqkvUpdateIdeal.τ).loc Cert.AttWqkvUpdateIdeal.main_v7) = v2 c
          ∧ r.2.mem ((c.tc : Thread Cert.AttWqkvUpdateIdeal.nD Cert.AttWqkvUpdateIdeal.τ).loc Cert.AttWqkvUpdateIdeal.main_v8) = v3 c
          ∧ r.2.mem ((c.tc : Thread Cert.AttWqkvUpdateIdeal.nD Cert.AttWqkvUpdateIdeal.τ).loc Cert.AttWqkvUpdateIdeal.main_arg0) = m ((c.tc : Thread Cert.AttWqkvUpdateIdeal.nD Cert.AttWqkvUpdateIdeal.τ).loc Cert.AttWqkvUpdateIdeal.main_arg0)
          ∧ r.2.mem ((c.tc : Thread Cert.AttWqkvUpdateIdeal.nD Cert.AttWqkvUpdateIdeal.τ).loc Cert.AttWqkvUpdateIdeal.main_arg1) = m ((c.tc : Thread Cert.AttWqkvUpdateIdeal.nD Cert.AttWqkvUpdateIdeal.τ).loc Cert.AttWqkvUpdateIdeal.main_arg1)
          ∧ r.2.mem ((c.tc : Thread Cert.AttWqkvUpdateIdeal.nD Cert.AttWqkvUpdateIdeal.τ).loc Cert.AttWqkvUpdateIdeal.main_arg2) = m ((c.tc : Thread Cert.AttWqkvUpdateIdeal.nD Cert.AttWqkvUpdateIdeal.τ).loc Cert.AttWqkvUpdateIdeal.main_arg2)
          ∧ r.2.mem ((c.tc : Thread Cert.AttWqkvUpdateIdeal.nD Cert.AttWqkvUpdateIdeal.τ).loc Cert.AttWqkvUpdateIdeal.main_arg3) = m ((c.tc : Thread Cert.AttWqkvUpdateIdeal.nD Cert.AttWqkvUpdateIdeal.τ).loc Cert.AttWqkvUpdateIdeal.main_arg3)
          ∧ r.2.mem ((c.tc : Thread Cert.AttWqkvUpdateIdeal.nD Cert.AttWqkvUpdateIdeal.τ).loc Cert.AttWqkvUpdateIdeal.main_arg4) = m ((c.tc : Thread Cert.AttWqkvUpdateIdeal.nD Cert.AttWqkvUpdateIdeal.τ).loc Cert.AttWqkvUpdateIdeal.main_arg4)
          ∧ r.2.mem ((c.tc : Thread Cert.AttWqkvUpdateIdeal.nD Cert.AttWqkvUpdateIdeal.τ).loc Cert.AttWqkvUpdateIdeal.main_arg5) = m ((c.tc : Thread Cert.AttWqkvUpdateIdeal.nD Cert.AttWqkvUpdateIdeal.τ).loc Cert.AttWqkvUpdateIdeal.main_arg5))
      ∧ θ_run (Cert.AttWqkvUpdateReferenceIdeal.defs (F := Ideal)) (onTc (τ := Cert.AttWqkvUpdateReferenceIdeal.τ) (Cert.AttWqkvUpdateReferenceIdeal.main (F := Ideal))) ⟨m', fun _ => 0, g'⟩ (fun r => ∀ c : Dev Cert.AttWqkvUpdateReferenceIdeal.nD,
          r.2.mem ((c.tc : Thread Cert.AttWqkvUpdateReferenceIdeal.nD Cert.AttWqkvUpdateReferenceIdeal.τ).loc Cert.AttWqkvUpdateReferenceIdeal.main_v6) = v0 c
          ∧ r.2.mem ((c.tc : Thread Cert.AttWqkvUpdateReferenceIdeal.nD Cert.AttWqkvUpdateReferenceIdeal.τ).loc Cert.AttWqkvUpdateReferenceIdeal.main_v30) = v1 c
          ∧ r.2.mem ((c.tc : Thread Cert.AttWqkvUpdateReferenceIdeal.nD Cert.AttWqkvUpdateReferenceIdeal.τ).loc Cert.AttWqkvUpdateReferenceIdeal.main_v11) = v2 c
          ∧ r.2.mem ((c.tc : Thread Cert.AttWqkvUpdateReferenceIdeal.nD Cert.AttWqkvUpdateReferenceIdeal.τ).loc Cert.AttWqkvUpdateReferenceIdeal.main_v17) = v3 c
          ∧ r.2.mem ((c.tc : Thread Cert.AttWqkvUpdateReferenceIdeal.nD Cert.AttWqkvUpdateReferenceIdeal.τ).loc Cert.AttWqkvUpdateReferenceIdeal.main_arg0) = m' ((c.tc : Thread Cert.AttWqkvUpdateReferenceIdeal.nD Cert.AttWqkvUpdateReferenceIdeal.τ).loc Cert.AttWqkvUpdateReferenceIdeal.main_arg0)
          ∧ r.2.mem ((c.tc : Thread Cert.AttWqkvUpdateReferenceIdeal.nD Cert.AttWqkvUpdateReferenceIdeal.τ).loc Cert.AttWqkvUpdateReferenceIdeal.main_arg1) = m' ((c.tc : Thread Cert.AttWqkvUpdateReferenceIdeal.nD Cert.AttWqkvUpdateReferenceIdeal.τ).loc Cert.AttWqkvUpdateReferenceIdeal.main_arg1)
          ∧ r.2.mem ((c.tc : Thread Cert.AttWqkvUpdateReferenceIdeal.nD Cert.AttWqkvUpdateReferenceIdeal.τ).loc Cert.AttWqkvUpdateReferenceIdeal.main_arg2) = m' ((c.tc : Thread Cert.AttWqkvUpdateReferenceIdeal.nD Cert.AttWqkvUpdateReferenceIdeal.τ).loc Cert.AttWqkvUpdateReferenceIdeal.main_arg2)
          ∧ r.2.mem ((c.tc : Thread Cert.AttWqkvUpdateReferenceIdeal.nD Cert.AttWqkvUpdateReferenceIdeal.τ).loc Cert.AttWqkvUpdateReferenceIdeal.main_arg3) = m' ((c.tc : Thread Cert.AttWqkvUpdateReferenceIdeal.nD Cert.AttWqkvUpdateReferenceIdeal.τ).loc Cert.AttWqkvUpdateReferenceIdeal.main_arg3)
          ∧ r.2.mem ((c.tc : Thread Cert.AttWqkvUpdateReferenceIdeal.nD Cert.AttWqkvUpdateReferenceIdeal.τ).loc Cert.AttWqkvUpdateReferenceIdeal.main_arg4) = m' ((c.tc : Thread Cert.AttWqkvUpdateReferenceIdeal.nD Cert.AttWqkvUpdateReferenceIdeal.τ).loc Cert.AttWqkvUpdateReferenceIdeal.main_arg4)
          ∧ r.2.mem ((c.tc : Thread Cert.AttWqkvUpdateReferenceIdeal.nD Cert.AttWqkvUpdateReferenceIdeal.τ).loc Cert.AttWqkvUpdateReferenceIdeal.main_arg5) = m' ((c.tc : Thread Cert.AttWqkvUpdateReferenceIdeal.nD Cert.AttWqkvUpdateReferenceIdeal.τ).loc Cert.AttWqkvUpdateReferenceIdeal.main_arg5))

def preserves_FfnWoutUpdate1_FfnWoutUpdate1Ideal : Prop :=
  True

def algebraic_FfnWoutUpdate1Ideal_FfnWoutUpdate1ReferenceIdeal [hFfnWoutUpdate1Ideal : Cert.FfnWoutUpdate1Ideal.Facts] [hFfnWoutUpdate1ReferenceIdeal : Cert.FfnWoutUpdate1ReferenceIdeal.Facts] [hPre_ffn_wout_update1_on_mesh : Cert.Pre_ffn_wout_update1_on_mesh.Facts] : Prop :=
  ∀ (m : (ℓ : Loc Cert.FfnWoutUpdate1Ideal.nD Cert.FfnWoutUpdate1Ideal.τ Cert.FfnWoutUpdate1Ideal.sig) → Buf (Elt Ideal) ℓ) (g : Dev Cert.FfnWoutUpdate1Ideal.nD → PrngReg)
    (m' : (ℓ : Loc Cert.FfnWoutUpdate1ReferenceIdeal.nD Cert.FfnWoutUpdate1ReferenceIdeal.τ Cert.FfnWoutUpdate1ReferenceIdeal.sig) → Buf (Elt Ideal) ℓ) (g' : Dev Cert.FfnWoutUpdate1ReferenceIdeal.nD → PrngReg), Pre_FfnWoutUpdate1Ideal m →
    (∀ c : Dev Cert.FfnWoutUpdate1Ideal.nD,
      m' ((c.tc : Thread Cert.FfnWoutUpdate1ReferenceIdeal.nD Cert.FfnWoutUpdate1ReferenceIdeal.τ).loc Cert.FfnWoutUpdate1ReferenceIdeal.main_arg0) = m ((c.tc : Thread Cert.FfnWoutUpdate1Ideal.nD Cert.FfnWoutUpdate1Ideal.τ).loc Cert.FfnWoutUpdate1Ideal.main_arg0)
      ∧ m' ((c.tc : Thread Cert.FfnWoutUpdate1ReferenceIdeal.nD Cert.FfnWoutUpdate1ReferenceIdeal.τ).loc Cert.FfnWoutUpdate1ReferenceIdeal.main_arg1) = m ((c.tc : Thread Cert.FfnWoutUpdate1Ideal.nD Cert.FfnWoutUpdate1Ideal.τ).loc Cert.FfnWoutUpdate1Ideal.main_arg1)
      ∧ m' ((c.tc : Thread Cert.FfnWoutUpdate1ReferenceIdeal.nD Cert.FfnWoutUpdate1ReferenceIdeal.τ).loc Cert.FfnWoutUpdate1ReferenceIdeal.main_arg2) = m ((c.tc : Thread Cert.FfnWoutUpdate1Ideal.nD Cert.FfnWoutUpdate1Ideal.τ).loc Cert.FfnWoutUpdate1Ideal.main_arg2)
      ∧ m' ((c.tc : Thread Cert.FfnWoutUpdate1ReferenceIdeal.nD Cert.FfnWoutUpdate1ReferenceIdeal.τ).loc Cert.FfnWoutUpdate1ReferenceIdeal.main_arg3) = m ((c.tc : Thread Cert.FfnWoutUpdate1Ideal.nD Cert.FfnWoutUpdate1Ideal.τ).loc Cert.FfnWoutUpdate1Ideal.main_arg3)
      ∧ m' ((c.tc : Thread Cert.FfnWoutUpdate1ReferenceIdeal.nD Cert.FfnWoutUpdate1ReferenceIdeal.τ).loc Cert.FfnWoutUpdate1ReferenceIdeal.main_arg4) = m ((c.tc : Thread Cert.FfnWoutUpdate1Ideal.nD Cert.FfnWoutUpdate1Ideal.τ).loc Cert.FfnWoutUpdate1Ideal.main_arg4)
      ∧ m' ((c.tc : Thread Cert.FfnWoutUpdate1ReferenceIdeal.nD Cert.FfnWoutUpdate1ReferenceIdeal.τ).loc Cert.FfnWoutUpdate1ReferenceIdeal.main_arg5) = m ((c.tc : Thread Cert.FfnWoutUpdate1Ideal.nD Cert.FfnWoutUpdate1Ideal.τ).loc Cert.FfnWoutUpdate1Ideal.main_arg5)) →
    ∃ (v0 : (c : Dev Cert.FfnWoutUpdate1Ideal.nD) → Buf (Elt Ideal) ((c.tc : Thread Cert.FfnWoutUpdate1Ideal.nD Cert.FfnWoutUpdate1Ideal.τ).loc Cert.FfnWoutUpdate1Ideal.main_v2)) (v1 : (c : Dev Cert.FfnWoutUpdate1Ideal.nD) → Buf (Elt Ideal) ((c.tc : Thread Cert.FfnWoutUpdate1Ideal.nD Cert.FfnWoutUpdate1Ideal.τ).loc Cert.FfnWoutUpdate1Ideal.main_v3)) (v2 : (c : Dev Cert.FfnWoutUpdate1Ideal.nD) → Buf (Elt Ideal) ((c.tc : Thread Cert.FfnWoutUpdate1Ideal.nD Cert.FfnWoutUpdate1Ideal.τ).loc Cert.FfnWoutUpdate1Ideal.main_v4)) (v3 : (c : Dev Cert.FfnWoutUpdate1Ideal.nD) → Buf (Elt Ideal) ((c.tc : Thread Cert.FfnWoutUpdate1Ideal.nD Cert.FfnWoutUpdate1Ideal.τ).loc Cert.FfnWoutUpdate1Ideal.main_v5)),
      θ_run (Cert.FfnWoutUpdate1Ideal.defs (F := Ideal)) (onTc (τ := Cert.FfnWoutUpdate1Ideal.τ) (Cert.FfnWoutUpdate1Ideal.main (F := Ideal))) ⟨m, fun _ => 0, g⟩ (fun r => ∀ c : Dev Cert.FfnWoutUpdate1Ideal.nD,
          r.2.mem ((c.tc : Thread Cert.FfnWoutUpdate1Ideal.nD Cert.FfnWoutUpdate1Ideal.τ).loc Cert.FfnWoutUpdate1Ideal.main_v2) = v0 c
          ∧ r.2.mem ((c.tc : Thread Cert.FfnWoutUpdate1Ideal.nD Cert.FfnWoutUpdate1Ideal.τ).loc Cert.FfnWoutUpdate1Ideal.main_v3) = v1 c
          ∧ r.2.mem ((c.tc : Thread Cert.FfnWoutUpdate1Ideal.nD Cert.FfnWoutUpdate1Ideal.τ).loc Cert.FfnWoutUpdate1Ideal.main_v4) = v2 c
          ∧ r.2.mem ((c.tc : Thread Cert.FfnWoutUpdate1Ideal.nD Cert.FfnWoutUpdate1Ideal.τ).loc Cert.FfnWoutUpdate1Ideal.main_v5) = v3 c
          ∧ r.2.mem ((c.tc : Thread Cert.FfnWoutUpdate1Ideal.nD Cert.FfnWoutUpdate1Ideal.τ).loc Cert.FfnWoutUpdate1Ideal.main_arg0) = m ((c.tc : Thread Cert.FfnWoutUpdate1Ideal.nD Cert.FfnWoutUpdate1Ideal.τ).loc Cert.FfnWoutUpdate1Ideal.main_arg0)
          ∧ r.2.mem ((c.tc : Thread Cert.FfnWoutUpdate1Ideal.nD Cert.FfnWoutUpdate1Ideal.τ).loc Cert.FfnWoutUpdate1Ideal.main_arg1) = m ((c.tc : Thread Cert.FfnWoutUpdate1Ideal.nD Cert.FfnWoutUpdate1Ideal.τ).loc Cert.FfnWoutUpdate1Ideal.main_arg1)
          ∧ r.2.mem ((c.tc : Thread Cert.FfnWoutUpdate1Ideal.nD Cert.FfnWoutUpdate1Ideal.τ).loc Cert.FfnWoutUpdate1Ideal.main_arg2) = m ((c.tc : Thread Cert.FfnWoutUpdate1Ideal.nD Cert.FfnWoutUpdate1Ideal.τ).loc Cert.FfnWoutUpdate1Ideal.main_arg2)
          ∧ r.2.mem ((c.tc : Thread Cert.FfnWoutUpdate1Ideal.nD Cert.FfnWoutUpdate1Ideal.τ).loc Cert.FfnWoutUpdate1Ideal.main_arg3) = m ((c.tc : Thread Cert.FfnWoutUpdate1Ideal.nD Cert.FfnWoutUpdate1Ideal.τ).loc Cert.FfnWoutUpdate1Ideal.main_arg3)
          ∧ r.2.mem ((c.tc : Thread Cert.FfnWoutUpdate1Ideal.nD Cert.FfnWoutUpdate1Ideal.τ).loc Cert.FfnWoutUpdate1Ideal.main_arg4) = m ((c.tc : Thread Cert.FfnWoutUpdate1Ideal.nD Cert.FfnWoutUpdate1Ideal.τ).loc Cert.FfnWoutUpdate1Ideal.main_arg4)
          ∧ r.2.mem ((c.tc : Thread Cert.FfnWoutUpdate1Ideal.nD Cert.FfnWoutUpdate1Ideal.τ).loc Cert.FfnWoutUpdate1Ideal.main_arg5) = m ((c.tc : Thread Cert.FfnWoutUpdate1Ideal.nD Cert.FfnWoutUpdate1Ideal.τ).loc Cert.FfnWoutUpdate1Ideal.main_arg5))
      ∧ θ_run (Cert.FfnWoutUpdate1ReferenceIdeal.defs (F := Ideal)) (onTc (τ := Cert.FfnWoutUpdate1ReferenceIdeal.τ) (Cert.FfnWoutUpdate1ReferenceIdeal.main (F := Ideal))) ⟨m', fun _ => 0, g'⟩ (fun r => ∀ c : Dev Cert.FfnWoutUpdate1ReferenceIdeal.nD,
          r.2.mem ((c.tc : Thread Cert.FfnWoutUpdate1ReferenceIdeal.nD Cert.FfnWoutUpdate1ReferenceIdeal.τ).loc Cert.FfnWoutUpdate1ReferenceIdeal.main_v6) = v0 c
          ∧ r.2.mem ((c.tc : Thread Cert.FfnWoutUpdate1ReferenceIdeal.nD Cert.FfnWoutUpdate1ReferenceIdeal.τ).loc Cert.FfnWoutUpdate1ReferenceIdeal.main_v32) = v1 c
          ∧ r.2.mem ((c.tc : Thread Cert.FfnWoutUpdate1ReferenceIdeal.nD Cert.FfnWoutUpdate1ReferenceIdeal.τ).loc Cert.FfnWoutUpdate1ReferenceIdeal.main_v13) = v2 c
          ∧ r.2.mem ((c.tc : Thread Cert.FfnWoutUpdate1ReferenceIdeal.nD Cert.FfnWoutUpdate1ReferenceIdeal.τ).loc Cert.FfnWoutUpdate1ReferenceIdeal.main_v19) = v3 c
          ∧ r.2.mem ((c.tc : Thread Cert.FfnWoutUpdate1ReferenceIdeal.nD Cert.FfnWoutUpdate1ReferenceIdeal.τ).loc Cert.FfnWoutUpdate1ReferenceIdeal.main_arg0) = m' ((c.tc : Thread Cert.FfnWoutUpdate1ReferenceIdeal.nD Cert.FfnWoutUpdate1ReferenceIdeal.τ).loc Cert.FfnWoutUpdate1ReferenceIdeal.main_arg0)
          ∧ r.2.mem ((c.tc : Thread Cert.FfnWoutUpdate1ReferenceIdeal.nD Cert.FfnWoutUpdate1ReferenceIdeal.τ).loc Cert.FfnWoutUpdate1ReferenceIdeal.main_arg1) = m' ((c.tc : Thread Cert.FfnWoutUpdate1ReferenceIdeal.nD Cert.FfnWoutUpdate1ReferenceIdeal.τ).loc Cert.FfnWoutUpdate1ReferenceIdeal.main_arg1)
          ∧ r.2.mem ((c.tc : Thread Cert.FfnWoutUpdate1ReferenceIdeal.nD Cert.FfnWoutUpdate1ReferenceIdeal.τ).loc Cert.FfnWoutUpdate1ReferenceIdeal.main_arg2) = m' ((c.tc : Thread Cert.FfnWoutUpdate1ReferenceIdeal.nD Cert.FfnWoutUpdate1ReferenceIdeal.τ).loc Cert.FfnWoutUpdate1ReferenceIdeal.main_arg2)
          ∧ r.2.mem ((c.tc : Thread Cert.FfnWoutUpdate1ReferenceIdeal.nD Cert.FfnWoutUpdate1ReferenceIdeal.τ).loc Cert.FfnWoutUpdate1ReferenceIdeal.main_arg3) = m' ((c.tc : Thread Cert.FfnWoutUpdate1ReferenceIdeal.nD Cert.FfnWoutUpdate1ReferenceIdeal.τ).loc Cert.FfnWoutUpdate1ReferenceIdeal.main_arg3)
          ∧ r.2.mem ((c.tc : Thread Cert.FfnWoutUpdate1ReferenceIdeal.nD Cert.FfnWoutUpdate1ReferenceIdeal.τ).loc Cert.FfnWoutUpdate1ReferenceIdeal.main_arg4) = m' ((c.tc : Thread Cert.FfnWoutUpdate1ReferenceIdeal.nD Cert.FfnWoutUpdate1ReferenceIdeal.τ).loc Cert.FfnWoutUpdate1ReferenceIdeal.main_arg4)
          ∧ r.2.mem ((c.tc : Thread Cert.FfnWoutUpdate1ReferenceIdeal.nD Cert.FfnWoutUpdate1ReferenceIdeal.τ).loc Cert.FfnWoutUpdate1ReferenceIdeal.main_arg5) = m' ((c.tc : Thread Cert.FfnWoutUpdate1ReferenceIdeal.nD Cert.FfnWoutUpdate1ReferenceIdeal.τ).loc Cert.FfnWoutUpdate1ReferenceIdeal.main_arg5))

def preserves_FfnWinUpdate1_FfnWinUpdate1Ideal : Prop :=
  True

def algebraic_FfnWinUpdate1Ideal_FfnWinUpdate1ReferenceIdeal [hFfnWinUpdate1Ideal : Cert.FfnWinUpdate1Ideal.Facts] [hFfnWinUpdate1ReferenceIdeal : Cert.FfnWinUpdate1ReferenceIdeal.Facts] [hPre_ffn_win_update1_on_mesh : Cert.Pre_ffn_win_update1_on_mesh.Facts] : Prop :=
  ∀ (m : (ℓ : Loc Cert.FfnWinUpdate1Ideal.nD Cert.FfnWinUpdate1Ideal.τ Cert.FfnWinUpdate1Ideal.sig) → Buf (Elt Ideal) ℓ) (g : Dev Cert.FfnWinUpdate1Ideal.nD → PrngReg)
    (m' : (ℓ : Loc Cert.FfnWinUpdate1ReferenceIdeal.nD Cert.FfnWinUpdate1ReferenceIdeal.τ Cert.FfnWinUpdate1ReferenceIdeal.sig) → Buf (Elt Ideal) ℓ) (g' : Dev Cert.FfnWinUpdate1ReferenceIdeal.nD → PrngReg), Pre_FfnWinUpdate1Ideal m →
    (∀ c : Dev Cert.FfnWinUpdate1Ideal.nD,
      m' ((c.tc : Thread Cert.FfnWinUpdate1ReferenceIdeal.nD Cert.FfnWinUpdate1ReferenceIdeal.τ).loc Cert.FfnWinUpdate1ReferenceIdeal.main_arg0) = m ((c.tc : Thread Cert.FfnWinUpdate1Ideal.nD Cert.FfnWinUpdate1Ideal.τ).loc Cert.FfnWinUpdate1Ideal.main_arg0)
      ∧ m' ((c.tc : Thread Cert.FfnWinUpdate1ReferenceIdeal.nD Cert.FfnWinUpdate1ReferenceIdeal.τ).loc Cert.FfnWinUpdate1ReferenceIdeal.main_arg1) = m ((c.tc : Thread Cert.FfnWinUpdate1Ideal.nD Cert.FfnWinUpdate1Ideal.τ).loc Cert.FfnWinUpdate1Ideal.main_arg1)
      ∧ m' ((c.tc : Thread Cert.FfnWinUpdate1ReferenceIdeal.nD Cert.FfnWinUpdate1ReferenceIdeal.τ).loc Cert.FfnWinUpdate1ReferenceIdeal.main_arg2) = m ((c.tc : Thread Cert.FfnWinUpdate1Ideal.nD Cert.FfnWinUpdate1Ideal.τ).loc Cert.FfnWinUpdate1Ideal.main_arg2)
      ∧ m' ((c.tc : Thread Cert.FfnWinUpdate1ReferenceIdeal.nD Cert.FfnWinUpdate1ReferenceIdeal.τ).loc Cert.FfnWinUpdate1ReferenceIdeal.main_arg3) = m ((c.tc : Thread Cert.FfnWinUpdate1Ideal.nD Cert.FfnWinUpdate1Ideal.τ).loc Cert.FfnWinUpdate1Ideal.main_arg3)
      ∧ m' ((c.tc : Thread Cert.FfnWinUpdate1ReferenceIdeal.nD Cert.FfnWinUpdate1ReferenceIdeal.τ).loc Cert.FfnWinUpdate1ReferenceIdeal.main_arg4) = m ((c.tc : Thread Cert.FfnWinUpdate1Ideal.nD Cert.FfnWinUpdate1Ideal.τ).loc Cert.FfnWinUpdate1Ideal.main_arg4)
      ∧ m' ((c.tc : Thread Cert.FfnWinUpdate1ReferenceIdeal.nD Cert.FfnWinUpdate1ReferenceIdeal.τ).loc Cert.FfnWinUpdate1ReferenceIdeal.main_arg5) = m ((c.tc : Thread Cert.FfnWinUpdate1Ideal.nD Cert.FfnWinUpdate1Ideal.τ).loc Cert.FfnWinUpdate1Ideal.main_arg5)) →
    ∃ (v0 : (c : Dev Cert.FfnWinUpdate1Ideal.nD) → Buf (Elt Ideal) ((c.tc : Thread Cert.FfnWinUpdate1Ideal.nD Cert.FfnWinUpdate1Ideal.τ).loc Cert.FfnWinUpdate1Ideal.main_v2)) (v1 : (c : Dev Cert.FfnWinUpdate1Ideal.nD) → Buf (Elt Ideal) ((c.tc : Thread Cert.FfnWinUpdate1Ideal.nD Cert.FfnWinUpdate1Ideal.τ).loc Cert.FfnWinUpdate1Ideal.main_v3)) (v2 : (c : Dev Cert.FfnWinUpdate1Ideal.nD) → Buf (Elt Ideal) ((c.tc : Thread Cert.FfnWinUpdate1Ideal.nD Cert.FfnWinUpdate1Ideal.τ).loc Cert.FfnWinUpdate1Ideal.main_v4)) (v3 : (c : Dev Cert.FfnWinUpdate1Ideal.nD) → Buf (Elt Ideal) ((c.tc : Thread Cert.FfnWinUpdate1Ideal.nD Cert.FfnWinUpdate1Ideal.τ).loc Cert.FfnWinUpdate1Ideal.main_v5)),
      θ_run (Cert.FfnWinUpdate1Ideal.defs (F := Ideal)) (onTc (τ := Cert.FfnWinUpdate1Ideal.τ) (Cert.FfnWinUpdate1Ideal.main (F := Ideal))) ⟨m, fun _ => 0, g⟩ (fun r => ∀ c : Dev Cert.FfnWinUpdate1Ideal.nD,
          r.2.mem ((c.tc : Thread Cert.FfnWinUpdate1Ideal.nD Cert.FfnWinUpdate1Ideal.τ).loc Cert.FfnWinUpdate1Ideal.main_v2) = v0 c
          ∧ r.2.mem ((c.tc : Thread Cert.FfnWinUpdate1Ideal.nD Cert.FfnWinUpdate1Ideal.τ).loc Cert.FfnWinUpdate1Ideal.main_v3) = v1 c
          ∧ r.2.mem ((c.tc : Thread Cert.FfnWinUpdate1Ideal.nD Cert.FfnWinUpdate1Ideal.τ).loc Cert.FfnWinUpdate1Ideal.main_v4) = v2 c
          ∧ r.2.mem ((c.tc : Thread Cert.FfnWinUpdate1Ideal.nD Cert.FfnWinUpdate1Ideal.τ).loc Cert.FfnWinUpdate1Ideal.main_v5) = v3 c
          ∧ r.2.mem ((c.tc : Thread Cert.FfnWinUpdate1Ideal.nD Cert.FfnWinUpdate1Ideal.τ).loc Cert.FfnWinUpdate1Ideal.main_arg0) = m ((c.tc : Thread Cert.FfnWinUpdate1Ideal.nD Cert.FfnWinUpdate1Ideal.τ).loc Cert.FfnWinUpdate1Ideal.main_arg0)
          ∧ r.2.mem ((c.tc : Thread Cert.FfnWinUpdate1Ideal.nD Cert.FfnWinUpdate1Ideal.τ).loc Cert.FfnWinUpdate1Ideal.main_arg1) = m ((c.tc : Thread Cert.FfnWinUpdate1Ideal.nD Cert.FfnWinUpdate1Ideal.τ).loc Cert.FfnWinUpdate1Ideal.main_arg1)
          ∧ r.2.mem ((c.tc : Thread Cert.FfnWinUpdate1Ideal.nD Cert.FfnWinUpdate1Ideal.τ).loc Cert.FfnWinUpdate1Ideal.main_arg2) = m ((c.tc : Thread Cert.FfnWinUpdate1Ideal.nD Cert.FfnWinUpdate1Ideal.τ).loc Cert.FfnWinUpdate1Ideal.main_arg2)
          ∧ r.2.mem ((c.tc : Thread Cert.FfnWinUpdate1Ideal.nD Cert.FfnWinUpdate1Ideal.τ).loc Cert.FfnWinUpdate1Ideal.main_arg3) = m ((c.tc : Thread Cert.FfnWinUpdate1Ideal.nD Cert.FfnWinUpdate1Ideal.τ).loc Cert.FfnWinUpdate1Ideal.main_arg3)
          ∧ r.2.mem ((c.tc : Thread Cert.FfnWinUpdate1Ideal.nD Cert.FfnWinUpdate1Ideal.τ).loc Cert.FfnWinUpdate1Ideal.main_arg4) = m ((c.tc : Thread Cert.FfnWinUpdate1Ideal.nD Cert.FfnWinUpdate1Ideal.τ).loc Cert.FfnWinUpdate1Ideal.main_arg4)
          ∧ r.2.mem ((c.tc : Thread Cert.FfnWinUpdate1Ideal.nD Cert.FfnWinUpdate1Ideal.τ).loc Cert.FfnWinUpdate1Ideal.main_arg5) = m ((c.tc : Thread Cert.FfnWinUpdate1Ideal.nD Cert.FfnWinUpdate1Ideal.τ).loc Cert.FfnWinUpdate1Ideal.main_arg5))
      ∧ θ_run (Cert.FfnWinUpdate1ReferenceIdeal.defs (F := Ideal)) (onTc (τ := Cert.FfnWinUpdate1ReferenceIdeal.τ) (Cert.FfnWinUpdate1ReferenceIdeal.main (F := Ideal))) ⟨m', fun _ => 0, g'⟩ (fun r => ∀ c : Dev Cert.FfnWinUpdate1ReferenceIdeal.nD,
          r.2.mem ((c.tc : Thread Cert.FfnWinUpdate1ReferenceIdeal.nD Cert.FfnWinUpdate1ReferenceIdeal.τ).loc Cert.FfnWinUpdate1ReferenceIdeal.main_v6) = v0 c
          ∧ r.2.mem ((c.tc : Thread Cert.FfnWinUpdate1ReferenceIdeal.nD Cert.FfnWinUpdate1ReferenceIdeal.τ).loc Cert.FfnWinUpdate1ReferenceIdeal.main_v32) = v1 c
          ∧ r.2.mem ((c.tc : Thread Cert.FfnWinUpdate1ReferenceIdeal.nD Cert.FfnWinUpdate1ReferenceIdeal.τ).loc Cert.FfnWinUpdate1ReferenceIdeal.main_v13) = v2 c
          ∧ r.2.mem ((c.tc : Thread Cert.FfnWinUpdate1ReferenceIdeal.nD Cert.FfnWinUpdate1ReferenceIdeal.τ).loc Cert.FfnWinUpdate1ReferenceIdeal.main_v19) = v3 c
          ∧ r.2.mem ((c.tc : Thread Cert.FfnWinUpdate1ReferenceIdeal.nD Cert.FfnWinUpdate1ReferenceIdeal.τ).loc Cert.FfnWinUpdate1ReferenceIdeal.main_arg0) = m' ((c.tc : Thread Cert.FfnWinUpdate1ReferenceIdeal.nD Cert.FfnWinUpdate1ReferenceIdeal.τ).loc Cert.FfnWinUpdate1ReferenceIdeal.main_arg0)
          ∧ r.2.mem ((c.tc : Thread Cert.FfnWinUpdate1ReferenceIdeal.nD Cert.FfnWinUpdate1ReferenceIdeal.τ).loc Cert.FfnWinUpdate1ReferenceIdeal.main_arg1) = m' ((c.tc : Thread Cert.FfnWinUpdate1ReferenceIdeal.nD Cert.FfnWinUpdate1ReferenceIdeal.τ).loc Cert.FfnWinUpdate1ReferenceIdeal.main_arg1)
          ∧ r.2.mem ((c.tc : Thread Cert.FfnWinUpdate1ReferenceIdeal.nD Cert.FfnWinUpdate1ReferenceIdeal.τ).loc Cert.FfnWinUpdate1ReferenceIdeal.main_arg2) = m' ((c.tc : Thread Cert.FfnWinUpdate1ReferenceIdeal.nD Cert.FfnWinUpdate1ReferenceIdeal.τ).loc Cert.FfnWinUpdate1ReferenceIdeal.main_arg2)
          ∧ r.2.mem ((c.tc : Thread Cert.FfnWinUpdate1ReferenceIdeal.nD Cert.FfnWinUpdate1ReferenceIdeal.τ).loc Cert.FfnWinUpdate1ReferenceIdeal.main_arg3) = m' ((c.tc : Thread Cert.FfnWinUpdate1ReferenceIdeal.nD Cert.FfnWinUpdate1ReferenceIdeal.τ).loc Cert.FfnWinUpdate1ReferenceIdeal.main_arg3)
          ∧ r.2.mem ((c.tc : Thread Cert.FfnWinUpdate1ReferenceIdeal.nD Cert.FfnWinUpdate1ReferenceIdeal.τ).loc Cert.FfnWinUpdate1ReferenceIdeal.main_arg4) = m' ((c.tc : Thread Cert.FfnWinUpdate1ReferenceIdeal.nD Cert.FfnWinUpdate1ReferenceIdeal.τ).loc Cert.FfnWinUpdate1ReferenceIdeal.main_arg4)
          ∧ r.2.mem ((c.tc : Thread Cert.FfnWinUpdate1ReferenceIdeal.nD Cert.FfnWinUpdate1ReferenceIdeal.τ).loc Cert.FfnWinUpdate1ReferenceIdeal.main_arg5) = m' ((c.tc : Thread Cert.FfnWinUpdate1ReferenceIdeal.nD Cert.FfnWinUpdate1ReferenceIdeal.τ).loc Cert.FfnWinUpdate1ReferenceIdeal.main_arg5))

def preserves_FfnWoutUpdate_FfnWoutUpdateIdeal : Prop :=
  True

def algebraic_FfnWoutUpdateIdeal_FfnWoutUpdateReferenceIdeal [hFfnWoutUpdateIdeal : Cert.FfnWoutUpdateIdeal.Facts] [hFfnWoutUpdateReferenceIdeal : Cert.FfnWoutUpdateReferenceIdeal.Facts] [hPre_ffn_wout_update_on_mesh : Cert.Pre_ffn_wout_update_on_mesh.Facts] : Prop :=
  ∀ (m : (ℓ : Loc Cert.FfnWoutUpdateIdeal.nD Cert.FfnWoutUpdateIdeal.τ Cert.FfnWoutUpdateIdeal.sig) → Buf (Elt Ideal) ℓ) (g : Dev Cert.FfnWoutUpdateIdeal.nD → PrngReg)
    (m' : (ℓ : Loc Cert.FfnWoutUpdateReferenceIdeal.nD Cert.FfnWoutUpdateReferenceIdeal.τ Cert.FfnWoutUpdateReferenceIdeal.sig) → Buf (Elt Ideal) ℓ) (g' : Dev Cert.FfnWoutUpdateReferenceIdeal.nD → PrngReg), Pre_FfnWoutUpdateIdeal m →
    (∀ c : Dev Cert.FfnWoutUpdateIdeal.nD,
      m' ((c.tc : Thread Cert.FfnWoutUpdateReferenceIdeal.nD Cert.FfnWoutUpdateReferenceIdeal.τ).loc Cert.FfnWoutUpdateReferenceIdeal.main_arg0) = m ((c.tc : Thread Cert.FfnWoutUpdateIdeal.nD Cert.FfnWoutUpdateIdeal.τ).loc Cert.FfnWoutUpdateIdeal.main_arg0)
      ∧ m' ((c.tc : Thread Cert.FfnWoutUpdateReferenceIdeal.nD Cert.FfnWoutUpdateReferenceIdeal.τ).loc Cert.FfnWoutUpdateReferenceIdeal.main_arg1) = m ((c.tc : Thread Cert.FfnWoutUpdateIdeal.nD Cert.FfnWoutUpdateIdeal.τ).loc Cert.FfnWoutUpdateIdeal.main_arg1)
      ∧ m' ((c.tc : Thread Cert.FfnWoutUpdateReferenceIdeal.nD Cert.FfnWoutUpdateReferenceIdeal.τ).loc Cert.FfnWoutUpdateReferenceIdeal.main_arg2) = m ((c.tc : Thread Cert.FfnWoutUpdateIdeal.nD Cert.FfnWoutUpdateIdeal.τ).loc Cert.FfnWoutUpdateIdeal.main_arg2)
      ∧ m' ((c.tc : Thread Cert.FfnWoutUpdateReferenceIdeal.nD Cert.FfnWoutUpdateReferenceIdeal.τ).loc Cert.FfnWoutUpdateReferenceIdeal.main_arg3) = m ((c.tc : Thread Cert.FfnWoutUpdateIdeal.nD Cert.FfnWoutUpdateIdeal.τ).loc Cert.FfnWoutUpdateIdeal.main_arg3)
      ∧ m' ((c.tc : Thread Cert.FfnWoutUpdateReferenceIdeal.nD Cert.FfnWoutUpdateReferenceIdeal.τ).loc Cert.FfnWoutUpdateReferenceIdeal.main_arg4) = m ((c.tc : Thread Cert.FfnWoutUpdateIdeal.nD Cert.FfnWoutUpdateIdeal.τ).loc Cert.FfnWoutUpdateIdeal.main_arg4)
      ∧ m' ((c.tc : Thread Cert.FfnWoutUpdateReferenceIdeal.nD Cert.FfnWoutUpdateReferenceIdeal.τ).loc Cert.FfnWoutUpdateReferenceIdeal.main_arg5) = m ((c.tc : Thread Cert.FfnWoutUpdateIdeal.nD Cert.FfnWoutUpdateIdeal.τ).loc Cert.FfnWoutUpdateIdeal.main_arg5)
      ∧ m' ((c.tc : Thread Cert.FfnWoutUpdateReferenceIdeal.nD Cert.FfnWoutUpdateReferenceIdeal.τ).loc Cert.FfnWoutUpdateReferenceIdeal.main_arg6) = m ((c.tc : Thread Cert.FfnWoutUpdateIdeal.nD Cert.FfnWoutUpdateIdeal.τ).loc Cert.FfnWoutUpdateIdeal.main_arg6)
      ∧ m' ((c.tc : Thread Cert.FfnWoutUpdateReferenceIdeal.nD Cert.FfnWoutUpdateReferenceIdeal.τ).loc Cert.FfnWoutUpdateReferenceIdeal.main_arg7) = m ((c.tc : Thread Cert.FfnWoutUpdateIdeal.nD Cert.FfnWoutUpdateIdeal.τ).loc Cert.FfnWoutUpdateIdeal.main_arg7)
      ∧ m' ((c.tc : Thread Cert.FfnWoutUpdateReferenceIdeal.nD Cert.FfnWoutUpdateReferenceIdeal.τ).loc Cert.FfnWoutUpdateReferenceIdeal.main_arg8) = m ((c.tc : Thread Cert.FfnWoutUpdateIdeal.nD Cert.FfnWoutUpdateIdeal.τ).loc Cert.FfnWoutUpdateIdeal.main_arg8)
      ∧ m' ((c.tc : Thread Cert.FfnWoutUpdateReferenceIdeal.nD Cert.FfnWoutUpdateReferenceIdeal.τ).loc Cert.FfnWoutUpdateReferenceIdeal.main_arg9) = m ((c.tc : Thread Cert.FfnWoutUpdateIdeal.nD Cert.FfnWoutUpdateIdeal.τ).loc Cert.FfnWoutUpdateIdeal.main_arg9)) →
    ∃ (v0 : (c : Dev Cert.FfnWoutUpdateIdeal.nD) → Buf (Elt Ideal) ((c.tc : Thread Cert.FfnWoutUpdateIdeal.nD Cert.FfnWoutUpdateIdeal.τ).loc Cert.FfnWoutUpdateIdeal.main_v1_0)) (v1 : (c : Dev Cert.FfnWoutUpdateIdeal.nD) → Buf (Elt Ideal) ((c.tc : Thread Cert.FfnWoutUpdateIdeal.nD Cert.FfnWoutUpdateIdeal.τ).loc Cert.FfnWoutUpdateIdeal.main_v1_1)) (v2 : (c : Dev Cert.FfnWoutUpdateIdeal.nD) → Buf (Elt Ideal) ((c.tc : Thread Cert.FfnWoutUpdateIdeal.nD Cert.FfnWoutUpdateIdeal.τ).loc Cert.FfnWoutUpdateIdeal.main_v1_2)) (v3 : (c : Dev Cert.FfnWoutUpdateIdeal.nD) → Buf (Elt Ideal) ((c.tc : Thread Cert.FfnWoutUpdateIdeal.nD Cert.FfnWoutUpdateIdeal.τ).loc Cert.FfnWoutUpdateIdeal.main_v1_3)),
      θ_run (Cert.FfnWoutUpdateIdeal.defs (F := Ideal)) (onTc (τ := Cert.FfnWoutUpdateIdeal.τ) (Cert.FfnWoutUpdateIdeal.main (F := Ideal))) ⟨m, fun _ => 0, g⟩ (fun r => ∀ c : Dev Cert.FfnWoutUpdateIdeal.nD,
          r.2.mem ((c.tc : Thread Cert.FfnWoutUpdateIdeal.nD Cert.FfnWoutUpdateIdeal.τ).loc Cert.FfnWoutUpdateIdeal.main_v1_0) = v0 c
          ∧ r.2.mem ((c.tc : Thread Cert.FfnWoutUpdateIdeal.nD Cert.FfnWoutUpdateIdeal.τ).loc Cert.FfnWoutUpdateIdeal.main_v1_1) = v1 c
          ∧ r.2.mem ((c.tc : Thread Cert.FfnWoutUpdateIdeal.nD Cert.FfnWoutUpdateIdeal.τ).loc Cert.FfnWoutUpdateIdeal.main_v1_2) = v2 c
          ∧ r.2.mem ((c.tc : Thread Cert.FfnWoutUpdateIdeal.nD Cert.FfnWoutUpdateIdeal.τ).loc Cert.FfnWoutUpdateIdeal.main_v1_3) = v3 c
          ∧ r.2.mem ((c.tc : Thread Cert.FfnWoutUpdateIdeal.nD Cert.FfnWoutUpdateIdeal.τ).loc Cert.FfnWoutUpdateIdeal.main_arg0) = m ((c.tc : Thread Cert.FfnWoutUpdateIdeal.nD Cert.FfnWoutUpdateIdeal.τ).loc Cert.FfnWoutUpdateIdeal.main_arg0)
          ∧ r.2.mem ((c.tc : Thread Cert.FfnWoutUpdateIdeal.nD Cert.FfnWoutUpdateIdeal.τ).loc Cert.FfnWoutUpdateIdeal.main_arg1) = m ((c.tc : Thread Cert.FfnWoutUpdateIdeal.nD Cert.FfnWoutUpdateIdeal.τ).loc Cert.FfnWoutUpdateIdeal.main_arg1)
          ∧ r.2.mem ((c.tc : Thread Cert.FfnWoutUpdateIdeal.nD Cert.FfnWoutUpdateIdeal.τ).loc Cert.FfnWoutUpdateIdeal.main_arg2) = m ((c.tc : Thread Cert.FfnWoutUpdateIdeal.nD Cert.FfnWoutUpdateIdeal.τ).loc Cert.FfnWoutUpdateIdeal.main_arg2)
          ∧ r.2.mem ((c.tc : Thread Cert.FfnWoutUpdateIdeal.nD Cert.FfnWoutUpdateIdeal.τ).loc Cert.FfnWoutUpdateIdeal.main_arg3) = m ((c.tc : Thread Cert.FfnWoutUpdateIdeal.nD Cert.FfnWoutUpdateIdeal.τ).loc Cert.FfnWoutUpdateIdeal.main_arg3)
          ∧ r.2.mem ((c.tc : Thread Cert.FfnWoutUpdateIdeal.nD Cert.FfnWoutUpdateIdeal.τ).loc Cert.FfnWoutUpdateIdeal.main_arg4) = m ((c.tc : Thread Cert.FfnWoutUpdateIdeal.nD Cert.FfnWoutUpdateIdeal.τ).loc Cert.FfnWoutUpdateIdeal.main_arg4)
          ∧ r.2.mem ((c.tc : Thread Cert.FfnWoutUpdateIdeal.nD Cert.FfnWoutUpdateIdeal.τ).loc Cert.FfnWoutUpdateIdeal.main_arg5) = m ((c.tc : Thread Cert.FfnWoutUpdateIdeal.nD Cert.FfnWoutUpdateIdeal.τ).loc Cert.FfnWoutUpdateIdeal.main_arg5)
          ∧ r.2.mem ((c.tc : Thread Cert.FfnWoutUpdateIdeal.nD Cert.FfnWoutUpdateIdeal.τ).loc Cert.FfnWoutUpdateIdeal.main_arg6) = m ((c.tc : Thread Cert.FfnWoutUpdateIdeal.nD Cert.FfnWoutUpdateIdeal.τ).loc Cert.FfnWoutUpdateIdeal.main_arg6)
          ∧ r.2.mem ((c.tc : Thread Cert.FfnWoutUpdateIdeal.nD Cert.FfnWoutUpdateIdeal.τ).loc Cert.FfnWoutUpdateIdeal.main_arg7) = m ((c.tc : Thread Cert.FfnWoutUpdateIdeal.nD Cert.FfnWoutUpdateIdeal.τ).loc Cert.FfnWoutUpdateIdeal.main_arg7)
          ∧ r.2.mem ((c.tc : Thread Cert.FfnWoutUpdateIdeal.nD Cert.FfnWoutUpdateIdeal.τ).loc Cert.FfnWoutUpdateIdeal.main_arg8) = m ((c.tc : Thread Cert.FfnWoutUpdateIdeal.nD Cert.FfnWoutUpdateIdeal.τ).loc Cert.FfnWoutUpdateIdeal.main_arg8)
          ∧ r.2.mem ((c.tc : Thread Cert.FfnWoutUpdateIdeal.nD Cert.FfnWoutUpdateIdeal.τ).loc Cert.FfnWoutUpdateIdeal.main_arg9) = m ((c.tc : Thread Cert.FfnWoutUpdateIdeal.nD Cert.FfnWoutUpdateIdeal.τ).loc Cert.FfnWoutUpdateIdeal.main_arg9))
      ∧ θ_run (Cert.FfnWoutUpdateReferenceIdeal.defs (F := Ideal)) (onTc (τ := Cert.FfnWoutUpdateReferenceIdeal.τ) (Cert.FfnWoutUpdateReferenceIdeal.main (F := Ideal))) ⟨m', fun _ => 0, g'⟩ (fun r => ∀ c : Dev Cert.FfnWoutUpdateReferenceIdeal.nD,
          r.2.mem ((c.tc : Thread Cert.FfnWoutUpdateReferenceIdeal.nD Cert.FfnWoutUpdateReferenceIdeal.τ).loc Cert.FfnWoutUpdateReferenceIdeal.main_v34) = v0 c
          ∧ r.2.mem ((c.tc : Thread Cert.FfnWoutUpdateReferenceIdeal.nD Cert.FfnWoutUpdateReferenceIdeal.τ).loc Cert.FfnWoutUpdateReferenceIdeal.main_v36) = v1 c
          ∧ r.2.mem ((c.tc : Thread Cert.FfnWoutUpdateReferenceIdeal.nD Cert.FfnWoutUpdateReferenceIdeal.τ).loc Cert.FfnWoutUpdateReferenceIdeal.main_v38) = v2 c
          ∧ r.2.mem ((c.tc : Thread Cert.FfnWoutUpdateReferenceIdeal.nD Cert.FfnWoutUpdateReferenceIdeal.τ).loc Cert.FfnWoutUpdateReferenceIdeal.main_v40) = v3 c
          ∧ r.2.mem ((c.tc : Thread Cert.FfnWoutUpdateReferenceIdeal.nD Cert.FfnWoutUpdateReferenceIdeal.τ).loc Cert.FfnWoutUpdateReferenceIdeal.main_arg0) = m' ((c.tc : Thread Cert.FfnWoutUpdateReferenceIdeal.nD Cert.FfnWoutUpdateReferenceIdeal.τ).loc Cert.FfnWoutUpdateReferenceIdeal.main_arg0)
          ∧ r.2.mem ((c.tc : Thread Cert.FfnWoutUpdateReferenceIdeal.nD Cert.FfnWoutUpdateReferenceIdeal.τ).loc Cert.FfnWoutUpdateReferenceIdeal.main_arg1) = m' ((c.tc : Thread Cert.FfnWoutUpdateReferenceIdeal.nD Cert.FfnWoutUpdateReferenceIdeal.τ).loc Cert.FfnWoutUpdateReferenceIdeal.main_arg1)
          ∧ r.2.mem ((c.tc : Thread Cert.FfnWoutUpdateReferenceIdeal.nD Cert.FfnWoutUpdateReferenceIdeal.τ).loc Cert.FfnWoutUpdateReferenceIdeal.main_arg2) = m' ((c.tc : Thread Cert.FfnWoutUpdateReferenceIdeal.nD Cert.FfnWoutUpdateReferenceIdeal.τ).loc Cert.FfnWoutUpdateReferenceIdeal.main_arg2)
          ∧ r.2.mem ((c.tc : Thread Cert.FfnWoutUpdateReferenceIdeal.nD Cert.FfnWoutUpdateReferenceIdeal.τ).loc Cert.FfnWoutUpdateReferenceIdeal.main_arg3) = m' ((c.tc : Thread Cert.FfnWoutUpdateReferenceIdeal.nD Cert.FfnWoutUpdateReferenceIdeal.τ).loc Cert.FfnWoutUpdateReferenceIdeal.main_arg3)
          ∧ r.2.mem ((c.tc : Thread Cert.FfnWoutUpdateReferenceIdeal.nD Cert.FfnWoutUpdateReferenceIdeal.τ).loc Cert.FfnWoutUpdateReferenceIdeal.main_arg4) = m' ((c.tc : Thread Cert.FfnWoutUpdateReferenceIdeal.nD Cert.FfnWoutUpdateReferenceIdeal.τ).loc Cert.FfnWoutUpdateReferenceIdeal.main_arg4)
          ∧ r.2.mem ((c.tc : Thread Cert.FfnWoutUpdateReferenceIdeal.nD Cert.FfnWoutUpdateReferenceIdeal.τ).loc Cert.FfnWoutUpdateReferenceIdeal.main_arg5) = m' ((c.tc : Thread Cert.FfnWoutUpdateReferenceIdeal.nD Cert.FfnWoutUpdateReferenceIdeal.τ).loc Cert.FfnWoutUpdateReferenceIdeal.main_arg5)
          ∧ r.2.mem ((c.tc : Thread Cert.FfnWoutUpdateReferenceIdeal.nD Cert.FfnWoutUpdateReferenceIdeal.τ).loc Cert.FfnWoutUpdateReferenceIdeal.main_arg6) = m' ((c.tc : Thread Cert.FfnWoutUpdateReferenceIdeal.nD Cert.FfnWoutUpdateReferenceIdeal.τ).loc Cert.FfnWoutUpdateReferenceIdeal.main_arg6)
          ∧ r.2.mem ((c.tc : Thread Cert.FfnWoutUpdateReferenceIdeal.nD Cert.FfnWoutUpdateReferenceIdeal.τ).loc Cert.FfnWoutUpdateReferenceIdeal.main_arg7) = m' ((c.tc : Thread Cert.FfnWoutUpdateReferenceIdeal.nD Cert.FfnWoutUpdateReferenceIdeal.τ).loc Cert.FfnWoutUpdateReferenceIdeal.main_arg7)
          ∧ r.2.mem ((c.tc : Thread Cert.FfnWoutUpdateReferenceIdeal.nD Cert.FfnWoutUpdateReferenceIdeal.τ).loc Cert.FfnWoutUpdateReferenceIdeal.main_arg8) = m' ((c.tc : Thread Cert.FfnWoutUpdateReferenceIdeal.nD Cert.FfnWoutUpdateReferenceIdeal.τ).loc Cert.FfnWoutUpdateReferenceIdeal.main_arg8)
          ∧ r.2.mem ((c.tc : Thread Cert.FfnWoutUpdateReferenceIdeal.nD Cert.FfnWoutUpdateReferenceIdeal.τ).loc Cert.FfnWoutUpdateReferenceIdeal.main_arg9) = m' ((c.tc : Thread Cert.FfnWoutUpdateReferenceIdeal.nD Cert.FfnWoutUpdateReferenceIdeal.τ).loc Cert.FfnWoutUpdateReferenceIdeal.main_arg9))

def preserves_FfnWinUpdate_FfnWinUpdateIdeal : Prop :=
  True

def algebraic_FfnWinUpdateIdeal_FfnWinUpdateReferenceIdeal [hFfnWinUpdateIdeal : Cert.FfnWinUpdateIdeal.Facts] [hFfnWinUpdateReferenceIdeal : Cert.FfnWinUpdateReferenceIdeal.Facts] [hPre_ffn_win_update_on_mesh : Cert.Pre_ffn_win_update_on_mesh.Facts] : Prop :=
  ∀ (m : (ℓ : Loc Cert.FfnWinUpdateIdeal.nD Cert.FfnWinUpdateIdeal.τ Cert.FfnWinUpdateIdeal.sig) → Buf (Elt Ideal) ℓ) (g : Dev Cert.FfnWinUpdateIdeal.nD → PrngReg)
    (m' : (ℓ : Loc Cert.FfnWinUpdateReferenceIdeal.nD Cert.FfnWinUpdateReferenceIdeal.τ Cert.FfnWinUpdateReferenceIdeal.sig) → Buf (Elt Ideal) ℓ) (g' : Dev Cert.FfnWinUpdateReferenceIdeal.nD → PrngReg), Pre_FfnWinUpdateIdeal m →
    (∀ c : Dev Cert.FfnWinUpdateIdeal.nD,
      m' ((c.tc : Thread Cert.FfnWinUpdateReferenceIdeal.nD Cert.FfnWinUpdateReferenceIdeal.τ).loc Cert.FfnWinUpdateReferenceIdeal.main_arg0) = m ((c.tc : Thread Cert.FfnWinUpdateIdeal.nD Cert.FfnWinUpdateIdeal.τ).loc Cert.FfnWinUpdateIdeal.main_arg0)
      ∧ m' ((c.tc : Thread Cert.FfnWinUpdateReferenceIdeal.nD Cert.FfnWinUpdateReferenceIdeal.τ).loc Cert.FfnWinUpdateReferenceIdeal.main_arg1) = m ((c.tc : Thread Cert.FfnWinUpdateIdeal.nD Cert.FfnWinUpdateIdeal.τ).loc Cert.FfnWinUpdateIdeal.main_arg1)
      ∧ m' ((c.tc : Thread Cert.FfnWinUpdateReferenceIdeal.nD Cert.FfnWinUpdateReferenceIdeal.τ).loc Cert.FfnWinUpdateReferenceIdeal.main_arg2) = m ((c.tc : Thread Cert.FfnWinUpdateIdeal.nD Cert.FfnWinUpdateIdeal.τ).loc Cert.FfnWinUpdateIdeal.main_arg2)
      ∧ m' ((c.tc : Thread Cert.FfnWinUpdateReferenceIdeal.nD Cert.FfnWinUpdateReferenceIdeal.τ).loc Cert.FfnWinUpdateReferenceIdeal.main_arg3) = m ((c.tc : Thread Cert.FfnWinUpdateIdeal.nD Cert.FfnWinUpdateIdeal.τ).loc Cert.FfnWinUpdateIdeal.main_arg3)
      ∧ m' ((c.tc : Thread Cert.FfnWinUpdateReferenceIdeal.nD Cert.FfnWinUpdateReferenceIdeal.τ).loc Cert.FfnWinUpdateReferenceIdeal.main_arg4) = m ((c.tc : Thread Cert.FfnWinUpdateIdeal.nD Cert.FfnWinUpdateIdeal.τ).loc Cert.FfnWinUpdateIdeal.main_arg4)
      ∧ m' ((c.tc : Thread Cert.FfnWinUpdateReferenceIdeal.nD Cert.FfnWinUpdateReferenceIdeal.τ).loc Cert.FfnWinUpdateReferenceIdeal.main_arg5) = m ((c.tc : Thread Cert.FfnWinUpdateIdeal.nD Cert.FfnWinUpdateIdeal.τ).loc Cert.FfnWinUpdateIdeal.main_arg5)
      ∧ m' ((c.tc : Thread Cert.FfnWinUpdateReferenceIdeal.nD Cert.FfnWinUpdateReferenceIdeal.τ).loc Cert.FfnWinUpdateReferenceIdeal.main_arg6) = m ((c.tc : Thread Cert.FfnWinUpdateIdeal.nD Cert.FfnWinUpdateIdeal.τ).loc Cert.FfnWinUpdateIdeal.main_arg6)
      ∧ m' ((c.tc : Thread Cert.FfnWinUpdateReferenceIdeal.nD Cert.FfnWinUpdateReferenceIdeal.τ).loc Cert.FfnWinUpdateReferenceIdeal.main_arg7) = m ((c.tc : Thread Cert.FfnWinUpdateIdeal.nD Cert.FfnWinUpdateIdeal.τ).loc Cert.FfnWinUpdateIdeal.main_arg7)
      ∧ m' ((c.tc : Thread Cert.FfnWinUpdateReferenceIdeal.nD Cert.FfnWinUpdateReferenceIdeal.τ).loc Cert.FfnWinUpdateReferenceIdeal.main_arg8) = m ((c.tc : Thread Cert.FfnWinUpdateIdeal.nD Cert.FfnWinUpdateIdeal.τ).loc Cert.FfnWinUpdateIdeal.main_arg8)
      ∧ m' ((c.tc : Thread Cert.FfnWinUpdateReferenceIdeal.nD Cert.FfnWinUpdateReferenceIdeal.τ).loc Cert.FfnWinUpdateReferenceIdeal.main_arg9) = m ((c.tc : Thread Cert.FfnWinUpdateIdeal.nD Cert.FfnWinUpdateIdeal.τ).loc Cert.FfnWinUpdateIdeal.main_arg9)) →
    ∃ (v0 : (c : Dev Cert.FfnWinUpdateIdeal.nD) → Buf (Elt Ideal) ((c.tc : Thread Cert.FfnWinUpdateIdeal.nD Cert.FfnWinUpdateIdeal.τ).loc Cert.FfnWinUpdateIdeal.main_v1_0)) (v1 : (c : Dev Cert.FfnWinUpdateIdeal.nD) → Buf (Elt Ideal) ((c.tc : Thread Cert.FfnWinUpdateIdeal.nD Cert.FfnWinUpdateIdeal.τ).loc Cert.FfnWinUpdateIdeal.main_v1_1)) (v2 : (c : Dev Cert.FfnWinUpdateIdeal.nD) → Buf (Elt Ideal) ((c.tc : Thread Cert.FfnWinUpdateIdeal.nD Cert.FfnWinUpdateIdeal.τ).loc Cert.FfnWinUpdateIdeal.main_v1_2)) (v3 : (c : Dev Cert.FfnWinUpdateIdeal.nD) → Buf (Elt Ideal) ((c.tc : Thread Cert.FfnWinUpdateIdeal.nD Cert.FfnWinUpdateIdeal.τ).loc Cert.FfnWinUpdateIdeal.main_v1_3)),
      θ_run (Cert.FfnWinUpdateIdeal.defs (F := Ideal)) (onTc (τ := Cert.FfnWinUpdateIdeal.τ) (Cert.FfnWinUpdateIdeal.main (F := Ideal))) ⟨m, fun _ => 0, g⟩ (fun r => ∀ c : Dev Cert.FfnWinUpdateIdeal.nD,
          r.2.mem ((c.tc : Thread Cert.FfnWinUpdateIdeal.nD Cert.FfnWinUpdateIdeal.τ).loc Cert.FfnWinUpdateIdeal.main_v1_0) = v0 c
          ∧ r.2.mem ((c.tc : Thread Cert.FfnWinUpdateIdeal.nD Cert.FfnWinUpdateIdeal.τ).loc Cert.FfnWinUpdateIdeal.main_v1_1) = v1 c
          ∧ r.2.mem ((c.tc : Thread Cert.FfnWinUpdateIdeal.nD Cert.FfnWinUpdateIdeal.τ).loc Cert.FfnWinUpdateIdeal.main_v1_2) = v2 c
          ∧ r.2.mem ((c.tc : Thread Cert.FfnWinUpdateIdeal.nD Cert.FfnWinUpdateIdeal.τ).loc Cert.FfnWinUpdateIdeal.main_v1_3) = v3 c
          ∧ r.2.mem ((c.tc : Thread Cert.FfnWinUpdateIdeal.nD Cert.FfnWinUpdateIdeal.τ).loc Cert.FfnWinUpdateIdeal.main_arg0) = m ((c.tc : Thread Cert.FfnWinUpdateIdeal.nD Cert.FfnWinUpdateIdeal.τ).loc Cert.FfnWinUpdateIdeal.main_arg0)
          ∧ r.2.mem ((c.tc : Thread Cert.FfnWinUpdateIdeal.nD Cert.FfnWinUpdateIdeal.τ).loc Cert.FfnWinUpdateIdeal.main_arg1) = m ((c.tc : Thread Cert.FfnWinUpdateIdeal.nD Cert.FfnWinUpdateIdeal.τ).loc Cert.FfnWinUpdateIdeal.main_arg1)
          ∧ r.2.mem ((c.tc : Thread Cert.FfnWinUpdateIdeal.nD Cert.FfnWinUpdateIdeal.τ).loc Cert.FfnWinUpdateIdeal.main_arg2) = m ((c.tc : Thread Cert.FfnWinUpdateIdeal.nD Cert.FfnWinUpdateIdeal.τ).loc Cert.FfnWinUpdateIdeal.main_arg2)
          ∧ r.2.mem ((c.tc : Thread Cert.FfnWinUpdateIdeal.nD Cert.FfnWinUpdateIdeal.τ).loc Cert.FfnWinUpdateIdeal.main_arg3) = m ((c.tc : Thread Cert.FfnWinUpdateIdeal.nD Cert.FfnWinUpdateIdeal.τ).loc Cert.FfnWinUpdateIdeal.main_arg3)
          ∧ r.2.mem ((c.tc : Thread Cert.FfnWinUpdateIdeal.nD Cert.FfnWinUpdateIdeal.τ).loc Cert.FfnWinUpdateIdeal.main_arg4) = m ((c.tc : Thread Cert.FfnWinUpdateIdeal.nD Cert.FfnWinUpdateIdeal.τ).loc Cert.FfnWinUpdateIdeal.main_arg4)
          ∧ r.2.mem ((c.tc : Thread Cert.FfnWinUpdateIdeal.nD Cert.FfnWinUpdateIdeal.τ).loc Cert.FfnWinUpdateIdeal.main_arg5) = m ((c.tc : Thread Cert.FfnWinUpdateIdeal.nD Cert.FfnWinUpdateIdeal.τ).loc Cert.FfnWinUpdateIdeal.main_arg5)
          ∧ r.2.mem ((c.tc : Thread Cert.FfnWinUpdateIdeal.nD Cert.FfnWinUpdateIdeal.τ).loc Cert.FfnWinUpdateIdeal.main_arg6) = m ((c.tc : Thread Cert.FfnWinUpdateIdeal.nD Cert.FfnWinUpdateIdeal.τ).loc Cert.FfnWinUpdateIdeal.main_arg6)
          ∧ r.2.mem ((c.tc : Thread Cert.FfnWinUpdateIdeal.nD Cert.FfnWinUpdateIdeal.τ).loc Cert.FfnWinUpdateIdeal.main_arg7) = m ((c.tc : Thread Cert.FfnWinUpdateIdeal.nD Cert.FfnWinUpdateIdeal.τ).loc Cert.FfnWinUpdateIdeal.main_arg7)
          ∧ r.2.mem ((c.tc : Thread Cert.FfnWinUpdateIdeal.nD Cert.FfnWinUpdateIdeal.τ).loc Cert.FfnWinUpdateIdeal.main_arg8) = m ((c.tc : Thread Cert.FfnWinUpdateIdeal.nD Cert.FfnWinUpdateIdeal.τ).loc Cert.FfnWinUpdateIdeal.main_arg8)
          ∧ r.2.mem ((c.tc : Thread Cert.FfnWinUpdateIdeal.nD Cert.FfnWinUpdateIdeal.τ).loc Cert.FfnWinUpdateIdeal.main_arg9) = m ((c.tc : Thread Cert.FfnWinUpdateIdeal.nD Cert.FfnWinUpdateIdeal.τ).loc Cert.FfnWinUpdateIdeal.main_arg9))
      ∧ θ_run (Cert.FfnWinUpdateReferenceIdeal.defs (F := Ideal)) (onTc (τ := Cert.FfnWinUpdateReferenceIdeal.τ) (Cert.FfnWinUpdateReferenceIdeal.main (F := Ideal))) ⟨m', fun _ => 0, g'⟩ (fun r => ∀ c : Dev Cert.FfnWinUpdateReferenceIdeal.nD,
          r.2.mem ((c.tc : Thread Cert.FfnWinUpdateReferenceIdeal.nD Cert.FfnWinUpdateReferenceIdeal.τ).loc Cert.FfnWinUpdateReferenceIdeal.main_v34) = v0 c
          ∧ r.2.mem ((c.tc : Thread Cert.FfnWinUpdateReferenceIdeal.nD Cert.FfnWinUpdateReferenceIdeal.τ).loc Cert.FfnWinUpdateReferenceIdeal.main_v36) = v1 c
          ∧ r.2.mem ((c.tc : Thread Cert.FfnWinUpdateReferenceIdeal.nD Cert.FfnWinUpdateReferenceIdeal.τ).loc Cert.FfnWinUpdateReferenceIdeal.main_v38) = v2 c
          ∧ r.2.mem ((c.tc : Thread Cert.FfnWinUpdateReferenceIdeal.nD Cert.FfnWinUpdateReferenceIdeal.τ).loc Cert.FfnWinUpdateReferenceIdeal.main_v40) = v3 c
          ∧ r.2.mem ((c.tc : Thread Cert.FfnWinUpdateReferenceIdeal.nD Cert.FfnWinUpdateReferenceIdeal.τ).loc Cert.FfnWinUpdateReferenceIdeal.main_arg0) = m' ((c.tc : Thread Cert.FfnWinUpdateReferenceIdeal.nD Cert.FfnWinUpdateReferenceIdeal.τ).loc Cert.FfnWinUpdateReferenceIdeal.main_arg0)
          ∧ r.2.mem ((c.tc : Thread Cert.FfnWinUpdateReferenceIdeal.nD Cert.FfnWinUpdateReferenceIdeal.τ).loc Cert.FfnWinUpdateReferenceIdeal.main_arg1) = m' ((c.tc : Thread Cert.FfnWinUpdateReferenceIdeal.nD Cert.FfnWinUpdateReferenceIdeal.τ).loc Cert.FfnWinUpdateReferenceIdeal.main_arg1)
          ∧ r.2.mem ((c.tc : Thread Cert.FfnWinUpdateReferenceIdeal.nD Cert.FfnWinUpdateReferenceIdeal.τ).loc Cert.FfnWinUpdateReferenceIdeal.main_arg2) = m' ((c.tc : Thread Cert.FfnWinUpdateReferenceIdeal.nD Cert.FfnWinUpdateReferenceIdeal.τ).loc Cert.FfnWinUpdateReferenceIdeal.main_arg2)
          ∧ r.2.mem ((c.tc : Thread Cert.FfnWinUpdateReferenceIdeal.nD Cert.FfnWinUpdateReferenceIdeal.τ).loc Cert.FfnWinUpdateReferenceIdeal.main_arg3) = m' ((c.tc : Thread Cert.FfnWinUpdateReferenceIdeal.nD Cert.FfnWinUpdateReferenceIdeal.τ).loc Cert.FfnWinUpdateReferenceIdeal.main_arg3)
          ∧ r.2.mem ((c.tc : Thread Cert.FfnWinUpdateReferenceIdeal.nD Cert.FfnWinUpdateReferenceIdeal.τ).loc Cert.FfnWinUpdateReferenceIdeal.main_arg4) = m' ((c.tc : Thread Cert.FfnWinUpdateReferenceIdeal.nD Cert.FfnWinUpdateReferenceIdeal.τ).loc Cert.FfnWinUpdateReferenceIdeal.main_arg4)
          ∧ r.2.mem ((c.tc : Thread Cert.FfnWinUpdateReferenceIdeal.nD Cert.FfnWinUpdateReferenceIdeal.τ).loc Cert.FfnWinUpdateReferenceIdeal.main_arg5) = m' ((c.tc : Thread Cert.FfnWinUpdateReferenceIdeal.nD Cert.FfnWinUpdateReferenceIdeal.τ).loc Cert.FfnWinUpdateReferenceIdeal.main_arg5)
          ∧ r.2.mem ((c.tc : Thread Cert.FfnWinUpdateReferenceIdeal.nD Cert.FfnWinUpdateReferenceIdeal.τ).loc Cert.FfnWinUpdateReferenceIdeal.main_arg6) = m' ((c.tc : Thread Cert.FfnWinUpdateReferenceIdeal.nD Cert.FfnWinUpdateReferenceIdeal.τ).loc Cert.FfnWinUpdateReferenceIdeal.main_arg6)
          ∧ r.2.mem ((c.tc : Thread Cert.FfnWinUpdateReferenceIdeal.nD Cert.FfnWinUpdateReferenceIdeal.τ).loc Cert.FfnWinUpdateReferenceIdeal.main_arg7) = m' ((c.tc : Thread Cert.FfnWinUpdateReferenceIdeal.nD Cert.FfnWinUpdateReferenceIdeal.τ).loc Cert.FfnWinUpdateReferenceIdeal.main_arg7)
          ∧ r.2.mem ((c.tc : Thread Cert.FfnWinUpdateReferenceIdeal.nD Cert.FfnWinUpdateReferenceIdeal.τ).loc Cert.FfnWinUpdateReferenceIdeal.main_arg8) = m' ((c.tc : Thread Cert.FfnWinUpdateReferenceIdeal.nD Cert.FfnWinUpdateReferenceIdeal.τ).loc Cert.FfnWinUpdateReferenceIdeal.main_arg8)
          ∧ r.2.mem ((c.tc : Thread Cert.FfnWinUpdateReferenceIdeal.nD Cert.FfnWinUpdateReferenceIdeal.τ).loc Cert.FfnWinUpdateReferenceIdeal.main_arg9) = m' ((c.tc : Thread Cert.FfnWinUpdateReferenceIdeal.nD Cert.FfnWinUpdateReferenceIdeal.τ).loc Cert.FfnWinUpdateReferenceIdeal.main_arg9))

def preserves_SmallUpdate_SmallUpdateIdeal : Prop :=
  True

def algebraic_SmallUpdateIdeal_SmallUpdateReferenceIdeal [hSmallUpdateIdeal : Cert.SmallUpdateIdeal.Facts] [hSmallUpdateReferenceIdeal : Cert.SmallUpdateReferenceIdeal.Facts] : Prop :=
  ∀ (m : (ℓ : Loc Cert.SmallUpdateIdeal.nD Cert.SmallUpdateIdeal.τ Cert.SmallUpdateIdeal.sig) → Buf (Elt Ideal) ℓ) (g : Dev Cert.SmallUpdateIdeal.nD → PrngReg)
    (m' : (ℓ : Loc Cert.SmallUpdateReferenceIdeal.nD Cert.SmallUpdateReferenceIdeal.τ Cert.SmallUpdateReferenceIdeal.sig) → Buf (Elt Ideal) ℓ) (g' : Dev Cert.SmallUpdateReferenceIdeal.nD → PrngReg), Pre_SmallUpdateIdeal m →
    (∀ c : Dev Cert.SmallUpdateIdeal.nD,
      m' ((c.tc : Thread Cert.SmallUpdateReferenceIdeal.nD Cert.SmallUpdateReferenceIdeal.τ).loc Cert.SmallUpdateReferenceIdeal.main_arg0) = m ((c.tc : Thread Cert.SmallUpdateIdeal.nD Cert.SmallUpdateIdeal.τ).loc Cert.SmallUpdateIdeal.main_arg0)
      ∧ m' ((c.tc : Thread Cert.SmallUpdateReferenceIdeal.nD Cert.SmallUpdateReferenceIdeal.τ).loc Cert.SmallUpdateReferenceIdeal.main_arg1) = m ((c.tc : Thread Cert.SmallUpdateIdeal.nD Cert.SmallUpdateIdeal.τ).loc Cert.SmallUpdateIdeal.main_arg1)
      ∧ m' ((c.tc : Thread Cert.SmallUpdateReferenceIdeal.nD Cert.SmallUpdateReferenceIdeal.τ).loc Cert.SmallUpdateReferenceIdeal.main_arg2) = m ((c.tc : Thread Cert.SmallUpdateIdeal.nD Cert.SmallUpdateIdeal.τ).loc Cert.SmallUpdateIdeal.main_arg2)
      ∧ m' ((c.tc : Thread Cert.SmallUpdateReferenceIdeal.nD Cert.SmallUpdateReferenceIdeal.τ).loc Cert.SmallUpdateReferenceIdeal.main_arg3) = m ((c.tc : Thread Cert.SmallUpdateIdeal.nD Cert.SmallUpdateIdeal.τ).loc Cert.SmallUpdateIdeal.main_arg3)
      ∧ m' ((c.tc : Thread Cert.SmallUpdateReferenceIdeal.nD Cert.SmallUpdateReferenceIdeal.τ).loc Cert.SmallUpdateReferenceIdeal.main_arg4) = m ((c.tc : Thread Cert.SmallUpdateIdeal.nD Cert.SmallUpdateIdeal.τ).loc Cert.SmallUpdateIdeal.main_arg4)
      ∧ m' ((c.tc : Thread Cert.SmallUpdateReferenceIdeal.nD Cert.SmallUpdateReferenceIdeal.τ).loc Cert.SmallUpdateReferenceIdeal.main_arg5) = m ((c.tc : Thread Cert.SmallUpdateIdeal.nD Cert.SmallUpdateIdeal.τ).loc Cert.SmallUpdateIdeal.main_arg5)) →
    ∃ (v0 : (c : Dev Cert.SmallUpdateIdeal.nD) → Buf (Elt Ideal) ((c.tc : Thread Cert.SmallUpdateIdeal.nD Cert.SmallUpdateIdeal.τ).loc Cert.SmallUpdateIdeal.main_v4)) (v1 : (c : Dev Cert.SmallUpdateIdeal.nD) → Buf (Elt Ideal) ((c.tc : Thread Cert.SmallUpdateIdeal.nD Cert.SmallUpdateIdeal.τ).loc Cert.SmallUpdateIdeal.main_v7)) (v2 : (c : Dev Cert.SmallUpdateIdeal.nD) → Buf (Elt Ideal) ((c.tc : Thread Cert.SmallUpdateIdeal.nD Cert.SmallUpdateIdeal.τ).loc Cert.SmallUpdateIdeal.main_v9)) (v3 : (c : Dev Cert.SmallUpdateIdeal.nD) → Buf (Elt Ideal) ((c.tc : Thread Cert.SmallUpdateIdeal.nD Cert.SmallUpdateIdeal.τ).loc Cert.SmallUpdateIdeal.main_v10)) (v4 : (c : Dev Cert.SmallUpdateIdeal.nD) → Buf (Elt Ideal) ((c.tc : Thread Cert.SmallUpdateIdeal.nD Cert.SmallUpdateIdeal.τ).loc Cert.SmallUpdateIdeal.main_v12)) (v5 : (c : Dev Cert.SmallUpdateIdeal.nD) → Buf (Elt Ideal) ((c.tc : Thread Cert.SmallUpdateIdeal.nD Cert.SmallUpdateIdeal.τ).loc Cert.SmallUpdateIdeal.main_v14)) (v6 : (c : Dev Cert.SmallUpdateIdeal.nD) → Buf (Elt Ideal) ((c.tc : Thread Cert.SmallUpdateIdeal.nD Cert.SmallUpdateIdeal.τ).loc Cert.SmallUpdateIdeal.main_v16)) (v7 : (c : Dev Cert.SmallUpdateIdeal.nD) → Buf (Elt Ideal) ((c.tc : Thread Cert.SmallUpdateIdeal.nD Cert.SmallUpdateIdeal.τ).loc Cert.SmallUpdateIdeal.main_v18)) (v8 : (c : Dev Cert.SmallUpdateIdeal.nD) → Buf (Elt Ideal) ((c.tc : Thread Cert.SmallUpdateIdeal.nD Cert.SmallUpdateIdeal.τ).loc Cert.SmallUpdateIdeal.main_v20)) (v9 : (c : Dev Cert.SmallUpdateIdeal.nD) → Buf (Elt Ideal) ((c.tc : Thread Cert.SmallUpdateIdeal.nD Cert.SmallUpdateIdeal.τ).loc Cert.SmallUpdateIdeal.main_v22)) (v10 : (c : Dev Cert.SmallUpdateIdeal.nD) → Buf (Elt Ideal) ((c.tc : Thread Cert.SmallUpdateIdeal.nD Cert.SmallUpdateIdeal.τ).loc Cert.SmallUpdateIdeal.main_v24)) (v11 : (c : Dev Cert.SmallUpdateIdeal.nD) → Buf (Elt Ideal) ((c.tc : Thread Cert.SmallUpdateIdeal.nD Cert.SmallUpdateIdeal.τ).loc Cert.SmallUpdateIdeal.main_v26)) (v12 : (c : Dev Cert.SmallUpdateIdeal.nD) → Buf (Elt Ideal) ((c.tc : Thread Cert.SmallUpdateIdeal.nD Cert.SmallUpdateIdeal.τ).loc Cert.SmallUpdateIdeal.main_v28)) (v13 : (c : Dev Cert.SmallUpdateIdeal.nD) → Buf (Elt Ideal) ((c.tc : Thread Cert.SmallUpdateIdeal.nD Cert.SmallUpdateIdeal.τ).loc Cert.SmallUpdateIdeal.main_v30)) (v14 : (c : Dev Cert.SmallUpdateIdeal.nD) → Buf (Elt Ideal) ((c.tc : Thread Cert.SmallUpdateIdeal.nD Cert.SmallUpdateIdeal.τ).loc Cert.SmallUpdateIdeal.main_v32)) (v15 : (c : Dev Cert.SmallUpdateIdeal.nD) → Buf (Elt Ideal) ((c.tc : Thread Cert.SmallUpdateIdeal.nD Cert.SmallUpdateIdeal.τ).loc Cert.SmallUpdateIdeal.main_v34)) (v16 : (c : Dev Cert.SmallUpdateIdeal.nD) → Buf (Elt Ideal) ((c.tc : Thread Cert.SmallUpdateIdeal.nD Cert.SmallUpdateIdeal.τ).loc Cert.SmallUpdateIdeal.main_v37)) (v17 : (c : Dev Cert.SmallUpdateIdeal.nD) → Buf (Elt Ideal) ((c.tc : Thread Cert.SmallUpdateIdeal.nD Cert.SmallUpdateIdeal.τ).loc Cert.SmallUpdateIdeal.main_v39)) (v18 : (c : Dev Cert.SmallUpdateIdeal.nD) → Buf (Elt Ideal) ((c.tc : Thread Cert.SmallUpdateIdeal.nD Cert.SmallUpdateIdeal.τ).loc Cert.SmallUpdateIdeal.main_v40)) (v19 : (c : Dev Cert.SmallUpdateIdeal.nD) → Buf (Elt Ideal) ((c.tc : Thread Cert.SmallUpdateIdeal.nD Cert.SmallUpdateIdeal.τ).loc Cert.SmallUpdateIdeal.main_v42)) (v20 : (c : Dev Cert.SmallUpdateIdeal.nD) → Buf (Elt Ideal) ((c.tc : Thread Cert.SmallUpdateIdeal.nD Cert.SmallUpdateIdeal.τ).loc Cert.SmallUpdateIdeal.main_v44)) (v21 : (c : Dev Cert.SmallUpdateIdeal.nD) → Buf (Elt Ideal) ((c.tc : Thread Cert.SmallUpdateIdeal.nD Cert.SmallUpdateIdeal.τ).loc Cert.SmallUpdateIdeal.main_v46)) (v22 : (c : Dev Cert.SmallUpdateIdeal.nD) → Buf (Elt Ideal) ((c.tc : Thread Cert.SmallUpdateIdeal.nD Cert.SmallUpdateIdeal.τ).loc Cert.SmallUpdateIdeal.main_v48)) (v23 : (c : Dev Cert.SmallUpdateIdeal.nD) → Buf (Elt Ideal) ((c.tc : Thread Cert.SmallUpdateIdeal.nD Cert.SmallUpdateIdeal.τ).loc Cert.SmallUpdateIdeal.main_v50)) (v24 : (c : Dev Cert.SmallUpdateIdeal.nD) → Buf (Elt Ideal) ((c.tc : Thread Cert.SmallUpdateIdeal.nD Cert.SmallUpdateIdeal.τ).loc Cert.SmallUpdateIdeal.main_v52)) (v25 : (c : Dev Cert.SmallUpdateIdeal.nD) → Buf (Elt Ideal) ((c.tc : Thread Cert.SmallUpdateIdeal.nD Cert.SmallUpdateIdeal.τ).loc Cert.SmallUpdateIdeal.main_v54)) (v26 : (c : Dev Cert.SmallUpdateIdeal.nD) → Buf (Elt Ideal) ((c.tc : Thread Cert.SmallUpdateIdeal.nD Cert.SmallUpdateIdeal.τ).loc Cert.SmallUpdateIdeal.main_v56)) (v27 : (c : Dev Cert.SmallUpdateIdeal.nD) → Buf (Elt Ideal) ((c.tc : Thread Cert.SmallUpdateIdeal.nD Cert.SmallUpdateIdeal.τ).loc Cert.SmallUpdateIdeal.main_v58)) (v28 : (c : Dev Cert.SmallUpdateIdeal.nD) → Buf (Elt Ideal) ((c.tc : Thread Cert.SmallUpdateIdeal.nD Cert.SmallUpdateIdeal.τ).loc Cert.SmallUpdateIdeal.main_v60)) (v29 : (c : Dev Cert.SmallUpdateIdeal.nD) → Buf (Elt Ideal) ((c.tc : Thread Cert.SmallUpdateIdeal.nD Cert.SmallUpdateIdeal.τ).loc Cert.SmallUpdateIdeal.main_v62)) (v30 : (c : Dev Cert.SmallUpdateIdeal.nD) → Buf (Elt Ideal) ((c.tc : Thread Cert.SmallUpdateIdeal.nD Cert.SmallUpdateIdeal.τ).loc Cert.SmallUpdateIdeal.main_v64)) (v31 : (c : Dev Cert.SmallUpdateIdeal.nD) → Buf (Elt Ideal) ((c.tc : Thread Cert.SmallUpdateIdeal.nD Cert.SmallUpdateIdeal.τ).loc Cert.SmallUpdateIdeal.main_v67)) (v32 : (c : Dev Cert.SmallUpdateIdeal.nD) → Buf (Elt Ideal) ((c.tc : Thread Cert.SmallUpdateIdeal.nD Cert.SmallUpdateIdeal.τ).loc Cert.SmallUpdateIdeal.main_v69)) (v33 : (c : Dev Cert.SmallUpdateIdeal.nD) → Buf (Elt Ideal) ((c.tc : Thread Cert.SmallUpdateIdeal.nD Cert.SmallUpdateIdeal.τ).loc Cert.SmallUpdateIdeal.main_v70)) (v34 : (c : Dev Cert.SmallUpdateIdeal.nD) → Buf (Elt Ideal) ((c.tc : Thread Cert.SmallUpdateIdeal.nD Cert.SmallUpdateIdeal.τ).loc Cert.SmallUpdateIdeal.main_v72)) (v35 : (c : Dev Cert.SmallUpdateIdeal.nD) → Buf (Elt Ideal) ((c.tc : Thread Cert.SmallUpdateIdeal.nD Cert.SmallUpdateIdeal.τ).loc Cert.SmallUpdateIdeal.main_v74)) (v36 : (c : Dev Cert.SmallUpdateIdeal.nD) → Buf (Elt Ideal) ((c.tc : Thread Cert.SmallUpdateIdeal.nD Cert.SmallUpdateIdeal.τ).loc Cert.SmallUpdateIdeal.main_v76)) (v37 : (c : Dev Cert.SmallUpdateIdeal.nD) → Buf (Elt Ideal) ((c.tc : Thread Cert.SmallUpdateIdeal.nD Cert.SmallUpdateIdeal.τ).loc Cert.SmallUpdateIdeal.main_v78)) (v38 : (c : Dev Cert.SmallUpdateIdeal.nD) → Buf (Elt Ideal) ((c.tc : Thread Cert.SmallUpdateIdeal.nD Cert.SmallUpdateIdeal.τ).loc Cert.SmallUpdateIdeal.main_v80)) (v39 : (c : Dev Cert.SmallUpdateIdeal.nD) → Buf (Elt Ideal) ((c.tc : Thread Cert.SmallUpdateIdeal.nD Cert.SmallUpdateIdeal.τ).loc Cert.SmallUpdateIdeal.main_v82)) (v40 : (c : Dev Cert.SmallUpdateIdeal.nD) → Buf (Elt Ideal) ((c.tc : Thread Cert.SmallUpdateIdeal.nD Cert.SmallUpdateIdeal.τ).loc Cert.SmallUpdateIdeal.main_v84)) (v41 : (c : Dev Cert.SmallUpdateIdeal.nD) → Buf (Elt Ideal) ((c.tc : Thread Cert.SmallUpdateIdeal.nD Cert.SmallUpdateIdeal.τ).loc Cert.SmallUpdateIdeal.main_v86)) (v42 : (c : Dev Cert.SmallUpdateIdeal.nD) → Buf (Elt Ideal) ((c.tc : Thread Cert.SmallUpdateIdeal.nD Cert.SmallUpdateIdeal.τ).loc Cert.SmallUpdateIdeal.main_v88)) (v43 : (c : Dev Cert.SmallUpdateIdeal.nD) → Buf (Elt Ideal) ((c.tc : Thread Cert.SmallUpdateIdeal.nD Cert.SmallUpdateIdeal.τ).loc Cert.SmallUpdateIdeal.main_v90)) (v44 : (c : Dev Cert.SmallUpdateIdeal.nD) → Buf (Elt Ideal) ((c.tc : Thread Cert.SmallUpdateIdeal.nD Cert.SmallUpdateIdeal.τ).loc Cert.SmallUpdateIdeal.main_v92)) (v45 : (c : Dev Cert.SmallUpdateIdeal.nD) → Buf (Elt Ideal) ((c.tc : Thread Cert.SmallUpdateIdeal.nD Cert.SmallUpdateIdeal.τ).loc Cert.SmallUpdateIdeal.main_v94)) (v46 : (c : Dev Cert.SmallUpdateIdeal.nD) → Buf (Elt Ideal) ((c.tc : Thread Cert.SmallUpdateIdeal.nD Cert.SmallUpdateIdeal.τ).loc Cert.SmallUpdateIdeal.main_v97)) (v47 : (c : Dev Cert.SmallUpdateIdeal.nD) → Buf (Elt Ideal) ((c.tc : Thread Cert.SmallUpdateIdeal.nD Cert.SmallUpdateIdeal.τ).loc Cert.SmallUpdateIdeal.main_v99)) (v48 : (c : Dev Cert.SmallUpdateIdeal.nD) → Buf (Elt Ideal) ((c.tc : Thread Cert.SmallUpdateIdeal.nD Cert.SmallUpdateIdeal.τ).loc Cert.SmallUpdateIdeal.main_v100)) (v49 : (c : Dev Cert.SmallUpdateIdeal.nD) → Buf (Elt Ideal) ((c.tc : Thread Cert.SmallUpdateIdeal.nD Cert.SmallUpdateIdeal.τ).loc Cert.SmallUpdateIdeal.main_v102)) (v50 : (c : Dev Cert.SmallUpdateIdeal.nD) → Buf (Elt Ideal) ((c.tc : Thread Cert.SmallUpdateIdeal.nD Cert.SmallUpdateIdeal.τ).loc Cert.SmallUpdateIdeal.main_v104)) (v51 : (c : Dev Cert.SmallUpdateIdeal.nD) → Buf (Elt Ideal) ((c.tc : Thread Cert.SmallUpdateIdeal.nD Cert.SmallUpdateIdeal.τ).loc Cert.SmallUpdateIdeal.main_v106)) (v52 : (c : Dev Cert.SmallUpdateIdeal.nD) → Buf (Elt Ideal) ((c.tc : Thread Cert.SmallUpdateIdeal.nD Cert.SmallUpdateIdeal.τ).loc Cert.SmallUpdateIdeal.main_v108)) (v53 : (c : Dev Cert.SmallUpdateIdeal.nD) → Buf (Elt Ideal) ((c.tc : Thread Cert.SmallUpdateIdeal.nD Cert.SmallUpdateIdeal.τ).loc Cert.SmallUpdateIdeal.main_v110)) (v54 : (c : Dev Cert.SmallUpdateIdeal.nD) → Buf (Elt Ideal) ((c.tc : Thread Cert.SmallUpdateIdeal.nD Cert.SmallUpdateIdeal.τ).loc Cert.SmallUpdateIdeal.main_v112)) (v55 : (c : Dev Cert.SmallUpdateIdeal.nD) → Buf (Elt Ideal) ((c.tc : Thread Cert.SmallUpdateIdeal.nD Cert.SmallUpdateIdeal.τ).loc Cert.SmallUpdateIdeal.main_v114)) (v56 : (c : Dev Cert.SmallUpdateIdeal.nD) → Buf (Elt Ideal) ((c.tc : Thread Cert.SmallUpdateIdeal.nD Cert.SmallUpdateIdeal.τ).loc Cert.SmallUpdateIdeal.main_v116)) (v57 : (c : Dev Cert.SmallUpdateIdeal.nD) → Buf (Elt Ideal) ((c.tc : Thread Cert.SmallUpdateIdeal.nD Cert.SmallUpdateIdeal.τ).loc Cert.SmallUpdateIdeal.main_v118)) (v58 : (c : Dev Cert.SmallUpdateIdeal.nD) → Buf (Elt Ideal) ((c.tc : Thread Cert.SmallUpdateIdeal.nD Cert.SmallUpdateIdeal.τ).loc Cert.SmallUpdateIdeal.main_v120)) (v59 : (c : Dev Cert.SmallUpdateIdeal.nD) → Buf (Elt Ideal) ((c.tc : Thread Cert.SmallUpdateIdeal.nD Cert.SmallUpdateIdeal.τ).loc Cert.SmallUpdateIdeal.main_v122)) (v60 : (c : Dev Cert.SmallUpdateIdeal.nD) → Buf (Elt Ideal) ((c.tc : Thread Cert.SmallUpdateIdeal.nD Cert.SmallUpdateIdeal.τ).loc Cert.SmallUpdateIdeal.main_v124)),
      θ_run (Cert.SmallUpdateIdeal.defs (F := Ideal)) (onTc (τ := Cert.SmallUpdateIdeal.τ) (Cert.SmallUpdateIdeal.main (F := Ideal))) ⟨m, fun _ => 0, g⟩ (fun r => ∀ c : Dev Cert.SmallUpdateIdeal.nD,
          r.2.mem ((c.tc : Thread Cert.SmallUpdateIdeal.nD Cert.SmallUpdateIdeal.τ).loc Cert.SmallUpdateIdeal.main_v4) = v0 c
          ∧ r.2.mem ((c.tc : Thread Cert.SmallUpdateIdeal.nD Cert.SmallUpdateIdeal.τ).loc Cert.SmallUpdateIdeal.main_v7) = v1 c
          ∧ r.2.mem ((c.tc : Thread Cert.SmallUpdateIdeal.nD Cert.SmallUpdateIdeal.τ).loc Cert.SmallUpdateIdeal.main_v9) = v2 c
          ∧ r.2.mem ((c.tc : Thread Cert.SmallUpdateIdeal.nD Cert.SmallUpdateIdeal.τ).loc Cert.SmallUpdateIdeal.main_v10) = v3 c
          ∧ r.2.mem ((c.tc : Thread Cert.SmallUpdateIdeal.nD Cert.SmallUpdateIdeal.τ).loc Cert.SmallUpdateIdeal.main_v12) = v4 c
          ∧ r.2.mem ((c.tc : Thread Cert.SmallUpdateIdeal.nD Cert.SmallUpdateIdeal.τ).loc Cert.SmallUpdateIdeal.main_v14) = v5 c
          ∧ r.2.mem ((c.tc : Thread Cert.SmallUpdateIdeal.nD Cert.SmallUpdateIdeal.τ).loc Cert.SmallUpdateIdeal.main_v16) = v6 c
          ∧ r.2.mem ((c.tc : Thread Cert.SmallUpdateIdeal.nD Cert.SmallUpdateIdeal.τ).loc Cert.SmallUpdateIdeal.main_v18) = v7 c
          ∧ r.2.mem ((c.tc : Thread Cert.SmallUpdateIdeal.nD Cert.SmallUpdateIdeal.τ).loc Cert.SmallUpdateIdeal.main_v20) = v8 c
          ∧ r.2.mem ((c.tc : Thread Cert.SmallUpdateIdeal.nD Cert.SmallUpdateIdeal.τ).loc Cert.SmallUpdateIdeal.main_v22) = v9 c
          ∧ r.2.mem ((c.tc : Thread Cert.SmallUpdateIdeal.nD Cert.SmallUpdateIdeal.τ).loc Cert.SmallUpdateIdeal.main_v24) = v10 c
          ∧ r.2.mem ((c.tc : Thread Cert.SmallUpdateIdeal.nD Cert.SmallUpdateIdeal.τ).loc Cert.SmallUpdateIdeal.main_v26) = v11 c
          ∧ r.2.mem ((c.tc : Thread Cert.SmallUpdateIdeal.nD Cert.SmallUpdateIdeal.τ).loc Cert.SmallUpdateIdeal.main_v28) = v12 c
          ∧ r.2.mem ((c.tc : Thread Cert.SmallUpdateIdeal.nD Cert.SmallUpdateIdeal.τ).loc Cert.SmallUpdateIdeal.main_v30) = v13 c
          ∧ r.2.mem ((c.tc : Thread Cert.SmallUpdateIdeal.nD Cert.SmallUpdateIdeal.τ).loc Cert.SmallUpdateIdeal.main_v32) = v14 c
          ∧ r.2.mem ((c.tc : Thread Cert.SmallUpdateIdeal.nD Cert.SmallUpdateIdeal.τ).loc Cert.SmallUpdateIdeal.main_v34) = v15 c
          ∧ r.2.mem ((c.tc : Thread Cert.SmallUpdateIdeal.nD Cert.SmallUpdateIdeal.τ).loc Cert.SmallUpdateIdeal.main_v37) = v16 c
          ∧ r.2.mem ((c.tc : Thread Cert.SmallUpdateIdeal.nD Cert.SmallUpdateIdeal.τ).loc Cert.SmallUpdateIdeal.main_v39) = v17 c
          ∧ r.2.mem ((c.tc : Thread Cert.SmallUpdateIdeal.nD Cert.SmallUpdateIdeal.τ).loc Cert.SmallUpdateIdeal.main_v40) = v18 c
          ∧ r.2.mem ((c.tc : Thread Cert.SmallUpdateIdeal.nD Cert.SmallUpdateIdeal.τ).loc Cert.SmallUpdateIdeal.main_v42) = v19 c
          ∧ r.2.mem ((c.tc : Thread Cert.SmallUpdateIdeal.nD Cert.SmallUpdateIdeal.τ).loc Cert.SmallUpdateIdeal.main_v44) = v20 c
          ∧ r.2.mem ((c.tc : Thread Cert.SmallUpdateIdeal.nD Cert.SmallUpdateIdeal.τ).loc Cert.SmallUpdateIdeal.main_v46) = v21 c
          ∧ r.2.mem ((c.tc : Thread Cert.SmallUpdateIdeal.nD Cert.SmallUpdateIdeal.τ).loc Cert.SmallUpdateIdeal.main_v48) = v22 c
          ∧ r.2.mem ((c.tc : Thread Cert.SmallUpdateIdeal.nD Cert.SmallUpdateIdeal.τ).loc Cert.SmallUpdateIdeal.main_v50) = v23 c
          ∧ r.2.mem ((c.tc : Thread Cert.SmallUpdateIdeal.nD Cert.SmallUpdateIdeal.τ).loc Cert.SmallUpdateIdeal.main_v52) = v24 c
          ∧ r.2.mem ((c.tc : Thread Cert.SmallUpdateIdeal.nD Cert.SmallUpdateIdeal.τ).loc Cert.SmallUpdateIdeal.main_v54) = v25 c
          ∧ r.2.mem ((c.tc : Thread Cert.SmallUpdateIdeal.nD Cert.SmallUpdateIdeal.τ).loc Cert.SmallUpdateIdeal.main_v56) = v26 c
          ∧ r.2.mem ((c.tc : Thread Cert.SmallUpdateIdeal.nD Cert.SmallUpdateIdeal.τ).loc Cert.SmallUpdateIdeal.main_v58) = v27 c
          ∧ r.2.mem ((c.tc : Thread Cert.SmallUpdateIdeal.nD Cert.SmallUpdateIdeal.τ).loc Cert.SmallUpdateIdeal.main_v60) = v28 c
          ∧ r.2.mem ((c.tc : Thread Cert.SmallUpdateIdeal.nD Cert.SmallUpdateIdeal.τ).loc Cert.SmallUpdateIdeal.main_v62) = v29 c
          ∧ r.2.mem ((c.tc : Thread Cert.SmallUpdateIdeal.nD Cert.SmallUpdateIdeal.τ).loc Cert.SmallUpdateIdeal.main_v64) = v30 c
          ∧ r.2.mem ((c.tc : Thread Cert.SmallUpdateIdeal.nD Cert.SmallUpdateIdeal.τ).loc Cert.SmallUpdateIdeal.main_v67) = v31 c
          ∧ r.2.mem ((c.tc : Thread Cert.SmallUpdateIdeal.nD Cert.SmallUpdateIdeal.τ).loc Cert.SmallUpdateIdeal.main_v69) = v32 c
          ∧ r.2.mem ((c.tc : Thread Cert.SmallUpdateIdeal.nD Cert.SmallUpdateIdeal.τ).loc Cert.SmallUpdateIdeal.main_v70) = v33 c
          ∧ r.2.mem ((c.tc : Thread Cert.SmallUpdateIdeal.nD Cert.SmallUpdateIdeal.τ).loc Cert.SmallUpdateIdeal.main_v72) = v34 c
          ∧ r.2.mem ((c.tc : Thread Cert.SmallUpdateIdeal.nD Cert.SmallUpdateIdeal.τ).loc Cert.SmallUpdateIdeal.main_v74) = v35 c
          ∧ r.2.mem ((c.tc : Thread Cert.SmallUpdateIdeal.nD Cert.SmallUpdateIdeal.τ).loc Cert.SmallUpdateIdeal.main_v76) = v36 c
          ∧ r.2.mem ((c.tc : Thread Cert.SmallUpdateIdeal.nD Cert.SmallUpdateIdeal.τ).loc Cert.SmallUpdateIdeal.main_v78) = v37 c
          ∧ r.2.mem ((c.tc : Thread Cert.SmallUpdateIdeal.nD Cert.SmallUpdateIdeal.τ).loc Cert.SmallUpdateIdeal.main_v80) = v38 c
          ∧ r.2.mem ((c.tc : Thread Cert.SmallUpdateIdeal.nD Cert.SmallUpdateIdeal.τ).loc Cert.SmallUpdateIdeal.main_v82) = v39 c
          ∧ r.2.mem ((c.tc : Thread Cert.SmallUpdateIdeal.nD Cert.SmallUpdateIdeal.τ).loc Cert.SmallUpdateIdeal.main_v84) = v40 c
          ∧ r.2.mem ((c.tc : Thread Cert.SmallUpdateIdeal.nD Cert.SmallUpdateIdeal.τ).loc Cert.SmallUpdateIdeal.main_v86) = v41 c
          ∧ r.2.mem ((c.tc : Thread Cert.SmallUpdateIdeal.nD Cert.SmallUpdateIdeal.τ).loc Cert.SmallUpdateIdeal.main_v88) = v42 c
          ∧ r.2.mem ((c.tc : Thread Cert.SmallUpdateIdeal.nD Cert.SmallUpdateIdeal.τ).loc Cert.SmallUpdateIdeal.main_v90) = v43 c
          ∧ r.2.mem ((c.tc : Thread Cert.SmallUpdateIdeal.nD Cert.SmallUpdateIdeal.τ).loc Cert.SmallUpdateIdeal.main_v92) = v44 c
          ∧ r.2.mem ((c.tc : Thread Cert.SmallUpdateIdeal.nD Cert.SmallUpdateIdeal.τ).loc Cert.SmallUpdateIdeal.main_v94) = v45 c
          ∧ r.2.mem ((c.tc : Thread Cert.SmallUpdateIdeal.nD Cert.SmallUpdateIdeal.τ).loc Cert.SmallUpdateIdeal.main_v97) = v46 c
          ∧ r.2.mem ((c.tc : Thread Cert.SmallUpdateIdeal.nD Cert.SmallUpdateIdeal.τ).loc Cert.SmallUpdateIdeal.main_v99) = v47 c
          ∧ r.2.mem ((c.tc : Thread Cert.SmallUpdateIdeal.nD Cert.SmallUpdateIdeal.τ).loc Cert.SmallUpdateIdeal.main_v100) = v48 c
          ∧ r.2.mem ((c.tc : Thread Cert.SmallUpdateIdeal.nD Cert.SmallUpdateIdeal.τ).loc Cert.SmallUpdateIdeal.main_v102) = v49 c
          ∧ r.2.mem ((c.tc : Thread Cert.SmallUpdateIdeal.nD Cert.SmallUpdateIdeal.τ).loc Cert.SmallUpdateIdeal.main_v104) = v50 c
          ∧ r.2.mem ((c.tc : Thread Cert.SmallUpdateIdeal.nD Cert.SmallUpdateIdeal.τ).loc Cert.SmallUpdateIdeal.main_v106) = v51 c
          ∧ r.2.mem ((c.tc : Thread Cert.SmallUpdateIdeal.nD Cert.SmallUpdateIdeal.τ).loc Cert.SmallUpdateIdeal.main_v108) = v52 c
          ∧ r.2.mem ((c.tc : Thread Cert.SmallUpdateIdeal.nD Cert.SmallUpdateIdeal.τ).loc Cert.SmallUpdateIdeal.main_v110) = v53 c
          ∧ r.2.mem ((c.tc : Thread Cert.SmallUpdateIdeal.nD Cert.SmallUpdateIdeal.τ).loc Cert.SmallUpdateIdeal.main_v112) = v54 c
          ∧ r.2.mem ((c.tc : Thread Cert.SmallUpdateIdeal.nD Cert.SmallUpdateIdeal.τ).loc Cert.SmallUpdateIdeal.main_v114) = v55 c
          ∧ r.2.mem ((c.tc : Thread Cert.SmallUpdateIdeal.nD Cert.SmallUpdateIdeal.τ).loc Cert.SmallUpdateIdeal.main_v116) = v56 c
          ∧ r.2.mem ((c.tc : Thread Cert.SmallUpdateIdeal.nD Cert.SmallUpdateIdeal.τ).loc Cert.SmallUpdateIdeal.main_v118) = v57 c
          ∧ r.2.mem ((c.tc : Thread Cert.SmallUpdateIdeal.nD Cert.SmallUpdateIdeal.τ).loc Cert.SmallUpdateIdeal.main_v120) = v58 c
          ∧ r.2.mem ((c.tc : Thread Cert.SmallUpdateIdeal.nD Cert.SmallUpdateIdeal.τ).loc Cert.SmallUpdateIdeal.main_v122) = v59 c
          ∧ r.2.mem ((c.tc : Thread Cert.SmallUpdateIdeal.nD Cert.SmallUpdateIdeal.τ).loc Cert.SmallUpdateIdeal.main_v124) = v60 c
          ∧ r.2.mem ((c.tc : Thread Cert.SmallUpdateIdeal.nD Cert.SmallUpdateIdeal.τ).loc Cert.SmallUpdateIdeal.main_arg0) = m ((c.tc : Thread Cert.SmallUpdateIdeal.nD Cert.SmallUpdateIdeal.τ).loc Cert.SmallUpdateIdeal.main_arg0)
          ∧ r.2.mem ((c.tc : Thread Cert.SmallUpdateIdeal.nD Cert.SmallUpdateIdeal.τ).loc Cert.SmallUpdateIdeal.main_arg1) = m ((c.tc : Thread Cert.SmallUpdateIdeal.nD Cert.SmallUpdateIdeal.τ).loc Cert.SmallUpdateIdeal.main_arg1)
          ∧ r.2.mem ((c.tc : Thread Cert.SmallUpdateIdeal.nD Cert.SmallUpdateIdeal.τ).loc Cert.SmallUpdateIdeal.main_arg2) = m ((c.tc : Thread Cert.SmallUpdateIdeal.nD Cert.SmallUpdateIdeal.τ).loc Cert.SmallUpdateIdeal.main_arg2)
          ∧ r.2.mem ((c.tc : Thread Cert.SmallUpdateIdeal.nD Cert.SmallUpdateIdeal.τ).loc Cert.SmallUpdateIdeal.main_arg3) = m ((c.tc : Thread Cert.SmallUpdateIdeal.nD Cert.SmallUpdateIdeal.τ).loc Cert.SmallUpdateIdeal.main_arg3)
          ∧ r.2.mem ((c.tc : Thread Cert.SmallUpdateIdeal.nD Cert.SmallUpdateIdeal.τ).loc Cert.SmallUpdateIdeal.main_arg4) = m ((c.tc : Thread Cert.SmallUpdateIdeal.nD Cert.SmallUpdateIdeal.τ).loc Cert.SmallUpdateIdeal.main_arg4)
          ∧ r.2.mem ((c.tc : Thread Cert.SmallUpdateIdeal.nD Cert.SmallUpdateIdeal.τ).loc Cert.SmallUpdateIdeal.main_arg5) = m ((c.tc : Thread Cert.SmallUpdateIdeal.nD Cert.SmallUpdateIdeal.τ).loc Cert.SmallUpdateIdeal.main_arg5))
      ∧ θ_run (Cert.SmallUpdateReferenceIdeal.defs (F := Ideal)) (onTc (τ := Cert.SmallUpdateReferenceIdeal.τ) (Cert.SmallUpdateReferenceIdeal.main (F := Ideal))) ⟨m', fun _ => 0, g'⟩ (fun r => ∀ c : Dev Cert.SmallUpdateReferenceIdeal.nD,
          r.2.mem ((c.tc : Thread Cert.SmallUpdateReferenceIdeal.nD Cert.SmallUpdateReferenceIdeal.τ).loc Cert.SmallUpdateReferenceIdeal.main_v127) = v0 c
          ∧ r.2.mem ((c.tc : Thread Cert.SmallUpdateReferenceIdeal.nD Cert.SmallUpdateReferenceIdeal.τ).loc Cert.SmallUpdateReferenceIdeal.main_v37) = v1 c
          ∧ r.2.mem ((c.tc : Thread Cert.SmallUpdateReferenceIdeal.nD Cert.SmallUpdateReferenceIdeal.τ).loc Cert.SmallUpdateReferenceIdeal.main_v39) = v2 c
          ∧ r.2.mem ((c.tc : Thread Cert.SmallUpdateReferenceIdeal.nD Cert.SmallUpdateReferenceIdeal.τ).loc Cert.SmallUpdateReferenceIdeal.main_v40) = v3 c
          ∧ r.2.mem ((c.tc : Thread Cert.SmallUpdateReferenceIdeal.nD Cert.SmallUpdateReferenceIdeal.τ).loc Cert.SmallUpdateReferenceIdeal.main_v42) = v4 c
          ∧ r.2.mem ((c.tc : Thread Cert.SmallUpdateReferenceIdeal.nD Cert.SmallUpdateReferenceIdeal.τ).loc Cert.SmallUpdateReferenceIdeal.main_v44) = v5 c
          ∧ r.2.mem ((c.tc : Thread Cert.SmallUpdateReferenceIdeal.nD Cert.SmallUpdateReferenceIdeal.τ).loc Cert.SmallUpdateReferenceIdeal.main_v46) = v6 c
          ∧ r.2.mem ((c.tc : Thread Cert.SmallUpdateReferenceIdeal.nD Cert.SmallUpdateReferenceIdeal.τ).loc Cert.SmallUpdateReferenceIdeal.main_v48) = v7 c
          ∧ r.2.mem ((c.tc : Thread Cert.SmallUpdateReferenceIdeal.nD Cert.SmallUpdateReferenceIdeal.τ).loc Cert.SmallUpdateReferenceIdeal.main_v50) = v8 c
          ∧ r.2.mem ((c.tc : Thread Cert.SmallUpdateReferenceIdeal.nD Cert.SmallUpdateReferenceIdeal.τ).loc Cert.SmallUpdateReferenceIdeal.main_v52) = v9 c
          ∧ r.2.mem ((c.tc : Thread Cert.SmallUpdateReferenceIdeal.nD Cert.SmallUpdateReferenceIdeal.τ).loc Cert.SmallUpdateReferenceIdeal.main_v54) = v10 c
          ∧ r.2.mem ((c.tc : Thread Cert.SmallUpdateReferenceIdeal.nD Cert.SmallUpdateReferenceIdeal.τ).loc Cert.SmallUpdateReferenceIdeal.main_v56) = v11 c
          ∧ r.2.mem ((c.tc : Thread Cert.SmallUpdateReferenceIdeal.nD Cert.SmallUpdateReferenceIdeal.τ).loc Cert.SmallUpdateReferenceIdeal.main_v58) = v12 c
          ∧ r.2.mem ((c.tc : Thread Cert.SmallUpdateReferenceIdeal.nD Cert.SmallUpdateReferenceIdeal.τ).loc Cert.SmallUpdateReferenceIdeal.main_v60) = v13 c
          ∧ r.2.mem ((c.tc : Thread Cert.SmallUpdateReferenceIdeal.nD Cert.SmallUpdateReferenceIdeal.τ).loc Cert.SmallUpdateReferenceIdeal.main_v62) = v14 c
          ∧ r.2.mem ((c.tc : Thread Cert.SmallUpdateReferenceIdeal.nD Cert.SmallUpdateReferenceIdeal.τ).loc Cert.SmallUpdateReferenceIdeal.main_v64) = v15 c
          ∧ r.2.mem ((c.tc : Thread Cert.SmallUpdateReferenceIdeal.nD Cert.SmallUpdateReferenceIdeal.τ).loc Cert.SmallUpdateReferenceIdeal.main_v151) = v16 c
          ∧ r.2.mem ((c.tc : Thread Cert.SmallUpdateReferenceIdeal.nD Cert.SmallUpdateReferenceIdeal.τ).loc Cert.SmallUpdateReferenceIdeal.main_v175) = v17 c
          ∧ r.2.mem ((c.tc : Thread Cert.SmallUpdateReferenceIdeal.nD Cert.SmallUpdateReferenceIdeal.τ).loc Cert.SmallUpdateReferenceIdeal.main_v199) = v18 c
          ∧ r.2.mem ((c.tc : Thread Cert.SmallUpdateReferenceIdeal.nD Cert.SmallUpdateReferenceIdeal.τ).loc Cert.SmallUpdateReferenceIdeal.main_v223) = v19 c
          ∧ r.2.mem ((c.tc : Thread Cert.SmallUpdateReferenceIdeal.nD Cert.SmallUpdateReferenceIdeal.τ).loc Cert.SmallUpdateReferenceIdeal.main_v247) = v20 c
          ∧ r.2.mem ((c.tc : Thread Cert.SmallUpdateReferenceIdeal.nD Cert.SmallUpdateReferenceIdeal.τ).loc Cert.SmallUpdateReferenceIdeal.main_v271) = v21 c
          ∧ r.2.mem ((c.tc : Thread Cert.SmallUpdateReferenceIdeal.nD Cert.SmallUpdateReferenceIdeal.τ).loc Cert.SmallUpdateReferenceIdeal.main_v295) = v22 c
          ∧ r.2.mem ((c.tc : Thread Cert.SmallUpdateReferenceIdeal.nD Cert.SmallUpdateReferenceIdeal.τ).loc Cert.SmallUpdateReferenceIdeal.main_v319) = v23 c
          ∧ r.2.mem ((c.tc : Thread Cert.SmallUpdateReferenceIdeal.nD Cert.SmallUpdateReferenceIdeal.τ).loc Cert.SmallUpdateReferenceIdeal.main_v343) = v24 c
          ∧ r.2.mem ((c.tc : Thread Cert.SmallUpdateReferenceIdeal.nD Cert.SmallUpdateReferenceIdeal.τ).loc Cert.SmallUpdateReferenceIdeal.main_v367) = v25 c
          ∧ r.2.mem ((c.tc : Thread Cert.SmallUpdateReferenceIdeal.nD Cert.SmallUpdateReferenceIdeal.τ).loc Cert.SmallUpdateReferenceIdeal.main_v391) = v26 c
          ∧ r.2.mem ((c.tc : Thread Cert.SmallUpdateReferenceIdeal.nD Cert.SmallUpdateReferenceIdeal.τ).loc Cert.SmallUpdateReferenceIdeal.main_v415) = v27 c
          ∧ r.2.mem ((c.tc : Thread Cert.SmallUpdateReferenceIdeal.nD Cert.SmallUpdateReferenceIdeal.τ).loc Cert.SmallUpdateReferenceIdeal.main_v439) = v28 c
          ∧ r.2.mem ((c.tc : Thread Cert.SmallUpdateReferenceIdeal.nD Cert.SmallUpdateReferenceIdeal.τ).loc Cert.SmallUpdateReferenceIdeal.main_v463) = v29 c
          ∧ r.2.mem ((c.tc : Thread Cert.SmallUpdateReferenceIdeal.nD Cert.SmallUpdateReferenceIdeal.τ).loc Cert.SmallUpdateReferenceIdeal.main_v487) = v30 c
          ∧ r.2.mem ((c.tc : Thread Cert.SmallUpdateReferenceIdeal.nD Cert.SmallUpdateReferenceIdeal.τ).loc Cert.SmallUpdateReferenceIdeal.main_v132) = v31 c
          ∧ r.2.mem ((c.tc : Thread Cert.SmallUpdateReferenceIdeal.nD Cert.SmallUpdateReferenceIdeal.τ).loc Cert.SmallUpdateReferenceIdeal.main_v156) = v32 c
          ∧ r.2.mem ((c.tc : Thread Cert.SmallUpdateReferenceIdeal.nD Cert.SmallUpdateReferenceIdeal.τ).loc Cert.SmallUpdateReferenceIdeal.main_v180) = v33 c
          ∧ r.2.mem ((c.tc : Thread Cert.SmallUpdateReferenceIdeal.nD Cert.SmallUpdateReferenceIdeal.τ).loc Cert.SmallUpdateReferenceIdeal.main_v204) = v34 c
          ∧ r.2.mem ((c.tc : Thread Cert.SmallUpdateReferenceIdeal.nD Cert.SmallUpdateReferenceIdeal.τ).loc Cert.SmallUpdateReferenceIdeal.main_v228) = v35 c
          ∧ r.2.mem ((c.tc : Thread Cert.SmallUpdateReferenceIdeal.nD Cert.SmallUpdateReferenceIdeal.τ).loc Cert.SmallUpdateReferenceIdeal.main_v252) = v36 c
          ∧ r.2.mem ((c.tc : Thread Cert.SmallUpdateReferenceIdeal.nD Cert.SmallUpdateReferenceIdeal.τ).loc Cert.SmallUpdateReferenceIdeal.main_v276) = v37 c
          ∧ r.2.mem ((c.tc : Thread Cert.SmallUpdateReferenceIdeal.nD Cert.SmallUpdateReferenceIdeal.τ).loc Cert.SmallUpdateReferenceIdeal.main_v300) = v38 c
          ∧ r.2.mem ((c.tc : Thread Cert.SmallUpdateReferenceIdeal.nD Cert.SmallUpdateReferenceIdeal.τ).loc Cert.SmallUpdateReferenceIdeal.main_v324) = v39 c
          ∧ r.2.mem ((c.tc : Thread Cert.SmallUpdateReferenceIdeal.nD Cert.SmallUpdateReferenceIdeal.τ).loc Cert.SmallUpdateReferenceIdeal.main_v348) = v40 c
          ∧ r.2.mem ((c.tc : Thread Cert.SmallUpdateReferenceIdeal.nD Cert.SmallUpdateReferenceIdeal.τ).loc Cert.SmallUpdateReferenceIdeal.main_v372) = v41 c
          ∧ r.2.mem ((c.tc : Thread Cert.SmallUpdateReferenceIdeal.nD Cert.SmallUpdateReferenceIdeal.τ).loc Cert.SmallUpdateReferenceIdeal.main_v396) = v42 c
          ∧ r.2.mem ((c.tc : Thread Cert.SmallUpdateReferenceIdeal.nD Cert.SmallUpdateReferenceIdeal.τ).loc Cert.SmallUpdateReferenceIdeal.main_v420) = v43 c
          ∧ r.2.mem ((c.tc : Thread Cert.SmallUpdateReferenceIdeal.nD Cert.SmallUpdateReferenceIdeal.τ).loc Cert.SmallUpdateReferenceIdeal.main_v444) = v44 c
          ∧ r.2.mem ((c.tc : Thread Cert.SmallUpdateReferenceIdeal.nD Cert.SmallUpdateReferenceIdeal.τ).loc Cert.SmallUpdateReferenceIdeal.main_v468) = v45 c
          ∧ r.2.mem ((c.tc : Thread Cert.SmallUpdateReferenceIdeal.nD Cert.SmallUpdateReferenceIdeal.τ).loc Cert.SmallUpdateReferenceIdeal.main_v138) = v46 c
          ∧ r.2.mem ((c.tc : Thread Cert.SmallUpdateReferenceIdeal.nD Cert.SmallUpdateReferenceIdeal.τ).loc Cert.SmallUpdateReferenceIdeal.main_v162) = v47 c
          ∧ r.2.mem ((c.tc : Thread Cert.SmallUpdateReferenceIdeal.nD Cert.SmallUpdateReferenceIdeal.τ).loc Cert.SmallUpdateReferenceIdeal.main_v186) = v48 c
          ∧ r.2.mem ((c.tc : Thread Cert.SmallUpdateReferenceIdeal.nD Cert.SmallUpdateReferenceIdeal.τ).loc Cert.SmallUpdateReferenceIdeal.main_v210) = v49 c
          ∧ r.2.mem ((c.tc : Thread Cert.SmallUpdateReferenceIdeal.nD Cert.SmallUpdateReferenceIdeal.τ).loc Cert.SmallUpdateReferenceIdeal.main_v234) = v50 c
          ∧ r.2.mem ((c.tc : Thread Cert.SmallUpdateReferenceIdeal.nD Cert.SmallUpdateReferenceIdeal.τ).loc Cert.SmallUpdateReferenceIdeal.main_v258) = v51 c
          ∧ r.2.mem ((c.tc : Thread Cert.SmallUpdateReferenceIdeal.nD Cert.SmallUpdateReferenceIdeal.τ).loc Cert.SmallUpdateReferenceIdeal.main_v282) = v52 c
          ∧ r.2.mem ((c.tc : Thread Cert.SmallUpdateReferenceIdeal.nD Cert.SmallUpdateReferenceIdeal.τ).loc Cert.SmallUpdateReferenceIdeal.main_v306) = v53 c
          ∧ r.2.mem ((c.tc : Thread Cert.SmallUpdateReferenceIdeal.nD Cert.SmallUpdateReferenceIdeal.τ).loc Cert.SmallUpdateReferenceIdeal.main_v330) = v54 c
          ∧ r.2.mem ((c.tc : Thread Cert.SmallUpdateReferenceIdeal.nD Cert.SmallUpdateReferenceIdeal.τ).loc Cert.SmallUpdateReferenceIdeal.main_v354) = v55 c
          ∧ r.2.mem ((c.tc : Thread Cert.SmallUpdateReferenceIdeal.nD Cert.SmallUpdateReferenceIdeal.τ).loc Cert.SmallUpdateReferenceIdeal.main_v378) = v56 c
          ∧ r.2.mem ((c.tc : Thread Cert.SmallUpdateReferenceIdeal.nD Cert.SmallUpdateReferenceIdeal.τ).loc Cert.SmallUpdateReferenceIdeal.main_v402) = v57 c
          ∧ r.2.mem ((c.tc : Thread Cert.SmallUpdateReferenceIdeal.nD Cert.SmallUpdateReferenceIdeal.τ).loc Cert.SmallUpdateReferenceIdeal.main_v426) = v58 c
          ∧ r.2.mem ((c.tc : Thread Cert.SmallUpdateReferenceIdeal.nD Cert.SmallUpdateReferenceIdeal.τ).loc Cert.SmallUpdateReferenceIdeal.main_v450) = v59 c
          ∧ r.2.mem ((c.tc : Thread Cert.SmallUpdateReferenceIdeal.nD Cert.SmallUpdateReferenceIdeal.τ).loc Cert.SmallUpdateReferenceIdeal.main_v474) = v60 c
          ∧ r.2.mem ((c.tc : Thread Cert.SmallUpdateReferenceIdeal.nD Cert.SmallUpdateReferenceIdeal.τ).loc Cert.SmallUpdateReferenceIdeal.main_arg0) = m' ((c.tc : Thread Cert.SmallUpdateReferenceIdeal.nD Cert.SmallUpdateReferenceIdeal.τ).loc Cert.SmallUpdateReferenceIdeal.main_arg0)
          ∧ r.2.mem ((c.tc : Thread Cert.SmallUpdateReferenceIdeal.nD Cert.SmallUpdateReferenceIdeal.τ).loc Cert.SmallUpdateReferenceIdeal.main_arg1) = m' ((c.tc : Thread Cert.SmallUpdateReferenceIdeal.nD Cert.SmallUpdateReferenceIdeal.τ).loc Cert.SmallUpdateReferenceIdeal.main_arg1)
          ∧ r.2.mem ((c.tc : Thread Cert.SmallUpdateReferenceIdeal.nD Cert.SmallUpdateReferenceIdeal.τ).loc Cert.SmallUpdateReferenceIdeal.main_arg2) = m' ((c.tc : Thread Cert.SmallUpdateReferenceIdeal.nD Cert.SmallUpdateReferenceIdeal.τ).loc Cert.SmallUpdateReferenceIdeal.main_arg2)
          ∧ r.2.mem ((c.tc : Thread Cert.SmallUpdateReferenceIdeal.nD Cert.SmallUpdateReferenceIdeal.τ).loc Cert.SmallUpdateReferenceIdeal.main_arg3) = m' ((c.tc : Thread Cert.SmallUpdateReferenceIdeal.nD Cert.SmallUpdateReferenceIdeal.τ).loc Cert.SmallUpdateReferenceIdeal.main_arg3)
          ∧ r.2.mem ((c.tc : Thread Cert.SmallUpdateReferenceIdeal.nD Cert.SmallUpdateReferenceIdeal.τ).loc Cert.SmallUpdateReferenceIdeal.main_arg4) = m' ((c.tc : Thread Cert.SmallUpdateReferenceIdeal.nD Cert.SmallUpdateReferenceIdeal.τ).loc Cert.SmallUpdateReferenceIdeal.main_arg4)
          ∧ r.2.mem ((c.tc : Thread Cert.SmallUpdateReferenceIdeal.nD Cert.SmallUpdateReferenceIdeal.τ).loc Cert.SmallUpdateReferenceIdeal.main_arg5) = m' ((c.tc : Thread Cert.SmallUpdateReferenceIdeal.nD Cert.SmallUpdateReferenceIdeal.τ).loc Cert.SmallUpdateReferenceIdeal.main_arg5))

def Claim : Prop :=
  ∃ (hKernel : Cert.Kernel.Facts) (hKernelIdeal : Cert.KernelIdeal.Facts) (hReferenceIdeal : Cert.ReferenceIdeal.Facts) (hFfnDhn : Cert.FfnDhn.Facts) (hFfnDhnIdeal : Cert.FfnDhnIdeal.Facts) (hFfnDhnReferenceIdeal : Cert.FfnDhnReferenceIdeal.Facts) (hFfnDwinA : Cert.FfnDwinA.Facts) (hFfnDwinAIdeal : Cert.FfnDwinAIdeal.Facts) (hFfnDwinAReferenceIdeal : Cert.FfnDwinAReferenceIdeal.Facts) (hFfnDwinB : Cert.FfnDwinB.Facts) (hFfnDwinBIdeal : Cert.FfnDwinBIdeal.Facts) (hFfnDwinBReferenceIdeal : Cert.FfnDwinBReferenceIdeal.Facts) (hFfnDwout : Cert.FfnDwout.Facts) (hFfnDwoutIdeal : Cert.FfnDwoutIdeal.Facts) (hFfnDwoutReferenceIdeal : Cert.FfnDwoutReferenceIdeal.Facts) (hFfnDact : Cert.FfnDact.Facts) (hFfnDactIdeal : Cert.FfnDactIdeal.Facts) (hFfnDactReferenceIdeal : Cert.FfnDactReferenceIdeal.Facts) (hAttDhn : Cert.AttDhn.Facts) (hAttDhnIdeal : Cert.AttDhnIdeal.Facts) (hAttDhnReferenceIdeal : Cert.AttDhnReferenceIdeal.Facts) (hMixDhn : Cert.MixDhn.Facts) (hMixDhnIdeal : Cert.MixDhnIdeal.Facts) (hMixDhnReferenceIdeal : Cert.MixDhnReferenceIdeal.Facts) (hAttDwqkv : Cert.AttDwqkv.Facts) (hAttDwqkvIdeal : Cert.AttDwqkvIdeal.Facts) (hAttDwqkvReferenceIdeal : Cert.AttDwqkvReferenceIdeal.Facts) (hMixDwin : Cert.MixDwin.Facts) (hMixDwinIdeal : Cert.MixDwinIdeal.Facts) (hMixDwinReferenceIdeal : Cert.MixDwinReferenceIdeal.Facts) (hMixDwout : Cert.MixDwout.Facts) (hMixDwoutIdeal : Cert.MixDwoutIdeal.Facts) (hMixDwoutReferenceIdeal : Cert.MixDwoutReferenceIdeal.Facts) (hMixDcat : Cert.MixDcat.Facts) (hMixDcatIdeal : Cert.MixDcatIdeal.Facts) (hMixDcatReferenceIdeal : Cert.MixDcatReferenceIdeal.Facts) (hAttDwo : Cert.AttDwo.Facts) (hAttDwoIdeal : Cert.AttDwoIdeal.Facts) (hAttDwoReferenceIdeal : Cert.AttDwoReferenceIdeal.Facts) (hAttDmix : Cert.AttDmix.Facts) (hAttDmixIdeal : Cert.AttDmixIdeal.Facts) (hAttDmixReferenceIdeal : Cert.AttDmixReferenceIdeal.Facts) (hFfnOut : Cert.FfnOut.Facts) (hFfnOutIdeal : Cert.FfnOutIdeal.Facts) (hFfnOutReferenceIdeal : Cert.FfnOutReferenceIdeal.Facts) (hMixOut : Cert.MixOut.Facts) (hMixOutIdeal : Cert.MixOutIdeal.Facts) (hMixOutReferenceIdeal : Cert.MixOutReferenceIdeal.Facts) (hAttOut : Cert.AttOut.Facts) (hAttOutIdeal : Cert.AttOutIdeal.Facts) (hAttOutReferenceIdeal : Cert.AttOutReferenceIdeal.Facts) (hS5Dglu : Cert.S5Dglu.Facts) (hS5DgluIdeal : Cert.S5DgluIdeal.Facts) (hS5DgluReferenceIdeal : Cert.S5DgluReferenceIdeal.Facts) (hFfnIn : Cert.FfnIn.Facts) (hFfnInIdeal : Cert.FfnInIdeal.Facts) (hFfnInReferenceIdeal : Cert.FfnInReferenceIdeal.Facts) (hS5GluUpdate : Cert.S5GluUpdate.Facts) (hS5GluUpdateIdeal : Cert.S5GluUpdateIdeal.Facts) (hS5GluUpdateReferenceIdeal : Cert.S5GluUpdateReferenceIdeal.Facts) (hAttWoUpdate : Cert.AttWoUpdate.Facts) (hAttWoUpdateIdeal : Cert.AttWoUpdateIdeal.Facts) (hAttWoUpdateReferenceIdeal : Cert.AttWoUpdateReferenceIdeal.Facts) (hMixWoutUpdate : Cert.MixWoutUpdate.Facts) (hMixWoutUpdateIdeal : Cert.MixWoutUpdateIdeal.Facts) (hMixWoutUpdateReferenceIdeal : Cert.MixWoutUpdateReferenceIdeal.Facts) (hMixWinUpdate : Cert.MixWinUpdate.Facts) (hMixWinUpdateIdeal : Cert.MixWinUpdateIdeal.Facts) (hMixWinUpdateReferenceIdeal : Cert.MixWinUpdateReferenceIdeal.Facts) (hAttWqkvUpdate : Cert.AttWqkvUpdate.Facts) (hAttWqkvUpdateIdeal : Cert.AttWqkvUpdateIdeal.Facts) (hAttWqkvUpdateReferenceIdeal : Cert.AttWqkvUpdateReferenceIdeal.Facts) (hFfnWoutUpdate1 : Cert.FfnWoutUpdate1.Facts) (hFfnWoutUpdate1Ideal : Cert.FfnWoutUpdate1Ideal.Facts) (hFfnWoutUpdate1ReferenceIdeal : Cert.FfnWoutUpdate1ReferenceIdeal.Facts) (hFfnWinUpdate1 : Cert.FfnWinUpdate1.Facts) (hFfnWinUpdate1Ideal : Cert.FfnWinUpdate1Ideal.Facts) (hFfnWinUpdate1ReferenceIdeal : Cert.FfnWinUpdate1ReferenceIdeal.Facts) (hFfnWoutUpdate : Cert.FfnWoutUpdate.Facts) (hFfnWoutUpdateIdeal : Cert.FfnWoutUpdateIdeal.Facts) (hFfnWoutUpdateReferenceIdeal : Cert.FfnWoutUpdateReferenceIdeal.Facts) (hFfnWinUpdate : Cert.FfnWinUpdate.Facts) (hFfnWinUpdateIdeal : Cert.FfnWinUpdateIdeal.Facts) (hFfnWinUpdateReferenceIdeal : Cert.FfnWinUpdateReferenceIdeal.Facts) (hSmallUpdate : Cert.SmallUpdate.Facts) (hSmallUpdateIdeal : Cert.SmallUpdateIdeal.Facts) (hSmallUpdateReferenceIdeal : Cert.SmallUpdateReferenceIdeal.Facts) (hPre_finite : Cert.Pre_finite.Facts) (hPre_s5_glu_update_on_mesh : Cert.Pre_s5_glu_update_on_mesh.Facts) (hPre_att_wo_update_on_mesh : Cert.Pre_att_wo_update_on_mesh.Facts) (hPre_mix_wout_update_on_mesh : Cert.Pre_mix_wout_update_on_mesh.Facts) (hPre_mix_win_update_on_mesh : Cert.Pre_mix_win_update_on_mesh.Facts) (hPre_att_wqkv_update_on_mesh : Cert.Pre_att_wqkv_update_on_mesh.Facts) (hPre_ffn_wout_update1_on_mesh : Cert.Pre_ffn_wout_update1_on_mesh.Facts) (hPre_ffn_win_update1_on_mesh : Cert.Pre_ffn_win_update1_on_mesh.Facts) (hPre_ffn_wout_update_on_mesh : Cert.Pre_ffn_wout_update_on_mesh.Facts) (hPre_ffn_win_update_on_mesh : Cert.Pre_ffn_win_update_on_mesh.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnDhn (hFfnDhn := hFfnDhn)
    ∧ quiescent_FfnDhnIdeal (hFfnDhnIdeal := hFfnDhnIdeal)
    ∧ quiescent_FfnDhnReferenceIdeal (hFfnDhnReferenceIdeal := hFfnDhnReferenceIdeal)
    ∧ quiescent_FfnDwinA (hFfnDwinA := hFfnDwinA)
    ∧ quiescent_FfnDwinAIdeal (hFfnDwinAIdeal := hFfnDwinAIdeal)
    ∧ quiescent_FfnDwinAReferenceIdeal (hFfnDwinAReferenceIdeal := hFfnDwinAReferenceIdeal)
    ∧ quiescent_FfnDwinB (hFfnDwinB := hFfnDwinB)
    ∧ quiescent_FfnDwinBIdeal (hFfnDwinBIdeal := hFfnDwinBIdeal)
    ∧ quiescent_FfnDwinBReferenceIdeal (hFfnDwinBReferenceIdeal := hFfnDwinBReferenceIdeal)
    ∧ quiescent_FfnDwout (hFfnDwout := hFfnDwout)
    ∧ quiescent_FfnDwoutIdeal (hFfnDwoutIdeal := hFfnDwoutIdeal)
    ∧ quiescent_FfnDwoutReferenceIdeal (hFfnDwoutReferenceIdeal := hFfnDwoutReferenceIdeal)
    ∧ quiescent_FfnDact (hFfnDact := hFfnDact)
    ∧ quiescent_FfnDactIdeal (hFfnDactIdeal := hFfnDactIdeal)
    ∧ quiescent_FfnDactReferenceIdeal (hFfnDactReferenceIdeal := hFfnDactReferenceIdeal)
    ∧ quiescent_AttDhn (hAttDhn := hAttDhn)
    ∧ quiescent_AttDhnIdeal (hAttDhnIdeal := hAttDhnIdeal)
    ∧ quiescent_AttDhnReferenceIdeal (hAttDhnReferenceIdeal := hAttDhnReferenceIdeal)
    ∧ quiescent_MixDhn (hMixDhn := hMixDhn)
    ∧ quiescent_MixDhnIdeal (hMixDhnIdeal := hMixDhnIdeal)
    ∧ quiescent_MixDhnReferenceIdeal (hMixDhnReferenceIdeal := hMixDhnReferenceIdeal)
    ∧ quiescent_AttDwqkv (hAttDwqkv := hAttDwqkv)
    ∧ quiescent_AttDwqkvIdeal (hAttDwqkvIdeal := hAttDwqkvIdeal)
    ∧ quiescent_AttDwqkvReferenceIdeal (hAttDwqkvReferenceIdeal := hAttDwqkvReferenceIdeal)
    ∧ quiescent_MixDwin (hMixDwin := hMixDwin)
    ∧ quiescent_MixDwinIdeal (hMixDwinIdeal := hMixDwinIdeal)
    ∧ quiescent_MixDwinReferenceIdeal (hMixDwinReferenceIdeal := hMixDwinReferenceIdeal)
    ∧ quiescent_MixDwout (hMixDwout := hMixDwout)
    ∧ quiescent_MixDwoutIdeal (hMixDwoutIdeal := hMixDwoutIdeal)
    ∧ quiescent_MixDwoutReferenceIdeal (hMixDwoutReferenceIdeal := hMixDwoutReferenceIdeal)
    ∧ quiescent_MixDcat (hMixDcat := hMixDcat)
    ∧ quiescent_MixDcatIdeal (hMixDcatIdeal := hMixDcatIdeal)
    ∧ quiescent_MixDcatReferenceIdeal (hMixDcatReferenceIdeal := hMixDcatReferenceIdeal)
    ∧ quiescent_AttDwo (hAttDwo := hAttDwo)
    ∧ quiescent_AttDwoIdeal (hAttDwoIdeal := hAttDwoIdeal)
    ∧ quiescent_AttDwoReferenceIdeal (hAttDwoReferenceIdeal := hAttDwoReferenceIdeal)
    ∧ quiescent_AttDmix (hAttDmix := hAttDmix)
    ∧ quiescent_AttDmixIdeal (hAttDmixIdeal := hAttDmixIdeal)
    ∧ quiescent_AttDmixReferenceIdeal (hAttDmixReferenceIdeal := hAttDmixReferenceIdeal)
    ∧ quiescent_FfnOut (hFfnOut := hFfnOut)
    ∧ quiescent_FfnOutIdeal (hFfnOutIdeal := hFfnOutIdeal)
    ∧ quiescent_FfnOutReferenceIdeal (hFfnOutReferenceIdeal := hFfnOutReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_AttOut (hAttOut := hAttOut)
    ∧ quiescent_AttOutIdeal (hAttOutIdeal := hAttOutIdeal)
    ∧ quiescent_AttOutReferenceIdeal (hAttOutReferenceIdeal := hAttOutReferenceIdeal)
    ∧ quiescent_S5Dglu (hS5Dglu := hS5Dglu)
    ∧ quiescent_S5DgluIdeal (hS5DgluIdeal := hS5DgluIdeal)
    ∧ quiescent_S5DgluReferenceIdeal (hS5DgluReferenceIdeal := hS5DgluReferenceIdeal)
    ∧ quiescent_FfnIn (hFfnIn := hFfnIn)
    ∧ quiescent_FfnInIdeal (hFfnInIdeal := hFfnInIdeal)
    ∧ quiescent_FfnInReferenceIdeal (hFfnInReferenceIdeal := hFfnInReferenceIdeal)
    ∧ quiescent_S5GluUpdate (hS5GluUpdate := hS5GluUpdate) (hPre_s5_glu_update_on_mesh := hPre_s5_glu_update_on_mesh)
    ∧ quiescent_S5GluUpdateIdeal (hS5GluUpdateIdeal := hS5GluUpdateIdeal) (hPre_s5_glu_update_on_mesh := hPre_s5_glu_update_on_mesh)
    ∧ quiescent_S5GluUpdateReferenceIdeal (hS5GluUpdateReferenceIdeal := hS5GluUpdateReferenceIdeal)
    ∧ quiescent_S5GluUpdateReferenceIdeal_pre_s5_glu_update_on_mesh (hS5GluUpdateReferenceIdeal := hS5GluUpdateReferenceIdeal) (hPre_s5_glu_update_on_mesh := hPre_s5_glu_update_on_mesh)
    ∧ quiescent_AttWoUpdate (hAttWoUpdate := hAttWoUpdate) (hPre_att_wo_update_on_mesh := hPre_att_wo_update_on_mesh)
    ∧ quiescent_AttWoUpdateIdeal (hAttWoUpdateIdeal := hAttWoUpdateIdeal) (hPre_att_wo_update_on_mesh := hPre_att_wo_update_on_mesh)
    ∧ quiescent_AttWoUpdateReferenceIdeal (hAttWoUpdateReferenceIdeal := hAttWoUpdateReferenceIdeal)
    ∧ quiescent_AttWoUpdateReferenceIdeal_pre_att_wo_update_on_mesh (hAttWoUpdateReferenceIdeal := hAttWoUpdateReferenceIdeal) (hPre_att_wo_update_on_mesh := hPre_att_wo_update_on_mesh)
    ∧ quiescent_MixWoutUpdate (hMixWoutUpdate := hMixWoutUpdate) (hPre_mix_wout_update_on_mesh := hPre_mix_wout_update_on_mesh)
    ∧ quiescent_MixWoutUpdateIdeal (hMixWoutUpdateIdeal := hMixWoutUpdateIdeal) (hPre_mix_wout_update_on_mesh := hPre_mix_wout_update_on_mesh)
    ∧ quiescent_MixWoutUpdateReferenceIdeal (hMixWoutUpdateReferenceIdeal := hMixWoutUpdateReferenceIdeal)
    ∧ quiescent_MixWoutUpdateReferenceIdeal_pre_mix_wout_update_on_mesh (hMixWoutUpdateReferenceIdeal := hMixWoutUpdateReferenceIdeal) (hPre_mix_wout_update_on_mesh := hPre_mix_wout_update_on_mesh)
    ∧ quiescent_MixWinUpdate (hMixWinUpdate := hMixWinUpdate) (hPre_mix_win_update_on_mesh := hPre_mix_win_update_on_mesh)
    ∧ quiescent_MixWinUpdateIdeal (hMixWinUpdateIdeal := hMixWinUpdateIdeal) (hPre_mix_win_update_on_mesh := hPre_mix_win_update_on_mesh)
    ∧ quiescent_MixWinUpdateReferenceIdeal (hMixWinUpdateReferenceIdeal := hMixWinUpdateReferenceIdeal)
    ∧ quiescent_MixWinUpdateReferenceIdeal_pre_mix_win_update_on_mesh (hMixWinUpdateReferenceIdeal := hMixWinUpdateReferenceIdeal) (hPre_mix_win_update_on_mesh := hPre_mix_win_update_on_mesh)
    ∧ quiescent_AttWqkvUpdate (hAttWqkvUpdate := hAttWqkvUpdate) (hPre_att_wqkv_update_on_mesh := hPre_att_wqkv_update_on_mesh)
    ∧ quiescent_AttWqkvUpdateIdeal (hAttWqkvUpdateIdeal := hAttWqkvUpdateIdeal) (hPre_att_wqkv_update_on_mesh := hPre_att_wqkv_update_on_mesh)
    ∧ quiescent_AttWqkvUpdateReferenceIdeal (hAttWqkvUpdateReferenceIdeal := hAttWqkvUpdateReferenceIdeal)
    ∧ quiescent_AttWqkvUpdateReferenceIdeal_pre_att_wqkv_update_on_mesh (hAttWqkvUpdateReferenceIdeal := hAttWqkvUpdateReferenceIdeal) (hPre_att_wqkv_update_on_mesh := hPre_att_wqkv_update_on_mesh)
    ∧ quiescent_FfnWoutUpdate1 (hFfnWoutUpdate1 := hFfnWoutUpdate1) (hPre_ffn_wout_update1_on_mesh := hPre_ffn_wout_update1_on_mesh)
    ∧ quiescent_FfnWoutUpdate1Ideal (hFfnWoutUpdate1Ideal := hFfnWoutUpdate1Ideal) (hPre_ffn_wout_update1_on_mesh := hPre_ffn_wout_update1_on_mesh)
    ∧ quiescent_FfnWoutUpdate1ReferenceIdeal (hFfnWoutUpdate1ReferenceIdeal := hFfnWoutUpdate1ReferenceIdeal)
    ∧ quiescent_FfnWoutUpdate1ReferenceIdeal_pre_ffn_wout_update1_on_mesh (hFfnWoutUpdate1ReferenceIdeal := hFfnWoutUpdate1ReferenceIdeal) (hPre_ffn_wout_update1_on_mesh := hPre_ffn_wout_update1_on_mesh)
    ∧ quiescent_FfnWinUpdate1 (hFfnWinUpdate1 := hFfnWinUpdate1) (hPre_ffn_win_update1_on_mesh := hPre_ffn_win_update1_on_mesh)
    ∧ quiescent_FfnWinUpdate1Ideal (hFfnWinUpdate1Ideal := hFfnWinUpdate1Ideal) (hPre_ffn_win_update1_on_mesh := hPre_ffn_win_update1_on_mesh)
    ∧ quiescent_FfnWinUpdate1ReferenceIdeal (hFfnWinUpdate1ReferenceIdeal := hFfnWinUpdate1ReferenceIdeal)
    ∧ quiescent_FfnWinUpdate1ReferenceIdeal_pre_ffn_win_update1_on_mesh (hFfnWinUpdate1ReferenceIdeal := hFfnWinUpdate1ReferenceIdeal) (hPre_ffn_win_update1_on_mesh := hPre_ffn_win_update1_on_mesh)
    ∧ quiescent_FfnWoutUpdate (hFfnWoutUpdate := hFfnWoutUpdate) (hPre_ffn_wout_update_on_mesh := hPre_ffn_wout_update_on_mesh)
    ∧ quiescent_FfnWoutUpdateIdeal (hFfnWoutUpdateIdeal := hFfnWoutUpdateIdeal) (hPre_ffn_wout_update_on_mesh := hPre_ffn_wout_update_on_mesh)
    ∧ quiescent_FfnWoutUpdateReferenceIdeal (hFfnWoutUpdateReferenceIdeal := hFfnWoutUpdateReferenceIdeal)
    ∧ quiescent_FfnWoutUpdateReferenceIdeal_pre_ffn_wout_update_on_mesh (hFfnWoutUpdateReferenceIdeal := hFfnWoutUpdateReferenceIdeal) (hPre_ffn_wout_update_on_mesh := hPre_ffn_wout_update_on_mesh)
    ∧ quiescent_FfnWinUpdate (hFfnWinUpdate := hFfnWinUpdate) (hPre_ffn_win_update_on_mesh := hPre_ffn_win_update_on_mesh)
    ∧ quiescent_FfnWinUpdateIdeal (hFfnWinUpdateIdeal := hFfnWinUpdateIdeal) (hPre_ffn_win_update_on_mesh := hPre_ffn_win_update_on_mesh)
    ∧ quiescent_FfnWinUpdateReferenceIdeal (hFfnWinUpdateReferenceIdeal := hFfnWinUpdateReferenceIdeal)
    ∧ quiescent_FfnWinUpdateReferenceIdeal_pre_ffn_win_update_on_mesh (hFfnWinUpdateReferenceIdeal := hFfnWinUpdateReferenceIdeal) (hPre_ffn_win_update_on_mesh := hPre_ffn_win_update_on_mesh)
    ∧ quiescent_SmallUpdate (hSmallUpdate := hSmallUpdate)
    ∧ quiescent_SmallUpdateIdeal (hSmallUpdateIdeal := hSmallUpdateIdeal)
    ∧ quiescent_SmallUpdateReferenceIdeal (hSmallUpdateReferenceIdeal := hSmallUpdateReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnDhn_FfnDhnIdeal
    ∧ algebraic_FfnDhnIdeal_FfnDhnReferenceIdeal (hFfnDhnIdeal := hFfnDhnIdeal) (hFfnDhnReferenceIdeal := hFfnDhnReferenceIdeal)
    ∧ preserves_FfnDwinA_FfnDwinAIdeal
    ∧ algebraic_FfnDwinAIdeal_FfnDwinAReferenceIdeal (hFfnDwinAIdeal := hFfnDwinAIdeal) (hFfnDwinAReferenceIdeal := hFfnDwinAReferenceIdeal)
    ∧ preserves_FfnDwinB_FfnDwinBIdeal
    ∧ algebraic_FfnDwinBIdeal_FfnDwinBReferenceIdeal (hFfnDwinBIdeal := hFfnDwinBIdeal) (hFfnDwinBReferenceIdeal := hFfnDwinBReferenceIdeal)
    ∧ preserves_FfnDwout_FfnDwoutIdeal
    ∧ algebraic_FfnDwoutIdeal_FfnDwoutReferenceIdeal (hFfnDwoutIdeal := hFfnDwoutIdeal) (hFfnDwoutReferenceIdeal := hFfnDwoutReferenceIdeal)
    ∧ preserves_FfnDact_FfnDactIdeal
    ∧ algebraic_FfnDactIdeal_FfnDactReferenceIdeal (hFfnDactIdeal := hFfnDactIdeal) (hFfnDactReferenceIdeal := hFfnDactReferenceIdeal)
    ∧ preserves_AttDhn_AttDhnIdeal
    ∧ algebraic_AttDhnIdeal_AttDhnReferenceIdeal (hAttDhnIdeal := hAttDhnIdeal) (hAttDhnReferenceIdeal := hAttDhnReferenceIdeal)
    ∧ preserves_MixDhn_MixDhnIdeal
    ∧ algebraic_MixDhnIdeal_MixDhnReferenceIdeal (hMixDhnIdeal := hMixDhnIdeal) (hMixDhnReferenceIdeal := hMixDhnReferenceIdeal)
    ∧ preserves_AttDwqkv_AttDwqkvIdeal
    ∧ algebraic_AttDwqkvIdeal_AttDwqkvReferenceIdeal (hAttDwqkvIdeal := hAttDwqkvIdeal) (hAttDwqkvReferenceIdeal := hAttDwqkvReferenceIdeal)
    ∧ preserves_MixDwin_MixDwinIdeal
    ∧ algebraic_MixDwinIdeal_MixDwinReferenceIdeal (hMixDwinIdeal := hMixDwinIdeal) (hMixDwinReferenceIdeal := hMixDwinReferenceIdeal)
    ∧ preserves_MixDwout_MixDwoutIdeal
    ∧ algebraic_MixDwoutIdeal_MixDwoutReferenceIdeal (hMixDwoutIdeal := hMixDwoutIdeal) (hMixDwoutReferenceIdeal := hMixDwoutReferenceIdeal)
    ∧ preserves_MixDcat_MixDcatIdeal
    ∧ algebraic_MixDcatIdeal_MixDcatReferenceIdeal (hMixDcatIdeal := hMixDcatIdeal) (hMixDcatReferenceIdeal := hMixDcatReferenceIdeal)
    ∧ preserves_AttDwo_AttDwoIdeal
    ∧ algebraic_AttDwoIdeal_AttDwoReferenceIdeal (hAttDwoIdeal := hAttDwoIdeal) (hAttDwoReferenceIdeal := hAttDwoReferenceIdeal)
    ∧ preserves_AttDmix_AttDmixIdeal
    ∧ algebraic_AttDmixIdeal_AttDmixReferenceIdeal (hAttDmixIdeal := hAttDmixIdeal) (hAttDmixReferenceIdeal := hAttDmixReferenceIdeal)
    ∧ preserves_FfnOut_FfnOutIdeal
    ∧ algebraic_FfnOutIdeal_FfnOutReferenceIdeal (hFfnOutIdeal := hFfnOutIdeal) (hFfnOutReferenceIdeal := hFfnOutReferenceIdeal)
    ∧ preserves_MixOut_MixOutIdeal
    ∧ algebraic_MixOutIdeal_MixOutReferenceIdeal (hMixOutIdeal := hMixOutIdeal) (hMixOutReferenceIdeal := hMixOutReferenceIdeal)
    ∧ preserves_AttOut_AttOutIdeal
    ∧ algebraic_AttOutIdeal_AttOutReferenceIdeal (hAttOutIdeal := hAttOutIdeal) (hAttOutReferenceIdeal := hAttOutReferenceIdeal)
    ∧ preserves_S5Dglu_S5DgluIdeal
    ∧ algebraic_S5DgluIdeal_S5DgluReferenceIdeal (hS5DgluIdeal := hS5DgluIdeal) (hS5DgluReferenceIdeal := hS5DgluReferenceIdeal)
    ∧ preserves_FfnIn_FfnInIdeal
    ∧ algebraic_FfnInIdeal_FfnInReferenceIdeal (hFfnInIdeal := hFfnInIdeal) (hFfnInReferenceIdeal := hFfnInReferenceIdeal)
    ∧ preserves_S5GluUpdate_S5GluUpdateIdeal
    ∧ algebraic_S5GluUpdateIdeal_S5GluUpdateReferenceIdeal (hS5GluUpdateIdeal := hS5GluUpdateIdeal) (hS5GluUpdateReferenceIdeal := hS5GluUpdateReferenceIdeal) (hPre_s5_glu_update_on_mesh := hPre_s5_glu_update_on_mesh)
    ∧ preserves_AttWoUpdate_AttWoUpdateIdeal
    ∧ algebraic_AttWoUpdateIdeal_AttWoUpdateReferenceIdeal (hAttWoUpdateIdeal := hAttWoUpdateIdeal) (hAttWoUpdateReferenceIdeal := hAttWoUpdateReferenceIdeal) (hPre_att_wo_update_on_mesh := hPre_att_wo_update_on_mesh)
    ∧ preserves_MixWoutUpdate_MixWoutUpdateIdeal
    ∧ algebraic_MixWoutUpdateIdeal_MixWoutUpdateReferenceIdeal (hMixWoutUpdateIdeal := hMixWoutUpdateIdeal) (hMixWoutUpdateReferenceIdeal := hMixWoutUpdateReferenceIdeal) (hPre_mix_wout_update_on_mesh := hPre_mix_wout_update_on_mesh)
    ∧ preserves_MixWinUpdate_MixWinUpdateIdeal
    ∧ algebraic_MixWinUpdateIdeal_MixWinUpdateReferenceIdeal (hMixWinUpdateIdeal := hMixWinUpdateIdeal) (hMixWinUpdateReferenceIdeal := hMixWinUpdateReferenceIdeal) (hPre_mix_win_update_on_mesh := hPre_mix_win_update_on_mesh)
    ∧ preserves_AttWqkvUpdate_AttWqkvUpdateIdeal
    ∧ algebraic_AttWqkvUpdateIdeal_AttWqkvUpdateReferenceIdeal (hAttWqkvUpdateIdeal := hAttWqkvUpdateIdeal) (hAttWqkvUpdateReferenceIdeal := hAttWqkvUpdateReferenceIdeal) (hPre_att_wqkv_update_on_mesh := hPre_att_wqkv_update_on_mesh)
    ∧ preserves_FfnWoutUpdate1_FfnWoutUpdate1Ideal
    ∧ algebraic_FfnWoutUpdate1Ideal_FfnWoutUpdate1ReferenceIdeal (hFfnWoutUpdate1Ideal := hFfnWoutUpdate1Ideal) (hFfnWoutUpdate1ReferenceIdeal := hFfnWoutUpdate1ReferenceIdeal) (hPre_ffn_wout_update1_on_mesh := hPre_ffn_wout_update1_on_mesh)
    ∧ preserves_FfnWinUpdate1_FfnWinUpdate1Ideal
    ∧ algebraic_FfnWinUpdate1Ideal_FfnWinUpdate1ReferenceIdeal (hFfnWinUpdate1Ideal := hFfnWinUpdate1Ideal) (hFfnWinUpdate1ReferenceIdeal := hFfnWinUpdate1ReferenceIdeal) (hPre_ffn_win_update1_on_mesh := hPre_ffn_win_update1_on_mesh)
    ∧ preserves_FfnWoutUpdate_FfnWoutUpdateIdeal
    ∧ algebraic_FfnWoutUpdateIdeal_FfnWoutUpdateReferenceIdeal (hFfnWoutUpdateIdeal := hFfnWoutUpdateIdeal) (hFfnWoutUpdateReferenceIdeal := hFfnWoutUpdateReferenceIdeal) (hPre_ffn_wout_update_on_mesh := hPre_ffn_wout_update_on_mesh)
    ∧ preserves_FfnWinUpdate_FfnWinUpdateIdeal
    ∧ algebraic_FfnWinUpdateIdeal_FfnWinUpdateReferenceIdeal (hFfnWinUpdateIdeal := hFfnWinUpdateIdeal) (hFfnWinUpdateReferenceIdeal := hFfnWinUpdateReferenceIdeal) (hPre_ffn_win_update_on_mesh := hPre_ffn_win_update_on_mesh)
    ∧ preserves_SmallUpdate_SmallUpdateIdeal
    ∧ algebraic_SmallUpdateIdeal_SmallUpdateReferenceIdeal (hSmallUpdateIdeal := hSmallUpdateIdeal) (hSmallUpdateReferenceIdeal := hSmallUpdateReferenceIdeal)
-- ==== Pre_att_wo_update_on_mesh.lean ====
abbrev S8x512x128 : Shape := ⟨3, ![8, 512, 128]⟩
abbrev S_ : Shape := ⟨0, ![]⟩
abbrev S512x128 : Shape := ⟨2, ![512, 128]⟩

class Facts : Prop where

variable [Facts]

def fn {F : FTy → Type} [FloatOps F] (main_arg0 : FVec F S8x512x128 .f32) (main_arg1 : FVec F S8x512x128 .f32) (main_arg2 : IVec S_ 32) (main_arg3 : FVec F S512x128 .f32) (main_arg4 : FVec F S512x128 .f32) (main_arg5 : FVec F S512x128 .f32) : IVec S_ 1 :=
  let main_c : IVec S_ 32 := constantI S_ 32 0#32
  let main_v0 : IVec S_ 1 := cmpi .sge main_arg2 main_c
  let main_c_0 : IVec S_ 32 := constantI S_ 32 8#32
  let main_v1 : IVec S_ 1 := cmpi .slt main_arg2 main_c_0
  let main_v2 : IVec S_ 1 := andi main_v0 main_v1
  main_v2
-- ==== Pre_att_wqkv_update_on_mesh.lean ====
abbrev S8x576x1024 : Shape := ⟨3, ![8, 576, 1024]⟩
abbrev S_ : Shape := ⟨0, ![]⟩
abbrev S1024x576 : Shape := ⟨2, ![1024, 576]⟩

class Facts : Prop where

variable [Facts]

def fn {F : FTy → Type} [FloatOps F] (main_arg0 : FVec F S8x576x1024 .bf16) (main_arg1 : FVec F S8x576x1024 .bf16) (main_arg2 : IVec S_ 32) (main_arg3 : FVec F S1024x576 .f32) (main_arg4 : FVec F S1024x576 .f32) (main_arg5 : FVec F S1024x576 .f32) : IVec S_ 1 :=
  let main_c : IVec S_ 32 := constantI S_ 32 0#32
  let main_v0 : IVec S_ 1 := cmpi .sge main_arg2 main_c
  let main_c_0 : IVec S_ 32 := constantI S_ 32 8#32
  let main_v1 : IVec S_ 1 := cmpi .slt main_arg2 main_c_0
  let main_v2 : IVec S_ 1 := andi main_v0 main_v1
  main_v2
-- ==== Pre_ffn_win_update1_on_mesh.lean ====
abbrev S8x704x1024 : Shape := ⟨3, ![8, 704, 1024]⟩
abbrev S_ : Shape := ⟨0, ![]⟩
abbrev S1408x1024 : Shape := ⟨2, ![1408, 1024]⟩

class Facts : Prop where

variable [Facts]

def fn {F : FTy → Type} [FloatOps F] (main_arg0 : FVec F S8x704x1024 .bf16) (main_arg1 : FVec F S8x704x1024 .bf16) (main_arg2 : IVec S_ 32) (main_arg3 : FVec F S1408x1024 .f32) (main_arg4 : FVec F S1408x1024 .f32) (main_arg5 : FVec F S1408x1024 .f32) : IVec S_ 1 :=
  let main_c : IVec S_ 32 := constantI S_ 32 0#32
  let main_v0 : IVec S_ 1 := cmpi .sge main_arg2 main_c
  let main_c_0 : IVec S_ 32 := constantI S_ 32 8#32
  let main_v1 : IVec S_ 1 := cmpi .slt main_arg2 main_c_0
  let main_v2 : IVec S_ 1 := andi main_v0 main_v1
  main_v2
-- ==== Pre_ffn_win_update_on_mesh.lean ====
abbrev S8x704x1024 : Shape := ⟨3, ![8, 704, 1024]⟩
abbrev S_ : Shape := ⟨0, ![]⟩
abbrev S1408x1024 : Shape := ⟨2, ![1408, 1024]⟩

class Facts : Prop where

variable [Facts]

def fn {F : FTy → Type} [FloatOps F] (main_arg0 : FVec F S8x704x1024 .bf16) (main_arg1 : FVec F S8x704x1024 .bf16) (main_arg2 : IVec S_ 32) (main_arg3 : FVec F S1408x1024 .f32) (main_arg4 : FVec F S1408x1024 .f32) (main_arg5 : FVec F S1408x1024 .f32) (main_arg6 : FVec F S1408x1024 .f32) (main_arg7 : FVec F S1408x1024 .f32) (main_arg8 : FVec F S1408x1024 .f32) (main_arg9 : FVec F S1408x1024 .f32) : IVec S_ 1 :=
  let main_c : IVec S_ 32 := constantI S_ 32 0#32
  let main_v0 : IVec S_ 1 := cmpi .sge main_arg2 main_c
  let main_c_0 : IVec S_ 32 := constantI S_ 32 8#32
  let main_v1 : IVec S_ 1 := cmpi .slt main_arg2 main_c_0
  let main_v2 : IVec S_ 1 := andi main_v0 main_v1
  main_v2
-- ==== Pre_ffn_wout_update1_on_mesh.lean ====
abbrev S8x352x1024 : Shape := ⟨3, ![8, 352, 1024]⟩
abbrev S_ : Shape := ⟨0, ![]⟩
abbrev S704x1024 : Shape := ⟨2, ![704, 1024]⟩

class Facts : Prop where

variable [Facts]

def fn {F : FTy → Type} [FloatOps F] (main_arg0 : FVec F S8x352x1024 .bf16) (main_arg1 : FVec F S8x352x1024 .bf16) (main_arg2 : IVec S_ 32) (main_arg3 : FVec F S704x1024 .f32) (main_arg4 : FVec F S704x1024 .f32) (main_arg5 : FVec F S704x1024 .f32) : IVec S_ 1 :=
  let main_c : IVec S_ 32 := constantI S_ 32 0#32
  let main_v0 : IVec S_ 1 := cmpi .sge main_arg2 main_c
  let main_c_0 : IVec S_ 32 := constantI S_ 32 8#32
  let main_v1 : IVec S_ 1 := cmpi .slt main_arg2 main_c_0
  let main_v2 : IVec S_ 1 := andi main_v0 main_v1
  main_v2
-- ==== Pre_ffn_wout_update_on_mesh.lean ====
abbrev S8x352x1024 : Shape := ⟨3, ![8, 352, 1024]⟩
abbrev S_ : Shape := ⟨0, ![]⟩
abbrev S704x1024 : Shape := ⟨2, ![704, 1024]⟩

class Facts : Prop where

variable [Facts]

def fn {F : FTy → Type} [FloatOps F] (main_arg0 : FVec F S8x352x1024 .bf16) (main_arg1 : FVec F S8x352x1024 .bf16) (main_arg2 : IVec S_ 32) (main_arg3 : FVec F S704x1024 .f32) (main_arg4 : FVec F S704x1024 .f32) (main_arg5 : FVec F S704x1024 .f32) (main_arg6 : FVec F S704x1024 .f32) (main_arg7 : FVec F S704x1024 .f32) (main_arg8 : FVec F S704x1024 .f32) (main_arg9 : FVec F S704x1024 .f32) : IVec S_ 1 :=
  let main_c : IVec S_ 32 := constantI S_ 32 0#32
  let main_v0 : IVec S_ 1 := cmpi .sge main_arg2 main_c
  let main_c_0 : IVec S_ 32 := constantI S_ 32 8#32
  let main_v1 : IVec S_ 1 := cmpi .slt main_arg2 main_c_0
  let main_v2 : IVec S_ 1 := andi main_v0 main_v1
  main_v2
-- ==== Pre_finite.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S_ : Shape := ⟨0, ![]⟩

class Facts : Prop where
  bcast_S_S2048x5632 : S_.BroadcastsInDim S2048x5632 (![] : Fin 0 → Fin S2048x5632.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S2048x2816 : S_.BroadcastsInDim S2048x2816 (![] : Fin 0 → Fin S2048x2816.rank)

variable [Facts]

def fn {F : FTy → Type} [FloatOps F] (main_arg0 : FVec F S2048x5632 .f32) (main_arg1 : FVec F S3x5632 .f32) (main_arg2 : FVec F S1x5632 .f32) (main_arg3 : FVec F S2048x2816 .f32) : IVec S2048x5632 1 × IVec S3x5632 1 × IVec S1x5632 1 × IVec S2048x2816 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S1x5632 .f32 := Host.absf main_arg2
  let main_cst_1 : FVec F S_ .f32 := constant S_ .f32 0x7F800000#32
  let main_v7 : FVec F S1x5632 .f32 := broadcastInDim S1x5632 ![] bcast_S_S1x5632 main_cst_1
  let main_v8 : IVec S1x5632 1 := cmpf .olt main_v6 main_v7
  let main_v9 : FVec F S2048x2816 .f32 := Host.absf main_arg3
  let main_cst_2 : FVec F S_ .f32 := constant S_ .f32 0x7F800000#32
  let main_v10 : FVec F S2048x2816 .f32 := broadcastInDim S2048x2816 ![] bcast_S_S2048x2816 main_cst_2
  let main_v11 : IVec S2048x2816 1 := cmpf .olt main_v9 main_v10
  (main_v2, main_v5, main_v8, main_v11)
-- ==== Pre_mix_win_update_on_mesh.lean ====
abbrev S8x320x1024 : Shape := ⟨3, ![8, 320, 1024]⟩
abbrev S_ : Shape := ⟨0, ![]⟩
abbrev S1024x320 : Shape := ⟨2, ![1024, 320]⟩

class Facts : Prop where

variable [Facts]

def fn {F : FTy → Type} [FloatOps F] (main_arg0 : FVec F S8x320x1024 .bf16) (main_arg1 : FVec F S8x320x1024 .bf16) (main_arg2 : IVec S_ 32) (main_arg3 : FVec F S1024x320 .f32) (main_arg4 : FVec F S1024x320 .f32) (main_arg5 : FVec F S1024x320 .f32) : IVec S_ 1 :=
  let main_c : IVec S_ 32 := constantI S_ 32 0#32
  let main_v0 : IVec S_ 1 := cmpi .sge main_arg2 main_c
  let main_c_0 : IVec S_ 32 := constantI S_ 32 8#32
  let main_v1 : IVec S_ 1 := cmpi .slt main_arg2 main_c_0
  let main_v2 : IVec S_ 1 := andi main_v0 main_v1
  main_v2
-- ==== Pre_mix_wout_update_on_mesh.lean ====
abbrev S8x128x1024 : Shape := ⟨3, ![8, 128, 1024]⟩
abbrev S_ : Shape := ⟨0, ![]⟩
abbrev S128x1024 : Shape := ⟨2, ![128, 1024]⟩

class Facts : Prop where

variable [Facts]

def fn {F : FTy → Type} [FloatOps F] (main_arg0 : FVec F S8x128x1024 .bf16) (main_arg1 : FVec F S8x128x1024 .bf16) (main_arg2 : IVec S_ 32) (main_arg3 : FVec F S128x1024 .f32) (main_arg4 : FVec F S128x1024 .f32) (main_arg5 : FVec F S128x1024 .f32) : IVec S_ 1 :=
  let main_c : IVec S_ 32 := constantI S_ 32 0#32
  let main_v0 : IVec S_ 1 := cmpi .sge main_arg2 main_c
  let main_c_0 : IVec S_ 32 := constantI S_ 32 8#32
  let main_v1 : IVec S_ 1 := cmpi .slt main_arg2 main_c_0
  let main_v2 : IVec S_ 1 := andi main_v0 main_v1
  main_v2
-- ==== Pre_s5_glu_update_on_mesh.lean ====
abbrev S8x64x512 : Shape := ⟨3, ![8, 64, 512]⟩
abbrev S_ : Shape := ⟨0, ![]⟩
abbrev S64x512 : Shape := ⟨2, ![64, 512]⟩

class Facts : Prop where

variable [Facts]

def fn {F : FTy → Type} [FloatOps F] (main_arg0 : FVec F S8x64x512 .bf16) (main_arg1 : FVec F S8x64x512 .bf16) (main_arg2 : IVec S_ 32) (main_arg3 : FVec F S64x512 .f32) (main_arg4 : FVec F S64x512 .f32) (main_arg5 : FVec F S64x512 .f32) : IVec S_ 1 :=
  let main_c : IVec S_ 32 := constantI S_ 32 0#32
  let main_v0 : IVec S_ 1 := cmpi .sge main_arg2 main_c
  let main_c_0 : IVec S_ 32 := constantI S_ 32 8#32
  let main_v1 : IVec S_ 1 := cmpi .slt main_arg2 main_c_0
  let main_v2 : IVec S_ 1 := andi main_v0 main_v1
  main_v2
-- ==== Kernel.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S3x2816 : Shape := ⟨2, ![3, 2816]⟩
abbrev S1x2816 : Shape := ⟨2, ![1, 2816]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 10
  | .vmem => 26
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S2048x2816, .f32⟩
  | .hbm, ⟨4, _⟩ => ⟨S2048x2816, .bf16⟩
  | .hbm, ⟨5, _⟩ => ⟨S2048x2816, .bf16⟩
  | .hbm, ⟨6, _⟩ => ⟨S3x2816, .f32⟩
  | .hbm, ⟨7, _⟩ => ⟨S3x2816, .f32⟩
  | .hbm, ⟨8, _⟩ => ⟨S1x2816, .f32⟩
  | .hbm, ⟨9, _⟩ => ⟨S1x2816, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S3x256, .f32⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S_ : Shape := ⟨0, ![]⟩
abbrev S2x5632 : Shape := ⟨2, ![2, 5632]⟩
abbrev S2046x5632 : Shape := ⟨2, ![2046, 5632]⟩
abbrev S2047x5632 : Shape := ⟨2, ![2047, 5632]⟩
abbrev S5632 : Shape := ⟨1, ![5632]⟩
abbrev S3x2816 : Shape := ⟨2, ![3, 2816]⟩
abbrev S1x2816 : Shape := ⟨2, ![1, 2816]⟩

abbrev nBuf : Space → Nat
  | .hbm => 106
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S2048x2816, .f32⟩
  | .hbm, ⟨4, _⟩ => ⟨S1x5632, .f32⟩
  | .hbm, ⟨5, _⟩ => ⟨S_, .f32⟩
  | .hbm, ⟨6, _⟩ => ⟨S2x5632, .f32⟩
  | .hbm, ⟨7, _⟩ => ⟨S2046x5632, .f32⟩
  | .hbm, ⟨8, _⟩ => ⟨S2048x5632, .f32⟩
  | .hbm, ⟨9, _⟩ => ⟨S_, .f32⟩
  | .hbm, ⟨10, _⟩ => ⟨S2x5632, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S1x5632, .f32⟩
  | .hbm, ⟨17, _⟩ => ⟨S_, .f32⟩
  | .hbm, ⟨18, _⟩ => ⟨S1x5632, .f32⟩
  | .hbm, ⟨19, _⟩ => ⟨S2047x5632, .f32⟩
  | .hbm, ⟨20, _⟩ => ⟨S2048x5632, .f32⟩
  | .hbm, ⟨21, _⟩ => ⟨S_, .f32⟩
  | .hbm, ⟨22, _⟩ => ⟨S1x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S1x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S_, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S_, .f32⟩
  | .hbm, ⟨51, _⟩ => ⟨S2048x5632, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S_, .f32⟩
  | .hbm, ⟨57, _⟩ => ⟨S2048x5632, .f32⟩
  | .hbm, ⟨58, _⟩ => ⟨S2048x5632, .f32⟩
  | .hbm, ⟨59, _⟩ => ⟨S_, .f32⟩
  | .hbm, ⟨60, _⟩ => ⟨S5632, .f32⟩
  | .hbm, ⟨61, _⟩ => ⟨S1x5632, .f32⟩
  | .hbm, ⟨62, _⟩ => ⟨S2048x5632, .f32⟩
  | .hbm, ⟨63, _⟩ => ⟨S2048x5632, .f32⟩
  | .hbm, ⟨64, _⟩ => ⟨S2048x5632, .f32⟩
  | .hbm, ⟨65, _⟩ => ⟨S_, .f32⟩
  | .hbm, ⟨66, _⟩ => ⟨S5632, .f32⟩
  | .hbm, ⟨67, _⟩ => ⟨S1x5632, .f32⟩
  | .hbm, ⟨68, _⟩ => ⟨S_, .f32⟩
  | .hbm, ⟨69, _⟩ => ⟨S3x5632, .f32⟩
  | .hbm, ⟨70, _⟩ => ⟨S2048x5632, .f32⟩
  | .hbm, ⟨71, _⟩ => ⟨S2048x5632, .f32⟩
  | .hbm, ⟨72, _⟩ => ⟨S2048x5632, .f32⟩
  | .hbm, ⟨73, _⟩ => ⟨S_, .f32⟩
  | .hbm, ⟨74, _⟩ => ⟨S5632, .f32⟩
  | .hbm, ⟨75, _⟩ => ⟨S1x5632, .f32⟩
  | .hbm, ⟨76, _⟩ => ⟨S1x5632, .f32⟩
  | .hbm, ⟨77, _⟩ => ⟨S2047x5632, .f32⟩
  | .hbm, ⟨78, _⟩ => ⟨S_, .f32⟩
  | .hbm, ⟨79, _⟩ => ⟨S2048x5632, .f32⟩
  | .hbm, ⟨80, _⟩ => ⟨S2048x5632, .f32⟩
  | .hbm, ⟨81, _⟩ => ⟨S_, .f32⟩
  | .hbm, ⟨82, _⟩ => ⟨S3x5632, .f32⟩
  | .hbm, ⟨83, _⟩ => ⟨S3x5632, .f32⟩
  | .hbm, ⟨84, _⟩ => ⟨S2048x5632, .f32⟩
  | .hbm, ⟨85, _⟩ => ⟨S2048x5632, .f32⟩
  | .hbm, ⟨86, _⟩ => ⟨S2048x5632, .f32⟩
  | .hbm, ⟨87, _⟩ => ⟨S_, .f32⟩
  | .hbm, ⟨88, _⟩ => ⟨S5632, .f32⟩
  | .hbm, ⟨89, _⟩ => ⟨S1x5632, .f32⟩
  | .hbm, ⟨90, _⟩ => ⟨S2x5632, .f32⟩
  | .hbm, ⟨91, _⟩ => ⟨S2046x5632, .f32⟩
  | .hbm, ⟨92, _⟩ => ⟨S_, .f32⟩
  | .hbm, ⟨93, _⟩ => ⟨S2048x5632, .f32⟩
  | .hbm, ⟨94, _⟩ => ⟨S2048x5632, .f32⟩
  | .hbm, ⟨95, _⟩ => ⟨S_, .f32⟩
  | .hbm, ⟨96, _⟩ => ⟨S3x5632, .f32⟩
  | .hbm, ⟨97, _⟩ => ⟨S3x5632, .f32⟩
  | .hbm, ⟨98, _⟩ => ⟨S2048x2816, .f32⟩
  | .hbm, ⟨99, _⟩ => ⟨S2048x2816, .bf16⟩
  | .hbm, ⟨100, _⟩ => ⟨S2048x2816, .f32⟩
  | .hbm, ⟨101, _⟩ => ⟨S2048x2816, .bf16⟩
  | .hbm, ⟨102, _⟩ => ⟨S3x2816, .f32⟩
  | .hbm, ⟨103, _⟩ => ⟨S3x2816, .f32⟩
  | .hbm, ⟨104, _⟩ => ⟨S1x2816, .f32⟩
  | .hbm, ⟨105, _⟩ => ⟨S1x2816, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v24_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v24_1 : Ref sig .tc := ⟨.hbm, 44, rfl⟩
abbrev main_v24_0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_cst_14 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩

abbrev nD : Nat := 1
abbrev τ : Topo := Topo.v7x

variable {F : FTy → Type} [FloatOps F]
-- ==== FfnDhn.lean ====
abbrev S2048x2816 : Shape := ⟨2, ![2048, 2816]⟩
abbrev S5632x1024 : Shape := ⟨2, ![5632, 1024]⟩
abbrev S2048x1024 : Shape := ⟨2, ![2048, 1024]⟩
abbrev S1024 : Shape := ⟨1, ![1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024x1 : Shape := ⟨2, ![1024, 1]⟩

abbrev nBuf : Space → Nat
  | .hbm => 9
  | .vmem => 15
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S5632x1024, .bf16⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_11 : BitVec 32 := 0#32
  let v19 : BitVec 1 := Scalar.cmpi .ne v18 c0_i32_11
  v19

def k0_cond3 (i : grid0.Coords) : BitVec 1 :=
  let arg0 : BitVec 32 := BitVec.ofNat 32 (i 0).val
  let c0_i32_8 : BitVec 32 := 0#32
  let v12 : BitVec 1 := Scalar.cmpi .eq arg0 c0_i32_8
  let arg1 : BitVec 32 := BitVec.ofNat 32 (i 1).val
  let c0_i32_9 : BitVec 32 := 0#32
  let v13 : BitVec 1 := Scalar.cmpi .eq arg1 c0_i32_9
  let v14 : BitVec 1 := Scalar.andi v12 v13
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== FfnDhnReferenceIdeal.lean ====
abbrev S2048x2816 : Shape := ⟨2, ![2048, 2816]⟩
abbrev S5632x1024 : Shape := ⟨2, ![5632, 1024]⟩
abbrev S2048x1024 : Shape := ⟨2, ![2048, 1024]⟩
abbrev S1024 : Shape := ⟨1, ![1024]⟩
abbrev S2048x5632 : Shape := ⟨2, ![2048, 5632]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S5632x1024, .bf16⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S2048x5632, .bf16⟩
  | .hbm, ⟨7, _⟩ => ⟨S2048x5632, .f32⟩
  | .hbm, ⟨8, _⟩ => ⟨S5632x1024, .f32⟩
  | .hbm, ⟨9, _⟩ => ⟨S1024x5632, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x5632, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S1x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== FfnDwinA.lean ====
abbrev S2048x2816 : Shape := ⟨2, ![2048, 2816]⟩
abbrev S2048x1024 : Shape := ⟨2, ![2048, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S5632x1024, .bf16⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwinAReferenceIdeal.lean ====
abbrev S2048x2816 : Shape := ⟨2, ![2048, 2816]⟩
abbrev S2048x1024 : Shape := ⟨2, ![2048, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x1024, .f32⟩
  | .hbm, ⟨3, _⟩ => ⟨S2048x2816, .f32⟩
  | .hbm, ⟨4, _⟩ => ⟨S_, .f32⟩
  | .hbm, ⟨5, _⟩ => ⟨S1024x2816, .f32⟩
  | .hbm, ⟨6, _⟩ => ⟨S2048x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnDwinB.lean ====
abbrev S2048x2816 : Shape := ⟨2, ![2048, 2816]⟩
abbrev S2048x1024 : Shape := ⟨2, ![2048, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S5632x1024, .bf16⟩
  | .hbm, ⟨3, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwinBReferenceIdeal.lean ====
abbrev S2048x2816 : Shape := ⟨2, ![2048, 2816]⟩
abbrev S2048x1024 : Shape := ⟨2, ![2048, 1024]⟩
abbrev S5632x1024 : Shape := ⟨2, ![5632, 1024]⟩
abbrev S2816x1024 : Shape := ⟨2, ![2816, 1024]⟩
abbrev S_ : Shape := ⟨0, ![]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S5632x1024, .bf16⟩
  | .hbm, ⟨3, _⟩ => ⟨S2816x1024, .bf16⟩
  | .hbm, ⟨4, _⟩ => ⟨S2048x1024, .f32⟩
  | .hbm, ⟨5, _⟩ => ⟨S2048x2816, .f32⟩
  | .hbm, ⟨6, _⟩ => ⟨S_, .f32⟩
  | .hbm, ⟨7, _⟩ => ⟨S1024x2816, .f32⟩
  | .hbm, ⟨8, _⟩ => ⟨S2048x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S5632x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== FfnDwout.lean ====
abbrev S2048x2816 : Shape := ⟨2, ![2048, 2816]⟩
abbrev S2048x1024 : Shape := ⟨2, ![2048, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwoutReferenceIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2048x2816, .f32⟩
  | .hbm, ⟨3, _⟩ => ⟨S_, .f32⟩
  | .hbm, ⟨4, _⟩ => ⟨S2816x1024, .f32⟩
  | .hbm, ⟨5, _⟩ => ⟨S2048x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDact.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2048x2816, .f32⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDactReferenceIdeal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S2048x2816, .f32⟩
  | .hbm, ⟨5, _⟩ => ⟨S2048x1024, .f32⟩
  | .hbm, ⟨6, _⟩ => ⟨S2048x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttDhn.lean ====
abbrev S2048x4608 : Shape := ⟨2, ![2048, 4608]⟩
abbrev S4608x1024 : Shape := ⟨2, ![4608, 1024]⟩
abbrev S2048x1024 : Shape := ⟨2, ![2048, 1024]⟩
abbrev S1024 : Shape := ⟨1, ![1024]⟩
abbrev S1x1024 : Shape := ⟨2, ![1, 1024]⟩
abbrev S1024x1536 : Shape := ⟨2, ![1024, 1536]⟩
abbrev S1536x1024 : Shape := ⟨2, ![1536, 1024]⟩
abbrev S1024x1024 : Shape := ⟨2, ![1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x4608, .bf16⟩
  | .hbm, ⟨1, _⟩ => ⟨S4608x1024, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S1x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 3], ![false, false]⟩

def k0_cond4 (i : grid0.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_9 : BitVec 32 := 0#32
  let v16 : BitVec 1 := Scalar.cmpi .ne v15 c0_i32_9
  v16

def k0_cond3 (i : grid0.Coords) : BitVec 1 :=
  let arg0 : BitVec 32 := BitVec.ofNat 32 (i 0).val
  let c0_i32_6 : BitVec 32 := 0#32
  let v9 : BitVec 1 := Scalar.cmpi .eq arg0 c0_i32_6
  let arg1 : BitVec 32 := BitVec.ofNat 32 (i 1).val
  let c0_i32_7 : BitVec 32 := 0#32
  let v10 : BitVec 1 := Scalar.cmpi .eq arg1 c0_i32_7
  let v11 : BitVec 1 := Scalar.andi v9 v10
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== AttDhnReferenceIdeal.lean ====
abbrev S2048x4608 : Shape := ⟨2, ![2048, 4608]⟩
abbrev S4608x1024 : Shape := ⟨2, ![4608, 1024]⟩
abbrev S2048x1024 : Shape := ⟨2, ![2048, 1024]⟩
abbrev S1024 : Shape := ⟨1, ![1024]⟩
abbrev S1024x4608 : Shape := ⟨2, ![1024, 4608]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x4608, .bf16⟩
  | .hbm, ⟨1, _⟩ => ⟨S4608x1024, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x4608, .f32⟩
  | .hbm, ⟨6, _⟩ => ⟨S4608x1024, .f32⟩
  | .hbm, ⟨7, _⟩ => ⟨S1024x4608, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x4608, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S1x1024, .f32⟩
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== MixDhn.lean ====
abbrev S2048x2560 : Shape := ⟨2, ![2048, 2560]⟩
abbrev S2560x1024 : Shape := ⟨2, ![2560, 1024]⟩
abbrev S2048x1024 : Shape := ⟨2, ![2048, 1024]⟩
abbrev S1024 : Shape := ⟨1, ![1024]⟩
abbrev S1x1024 : Shape := ⟨2, ![1, 1024]⟩
abbrev S1024x1280 : Shape := ⟨2, ![1024, 1280]⟩
abbrev S1280x1024 : Shape := ⟨2, ![1280, 1024]⟩
abbrev S1024x1024 : Shape := ⟨2, ![1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x2560, .bf16⟩
  | .hbm, ⟨1, _⟩ => ⟨S2560x1024, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S1x1024, .f32⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 2], ![false, false]⟩

def k0_cond4 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_9 : BitVec 32 := 0#32
  let v16 : BitVec 1 := Scalar.cmpi .ne v15 c0_i32_9
  v16

def k0_cond3 (i : grid0.Coords) : BitVec 1 :=
  let arg0 : BitVec 32 := BitVec.ofNat 32 (i 0).val
  let c0_i32_6 : BitVec 32 := 0#32
  let v9 : BitVec 1 := Scalar.cmpi .eq arg0 c0_i32_6
  let arg1 : BitVec 32 := BitVec.ofNat 32 (i 1).val
  let c0_i32_7 : BitVec 32 := 0#32
  let v10 : BitVec 1 := Scalar.cmpi .eq arg1 c0_i32_7
  let v11 : BitVec 1 := Scalar.andi v9 v10
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== MixDhnReferenceIdeal.lean ====
abbrev S2048x2560 : Shape := ⟨2, ![2048, 2560]⟩
abbrev S2560x1024 : Shape := ⟨2, ![2560, 1024]⟩
abbrev S2048x1024 : Shape := ⟨2, ![2048, 1024]⟩
abbrev S1024 : Shape := ⟨1, ![1024]⟩
abbrev S1024x2560 : Shape := ⟨2, ![1024, 2560]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2560x1024, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x2560, .f32⟩
  | .hbm, ⟨6, _⟩ => ⟨S2560x1024, .f32⟩
  | .hbm, ⟨7, _⟩ => ⟨S1024x2560, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x2560, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S1x1024, .f32⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== AttDwqkv.lean ====
abbrev S2048x4608 : Shape := ⟨2, ![2048, 4608]⟩
abbrev S2048x1024 : Shape := ⟨2, ![2048, 1024]⟩
abbrev S4608x1024 : Shape := ⟨2, ![4608, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4608, .bf16⟩
  | .hbm, ⟨1, _⟩ => ⟨S2048x1024, .bf16⟩
  | .hbm, ⟨2, _⟩ => ⟨S4608x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttDwqkvReferenceIdeal.lean ====
abbrev S2048x4608 : Shape := ⟨2, ![2048, 4608]⟩
abbrev S2048x1024 : Shape := ⟨2, ![2048, 1024]⟩
abbrev S_ : Shape := ⟨0, ![]⟩
abbrev S1024x4608 : Shape := ⟨2, ![1024, 4608]⟩
abbrev S4608x1024 : Shape := ⟨2, ![4608, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x4608, .bf16⟩
  | .hbm, ⟨1, _⟩ => ⟨S2048x1024, .bf16⟩
  | .hbm, ⟨2, _⟩ => ⟨S2048x1024, .f32⟩
  | .hbm, ⟨3, _⟩ => ⟨S2048x4608, .f32⟩
  | .hbm, ⟨4, _⟩ => ⟨S_, .f32⟩
  | .hbm, ⟨5, _⟩ => ⟨S1024x4608, .f32⟩
  | .hbm, ⟨6, _⟩ => ⟨S2048x4608, .f32⟩
  | .hbm, ⟨7, _⟩ => ⟨S4608x1024, .f32⟩
  | .hbm, ⟨8, _⟩ => ⟨S1024x4608, .f32⟩
  | .hbm, ⟨9, _⟩ => ⟨S4608x1024, .f32⟩
  | .hbm, ⟨10, _⟩ => ⟨S4608x1024, .bf16⟩
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixDwin.lean ====
abbrev S2048x2560 : Shape := ⟨2, ![2048, 2560]⟩
abbrev S2048x1024 : Shape := ⟨2, ![2048, 1024]⟩
abbrev S2560x1024 : Shape := ⟨2, ![2560, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2560, .bf16⟩
  | .hbm, ⟨1, _⟩ => ⟨S2048x1024, .bf16⟩
  | .hbm, ⟨2, _⟩ => ⟨S2560x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwinReferenceIdeal.lean ====
abbrev S2048x2560 : Shape := ⟨2, ![2048, 2560]⟩
abbrev S2048x1024 : Shape := ⟨2, ![2048, 1024]⟩
abbrev S_ : Shape := ⟨0, ![]⟩
abbrev S1024x2560 : Shape := ⟨2, ![1024, 2560]⟩
abbrev S2560x1024 : Shape := ⟨2, ![2560, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2048x1024, .bf16⟩
  | .hbm, ⟨2, _⟩ => ⟨S2048x1024, .f32⟩
  | .hbm, ⟨3, _⟩ => ⟨S2048x2560, .f32⟩
  | .hbm, ⟨4, _⟩ => ⟨S_, .f32⟩
  | .hbm, ⟨5, _⟩ => ⟨S1024x2560, .f32⟩
  | .hbm, ⟨6, _⟩ => ⟨S2048x2560, .f32⟩
  | .hbm, ⟨7, _⟩ => ⟨S2560x1024, .f32⟩
  | .hbm, ⟨8, _⟩ => ⟨S1024x2560, .f32⟩
  | .hbm, ⟨9, _⟩ => ⟨S2560x1024, .f32⟩
  | .hbm, ⟨10, _⟩ => ⟨S2560x1024, .bf16⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixDwout.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwoutReferenceIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixDcat.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDcatReferenceIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttDwo.lean ====
abbrev S2048x512 : Shape := ⟨2, ![2048, 512]⟩
abbrev S2048x1024 : Shape := ⟨2, ![2048, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x1024, .f32⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttDwoReferenceIdeal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .f32⟩
  | .hbm, ⟨2, _⟩ => ⟨S2048x512, .f32⟩
  | .hbm, ⟨3, _⟩ => ⟨S_, .f32⟩
  | .hbm, ⟨4, _⟩ => ⟨S512x1024, .f32⟩
  | .hbm, ⟨5, _⟩ => ⟨S2048x1024, .f32⟩
  | .hbm, ⟨6, _⟩ => ⟨S1024x512, .f32⟩
  | .hbm, ⟨7, _⟩ => ⟨S512x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttDmix.lean ====
abbrev S2048x1024 : Shape := ⟨2, ![2048, 1024]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S512x1024, .bf16⟩
  | .hbm, ⟨2, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttDmixReferenceIdeal.lean ====
abbrev S2048x1024 : Shape := ⟨2, ![2048, 1024]⟩
abbrev S512x1024 : Shape := ⟨2, ![512, 1024]⟩
abbrev S_ : Shape := ⟨0, ![]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S512x1024, .bf16⟩
  | .hbm, ⟨2, _⟩ => ⟨S512x1024, .f32⟩
  | .hbm, ⟨3, _⟩ => ⟨S_, .f32⟩
  | .hbm, ⟨4, _⟩ => ⟨S2048x512, .f32⟩
  | .hbm, ⟨5, _⟩ => ⟨S2048x1024, .f32⟩
  | .hbm, ⟨6, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnOut.lean ====
abbrev S2048x2816 : Shape := ⟨2, ![2048, 2816]⟩
abbrev S2816x1024 : Shape := ⟨2, ![2816, 1024]⟩
abbrev S2048x1024 : Shape := ⟨2, ![2048, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutReferenceIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixOut.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutReferenceIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttOut.lean ====
abbrev S2048x512 : Shape := ⟨2, ![2048, 512]⟩
abbrev S512x1024 : Shape := ⟨2, ![512, 1024]⟩
abbrev S2048x1024 : Shape := ⟨2, ![2048, 1024]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S512x1024, .bf16⟩
  | .hbm, ⟨2, _⟩ => ⟨S2048x1024, .f32⟩
  | .hbm, ⟨3, _⟩ => ⟨S2048x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttOutReferenceIdeal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x1024, .bf16⟩
  | .hbm, ⟨2, _⟩ => ⟨S2048x1024, .f32⟩
  | .hbm, ⟨3, _⟩ => ⟨S2048x512, .f32⟩
  | .hbm, ⟨4, _⟩ => ⟨S512x1024, .f32⟩
  | .hbm, ⟨5, _⟩ => ⟨S2048x1024, .f32⟩
  | .hbm, ⟨6, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== S5Dglu.lean ====
abbrev S2048x512 : Shape := ⟨2, ![2048, 512]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S512x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== S5DgluReferenceIdeal.lean ====
abbrev S2048x512 : Shape := ⟨2, ![2048, 512]⟩
abbrev S_ : Shape := ⟨0, ![]⟩
abbrev S512x512 : Shape := ⟨2, ![512, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S512x512, .f32⟩
  | .hbm, ⟨6, _⟩ => ⟨S2048x512, .f32⟩
  | .hbm, ⟨7, _⟩ => ⟨S512x512, .f32⟩
  | .hbm, ⟨8, _⟩ => ⟨S512x512, .f32⟩
  | .hbm, ⟨9, _⟩ => ⟨S512x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnIn.lean ====
abbrev S2048x1024 : Shape := ⟨2, ![2048, 1024]⟩
abbrev S1024 : Shape := ⟨1, ![1024]⟩
abbrev S5632x1024 : Shape := ⟨2, ![5632, 1024]⟩
abbrev S1x1024 : Shape := ⟨2, ![1, 1024]⟩
abbrev S2048x5632 : Shape := ⟨2, ![2048, 5632]⟩
abbrev S512x1024 : Shape := ⟨2, ![512, 1024]⟩
abbrev S2048x512 : Shape := ⟨2, ![2048, 512]⟩
abbrev S2048 : Shape := ⟨1, ![2048]⟩
abbrev S2048x1 : Shape := ⟨2, ![2048, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S5632x1024, .bf16⟩
  | .hbm, ⟨3, _⟩ => ⟨S1x1024, .f32⟩
  | .hbm, ⟨4, _⟩ => ⟨S2048x1024, .bf16⟩
  | .hbm, ⟨5, _⟩ => ⟨S2048x5632, .f32⟩
  | .local _ .vmem, ⟨0, _⟩ => ⟨S2048x1024, .f32⟩
  | .local _ .vmem, ⟨1, _⟩ => ⟨S1x1024, .f32⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S2048x512, .f32⟩
  | .local _ .vmem, ⟨6, _⟩ => ⟨S2048x512, .f32⟩
  | .local _ .vmem, ⟨7, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnInReferenceIdeal.lean ====
abbrev S2048x1024 : Shape := ⟨2, ![2048, 1024]⟩
abbrev S1024 : Shape := ⟨1, ![1024]⟩
abbrev S5632x1024 : Shape := ⟨2, ![5632, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x5632 : Shape := ⟨2, ![1024, 5632]⟩
abbrev S2048x5632 : Shape := ⟨2, ![2048, 5632]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S5632x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S5632x1024, .f32⟩
  | .hbm, ⟨21, _⟩ => ⟨S1024x5632, .f32⟩
  | .hbm, ⟨22, _⟩ => ⟨S2048x5632, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== S5GluUpdate.lean ====
abbrev S8x64x512 : Shape := ⟨3, ![8, 64, 512]⟩
abbrev S_ : Shape := ⟨0, ![]⟩
abbrev S64x512 : Shape := ⟨2, ![64, 512]⟩
abbrev S1 : Shape := ⟨1, ![1]⟩
abbrev S1x64x512 : Shape := ⟨3, ![1, 64, 512]⟩

abbrev nBuf : Space → Nat
  | .hbm => 10
  | .vmem => 9
  | .smem => 1
  | _ => 0

abbrev bufTy : (tb : Table) → Fin (tcTables nBuf tb) → BufTy
  | .hbm, ⟨0, _⟩ => ⟨S8x64x512, .bf16⟩
  | .hbm, ⟨1, _⟩ => ⟨S8x64x512, .bf16⟩
  | .hbm, ⟨2, _⟩ => ⟨S_, .i32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .hbm, ⟨8, _⟩ => ⟨S64x512, .f32⟩
  | .hbm, ⟨9, _⟩ => ⟨S64x512, .f32⟩
  | .local _ .vmem, ⟨0, _⟩ => ⟨S8x64x512, .bf16⟩
  | .local _ .vmem, ⟨1, _⟩ => ⟨S1x64x512, .bf16⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .smem, ⟨0, _⟩ => ⟨S1, .i32⟩
  | _, _ => ⟨S8x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== S5GluUpdateReferenceIdeal.lean ====
abbrev S8x64x512 : Shape := ⟨3, ![8, 64, 512]⟩
abbrev S_ : Shape := ⟨0, ![]⟩
abbrev S64x512 : Shape := ⟨2, ![64, 512]⟩

abbrev nBuf : Space → Nat
  | .hbm => 46
  | .vmem => 0
  | .smem => 0
  | _ => 0

abbrev bufTy : (tb : Table) → Fin (tcTables nBuf tb) → BufTy
  | .hbm, ⟨0, _⟩ => ⟨S8x64x512, .bf16⟩
  | .hbm, ⟨1, _⟩ => ⟨S8x64x512, .bf16⟩
  | .hbm, ⟨2, _⟩ => ⟨S_, .i32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S8x64x512, .i32⟩
  | .hbm, ⟨7, _⟩ => ⟨S8x64x512, .i32⟩
  | .hbm, ⟨8, _⟩ => ⟨S8x64x512, .i1⟩
  | .hbm, ⟨9, _⟩ => ⟨S8x64x512, .bf16⟩
  | .hbm, ⟨10, _⟩ => ⟨S8x64x512, .f32⟩
  | .hbm, ⟨11, _⟩ => ⟨S_, .f32⟩
  | .hbm, ⟨12, _⟩ => ⟨S64x512, .f32⟩
  | .hbm, ⟨13, _⟩ => ⟨S_, .f32⟩
  | .hbm, ⟨14, _⟩ => ⟨S64x512, .f32⟩
  | .hbm, ⟨15, _⟩ => ⟨S64x512, .f32⟩
  | .hbm, ⟨16, _⟩ => ⟨S_, .f32⟩
  | .hbm, ⟨17, _⟩ => ⟨S64x512, .f32⟩
  | .hbm, ⟨18, _⟩ => ⟨S64x512, .f32⟩
  | .hbm, ⟨19, _⟩ => ⟨S64x512, .f32⟩
  | .hbm, ⟨20, _⟩ => ⟨S_, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S_, .f32⟩
  | .hbm, ⟨25, _⟩ => ⟨S64x512, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S_, .f32⟩
  | .hbm, ⟨32, _⟩ => ⟨S64x512, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S64x512, .f32⟩
  | .hbm, ⟨39, _⟩ => ⟨S_, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S_, .f32⟩
  | .hbm, ⟨44, _⟩ => ⟨S64x512, .f32⟩
  | .hbm, ⟨45, _⟩ => ⟨S64x512, .f32⟩
  | _, _ => ⟨S8x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== AttWoUpdate.lean ====
abbrev S8x512x128 : Shape := ⟨3, ![8, 512, 128]⟩
abbrev S_ : Shape := ⟨0, ![]⟩
abbrev S512x128 : Shape := ⟨2, ![512, 128]⟩
abbrev S1 : Shape := ⟨1, ![1]⟩
abbrev S8x128x128 : Shape := ⟨3, ![8, 128, 128]⟩
abbrev S1x128x128 : Shape := ⟨3, ![1, 128, 128]⟩
abbrev S128x128 : Shape := ⟨2, ![128, 128]⟩

abbrev nBuf : Space → Nat
  | .hbm => 10
  | .vmem => 18
  | .smem => 1
  | _ => 0

abbrev bufTy : (tb : Table) → Fin (tcTables nBuf tb) → BufTy
  | .hbm, ⟨0, _⟩ => ⟨S8x512x128, .f32⟩
  | .hbm, ⟨1, _⟩ => ⟨S8x512x128, .f32⟩
  | .hbm, ⟨2, _⟩ => ⟨S_, .i32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .local _ .vmem, ⟨0, _⟩ => ⟨S8x128x128, .f32⟩
  | .local _ .vmem, ⟨1, _⟩ => ⟨S8x128x128, .f32⟩
  | .local _ .vmem, ⟨2, _⟩ => ⟨S1x128x128, .f32⟩
  | .local _ .vmem, ⟨3, _⟩ => ⟨S1x128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .smem, ⟨0, _⟩ => ⟨S1, .i32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttWoUpdateReferenceIdeal.lean ====
abbrev S8x512x128 : Shape := ⟨3, ![8, 512, 128]⟩
abbrev S_ : Shape := ⟨0, ![]⟩
abbrev S512x128 : Shape := ⟨2, ![512, 128]⟩

abbrev nBuf : Space → Nat
  | .hbm => 45
  | .vmem => 0
  | .smem => 0
  | _ => 0

abbrev bufTy : (tb : Table) → Fin (tcTables nBuf tb) → BufTy
  | .hbm, ⟨0, _⟩ => ⟨S8x512x128, .f32⟩
  | .hbm, ⟨1, _⟩ => ⟨S8x512x128, .f32⟩
  | .hbm, ⟨2, _⟩ => ⟨S_, .i32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S8x512x128, .i32⟩
  | .hbm, ⟨7, _⟩ => ⟨S8x512x128, .i32⟩
  | .hbm, ⟨8, _⟩ => ⟨S8x512x128, .i1⟩
  | .hbm, ⟨9, _⟩ => ⟨S8x512x128, .f32⟩
  | .hbm, ⟨10, _⟩ => ⟨S_, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S512x128, .f32⟩
  | .hbm, ⟨23, _⟩ => ⟨S_, .f32⟩
  | .hbm, ⟨24, _⟩ => ⟨S512x128, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | .hbm, ⟨37, _⟩ => ⟨S512x128, .f32⟩
  | .hbm, ⟨38, _⟩ => ⟨S_, .f32⟩
  | .hbm, ⟨39, _⟩ => ⟨S512x128, .f32⟩
  | .hbm, ⟨40, _⟩ => ⟨S512x128, .f32⟩
  | .hbm, ⟨41, _⟩ => ⟨S512x128, .f32⟩
  | .hbm, ⟨42, _⟩ => ⟨S_, .f32⟩
  | .hbm, ⟨43, _⟩ => ⟨S512x128, .f32⟩
  | .hbm, ⟨44, _⟩ => ⟨S512x128, .f32⟩
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== MixWoutUpdate.lean ====
abbrev S8x128x1024 : Shape := ⟨3, ![8, 128, 1024]⟩
abbrev S_ : Shape := ⟨0, ![]⟩
abbrev S128x1024 : Shape := ⟨2, ![128, 1024]⟩
abbrev S1 : Shape := ⟨1, ![1]⟩
abbrev S1x128x1024 : Shape := ⟨3, ![1, 128, 1024]⟩

abbrev nBuf : Space → Nat
  | .hbm => 10
  | .vmem => 9
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S_, .i32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S8x128x1024, .bf16⟩
  | .local _ .vmem, ⟨1, _⟩ => ⟨S1x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== MixWoutUpdateReferenceIdeal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S_, .i32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8x128x1024, .i32⟩
  | .hbm, ⟨7, _⟩ => ⟨S8x128x1024, .i32⟩
  | .hbm, ⟨8, _⟩ => ⟨S8x128x1024, .i1⟩
  | .hbm, ⟨9, _⟩ => ⟨S8x128x1024, .bf16⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== MixWinUpdate.lean ====
abbrev S8x320x1024 : Shape := ⟨3, ![8, 320, 1024]⟩
abbrev S_ : Shape := ⟨0, ![]⟩
abbrev S1024x320 : Shape := ⟨2, ![1024, 320]⟩
abbrev S320x1024 : Shape := ⟨2, ![320, 1024]⟩
abbrev S1 : Shape := ⟨1, ![1]⟩
abbrev S8x160x1024 : Shape := ⟨3, ![8, 160, 1024]⟩
abbrev S1x160x1024 : Shape := ⟨3, ![1, 160, 1024]⟩
abbrev S160x1024 : Shape := ⟨2, ![160, 1024]⟩

abbrev nBuf : Space → Nat
  | .hbm => 17
  | .vmem => 18
  | .smem => 1
  | _ => 0

abbrev bufTy : (tb : Table) → Fin (tcTables nBuf tb) → BufTy
  | .hbm, ⟨0, _⟩ => ⟨S8x320x1024, .bf16⟩
  | .hbm, ⟨1, _⟩ => ⟨S8x320x1024, .bf16⟩
  | .hbm, ⟨2, _⟩ => ⟨S_, .i32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S320x1024, .f32⟩
  | .hbm, ⟨7, _⟩ => ⟨S320x1024, .f32⟩
  | .hbm, ⟨8, _⟩ => ⟨S320x1024, .f32⟩
  | .hbm, ⟨9, _⟩ => ⟨S320x1024, .f32⟩
  | .hbm, ⟨10, _⟩ => ⟨S320x1024, .f32⟩
  | .hbm, ⟨11, _⟩ => ⟨S320x1024, .f32⟩
  | .hbm, ⟨12, _⟩ => ⟨S320x1024, .f32⟩
  | .hbm, ⟨13, _⟩ => ⟨S1024x320, .f32⟩
  | .hbm, ⟨14, _⟩ => ⟨S1024x320, .f32⟩
  | .hbm, ⟨15, _⟩ => ⟨S1024x320, .f32⟩
  | .hbm, ⟨16, _⟩ => ⟨S1024x320, .f32⟩
  | .local _ .vmem, ⟨0, _⟩ => ⟨S8x160x1024, .bf16⟩
  | .local _ .vmem, ⟨1, _⟩ => ⟨S8x160x1024, .bf16⟩
  | .local _ .vmem, ⟨2, _⟩ => ⟨S1x160x1024, .bf16⟩
  | .local _ .vmem, ⟨3, _⟩ => ⟨S1x160x1024, .bf16⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S160x1024, .f32⟩
  | .local _ .vmem, ⟨11, _⟩ => ⟨S160x1024, .f32⟩
  | .local _ .vmem, ⟨12, _⟩ => ⟨S160x1024, .f32⟩
  | .local _ .vmem, ⟨13, _⟩ => ⟨S160x1024, .f32⟩
  | .local _ .vmem, ⟨14, _⟩ => ⟨S160x1024, .f32⟩
  | .local _ .vmem, ⟨15, _⟩ => ⟨S160x1024, .f32⟩
  | .local _ .vmem, ⟨16, _⟩ => ⟨S160x1024, .f32⟩
  | .local _ .vmem, ⟨17, _⟩ => ⟨S160x1024, .f32⟩
  | .local _ .smem, ⟨0, _⟩ => ⟨S1, .i32⟩
  | _, _ => ⟨S8x320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S8x160x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S160x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixWinUpdateReferenceIdeal.lean ====
abbrev S8x320x1024 : Shape := ⟨3, ![8, 320, 1024]⟩
abbrev S_ : Shape := ⟨0, ![]⟩
abbrev S1024x320 : Shape := ⟨2, ![1024, 320]⟩
abbrev S320x1024 : Shape := ⟨2, ![320, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x320x1024, .bf16⟩
  | .hbm, ⟨1, _⟩ => ⟨S8x320x1024, .bf16⟩
  | .hbm, ⟨2, _⟩ => ⟨S_, .i32⟩
  | .hbm, ⟨3, _⟩ => ⟨S1024x320, .f32⟩
  | .hbm, ⟨4, _⟩ => ⟨S1024x320, .f32⟩
  | .hbm, ⟨5, _⟩ => ⟨S1024x320, .f32⟩
  | .hbm, ⟨6, _⟩ => ⟨S8x320x1024, .i32⟩
  | .hbm, ⟨7, _⟩ => ⟨S8x320x1024, .i32⟩
  | .hbm, ⟨8, _⟩ => ⟨S8x320x1024, .i1⟩
  | .hbm, ⟨9, _⟩ => ⟨S8x320x1024, .bf16⟩
  | .hbm, ⟨10, _⟩ => ⟨S8x320x1024, .f32⟩
  | .hbm, ⟨11, _⟩ => ⟨S_, .f32⟩
  | .hbm, ⟨12, _⟩ => ⟨S320x1024, .f32⟩
  | .hbm, ⟨13, _⟩ => ⟨S1024x320, .f32⟩
  | .hbm, ⟨14, _⟩ => ⟨S_, .f32⟩
  | .hbm, ⟨15, _⟩ => ⟨S1024x320, .f32⟩
  | .hbm, ⟨16, _⟩ => ⟨S1024x320, .f32⟩
  | .hbm, ⟨17, _⟩ => ⟨S_, .f32⟩
  | .hbm, ⟨18, _⟩ => ⟨S1024x320, .f32⟩
  | .hbm, ⟨19, _⟩ => ⟨S1024x320, .f32⟩
  | .hbm, ⟨20, _⟩ => ⟨S1024x320, .f32⟩
  | .hbm, ⟨21, _⟩ => ⟨S_, .f32⟩
  | .hbm, ⟨22, _⟩ => ⟨S1024x320, .f32⟩
  | .hbm, ⟨23, _⟩ => ⟨S1024x320, .f32⟩
  | .hbm, ⟨24, _⟩ => ⟨S1024x320, .f32⟩
  | .hbm, ⟨25, _⟩ => ⟨S_, .f32⟩
  | .hbm, ⟨26, _⟩ => ⟨S1024x320, .f32⟩
  | .hbm, ⟨27, _⟩ => ⟨S1024x320, .f32⟩
  | .hbm, ⟨28, _⟩ => ⟨S1024x320, .f32⟩
  | .hbm, ⟨29, _⟩ => ⟨S_, .f32⟩
  | .hbm, ⟨30, _⟩ => ⟨S1024x320, .f32⟩
  | .hbm, ⟨31, _⟩ => ⟨S1024x320, .f32⟩
  | .hbm, ⟨32, _⟩ => ⟨S_, .f32⟩
  | .hbm, ⟨33, _⟩ => ⟨S1024x320, .f32⟩
  | .hbm, ⟨34, _⟩ => ⟨S1024x320, .f32⟩
  | .hbm, ⟨35, _⟩ => ⟨S1024x320, .f32⟩
  | .hbm, ⟨36, _⟩ => ⟨S_, .f32⟩
  | .hbm, ⟨37, _⟩ => ⟨S1024x320, .f32⟩
  | .hbm, ⟨38, _⟩ => ⟨S1024x320, .f32⟩
  | .hbm, ⟨39, _⟩ => ⟨S1024x320, .f32⟩
  | .hbm, ⟨40, _⟩ => ⟨S_, .f32⟩
  | .hbm, ⟨41, _⟩ => ⟨S1024x320, .f32⟩
  | .hbm, ⟨42, _⟩ => ⟨S1024x320, .f32⟩
  | .hbm, ⟨43, _⟩ => ⟨S1024x320, .f32⟩
  | .hbm, ⟨44, _⟩ => ⟨S_, .f32⟩
  | .hbm, ⟨45, _⟩ => ⟨S1024x320, .f32⟩
  | .hbm, ⟨46, _⟩ => ⟨S1024x320, .f32⟩
  | _, _ => ⟨S8x320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AttWqkvUpdate.lean ====
abbrev S8x576x1024 : Shape := ⟨3, ![8, 576, 1024]⟩
abbrev S_ : Shape := ⟨0, ![]⟩
abbrev S1024x576 : Shape := ⟨2, ![1024, 576]⟩
abbrev S576x1024 : Shape := ⟨2, ![576, 1024]⟩
abbrev S1 : Shape := ⟨1, ![1]⟩
abbrev S8x192x1024 : Shape := ⟨3, ![8, 192, 1024]⟩
abbrev S1x192x1024 : Shape := ⟨3, ![1, 192, 1024]⟩
abbrev S192x1024 : Shape := ⟨2, ![192, 1024]⟩

abbrev nBuf : Space → Nat
  | .hbm => 17
  | .vmem => 18
  | .smem => 1
  | _ => 0

abbrev bufTy : (tb : Table) → Fin (tcTables nBuf tb) → BufTy
  | .hbm, ⟨0, _⟩ => ⟨S8x576x1024, .bf16⟩
  | .hbm, ⟨1, _⟩ => ⟨S8x576x1024, .bf16⟩
  | .hbm, ⟨2, _⟩ => ⟨S_, .i32⟩
  | .hbm, ⟨3, _⟩ => ⟨S1024x576, .f32⟩
  | .hbm, ⟨4, _⟩ => ⟨S1024x576, .f32⟩
  | .hbm, ⟨5, _⟩ => ⟨S1024x576, .f32⟩
  | .hbm, ⟨6, _⟩ => ⟨S576x1024, .f32⟩
  | .hbm, ⟨7, _⟩ => ⟨S576x1024, .f32⟩
  | .hbm, ⟨8, _⟩ => ⟨S576x1024, .f32⟩
  | .hbm, ⟨9, _⟩ => ⟨S576x1024, .f32⟩
  | .hbm, ⟨10, _⟩ => ⟨S576x1024, .f32⟩
  | .hbm, ⟨11, _⟩ => ⟨S576x1024, .f32⟩
  | .hbm, ⟨12, _⟩ => ⟨S576x1024, .f32⟩
  | .hbm, ⟨13, _⟩ => ⟨S1024x576, .f32⟩
  | .hbm, ⟨14, _⟩ => ⟨S1024x576, .f32⟩
  | .hbm, ⟨15, _⟩ => ⟨S1024x576, .f32⟩
  | .hbm, ⟨16, _⟩ => ⟨S1024x576, .f32⟩
  | .local _ .vmem, ⟨0, _⟩ => ⟨S8x192x1024, .bf16⟩
  | .local _ .vmem, ⟨1, _⟩ => ⟨S8x192x1024, .bf16⟩
  | .local _ .vmem, ⟨2, _⟩ => ⟨S1x192x1024, .bf16⟩
  | .local _ .vmem, ⟨3, _⟩ => ⟨S1x192x1024, .bf16⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | .local _ .vmem, ⟨16, _⟩ => ⟨S192x1024, .f32⟩
  | .local _ .vmem, ⟨17, _⟩ => ⟨S192x1024, .f32⟩
  | .local _ .smem, ⟨0, _⟩ => ⟨S1, .i32⟩
  | _, _ => ⟨S8x576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S8x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttWqkvUpdateReferenceIdeal.lean ====
abbrev S8x576x1024 : Shape := ⟨3, ![8, 576, 1024]⟩
abbrev S_ : Shape := ⟨0, ![]⟩
abbrev S1024x576 : Shape := ⟨2, ![1024, 576]⟩
abbrev S576x1024 : Shape := ⟨2, ![576, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x576x1024, .bf16⟩
  | .hbm, ⟨1, _⟩ => ⟨S8x576x1024, .bf16⟩
  | .hbm, ⟨2, _⟩ => ⟨S_, .i32⟩
  | .hbm, ⟨3, _⟩ => ⟨S1024x576, .f32⟩
  | .hbm, ⟨4, _⟩ => ⟨S1024x576, .f32⟩
  | .hbm, ⟨5, _⟩ => ⟨S1024x576, .f32⟩
  | .hbm, ⟨6, _⟩ => ⟨S8x576x1024, .i32⟩
  | .hbm, ⟨7, _⟩ => ⟨S8x576x1024, .i32⟩
  | .hbm, ⟨8, _⟩ => ⟨S8x576x1024, .i1⟩
  | .hbm, ⟨9, _⟩ => ⟨S8x576x1024, .bf16⟩
  | .hbm, ⟨10, _⟩ => ⟨S8x576x1024, .f32⟩
  | .hbm, ⟨11, _⟩ => ⟨S_, .f32⟩
  | .hbm, ⟨12, _⟩ => ⟨S576x1024, .f32⟩
  | .hbm, ⟨13, _⟩ => ⟨S1024x576, .f32⟩
  | .hbm, ⟨14, _⟩ => ⟨S_, .f32⟩
  | .hbm, ⟨15, _⟩ => ⟨S1024x576, .f32⟩
  | .hbm, ⟨16, _⟩ => ⟨S1024x576, .f32⟩
  | .hbm, ⟨17, _⟩ => ⟨S_, .f32⟩
  | .hbm, ⟨18, _⟩ => ⟨S1024x576, .f32⟩
  | .hbm, ⟨19, _⟩ => ⟨S1024x576, .f32⟩
  | .hbm, ⟨20, _⟩ => ⟨S1024x576, .f32⟩
  | .hbm, ⟨21, _⟩ => ⟨S_, .f32⟩
  | .hbm, ⟨22, _⟩ => ⟨S1024x576, .f32⟩
  | .hbm, ⟨23, _⟩ => ⟨S1024x576, .f32⟩
  | .hbm, ⟨24, _⟩ => ⟨S1024x576, .f32⟩
  | .hbm, ⟨25, _⟩ => ⟨S_, .f32⟩
  | .hbm, ⟨26, _⟩ => ⟨S1024x576, .f32⟩
  | .hbm, ⟨27, _⟩ => ⟨S1024x576, .f32⟩
  | .hbm, ⟨28, _⟩ => ⟨S1024x576, .f32⟩
  | .hbm, ⟨29, _⟩ => ⟨S_, .f32⟩
  | .hbm, ⟨30, _⟩ => ⟨S1024x576, .f32⟩
  | .hbm, ⟨31, _⟩ => ⟨S1024x576, .f32⟩
  | .hbm, ⟨32, _⟩ => ⟨S_, .f32⟩
  | .hbm, ⟨33, _⟩ => ⟨S1024x576, .f32⟩
  | .hbm, ⟨34, _⟩ => ⟨S1024x576, .f32⟩
  | .hbm, ⟨35, _⟩ => ⟨S1024x576, .f32⟩
  | .hbm, ⟨36, _⟩ => ⟨S_, .f32⟩
  | .hbm, ⟨37, _⟩ => ⟨S1024x576, .f32⟩
  | .hbm, ⟨38, _⟩ => ⟨S1024x576, .f32⟩
  | .hbm, ⟨39, _⟩ => ⟨S1024x576, .f32⟩
  | .hbm, ⟨40, _⟩ => ⟨S_, .f32⟩
  | .hbm, ⟨41, _⟩ => ⟨S1024x576, .f32⟩
  | .hbm, ⟨42, _⟩ => ⟨S1024x576, .f32⟩
  | .hbm, ⟨43, _⟩ => ⟨S1024x576, .f32⟩
  | .hbm, ⟨44, _⟩ => ⟨S_, .f32⟩
  | .hbm, ⟨45, _⟩ => ⟨S1024x576, .f32⟩
  | .hbm, ⟨46, _⟩ => ⟨S1024x576, .f32⟩
  | _, _ => ⟨S8x576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== FfnWoutUpdate1.lean ====
abbrev S8x352x1024 : Shape := ⟨3, ![8, 352, 1024]⟩
abbrev S_ : Shape := ⟨0, ![]⟩
abbrev S704x1024 : Shape := ⟨2, ![704, 1024]⟩
abbrev S1 : Shape := ⟨1, ![1]⟩
abbrev S8x176x1024 : Shape := ⟨3, ![8, 176, 1024]⟩
abbrev S1x176x1024 : Shape := ⟨3, ![1, 176, 1024]⟩
abbrev S176x1024 : Shape := ⟨2, ![176, 1024]⟩
abbrev S352x1024 : Shape := ⟨2, ![352, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S_, .i32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnWoutUpdate1ReferenceIdeal.lean ====
abbrev S8x352x1024 : Shape := ⟨3, ![8, 352, 1024]⟩
abbrev S_ : Shape := ⟨0, ![]⟩
abbrev S704x1024 : Shape := ⟨2, ![704, 1024]⟩
abbrev S352x1024 : Shape := ⟨2, ![352, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S_, .i32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S352x1024, .f32⟩
  | .hbm, ⟨7, _⟩ => ⟨S8x352x1024, .i32⟩
  | .hbm, ⟨8, _⟩ => ⟨S8x352x1024, .i32⟩
  | .hbm, ⟨9, _⟩ => ⟨S8x352x1024, .i1⟩
  | .hbm, ⟨10, _⟩ => ⟨S8x352x1024, .bf16⟩
  | .hbm, ⟨11, _⟩ => ⟨S8x352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | .hbm, ⟨45, _⟩ => ⟨S352x1024, .f32⟩
  | .hbm, ⟨46, _⟩ => ⟨S_, .f32⟩
  | .hbm, ⟨47, _⟩ => ⟨S352x1024, .f32⟩
  | .hbm, ⟨48, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== FfnWinUpdate1.lean ====
abbrev S8x704x1024 : Shape := ⟨3, ![8, 704, 1024]⟩
abbrev S_ : Shape := ⟨0, ![]⟩
abbrev S1408x1024 : Shape := ⟨2, ![1408, 1024]⟩
abbrev S1 : Shape := ⟨1, ![1]⟩
abbrev S8x176x1024 : Shape := ⟨3, ![8, 176, 1024]⟩
abbrev S1x176x1024 : Shape := ⟨3, ![1, 176, 1024]⟩
abbrev S176x1024 : Shape := ⟨2, ![176, 1024]⟩
abbrev S704x1024 : Shape := ⟨2, ![704, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S_, .i32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnWinUpdate1ReferenceIdeal.lean ====
abbrev S8x704x1024 : Shape := ⟨3, ![8, 704, 1024]⟩
abbrev S_ : Shape := ⟨0, ![]⟩
abbrev S1408x1024 : Shape := ⟨2, ![1408, 1024]⟩
abbrev S704x1024 : Shape := ⟨2, ![704, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S_, .i32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S704x1024, .f32⟩
  | .hbm, ⟨7, _⟩ => ⟨S8x704x1024, .i32⟩
  | .hbm, ⟨8, _⟩ => ⟨S8x704x1024, .i32⟩
  | .hbm, ⟨9, _⟩ => ⟨S8x704x1024, .i1⟩
  | .hbm, ⟨10, _⟩ => ⟨S8x704x1024, .bf16⟩
  | .hbm, ⟨11, _⟩ => ⟨S8x704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | .hbm, ⟨45, _⟩ => ⟨S704x1024, .f32⟩
  | .hbm, ⟨46, _⟩ => ⟨S_, .f32⟩
  | .hbm, ⟨47, _⟩ => ⟨S704x1024, .f32⟩
  | .hbm, ⟨48, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== FfnWoutUpdate.lean ====
abbrev S8x352x1024 : Shape := ⟨3, ![8, 352, 1024]⟩
abbrev S_ : Shape := ⟨0, ![]⟩
abbrev S704x1024 : Shape := ⟨2, ![704, 1024]⟩
abbrev S1 : Shape := ⟨1, ![1]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S_, .i32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnWoutUpdateReferenceIdeal.lean ====
abbrev S8x352x1024 : Shape := ⟨3, ![8, 352, 1024]⟩
abbrev S_ : Shape := ⟨0, ![]⟩
abbrev S704x1024 : Shape := ⟨2, ![704, 1024]⟩
abbrev S352x1024 : Shape := ⟨2, ![352, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S_, .i32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S352x1024, .f32⟩
  | .hbm, ⟨11, _⟩ => ⟨S8x352x1024, .i32⟩
  | .hbm, ⟨12, _⟩ => ⟨S8x352x1024, .i32⟩
  | .hbm, ⟨13, _⟩ => ⟨S8x352x1024, .i1⟩
  | .hbm, ⟨14, _⟩ => ⟨S8x352x1024, .bf16⟩
  | .hbm, ⟨15, _⟩ => ⟨S8x352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | .hbm, ⟨45, _⟩ => ⟨S352x1024, .f32⟩
  | .hbm, ⟨46, _⟩ => ⟨S_, .f32⟩
  | .hbm, ⟨47, _⟩ => ⟨S352x1024, .f32⟩
  | .hbm, ⟨48, _⟩ => ⟨S352x1024, .f32⟩
  | .hbm, ⟨49, _⟩ => ⟨S352x1024, .f32⟩
  | .hbm, ⟨50, _⟩ => ⟨S_, .f32⟩
  | .hbm, ⟨51, _⟩ => ⟨S352x1024, .f32⟩
  | .hbm, ⟨52, _⟩ => ⟨S352x1024, .f32⟩
  | .hbm, ⟨53, _⟩ => ⟨S352x1024, .f32⟩
  | .hbm, ⟨54, _⟩ => ⟨S704x1024, .f32⟩
  | .hbm, ⟨55, _⟩ => ⟨S352x1024, .f32⟩
  | .hbm, ⟨56, _⟩ => ⟨S704x1024, .f32⟩
  | .hbm, ⟨57, _⟩ => ⟨S352x1024, .f32⟩
  | .hbm, ⟨58, _⟩ => ⟨S704x1024, .f32⟩
  | .hbm, ⟨59, _⟩ => ⟨S352x1024, .f32⟩
  | .hbm, ⟨60, _⟩ => ⟨S704x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== FfnWinUpdate.lean ====
abbrev S8x704x1024 : Shape := ⟨3, ![8, 704, 1024]⟩
abbrev S_ : Shape := ⟨0, ![]⟩
abbrev S1408x1024 : Shape := ⟨2, ![1408, 1024]⟩
abbrev S1 : Shape := ⟨1, ![1]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S_, .i32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .bf16⟩
  | .local _ .vmem, ⟨3, _⟩ => ⟨S1x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnWinUpdateReferenceIdeal.lean ====
abbrev S8x704x1024 : Shape := ⟨3, ![8, 704, 1024]⟩
abbrev S_ : Shape := ⟨0, ![]⟩
abbrev S1408x1024 : Shape := ⟨2, ![1408, 1024]⟩
abbrev S704x1024 : Shape := ⟨2, ![704, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S_, .i32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S704x1024, .f32⟩
  | .hbm, ⟨11, _⟩ => ⟨S8x704x1024, .i32⟩
  | .hbm, ⟨12, _⟩ => ⟨S8x704x1024, .i32⟩
  | .hbm, ⟨13, _⟩ => ⟨S8x704x1024, .i1⟩
  | .hbm, ⟨14, _⟩ => ⟨S8x704x1024, .bf16⟩
  | .hbm, ⟨15, _⟩ => ⟨S8x704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | .hbm, ⟨45, _⟩ => ⟨S704x1024, .f32⟩
  | .hbm, ⟨46, _⟩ => ⟨S_, .f32⟩
  | .hbm, ⟨47, _⟩ => ⟨S704x1024, .f32⟩
  | .hbm, ⟨48, _⟩ => ⟨S704x1024, .f32⟩
  | .hbm, ⟨49, _⟩ => ⟨S704x1024, .f32⟩
  | .hbm, ⟨50, _⟩ => ⟨S_, .f32⟩
  | .hbm, ⟨51, _⟩ => ⟨S704x1024, .f32⟩
  | .hbm, ⟨52, _⟩ => ⟨S704x1024, .f32⟩
  | .hbm, ⟨53, _⟩ => ⟨S704x1024, .f32⟩
  | .hbm, ⟨54, _⟩ => ⟨S1408x1024, .f32⟩
  | .hbm, ⟨55, _⟩ => ⟨S704x1024, .f32⟩
  | .hbm, ⟨56, _⟩ => ⟨S1408x1024, .f32⟩
  | .hbm, ⟨57, _⟩ => ⟨S704x1024, .f32⟩
  | .hbm, ⟨58, _⟩ => ⟨S1408x1024, .f32⟩
  | .hbm, ⟨59, _⟩ => ⟨S704x1024, .f32⟩
  | .hbm, ⟨60, _⟩ => ⟨S1408x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== SmallUpdate.lean ====
abbrev S8x184x1024 : Shape := ⟨3, ![8, 184, 1024]⟩
abbrev S184x1024 : Shape := ⟨2, ![184, 1024]⟩
abbrev S_ : Shape := ⟨0, ![]⟩
abbrev S1 : Shape := ⟨1, ![1]⟩
abbrev S1x184x1024 : Shape := ⟨3, ![1, 184, 1024]⟩
abbrev S188416 : Shape := ⟨1, ![188416]⟩
abbrev S2048 : Shape := ⟨1, ![2048]⟩
abbrev S2x1024 : Shape := ⟨2, ![2, 1024]⟩
abbrev S1024 : Shape := ⟨1, ![1024]⟩
abbrev S1x32x64 : Shape := ⟨3, ![1, 32, 64]⟩
abbrev S32 : Shape := ⟨1, ![32]⟩
abbrev S1x32 : Shape := ⟨2, ![1, 32]⟩
abbrev S32768 : Shape := ⟨1, ![32768]⟩
abbrev S1x32x64x16 : Shape := ⟨4, ![1, 32, 64, 16]⟩
abbrev S1x32x16x64 : Shape := ⟨4, ![1, 32, 16, 64]⟩
abbrev S512 : Shape := ⟨1, ![512]⟩
abbrev S1x32x16 : Shape := ⟨3, ![1, 32, 16]⟩
abbrev S1x512 : Shape := ⟨2, ![1, 512]⟩
abbrev S2x512 : Shape := ⟨2, ![2, 512]⟩
abbrev S11264 : Shape := ⟨1, ![11264]⟩
abbrev S2x5632 : Shape := ⟨2, ![2, 5632]⟩

abbrev nBuf : Space → Nat
  | .hbm => 133
  | .vmem => 9
  | .smem => 1
  | _ => 0

abbrev hbmTy0_0 (i : Nat) : BufTy := match i % 128 with
  | 0 => ⟨S8x184x1024, .f32⟩
  | 1 => ⟨S184x1024, .f32⟩
  | 2 => ⟨S_, .i32⟩
  | 3 => ⟨S184x1024, .f32⟩
  | 4 => ⟨S184x1024, .f32⟩
  | 5 => ⟨S184x1024, .f32⟩
  | 6 => ⟨S184x1024, .f32⟩
  | 7 => ⟨S184x1024, .f32⟩
  | 8 => ⟨S184x1024, .f32⟩
  | 9 => ⟨S184x1024, .f32⟩
  | 10 => ⟨S188416, .f32⟩
  | 11 => ⟨S1, .f32⟩
  | 12 => ⟨S_, .f32⟩
  | 13 => ⟨S188416, .f32⟩
  | 14 => ⟨S2048, .f32⟩
  | 15 => ⟨S2x1024, .f32⟩
  | 16 => ⟨S2048, .f32⟩
  | 17 => ⟨S2x1024, .f32⟩
  | 18 => ⟨S1024, .f32⟩
  | 19 => ⟨S2048, .f32⟩
  | 20 => ⟨S1x32x64, .f32⟩
  | 21 => ⟨S2048, .f32⟩
  | 22 => ⟨S1x32x64, .f32⟩
  | 23 => ⟨S32, .f32⟩
  | 24 => ⟨S1x32, .f32⟩
  | 25 => ⟨S32768, .f32⟩
  | 26 => ⟨S1x32x64x16, .f32⟩
  | 27 => ⟨S32768, .f32⟩
  | 28 => ⟨S1x32x64x16, .f32⟩
  | 29 => ⟨S32768, .f32⟩
  | 30 => ⟨S1x32x16x64, .f32⟩
  | 31 => ⟨S32768, .f32⟩
  | 32 => ⟨S1x32x16x64, .f32⟩
  | 33 => ⟨S512, .f32⟩
  | 34 => ⟨S1x32x16, .f32⟩
  | 35 => ⟨S512, .f32⟩
  | 36 => ⟨S1x512, .f32⟩
  | 37 => ⟨S1024, .f32⟩
  | 38 => ⟨S2x512, .f32⟩
  | 39 => ⟨S512, .f32⟩
  | 40 => ⟨S1x512, .f32⟩
  | 41 => ⟨S11264, .f32⟩
  | 42 => ⟨S2x5632, .f32⟩
  | 43 => ⟨S188416, .f32⟩
  | 44 => ⟨S2048, .f32⟩
  | 45 => ⟨S2x1024, .f32⟩
  | 46 => ⟨S2048, .f32⟩
  | 47 => ⟨S2x1024, .f32⟩
  | 48 => ⟨S1024, .f32⟩
  | 49 => ⟨S2048, .f32⟩
  | 50 => ⟨S1x32x64, .f32⟩
  | 51 => ⟨S2048, .f32⟩
  | 52 => ⟨S1x32x64, .f32⟩
  | 53 => ⟨S32, .f32⟩
  | 54 => ⟨S1x32, .f32⟩
  | 55 => ⟨S32768, .f32⟩
  | 56 => ⟨S1x32x64x16, .f32⟩
  | 57 => ⟨S32768, .f32⟩
  | 58 => ⟨S1x32x64x16, .f32⟩
  | 59 => ⟨S32768, .f32⟩
  | 60 => ⟨S1x32x16x64, .f32⟩
  | 61 => ⟨S32768, .f32⟩
  | 62 => ⟨S1x32x16x64, .f32⟩
  | 63 => ⟨S512, .f32⟩
  | 64 => ⟨S1x32x16, .f32⟩
  | 65 => ⟨S512, .f32⟩
  | 66 => ⟨S1x512, .f32⟩
  | 67 => ⟨S1024, .f32⟩
  | 68 => ⟨S2x512, .f32⟩
  | 69 => ⟨S512, .f32⟩
  | 70 => ⟨S1x512, .f32⟩
  | 71 => ⟨S11264, .f32⟩
  | 72 => ⟨S2x5632, .f32⟩
  | 73 => ⟨S188416, .f32⟩
  | 74 => ⟨S2048, .f32⟩
  | 75 => ⟨S2x1024, .f32⟩
  | 76 => ⟨S2048, .f32⟩
  | 77 => ⟨S2x1024, .f32⟩
  | 78 => ⟨S1024, .f32⟩
  | 79 => ⟨S2048, .f32⟩
  | 80 => ⟨S1x32x64, .f32⟩
  | 81 => ⟨S2048, .f32⟩
  | 82 => ⟨S1x32x64, .f32⟩
  | 83 => ⟨S32, .f32⟩
  | 84 => ⟨S1x32, .f32⟩
  | 85 => ⟨S32768, .f32⟩
  | 86 => ⟨S1x32x64x16, .f32⟩
  | 87 => ⟨S32768, .f32⟩
  | 88 => ⟨S1x32x64x16, .f32⟩
  | 89 => ⟨S32768, .f32⟩
  | 90 => ⟨S1x32x16x64, .f32⟩
  | 91 => ⟨S32768, .f32⟩
  | 92 => ⟨S1x32x16x64, .f32⟩
  | 93 => ⟨S512, .f32⟩
  | 94 => ⟨S1x32x16, .f32⟩
  | 95 => ⟨S512, .f32⟩
  | 96 => ⟨S1x512, .f32⟩
  | 97 => ⟨S1024, .f32⟩
  | 98 => ⟨S2x512, .f32⟩
  | 99 => ⟨S512, .f32⟩
  | 100 => ⟨S1x512, .f32⟩
  | 101 => ⟨S11264, .f32⟩
  | 102 => ⟨S2x5632, .f32⟩
  | 103 => ⟨S188416, .f32⟩
  | 104 => ⟨S2048, .f32⟩
  | 105 => ⟨S2x1024, .f32⟩
  | 106 => ⟨S2048, .f32⟩
  | 107 => ⟨S2x1024, .f32⟩
  | 108 => ⟨S1024, .f32⟩
  | 109 => ⟨S2048, .f32⟩
  | 110 => ⟨S1x32x64, .f32⟩
  | 111 => ⟨S2048, .f32⟩
  | 112 => ⟨S1x32x64, .f32⟩
  | 113 => ⟨S32, .f32⟩
  | 114 => ⟨S1x32, .f32⟩
  | 115 => ⟨S32768, .f32⟩
  | 116 => ⟨S1x32x64x16, .f32⟩
  | 117 => ⟨S32768, .f32⟩
  | 118 => ⟨S1x32x64x16, .f32⟩
  | 119 => ⟨S32768, .f32⟩
  | 120 => ⟨S1x32x16x64, .f32⟩
  | 121 => ⟨S32768, .f32⟩
  | 122 => ⟨S1x32x16x64, .f32⟩
  | 123 => ⟨S512, .f32⟩
  | 124 => ⟨S1x32x16, .f32⟩
  | 125 => ⟨S512, .f32⟩
  | 126 => ⟨S1x512, .f32⟩
  | 127 => ⟨S1024, .f32⟩
  | _ => ⟨S8x184x1024, .f32⟩

abbrev hbmTy0_1 (i : Nat) : BufTy := match i % 128 with
  | 0 => ⟨S2x512, .f32⟩
  | 1 => ⟨S512, .f32⟩
  | 2 => ⟨S1x512, .f32⟩
  | 3 => ⟨S11264, .f32⟩
  | 4 => ⟨S2x5632, .f32⟩
  | _ => ⟨S8x184x1024, .f32⟩

abbrev hbmTy (i : Nat) : BufTy := match i / 128 with
  | 0 => hbmTy0_0 i
  | 1 => hbmTy0_1 i
  | _ => ⟨S8x184x1024, .f32⟩

abbrev bufTy : (tb : Table) → Fin (tcTables nBuf tb) → BufTy
  | .hbm, ⟨i, _⟩ => hbmTy i
  | .local _ .vmem, ⟨0, _⟩ => ⟨S8x184x1024, .f32⟩
  | .local _ .vmem, ⟨1, _⟩ => ⟨S184x1024, .f32⟩
  | .local _ .vmem, ⟨2, _⟩ => ⟨S184x1024, .f32⟩
  | .local _ .vmem, ⟨3, _⟩ => ⟨S184x1024, .f32⟩
  | .local _ .vmem, ⟨4, _⟩ => ⟨S184x1024, .f32⟩
  | .local _ .vmem, ⟨5, _⟩ => ⟨S184x1024, .f32⟩
  | .local _ .vmem, ⟨6, _⟩ => ⟨S184x1024, .f32⟩
  | .local _ .vmem, ⟨7, _⟩ => ⟨S184x1024, .f32⟩
  | .local _ .vmem, ⟨8, _⟩ => ⟨S184x1024, .f32⟩
  | .local _ .smem, ⟨0, _⟩ => ⟨S1, .i32⟩
  | _, _ => ⟨S8x184x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 1 → Memref sig .tc .vmem S8x184x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S184x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S184x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S184x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S184x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S184x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S184x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S184x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S184x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SmallUpdateReferenceIdeal.lean ====
abbrev S8x184x1024 : Shape := ⟨3, ![8, 184, 1024]⟩
abbrev S184x1024 : Shape := ⟨2, ![184, 1024]⟩
abbrev S_ : Shape := ⟨0, ![]⟩
abbrev S188416 : Shape := ⟨1, ![188416]⟩
abbrev S2048 : Shape := ⟨1, ![2048]⟩
abbrev S2x1024 : Shape := ⟨2, ![2, 1024]⟩
abbrev S1024 : Shape := ⟨1, ![1024]⟩
abbrev S1x32x64 : Shape := ⟨3, ![1, 32, 64]⟩
abbrev S32 : Shape := ⟨1, ![32]⟩
abbrev S1x32 : Shape := ⟨2, ![1, 32]⟩
abbrev S32768 : Shape := ⟨1, ![32768]⟩
abbrev S1x32x64x16 : Shape := ⟨4, ![1, 32, 64, 16]⟩
abbrev S1x32x16x64 : Shape := ⟨4, ![1, 32, 16, 64]⟩
abbrev S512 : Shape := ⟨1, ![512]⟩
abbrev S1x32x16 : Shape := ⟨3, ![1, 32, 16]⟩
abbrev S1x512 : Shape := ⟨2, ![1, 512]⟩
abbrev S2x512 : Shape := ⟨2, ![2, 512]⟩
abbrev S11264 : Shape := ⟨1, ![11264]⟩
abbrev S2x5632 : Shape := ⟨2, ![2, 5632]⟩
abbrev S1 : Shape := ⟨1, ![1]⟩

abbrev nBuf : Space → Nat
  | .hbm => 631
  | .vmem => 0
  | .smem => 0
  | _ => 0

abbrev hbmTy0_0 (i : Nat) : BufTy := match i % 128 with
  | 0 => ⟨S8x184x1024, .f32⟩
  | 1 => ⟨S184x1024, .f32⟩
  | 2 => ⟨S_, .i32⟩
  | 3 => ⟨S184x1024, .f32⟩
  | 4 => ⟨S184x1024, .f32⟩
  | 5 => ⟨S184x1024, .f32⟩
  | 6 => ⟨S8x184x1024, .i32⟩
  | 7 => ⟨S8x184x1024, .i32⟩
  | 8 => ⟨S8x184x1024, .i1⟩
  | 9 => ⟨S8x184x1024, .f32⟩
  | 10 => ⟨S8x184x1024, .f32⟩
  | 11 => ⟨S_, .f32⟩
  | 12 => ⟨S184x1024, .f32⟩
  | 13 => ⟨S188416, .f32⟩
  | 14 => ⟨S2048, .f32⟩
  | 15 => ⟨S2x1024, .f32⟩
  | 16 => ⟨S2048, .f32⟩
  | 17 => ⟨S2x1024, .f32⟩
  | 18 => ⟨S1024, .f32⟩
  | 19 => ⟨S2048, .f32⟩
  | 20 => ⟨S1x32x64, .f32⟩
  | 21 => ⟨S2048, .f32⟩
  | 22 => ⟨S1x32x64, .f32⟩
  | 23 => ⟨S32, .f32⟩
  | 24 => ⟨S1x32, .f32⟩
  | 25 => ⟨S32768, .f32⟩
  | 26 => ⟨S1x32x64x16, .f32⟩
  | 27 => ⟨S32768, .f32⟩
  | 28 => ⟨S1x32x64x16, .f32⟩
  | 29 => ⟨S32768, .f32⟩
  | 30 => ⟨S1x32x16x64, .f32⟩
  | 31 => ⟨S32768, .f32⟩
  | 32 => ⟨S1x32x16x64, .f32⟩
  | 33 => ⟨S512, .f32⟩
  | 34 => ⟨S1x32x16, .f32⟩
  | 35 => ⟨S512, .f32⟩
  | 36 => ⟨S1x512, .f32⟩
  | 37 => ⟨S1024, .f32⟩
  | 38 => ⟨S2x512, .f32⟩
  | 39 => ⟨S512, .f32⟩
  | 40 => ⟨S1x512, .f32⟩
  | 41 => ⟨S11264, .f32⟩
  | 42 => ⟨S2x5632, .f32⟩
  | 43 => ⟨S188416, .f32⟩
  | 44 => ⟨S2048, .f32⟩
  | 45 => ⟨S2x1024, .f32⟩
  | 46 => ⟨S2048, .f32⟩
  | 47 => ⟨S2x1024, .f32⟩
  | 48 => ⟨S1024, .f32⟩
  | 49 => ⟨S2048, .f32⟩
  | 50 => ⟨S1x32x64, .f32⟩
  | 51 => ⟨S2048, .f32⟩
  | 52 => ⟨S1x32x64, .f32⟩
  | 53 => ⟨S32, .f32⟩
  | 54 => ⟨S1x32, .f32⟩
  | 55 => ⟨S32768, .f32⟩
  | 56 => ⟨S1x32x64x16, .f32⟩
  | 57 => ⟨S32768, .f32⟩
  | 58 => ⟨S1x32x64x16, .f32⟩
  | 59 => ⟨S32768, .f32⟩
  | 60 => ⟨S1x32x16x64, .f32⟩
  | 61 => ⟨S32768, .f32⟩
  | 62 => ⟨S1x32x16x64, .f32⟩
  | 63 => ⟨S512, .f32⟩
  | 64 => ⟨S1x32x16, .f32⟩
  | 65 => ⟨S512, .f32⟩
  | 66 => ⟨S1x512, .f32⟩
  | 67 => ⟨S1024, .f32⟩
  | 68 => ⟨S2x512, .f32⟩
  | 69 => ⟨S512, .f32⟩
  | 70 => ⟨S1x512, .f32⟩
  | 71 => ⟨S11264, .f32⟩
  | 72 => ⟨S2x5632, .f32⟩
  | 73 => ⟨S188416, .f32⟩
  | 74 => ⟨S2048, .f32⟩
  | 75 => ⟨S2x1024, .f32⟩
  | 76 => ⟨S2048, .f32⟩
  | 77 => ⟨S2x1024, .f32⟩
  | 78 => ⟨S1024, .f32⟩
  | 79 => ⟨S2048, .f32⟩
  | 80 => ⟨S1x32x64, .f32⟩
  | 81 => ⟨S2048, .f32⟩
  | 82 => ⟨S1x32x64, .f32⟩
  | 83 => ⟨S32, .f32⟩
  | 84 => ⟨S1x32, .f32⟩
  | 85 => ⟨S32768, .f32⟩
  | 86 => ⟨S1x32x64x16, .f32⟩
  | 87 => ⟨S32768, .f32⟩
  | 88 => ⟨S1x32x64x16, .f32⟩
  | 89 => ⟨S32768, .f32⟩
  | 90 => ⟨S1x32x16x64, .f32⟩
  | 91 => ⟨S32768, .f32⟩
  | 92 => ⟨S1x32x16x64, .f32⟩
  | 93 => ⟨S512, .f32⟩
  | 94 => ⟨S1x32x16, .f32⟩
  | 95 => ⟨S512, .f32⟩
  | 96 => ⟨S1x512, .f32⟩
  | 97 => ⟨S1024, .f32⟩
  | 98 => ⟨S2x512, .f32⟩
  | 99 => ⟨S512, .f32⟩
  | 100 => ⟨S1x512, .f32⟩
  | 101 => ⟨S11264, .f32⟩
  | 102 => ⟨S2x5632, .f32⟩
  | 103 => ⟨S188416, .f32⟩
  | 104 => ⟨S2048, .f32⟩
  | 105 => ⟨S2x1024, .f32⟩
  | 106 => ⟨S2048, .f32⟩
  | 107 => ⟨S2x1024, .f32⟩
  | 108 => ⟨S1024, .f32⟩
  | 109 => ⟨S2048, .f32⟩
  | 110 => ⟨S1x32x64, .f32⟩
  | 111 => ⟨S2048, .f32⟩
  | 112 => ⟨S1x32x64, .f32⟩
  | 113 => ⟨S32, .f32⟩
  | 114 => ⟨S1x32, .f32⟩
  | 115 => ⟨S32768, .f32⟩
  | 116 => ⟨S1x32x64x16, .f32⟩
  | 117 => ⟨S32768, .f32⟩
  | 118 => ⟨S1x32x64x16, .f32⟩
  | 119 => ⟨S32768, .f32⟩
  | 120 => ⟨S1x32x16x64, .f32⟩
  | 121 => ⟨S32768, .f32⟩
  | 122 => ⟨S1x32x16x64, .f32⟩
  | 123 => ⟨S512, .f32⟩
  | 124 => ⟨S1x32x16, .f32⟩
  | 125 => ⟨S512, .f32⟩
  | 126 => ⟨S1x512, .f32⟩
  | 127 => ⟨S1024, .f32⟩
  | _ => ⟨S8x184x1024, .f32⟩

abbrev hbmTy0_1 (i : Nat) : BufTy := match i % 128 with
  | 0 => ⟨S2x512, .f32⟩
  | 1 => ⟨S512, .f32⟩
  | 2 => ⟨S1x512, .f32⟩
  | 3 => ⟨S11264, .f32⟩
  | 4 => ⟨S2x5632, .f32⟩
  | 5 => ⟨S188416, .f32⟩
  | 6 => ⟨S1, .f32⟩
  | 7 => ⟨S_, .f32⟩
  | 8 => ⟨S_, .f32⟩
  | 9 => ⟨S2x1024, .f32⟩
  | 10 => ⟨S2x1024, .f32⟩
  | 11 => ⟨S_, .f32⟩
  | 12 => ⟨S2x1024, .f32⟩
  | 13 => ⟨S2x1024, .f32⟩
  | 14 => ⟨S2x1024, .f32⟩
  | 15 => ⟨S_, .f32⟩
  | 16 => ⟨S2x1024, .f32⟩
  | 17 => ⟨S2x1024, .f32⟩
  | 18 => ⟨S2x1024, .f32⟩
  | 19 => ⟨S_, .f32⟩
  | 20 => ⟨S2x1024, .f32⟩
  | 21 => ⟨S2x1024, .f32⟩
  | 22 => ⟨S2x1024, .f32⟩
  | 23 => ⟨S_, .f32⟩
  | 24 => ⟨S2x1024, .f32⟩
  | 25 => ⟨S2x1024, .f32⟩
  | 26 => ⟨S_, .f32⟩
  | 27 => ⟨S2x1024, .f32⟩
  | 28 => ⟨S2x1024, .f32⟩
  | 29 => ⟨S2x1024, .f32⟩
  | 30 => ⟨S_, .f32⟩
  | 31 => ⟨S2x1024, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S_, .f32⟩
  | 42 => ⟨S2x1024, .f32⟩
  | 43 => ⟨S2x1024, .f32⟩
  | 44 => ⟨S_, .f32⟩
  | 45 => ⟨S2x1024, .f32⟩
  | 46 => ⟨S2x1024, .f32⟩
  | 47 => ⟨S2x1024, .f32⟩
  | 48 => ⟨S_, .f32⟩
  | 49 => ⟨S2x1024, .f32⟩
  | 50 => ⟨S2x1024, .f32⟩
  | 51 => ⟨S2x1024, .f32⟩
  | 52 => ⟨S_, .f32⟩
  | 53 => ⟨S2x1024, .f32⟩
  | 54 => ⟨S2x1024, .f32⟩
  | 55 => ⟨S2x1024, .f32⟩
  | 56 => ⟨S_, .f32⟩
  | 57 => ⟨S2x1024, .f32⟩
  | 58 => ⟨S2x1024, .f32⟩
  | 59 => ⟨S_, .f32⟩
  | 60 => ⟨S2x1024, .f32⟩
  | 61 => ⟨S2x1024, .f32⟩
  | 62 => ⟨S2x1024, .f32⟩
  | 63 => ⟨S_, .f32⟩
  | 64 => ⟨S2x1024, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S_, .f32⟩
  | 75 => ⟨S1024, .f32⟩
  | 76 => ⟨S1024, .f32⟩
  | 77 => ⟨S_, .f32⟩
  | 78 => ⟨S1024, .f32⟩
  | 79 => ⟨S1024, .f32⟩
  | 80 => ⟨S1024, .f32⟩
  | 81 => ⟨S_, .f32⟩
  | 82 => ⟨S1024, .f32⟩
  | 83 => ⟨S1024, .f32⟩
  | 84 => ⟨S1024, .f32⟩
  | 85 => ⟨S_, .f32⟩
  | 86 => ⟨S1024, .f32⟩
  | 87 => ⟨S1024, .f32⟩
  | 88 => ⟨S1024, .f32⟩
  | 89 => ⟨S_, .f32⟩
  | 90 => ⟨S1024, .f32⟩
  | 91 => ⟨S1024, .f32⟩
  | 92 => ⟨S_, .f32⟩
  | 93 => ⟨S1024, .f32⟩
  | 94 => ⟨S1024, .f32⟩
  | 95 => ⟨S1024, .f32⟩
  | 96 => ⟨S_, .f32⟩
  | 97 => ⟨S1024, .f32⟩
  | 98 => ⟨S1024, .f32⟩
  | 99 => ⟨S1024, .f32⟩
  | 100 => ⟨S_, .f32⟩
  | 101 => ⟨S1024, .f32⟩
  | 102 => ⟨S1024, .f32⟩
  | 103 => ⟨S1024, .f32⟩
  | 104 => ⟨S_, .f32⟩
  | 105 => ⟨S1024, .f32⟩
  | 106 => ⟨S1024, .f32⟩
  | 107 => ⟨S_, .f32⟩
  | 108 => ⟨S1x32x64, .f32⟩
  | 109 => ⟨S1x32x64, .f32⟩
  | 110 => ⟨S_, .f32⟩
  | 111 => ⟨S1x32x64, .f32⟩
  | 112 => ⟨S1x32x64, .f32⟩
  | 113 => ⟨S1x32x64, .f32⟩
  | 114 => ⟨S_, .f32⟩
  | 115 => ⟨S1x32x64, .f32⟩
  | 116 => ⟨S1x32x64, .f32⟩
  | 117 => ⟨S1x32x64, .f32⟩
  | 118 => ⟨S_, .f32⟩
  | 119 => ⟨S1x32x64, .f32⟩
  | 120 => ⟨S1x32x64, .f32⟩
  | 121 => ⟨S1x32x64, .f32⟩
  | 122 => ⟨S_, .f32⟩
  | 123 => ⟨S1x32x64, .f32⟩
  | 124 => ⟨S1x32x64, .f32⟩
  | 125 => ⟨S_, .f32⟩
  | 126 => ⟨S1x32x64, .f32⟩
  | 127 => ⟨S1x32x64, .f32⟩
  | _ => ⟨S8x184x1024, .f32⟩

abbrev hbmTy0_2 (i : Nat) : BufTy := match i % 128 with
  | 0 => ⟨S1x32x64, .f32⟩
  | 1 => ⟨S_, .f32⟩
  | 2 => ⟨S1x32x64, .f32⟩
  | 3 => ⟨S1x32x64, .f32⟩
  | 4 => ⟨S1x32x64, .f32⟩
  | 5 => ⟨S_, .f32⟩
  | 6 => ⟨S1x32x64, .f32⟩
  | 7 => ⟨S1x32x64, .f32⟩
  | 8 => ⟨S1x32x64, .f32⟩
  | 9 => ⟨S_, .f32⟩
  | 10 => ⟨S1x32x64, .f32⟩
  | 11 => ⟨S1x32x64, .f32⟩
  | 12 => ⟨S_, .f32⟩
  | 13 => ⟨S1x32x64, .f32⟩
  | 14 => ⟨S1x32x64, .f32⟩
  | 15 => ⟨S_, .f32⟩
  | 16 => ⟨S1x32x64, .f32⟩
  | 17 => ⟨S1x32x64, .f32⟩
  | 18 => ⟨S1x32x64, .f32⟩
  | 19 => ⟨S_, .f32⟩
  | 20 => ⟨S1x32x64, .f32⟩
  | 21 => ⟨S1x32x64, .f32⟩
  | 22 => ⟨S1x32x64, .f32⟩
  | 23 => ⟨S_, .f32⟩
  | 24 => ⟨S1x32x64, .f32⟩
  | 25 => ⟨S1x32x64, .f32⟩
  | 26 => ⟨S1x32x64, .f32⟩
  | 27 => ⟨S_, .f32⟩
  | 28 => ⟨S1x32x64, .f32⟩
  | 29 => ⟨S1x32x64, .f32⟩
  | 30 => ⟨S_, .f32⟩
  | 31 => ⟨S1x32x64, .f32⟩
  | 32 => ⟨S1x32x64, .f32⟩
  | 33 => ⟨S1x32x64, .f32⟩
  | 34 => ⟨S_, .f32⟩
  | 35 => ⟨S1x32x64, .f32⟩
  | 36 => ⟨S1x32x64, .f32⟩
  | 37 => ⟨S1x32x64, .f32⟩
  | 38 => ⟨S_, .f32⟩
  | 39 => ⟨S1x32x64, .f32⟩
  | 40 => ⟨S1x32x64, .f32⟩
  | 41 => ⟨S1x32x64, .f32⟩
  | 42 => ⟨S_, .f32⟩
  | 43 => ⟨S1x32x64, .f32⟩
  | 44 => ⟨S1x32x64, .f32⟩
  | 45 => ⟨S_, .f32⟩
  | 46 => ⟨S1x32, .f32⟩
  | 47 => ⟨S1x32, .f32⟩
  | 48 => ⟨S_, .f32⟩
  | 49 => ⟨S1x32, .f32⟩
  | 50 => ⟨S1x32, .f32⟩
  | 51 => ⟨S1x32, .f32⟩
  | 52 => ⟨S_, .f32⟩
  | 53 => ⟨S1x32, .f32⟩
  | 54 => ⟨S1x32, .f32⟩
  | 55 => ⟨S1x32, .f32⟩
  | 56 => ⟨S_, .f32⟩
  | 57 => ⟨S1x32, .f32⟩
  | 58 => ⟨S1x32, .f32⟩
  | 59 => ⟨S1x32, .f32⟩
  | 60 => ⟨S_, .f32⟩
  | 61 => ⟨S1x32, .f32⟩
  | 62 => ⟨S1x32, .f32⟩
  | 63 => ⟨S_, .f32⟩
  | 64 => ⟨S1x32, .f32⟩
  | 65 => ⟨S1x32, .f32⟩
  | 66 => ⟨S1x32, .f32⟩
  | 67 => ⟨S_, .f32⟩
  | 68 => ⟨S1x32, .f32⟩
  | 69 => ⟨S1x32, .f32⟩
  | 70 => ⟨S1x32, .f32⟩
  | 71 => ⟨S_, .f32⟩
  | 72 => ⟨S1x32, .f32⟩
  | 73 => ⟨S1x32, .f32⟩
  | 74 => ⟨S1x32, .f32⟩
  | 75 => ⟨S_, .f32⟩
  | 76 => ⟨S1x32, .f32⟩
  | 77 => ⟨S1x32, .f32⟩
  | 78 => ⟨S_, .f32⟩
  | 79 => ⟨S1x32x64x16, .f32⟩
  | 80 => ⟨S1x32x64x16, .f32⟩
  | 81 => ⟨S_, .f32⟩
  | 82 => ⟨S1x32x64x16, .f32⟩
  | 83 => ⟨S1x32x64x16, .f32⟩
  | 84 => ⟨S1x32x64x16, .f32⟩
  | 85 => ⟨S_, .f32⟩
  | 86 => ⟨S1x32x64x16, .f32⟩
  | 87 => ⟨S1x32x64x16, .f32⟩
  | 88 => ⟨S1x32x64x16, .f32⟩
  | 89 => ⟨S_, .f32⟩
  | 90 => ⟨S1x32x64x16, .f32⟩
  | 91 => ⟨S1x32x64x16, .f32⟩
  | 92 => ⟨S1x32x64x16, .f32⟩
  | 93 => ⟨S_, .f32⟩
  | 94 => ⟨S1x32x64x16, .f32⟩
  | 95 => ⟨S1x32x64x16, .f32⟩
  | 96 => ⟨S_, .f32⟩
  | 97 => ⟨S1x32x64x16, .f32⟩
  | 98 => ⟨S1x32x64x16, .f32⟩
  | 99 => ⟨S1x32x64x16, .f32⟩
  | 100 => ⟨S_, .f32⟩
  | 101 => ⟨S1x32x64x16, .f32⟩
  | 102 => ⟨S1x32x64x16, .f32⟩
  | 103 => ⟨S1x32x64x16, .f32⟩
  | 104 => ⟨S_, .f32⟩
  | 105 => ⟨S1x32x64x16, .f32⟩
  | 106 => ⟨S1x32x64x16, .f32⟩
  | 107 => ⟨S1x32x64x16, .f32⟩
  | 108 => ⟨S_, .f32⟩
  | 109 => ⟨S1x32x64x16, .f32⟩
  | 110 => ⟨S1x32x64x16, .f32⟩
  | 111 => ⟨S_, .f32⟩
  | 112 => ⟨S1x32x64x16, .f32⟩
  | 113 => ⟨S1x32x64x16, .f32⟩
  | 114 => ⟨S_, .f32⟩
  | 115 => ⟨S1x32x64x16, .f32⟩
  | 116 => ⟨S1x32x64x16, .f32⟩
  | 117 => ⟨S1x32x64x16, .f32⟩
  | 118 => ⟨S_, .f32⟩
  | 119 => ⟨S1x32x64x16, .f32⟩
  | 120 => ⟨S1x32x64x16, .f32⟩
  | 121 => ⟨S1x32x64x16, .f32⟩
  | 122 => ⟨S_, .f32⟩
  | 123 => ⟨S1x32x64x16, .f32⟩
  | 124 => ⟨S1x32x64x16, .f32⟩
  | 125 => ⟨S1x32x64x16, .f32⟩
  | 126 => ⟨S_, .f32⟩
  | 127 => ⟨S1x32x64x16, .f32⟩
  | _ => ⟨S8x184x1024, .f32⟩

abbrev hbmTy0_3 (i : Nat) : BufTy := match i % 128 with
  | 0 => ⟨S1x32x64x16, .f32⟩
  | 1 => ⟨S_, .f32⟩
  | 2 => ⟨S1x32x64x16, .f32⟩
  | 3 => ⟨S1x32x64x16, .f32⟩
  | 4 => ⟨S1x32x64x16, .f32⟩
  | 5 => ⟨S_, .f32⟩
  | 6 => ⟨S1x32x64x16, .f32⟩
  | 7 => ⟨S1x32x64x16, .f32⟩
  | 8 => ⟨S1x32x64x16, .f32⟩
  | 9 => ⟨S_, .f32⟩
  | 10 => ⟨S1x32x64x16, .f32⟩
  | 11 => ⟨S1x32x64x16, .f32⟩
  | 12 => ⟨S1x32x64x16, .f32⟩
  | 13 => ⟨S_, .f32⟩
  | 14 => ⟨S1x32x64x16, .f32⟩
  | 15 => ⟨S1x32x64x16, .f32⟩
  | 16 => ⟨S_, .f32⟩
  | 17 => ⟨S1x32x16x64, .f32⟩
  | 18 => ⟨S1x32x16x64, .f32⟩
  | 19 => ⟨S_, .f32⟩
  | 20 => ⟨S1x32x16x64, .f32⟩
  | 21 => ⟨S1x32x16x64, .f32⟩
  | 22 => ⟨S1x32x16x64, .f32⟩
  | 23 => ⟨S_, .f32⟩
  | 24 => ⟨S1x32x16x64, .f32⟩
  | 25 => ⟨S1x32x16x64, .f32⟩
  | 26 => ⟨S1x32x16x64, .f32⟩
  | 27 => ⟨S_, .f32⟩
  | 28 => ⟨S1x32x16x64, .f32⟩
  | 29 => ⟨S1x32x16x64, .f32⟩
  | 30 => ⟨S1x32x16x64, .f32⟩
  | 31 => ⟨S_, .f32⟩
  | 32 => ⟨S1x32x16x64, .f32⟩
  | 33 => ⟨S1x32x16x64, .f32⟩
  | 34 => ⟨S_, .f32⟩
  | 35 => ⟨S1x32x16x64, .f32⟩
  | 36 => ⟨S1x32x16x64, .f32⟩
  | 37 => ⟨S1x32x16x64, .f32⟩
  | 38 => ⟨S_, .f32⟩
  | 39 => ⟨S1x32x16x64, .f32⟩
  | 40 => ⟨S1x32x16x64, .f32⟩
  | 41 => ⟨S1x32x16x64, .f32⟩
  | 42 => ⟨S_, .f32⟩
  | 43 => ⟨S1x32x16x64, .f32⟩
  | 44 => ⟨S1x32x16x64, .f32⟩
  | 45 => ⟨S1x32x16x64, .f32⟩
  | 46 => ⟨S_, .f32⟩
  | 47 => ⟨S1x32x16x64, .f32⟩
  | 48 => ⟨S1x32x16x64, .f32⟩
  | 49 => ⟨S_, .f32⟩
  | 50 => ⟨S1x32x16x64, .f32⟩
  | 51 => ⟨S1x32x16x64, .f32⟩
  | 52 => ⟨S_, .f32⟩
  | 53 => ⟨S1x32x16x64, .f32⟩
  | 54 => ⟨S1x32x16x64, .f32⟩
  | 55 => ⟨S1x32x16x64, .f32⟩
  | 56 => ⟨S_, .f32⟩
  | 57 => ⟨S1x32x16x64, .f32⟩
  | 58 => ⟨S1x32x16x64, .f32⟩
  | 59 => ⟨S1x32x16x64, .f32⟩
  | 60 => ⟨S_, .f32⟩
  | 61 => ⟨S1x32x16x64, .f32⟩
  | 62 => ⟨S1x32x16x64, .f32⟩
  | 63 => ⟨S1x32x16x64, .f32⟩
  | 64 => ⟨S_, .f32⟩
  | 65 => ⟨S1x32x16x64, .f32⟩
  | 66 => ⟨S1x32x16x64, .f32⟩
  | 67 => ⟨S_, .f32⟩
  | 68 => ⟨S1x32x16x64, .f32⟩
  | 69 => ⟨S1x32x16x64, .f32⟩
  | 70 => ⟨S1x32x16x64, .f32⟩
  | 71 => ⟨S_, .f32⟩
  | 72 => ⟨S1x32x16x64, .f32⟩
  | 73 => ⟨S1x32x16x64, .f32⟩
  | 74 => ⟨S1x32x16x64, .f32⟩
  | 75 => ⟨S_, .f32⟩
  | 76 => ⟨S1x32x16x64, .f32⟩
  | 77 => ⟨S1x32x16x64, .f32⟩
  | 78 => ⟨S1x32x16x64, .f32⟩
  | 79 => ⟨S_, .f32⟩
  | 80 => ⟨S1x32x16x64, .f32⟩
  | 81 => ⟨S1x32x16x64, .f32⟩
  | 82 => ⟨S_, .f32⟩
  | 83 => ⟨S1x32x16, .f32⟩
  | 84 => ⟨S1x32x16, .f32⟩
  | 85 => ⟨S_, .f32⟩
  | 86 => ⟨S1x32x16, .f32⟩
  | 87 => ⟨S1x32x16, .f32⟩
  | 88 => ⟨S1x32x16, .f32⟩
  | 89 => ⟨S_, .f32⟩
  | 90 => ⟨S1x32x16, .f32⟩
  | 91 => ⟨S1x32x16, .f32⟩
  | 92 => ⟨S1x32x16, .f32⟩
  | 93 => ⟨S_, .f32⟩
  | 94 => ⟨S1x32x16, .f32⟩
  | 95 => ⟨S1x32x16, .f32⟩
  | 96 => ⟨S1x32x16, .f32⟩
  | 97 => ⟨S_, .f32⟩
  | 98 => ⟨S1x32x16, .f32⟩
  | 99 => ⟨S1x32x16, .f32⟩
  | 100 => ⟨S_, .f32⟩
  | 101 => ⟨S1x32x16, .f32⟩
  | 102 => ⟨S1x32x16, .f32⟩
  | 103 => ⟨S1x32x16, .f32⟩
  | 104 => ⟨S_, .f32⟩
  | 105 => ⟨S1x32x16, .f32⟩
  | 106 => ⟨S1x32x16, .f32⟩
  | 107 => ⟨S1x32x16, .f32⟩
  | 108 => ⟨S_, .f32⟩
  | 109 => ⟨S1x32x16, .f32⟩
  | 110 => ⟨S1x32x16, .f32⟩
  | 111 => ⟨S1x32x16, .f32⟩
  | 112 => ⟨S_, .f32⟩
  | 113 => ⟨S1x32x16, .f32⟩
  | 114 => ⟨S1x32x16, .f32⟩
  | 115 => ⟨S_, .f32⟩
  | 116 => ⟨S1x512, .f32⟩
  | 117 => ⟨S1x512, .f32⟩
  | 118 => ⟨S_, .f32⟩
  | 119 => ⟨S1x512, .f32⟩
  | 120 => ⟨S1x512, .f32⟩
  | 121 => ⟨S1x512, .f32⟩
  | 122 => ⟨S_, .f32⟩
  | 123 => ⟨S1x512, .f32⟩
  | 124 => ⟨S1x512, .f32⟩
  | 125 => ⟨S1x512, .f32⟩
  | 126 => ⟨S_, .f32⟩
  | 127 => ⟨S1x512, .f32⟩
  | _ => ⟨S8x184x1024, .f32⟩

abbrev hbmTy0_4 (i : Nat) : BufTy := match i % 128 with
  | 0 => ⟨S1x512, .f32⟩
  | 1 => ⟨S1x512, .f32⟩
  | 2 => ⟨S_, .f32⟩
  | 3 => ⟨S1x512, .f32⟩
  | 4 => ⟨S1x512, .f32⟩
  | 5 => ⟨S_, .f32⟩
  | 6 => ⟨S1x512, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S1x512, .f32⟩
  | 13 => ⟨S_, .f32⟩
  | 14 => ⟨S1x512, .f32⟩
  | 15 => ⟨S1x512, .f32⟩
  | 16 => ⟨S1x512, .f32⟩
  | 17 => ⟨S_, .f32⟩
  | 18 => ⟨S1x512, .f32⟩
  | 19 => ⟨S1x512, .f32⟩
  | 20 => ⟨S_, .f32⟩
  | 21 => ⟨S2x512, .f32⟩
  | 22 => ⟨S2x512, .f32⟩
  | 23 => ⟨S_, .f32⟩
  | 24 => ⟨S2x512, .f32⟩
  | 25 => ⟨S2x512, .f32⟩
  | 26 => ⟨S2x512, .f32⟩
  | 27 => ⟨S_, .f32⟩
  | 28 => ⟨S2x512, .f32⟩
  | 29 => ⟨S2x512, .f32⟩
  | 30 => ⟨S2x512, .f32⟩
  | 31 => ⟨S_, .f32⟩
  | 32 => ⟨S2x512, .f32⟩
  | 33 => ⟨S2x512, .f32⟩
  | 34 => ⟨S2x512, .f32⟩
  | 35 => ⟨S_, .f32⟩
  | 36 => ⟨S2x512, .f32⟩
  | 37 => ⟨S2x512, .f32⟩
  | 38 => ⟨S_, .f32⟩
  | 39 => ⟨S2x512, .f32⟩
  | 40 => ⟨S2x512, .f32⟩
  | 41 => ⟨S2x512, .f32⟩
  | 42 => ⟨S_, .f32⟩
  | 43 => ⟨S2x512, .f32⟩
  | 44 => ⟨S2x512, .f32⟩
  | 45 => ⟨S2x512, .f32⟩
  | 46 => ⟨S_, .f32⟩
  | 47 => ⟨S2x512, .f32⟩
  | 48 => ⟨S2x512, .f32⟩
  | 49 => ⟨S2x512, .f32⟩
  | 50 => ⟨S_, .f32⟩
  | 51 => ⟨S2x512, .f32⟩
  | 52 => ⟨S2x512, .f32⟩
  | 53 => ⟨S_, .f32⟩
  | 54 => ⟨S1x512, .f32⟩
  | 55 => ⟨S1x512, .f32⟩
  | 56 => ⟨S_, .f32⟩
  | 57 => ⟨S1x512, .f32⟩
  | 58 => ⟨S1x512, .f32⟩
  | 59 => ⟨S1x512, .f32⟩
  | 60 => ⟨S_, .f32⟩
  | 61 => ⟨S1x512, .f32⟩
  | 62 => ⟨S1x512, .f32⟩
  | 63 => ⟨S1x512, .f32⟩
  | 64 => ⟨S_, .f32⟩
  | 65 => ⟨S1x512, .f32⟩
  | 66 => ⟨S1x512, .f32⟩
  | 67 => ⟨S1x512, .f32⟩
  | 68 => ⟨S_, .f32⟩
  | 69 => ⟨S1x512, .f32⟩
  | 70 => ⟨S1x512, .f32⟩
  | 71 => ⟨S_, .f32⟩
  | 72 => ⟨S1x512, .f32⟩
  | 73 => ⟨S1x512, .f32⟩
  | 74 => ⟨S1x512, .f32⟩
  | 75 => ⟨S_, .f32⟩
  | 76 => ⟨S1x512, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S1x512, .f32⟩
  | 83 => ⟨S_, .f32⟩
  | 84 => ⟨S1x512, .f32⟩
  | 85 => ⟨S1x512, .f32⟩
  | 86 => ⟨S_, .f32⟩
  | 87 => ⟨S2x5632, .f32⟩
  | 88 => ⟨S2x5632, .f32⟩
  | 89 => ⟨S_, .f32⟩
  | 90 => ⟨S2x5632, .f32⟩
  | 91 => ⟨S2x5632, .f32⟩
  | 92 => ⟨S2x5632, .f32⟩
  | 93 => ⟨S_, .f32⟩
  | 94 => ⟨S2x5632, .f32⟩
  | 95 => ⟨S2x5632, .f32⟩
  | 96 => ⟨S2x5632, .f32⟩
  | 97 => ⟨S_, .f32⟩
  | 98 => ⟨S2x5632, .f32⟩
  | 99 => ⟨S2x5632, .f32⟩
  | 100 => ⟨S2x5632, .f32⟩
  | 101 => ⟨S_, .f32⟩
  | 102 => ⟨S2x5632, .f32⟩
  | 103 => ⟨S2x5632, .f32⟩
  | 104 => ⟨S_, .f32⟩
  | 105 => ⟨S2x5632, .f32⟩
  | 106 => ⟨S2x5632, .f32⟩
  | 107 => ⟨S2x5632, .f32⟩
  | 108 => ⟨S_, .f32⟩
  | 109 => ⟨S2x5632, .f32⟩
  | 110 => ⟨S2x5632, .f32⟩
  | 111 => ⟨S2x5632, .f32⟩
  | 112 => ⟨S_, .f32⟩
  | 113 => ⟨S2x5632, .f32⟩
  | 114 => ⟨S2x5632, .f32⟩
  | 115 => ⟨S2x5632, .f32⟩
  | 116 => ⟨S_, .f32⟩
  | 117 => ⟨S2x5632, .f32⟩
  | 118 => ⟨S2x5632, .f32⟩
  | _ => ⟨S8x184x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x184x1024, .f32⟩

abbrev bufTy : (tb : Table) → Fin (tcTables nBuf tb) → BufTy
  | .hbm, ⟨i, _⟩ => hbmTy i
  | _, _ => ⟨S8x184x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_cst_0 : Ref sig .tc := ⟨.hbm, 136, rfl⟩
abbrev main_v128 : Ref sig .tc := ⟨.hbm, 137, rfl⟩
abbrev main_v129 : Ref sig .tc := ⟨.hbm, 138, rfl⟩
abbrev main_cst_1 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_cst_2 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_cst_3 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_cst_4 : Ref sig .tc := ⟨.hbm, 151, rfl⟩
abbrev main_v139 : Ref sig .tc := ⟨.hbm, 152, rfl⟩
abbrev main_v140 : Ref sig .tc := ⟨.hbm, 153, rfl⟩
abbrev main_cst_5 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_cst_6 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_cst_7 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_cst_8 : Ref sig .tc := ⟨.hbm, 166, rfl⟩
abbrev main_v150 : Ref sig .tc := ⟨.hbm, 167, rfl⟩
abbrev main_v151 : Ref sig .tc := ⟨.hbm, 168, rfl⟩
abbrev main_cst_9 : Ref sig .tc := ⟨.hbm, 169, rfl⟩
abbrev main_v152 : Ref sig .tc := ⟨.hbm, 170, rfl⟩
abbrev main_v153 : Ref sig .tc := ⟨.hbm, 171, rfl⟩
abbrev main_cst_10 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_cst_11 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_cst_12 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_cst_13 : Ref sig .tc := ⟨.hbm, 184, rfl⟩
abbrev main_v163 : Ref sig .tc := ⟨.hbm, 185, rfl⟩
abbrev main_v164 : Ref sig .tc := ⟨.hbm, 186, rfl⟩
abbrev main_cst_14 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_cst_15 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_cst_16 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_cst_17 : Ref sig .tc := ⟨.hbm, 199, rfl⟩
abbrev main_v174 : Ref sig .tc := ⟨.hbm, 200, rfl⟩
abbrev main_v175 : Ref sig .tc := ⟨.hbm, 201, rfl⟩
abbrev main_cst_18 : Ref sig .tc := ⟨.hbm, 202, rfl⟩
abbrev main_v176 : Ref sig .tc := ⟨.hbm, 203, rfl⟩
abbrev main_v177 : Ref sig .tc := ⟨.hbm, 204, rfl⟩
abbrev main_cst_19 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_cst_20 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_cst_21 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_cst_22 : Ref sig .tc := ⟨.hbm, 217, rfl⟩
abbrev main_v187 : Ref sig .tc := ⟨.hbm, 218, rfl⟩
abbrev main_v188 : Ref sig .tc := ⟨.hbm, 219, rfl⟩
abbrev main_cst_23 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_cst_24 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_cst_25 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_cst_26 : Ref sig .tc := ⟨.hbm, 232, rfl⟩
abbrev main_v198 : Ref sig .tc := ⟨.hbm, 233, rfl⟩
abbrev main_v199 : Ref sig .tc := ⟨.hbm, 234, rfl⟩
abbrev main_cst_27 : Ref sig .tc := ⟨.hbm, 235, rfl⟩
abbrev main_v200 : Ref sig .tc := ⟨.hbm, 236, rfl⟩
abbrev main_v201 : Ref sig .tc := ⟨.hbm, 237, rfl⟩
abbrev main_cst_28 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_cst_29 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_cst_30 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_cst_31 : Ref sig .tc := ⟨.hbm, 250, rfl⟩
abbrev main_v211 : Ref sig .tc := ⟨.hbm, 251, rfl⟩
abbrev main_v212 : Ref sig .tc := ⟨.hbm, 252, rfl⟩
abbrev main_cst_32 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_cst_33 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_cst_34 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_cst_35 : Ref sig .tc := ⟨.hbm, 265, rfl⟩
abbrev main_v222 : Ref sig .tc := ⟨.hbm, 266, rfl⟩
abbrev main_v223 : Ref sig .tc := ⟨.hbm, 267, rfl⟩
abbrev main_cst_36 : Ref sig .tc := ⟨.hbm, 268, rfl⟩
abbrev main_v224 : Ref sig .tc := ⟨.hbm, 269, rfl⟩
abbrev main_v225 : Ref sig .tc := ⟨.hbm, 270, rfl⟩
abbrev main_cst_37 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_cst_38 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_cst_39 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_cst_40 : Ref sig .tc := ⟨.hbm, 283, rfl⟩
abbrev main_v235 : Ref sig .tc := ⟨.hbm, 284, rfl⟩
abbrev main_v236 : Ref sig .tc := ⟨.hbm, 285, rfl⟩
abbrev main_cst_41 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_cst_42 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_cst_43 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_cst_44 : Ref sig .tc := ⟨.hbm, 298, rfl⟩
abbrev main_v246 : Ref sig .tc := ⟨.hbm, 299, rfl⟩
abbrev main_v247 : Ref sig .tc := ⟨.hbm, 300, rfl⟩
abbrev main_cst_45 : Ref sig .tc := ⟨.hbm, 301, rfl⟩
abbrev main_v248 : Ref sig .tc := ⟨.hbm, 302, rfl⟩
abbrev main_v249 : Ref sig .tc := ⟨.hbm, 303, rfl⟩
abbrev main_cst_46 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_cst_47 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_cst_48 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_cst_49 : Ref sig .tc := ⟨.hbm, 316, rfl⟩
abbrev main_v259 : Ref sig .tc := ⟨.hbm, 317, rfl⟩
abbrev main_v260 : Ref sig .tc := ⟨.hbm, 318, rfl⟩
abbrev main_cst_50 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_cst_51 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_cst_52 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_cst_53 : Ref sig .tc := ⟨.hbm, 331, rfl⟩
abbrev main_v270 : Ref sig .tc := ⟨.hbm, 332, rfl⟩
abbrev main_v271 : Ref sig .tc := ⟨.hbm, 333, rfl⟩
abbrev main_cst_54 : Ref sig .tc := ⟨.hbm, 334, rfl⟩
abbrev main_v272 : Ref sig .tc := ⟨.hbm, 335, rfl⟩
abbrev main_v273 : Ref sig .tc := ⟨.hbm, 336, rfl⟩
abbrev main_cst_55 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_cst_56 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_cst_57 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_cst_58 : Ref sig .tc := ⟨.hbm, 349, rfl⟩
abbrev main_v283 : Ref sig .tc := ⟨.hbm, 350, rfl⟩
abbrev main_v284 : Ref sig .tc := ⟨.hbm, 351, rfl⟩
abbrev main_cst_59 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_cst_60 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_cst_61 : Ref sig .tc := ⟨.hbm, 360, rfl⟩
abbrev main_v291 : Ref sig .tc := ⟨.hbm, 361, rfl⟩
abbrev main_v292 : Ref sig .tc := ⟨.hbm, 362, rfl⟩
abbrev main_v293 : Ref sig .tc := ⟨.hbm, 363, rfl⟩
abbrev main_cst_62 : Ref sig .tc := ⟨.hbm, 364, rfl⟩
abbrev main_v294 : Ref sig .tc := ⟨.hbm, 365, rfl⟩
abbrev main_v295 : Ref sig .tc := ⟨.hbm, 366, rfl⟩
abbrev main_cst_63 : Ref sig .tc := ⟨.hbm, 367, rfl⟩
abbrev main_v296 : Ref sig .tc := ⟨.hbm, 368, rfl⟩
abbrev main_v297 : Ref sig .tc := ⟨.hbm, 369, rfl⟩
abbrev main_cst_64 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_cst_65 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_cst_66 : Ref sig .tc := ⟨.hbm, 378, rfl⟩
abbrev main_v304 : Ref sig .tc := ⟨.hbm, 379, rfl⟩
abbrev main_v305 : Ref sig .tc := ⟨.hbm, 380, rfl⟩
abbrev main_v306 : Ref sig .tc := ⟨.hbm, 381, rfl⟩
abbrev main_cst_67 : Ref sig .tc := ⟨.hbm, 382, rfl⟩
abbrev main_v307 : Ref sig .tc := ⟨.hbm, 383, rfl⟩
abbrev main_v308 : Ref sig .tc := ⟨.hbm, 384, rfl⟩
abbrev main_cst_68 : Ref sig .tc := ⟨.hbm, 385, rfl⟩
abbrev main_v309 : Ref sig .tc := ⟨.hbm, 386, rfl⟩
abbrev main_v310 : Ref sig .tc := ⟨.hbm, 387, rfl⟩
abbrev main_v311 : Ref sig .tc := ⟨.hbm, 388, rfl⟩
abbrev main_cst_69 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_cst_70 : Ref sig .tc := ⟨.hbm, 393, rfl⟩
abbrev main_v315 : Ref sig .tc := ⟨.hbm, 394, rfl⟩
abbrev main_v316 : Ref sig .tc := ⟨.hbm, 395, rfl⟩
abbrev main_v317 : Ref sig .tc := ⟨.hbm, 396, rfl⟩
abbrev main_cst_71 : Ref sig .tc := ⟨.hbm, 397, rfl⟩
abbrev main_v318 : Ref sig .tc := ⟨.hbm, 398, rfl⟩
abbrev main_v319 : Ref sig .tc := ⟨.hbm, 399, rfl⟩
abbrev main_cst_72 : Ref sig .tc := ⟨.hbm, 400, rfl⟩
abbrev main_v320 : Ref sig .tc := ⟨.hbm, 401, rfl⟩
abbrev main_v321 : Ref sig .tc := ⟨.hbm, 402, rfl⟩
abbrev main_cst_73 : Ref sig .tc := ⟨.hbm, 403, rfl⟩
abbrev main_v322 : Ref sig .tc := ⟨.hbm, 404, rfl⟩
abbrev main_v323 : Ref sig .tc := ⟨.hbm, 405, rfl⟩
abbrev main_v324 : Ref sig .tc := ⟨.hbm, 406, rfl⟩
abbrev main_cst_74 : Ref sig .tc := ⟨.hbm, 407, rfl⟩
abbrev main_v325 : Ref sig .tc := ⟨.hbm, 408, rfl⟩
abbrev main_v326 : Ref sig .tc := ⟨.hbm, 409, rfl⟩
abbrev main_v327 : Ref sig .tc := ⟨.hbm, 410, rfl⟩
abbrev main_cst_75 : Ref sig .tc := ⟨.hbm, 411, rfl⟩
abbrev main_v328 : Ref sig .tc := ⟨.hbm, 412, rfl⟩
abbrev main_v329 : Ref sig .tc := ⟨.hbm, 413, rfl⟩
abbrev main_v330 : Ref sig .tc := ⟨.hbm, 414, rfl⟩
abbrev main_cst_76 : Ref sig .tc := ⟨.hbm, 415, rfl⟩
abbrev main_v331 : Ref sig .tc := ⟨.hbm, 416, rfl⟩
abbrev main_v332 : Ref sig .tc := ⟨.hbm, 417, rfl⟩
abbrev main_cst_77 : Ref sig .tc := ⟨.hbm, 418, rfl⟩
abbrev main_v333 : Ref sig .tc := ⟨.hbm, 419, rfl⟩
abbrev main_v334 : Ref sig .tc := ⟨.hbm, 420, rfl⟩
abbrev main_v335 : Ref sig .tc := ⟨.hbm, 421, rfl⟩
abbrev main_cst_78 : Ref sig .tc := ⟨.hbm, 422, rfl⟩
abbrev main_v336 : Ref sig .tc := ⟨.hbm, 423, rfl⟩
abbrev main_v337 : Ref sig .tc := ⟨.hbm, 424, rfl⟩
abbrev main_v338 : Ref sig .tc := ⟨.hbm, 425, rfl⟩
abbrev main_cst_79 : Ref sig .tc := ⟨.hbm, 426, rfl⟩
abbrev main_v339 : Ref sig .tc := ⟨.hbm, 427, rfl⟩
abbrev main_v340 : Ref sig .tc := ⟨.hbm, 428, rfl⟩
abbrev main_v341 : Ref sig .tc := ⟨.hbm, 429, rfl⟩
abbrev main_cst_80 : Ref sig .tc := ⟨.hbm, 430, rfl⟩
abbrev main_v342 : Ref sig .tc := ⟨.hbm, 431, rfl⟩
abbrev main_v343 : Ref sig .tc := ⟨.hbm, 432, rfl⟩
abbrev main_cst_81 : Ref sig .tc := ⟨.hbm, 433, rfl⟩
abbrev main_v344 : Ref sig .tc := ⟨.hbm, 434, rfl⟩
abbrev main_v345 : Ref sig .tc := ⟨.hbm, 435, rfl⟩
abbrev main_cst_82 : Ref sig .tc := ⟨.hbm, 436, rfl⟩
abbrev main_v346 : Ref sig .tc := ⟨.hbm, 437, rfl⟩
abbrev main_v347 : Ref sig .tc := ⟨.hbm, 438, rfl⟩
abbrev main_v348 : Ref sig .tc := ⟨.hbm, 439, rfl⟩
abbrev main_cst_83 : Ref sig .tc := ⟨.hbm, 440, rfl⟩
abbrev main_v349 : Ref sig .tc := ⟨.hbm, 441, rfl⟩
abbrev main_v350 : Ref sig .tc := ⟨.hbm, 442, rfl⟩
abbrev main_v351 : Ref sig .tc := ⟨.hbm, 443, rfl⟩
abbrev main_cst_84 : Ref sig .tc := ⟨.hbm, 444, rfl⟩
abbrev main_v352 : Ref sig .tc := ⟨.hbm, 445, rfl⟩
abbrev main_v353 : Ref sig .tc := ⟨.hbm, 446, rfl⟩
abbrev main_v354 : Ref sig .tc := ⟨.hbm, 447, rfl⟩
abbrev main_cst_85 : Ref sig .tc := ⟨.hbm, 448, rfl⟩
abbrev main_v355 : Ref sig .tc := ⟨.hbm, 449, rfl⟩
abbrev main_v356 : Ref sig .tc := ⟨.hbm, 450, rfl⟩
abbrev main_cst_86 : Ref sig .tc := ⟨.hbm, 451, rfl⟩
abbrev main_v357 : Ref sig .tc := ⟨.hbm, 452, rfl⟩
abbrev main_v358 : Ref sig .tc := ⟨.hbm, 453, rfl⟩
abbrev main_v359 : Ref sig .tc := ⟨.hbm, 454, rfl⟩
abbrev main_cst_87 : Ref sig .tc := ⟨.hbm, 455, rfl⟩
abbrev main_v360 : Ref sig .tc := ⟨.hbm, 456, rfl⟩
abbrev main_v361 : Ref sig .tc := ⟨.hbm, 457, rfl⟩
abbrev main_v362 : Ref sig .tc := ⟨.hbm, 458, rfl⟩
abbrev main_cst_88 : Ref sig .tc := ⟨.hbm, 459, rfl⟩
abbrev main_v363 : Ref sig .tc := ⟨.hbm, 460, rfl⟩
abbrev main_v364 : Ref sig .tc := ⟨.hbm, 461, rfl⟩
abbrev main_v365 : Ref sig .tc := ⟨.hbm, 462, rfl⟩
abbrev main_cst_89 : Ref sig .tc := ⟨.hbm, 463, rfl⟩
abbrev main_v366 : Ref sig .tc := ⟨.hbm, 464, rfl⟩
abbrev main_v367 : Ref sig .tc := ⟨.hbm, 465, rfl⟩
abbrev main_cst_90 : Ref sig .tc := ⟨.hbm, 466, rfl⟩
abbrev main_v368 : Ref sig .tc := ⟨.hbm, 467, rfl⟩
abbrev main_v369 : Ref sig .tc := ⟨.hbm, 468, rfl⟩
abbrev main_cst_91 : Ref sig .tc := ⟨.hbm, 469, rfl⟩
abbrev main_v370 : Ref sig .tc := ⟨.hbm, 470, rfl⟩
abbrev main_v371 : Ref sig .tc := ⟨.hbm, 471, rfl⟩
abbrev main_v372 : Ref sig .tc := ⟨.hbm, 472, rfl⟩
abbrev main_cst_92 : Ref sig .tc := ⟨.hbm, 473, rfl⟩
abbrev main_v373 : Ref sig .tc := ⟨.hbm, 474, rfl⟩
abbrev main_v374 : Ref sig .tc := ⟨.hbm, 475, rfl⟩
abbrev main_v375 : Ref sig .tc := ⟨.hbm, 476, rfl⟩
abbrev main_cst_93 : Ref sig .tc := ⟨.hbm, 477, rfl⟩
abbrev main_v376 : Ref sig .tc := ⟨.hbm, 478, rfl⟩
abbrev main_v377 : Ref sig .tc := ⟨.hbm, 479, rfl⟩
abbrev main_v378 : Ref sig .tc := ⟨.hbm, 480, rfl⟩
abbrev main_cst_94 : Ref sig .tc := ⟨.hbm, 481, rfl⟩
abbrev main_v379 : Ref sig .tc := ⟨.hbm, 482, rfl⟩
abbrev main_v380 : Ref sig .tc := ⟨.hbm, 483, rfl⟩
abbrev main_cst_95 : Ref sig .tc := ⟨.hbm, 484, rfl⟩
abbrev main_v381 : Ref sig .tc := ⟨.hbm, 485, rfl⟩
abbrev main_v382 : Ref sig .tc := ⟨.hbm, 486, rfl⟩
abbrev main_v383 : Ref sig .tc := ⟨.hbm, 487, rfl⟩
abbrev main_cst_96 : Ref sig .tc := ⟨.hbm, 488, rfl⟩
abbrev main_v384 : Ref sig .tc := ⟨.hbm, 489, rfl⟩
abbrev main_v385 : Ref sig .tc := ⟨.hbm, 490, rfl⟩
abbrev main_v386 : Ref sig .tc := ⟨.hbm, 491, rfl⟩
abbrev main_cst_97 : Ref sig .tc := ⟨.hbm, 492, rfl⟩
abbrev main_v387 : Ref sig .tc := ⟨.hbm, 493, rfl⟩
abbrev main_v388 : Ref sig .tc := ⟨.hbm, 494, rfl⟩
abbrev main_v389 : Ref sig .tc := ⟨.hbm, 495, rfl⟩
abbrev main_cst_98 : Ref sig .tc := ⟨.hbm, 496, rfl⟩
abbrev main_v390 : Ref sig .tc := ⟨.hbm, 497, rfl⟩
abbrev main_v391 : Ref sig .tc := ⟨.hbm, 498, rfl⟩
abbrev main_cst_99 : Ref sig .tc := ⟨.hbm, 499, rfl⟩
abbrev main_v392 : Ref sig .tc := ⟨.hbm, 500, rfl⟩
abbrev main_v393 : Ref sig .tc := ⟨.hbm, 501, rfl⟩
abbrev main_cst_100 : Ref sig .tc := ⟨.hbm, 502, rfl⟩
abbrev main_v394 : Ref sig .tc := ⟨.hbm, 503, rfl⟩
abbrev main_v395 : Ref sig .tc := ⟨.hbm, 504, rfl⟩
abbrev main_v396 : Ref sig .tc := ⟨.hbm, 505, rfl⟩
abbrev main_cst_101 : Ref sig .tc := ⟨.hbm, 506, rfl⟩
abbrev main_v397 : Ref sig .tc := ⟨.hbm, 507, rfl⟩
abbrev main_v398 : Ref sig .tc := ⟨.hbm, 508, rfl⟩
abbrev main_v399 : Ref sig .tc := ⟨.hbm, 509, rfl⟩
abbrev main_cst_102 : Ref sig .tc := ⟨.hbm, 510, rfl⟩
abbrev main_v400 : Ref sig .tc := ⟨.hbm, 511, rfl⟩
abbrev main_v401 : Ref sig .tc := ⟨.hbm, 512, rfl⟩
abbrev main_v402 : Ref sig .tc := ⟨.hbm, 513, rfl⟩
abbrev main_cst_103 : Ref sig .tc := ⟨.hbm, 514, rfl⟩
abbrev main_v403 : Ref sig .tc := ⟨.hbm, 515, rfl⟩
abbrev main_v404 : Ref sig .tc := ⟨.hbm, 516, rfl⟩
abbrev main_cst_104 : Ref sig .tc := ⟨.hbm, 517, rfl⟩
abbrev main_v405 : Ref sig .tc := ⟨.hbm, 518, rfl⟩
abbrev main_v406 : Ref sig .tc := ⟨.hbm, 519, rfl⟩
abbrev main_v407 : Ref sig .tc := ⟨.hbm, 520, rfl⟩
abbrev main_cst_105 : Ref sig .tc := ⟨.hbm, 521, rfl⟩
abbrev main_v408 : Ref sig .tc := ⟨.hbm, 522, rfl⟩
abbrev main_v409 : Ref sig .tc := ⟨.hbm, 523, rfl⟩
abbrev main_v410 : Ref sig .tc := ⟨.hbm, 524, rfl⟩
abbrev main_cst_106 : Ref sig .tc := ⟨.hbm, 525, rfl⟩
abbrev main_v411 : Ref sig .tc := ⟨.hbm, 526, rfl⟩
abbrev main_v412 : Ref sig .tc := ⟨.hbm, 527, rfl⟩
abbrev main_v413 : Ref sig .tc := ⟨.hbm, 528, rfl⟩
abbrev main_cst_107 : Ref sig .tc := ⟨.hbm, 529, rfl⟩
abbrev main_v414 : Ref sig .tc := ⟨.hbm, 530, rfl⟩
abbrev main_v415 : Ref sig .tc := ⟨.hbm, 531, rfl⟩
abbrev main_cst_108 : Ref sig .tc := ⟨.hbm, 532, rfl⟩
abbrev main_v416 : Ref sig .tc := ⟨.hbm, 533, rfl⟩
abbrev main_v417 : Ref sig .tc := ⟨.hbm, 534, rfl⟩
abbrev main_cst_109 : Ref sig .tc := ⟨.hbm, 535, rfl⟩
abbrev main_v418 : Ref sig .tc := ⟨.hbm, 536, rfl⟩
abbrev main_v419 : Ref sig .tc := ⟨.hbm, 537, rfl⟩
abbrev main_v420 : Ref sig .tc := ⟨.hbm, 538, rfl⟩
abbrev main_cst_110 : Ref sig .tc := ⟨.hbm, 539, rfl⟩
abbrev main_v421 : Ref sig .tc := ⟨.hbm, 540, rfl⟩
abbrev main_v422 : Ref sig .tc := ⟨.hbm, 541, rfl⟩
abbrev main_v423 : Ref sig .tc := ⟨.hbm, 542, rfl⟩
abbrev main_cst_111 : Ref sig .tc := ⟨.hbm, 543, rfl⟩
abbrev main_v424 : Ref sig .tc := ⟨.hbm, 544, rfl⟩
abbrev main_v425 : Ref sig .tc := ⟨.hbm, 545, rfl⟩
abbrev main_v426 : Ref sig .tc := ⟨.hbm, 546, rfl⟩
abbrev main_cst_112 : Ref sig .tc := ⟨.hbm, 547, rfl⟩
abbrev main_v427 : Ref sig .tc := ⟨.hbm, 548, rfl⟩
abbrev main_v428 : Ref sig .tc := ⟨.hbm, 549, rfl⟩
abbrev main_cst_113 : Ref sig .tc := ⟨.hbm, 550, rfl⟩
abbrev main_v429 : Ref sig .tc := ⟨.hbm, 551, rfl⟩
abbrev main_v430 : Ref sig .tc := ⟨.hbm, 552, rfl⟩
abbrev main_v431 : Ref sig .tc := ⟨.hbm, 553, rfl⟩
abbrev main_cst_114 : Ref sig .tc := ⟨.hbm, 554, rfl⟩
abbrev main_v432 : Ref sig .tc := ⟨.hbm, 555, rfl⟩
abbrev main_v433 : Ref sig .tc := ⟨.hbm, 556, rfl⟩
abbrev main_v434 : Ref sig .tc := ⟨.hbm, 557, rfl⟩
abbrev main_cst_115 : Ref sig .tc := ⟨.hbm, 558, rfl⟩
abbrev main_v435 : Ref sig .tc := ⟨.hbm, 559, rfl⟩
abbrev main_v436 : Ref sig .tc := ⟨.hbm, 560, rfl⟩
abbrev main_v437 : Ref sig .tc := ⟨.hbm, 561, rfl⟩
abbrev main_cst_116 : Ref sig .tc := ⟨.hbm, 562, rfl⟩
abbrev main_v438 : Ref sig .tc := ⟨.hbm, 563, rfl⟩
abbrev main_v439 : Ref sig .tc := ⟨.hbm, 564, rfl⟩
abbrev main_cst_117 : Ref sig .tc := ⟨.hbm, 565, rfl⟩
abbrev main_v440 : Ref sig .tc := ⟨.hbm, 566, rfl⟩
abbrev main_v441 : Ref sig .tc := ⟨.hbm, 567, rfl⟩
abbrev main_cst_118 : Ref sig .tc := ⟨.hbm, 568, rfl⟩
abbrev main_v442 : Ref sig .tc := ⟨.hbm, 569, rfl⟩
abbrev main_v443 : Ref sig .tc := ⟨.hbm, 570, rfl⟩
abbrev main_v444 : Ref sig .tc := ⟨.hbm, 571, rfl⟩
abbrev main_cst_119 : Ref sig .tc := ⟨.hbm, 572, rfl⟩
abbrev main_v445 : Ref sig .tc := ⟨.hbm, 573, rfl⟩
abbrev main_v446 : Ref sig .tc := ⟨.hbm, 574, rfl⟩
abbrev main_v447 : Ref sig .tc := ⟨.hbm, 575, rfl⟩
abbrev main_cst_120 : Ref sig .tc := ⟨.hbm, 576, rfl⟩
abbrev main_v448 : Ref sig .tc := ⟨.hbm, 577, rfl⟩
abbrev main_v449 : Ref sig .tc := ⟨.hbm, 578, rfl⟩
abbrev main_v450 : Ref sig .tc := ⟨.hbm, 579, rfl⟩
abbrev main_cst_121 : Ref sig .tc := ⟨.hbm, 580, rfl⟩
abbrev main_v451 : Ref sig .tc := ⟨.hbm, 581, rfl⟩
abbrev main_v452 : Ref sig .tc := ⟨.hbm, 582, rfl⟩
abbrev main_cst_122 : Ref sig .tc := ⟨.hbm, 583, rfl⟩
abbrev main_v453 : Ref sig .tc := ⟨.hbm, 584, rfl⟩
abbrev main_v454 : Ref sig .tc := ⟨.hbm, 585, rfl⟩
abbrev main_v455 : Ref sig .tc := ⟨.hbm, 586, rfl⟩
abbrev main_cst_123 : Ref sig .tc := ⟨.hbm, 587, rfl⟩
abbrev main_v456 : Ref sig .tc := ⟨.hbm, 588, rfl⟩
abbrev main_v457 : Ref sig .tc := ⟨.hbm, 589, rfl⟩
abbrev main_v458 : Ref sig .tc := ⟨.hbm, 590, rfl⟩
abbrev main_cst_124 : Ref sig .tc := ⟨.hbm, 591, rfl⟩
abbrev main_v459 : Ref sig .tc := ⟨.hbm, 592, rfl⟩
abbrev main_v460 : Ref sig .tc := ⟨.hbm, 593, rfl⟩
abbrev main_v461 : Ref sig .tc := ⟨.hbm, 594, rfl⟩
abbrev main_cst_125 : Ref sig .tc := ⟨.hbm, 595, rfl⟩
abbrev main_v462 : Ref sig .tc := ⟨.hbm, 596, rfl⟩
abbrev main_v463 : Ref sig .tc := ⟨.hbm, 597, rfl⟩
abbrev main_cst_126 : Ref sig .tc := ⟨.hbm, 598, rfl⟩
abbrev main_v464 : Ref sig .tc := ⟨.hbm, 599, rfl⟩
abbrev main_v465 : Ref sig .tc := ⟨.hbm, 600, rfl⟩
abbrev main_cst_127 : Ref sig .tc := ⟨.hbm, 601, rfl⟩
abbrev main_v466 : Ref sig .tc := ⟨.hbm, 602, rfl⟩
abbrev main_v467 : Ref sig .tc := ⟨.hbm, 603, rfl⟩
abbrev main_v468 : Ref sig .tc := ⟨.hbm, 604, rfl⟩
abbrev main_cst_128 : Ref sig .tc := ⟨.hbm, 605, rfl⟩
abbrev main_v469 : Ref sig .tc := ⟨.hbm, 606, rfl⟩
abbrev main_v470 : Ref sig .tc := ⟨.hbm, 607, rfl⟩
abbrev main_v471 : Ref sig .tc := ⟨.hbm, 608, rfl⟩
abbrev main_cst_129 : Ref sig .tc := ⟨.hbm, 609, rfl⟩
abbrev main_v472 : Ref sig .tc := ⟨.hbm, 610, rfl⟩
abbrev main_v473 : Ref sig .tc := ⟨.hbm, 611, rfl⟩
abbrev main_v474 : Ref sig .tc := ⟨.hbm, 612, rfl⟩
abbrev main_cst_130 : Ref sig .tc := ⟨.hbm, 613, rfl⟩
abbrev main_v475 : Ref sig .tc := ⟨.hbm, 614, rfl⟩
abbrev main_v476 : Ref sig .tc := ⟨.hbm, 615, rfl⟩
abbrev main_cst_131 : Ref sig .tc := ⟨.hbm, 616, rfl⟩
abbrev main_v477 : Ref sig .tc := ⟨.hbm, 617, rfl⟩
abbrev main_v478 : Ref sig .tc := ⟨.hbm, 618, rfl⟩
abbrev main_v479 : Ref sig .tc := ⟨.hbm, 619, rfl⟩
abbrev main_cst_132 : Ref sig .tc := ⟨.hbm, 620, rfl⟩
abbrev main_v480 : Ref sig .tc := ⟨.hbm, 621, rfl⟩
abbrev main_v481 : Ref sig .tc := ⟨.hbm, 622, rfl⟩
abbrev main_v482 : Ref sig .tc := ⟨.hbm, 623, rfl⟩
abbrev main_cst_133 : Ref sig .tc := ⟨.hbm, 624, rfl⟩
abbrev main_v483 : Ref sig .tc := ⟨.hbm, 625, rfl⟩
abbrev main_v484 : Ref sig .tc := ⟨.hbm, 626, rfl⟩
abbrev main_v485 : Ref sig .tc := ⟨.hbm, 627, rfl⟩
abbrev main_cst_134 : Ref sig .tc := ⟨.hbm, 628, rfl⟩
abbrev main_v486 : Ref sig .tc := ⟨.hbm, 629, rfl⟩
abbrev main_v487 : Ref sig .tc := ⟨.hbm, 630, rfl⟩

abbrev nD : Nat := 1
abbrev τ : Topo := Topo.v7x

variable {F : FTy → Type} [FloatOps F]
-- ==== Proof.ConvColumn.lean ====
/- One channel of the gated causal convolution and of its gradient, over the extended reals: a channel is a column of 2048
   rows, its three taps and its bias. `down` and `up` shift a column along the sequence, zero outside it. -/
module

public import Idealize.ShloMosaic.Lib.Pointwise

@[expose] public section

noncomputable section

namespace Cert.Conv

open Idealize.ShloMosaic

/-- One channel over the sequence. -/
abbrev Col := Fin 2048 → EReal

/-- `X` delayed by `k` rows. -/
def down (k : ℕ) (X : Col) : Col := fun r => if k ≤ r.val then X ⟨r.val - k, by omega⟩ else 0

/-- `X` advanced by `k` rows. -/
def up (k : ℕ) (X : Col) : Col := fun r => if h : r.val + k < 2048 then X ⟨r.val + k, h⟩ else 0

/-- The causal convolution of width three. -/
def conv (w : Fin 3 → EReal) (b : EReal) (X : Col) : Col :=
  fun r => w 2 * X r + w 1 * down 1 X r + w 0 * down 2 X r + b

def sgm (x : EReal) : EReal := Ideal.div 1 (1 + Ideal.exp (0 - x))

/-- The gradient of `silu a * b` in `a`, as the kernel factors it. -/
def gradA (a b d : EReal) : EReal := d * b * (sgm a * (1 + a * (1 - sgm a)))

/-- The gradient of `silu a * b` in `b`. -/
def gradB (a d : EReal) : EReal := d * (a * sgm a)

/-- The convolution's gradient in its input, `G` the gradient in its output. -/
def back (w : Fin 3 → EReal) (G : Col) : Col := fun r => w 2 * G r + w 1 * up 1 G r + w 0 * up 2 G r

/-- The convolution's gradient in tap `k`. -/
def tap (k : Fin 3) (G X : Col) : EReal := ∑ r, G r * down (2 - k.val) X r

/-! ## The gradients over all channels

`hu`, `w` and `b` hold both halves side by side, `d` one value per channel of a half. -/

section Arrays

/-- Channel `l` of the first half, and of the second. -/
abbrev lo (l : Fin 2816) : Fin 5632 := ⟨l.val, by omega⟩
abbrev hi (l : Fin 2816) : Fin 5632 := ⟨2816 + l.val, by omega⟩

variable (hu : Vec Ideal ⟨2, ![2048, 5632]⟩ .f32) (w : Vec Ideal ⟨2, ![3, 5632]⟩ .f32) (b : Vec Ideal ⟨2, ![1, 5632]⟩ .f32)
  (d : Vec Ideal ⟨2, ![2048, 2816]⟩ .f32)

def channel (l : Fin 5632) : Col := fun r => hu (ix2 r l)

def taps (l : Fin 5632) : Fin 3 → EReal := fun k => w (ix2 k l)

/-- The convolution of channel `l`. -/
def convOf (l : Fin 5632) : Col := conv (taps w l) (b (ix2 0 l)) (channel hu l)

/-- The gradient in the convolution of the first half's channel `l`, and of the second half's. -/
def gradLo (l : Fin 2816) : Col := fun r => gradA (convOf hu w b (lo l) r) (convOf hu w b (hi l) r) (d (ix2 r l))
def gradHi (l : Fin 2816) : Col := fun r => gradB (convOf hu w b (lo l) r) (d (ix2 r l))

/-- The six results: the gradients in the input's halves, in the taps' halves and in the bias's. -/
def dxLo : Vec Ideal ⟨2, ![2048, 2816]⟩ .bf16 := fun i => back (taps w (lo (i 1))) (gradLo hu w b d (i 1)) (i 0)
def dxHi : Vec Ideal ⟨2, ![2048, 2816]⟩ .bf16 := fun i => back (taps w (hi (i 1))) (gradHi hu w b d (i 1)) (i 0)
def dwLo : Vec Ideal ⟨2, ![3, 2816]⟩ .f32 := fun i => tap (i 0) (gradLo hu w b d (i 1)) (channel hu (lo (i 1)))
def dwHi : Vec Ideal ⟨2, ![3, 2816]⟩ .f32 := fun i => tap (i 0) (gradHi hu w b d (i 1)) (channel hu (hi (i 1)))
def dbLo : Vec Ideal ⟨2, ![1, 2816]⟩ .f32 := fun i => ∑ r, gradLo hu w b d (i 1) r
def dbHi : Vec Ideal ⟨2, ![1, 2816]⟩ .f32 := fun i => ∑ r, gradHi hu w b d (i 1) r

end Arrays

theorem down_zero (X : Col) : down 0 X = X := by
  funext r; simp [down]

end Cert.Conv
-- ==== Proof.ConvKernel.lean ====
/- The kernel's values: what its body computes of one block of 256 channels, a channel at a time, and so what each result
   array holds after the run. -/
module

public import proofs.«01_k».proof.Proof.ConvColumn
public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.Conv

open Idealize.ShloMosaic Idealize.ShloMosaic.TcCoe Idealize.SL.Sem
open Cert.KernelIdeal Cert.KernelIdeal.Gen

/-! ## The body, one channel at a time -/

/-- Column `l` of a block. -/
abbrev colOf (x : Vec Ideal S2048x256 .f32) (l : Fin 256) : Col := fun r => x (ix2 r l)

abbrev tapsOf (w : Vec Ideal S3x256 .f32) (l : Fin 256) : Fin 3 → EReal := fun k => w (ix2 k l)

theorem select_ge (r : Fin 2048) (k : ℕ) (hk : k < 2048) (X : Col) :
    Scalar.select (IntOp.cmpi .sge (BitVec.ofNat 32 r.val) (BitVec.ofNat 32 k))
      (X ⟨(r.val + 2048 - k) % 2048, Nat.mod_lt _ (by decide)⟩) (0 : EReal) = down k X r := by
  rw [WordCmp.cmpi_sge_ofNat (by omega) (by omega)]
  unfold down Scalar.select
  by_cases h : k ≤ r.val
  · have e : (r.val + 2048 - k) % 2048 = r.val - k := by omega
    simp [h, e]
  · simp [h]

theorem select_lt (r : Fin 2048) (k : ℕ) (hk : k < 2048) (a : EReal) (X : Col) :
    Scalar.select (IntOp.cmpi .slt (BitVec.ofNat 32 r.val) (BitVec.ofNat 32 (2048 - k)))
      (a * X ⟨(r.val + 2048 - (2048 - k)) % 2048, Nat.mod_lt _ (by decide)⟩) (0 : EReal) = a * up k X r := by
  rw [WordCmp.cmpi_slt_ofNat (by omega) (by omega)]
  unfold up Scalar.select
  by_cases h : r.val + k < 2048
  · have e : (r.val + 2048 - (2048 - k)) % 2048 = r.val + k := by omega
    have h' : r.val < 2048 - k := by omega
    simp [h, h', e]
  · have h' : ¬ r.val < 2048 - k := by omega
    simp [h, h']

theorem pay4_apply (x : Vec Ideal S2048x256 .f32) (r : Fin 2048) (l : Fin 256) :
    k0_pay4 x (ix2 r l) = down 1 (colOf x l) r := by
  pointwise [k0_pay4]
  exact select_ge r 1 (by decide) (colOf x l)

theorem pay5_apply (x : Vec Ideal S2048x256 .f32) (r : Fin 2048) (l : Fin 256) :
    k0_pay5 x (ix2 r l) = down 2 (colOf x l) r := by
  pointwise [k0_pay5]
  exact select_ge r 2 (by decide) (colOf x l)

theorem pay7_apply (x : Vec Ideal S2048x256 .f32) (r : Fin 2048) (l : Fin 256) :
    k0_pay7 x (ix2 r l) = down 1 (colOf x l) r := pay4_apply x r l

theorem pay9_apply (x : Vec Ideal S2048x256 .f32) (r : Fin 2048) (l : Fin 256) :
    k0_pay9 x k0_pay8 (ix2 r l) = down 2 (colOf x l) r := pay5_apply x r l

theorem pay6_apply (x : Vec Ideal S2048x256 .f32) (w : Vec Ideal S3x256 .f32) (b : Vec Ideal S1x256 .f32)
    (r : Fin 2048) (l : Fin 256) :
    k0_pay6 x w b (ix2 r l) = conv (tapsOf w l) (b (ix2 0 l)) (colOf x l) r := by
  pointwise [k0_pay6]
  rw [pay4_apply, pay5_apply]
  rfl

theorem pay10_apply (x : Vec Ideal S2048x256 .f32) (r : Fin 2048) (l : Fin 256) :
    k0_pay10 (F := Ideal) x (ix2 r l) = sgm (x (ix2 r l)) := by
  pointwise [k0_pay10]
  rfl

variable (xa xb d : Vec Ideal S2048x256 .f32) (wa wb : Vec Ideal S3x256 .f32) (ba bb : Vec Ideal S1x256 .f32)

/-- The gradient in the first half's convolution, column `l`. -/
abbrev colA (l : Fin 256) : Col := fun r =>
  gradA (conv (tapsOf wa l) (ba (ix2 0 l)) (colOf xa l) r) (conv (tapsOf wb l) (bb (ix2 0 l)) (colOf xb l) r) (d (ix2 r l))

/-- The gradient in the second half's convolution, column `l`. -/
abbrev colB (l : Fin 256) : Col := fun r =>
  gradB (conv (tapsOf wa l) (ba (ix2 0 l)) (colOf xa l) r) (d (ix2 r l))

theorem pay11_apply (r : Fin 2048) (l : Fin 256) :
    k0_pay11 xb wb (k0_pay6 xa wa ba) bb (k0_pay7 xb) k0_pay8 d (ix2 r l) = colA xa xb d wa wb ba bb l r := by
  pointwise [k0_pay11]
  rw [pay7_apply, pay9_apply, pay10_apply, pay6_apply]
  rfl

theorem pay12_apply (r : Fin 2048) (l : Fin 256) :
    k0_pay12 (k0_pay6 xa wa ba) d (ix2 r l) = colB xa d wa ba l r := by
  pointwise [k0_pay12]
  rw [pay10_apply, pay6_apply]
  rfl

/-- The row numbers of a block. -/
abbrev rows : IVec S2048x256 32 := iota .tc S2048x256 32 [0] iota_S2048x256_d0_w32

theorem pay15_apply (g : Vec Ideal S2048x256 .f32) (y : Vec Ideal S2048x256 .f32) (w : Vec Ideal S3x256 .f32) (r : Fin 2048) (l : Fin 256) :
    k0_pay15 (F := Ideal) rows g y (k0_pay14 w) 2046#32 (ix2 r l)
      = y (ix2 r l) + w (ix2 0 l) * up 2 (colOf g l) r := by
  pointwise [k0_pay15, k0_pay14]
  rw [← select_lt r 2 (by decide) (w (ix2 0 l)) (colOf g l)]

theorem pay13_apply (r : Fin 2048) (l : Fin 256) :
    k0_pay13 rows xb wa wb (k0_pay6 xa wa ba) bb (k0_pay7 xb) k0_pay8 d (ix2 r l)
      = wa (ix2 2 l) * colA xa xb d wa wb ba bb l r + wa (ix2 1 l) * up 1 (colA xa xb d wa wb ba bb l) r := by
  pointwise [k0_pay13]
  rw [← select_lt r 1 (by decide) (wa (ix2 1 l)) (colA xa xb d wa wb ba bb l), pay11_apply, pay11_apply]

theorem pay1_apply (g : Vec Ideal S2048x256 .f32) (w : Vec Ideal S3x256 .f32) (r : Fin 2048) (l : Fin 256) :
    k0_pay1 (F := Ideal) (k0_pay18 rows w g) (k0_pay19 w) (k0_pay20 rows) (k0_pay21 g) (ix2 r l)
      = back (tapsOf w l) (colOf g l) r := by
  pointwise [k0_pay1, k0_pay18, k0_pay19, k0_pay20, k0_pay21]
  unfold back
  rw [← select_lt r 2 (by decide) (tapsOf w l 0) (colOf g l), ← select_lt r 1 (by decide) (tapsOf w l 1) (colOf g l)]

theorem pay2_apply (x g : Vec Ideal S2048x256 .f32) (k : Fin 3) (l : Fin 256) :
    k0_pay2 (F := Ideal) x (k0_pay7 x) (k0_pay9 x k0_pay8) g (ix2 k l) = tap k (colOf g l) (colOf x l) := by
  pointwise [k0_pay2]
  simp only [pay7_apply, pay9_apply]
  unfold tap
  match k with
  | 0 => rfl
  | 1 => rfl
  | 2 => rw [show 2 - (2 : Fin 3).val = 0 from rfl, down_zero]; rfl

theorem pay16_apply (x g : Vec Ideal S2048x256 .f32) (k : Fin 3) (l : Fin 256) :
    k0_pay16 (F := Ideal) x (k0_pay4 x) (k0_pay5 x) g (ix2 k l) = tap k (colOf g l) (colOf x l) :=
  pay2_apply x g k l

theorem pay3_apply (g : Vec Ideal S2048x256 .f32) (l : Fin 256) :
    k0_pay3 (F := Ideal) g (ix2 0 l) = ∑ r, colOf g l r := by
  pointwise [k0_pay3]

/-! ## What a grid point leaves in each output block -/

variable (r : Fin 2048) (l : Fin 256)

theorem out7_apply : out0_7 xa xb wa wb ba bb d (ix2 r l) = back (tapsOf wa l) (colA xa xb d wa wb ba bb l) r := by
  unfold_out out0_7
  frame_out
  rw [pay15_apply, pay13_apply]
  unfold back
  congr 3
  funext r
  exact pay11_apply xa xb d wa wb ba bb r l

theorem out8_apply : out0_8 xa xb wa wb ba bb d (ix2 r l) = back (tapsOf wb l) (colB xa d wa ba l) r := by
  unfold_out out0_8
  frame_out
  rw [pay1_apply]
  congr 1
  funext r
  exact pay12_apply xa d wa ba r l

theorem out9_apply (k : Fin 3) :
    out0_9 xa xb wa wb ba bb d (ix2 k l) = tap k (colA xa xb d wa wb ba bb l) (colOf xa l) := by
  unfold_out out0_9
  frame_out
  rw [pay16_apply]
  congr 1
  funext r
  exact pay11_apply xa xb d wa wb ba bb r l

theorem out10_apply (k : Fin 3) :
    out0_10 xa xb wa wb ba bb d (ix2 k l) = tap k (colB xa d wa ba l) (colOf xb l) := by
  unfold_out out0_10
  frame_out
  rw [pay2_apply]
  congr 1
  funext r
  exact pay12_apply xa d wa ba r l

theorem out11_apply :
    out0_11 xa xb wa wb ba bb d (ix2 0 l) = ∑ r, colA xa xb d wa wb ba bb l r := by
  unfold_out out0_11
  frame_out
  refine (pay3_apply _ l).trans (Finset.sum_congr rfl fun r _ => ?_)
  exact pay11_apply xa xb d wa wb ba bb r l

theorem out12_apply :
    out0_12 xa xb wa wb ba bb d (ix2 0 l) = ∑ r, colB xa d wa ba l r := by
  unfold_out out0_12
  frame_out
  refine (pay3_apply _ l).trans (Finset.sum_congr rfl fun r _ => ?_)
  exact pay12_apply xa d wa ba r l

end Cert.Conv
-- ==== Proof.ConvArrays.lean ====
/- What the kernel's six result arrays hold after the run: the gradients of `ConvColumn`, over all channels. -/
module

public import proofs.«01_k».proof.Proof.ConvKernel

@[expose] public section

set_option maxRecDepth 16384

noncomputable section

namespace Cert.Conv

open Idealize.ShloMosaic Idealize.ShloMosaic.TcCoe Idealize.SL.Sem
open Cert.KernelIdeal Cert.KernelIdeal.Gen

variable (m : (ℓ : Loc nD τ sig) → Buf (Elt Ideal) ℓ) (c : Dev nD)

abbrev argHu : Vec Ideal S2048x5632 .f32 := V m c main_arg0
abbrev argW : Vec Ideal S3x5632 .f32 := V m c main_arg1
abbrev argB : Vec Ideal S1x5632 .f32 := V m c main_arg2
abbrev argD : Vec Ideal S2048x2816 .f32 := V m c main_arg3

/-- Every window moves along the channels only. -/
theorem idxs : ∀ t : Fin cfg0.N,
    win0_0.index t = ![0, t.val] ∧ win0_1.index t = ![0, t.val + 11] ∧ win0_2.index t = ![0, t.val]
    ∧ win0_3.index t = ![0, t.val + 11] ∧ win0_4.index t = ![0, t.val] ∧ win0_5.index t = ![0, t.val + 11]
    ∧ win0_6.index t = ![0, t.val] ∧ win0_7.index t = ![0, t.val] ∧ win0_8.index t = ![0, t.val]
    ∧ win0_9.index t = ![0, t.val] ∧ win0_10.index t = ![0, t.val] ∧ win0_11.index t = ![0, t.val]
    ∧ win0_12.index t = ![0, t.val] :=
  (by decide +kernel : ∀ t : Fin grid0.N, _)

/-- The channel at column `l` of point `t`. -/
abbrev at_ (t : Fin cfg0.N) (l : Fin 256) : Fin 2816 :=
  ⟨t.val * 256 + l.val, by have := t.isLt; have h : cfg0.N = 11 := rfl; omega⟩

variable (t : Fin cfg0.N)

theorem blk0 (r : Fin 2048) (l : Fin 256) : iblk m c 0 t (ix2 r l) = argHu m c (ix2 r (lo (at_ t l))) := by
  obtain ⟨e, -⟩ := idxs t
  blk_simp [iblk]
  congr 1
  blk_ext [e]

theorem blk1 (r : Fin 2048) (l : Fin 256) : iblk m c 1 t (ix2 r l) = argHu m c (ix2 r (hi (at_ t l))) := by
  obtain ⟨-, e, -⟩ := idxs t
  blk_simp [iblk]
  congr 1
  blk_ext [e]

theorem blk2 (r : Fin 3) (l : Fin 256) : iblk m c 2 t (ix2 r l) = argW m c (ix2 r (lo (at_ t l))) := by
  obtain ⟨-, -, e, -⟩ := idxs t
  blk_simp [iblk]
  congr 1
  blk_ext [e]

theorem blk3 (r : Fin 3) (l : Fin 256) : iblk m c 3 t (ix2 r l) = argW m c (ix2 r (hi (at_ t l))) := by
  obtain ⟨-, -, -, e, -⟩ := idxs t
  blk_simp [iblk]
  congr 1
  blk_ext [e]

theorem blk4 (r : Fin 1) (l : Fin 256) : iblk m c 4 t (ix2 r l) = argB m c (ix2 r (lo (at_ t l))) := by
  obtain ⟨-, -, -, -, e, -⟩ := idxs t
  blk_simp [iblk]
  congr 1
  blk_ext [e]

theorem blk5 (r : Fin 1) (l : Fin 256) : iblk m c 5 t (ix2 r l) = argB m c (ix2 r (hi (at_ t l))) := by
  obtain ⟨-, -, -, -, -, e, -⟩ := idxs t
  blk_simp [iblk]
  congr 1
  blk_ext [e]

theorem blk6 (r : Fin 2048) (l : Fin 256) : iblk m c 6 t (ix2 r l) = argD m c (ix2 r (at_ t l)) := by
  obtain ⟨-, -, -, -, -, -, e, -⟩ := idxs t
  blk_simp [iblk]
  congr 1
  blk_ext [e]

theorem col0 (l : Fin 256) : colOf (iblk m c 0 t) l = channel (argHu m c) (lo (at_ t l)) := funext fun r => blk0 m c t r l
theorem col1 (l : Fin 256) : colOf (iblk m c 1 t) l = channel (argHu m c) (hi (at_ t l)) := funext fun r => blk1 m c t r l
theorem taps2 (l : Fin 256) : tapsOf (iblk m c 2 t) l = taps (argW m c) (lo (at_ t l)) := funext fun k => blk2 m c t k l
theorem taps3 (l : Fin 256) : tapsOf (iblk m c 3 t) l = taps (argW m c) (hi (at_ t l)) := funext fun k => blk3 m c t k l

theorem colA_blocks (l : Fin 256) :
    colA (iblk m c 0 t) (iblk m c 1 t) (iblk m c 6 t) (iblk m c 2 t) (iblk m c 3 t) (iblk m c 4 t) (iblk m c 5 t) l
      = gradLo (argHu m c) (argW m c) (argB m c) (argD m c) (at_ t l) := by
  funext r
  unfold gradLo convOf colA
  rw [col0, col1, taps2, taps3, blk4, blk5, blk6]

theorem colB_blocks (l : Fin 256) :
    colB (iblk m c 0 t) (iblk m c 6 t) (iblk m c 2 t) (iblk m c 4 t) l
      = gradHi (argHu m c) (argW m c) (argB m c) (argD m c) (at_ t l) := by
  funext r
  unfold gradHi convOf colB
  rw [col0, taps2, blk4, blk6]

/-! ## The result arrays -/

/-- The index of an output block's entry in its array. -/
theorem emb7 (r : Fin 2048) (l : Fin 256) : (win0_7.blk t).view.emb (ix2 r l) = ix2 r (at_ t l) := by
  obtain ⟨-, -, -, -, -, -, -, e, -⟩ := idxs t
  blk_ext [e]

theorem emb8 (r : Fin 2048) (l : Fin 256) : (win0_8.blk t).view.emb (ix2 r l) = ix2 r (at_ t l) := by
  obtain ⟨-, -, -, -, -, -, -, -, e, -⟩ := idxs t
  blk_ext [e]

theorem emb9 (k : Fin 3) (l : Fin 256) : (win0_9.blk t).view.emb (ix2 k l) = ix2 k (at_ t l) := by
  obtain ⟨-, -, -, -, -, -, -, -, -, e, -⟩ := idxs t
  blk_ext [e]

theorem emb10 (k : Fin 3) (l : Fin 256) : (win0_10.blk t).view.emb (ix2 k l) = ix2 k (at_ t l) := by
  obtain ⟨-, -, -, -, -, -, -, -, -, -, e, -⟩ := idxs t
  blk_ext [e]

theorem emb11 (r : Fin 1) (l : Fin 256) : (win0_11.blk t).view.emb (ix2 r l) = ix2 r (at_ t l) := by
  obtain ⟨-, -, -, -, -, -, -, -, -, -, -, e, -⟩ := idxs t
  blk_ext [e]

theorem emb12 (r : Fin 1) (l : Fin 256) : (win0_12.blk t).view.emb (ix2 r l) = ix2 r (at_ t l) := by
  obtain ⟨-, -, -, -, -, -, -, -, -, -, -, -, e⟩ := idxs t
  blk_ext [e]

theorem final7 : (dats m 0 c).arrAt 7 cfg0.N = dxLo (argHu m c) (argW m c) (argB m c) (argD m c) := by
  refine (dats m 0 c).arrAt_eq_of_covers 7 _ (by decide +kernel) fun t hf y => ?_
  idx_vars y
  blk_simp
  rw [after0_7, out7_apply, colA_blocks, taps2, emb7]
  rfl

theorem final8 : (dats m 0 c).arrAt 8 cfg0.N = dxHi (argHu m c) (argW m c) (argB m c) (argD m c) := by
  refine (dats m 0 c).arrAt_eq_of_covers 8 _ (by decide +kernel) fun t hf y => ?_
  idx_vars y
  blk_simp
  rw [after0_8, out8_apply, colB_blocks, taps3, emb8]
  rfl

theorem final9 : (dats m 0 c).arrAt 9 cfg0.N = dwLo (argHu m c) (argW m c) (argB m c) (argD m c) := by
  refine (dats m 0 c).arrAt_eq_of_covers 9 _ (by decide +kernel) fun t hf y => ?_
  idx_vars y
  blk_simp
  rw [after0_9, out9_apply, colA_blocks, col0, emb9]
  rfl

theorem final10 : (dats m 0 c).arrAt 10 cfg0.N = dwHi (argHu m c) (argW m c) (argB m c) (argD m c) := by
  refine (dats m 0 c).arrAt_eq_of_covers 10 _ (by decide +kernel) fun t hf y => ?_
  idx_vars y
  blk_simp
  rw [after0_10, out10_apply, colB_blocks, col1, emb10]
  rfl

theorem final11 : (dats m 0 c).arrAt 11 cfg0.N = dbLo (argHu m c) (argW m c) (argB m c) (argD m c) := by
  refine (dats m 0 c).arrAt_eq_of_covers 11 _ (by decide +kernel) fun t hf y => ?_
  idx_vars y
  obtain rfl : y0 = 0 := Subsingleton.elim _ _
  blk_simp
  rw [after0_11, out11_apply, colA_blocks, emb11]
  rfl

theorem final12 : (dats m 0 c).arrAt 12 cfg0.N = dbHi (argHu m c) (argW m c) (argB m c) (argD m c) := by
  refine (dats m 0 c).arrAt_eq_of_covers 12 _ (by decide +kernel) fun t hf y => ?_
  idx_vars y
  obtain rfl : y0 = 0 := Subsingleton.elim _ _
  blk_simp
  rw [after0_12, out12_apply, colB_blocks, emb12]
  rfl

end Cert.Conv
-- ==== Proof.ConvReference.lean ====
/- The reference's values: the gradient `jax.vjp` takes, a channel at a time. -/
module

public import proofs.«01_k».proof.Proof.ConvColumn
public import proofs.«01_k».proof.Proof.Gen.ReferenceIdeal.Read

@[expose] public section

set_option maxRecDepth 16384

noncomputable section

namespace Cert.Conv

open Idealize.ShloMosaic Idealize.ShloMosaic.TcCoe
open Cert.ReferenceIdeal Cert.ReferenceIdeal.Read

variable (hu : Vec Ideal S2048x5632 .f32) (w : Vec Ideal S3x5632 .f32) (b : Vec Ideal S1x5632 .f32)
  (d : Vec Ideal S2048x2816 .f32)

theorem v3_apply (r : Fin 2048) (l : Fin 5632) : val_main_v3 (F := Ideal) hu (ix2 r l) = down 2 (channel hu l) r := by
  pointwise [val_main_v3, val_main_v2, val_main_v1, val_main_cst]
  unfold down channel
  by_cases h : r.val < 2
  · have h' : ¬ 2 ≤ r.val := by omega
    simp [h, h']
  · have h' : 2 ≤ r.val := by omega
    simp [h, h']

theorem v12_apply (r : Fin 2048) (l : Fin 5632) : val_main_v12 (F := Ideal) hu (ix2 r l) = down 1 (channel hu l) r := by
  pointwise [val_main_v12, val_main_v11, val_main_v10, val_main_cst_2]
  unfold down channel
  by_cases h : r.val < 1
  · have h' : ¬ 1 ≤ r.val := by omega
    simp [h, h']
  · have h' : 1 ≤ r.val := by omega
    simp [h, h']

theorem v22_apply (r : Fin 2048) (l : Fin 5632) : val_main_v22 (F := Ideal) hu w b (ix2 r l) = convOf hu w b l r := by
  pointwise [val_main_v22, val_main_v21, val_main_v20, val_main_v19, val_main_v18, val_main_v17, val_main_v16, val_main_v15,
    val_main_v14, val_main_v9, val_main_v8, val_main_v7, val_main_v6, val_main_v5, val_main_v0, val_main_cst_1]
  rw [v3_apply, v12_apply]
  unfold convOf conv taps channel
  exact (fun x y z e : EReal => (by ac_rfl : x + y + z + e = z + y + x + e)) _ _ _ _

theorem v24_2_apply (r : Fin 2048) (l : Fin 2816) :
    val_main_v24_2 (F := Ideal) hu w b (ix2 r l) = sgm (convOf hu w b (lo l) r) := by
  pointwise [val_main_v24_2, val_main_call0_v4, val_main_call0_cst_0, val_main_call0_v3, val_main_call0_v2,
    val_main_call0_cst, val_main_call0_v1, val_main_call0_v0, val_main_v23]
  rw [v22_apply, sgm, zero_sub]

/-- The gradient in the first half's convolution, as `jax.vjp` groups it. -/
def vjpA (x y z : EReal) : EReal := z * y * sgm x + x * (z * y) * (sgm x * (1 - sgm x))

theorem v30_apply (r : Fin 2048) (l : Fin 2816) :
    val_main_v30 (F := Ideal) hu w b d (ix2 r l) = vjpA (convOf hu w b (lo l) r) (convOf hu w b (hi l) r) (d (ix2 r l)) := by
  pointwise [val_main_v30, val_main_call1_v2, val_main_call1_v1, val_main_call1_v0, val_main_v24_1, val_main_call0_v7,
    val_main_call0_v6, val_main_call0_cst_1, val_main_v28, val_main_v25, val_main_v23]
  simp only [v22_apply, v24_2_apply]
  rfl

theorem v32_lo (r : Fin 2048) (l : Fin 2816) :
    val_main_v32 (F := Ideal) hu w b d (ix2 r (lo l)) = vjpA (convOf hu w b (lo l) r) (convOf hu w b (hi l) r) (d (ix2 r l)) := by
  pointwise [val_main_v32, val_main_v31, val_main_cst_5, val_main_v29, val_main_cst_4]
  rw [dif_neg (fun h => h.1), zero_add, v30_apply]

theorem v32_hi (r : Fin 2048) (l : Fin 2816) :
    val_main_v32 (F := Ideal) hu w b d (ix2 r (hi l)) = gradHi hu w b d l r := by
  pointwise [val_main_v32, val_main_v31, val_main_cst_5, val_main_v29, val_main_cst_4, val_main_v27, val_main_v24_0, val_main_v23]
  simp only [v22_apply, v24_2_apply, Nat.add_sub_cancel_left]
  unfold gradHi gradB
  exact mul_comm _ _

abbrev dconv (l : Fin 5632) : Col := fun r => val_main_v32 (F := Ideal) hu w b d (ix2 r l)

theorem v60_apply (r : Fin 2048) (l : Fin 5632) :
    val_main_v60 (F := Ideal) hu w b d (ix2 r l) = back (taps w l) (dconv hu w b d l) r := by
  pointwise [val_main_v60, val_main_v59, val_main_cst_13, val_main_v58, val_main_v53, val_main_v52, val_main_v0, val_main_v49,
    val_main_v48, val_main_cst_10, val_main_v47, val_main_v42, val_main_v41, val_main_v9, val_main_v36, val_main_v35, val_main_v17]
  unfold back up taps
  congr 1
  · congr 1
    by_cases h : r.val < 2047
    · rw [dif_pos h, dif_pos (by omega)]; simp only [dconv, add_comm]
    · rw [dif_neg h, dif_neg (by omega), mul_zero]
  · by_cases h : r.val < 2046
    · rw [dif_pos h, dif_pos (by omega)]; simp only [dconv, add_comm]
    · rw [dif_neg h, dif_neg (by omega), mul_zero]

theorem v62_apply (k : Fin 3) (l : Fin 5632) :
    val_main_v62 (F := Ideal) hu w b d (ix2 k l) = tap k (dconv hu w b d l) (channel hu l) := by
  pointwise [val_main_v62, val_main_v61, val_main_v51, val_main_v50, val_main_v40, val_main_v39, val_main_v38, val_main_v37,
    val_main_v45, val_main_v44, val_main_v43, val_main_v56, val_main_v55, val_main_v54, val_main_cst_7, val_main_cst_8,
    val_main_cst_9, val_main_cst_11, val_main_cst_12, val_main_cst_14]
  simp only [v3_apply, v12_apply]
  unfold tap
  match k with
  | 0 => simp [dconv]
  | 1 => simp [dconv]
  | 2 => simp [dconv, down_zero, channel]

theorem v34_apply (l : Fin 5632) :
    val_main_v34 (F := Ideal) hu w b d (ix2 0 l) = ∑ r, dconv hu w b d l r := by
  pointwise [val_main_v34, val_main_v33, val_main_cst_6]

/-! ## The results, where the two groupings of the gate's gradient agree -/

variable (h : ∀ l r, vjpA (convOf hu w b (lo l) r) (convOf hu w b (hi l) r) (d (ix2 r l)) = gradLo hu w b d l r)

include h in
theorem dconv_lo (l : Fin 2816) : dconv hu w b d (lo l) = gradLo hu w b d l :=
  funext fun r => (v32_lo hu w b d r l).trans (h l r)

theorem dconv_hi (l : Fin 2816) : dconv hu w b d (hi l) = gradHi hu w b d l := funext fun r => v32_hi hu w b d r l

include h in
theorem v64_eq : val_main_v64 (F := Ideal) hu w b d = dxLo hu w b d := by
  funext i
  idx_vars i
  pointwise [val_main_v64, val_main_v63]
  rw [v60_apply, dconv_lo hu w b d h]
  rfl

theorem v66_eq : val_main_v66 (F := Ideal) hu w b d = dxHi hu w b d := by
  funext i
  idx_vars i
  pointwise [val_main_v66, val_main_v65]
  rw [v60_apply, dconv_hi]
  rfl

include h in
theorem v67_eq : val_main_v67 (F := Ideal) hu w b d = dwLo hu w b d := by
  funext i
  idx_vars i
  pointwise [val_main_v67]
  rw [v62_apply, dconv_lo hu w b d h]
  rfl

theorem v68_eq : val_main_v68 (F := Ideal) hu w b d = dwHi hu w b d := by
  funext i
  idx_vars i
  pointwise [val_main_v68]
  rw [v62_apply, dconv_hi]
  rfl

include h in
theorem v69_eq : val_main_v69 (F := Ideal) hu w b d = dbLo hu w b d := by
  funext i
  idx_vars i
  obtain rfl : i0 = 0 := Subsingleton.elim _ _
  pointwise [val_main_v69]
  rw [v34_apply, dconv_lo hu w b d h]
  rfl

theorem v70_eq : val_main_v70 (F := Ideal) hu w b d = dbHi hu w b d := by
  funext i
  idx_vars i
  obtain rfl : i0 = 0 := Subsingleton.elim _ _
  pointwise [val_main_v70]
  rw [v34_apply, dconv_hi]
  rfl

end Cert.Conv
-- ==== Proof.ConvFinite.lean ====
/- Where every argument is finite the two groupings of the gate's gradient agree: on the reals they are one. (At the
   infinities they are not: `z * y * s * (1 + x * (1 - s))` and `z * y * s + x * (z * y) * (s * (1 - s))` may differ.) -/
module

public import proofs.«01_k».proof.Proof.ConvReference
public import proofs.«01_k».proof.Pre_finite
public import proofs.«01_k».proof.Proof.Gen.Pre_finite

@[expose] public section

set_option maxRecDepth 16384

noncomputable section

namespace Cert.Conv

open Idealize.ShloMosaic

/-- `x` is a real number. -/
def IsReal (x : EReal) : Prop := ∃ a : ℝ, x = a

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem sgm_coe (a : ℝ) : ∃ s : ℝ, sgm a = s := by
  refine ⟨1 / (1 + Real.exp (0 - a)), ?_⟩
  unfold sgm
  have h : (1 : EReal) + Ideal.exp (0 - (a : EReal)) = ((1 + Real.exp (0 - a) : ℝ) : EReal) := by
    rw [show (0 : EReal) - (a : EReal) = ((0 - a : ℝ) : EReal) from rfl, Ideal.exp_coe]; rfl
  rw [h, Ideal.div_coe (by positivity), one_mul]

theorem vjpA_eq_gradA {x y z : EReal} (hx : IsReal x) (hy : IsReal y) (hz : IsReal z) : vjpA x y z = gradA x y z := by
  obtain ⟨x, rfl⟩ := hx
  obtain ⟨y, rfl⟩ := hy
  obtain ⟨z, rfl⟩ := hz
  obtain ⟨s, hs⟩ := sgm_coe x
  unfold vjpA gradA
  rw [hs]
  norm_cast
  ring

theorem isReal_down (k : ℕ) {X : Col} (h : ∀ r, IsReal (X r)) (r : Fin 2048) : IsReal (down k X r) := by
  unfold down; split_ifs; exacts [h _, isReal_zero]

theorem isReal_conv {w : Fin 3 → EReal} {b : EReal} {X : Col} (hw : ∀ k, IsReal (w k)) (hb : IsReal b)
    (hX : ∀ r, IsReal (X r)) (r : Fin 2048) : IsReal (conv w b X r) :=
  ((((hw 2).mul (hX r)).add ((hw 1).mul (isReal_down 1 hX r))).add ((hw 0).mul (isReal_down 2 hX r))).add hb

theorem isReal_of_abs_lt {x : EReal}
    (h : BitVec.ofBool (decide (FloatOps.absf (F := Ideal) (φ := .f32) x < Ideal.ofBits .f32 2139095040#32)) = 1#1) : IsReal x := by
  have htop : Ideal.ofBits .f32 2139095040#32 = ⊤ := by simp [Ideal.ofBits, Ideal.ieee]
  have hlt : max x (-x) < ⊤ := by
    rw [htop] at h
    by_contra hn
    have : decide (FloatOps.absf (F := Ideal) (φ := .f32) x < (⊤ : EReal)) = false := decide_eq_false hn
    rw [this] at h
    exact absurd h (by decide)
  have h1 : x ≠ ⊤ := fun e => by simp [e] at hlt
  have h2 : x ≠ ⊥ := fun e => by simp [e] at hlt
  exact ⟨x.toReal, (EReal.coe_toReal h1 h2).symm⟩

section

open Cert.ReferenceIdeal

variable {hu : Vec Ideal S2048x5632 .f32} {w : Vec Ideal S3x5632 .f32} {b : Vec Ideal S1x5632 .f32}
  {d : Vec Ideal S2048x2816 .f32}

/-- The precondition at four arrays, its four masks. -/
structure Finite (hu : Vec Ideal S2048x5632 .f32) (w : Vec Ideal S3x5632 .f32) (b : Vec Ideal S1x5632 .f32)
    (d : Vec Ideal S2048x2816 .f32) : Prop where
  hu_mask : (Cert.Pre_finite.fn (F := Ideal) hu w b d).1 = fun _ => 1#1
  w_mask : (Cert.Pre_finite.fn (F := Ideal) hu w b d).2.1 = fun _ => 1#1
  b_mask : (Cert.Pre_finite.fn (F := Ideal) hu w b d).2.2.1 = fun _ => 1#1
  d_mask : (Cert.Pre_finite.fn (F := Ideal) hu w b d).2.2.2 = fun _ => 1#1

theorem Finite.hu_real (h : Finite hu w b d) (r : Fin 2048) (l : Fin 5632) : IsReal (hu (ix2 r l)) := by
  have h' := congrFun h.hu_mask (ix2 r l)
  revert h'
  pointwise [Cert.Pre_finite.fn]
  exact isReal_of_abs_lt

theorem Finite.w_real (h : Finite hu w b d) (k : Fin 3) (l : Fin 5632) : IsReal (w (ix2 k l)) := by
  have h' := congrFun h.w_mask (ix2 k l)
  revert h'
  pointwise [Cert.Pre_finite.fn]
  exact isReal_of_abs_lt

theorem Finite.b_real (h : Finite hu w b d) (k : Fin 1) (l : Fin 5632) : IsReal (b (ix2 k l)) := by
  have h' := congrFun h.b_mask (ix2 k l)
  revert h'
  pointwise [Cert.Pre_finite.fn]
  exact isReal_of_abs_lt

theorem Finite.d_real (h : Finite hu w b d) (r : Fin 2048) (l : Fin 2816) : IsReal (d (ix2 r l)) := by
  have h' := congrFun h.d_mask (ix2 r l)
  revert h'
  pointwise [Cert.Pre_finite.fn]
  exact isReal_of_abs_lt

theorem Finite.conv_real (h : Finite hu w b d) (l : Fin 5632) (r : Fin 2048) : IsReal (convOf hu w b l r) :=
  isReal_conv (fun k => h.w_real k l) (h.b_real 0 l) (fun r => h.hu_real r l) r

theorem Finite.gate (h : Finite hu w b d) (l : Fin 2816) (r : Fin 2048) :
    vjpA (convOf hu w b (lo l) r) (convOf hu w b (hi l) r) (d (ix2 r l)) = gradLo hu w b d l r :=
  vjpA_eq_gradA (h.conv_real _ r) (h.conv_real _ r) (h.d_real r l)

end

end Cert.Conv
-- ==== Proof.ConvClaim.lean ====
/- The gated convolution's value claim: the kernel's run and the reference's leave the same six arrays. -/
module

public import proofs.«01_k».proof.Defs
public import proofs.«01_k».proof.Proof.ConvArrays
public import proofs.«01_k».proof.Proof.ConvFinite
public import proofs.«01_k».proof.Proof.Gen.ReferenceIdeal.Run

@[expose] public section

noncomputable section

namespace Cert.Conv

open Idealize.ShloMosaic Idealize.SL.Sem

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal))
      (onTc (τ := Cert.ReferenceIdeal.τ) (Cert.ReferenceIdeal.main (F := Ideal))) ⟨m, fun _ => 0, ρ⟩ (fun r =>
        (∀ c : Dev Cert.ReferenceIdeal.nD,
          r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3))
        ∧ r.2.sem = fun _ => 0) :=
  (θ_run _ _ _).mono (fun r h => ⟨fun c => (h c).2.2.2.2.2.2, sem_eq_zero_of_no_sems (by decide) r.2⟩)
    (Cert.ReferenceIdeal.Value.run (F := Ideal) m ρ)

theorem algebraic : Cert.algebraic_KernelIdeal_ReferenceIdeal_pre_finite := by
  intro m g m' g' hpre hargs
  have hfin (c : Dev 1) : Finite (argHu m c) (argW m c) (argB m c) (argD m c) := by
    obtain ⟨h0, h1, h2, h3⟩ := hpre c
    exact ⟨h0, h1, h2, h3⟩
  refine ⟨_, _, _, _, _, _, Cert.KernelIdeal.Value.run_blocks m g, ?_⟩
  refine (θ_run _ _ _).mono (fun r h c => ?_) (Cert.ReferenceIdeal.Value.run (F := Ideal) m' g')
  obtain ⟨h0, h1, h2, h3, h4, h5, hk⟩ := h c
  obtain ⟨e0, e1, e2, e3⟩ := hargs c
  refine ⟨h0.trans ?_, h1.trans ?_, h2.trans ?_, h3.trans ?_, h4.trans ?_, h5.trans ?_, hk⟩
  · rw [final7, Cert.ReferenceIdeal.Read.val_main_v64_eq, e0, e1, e2, e3]
    exact v64_eq _ _ _ _ (hfin c).gate
  · rw [final8, Cert.ReferenceIdeal.Read.val_main_v66_eq, e0, e1, e2, e3]
    exact v66_eq _ _ _ _
  · rw [final9, Cert.ReferenceIdeal.Read.val_main_v67_eq, e0, e1, e2, e3]
    exact v67_eq _ _ _ _ (hfin c).gate
  · rw [final10, Cert.ReferenceIdeal.Read.val_main_v68_eq, e0, e1, e2, e3]
    exact v68_eq _ _ _ _
  · rw [final11, Cert.ReferenceIdeal.Read.val_main_v69_eq, e0, e1, e2, e3]
    exact v69_eq _ _ _ _ (hfin c).gate
  · rw [final12, Cert.ReferenceIdeal.Read.val_main_v70_eq, e0, e1, e2, e3]
    exact v70_eq _ _ _ _

end Cert.Conv
-- ==== Proof.RmsGradient.lean ====
/- The gradient of a row's norm: the kernel's grouping and the vjp's are one on the reals. -/
module

public import proofs.«01_k».proof.Proof.ConvFinite

@[expose] public section

noncomputable section

namespace Cert.Step

open Idealize.ShloMosaic Cert.Conv

theorem rows : Ideal.ofBits .f32 1149239296#32 = ((1024 : ℝ) : EReal) := by
  simp [Ideal.ofBits, Ideal.ieee]; rw [← EReal.coe_mul]; norm_num

theorem half : Ideal.ofBits .f32 3204448256#32 = ((-(1 / 2) : ℝ) : EReal) := by
  simp [Ideal.ofBits, Ideal.ieee]; rw [← EReal.coe_mul]; norm_num

theorem eps_pos : ∃ e : ℝ, 0 < e ∧ Ideal.ofBits .f32 897988541#32 = (e : EReal) := by
  refine ⟨_, ?_, by simp [Ideal.ofBits, Ideal.ieee]; rfl⟩
  norm_num

theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

theorem isReal_sum {n : ℕ} {f : Fin n → EReal} (h : ∀ k, IsReal (f k)) : IsReal (∑ k, f k) := by
  choose a ha using h
  exact ⟨∑ k, a k, by rw [← coe_sum]; exact Finset.sum_congr rfl fun k _ => ha k⟩

/-- The reciprocal of a row's root mean square. -/
def inv (x : Fin 1024 → EReal) : EReal :=
  Ideal.rsqrt (Ideal.div (∑ k, x k * x k) (Ideal.ofBits .f32 1149239296#32) + Ideal.ofBits .f32 897988541#32)

/-- A nonnegative real factor comes out of a sum. -/
theorem sum_mul_real {n : ℕ} (f : Fin n → EReal) (r : ℝ) (hr : 0 ≤ r) : ∑ k, f k * (r : EReal) = (∑ k, f k) * r := by
  induction n with
  | zero => simp
  | succ n ih =>
    rw [Fin.sum_univ_succ, Fin.sum_univ_succ, ih]
    exact (EReal.right_distrib_of_nonneg_of_ne_top (EReal.coe_nonneg.mpr hr) (EReal.coe_ne_top r) _ _).symm

theorem double (y : EReal) : y + y = y * ((2 : ℝ) : EReal) := by
  induction y with
  | bot => rw [EReal.bot_mul_coe_of_pos (by norm_num)]; rfl
  | top => rw [EReal.top_mul_coe_of_pos (by norm_num)]; rfl
  | coe y => rw [← EReal.coe_add, ← EReal.coe_mul]; congr 1; ring

/-- A square is not negative. -/
theorem square_nonneg (y : EReal) : 0 ≤ y * y := by
  rcases le_total 0 y with h | h
  · exact mul_nonneg h h
  · exact EReal.mul_nonneg_iff.mpr (Or.inr ⟨h, h⟩)

/-- A row with an infinite entry has the reciprocal root 0, -/
theorem mean_top {x : Fin 1024 → EReal} (hx : ¬ ∀ k, IsReal (x k)) :
    Ideal.div (∑ k, x k * x k) (Ideal.ofBits .f32 1149239296#32) + Ideal.ofBits .f32 897988541#32 = ⊤ := by
  obtain ⟨k, hk⟩ := not_forall.mp hx
  have hk2 : x k * x k = ⊤ := by
    generalize x k = y at hk
    induction y with
    | bot => rfl
    | top => rfl
    | coe y => exact absurd ⟨y, rfl⟩ hk
  have hs : ∑ k, x k * x k = ⊤ := by
    refine top_le_iff.mp (hk2 ▸ ?_)
    exact Finset.single_le_sum (f := fun k => x k * x k) (fun i _ => square_nonneg (x i)) (Finset.mem_univ k)
  obtain ⟨e, he, hE⟩ := eps_pos
  rw [hs, rows, Ideal.div_coe (by norm_num), hE, EReal.top_mul_coe_of_pos (by norm_num)]
  rfl

/-- The gradient through a row's norm as the kernel groups it is the vjp's, for every row. -/
theorem rms_gradient (x d : Fin 1024 → EReal) (h : EReal) (j : Fin 1024) :
    h + inv x * (d j - x j * inv x * Ideal.div (∑ k, d k * (x k * inv x)) (Ideal.ofBits .f32 1149239296#32))
      = h + d j * inv x
        + x j * (Ideal.div ((∑ k, x k * d k) * (Ideal.ofBits .f32 3204448256#32 * Ideal.div (inv x)
            (Ideal.div (∑ k, x k * x k) (Ideal.ofBits .f32 1149239296#32) + Ideal.ofBits .f32 897988541#32)))
          (Ideal.ofBits .f32 1149239296#32))
        + Ideal.div ((∑ k, x k * d k) * (Ideal.ofBits .f32 3204448256#32 * Ideal.div (inv x)
            (Ideal.div (∑ k, x k * x k) (Ideal.ofBits .f32 1149239296#32) + Ideal.ofBits .f32 897988541#32)))
          (Ideal.ofBits .f32 1149239296#32) * x j := by
  by_cases hx : ∀ k, IsReal (x k)
  · choose x' hx' using hx
    obtain rfl : x = fun k => (x' k : EReal) := funext hx'
    obtain ⟨e, he, hE⟩ := eps_pos
    have hs : 0 ≤ ∑ k, x' k * x' k := Finset.sum_nonneg fun k _ => mul_self_nonneg _
    set q : ℝ := (∑ k, x' k * x' k) * (1 / 1024) + e with hq
    have hq0 : 0 < q := by positivity
    have hQ : Ideal.div (∑ k, (x' k : EReal) * x' k) (Ideal.ofBits .f32 1149239296#32) + Ideal.ofBits .f32 897988541#32 = (q : EReal) := by
      rw [rows, Ideal.div_coe (by norm_num), hE]
      simp only [← EReal.coe_mul, coe_sum]
      rw [← EReal.coe_add]
    set r : ℝ := (Real.sqrt q)⁻¹ with hr
    have hr0 : 0 < r := inv_pos.mpr (Real.sqrt_pos.mpr hq0)
    have hrr : r * r = 1 / q := by
      rw [hr, ← mul_inv, Real.mul_self_sqrt hq0.le, one_div]
    have hi : inv (fun k => (x' k : EReal)) = (r : EReal) := by
      show Ideal.rsqrt (Ideal.div (∑ k, (x' k : EReal) * x' k) (Ideal.ofBits .f32 1149239296#32) + Ideal.ofBits .f32 897988541#32) = _
      rw [hQ, Ideal.rsqrt_coe, if_neg (not_lt.mpr hq0.le), if_neg hq0.ne']
    have hm : ∑ k, d k * ((x' k : EReal) * r) = (∑ k, (x' k : EReal) * d k) * r := by
      rw [← sum_mul_real _ r hr0.le]
      exact Finset.sum_congr rfl fun k _ => by rw [← mul_assoc, mul_comm (d k)]
    simp only [hi, hQ, hm]
    rw [half, rows]
    generalize (∑ k, (x' k : EReal) * d k) = T
    simp only [Ideal.div_coe hq0.ne', Ideal.div_coe (show (1024 : ℝ) ≠ 0 by norm_num)]
    have hA : (x' j : EReal) * r * (T * r * ((1 / 1024 : ℝ) : EReal)) = T * ((x' j * r * r * (1 / 1024) : ℝ) : EReal) := by
      simp only [EReal.coe_mul]; ac_rfl
    have hB : (x' j : EReal) * (T * (((-(1 / 2) : ℝ) : EReal) * (r * ((1 / q : ℝ) : EReal))) * ((1 / 1024 : ℝ) : EReal))
        = T * ((x' j * (-(1 / 2)) * (r * (1 / q)) * (1 / 1024) : ℝ) : EReal) := by
      simp only [EReal.coe_mul]; ac_rfl
    rw [hA, mul_comm (T * _ * _) (x' j : EReal), hB, add_assoc, add_assoc, double, mul_assoc T, ← EReal.coe_mul, sub_eq_add_neg,
      EReal.left_distrib_of_nonneg_of_ne_top (EReal.coe_nonneg.mpr hr0.le) (EReal.coe_ne_top r), mul_comm (r : EReal) (d j)]
    congr 2
    rw [← mul_neg, ← EReal.coe_neg, mul_comm (r : EReal), mul_assoc, ← EReal.coe_mul]
    congr 2
    rw [← hrr]
    ring
  · have hQ := mean_top hx
    have hi : inv x = 0 := by
      show Ideal.rsqrt (Ideal.div (∑ k, x k * x k) (Ideal.ofBits .f32 1149239296#32) + Ideal.ofBits .f32 897988541#32) = _
      rw [hQ]; rfl
    have hd : Ideal.div 0 ⊤ = 0 := by
      unfold Ideal.div
      rw [if_neg EReal.top_ne_zero, zero_mul]
    rw [hi, hQ, hd, rows]
    simp [Ideal.div_coe (show (1024 : ℝ) ≠ 0 by norm_num)]

end Cert.Step
-- ==== Proof.FfnDhnClaim.lean ====
/- The gradient through the feed-forward layer's first product, its norm and the residual. -/
module

public import proofs.«01_k».proof.Defs
public import proofs.«01_k».proof.Proof.Gen.FfnDhnIdeal.Value
public import proofs.«01_k».proof.Proof.Gen.FfnDhnReferenceIdeal.Run
public import proofs.«01_k».proof.Proof.Gen.FfnDhnReferenceIdeal.Read
public import proofs.«01_k».proof.Proof.RmsGradient
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.FfnDhn

open Idealize.ShloMosaic Idealize.ShloMosaic.TcCoe Idealize.SL.Sem
open Cert.FfnDhnIdeal Cert.FfnDhnIdeal.Gen Cert.Conv
open Cert.FfnDhnReferenceIdeal.Read (val_main_v21 val_main_v42 val_main_v43)

/-! ## The payloads at an index -/

/-- The first half's points, as the body's comparison. -/
theorem first_half (i : grid0.Coords) {α : Type} (a b : α) :
    Scalar.select (Scalar.cmpi CmpIPredicate.slt (BitVec.ofNat 32 (i 1).val) 2#32) a b = if (i 1).val < 2 then a else b := by
  have h : ∀ k : Fin 4, Scalar.cmpi CmpIPredicate.slt (BitVec.ofNat 32 k.val) 2#32 = BitVec.ofBool (decide (k.val < 2)) := by decide
  rw [h (i 1)]
  by_cases h2 : (i 1).val < 2
  · rw [if_pos h2, decide_eq_true h2]; rfl
  · rw [if_neg h2, decide_eq_false h2]; rfl

theorem first_apply (i : grid0.Coords) (x0 x1 : Vec Ideal S1024x1408 .bf16) (x2 : Vec Ideal S1408x1024 .bf16) (y : S1024x1024.Idx) :
    k0_pay2 (F := Ideal) i x0 x1 x2 y = (0 : EReal) + ∑ k : Fin 1408, ((if (i 1).val < 2 then x0 else x1) (ix2 (y 0) k) : EReal) * x2 (ix2 k (y 1)) := by
  idx_vars y
  pointwise [k0_pay2, k0_pay1]
  simp only [first_half i]
  split <;> rfl

theorem step_apply (i : grid0.Coords) (x0 x1 : Vec Ideal S1024x1408 .bf16) (x2 : Vec Ideal S1408x1024 .bf16) (a : Vec Ideal S1024x1024 .f32) (y : S1024x1024.Idx) :
    k0_pay3 (F := Ideal) i x0 x1 x2 a y = a y + ∑ k : Fin 1408, ((if (i 1).val < 2 then x0 else x1) (ix2 (y 0) k) : EReal) * x2 (ix2 k (y 1)) := by
  idx_vars y
  pointwise [k0_pay3, k0_pay1]
  simp only [first_half i]
  split <;> rfl

theorem zero_apply (y : S1x1024.Idx) : k0_pay4 (F := Ideal) y = (0 : EReal) := by
  idx_vars y
  pointwise [k0_pay4]

theorem dg_apply (a x : Vec Ideal S1024x1024 .f32) (g : Vec Ideal S1x1024 .f32) (y : S1x1024.Idx) :
    k0_pay7 (F := Ideal) a x g y
      = g y + ∑ r : Fin 1024, (a (ix2 r (y 1)) : EReal) * (x (ix2 r (y 1)) * inv fun k => x (ix2 r k)) := by
  idx_vars y
  unfold inv
  pointwise [k0_pay7, k0_pay6, k0_pay5]

theorem dx_apply (a x d : Vec Ideal S1024x1024 .f32) (g : Vec Ideal S1x1024 .f32) (y : S1024x1024.Idx) :
    k0_pay8 (F := Ideal) a x g d y = d y + (inv fun k => x (ix2 (y 0) k)) * (a y * g (ix2 0 (y 1))
      - x y * (inv fun k => x (ix2 (y 0) k)) * Ideal.div (∑ k : Fin 1024, (a (ix2 (y 0) k) * g (ix2 0 k) : EReal)
          * (x (ix2 (y 0) k) * inv fun k => x (ix2 (y 0) k))) (Ideal.ofBits .f32 1149239296#32)) := by
  idx_vars y
  unfold inv
  pointwise [k0_pay8, k0_pay6, k0_pay5]

/-- The input's gradient from a row's four arrays. -/
theorem dx_row (a x d : Vec Ideal S1024x1024 .f32) (g : Vec Ideal S1x1024 .f32) (A X D G : Fin 1024 → EReal) (r l : Fin 1024) (hA : ∀ k, a (ix2 r k) = A k)
    (hX : ∀ k, x (ix2 r k) = X k) (hD : d (ix2 r l) = D l) (hG : ∀ k, g (ix2 0 k) = G k) :
    k0_pay8 (F := Ideal) a x g d (ix2 r l) = D l + inv X * (A l * G l
      - X l * inv X * Ideal.div (∑ k : Fin 1024, A k * G k * (X k * inv X)) (Ideal.ofBits .f32 1149239296#32)) := by
  rw [dx_apply]
  change d (ix2 r l) + inv (fun k => x (ix2 r k)) * (a (ix2 r l) * g (ix2 0 l) - x (ix2 r l) * inv (fun k => x (ix2 r k))
    * Ideal.div (∑ k : Fin 1024, a (ix2 r k) * g (ix2 0 k) * (x (ix2 r k) * inv fun k => x (ix2 r k))) _) = _
  simp only [hA, hX, hD, hG]

/-- A row's summand of the scale's gradient. -/
theorem dg_row (a x : Vec Ideal S1024x1024 .f32) (X : Fin 1024 → EReal) (P : EReal) (r l : Fin 1024) (hP : a (ix2 r l) = P) (hX : ∀ k, x (ix2 r k) = X k) :
    (a (ix2 r l) : EReal) * (x (ix2 r l) * inv fun k => x (ix2 r k)) = X l * inv X * P := by
  simp only [hP, hX]
  exact mul_comm _ _

variable (m : (ℓ : Loc nD τ sig) → Buf (Elt Ideal) ℓ) (c : Dev nD)

/-! ## The windows and the runs -/

abbrev argA : Vec Ideal S2048x2816 .bf16 := m ((c : Thread nD τ).loc main_arg0)
abbrev argB : Vec Ideal S2048x2816 .bf16 := m ((c : Thread nD τ).loc main_arg1)
abbrev argW : Vec Ideal S5632x1024 .bf16 := m ((c : Thread nD τ).loc main_arg2)
abbrev argX : Vec Ideal S2048x1024 .f32 := m ((c : Thread nD τ).loc main_arg3)
abbrev argG : Vec Ideal S1024 .f32 := m ((c : Thread nD τ).loc main_arg4)
abbrev argD : Vec Ideal S2048x1024 .f32 := m ((c : Thread nD τ).loc main_arg5)

/-- The windows' blocks at a point. -/
theorem idxs : ∀ t : Fin cfg0.N, win0_0.index t = ![t.val / 4, min (t.val % 4) 1]
    ∧ win0_1.index t = ![t.val / 4, t.val % 4 - 2]
    ∧ win0_2.index t = ![t.val % 4, 0]
    ∧ win0_3.index t = ![t.val / 4, 0]
    ∧ win0_4.index t = ![0, 0]
    ∧ win0_5.index t = ![t.val / 4, 0]
    ∧ win0_6.index t = ![t.val / 4, 0]
    ∧ win0_7.index t = ![0, 0] :=
  (by decide +kernel : ∀ t : Fin grid0.N, _)

theorem coords : ∀ t : Fin cfg0.N, ((grid0.coords t) 1).val = t.val % 4 :=
  (by decide +kernel : ∀ t : Fin grid0.N, _)

/-- The product a point adds to the accumulator. -/
def part (p : Fin cfg0.N) (j : S1024x1024.Idx) : EReal :=
  ∑ k : Fin 1408, ((if ((grid0.coords p) 1).val < 2 then (show Vec Ideal S1024x1408 .bf16 from iblk m c 0 p) else (show Vec Ideal S1024x1408 .bf16 from iblk m c 1 p)) (ix2 (j 0) k) : EReal) * (show Vec Ideal S1408x1024 .bf16 from iblk m c 2 p) (ix2 k (j 1))

/-- The accumulator at a run's last point: the sum of the run's products. -/
theorem accumulated (t : Fin cfg0.N) (hf : t.val % 4 = 3) (y : S1024x1024.Idx) :
    (outsAt0 m c t.val t.isLt).2.2 y = ∑ s : Fin 4, part m c ⟨_, Pipeline.run_point_lt_of_flush t hf s⟩ y := by
  rw [Pipeline.eq_sum_fin_of_reset_step_apply_of_flush (fun n h => (outsAt0 m c n h).2.2) 4 (fun _ => (0 : EReal))
    (part m c) ?_ ?_ t hf y, zero_add]
  · intro t h j
    by_cases h2 : t.val % 8 = 0
    · rw [outsAt0_A m c t h (by omega) h2 (by omega)]; frame_out; rw [first_apply]; rfl
    · rw [outsAt0_D m c t h (by omega) h2 (by omega)]; frame_out; rw [first_apply]; rfl
  · intro t h j
    by_cases h3 : t.val % 4 = 3
    · rw [outsAt0_C m c t h (by omega) (by omega) h3]; frame_out; rw [step_apply, read_unread_whole]; rfl
    · rw [outsAt0_B m c t h (by omega) (by omega) h3]; frame_out; rw [step_apply, read_unread_whole]; rfl

/-- What a tile's last point adds to the scale's gradient. -/
def scalePart (p : Fin cfg0.N) (j : S1x1024.Idx) : EReal :=
  if p.val % 4 = 3 then ∑ r : Fin 1024, ((outsAt0 m c p.val p.isLt).2.2 (ix2 r (j 1)) : EReal)
    * ((show Vec Ideal S1024x1024 .f32 from iblk m c 3 p) (ix2 r (j 1)) * inv fun k => (show Vec Ideal S1024x1024 .f32 from iblk m c 3 p) (ix2 r k)) else 0

/-- The scale's gradient at the last point: what the two tiles add. -/
theorem scale (t : Fin cfg0.N) (hf : t.val % 8 = 7) (y : S1x1024.Idx) :
    (outsAt0 m c t.val t.isLt).2.1 y = ∑ s : Fin 8, scalePart m c ⟨_, Pipeline.run_point_lt_of_flush t hf s⟩ y := by
  rw [Pipeline.eq_sum_fin_of_reset_step_apply_of_flush (fun n h => (outsAt0 m c n h).2.1) 8 (fun _ => (0 : EReal))
    (scalePart m c) ?_ ?_ t hf y, zero_add]
  · intro t h j
    unfold scalePart
    rw [if_neg (by omega), add_zero, outsAt0_A m c t (by omega) (by omega) h (by omega)]; frame_out; rw [zero_apply]
  · intro t h j
    unfold scalePart
    by_cases h0 : t.val % 4 = 0
    · rw [if_neg (by omega), add_zero, outsAt0_D m c t h0 (by omega) h (by omega)]; frame_out; rfl
    by_cases h3 : t.val % 4 = 3
    · rw [if_pos h3, outsAt0_C m c t h0 (by omega) h h3]; frame_out; rw [dg_apply]
    · rw [if_neg h3, add_zero, outsAt0_B m c t h0 (by omega) h h3]; frame_out; rfl

/-- At a tile's last point the input's gradient is computed from the accumulator. -/
theorem written (t : Fin cfg0.N) (hf : t.val % 4 = 3) (y : S1024x1024.Idx) :
    (outsAt0 m c t.val t.isLt).1 y = k0_pay8 (F := Ideal) (outsAt0 m c t.val t.isLt).2.2 (iblk m c 3 t) (iblk m c 4 t)
      (iblk m c 5 t) y := by
  rw [outsAt0_C m c t (by omega) (by omega) (by omega) hf]; frame_out

/-- The reference's product at an index. -/
theorem product_reference (a0 a1 : Vec Ideal Cert.FfnDhnReferenceIdeal.S2048x2816 .bf16) (w : Vec Ideal Cert.FfnDhnReferenceIdeal.S5632x1024 .bf16) (R : Fin 2048) (l : Fin 1024) :
    val_main_v21 (F := Ideal) a0 a1 w (ix2 R l) = (∑ x : Fin 2816, (a0 (ix2 R x) : EReal) * w (ix2 ⟨x.val, by omega⟩ l)) + ∑ x : Fin 2816, (a1 (ix2 R x) : EReal) * w (ix2 ⟨2816 + x.val, by omega⟩ l) := by
  pointwise [Cert.FfnDhnReferenceIdeal.Read.val_main_v21, Cert.FfnDhnReferenceIdeal.Read.val_main_v0, Cert.FfnDhnReferenceIdeal.Read.val_main_v1, Cert.FfnDhnReferenceIdeal.Read.val_main_v2, Cert.FfnDhnReferenceIdeal.Read.val_main_v3, Cert.FfnDhnReferenceIdeal.Read.val_main_v4, Cert.FfnDhnReferenceIdeal.Read.val_main_v5, Cert.FfnDhnReferenceIdeal.Read.val_main_v6, Cert.FfnDhnReferenceIdeal.Read.val_main_v7, Cert.FfnDhnReferenceIdeal.Read.val_main_v8, Cert.FfnDhnReferenceIdeal.Read.val_main_v9, Cert.FfnDhnReferenceIdeal.Read.val_main_v10, Cert.FfnDhnReferenceIdeal.Read.val_main_v11, Cert.FfnDhnReferenceIdeal.Read.val_main_v12, Cert.FfnDhnReferenceIdeal.Read.val_main_v13, Cert.FfnDhnReferenceIdeal.Read.val_main_v14, Cert.FfnDhnReferenceIdeal.Read.val_main_v15, Cert.FfnDhnReferenceIdeal.Read.val_main_v16, Cert.FfnDhnReferenceIdeal.Read.val_main_v17, Cert.FfnDhnReferenceIdeal.Read.val_main_v18, Cert.FfnDhnReferenceIdeal.Read.val_main_v19, Cert.FfnDhnReferenceIdeal.Read.val_main_v20]

/-- The accumulator at a tile's last point: the tile's rows of the reference's product. -/
theorem product (t : Fin cfg0.N) (hf : t.val % 4 = 3) (y0 y1 : Fin 1024) (R : Fin 2048) (hR : R.val = t.val / 4 * 1024 + y0.val) :
    (outsAt0 m c t.val t.isLt).2.2 (ix2 y0 y1) = val_main_v21 (F := Ideal) (argA m c) (argB m c) (argW m c) (ix2 R y1) := by
  rw [accumulated m c t hf, product_reference]
  have hN := Pipeline.run_point_lt_of_flush t hf
  have hl : ∑ s : Fin 2, part m c ⟨_, hN ⟨s.val, by omega⟩⟩ (ix2 y0 y1)
      = ∑ x : Fin 2816, (argA m c (ix2 R x) : EReal) * argW m c (ix2 ⟨x.val, by omega⟩ y1) := by
    unfold part
    refine Fin.sum_mul_add_congr fun s k hl => ?_
    rw [if_pos (by rw [coords]; dsimp only; omega)]
    blk_point [iblk, V, idxs ⟨_, hN ⟨s.val, by omega⟩⟩]
  have hr : ∑ s : Fin 2, part m c ⟨_, hN ⟨2 + s.val, by omega⟩⟩ (ix2 y0 y1)
      = ∑ x : Fin 2816, (argB m c (ix2 R x) : EReal) * argW m c (ix2 ⟨2816 + x.val, by omega⟩ y1) := by
    unfold part
    refine Fin.sum_mul_add_congr fun s k hl => ?_
    rw [if_neg (by rw [coords]; dsimp only; omega)]
    blk_point [iblk, V, idxs ⟨_, hN ⟨2 + s.val, by omega⟩⟩]
  have hs : ∑ s : Fin 4, part m c ⟨_, hN s⟩ (ix2 y0 y1) = ∑ s : Fin 2, part m c ⟨_, hN ⟨s.val, by omega⟩⟩ (ix2 y0 y1)
      + ∑ s : Fin 2, part m c ⟨_, hN ⟨2 + s.val, by omega⟩⟩ (ix2 y0 y1) :=
    Fin.sum_univ_add (a := 2) (b := 2) fun s => part m c ⟨_, hN s⟩ (ix2 y0 y1)
  refine hs.trans ?_
  rw [hl, hr]

/-! ## The reference at an index -/

/-- The scale's gradient is the sum over the rows. -/
theorem dg_reference (a0 a1 : Vec Ideal Cert.FfnDhnReferenceIdeal.S2048x2816 .bf16) (w : Vec Ideal Cert.FfnDhnReferenceIdeal.S5632x1024 .bf16) (x : Vec Ideal Cert.FfnDhnReferenceIdeal.S2048x1024 .f32) (y : Cert.FfnDhnReferenceIdeal.S1x1024.Idx) :
    val_main_v43 (F := Ideal) a0 a1 w x y = ∑ r : Fin 2048, x (ix2 r (y 1)) * (inv fun k => x (ix2 r k)) * val_main_v21 (F := Ideal) a0 a1 w (ix2 r (y 1)) := by
  idx_vars y
  unfold inv
  pointwise [Cert.FfnDhnReferenceIdeal.Read.val_main_v0, Cert.FfnDhnReferenceIdeal.Read.val_main_v1, Cert.FfnDhnReferenceIdeal.Read.val_main_v2, Cert.FfnDhnReferenceIdeal.Read.val_main_v3, Cert.FfnDhnReferenceIdeal.Read.val_main_v4, Cert.FfnDhnReferenceIdeal.Read.val_main_cst, Cert.FfnDhnReferenceIdeal.Read.val_main_v5, Cert.FfnDhnReferenceIdeal.Read.val_main_v6, Cert.FfnDhnReferenceIdeal.Read.val_main_cst_0, Cert.FfnDhnReferenceIdeal.Read.val_main_v7, Cert.FfnDhnReferenceIdeal.Read.val_main_v8, Cert.FfnDhnReferenceIdeal.Read.val_main_cst_1, Cert.FfnDhnReferenceIdeal.Read.val_main_v9, Cert.FfnDhnReferenceIdeal.Read.val_main_v10, Cert.FfnDhnReferenceIdeal.Read.val_main_v11, Cert.FfnDhnReferenceIdeal.Read.val_main_v12, Cert.FfnDhnReferenceIdeal.Read.val_main_cst_2, Cert.FfnDhnReferenceIdeal.Read.val_main_v13, Cert.FfnDhnReferenceIdeal.Read.val_main_v14, Cert.FfnDhnReferenceIdeal.Read.val_main_v15, Cert.FfnDhnReferenceIdeal.Read.val_main_v16, Cert.FfnDhnReferenceIdeal.Read.val_main_v17, Cert.FfnDhnReferenceIdeal.Read.val_main_v18, Cert.FfnDhnReferenceIdeal.Read.val_main_v19, Cert.FfnDhnReferenceIdeal.Read.val_main_v20, Cert.FfnDhnReferenceIdeal.Read.val_main_v22, Cert.FfnDhnReferenceIdeal.Read.val_main_cst_3, Cert.FfnDhnReferenceIdeal.Read.val_main_v23, Cert.FfnDhnReferenceIdeal.Read.val_main_v24, Cert.FfnDhnReferenceIdeal.Read.val_main_v25, Cert.FfnDhnReferenceIdeal.Read.val_main_v26, Cert.FfnDhnReferenceIdeal.Read.val_main_cst_4, Cert.FfnDhnReferenceIdeal.Read.val_main_v27, Cert.FfnDhnReferenceIdeal.Read.val_main_v28, Cert.FfnDhnReferenceIdeal.Read.val_main_cst_5, Cert.FfnDhnReferenceIdeal.Read.val_main_v29, Cert.FfnDhnReferenceIdeal.Read.val_main_v30, Cert.FfnDhnReferenceIdeal.Read.val_main_v31, Cert.FfnDhnReferenceIdeal.Read.val_main_v32, Cert.FfnDhnReferenceIdeal.Read.val_main_v33, Cert.FfnDhnReferenceIdeal.Read.val_main_v34, Cert.FfnDhnReferenceIdeal.Read.val_main_cst_6, Cert.FfnDhnReferenceIdeal.Read.val_main_v35, Cert.FfnDhnReferenceIdeal.Read.val_main_v36, Cert.FfnDhnReferenceIdeal.Read.val_main_cst_7, Cert.FfnDhnReferenceIdeal.Read.val_main_v37, Cert.FfnDhnReferenceIdeal.Read.val_main_v38, Cert.FfnDhnReferenceIdeal.Read.val_main_v39, Cert.FfnDhnReferenceIdeal.Read.val_main_v40, Cert.FfnDhnReferenceIdeal.Read.val_main_v41, Cert.FfnDhnReferenceIdeal.Read.val_main_v42, Cert.FfnDhnReferenceIdeal.Read.val_main_v43]
  simp only [Fin.sum_univ_one]

/-- The input's gradient, at an index, is the kernel's spelling. -/
theorem dx_reference (a0 a1 : Vec Ideal Cert.FfnDhnReferenceIdeal.S2048x2816 .bf16) (w : Vec Ideal Cert.FfnDhnReferenceIdeal.S5632x1024 .bf16) (x : Vec Ideal Cert.FfnDhnReferenceIdeal.S2048x1024 .f32) (g : Vec Ideal Cert.FfnDhnReferenceIdeal.S1024 .f32) (d : Vec Ideal Cert.FfnDhnReferenceIdeal.S2048x1024 .f32) (y : Cert.FfnDhnReferenceIdeal.S2048x1024.Idx) :
    val_main_v42 (F := Ideal) a0 a1 w x g d y = d y + (inv fun k => x (ix2 (y 0) k)) * (val_main_v21 (F := Ideal) a0 a1 w y * g (ix1 (y 1))
      - x y * (inv fun k => x (ix2 (y 0) k)) * Ideal.div (∑ k : Fin 1024, (val_main_v21 (F := Ideal) a0 a1 w (ix2 (y 0) k) * g (ix1 k) : EReal)
          * (x (ix2 (y 0) k) * inv fun k => x (ix2 (y 0) k))) (Ideal.ofBits .f32 1149239296#32)) := by
  idx_vars y
  refine Eq.trans ?_ (rms_gradient (fun k => x (ix2 y0 k)) (fun k => val_main_v21 (F := Ideal) a0 a1 w (ix2 y0 k) * g (ix1 k)) (d (ix2 y0 y1)) y1).symm
  unfold inv
  pointwise [Cert.FfnDhnReferenceIdeal.Read.val_main_v0, Cert.FfnDhnReferenceIdeal.Read.val_main_v1, Cert.FfnDhnReferenceIdeal.Read.val_main_v2, Cert.FfnDhnReferenceIdeal.Read.val_main_v3, Cert.FfnDhnReferenceIdeal.Read.val_main_v4, Cert.FfnDhnReferenceIdeal.Read.val_main_cst, Cert.FfnDhnReferenceIdeal.Read.val_main_v5, Cert.FfnDhnReferenceIdeal.Read.val_main_v6, Cert.FfnDhnReferenceIdeal.Read.val_main_cst_0, Cert.FfnDhnReferenceIdeal.Read.val_main_v7, Cert.FfnDhnReferenceIdeal.Read.val_main_v8, Cert.FfnDhnReferenceIdeal.Read.val_main_cst_1, Cert.FfnDhnReferenceIdeal.Read.val_main_v9, Cert.FfnDhnReferenceIdeal.Read.val_main_v10, Cert.FfnDhnReferenceIdeal.Read.val_main_v11, Cert.FfnDhnReferenceIdeal.Read.val_main_v12, Cert.FfnDhnReferenceIdeal.Read.val_main_cst_2, Cert.FfnDhnReferenceIdeal.Read.val_main_v13, Cert.FfnDhnReferenceIdeal.Read.val_main_v14, Cert.FfnDhnReferenceIdeal.Read.val_main_v15, Cert.FfnDhnReferenceIdeal.Read.val_main_v16, Cert.FfnDhnReferenceIdeal.Read.val_main_v17, Cert.FfnDhnReferenceIdeal.Read.val_main_v18, Cert.FfnDhnReferenceIdeal.Read.val_main_v19, Cert.FfnDhnReferenceIdeal.Read.val_main_v20, Cert.FfnDhnReferenceIdeal.Read.val_main_v22, Cert.FfnDhnReferenceIdeal.Read.val_main_cst_3, Cert.FfnDhnReferenceIdeal.Read.val_main_v23, Cert.FfnDhnReferenceIdeal.Read.val_main_v24, Cert.FfnDhnReferenceIdeal.Read.val_main_v25, Cert.FfnDhnReferenceIdeal.Read.val_main_v26, Cert.FfnDhnReferenceIdeal.Read.val_main_cst_4, Cert.FfnDhnReferenceIdeal.Read.val_main_v27, Cert.FfnDhnReferenceIdeal.Read.val_main_v28, Cert.FfnDhnReferenceIdeal.Read.val_main_cst_5, Cert.FfnDhnReferenceIdeal.Read.val_main_v29, Cert.FfnDhnReferenceIdeal.Read.val_main_v30, Cert.FfnDhnReferenceIdeal.Read.val_main_v31, Cert.FfnDhnReferenceIdeal.Read.val_main_v32, Cert.FfnDhnReferenceIdeal.Read.val_main_v33, Cert.FfnDhnReferenceIdeal.Read.val_main_v34, Cert.FfnDhnReferenceIdeal.Read.val_main_cst_6, Cert.FfnDhnReferenceIdeal.Read.val_main_v35, Cert.FfnDhnReferenceIdeal.Read.val_main_v36, Cert.FfnDhnReferenceIdeal.Read.val_main_cst_7, Cert.FfnDhnReferenceIdeal.Read.val_main_v37, Cert.FfnDhnReferenceIdeal.Read.val_main_v38, Cert.FfnDhnReferenceIdeal.Read.val_main_v39, Cert.FfnDhnReferenceIdeal.Read.val_main_v40, Cert.FfnDhnReferenceIdeal.Read.val_main_v41, Cert.FfnDhnReferenceIdeal.Read.val_main_v42, Cert.FfnDhnReferenceIdeal.Read.val_main_v43]
  simp only [Fin.sum_univ_one]

/-! ## The results -/

/-- The scale's gradient is the reference's. -/
theorem final7 : (dats m 0 c).arrAt 7 cfg0.N
    = val_main_v43 (F := Ideal) (argA m c) (argB m c) (argW m c) (argX m c) := by
  refine (dats m 0 c).arrAt_eq_of_covers 7 _ (by decide +kernel) fun t hf y => ?_
  have hr := (flush0_7 t).mp hf
  blk_simp
  rw [after0_7]
  refine (scale m c t hr y).trans ?_
  rw [dg_reference]
  have hN := Pipeline.run_point_lt_of_flush t hr
  have ht8 : t.val < 8 := lt_of_lt_of_eq t.isLt N_0
  have hs : ∑ s : Fin 8, scalePart m c ⟨_, hN s⟩ y = ∑ i : Fin 2, ∑ r : Fin 1024,
      ((argX m c (ix2 ⟨i.val * 1024 + r.val, by omega⟩ (y 1)) : EReal)
        * (inv fun k => argX m c (ix2 ⟨i.val * 1024 + r.val, by omega⟩ k)))
        * val_main_v21 (F := Ideal) (argA m c) (argB m c) (argW m c) (ix2 ⟨i.val * 1024 + r.val, by omega⟩ (y 1)) := by
    have ht : ∀ i : Fin 2, scalePart m c ⟨8 * (t.val / 8) + (i.val * 4 + 3), hN ⟨i.val * 4 + 3, by omega⟩⟩ y = ∑ r : Fin 1024,
        ((argX m c (ix2 ⟨i.val * 1024 + r.val, by omega⟩ (y 1)) : EReal)
          * (inv fun k => argX m c (ix2 ⟨i.val * 1024 + r.val, by omega⟩ k)))
          * val_main_v21 (F := Ideal) (argA m c) (argB m c) (argW m c) (ix2 ⟨i.val * 1024 + r.val, by omega⟩ (y 1)) := by
      intro i
      unfold scalePart
      rw [if_pos (by dsimp only; omega)]
      refine Finset.sum_congr rfl fun r _ => ?_
      refine dg_row _ _ (fun k => argX m c (ix2 ⟨i.val * 1024 + r.val, by omega⟩ k)) _ r (y 1) ?_ ?_
      · exact product m c _ (by dsimp only; omega) r (y 1) ⟨i.val * 1024 + r.val, by omega⟩ (by dsimp only; omega)
      · intro k
        blk_point [iblk, V, idxs ⟨8 * (t.val / 8) + (i.val * 4 + 3), hN ⟨i.val * 4 + 3, by omega⟩⟩]
    rw [Fin.sum_univ_two, ← ht 0, ← ht 1]
    rw [Fin.sum_univ_eight]
    have hz : ∀ s : Fin 8, ¬ s.val % 4 = 3 → scalePart m c ⟨_, hN s⟩ y = 0 := fun s h => if_neg (by dsimp only; omega)
    rw [hz 0 (by decide), hz 1 (by decide), hz 2 (by decide), hz 4 (by decide), hz 5 (by decide), hz 6 (by decide)]
    simp only [zero_add, add_zero]
    rfl
  rw [hs]
  refine Fin.sum_mul_add_congr fun i r hl => ?_
  blk_point [idxs t]

theorem block_x (t : Fin cfg0.N) (r k : Fin 1024) (R : Fin 2048) (hR : R.val = t.val / 4 * 1024 + r.val) :
    (show Vec Ideal S1024x1024 .f32 from iblk m c 3 t) (ix2 r k) = argX m c (ix2 R k) := by
  blk_point [iblk, V, idxs t]

theorem block_d (t : Fin cfg0.N) (r k : Fin 1024) (R : Fin 2048) (hR : R.val = t.val / 4 * 1024 + r.val) :
    (show Vec Ideal S1024x1024 .f32 from iblk m c 5 t) (ix2 r k) = argD m c (ix2 R k) := by
  blk_point [iblk, V, idxs t]

theorem block_g (t : Fin cfg0.N) (k : Fin 1024) : (show Vec Ideal S1x1024 .f32 from iblk m c 4 t) (ix2 0 k) = argG m c (ix1 k) := by
  blk_point [iblk, V, idxs t]

/-- A row of the input's gradient, written at a tile's last point. -/
theorem written_row (t : Fin cfg0.N) (hf : t.val % 4 = 3) (r l : Fin 1024) (R : Fin 2048)
    (hR : R.val = t.val / 4 * 1024 + r.val) :
    (outsAt0 m c t.val t.isLt).1 (ix2 r l) = val_main_v42 (F := Ideal) (argA m c) (argB m c) (argW m c) (argX m c) (argG m c) (argD m c) (ix2 R l) := by
  refine (written m c t hf (ix2 r l)).trans ?_
  rw [dx_reference (argA m c) (argB m c) (argW m c) (argX m c) (argG m c) (argD m c) (ix2 R l)]
  exact dx_row _ _ _ _ (fun k => val_main_v21 (F := Ideal) (argA m c) (argB m c) (argW m c) (ix2 R k)) (fun k => argX m c (ix2 R k)) (fun k => argD m c (ix2 R k))
    (fun k => argG m c (ix1 k)) r l (fun k => product m c t hf r k R hR) (fun k => block_x m c t r k R hR)
    (block_d m c t r l R hR) (fun k => block_g m c t k)

/-- The input's gradient is the reference's. -/
theorem final6 : (dats m 0 c).arrAt 6 cfg0.N
    = val_main_v42 (F := Ideal) (argA m c) (argB m c) (argW m c) (argX m c) (argG m c) (argD m c) := by
  refine (dats m 0 c).arrAt_eq_of_covers 6 _ (by decide +kernel) fun t hf y => ?_
  have hr := (flush0_6 t).mp hf
  blk_simp
  rw [after0_6]
  idx_vars y
  have ht8 : t.val < 8 := lt_of_lt_of_eq t.isLt N_0
  refine (written_row m c t hr y0 y1 ⟨t.val / 4 * 1024 + y0.val, by omega⟩ rfl).trans ?_
  blk_point [idxs t]

/-! ## The claims -/

theorem frame_reference : Cert.quiescent_FfnDhnReferenceIdeal := fun m ρ _ =>
  (θ_run _ _ _).mono (fun r h => ⟨fun c => (h c).2.2, sem_eq_zero_of_no_sems (by decide) r.2⟩)
    (Cert.FfnDhnReferenceIdeal.Value.run (F := Ideal) m ρ)

theorem algebraic : Cert.algebraic_FfnDhnIdeal_FfnDhnReferenceIdeal := by
  intro m g m' g' _ hargs
  refine ⟨_, _, Cert.FfnDhnIdeal.Value.run_blocks m g, ?_⟩
  refine (θ_run _ _ _).mono (fun r h c => ?_) (Cert.FfnDhnReferenceIdeal.Value.run (F := Ideal) m' g')
  obtain ⟨h0, h1, hk⟩ := h c
  obtain ⟨e0, e1, e2, e3, e4, e5⟩ := hargs c
  refine ⟨h0.trans ?_, h1.trans ?_, hk⟩
  · rw [final6, Cert.FfnDhnReferenceIdeal.Read.val_main_v42_eq, e0, e1, e2, e3, e4, e5]
  · rw [final7, Cert.FfnDhnReferenceIdeal.Read.val_main_v43_eq, e0, e1, e2, e3]

end Cert.Step.FfnDhn
-- ==== Proof.FfnDwinAClaim.lean ====
/- The gradient of the feed-forward layer's first weight, its first rows: the accumulated product is the reference's. -/
module

public import proofs.«01_k».proof.Defs
public import proofs.«01_k».proof.Proof.Gen.FfnDwinAIdeal.Run
public import proofs.«01_k».proof.Proof.Gen.FfnDwinAReferenceIdeal.Run
public import proofs.«01_k».proof.Proof.Gen.FfnDwinAReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.FfnDwinA

open Idealize.ShloMosaic Idealize.ShloMosaic.TcCoe Idealize.SL.Sem
open Cert.FfnDwinAIdeal Cert.FfnDwinAIdeal.Gen

variable (m : (ℓ : Loc nD τ sig) → Buf (Elt Ideal) ℓ) (c : Dev nD)

/-- The windows' blocks at a point. -/
theorem idxs : ∀ t : Fin cfg0.N, win0_0.index t = ![t.val % 2, t.val / 2] ∧ win0_1.index t = ![t.val % 2, 0] ∧ win0_2.index t = ![t.val / 2, 0] :=
  (by decide +kernel : ∀ t : Fin grid0.N, _)

/-- The first block's product, as stored in the accumulator. -/
theorem first_apply (x0 : Vec Ideal S1024x1408 .bf16) (x1 : Vec Ideal S1024x1024 .bf16) (y : S1408x1024.Idx) :
    k0_pay2 (F := Ideal) x0 x1 y = (0 : EReal) + ∑ k : Fin 1024, (x0 (ix2 k (y 0)) : EReal) * x1 (ix2 k (y 1)) := by
  idx_vars y
  pointwise [k0_pay2, k0_pay1]

/-- A later block's product is added to the accumulator. -/
theorem step_apply (x0 : Vec Ideal S1024x1408 .bf16) (x1 : Vec Ideal S1024x1024 .bf16) (a : Vec Ideal S1408x1024 .bf16) (y : S1408x1024.Idx) :
    k0_pay3 (F := Ideal) x0 x1 a y = a y + ∑ k : Fin 1024, (x0 (ix2 k (y 0)) : EReal) * x1 (ix2 k (y 1)) := by
  idx_vars y
  pointwise [k0_pay3, k0_pay1]

/-- At a run's last point the result's block is the accumulator. -/
theorem written (t : Fin cfg0.N) (hf : t.val % 2 = 1) (y : S1408x1024.Idx) :
    ((outsAt0 m c t.val t.isLt).1 y : EReal) = (outsAt0 m c t.val t.isLt).2 y := by
  rw [outsAt0_B m c t (by omega) hf hf]
  frame_out
  pointwise [k0_pay4]

/-- The accumulator at a run's last point: the sum of the run's products. -/
theorem accumulated (t : Fin cfg0.N) (hf : t.val % 2 = 1) (y : S1408x1024.Idx) :
    (outsAt0 m c t.val t.isLt).2 y = ∑ s : Fin 2, ∑ k : Fin 1024,
      ((show Vec Ideal S1024x1408 .bf16 from iblk m c 0 ⟨_, Pipeline.run_point_lt_of_flush t hf s⟩) (ix2 k (y 0)) : EReal)
        * (show Vec Ideal S1024x1024 .bf16 from iblk m c 1 ⟨_, Pipeline.run_point_lt_of_flush t hf s⟩) (ix2 k (y 1)) := by
  rw [Pipeline.eq_sum_fin_of_reset_step_apply_of_flush (fun n h => (outsAt0 m c n h).2) 2 (fun _ => (0 : EReal))
    (fun p j => ∑ k : Fin 1024, ((show Vec Ideal S1024x1408 .bf16 from iblk m c 0 p) (ix2 k (j 0)) : EReal)
      * (show Vec Ideal S1024x1024 .bf16 from iblk m c 1 p) (ix2 k (j 1))) ?_ ?_ t hf y, zero_add]
  · intro t h j
    rw [outsAt0_A m c t h (by omega) (by omega)]; frame_out; rw [first_apply]
  · intro t h j
    rw [outsAt0_B m c t h (by omega) (by omega)]; frame_out; rw [step_apply, read_unread_whole]

/-- The returned rows are the reference's product. -/
theorem final : extractStridedSlice S2816x1024 ![0, 0] ((dats m 0 c).arrAt 2 cfg0.N) slices_S5632x1024_S2816x1024_0_0
    = Cert.FfnDwinAReferenceIdeal.Read.val_main_v7 (F := Ideal) (m ((c : Thread nD τ).loc main_arg0)) (m ((c : Thread nD τ).loc main_arg1)) := by
  have hA := (dats m 0 c).arrAt_forall_of_coversWhere 2
    (fun i v => ∀ h : (i 0).val < 2816, v = Cert.FfnDwinAReferenceIdeal.Read.val_main_v7 (F := Ideal) (m ((c : Thread nD τ).loc main_arg0))
      (m ((c : Thread nD τ).loc main_arg1)) (ix2 ⟨(i 0).val, h⟩ (i 1))) (fun β => β (0 : Fin 2) < 2) (by decide +kernel)
    (fun t hf y => ?_) (fun j hj => ?_)
  · funext y
    idx_vars y
    pointwise
    exact hA _ _
  · have hr := (flush0_2 t).mp hf
    intro h
    blk_simp
    rw [after0_2]
    refine (written m c t hr y).trans ?_
    rw [accumulated m c t hr y]
    idx_vars y
    pointwise [Cert.FfnDwinAReferenceIdeal.Read.val_main_v0, Cert.FfnDwinAReferenceIdeal.Read.val_main_v1, Cert.FfnDwinAReferenceIdeal.Read.val_main_cst, Cert.FfnDwinAReferenceIdeal.Read.val_main_v2, Cert.FfnDwinAReferenceIdeal.Read.val_main_v3, Cert.FfnDwinAReferenceIdeal.Read.val_main_v4, Cert.FfnDwinAReferenceIdeal.Read.val_main_v5, Cert.FfnDwinAReferenceIdeal.Read.val_main_v6, Cert.FfnDwinAReferenceIdeal.Read.val_main_v7]
    refine Fin.sum_mul_add_congr fun s k hl => ?_
    blk_point [iblk, V, idxs t, idxs ⟨_, Pipeline.run_point_lt_of_flush t hr s⟩]
  · idx_vars j
    intro h
    blk_simp [Pipeline.Window.cell_apply] at hj
    have h' : j0.val < 2816 := h
    omega

theorem frame_reference : Cert.quiescent_FfnDwinAReferenceIdeal := fun m ρ _ =>
  (θ_run _ _ _).mono (fun r h => ⟨fun c => (h c).2, sem_eq_zero_of_no_sems (by decide) r.2⟩)
    (Cert.FfnDwinAReferenceIdeal.Value.run (F := Ideal) m ρ)

theorem algebraic : Cert.algebraic_FfnDwinAIdeal_FfnDwinAReferenceIdeal := by
  intro m g m' g' _ hargs
  refine ⟨_, Cert.FfnDwinAIdeal.Value.run m g, ?_⟩
  refine (θ_run _ _ _).mono (fun r h c => ?_) (Cert.FfnDwinAReferenceIdeal.Value.run (F := Ideal) m' g')
  obtain ⟨h0, hk⟩ := h c
  obtain ⟨e0, e1⟩ := hargs c
  refine ⟨h0.trans ?_, hk⟩
  change _ = extractStridedSlice _ _ ((dats m 0 c).arrAt 2 cfg0.N) _
  rw [final, Cert.FfnDwinAReferenceIdeal.Read.val_main_v7_eq, e0, e1]

end Cert.Step.FfnDwinA
-- ==== Proof.FfnDwinBClaim.lean ====
/- The gradient of the feed-forward layer's first weight, its last rows: the accumulated product is written behind the rows already there. -/
module

public import proofs.«01_k».proof.Defs
public import proofs.«01_k».proof.Proof.Gen.FfnDwinBIdeal.Value
public import proofs.«01_k».proof.Proof.Gen.FfnDwinBReferenceIdeal.Run
public import proofs.«01_k».proof.Proof.Gen.FfnDwinBReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.FfnDwinB

open Idealize.ShloMosaic Idealize.ShloMosaic.TcCoe Idealize.SL.Sem
open Cert.FfnDwinBIdeal Cert.FfnDwinBIdeal.Gen

variable (m : (ℓ : Loc nD τ sig) → Buf (Elt Ideal) ℓ) (c : Dev nD)

/-- The windows' blocks at a point. -/
theorem idxs : ∀ t : Fin cfg0.N, win0_0.index t = ![t.val % 2, t.val / 2] ∧ win0_1.index t = ![t.val % 2, 0] ∧ win0_2.index t = ![t.val / 2 + 2, 0] :=
  (by decide +kernel : ∀ t : Fin grid0.N, _)

/-- The first block's product, as stored in the accumulator. -/
theorem first_apply (x0 : Vec Ideal S1024x1408 .bf16) (x1 : Vec Ideal S1024x1024 .bf16) (y : S1408x1024.Idx) :
    k0_pay2 (F := Ideal) x0 x1 y = (0 : EReal) + ∑ k : Fin 1024, (x0 (ix2 k (y 0)) : EReal) * x1 (ix2 k (y 1)) := by
  idx_vars y
  pointwise [k0_pay2, k0_pay1]

/-- A later block's product is added to the accumulator. -/
theorem step_apply (x0 : Vec Ideal S1024x1408 .bf16) (x1 : Vec Ideal S1024x1024 .bf16) (a : Vec Ideal S1408x1024 .bf16) (y : S1408x1024.Idx) :
    k0_pay3 (F := Ideal) x0 x1 a y = a y + ∑ k : Fin 1024, (x0 (ix2 k (y 0)) : EReal) * x1 (ix2 k (y 1)) := by
  idx_vars y
  pointwise [k0_pay3, k0_pay1]

/-- At a run's last point the result's block is the accumulator. -/
theorem written (t : Fin cfg0.N) (hf : t.val % 2 = 1) (y : S1408x1024.Idx) :
    ((outsAt0 m c t.val t.isLt).1 y : EReal) = (outsAt0 m c t.val t.isLt).2 y := by
  rw [outsAt0_B m c t (by omega) hf hf]
  frame_out
  pointwise [k0_pay4]

/-- The accumulator at a run's last point: the sum of the run's products. -/
theorem accumulated (t : Fin cfg0.N) (hf : t.val % 2 = 1) (y : S1408x1024.Idx) :
    (outsAt0 m c t.val t.isLt).2 y = ∑ s : Fin 2, ∑ k : Fin 1024,
      ((show Vec Ideal S1024x1408 .bf16 from iblk m c 0 ⟨_, Pipeline.run_point_lt_of_flush t hf s⟩) (ix2 k (y 0)) : EReal)
        * (show Vec Ideal S1024x1024 .bf16 from iblk m c 1 ⟨_, Pipeline.run_point_lt_of_flush t hf s⟩) (ix2 k (y 1)) := by
  rw [Pipeline.eq_sum_fin_of_reset_step_apply_of_flush (fun n h => (outsAt0 m c n h).2) 2 (fun _ => (0 : EReal))
    (fun p j => ∑ k : Fin 1024, ((show Vec Ideal S1024x1408 .bf16 from iblk m c 0 p) (ix2 k (j 0)) : EReal)
      * (show Vec Ideal S1024x1024 .bf16 from iblk m c 1 p) (ix2 k (j 1))) ?_ ?_ t hf y, zero_add]
  · intro t h j
    rw [outsAt0_A m c t h (by omega) (by omega)]; frame_out; rw [first_apply]
  · intro t h j
    rw [outsAt0_B m c t h (by omega) (by omega)]; frame_out; rw [step_apply, read_unread_whole]

/-- The result array is the reference's: the product in its last rows, the given array in the others. -/
theorem final : (dats m 0 c).arrAt 2 cfg0.N
    = Cert.FfnDwinBReferenceIdeal.Read.val_main_v9 (F := Ideal) (m ((c : Thread nD τ).loc main_arg0)) (m ((c : Thread nD τ).loc main_arg1))
        (m ((c : Thread nD τ).loc main_arg2)) := by
  refine (dats m 0 c).arrAt_eq_of_coversWhere_of_agree 2 _ (fun β => 2 ≤ β (0 : Fin 2)) (by decide +kernel)
    (fun t hf y => ?_) (fun j hj => ?_)
  · have hr := (flush0_2 t).mp hf
    blk_simp
    rw [after0_2]
    refine (written m c t hr y).trans ?_
    rw [accumulated m c t hr y]
    idx_vars y
    pointwise [Cert.FfnDwinBReferenceIdeal.Read.val_main_v0, Cert.FfnDwinBReferenceIdeal.Read.val_main_v1, Cert.FfnDwinBReferenceIdeal.Read.val_main_v2, Cert.FfnDwinBReferenceIdeal.Read.val_main_cst, Cert.FfnDwinBReferenceIdeal.Read.val_main_v3, Cert.FfnDwinBReferenceIdeal.Read.val_main_v4, Cert.FfnDwinBReferenceIdeal.Read.val_main_v5, Cert.FfnDwinBReferenceIdeal.Read.val_main_v6, Cert.FfnDwinBReferenceIdeal.Read.val_main_v7, Cert.FfnDwinBReferenceIdeal.Read.val_main_v8, Cert.FfnDwinBReferenceIdeal.Read.val_main_v9]
    split
    · rename_i h
      blk_simp [idxs t] at h
      omega
    refine Fin.sum_mul_add_congr fun s k hl => ?_
    blk_point [iblk, V, idxs t, idxs ⟨_, Pipeline.run_point_lt_of_flush t hr s⟩]
  · idx_vars j
    blk_simp [Pipeline.Window.cell_apply] at hj
    have h' : j0.val < 2816 := by omega
    rw [A_eq]
    pointwise [Cert.FfnDwinBReferenceIdeal.Read.val_main_v0, Cert.FfnDwinBReferenceIdeal.Read.val_main_v1, Cert.FfnDwinBReferenceIdeal.Read.val_main_v2, Cert.FfnDwinBReferenceIdeal.Read.val_main_cst, Cert.FfnDwinBReferenceIdeal.Read.val_main_v3, Cert.FfnDwinBReferenceIdeal.Read.val_main_v4, Cert.FfnDwinBReferenceIdeal.Read.val_main_v5, Cert.FfnDwinBReferenceIdeal.Read.val_main_v6, Cert.FfnDwinBReferenceIdeal.Read.val_main_v7, Cert.FfnDwinBReferenceIdeal.Read.val_main_v8, Cert.FfnDwinBReferenceIdeal.Read.val_main_v9]
    refine Eq.trans ?_ (dif_pos h').symm
    entry_read
    rfl

theorem frame_reference : Cert.quiescent_FfnDwinBReferenceIdeal := fun m ρ _ =>
  (θ_run _ _ _).mono (fun r h => ⟨fun c => (h c).2, sem_eq_zero_of_no_sems (by decide) r.2⟩)
    (Cert.FfnDwinBReferenceIdeal.Value.run (F := Ideal) m ρ)

theorem algebraic : Cert.algebraic_FfnDwinBIdeal_FfnDwinBReferenceIdeal := by
  intro m g m' g' _ hargs
  refine ⟨_, Cert.FfnDwinBIdeal.Value.run_blocks m g, ?_⟩
  refine (θ_run _ _ _).mono (fun r h c => ?_) (Cert.FfnDwinBReferenceIdeal.Value.run (F := Ideal) m' g')
  obtain ⟨h0, hk⟩ := h c
  obtain ⟨e0, e1, e2⟩ := hargs c
  refine ⟨h0.trans ?_, hk⟩
  rw [final, Cert.FfnDwinBReferenceIdeal.Read.val_main_v9_eq, e0, e1, e2]

end Cert.Step.FfnDwinB
-- ==== Proof.FfnDwoutClaim.lean ====
/- The gradient of the feed-forward layer's second weight: the accumulated product is the reference's. -/
module

public import proofs.«01_k».proof.Defs
public import proofs.«01_k».proof.Proof.Gen.FfnDwoutIdeal.Value
public import proofs.«01_k».proof.Proof.Gen.FfnDwoutReferenceIdeal.Run
public import proofs.«01_k».proof.Proof.Gen.FfnDwoutReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.FfnDwout

open Idealize.ShloMosaic Idealize.ShloMosaic.TcCoe Idealize.SL.Sem
open Cert.FfnDwoutIdeal Cert.FfnDwoutIdeal.Gen

variable (m : (ℓ : Loc nD τ sig) → Buf (Elt Ideal) ℓ) (c : Dev nD)

/-- The windows' blocks at a point. -/
theorem idxs : ∀ t : Fin cfg0.N, win0_0.index t = ![t.val % 2, t.val / 2] ∧ win0_1.index t = ![t.val % 2, 0] ∧ win0_2.index t = ![t.val / 2, 0] :=
  (by decide +kernel : ∀ t : Fin grid0.N, _)

/-- The first block's product, as stored in the accumulator. -/
theorem first_apply (x0 : Vec Ideal S1024x1408 .bf16) (x1 : Vec Ideal S1024x1024 .f32) (y : S1408x1024.Idx) :
    k0_pay2 (F := Ideal) x0 x1 y = (0 : EReal) + ∑ k : Fin 1024, (x0 (ix2 k (y 0)) : EReal) * x1 (ix2 k (y 1)) := by
  idx_vars y
  pointwise [k0_pay2, k0_pay1]

/-- A later block's product is added to the accumulator. -/
theorem step_apply (x0 : Vec Ideal S1024x1408 .bf16) (x1 : Vec Ideal S1024x1024 .f32) (a : Vec Ideal S1408x1024 .f32) (y : S1408x1024.Idx) :
    k0_pay3 (F := Ideal) x0 x1 a y = a y + ∑ k : Fin 1024, (x0 (ix2 k (y 0)) : EReal) * x1 (ix2 k (y 1)) := by
  idx_vars y
  pointwise [k0_pay3, k0_pay1]

/-- At a run's last point the result's block is the accumulator. -/
theorem written (t : Fin cfg0.N) (hf : t.val % 2 = 1) (y : S1408x1024.Idx) :
    ((outsAt0 m c t.val t.isLt).1 y : EReal) = (outsAt0 m c t.val t.isLt).2 y := by
  rw [outsAt0_B m c t (by omega) hf hf]
  frame_out
  pointwise [k0_pay4]

/-- The accumulator at a run's last point: the sum of the run's products. -/
theorem accumulated (t : Fin cfg0.N) (hf : t.val % 2 = 1) (y : S1408x1024.Idx) :
    (outsAt0 m c t.val t.isLt).2 y = ∑ s : Fin 2, ∑ k : Fin 1024,
      ((show Vec Ideal S1024x1408 .bf16 from iblk m c 0 ⟨_, Pipeline.run_point_lt_of_flush t hf s⟩) (ix2 k (y 0)) : EReal)
        * (show Vec Ideal S1024x1024 .f32 from iblk m c 1 ⟨_, Pipeline.run_point_lt_of_flush t hf s⟩) (ix2 k (y 1)) := by
  rw [Pipeline.eq_sum_fin_of_reset_step_apply_of_flush (fun n h => (outsAt0 m c n h).2) 2 (fun _ => (0 : EReal))
    (fun p j => ∑ k : Fin 1024, ((show Vec Ideal S1024x1408 .bf16 from iblk m c 0 p) (ix2 k (j 0)) : EReal)
      * (show Vec Ideal S1024x1024 .f32 from iblk m c 1 p) (ix2 k (j 1))) ?_ ?_ t hf y, zero_add]
  · intro t h j
    rw [outsAt0_A m c t h (by omega) (by omega)]; frame_out; rw [first_apply]
  · intro t h j
    rw [outsAt0_B m c t h (by omega) (by omega)]; frame_out; rw [step_apply, read_unread_whole]

/-- The result array is the reference's product. -/
theorem final : (dats m 0 c).arrAt 2 cfg0.N
    = Cert.FfnDwoutReferenceIdeal.Read.val_main_v5 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2]
  refine (written m c t hr y).trans ?_
  rw [accumulated m c t hr y]
  idx_vars y
  pointwise [Cert.FfnDwoutReferenceIdeal.Read.val_main_v0, Cert.FfnDwoutReferenceIdeal.Read.val_main_cst, Cert.FfnDwoutReferenceIdeal.Read.val_main_v1, Cert.FfnDwoutReferenceIdeal.Read.val_main_v2, Cert.FfnDwoutReferenceIdeal.Read.val_main_v3, Cert.FfnDwoutReferenceIdeal.Read.val_main_v4, Cert.FfnDwoutReferenceIdeal.Read.val_main_v5]
  refine Fin.sum_mul_add_congr fun s k hl => (mul_comm _ _).trans ?_
  blk_point [iblk, V, idxs t, idxs ⟨_, Pipeline.run_point_lt_of_flush t hr s⟩]

theorem frame_reference : Cert.quiescent_FfnDwoutReferenceIdeal := fun m ρ _ =>
  (θ_run _ _ _).mono (fun r h => ⟨fun c => (h c).2, sem_eq_zero_of_no_sems (by decide) r.2⟩)
    (Cert.FfnDwoutReferenceIdeal.Value.run (F := Ideal) m ρ)

theorem algebraic : Cert.algebraic_FfnDwoutIdeal_FfnDwoutReferenceIdeal := by
  intro m g m' g' _ hargs
  refine ⟨_, Cert.FfnDwoutIdeal.Value.run_blocks m g, ?_⟩
  refine (θ_run _ _ _).mono (fun r h c => ?_) (Cert.FfnDwoutReferenceIdeal.Value.run (F := Ideal) m' g')
  obtain ⟨h0, hk⟩ := h c
  obtain ⟨e0, e1⟩ := hargs c
  refine ⟨h0.trans ?_, hk⟩
  rw [final, Cert.FfnDwoutReferenceIdeal.Read.val_main_v5_eq, e0, e1]

end Cert.Step.FfnDwout
-- ==== Proof.FfnDactClaim.lean ====
/- The gradient of the gated activation: the kernel's tiled product is the reference's. -/
module

public import proofs.«01_k».proof.Defs
public import proofs.«01_k».proof.Proof.Gen.FfnDactIdeal.Value
public import proofs.«01_k».proof.Proof.Gen.FfnDactReferenceIdeal.Run
public import proofs.«01_k».proof.Proof.Gen.FfnDactReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.FfnDact

open Idealize.ShloMosaic Idealize.ShloMosaic.TcCoe Idealize.SL.Sem
open Cert.FfnDactIdeal Cert.FfnDactIdeal.Gen

variable (m : (ℓ : Loc nD τ sig) → Buf (Elt Ideal) ℓ) (c : Dev nD)

/-- The windows' blocks at a point. -/
theorem idxs : ∀ t : Fin cfg0.N, win0_0.index t = ![t.val % 4, 0] ∧ win0_1.index t = ![t.val / 4, 0] ∧ win0_2.index t = ![t.val % 4, t.val / 4] :=
  (by decide +kernel : ∀ t : Fin grid0.N, _)

/-- The result array is the reference's product. -/
theorem final : (dats m 0 c).arrAt 2 cfg0.N
    = Cert.FfnDactReferenceIdeal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, Cert.FfnDactReferenceIdeal.Read.val_main_v0, Cert.FfnDactReferenceIdeal.Read.val_main_cst, Cert.FfnDactReferenceIdeal.Read.val_main_v1, Cert.FfnDactReferenceIdeal.Read.val_main_v2, Cert.FfnDactReferenceIdeal.Read.val_main_v3]
  blk_point [iblk, V, idxs t]

theorem frame_reference : Cert.quiescent_FfnDactReferenceIdeal := fun m ρ _ =>
  (θ_run _ _ _).mono (fun r h => ⟨fun c => (h c).2, sem_eq_zero_of_no_sems (by decide) r.2⟩)
    (Cert.FfnDactReferenceIdeal.Value.run (F := Ideal) m ρ)

theorem algebraic : Cert.algebraic_FfnDactIdeal_FfnDactReferenceIdeal := by
  intro m g m' g' _ hargs
  refine ⟨_, Cert.FfnDactIdeal.Value.run_blocks m g, ?_⟩
  refine (θ_run _ _ _).mono (fun r h c => ?_) (Cert.FfnDactReferenceIdeal.Value.run (F := Ideal) m' g')
  obtain ⟨h0, hk⟩ := h c
  obtain ⟨e0, e1⟩ := hargs c
  refine ⟨h0.trans ?_, hk⟩
  rw [final, Cert.FfnDactReferenceIdeal.Read.val_main_v3_eq, e0, e1]

end Cert.Step.FfnDact
-- ==== Proof.AttDhnClaim.lean ====
/- The gradient through the attention layer's first product, its norm and the residual. -/
module

public import proofs.«01_k».proof.Defs
public import proofs.«01_k».proof.Proof.Gen.AttDhnIdeal.Value
public import proofs.«01_k».proof.Proof.Gen.AttDhnReferenceIdeal.Run
public import proofs.«01_k».proof.Proof.Gen.AttDhnReferenceIdeal.Read
public import proofs.«01_k».proof.Proof.RmsGradient
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.AttDhn

open Idealize.ShloMosaic Idealize.ShloMosaic.TcCoe Idealize.SL.Sem
open Cert.AttDhnIdeal Cert.AttDhnIdeal.Gen Cert.Conv
open Cert.AttDhnReferenceIdeal.Read (val_main_v20 val_main_v41 val_main_v42)

/-! ## The payloads at an index -/

theorem first_apply (x0 : Vec Ideal S1024x1536 .bf16) (x1 : Vec Ideal S1536x1024 .bf16) (y : S1024x1024.Idx) :
    k0_pay2 (F := Ideal) x0 x1 y = (0 : EReal) + ∑ k : Fin 1536, (x0 (ix2 (y 0) k) : EReal) * x1 (ix2 k (y 1)) := by
  idx_vars y
  pointwise [k0_pay2, k0_pay1]

theorem step_apply (x0 : Vec Ideal S1024x1536 .bf16) (x1 : Vec Ideal S1536x1024 .bf16) (a : Vec Ideal S1024x1024 .f32) (y : S1024x1024.Idx) :
    k0_pay3 (F := Ideal) x0 x1 a y = a y + ∑ k : Fin 1536, (x0 (ix2 (y 0) k) : EReal) * x1 (ix2 k (y 1)) := by
  idx_vars y
  pointwise [k0_pay3, k0_pay1]

theorem zero_apply (y : S1x1024.Idx) : k0_pay4 (F := Ideal) y = (0 : EReal) := by
  idx_vars y
  pointwise [k0_pay4]

theorem dg_apply (a x : Vec Ideal S1024x1024 .f32) (g : Vec Ideal S1x1024 .f32) (y : S1x1024.Idx) :
    k0_pay7 (F := Ideal) a x g y
      = g y + ∑ r : Fin 1024, (a (ix2 r (y 1)) : EReal) * (x (ix2 r (y 1)) * inv fun k => x (ix2 r k)) := by
  idx_vars y
  unfold inv
  pointwise [k0_pay7, k0_pay6, k0_pay5]

theorem dx_apply (a x d : Vec Ideal S1024x1024 .f32) (g : Vec Ideal S1x1024 .f32) (y : S1024x1024.Idx) :
    k0_pay8 (F := Ideal) a x g d y = d y + (inv fun k => x (ix2 (y 0) k)) * (a y * g (ix2 0 (y 1))
      - x y * (inv fun k => x (ix2 (y 0) k)) * Ideal.div (∑ k : Fin 1024, (a (ix2 (y 0) k) * g (ix2 0 k) : EReal)
          * (x (ix2 (y 0) k) * inv fun k => x (ix2 (y 0) k))) (Ideal.ofBits .f32 1149239296#32)) := by
  idx_vars y
  unfold inv
  pointwise [k0_pay8, k0_pay6, k0_pay5]

/-- The input's gradient from a row's four arrays. -/
theorem dx_row (a x d : Vec Ideal S1024x1024 .f32) (g : Vec Ideal S1x1024 .f32) (A X D G : Fin 1024 → EReal) (r l : Fin 1024) (hA : ∀ k, a (ix2 r k) = A k)
    (hX : ∀ k, x (ix2 r k) = X k) (hD : d (ix2 r l) = D l) (hG : ∀ k, g (ix2 0 k) = G k) :
    k0_pay8 (F := Ideal) a x g d (ix2 r l) = D l + inv X * (A l * G l
      - X l * inv X * Ideal.div (∑ k : Fin 1024, A k * G k * (X k * inv X)) (Ideal.ofBits .f32 1149239296#32)) := by
  rw [dx_apply]
  change d (ix2 r l) + inv (fun k => x (ix2 r k)) * (a (ix2 r l) * g (ix2 0 l) - x (ix2 r l) * inv (fun k => x (ix2 r k))
    * Ideal.div (∑ k : Fin 1024, a (ix2 r k) * g (ix2 0 k) * (x (ix2 r k) * inv fun k => x (ix2 r k))) _) = _
  simp only [hA, hX, hD, hG]

/-- A row's summand of the scale's gradient. -/
theorem dg_row (a x : Vec Ideal S1024x1024 .f32) (X : Fin 1024 → EReal) (P : EReal) (r l : Fin 1024) (hP : a (ix2 r l) = P) (hX : ∀ k, x (ix2 r k) = X k) :
    (a (ix2 r l) : EReal) * (x (ix2 r l) * inv fun k => x (ix2 r k)) = X l * inv X * P := by
  simp only [hP, hX]
  exact mul_comm _ _

variable (m : (ℓ : Loc nD τ sig) → Buf (Elt Ideal) ℓ) (c : Dev nD)

/-! ## The windows and the runs -/

abbrev argA : Vec Ideal S2048x4608 .bf16 := m ((c : Thread nD τ).loc main_arg0)
abbrev argW : Vec Ideal S4608x1024 .bf16 := m ((c : Thread nD τ).loc main_arg1)
abbrev argX : Vec Ideal S2048x1024 .f32 := m ((c : Thread nD τ).loc main_arg2)
abbrev argG : Vec Ideal S1024 .f32 := m ((c : Thread nD τ).loc main_arg3)
abbrev argD : Vec Ideal S2048x1024 .f32 := m ((c : Thread nD τ).loc main_arg4)

/-- The windows' blocks at a point. -/
theorem idxs : ∀ t : Fin cfg0.N, win0_0.index t = ![t.val / 3, t.val % 3]
    ∧ win0_1.index t = ![t.val % 3, 0]
    ∧ win0_2.index t = ![t.val / 3, 0]
    ∧ win0_3.index t = ![0, 0]
    ∧ win0_4.index t = ![t.val / 3, 0]
    ∧ win0_5.index t = ![t.val / 3, 0]
    ∧ win0_6.index t = ![0, 0] :=
  (by decide +kernel : ∀ t : Fin grid0.N, _)

/-- The product a point adds to the accumulator. -/
def part (p : Fin cfg0.N) (j : S1024x1024.Idx) : EReal :=
  ∑ k : Fin 1536, ((show Vec Ideal S1024x1536 .bf16 from iblk m c 0 p) (ix2 (j 0) k) : EReal) * (show Vec Ideal S1536x1024 .bf16 from iblk m c 1 p) (ix2 k (j 1))

/-- The accumulator at a run's last point: the sum of the run's products. -/
theorem accumulated (t : Fin cfg0.N) (hf : t.val % 3 = 2) (y : S1024x1024.Idx) :
    (outsAt0 m c t.val t.isLt).2.2 y = ∑ s : Fin 3, part m c ⟨_, Pipeline.run_point_lt_of_flush t hf s⟩ y := by
  rw [Pipeline.eq_sum_fin_of_reset_step_apply_of_flush (fun n h => (outsAt0 m c n h).2.2) 3 (fun _ => (0 : EReal))
    (part m c) ?_ ?_ t hf y, zero_add]
  · intro t h j
    by_cases h2 : t.val % 6 = 0
    · rw [outsAt0_A m c t h (by omega) h2 (by omega)]; frame_out; rw [first_apply]; rfl
    · rw [outsAt0_D m c t h (by omega) h2 (by omega)]; frame_out; rw [first_apply]; rfl
  · intro t h j
    by_cases h3 : t.val % 3 = 2
    · rw [outsAt0_C m c t h (by omega) (by omega) h3]; frame_out; rw [step_apply, read_unread_whole]; rfl
    · rw [outsAt0_B m c t h (by omega) (by omega) h3]; frame_out; rw [step_apply, read_unread_whole]; rfl

/-- What a tile's last point adds to the scale's gradient. -/
def scalePart (p : Fin cfg0.N) (j : S1x1024.Idx) : EReal :=
  if p.val % 3 = 2 then ∑ r : Fin 1024, ((outsAt0 m c p.val p.isLt).2.2 (ix2 r (j 1)) : EReal)
    * ((show Vec Ideal S1024x1024 .f32 from iblk m c 2 p) (ix2 r (j 1)) * inv fun k => (show Vec Ideal S1024x1024 .f32 from iblk m c 2 p) (ix2 r k)) else 0

/-- The scale's gradient at the last point: what the two tiles add. -/
theorem scale (t : Fin cfg0.N) (hf : t.val % 6 = 5) (y : S1x1024.Idx) :
    (outsAt0 m c t.val t.isLt).2.1 y = ∑ s : Fin 6, scalePart m c ⟨_, Pipeline.run_point_lt_of_flush t hf s⟩ y := by
  rw [Pipeline.eq_sum_fin_of_reset_step_apply_of_flush (fun n h => (outsAt0 m c n h).2.1) 6 (fun _ => (0 : EReal))
    (scalePart m c) ?_ ?_ t hf y, zero_add]
  · intro t h j
    unfold scalePart
    rw [if_neg (by omega), add_zero, outsAt0_A m c t (by omega) (by omega) h (by omega)]; frame_out; rw [zero_apply]
  · intro t h j
    unfold scalePart
    by_cases h0 : t.val % 3 = 0
    · rw [if_neg (by omega), add_zero, outsAt0_D m c t h0 (by omega) h (by omega)]; frame_out; rfl
    by_cases h3 : t.val % 3 = 2
    · rw [if_pos h3, outsAt0_C m c t h0 (by omega) h h3]; frame_out; rw [dg_apply]
    · rw [if_neg h3, add_zero, outsAt0_B m c t h0 (by omega) h h3]; frame_out; rfl

/-- At a tile's last point the input's gradient is computed from the accumulator. -/
theorem written (t : Fin cfg0.N) (hf : t.val % 3 = 2) (y : S1024x1024.Idx) :
    (outsAt0 m c t.val t.isLt).1 y = k0_pay8 (F := Ideal) (outsAt0 m c t.val t.isLt).2.2 (iblk m c 2 t) (iblk m c 3 t)
      (iblk m c 4 t) y := by
  rw [outsAt0_C m c t (by omega) (by omega) (by omega) hf]; frame_out

/-- The reference's product at an index. -/
theorem product_reference (a0 : Vec Ideal Cert.AttDhnReferenceIdeal.S2048x4608 .bf16) (w : Vec Ideal Cert.AttDhnReferenceIdeal.S4608x1024 .bf16) (R : Fin 2048) (l : Fin 1024) :
    val_main_v20 (F := Ideal) a0 w (ix2 R l) = ∑ x : Fin 4608, (a0 (ix2 R x) : EReal) * w (ix2 x l) := by
  pointwise [Cert.AttDhnReferenceIdeal.Read.val_main_v20, Cert.AttDhnReferenceIdeal.Read.val_main_v0, Cert.AttDhnReferenceIdeal.Read.val_main_v1, Cert.AttDhnReferenceIdeal.Read.val_main_v2, Cert.AttDhnReferenceIdeal.Read.val_main_v3, Cert.AttDhnReferenceIdeal.Read.val_main_v4, Cert.AttDhnReferenceIdeal.Read.val_main_v5, Cert.AttDhnReferenceIdeal.Read.val_main_v6, Cert.AttDhnReferenceIdeal.Read.val_main_v7, Cert.AttDhnReferenceIdeal.Read.val_main_v8, Cert.AttDhnReferenceIdeal.Read.val_main_v9, Cert.AttDhnReferenceIdeal.Read.val_main_v10, Cert.AttDhnReferenceIdeal.Read.val_main_v11, Cert.AttDhnReferenceIdeal.Read.val_main_v12, Cert.AttDhnReferenceIdeal.Read.val_main_v13, Cert.AttDhnReferenceIdeal.Read.val_main_v14, Cert.AttDhnReferenceIdeal.Read.val_main_v15, Cert.AttDhnReferenceIdeal.Read.val_main_v16, Cert.AttDhnReferenceIdeal.Read.val_main_v17, Cert.AttDhnReferenceIdeal.Read.val_main_v18, Cert.AttDhnReferenceIdeal.Read.val_main_v19]

/-- The accumulator at a tile's last point: the tile's rows of the reference's product. -/
theorem product (t : Fin cfg0.N) (hf : t.val % 3 = 2) (y0 y1 : Fin 1024) (R : Fin 2048) (hR : R.val = t.val / 3 * 1024 + y0.val) :
    (outsAt0 m c t.val t.isLt).2.2 (ix2 y0 y1) = val_main_v20 (F := Ideal) (argA m c) (argW m c) (ix2 R y1) := by
  rw [accumulated m c t hf, product_reference]
  have hN := Pipeline.run_point_lt_of_flush t hf
  unfold part
  refine Fin.sum_mul_add_congr fun s k hl => ?_
  blk_point [iblk, V, idxs ⟨_, hN s⟩]

/-! ## The reference at an index -/

/-- The scale's gradient is the sum over the rows. -/
theorem dg_reference (a0 : Vec Ideal Cert.AttDhnReferenceIdeal.S2048x4608 .bf16) (w : Vec Ideal Cert.AttDhnReferenceIdeal.S4608x1024 .bf16) (x : Vec Ideal Cert.AttDhnReferenceIdeal.S2048x1024 .f32) (y : Cert.AttDhnReferenceIdeal.S1x1024.Idx) :
    val_main_v42 (F := Ideal) a0 w x y = ∑ r : Fin 2048, x (ix2 r (y 1)) * (inv fun k => x (ix2 r k)) * val_main_v20 (F := Ideal) a0 w (ix2 r (y 1)) := by
  idx_vars y
  unfold inv
  pointwise [Cert.AttDhnReferenceIdeal.Read.val_main_v0, Cert.AttDhnReferenceIdeal.Read.val_main_v1, Cert.AttDhnReferenceIdeal.Read.val_main_v2, Cert.AttDhnReferenceIdeal.Read.val_main_v3, Cert.AttDhnReferenceIdeal.Read.val_main_cst, Cert.AttDhnReferenceIdeal.Read.val_main_v4, Cert.AttDhnReferenceIdeal.Read.val_main_v5, Cert.AttDhnReferenceIdeal.Read.val_main_cst_0, Cert.AttDhnReferenceIdeal.Read.val_main_v6, Cert.AttDhnReferenceIdeal.Read.val_main_v7, Cert.AttDhnReferenceIdeal.Read.val_main_cst_1, Cert.AttDhnReferenceIdeal.Read.val_main_v8, Cert.AttDhnReferenceIdeal.Read.val_main_v9, Cert.AttDhnReferenceIdeal.Read.val_main_v10, Cert.AttDhnReferenceIdeal.Read.val_main_v11, Cert.AttDhnReferenceIdeal.Read.val_main_cst_2, Cert.AttDhnReferenceIdeal.Read.val_main_v12, Cert.AttDhnReferenceIdeal.Read.val_main_v13, Cert.AttDhnReferenceIdeal.Read.val_main_v14, Cert.AttDhnReferenceIdeal.Read.val_main_v15, Cert.AttDhnReferenceIdeal.Read.val_main_v16, Cert.AttDhnReferenceIdeal.Read.val_main_v17, Cert.AttDhnReferenceIdeal.Read.val_main_v18, Cert.AttDhnReferenceIdeal.Read.val_main_v19, Cert.AttDhnReferenceIdeal.Read.val_main_v21, Cert.AttDhnReferenceIdeal.Read.val_main_cst_3, Cert.AttDhnReferenceIdeal.Read.val_main_v22, Cert.AttDhnReferenceIdeal.Read.val_main_v23, Cert.AttDhnReferenceIdeal.Read.val_main_v24, Cert.AttDhnReferenceIdeal.Read.val_main_v25, Cert.AttDhnReferenceIdeal.Read.val_main_cst_4, Cert.AttDhnReferenceIdeal.Read.val_main_v26, Cert.AttDhnReferenceIdeal.Read.val_main_v27, Cert.AttDhnReferenceIdeal.Read.val_main_cst_5, Cert.AttDhnReferenceIdeal.Read.val_main_v28, Cert.AttDhnReferenceIdeal.Read.val_main_v29, Cert.AttDhnReferenceIdeal.Read.val_main_v30, Cert.AttDhnReferenceIdeal.Read.val_main_v31, Cert.AttDhnReferenceIdeal.Read.val_main_v32, Cert.AttDhnReferenceIdeal.Read.val_main_v33, Cert.AttDhnReferenceIdeal.Read.val_main_cst_6, Cert.AttDhnReferenceIdeal.Read.val_main_v34, Cert.AttDhnReferenceIdeal.Read.val_main_v35, Cert.AttDhnReferenceIdeal.Read.val_main_cst_7, Cert.AttDhnReferenceIdeal.Read.val_main_v36, Cert.AttDhnReferenceIdeal.Read.val_main_v37, Cert.AttDhnReferenceIdeal.Read.val_main_v38, Cert.AttDhnReferenceIdeal.Read.val_main_v39, Cert.AttDhnReferenceIdeal.Read.val_main_v40, Cert.AttDhnReferenceIdeal.Read.val_main_v41, Cert.AttDhnReferenceIdeal.Read.val_main_v42]
  simp only [Fin.sum_univ_one]

/-- The input's gradient, at an index, is the kernel's spelling. -/
theorem dx_reference (a0 : Vec Ideal Cert.AttDhnReferenceIdeal.S2048x4608 .bf16) (w : Vec Ideal Cert.AttDhnReferenceIdeal.S4608x1024 .bf16) (x : Vec Ideal Cert.AttDhnReferenceIdeal.S2048x1024 .f32) (g : Vec Ideal Cert.AttDhnReferenceIdeal.S1024 .f32) (d : Vec Ideal Cert.AttDhnReferenceIdeal.S2048x1024 .f32) (y : Cert.AttDhnReferenceIdeal.S2048x1024.Idx) :
    val_main_v41 (F := Ideal) a0 w x g d y = d y + (inv fun k => x (ix2 (y 0) k)) * (val_main_v20 (F := Ideal) a0 w y * g (ix1 (y 1))
      - x y * (inv fun k => x (ix2 (y 0) k)) * Ideal.div (∑ k : Fin 1024, (val_main_v20 (F := Ideal) a0 w (ix2 (y 0) k) * g (ix1 k) : EReal)
          * (x (ix2 (y 0) k) * inv fun k => x (ix2 (y 0) k))) (Ideal.ofBits .f32 1149239296#32)) := by
  idx_vars y
  refine Eq.trans ?_ (rms_gradient (fun k => x (ix2 y0 k)) (fun k => val_main_v20 (F := Ideal) a0 w (ix2 y0 k) * g (ix1 k)) (d (ix2 y0 y1)) y1).symm
  unfold inv
  pointwise [Cert.AttDhnReferenceIdeal.Read.val_main_v0, Cert.AttDhnReferenceIdeal.Read.val_main_v1, Cert.AttDhnReferenceIdeal.Read.val_main_v2, Cert.AttDhnReferenceIdeal.Read.val_main_v3, Cert.AttDhnReferenceIdeal.Read.val_main_cst, Cert.AttDhnReferenceIdeal.Read.val_main_v4, Cert.AttDhnReferenceIdeal.Read.val_main_v5, Cert.AttDhnReferenceIdeal.Read.val_main_cst_0, Cert.AttDhnReferenceIdeal.Read.val_main_v6, Cert.AttDhnReferenceIdeal.Read.val_main_v7, Cert.AttDhnReferenceIdeal.Read.val_main_cst_1, Cert.AttDhnReferenceIdeal.Read.val_main_v8, Cert.AttDhnReferenceIdeal.Read.val_main_v9, Cert.AttDhnReferenceIdeal.Read.val_main_v10, Cert.AttDhnReferenceIdeal.Read.val_main_v11, Cert.AttDhnReferenceIdeal.Read.val_main_cst_2, Cert.AttDhnReferenceIdeal.Read.val_main_v12, Cert.AttDhnReferenceIdeal.Read.val_main_v13, Cert.AttDhnReferenceIdeal.Read.val_main_v14, Cert.AttDhnReferenceIdeal.Read.val_main_v15, Cert.AttDhnReferenceIdeal.Read.val_main_v16, Cert.AttDhnReferenceIdeal.Read.val_main_v17, Cert.AttDhnReferenceIdeal.Read.val_main_v18, Cert.AttDhnReferenceIdeal.Read.val_main_v19, Cert.AttDhnReferenceIdeal.Read.val_main_v21, Cert.AttDhnReferenceIdeal.Read.val_main_cst_3, Cert.AttDhnReferenceIdeal.Read.val_main_v22, Cert.AttDhnReferenceIdeal.Read.val_main_v23, Cert.AttDhnReferenceIdeal.Read.val_main_v24, Cert.AttDhnReferenceIdeal.Read.val_main_v25, Cert.AttDhnReferenceIdeal.Read.val_main_cst_4, Cert.AttDhnReferenceIdeal.Read.val_main_v26, Cert.AttDhnReferenceIdeal.Read.val_main_v27, Cert.AttDhnReferenceIdeal.Read.val_main_cst_5, Cert.AttDhnReferenceIdeal.Read.val_main_v28, Cert.AttDhnReferenceIdeal.Read.val_main_v29, Cert.AttDhnReferenceIdeal.Read.val_main_v30, Cert.AttDhnReferenceIdeal.Read.val_main_v31, Cert.AttDhnReferenceIdeal.Read.val_main_v32, Cert.AttDhnReferenceIdeal.Read.val_main_v33, Cert.AttDhnReferenceIdeal.Read.val_main_cst_6, Cert.AttDhnReferenceIdeal.Read.val_main_v34, Cert.AttDhnReferenceIdeal.Read.val_main_v35, Cert.AttDhnReferenceIdeal.Read.val_main_cst_7, Cert.AttDhnReferenceIdeal.Read.val_main_v36, Cert.AttDhnReferenceIdeal.Read.val_main_v37, Cert.AttDhnReferenceIdeal.Read.val_main_v38, Cert.AttDhnReferenceIdeal.Read.val_main_v39, Cert.AttDhnReferenceIdeal.Read.val_main_v40, Cert.AttDhnReferenceIdeal.Read.val_main_v41, Cert.AttDhnReferenceIdeal.Read.val_main_v42]
  simp only [Fin.sum_univ_one]

/-! ## The results -/

/-- The scale's gradient is the reference's. -/
theorem final6 : (dats m 0 c).arrAt 6 cfg0.N
    = val_main_v42 (F := Ideal) (argA m c) (argW m c) (argX m c) := by
  refine (dats m 0 c).arrAt_eq_of_covers 6 _ (by decide +kernel) fun t hf y => ?_
  have hr := (flush0_6 t).mp hf
  blk_simp
  rw [after0_6]
  refine (scale m c t hr y).trans ?_
  rw [dg_reference]
  have hN := Pipeline.run_point_lt_of_flush t hr
  have ht8 : t.val < 6 := lt_of_lt_of_eq t.isLt N_0
  have hs : ∑ s : Fin 6, scalePart m c ⟨_, hN s⟩ y = ∑ i : Fin 2, ∑ r : Fin 1024,
      ((argX m c (ix2 ⟨i.val * 1024 + r.val, by omega⟩ (y 1)) : EReal)
        * (inv fun k => argX m c (ix2 ⟨i.val * 1024 + r.val, by omega⟩ k)))
        * val_main_v20 (F := Ideal) (argA m c) (argW m c) (ix2 ⟨i.val * 1024 + r.val, by omega⟩ (y 1)) := by
    have ht : ∀ i : Fin 2, scalePart m c ⟨6 * (t.val / 6) + (i.val * 3 + 2), hN ⟨i.val * 3 + 2, by omega⟩⟩ y = ∑ r : Fin 1024,
        ((argX m c (ix2 ⟨i.val * 1024 + r.val, by omega⟩ (y 1)) : EReal)
          * (inv fun k => argX m c (ix2 ⟨i.val * 1024 + r.val, by omega⟩ k)))
          * val_main_v20 (F := Ideal) (argA m c) (argW m c) (ix2 ⟨i.val * 1024 + r.val, by omega⟩ (y 1)) := by
      intro i
      unfold scalePart
      rw [if_pos (by dsimp only; omega)]
      refine Finset.sum_congr rfl fun r _ => ?_
      refine dg_row _ _ (fun k => argX m c (ix2 ⟨i.val * 1024 + r.val, by omega⟩ k)) _ r (y 1) ?_ ?_
      · exact product m c _ (by dsimp only; omega) r (y 1) ⟨i.val * 1024 + r.val, by omega⟩ (by dsimp only; omega)
      · intro k
        blk_point [iblk, V, idxs ⟨6 * (t.val / 6) + (i.val * 3 + 2), hN ⟨i.val * 3 + 2, by omega⟩⟩]
    rw [Fin.sum_univ_two, ← ht 0, ← ht 1]
    rw [Fin.sum_univ_six]
    have hz : ∀ s : Fin 6, ¬ s.val % 3 = 2 → scalePart m c ⟨_, hN s⟩ y = 0 := fun s h => if_neg (by dsimp only; omega)
    rw [hz 0 (by decide), hz 1 (by decide), hz 3 (by decide), hz 4 (by decide)]
    simp only [zero_add, add_zero]
    rfl
  rw [hs]
  refine Fin.sum_mul_add_congr fun i r hl => ?_
  blk_point [idxs t]

theorem block_x (t : Fin cfg0.N) (r k : Fin 1024) (R : Fin 2048) (hR : R.val = t.val / 3 * 1024 + r.val) :
    (show Vec Ideal S1024x1024 .f32 from iblk m c 2 t) (ix2 r k) = argX m c (ix2 R k) := by
  blk_point [iblk, V, idxs t]

theorem block_d (t : Fin cfg0.N) (r k : Fin 1024) (R : Fin 2048) (hR : R.val = t.val / 3 * 1024 + r.val) :
    (show Vec Ideal S1024x1024 .f32 from iblk m c 4 t) (ix2 r k) = argD m c (ix2 R k) := by
  blk_point [iblk, V, idxs t]

theorem block_g (t : Fin cfg0.N) (k : Fin 1024) : (show Vec Ideal S1x1024 .f32 from iblk m c 3 t) (ix2 0 k) = argG m c (ix1 k) := by
  blk_point [iblk, V, idxs t]

/-- A row of the input's gradient, written at a tile's last point. -/
theorem written_row (t : Fin cfg0.N) (hf : t.val % 3 = 2) (r l : Fin 1024) (R : Fin 2048)
    (hR : R.val = t.val / 3 * 1024 + r.val) :
    (outsAt0 m c t.val t.isLt).1 (ix2 r l) = val_main_v41 (F := Ideal) (argA m c) (argW m c) (argX m c) (argG m c) (argD m c) (ix2 R l) := by
  refine (written m c t hf (ix2 r l)).trans ?_
  rw [dx_reference (argA m c) (argW m c) (argX m c) (argG m c) (argD m c) (ix2 R l)]
  exact dx_row _ _ _ _ (fun k => val_main_v20 (F := Ideal) (argA m c) (argW m c) (ix2 R k)) (fun k => argX m c (ix2 R k)) (fun k => argD m c (ix2 R k))
    (fun k => argG m c (ix1 k)) r l (fun k => product m c t hf r k R hR) (fun k => block_x m c t r k R hR)
    (block_d m c t r l R hR) (fun k => block_g m c t k)

/-- The input's gradient is the reference's. -/
theorem final5 : (dats m 0 c).arrAt 5 cfg0.N
    = val_main_v41 (F := Ideal) (argA m c) (argW m c) (argX m c) (argG m c) (argD m c) := by
  refine (dats m 0 c).arrAt_eq_of_covers 5 _ (by decide +kernel) fun t hf y => ?_
  have hr := (flush0_5 t).mp hf
  blk_simp
  rw [after0_5]
  idx_vars y
  have ht8 : t.val < 6 := lt_of_lt_of_eq t.isLt N_0
  refine (written_row m c t hr y0 y1 ⟨t.val / 3 * 1024 + y0.val, by omega⟩ rfl).trans ?_
  blk_point [idxs t]

/-! ## The claims -/

theorem frame_reference : Cert.quiescent_AttDhnReferenceIdeal := fun m ρ _ =>
  (θ_run _ _ _).mono (fun r h => ⟨fun c => (h c).2.2, sem_eq_zero_of_no_sems (by decide) r.2⟩)
    (Cert.AttDhnReferenceIdeal.Value.run (F := Ideal) m ρ)

theorem algebraic : Cert.algebraic_AttDhnIdeal_AttDhnReferenceIdeal := by
  intro m g m' g' _ hargs
  refine ⟨_, _, Cert.AttDhnIdeal.Value.run_blocks m g, ?_⟩
  refine (θ_run _ _ _).mono (fun r h c => ?_) (Cert.AttDhnReferenceIdeal.Value.run (F := Ideal) m' g')
  obtain ⟨h0, h1, hk⟩ := h c
  obtain ⟨e0, e1, e2, e3, e4⟩ := hargs c
  refine ⟨h0.trans ?_, h1.trans ?_, hk⟩
  · rw [final5, Cert.AttDhnReferenceIdeal.Read.val_main_v41_eq, e0, e1, e2, e3, e4]
  · rw [final6, Cert.AttDhnReferenceIdeal.Read.val_main_v42_eq, e0, e1, e2]

end Cert.Step.AttDhn
-- ==== Proof.MixDhnClaim.lean ====
/- The gradient through the mixer's first product, its norm and the residual: the gradient of the step's input. -/
module

public import proofs.«01_k».proof.Defs
public import proofs.«01_k».proof.Proof.Gen.MixDhnIdeal.Value
public import proofs.«01_k».proof.Proof.Gen.MixDhnReferenceIdeal.Run
public import proofs.«01_k».proof.Proof.Gen.MixDhnReferenceIdeal.Read
public import proofs.«01_k».proof.Proof.RmsGradient
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.MixDhn

open Idealize.ShloMosaic Idealize.ShloMosaic.TcCoe Idealize.SL.Sem
open Cert.MixDhnIdeal Cert.MixDhnIdeal.Gen Cert.Conv
open Cert.MixDhnReferenceIdeal.Read (val_main_v20 val_main_v41 val_main_v42)

/-! ## The payloads at an index -/

theorem first_apply (x0 : Vec Ideal S1024x1280 .bf16) (x1 : Vec Ideal S1280x1024 .bf16) (y : S1024x1024.Idx) :
    k0_pay2 (F := Ideal) x0 x1 y = (0 : EReal) + ∑ k : Fin 1280, (x0 (ix2 (y 0) k) : EReal) * x1 (ix2 k (y 1)) := by
  idx_vars y
  pointwise [k0_pay2, k0_pay1]

theorem step_apply (x0 : Vec Ideal S1024x1280 .bf16) (x1 : Vec Ideal S1280x1024 .bf16) (a : Vec Ideal S1024x1024 .f32) (y : S1024x1024.Idx) :
    k0_pay3 (F := Ideal) x0 x1 a y = a y + ∑ k : Fin 1280, (x0 (ix2 (y 0) k) : EReal) * x1 (ix2 k (y 1)) := by
  idx_vars y
  pointwise [k0_pay3, k0_pay1]

theorem zero_apply (y : S1x1024.Idx) : k0_pay4 (F := Ideal) y = (0 : EReal) := by
  idx_vars y
  pointwise [k0_pay4]

theorem dg_apply (a x : Vec Ideal S1024x1024 .f32) (g : Vec Ideal S1x1024 .f32) (y : S1x1024.Idx) :
    k0_pay7 (F := Ideal) a x g y
      = g y + ∑ r : Fin 1024, (a (ix2 r (y 1)) : EReal) * (x (ix2 r (y 1)) * inv fun k => x (ix2 r k)) := by
  idx_vars y
  unfold inv
  pointwise [k0_pay7, k0_pay6, k0_pay5]

theorem dx_apply (a x d : Vec Ideal S1024x1024 .f32) (g : Vec Ideal S1x1024 .f32) (y : S1024x1024.Idx) :
    k0_pay8 (F := Ideal) a x g d y = d y + (inv fun k => x (ix2 (y 0) k)) * (a y * g (ix2 0 (y 1))
      - x y * (inv fun k => x (ix2 (y 0) k)) * Ideal.div (∑ k : Fin 1024, (a (ix2 (y 0) k) * g (ix2 0 k) : EReal)
          * (x (ix2 (y 0) k) * inv fun k => x (ix2 (y 0) k))) (Ideal.ofBits .f32 1149239296#32)) := by
  idx_vars y
  unfold inv
  pointwise [k0_pay8, k0_pay6, k0_pay5]

/-- The input's gradient from a row's four arrays. -/
theorem dx_row (a x d : Vec Ideal S1024x1024 .f32) (g : Vec Ideal S1x1024 .f32) (A X D G : Fin 1024 → EReal) (r l : Fin 1024) (hA : ∀ k, a (ix2 r k) = A k)
    (hX : ∀ k, x (ix2 r k) = X k) (hD : d (ix2 r l) = D l) (hG : ∀ k, g (ix2 0 k) = G k) :
    k0_pay8 (F := Ideal) a x g d (ix2 r l) = D l + inv X * (A l * G l
      - X l * inv X * Ideal.div (∑ k : Fin 1024, A k * G k * (X k * inv X)) (Ideal.ofBits .f32 1149239296#32)) := by
  rw [dx_apply]
  change d (ix2 r l) + inv (fun k => x (ix2 r k)) * (a (ix2 r l) * g (ix2 0 l) - x (ix2 r l) * inv (fun k => x (ix2 r k))
    * Ideal.div (∑ k : Fin 1024, a (ix2 r k) * g (ix2 0 k) * (x (ix2 r k) * inv fun k => x (ix2 r k))) _) = _
  simp only [hA, hX, hD, hG]

/-- A row's summand of the scale's gradient. -/
theorem dg_row (a x : Vec Ideal S1024x1024 .f32) (X : Fin 1024 → EReal) (P : EReal) (r l : Fin 1024) (hP : a (ix2 r l) = P) (hX : ∀ k, x (ix2 r k) = X k) :
    (a (ix2 r l) : EReal) * (x (ix2 r l) * inv fun k => x (ix2 r k)) = X l * inv X * P := by
  simp only [hP, hX]
  exact mul_comm _ _

variable (m : (ℓ : Loc nD τ sig) → Buf (Elt Ideal) ℓ) (c : Dev nD)

/-! ## The windows and the runs -/

abbrev argA : Vec Ideal S2048x2560 .bf16 := m ((c : Thread nD τ).loc main_arg0)
abbrev argW : Vec Ideal S2560x1024 .bf16 := m ((c : Thread nD τ).loc main_arg1)
abbrev argX : Vec Ideal S2048x1024 .f32 := m ((c : Thread nD τ).loc main_arg2)
abbrev argG : Vec Ideal S1024 .f32 := m ((c : Thread nD τ).loc main_arg3)
abbrev argD : Vec Ideal S2048x1024 .f32 := m ((c : Thread nD τ).loc main_arg4)

/-- The windows' blocks at a point. -/
theorem idxs : ∀ t : Fin cfg0.N, win0_0.index t = ![t.val / 2, t.val % 2]
    ∧ win0_1.index t = ![t.val % 2, 0]
    ∧ win0_2.index t = ![t.val / 2, 0]
    ∧ win0_3.index t = ![0, 0]
    ∧ win0_4.index t = ![t.val / 2, 0]
    ∧ win0_5.index t = ![t.val / 2, 0]
    ∧ win0_6.index t = ![0, 0] :=
  (by decide +kernel : ∀ t : Fin grid0.N, _)

/-- The product a point adds to the accumulator. -/
def part (p : Fin cfg0.N) (j : S1024x1024.Idx) : EReal :=
  ∑ k : Fin 1280, ((show Vec Ideal S1024x1280 .bf16 from iblk m c 0 p) (ix2 (j 0) k) : EReal) * (show Vec Ideal S1280x1024 .bf16 from iblk m c 1 p) (ix2 k (j 1))

/-- The accumulator at a run's last point: the sum of the run's products. -/
theorem accumulated (t : Fin cfg0.N) (hf : t.val % 2 = 1) (y : S1024x1024.Idx) :
    (outsAt0 m c t.val t.isLt).2.2 y = ∑ s : Fin 2, part m c ⟨_, Pipeline.run_point_lt_of_flush t hf s⟩ y := by
  rw [Pipeline.eq_sum_fin_of_reset_step_apply_of_flush (fun n h => (outsAt0 m c n h).2.2) 2 (fun _ => (0 : EReal))
    (part m c) ?_ ?_ t hf y, zero_add]
  · intro t h j
    by_cases h2 : t.val % 4 = 0
    · rw [outsAt0_A m c t h (by omega) h2 (by omega)]; frame_out; rw [first_apply]; rfl
    · rw [outsAt0_C m c t h (by omega) h2 (by omega)]; frame_out; rw [first_apply]; rfl
  · intro t h j
    rw [outsAt0_B m c t h (by omega) (by omega) (by omega)]; frame_out; rw [step_apply, read_unread_whole]; rfl

/-- What a tile's last point adds to the scale's gradient. -/
def scalePart (p : Fin cfg0.N) (j : S1x1024.Idx) : EReal :=
  if p.val % 2 = 1 then ∑ r : Fin 1024, ((outsAt0 m c p.val p.isLt).2.2 (ix2 r (j 1)) : EReal)
    * ((show Vec Ideal S1024x1024 .f32 from iblk m c 2 p) (ix2 r (j 1)) * inv fun k => (show Vec Ideal S1024x1024 .f32 from iblk m c 2 p) (ix2 r k)) else 0

/-- The scale's gradient at the last point: what the two tiles add. -/
theorem scale (t : Fin cfg0.N) (hf : t.val % 4 = 3) (y : S1x1024.Idx) :
    (outsAt0 m c t.val t.isLt).2.1 y = ∑ s : Fin 4, scalePart m c ⟨_, Pipeline.run_point_lt_of_flush t hf s⟩ y := by
  rw [Pipeline.eq_sum_fin_of_reset_step_apply_of_flush (fun n h => (outsAt0 m c n h).2.1) 4 (fun _ => (0 : EReal))
    (scalePart m c) ?_ ?_ t hf y, zero_add]
  · intro t h j
    unfold scalePart
    rw [if_neg (by omega), add_zero, outsAt0_A m c t (by omega) (by omega) h (by omega)]; frame_out; rw [zero_apply]
  · intro t h j
    unfold scalePart
    by_cases h0 : t.val % 2 = 0
    · rw [if_neg (by omega), add_zero, outsAt0_C m c t h0 (by omega) h (by omega)]; frame_out; rfl
    · rw [if_pos (by omega), outsAt0_B m c t h0 (by omega) h (by omega)]; frame_out; rw [dg_apply]

/-- At a tile's last point the input's gradient is computed from the accumulator. -/
theorem written (t : Fin cfg0.N) (hf : t.val % 2 = 1) (y : S1024x1024.Idx) :
    (outsAt0 m c t.val t.isLt).1 y = k0_pay8 (F := Ideal) (outsAt0 m c t.val t.isLt).2.2 (iblk m c 2 t) (iblk m c 3 t)
      (iblk m c 4 t) y := by
  rw [outsAt0_B m c t (by omega) (by omega) (by omega) hf]; frame_out

/-- The reference's product at an index. -/
theorem product_reference (a0 : Vec Ideal Cert.MixDhnReferenceIdeal.S2048x2560 .bf16) (w : Vec Ideal Cert.MixDhnReferenceIdeal.S2560x1024 .bf16) (R : Fin 2048) (l : Fin 1024) :
    val_main_v20 (F := Ideal) a0 w (ix2 R l) = ∑ x : Fin 2560, (a0 (ix2 R x) : EReal) * w (ix2 x l) := by
  pointwise [Cert.MixDhnReferenceIdeal.Read.val_main_v20, Cert.MixDhnReferenceIdeal.Read.val_main_v0, Cert.MixDhnReferenceIdeal.Read.val_main_v1, Cert.MixDhnReferenceIdeal.Read.val_main_v2, Cert.MixDhnReferenceIdeal.Read.val_main_v3, Cert.MixDhnReferenceIdeal.Read.val_main_v4, Cert.MixDhnReferenceIdeal.Read.val_main_v5, Cert.MixDhnReferenceIdeal.Read.val_main_v6, Cert.MixDhnReferenceIdeal.Read.val_main_v7, Cert.MixDhnReferenceIdeal.Read.val_main_v8, Cert.MixDhnReferenceIdeal.Read.val_main_v9, Cert.MixDhnReferenceIdeal.Read.val_main_v10, Cert.MixDhnReferenceIdeal.Read.val_main_v11, Cert.MixDhnReferenceIdeal.Read.val_main_v12, Cert.MixDhnReferenceIdeal.Read.val_main_v13, Cert.MixDhnReferenceIdeal.Read.val_main_v14, Cert.MixDhnReferenceIdeal.Read.val_main_v15, Cert.MixDhnReferenceIdeal.Read.val_main_v16, Cert.MixDhnReferenceIdeal.Read.val_main_v17, Cert.MixDhnReferenceIdeal.Read.val_main_v18, Cert.MixDhnReferenceIdeal.Read.val_main_v19]

/-- The accumulator at a tile's last point: the tile's rows of the reference's product. -/
theorem product (t : Fin cfg0.N) (hf : t.val % 2 = 1) (y0 y1 : Fin 1024) (R : Fin 2048) (hR : R.val = t.val / 2 * 1024 + y0.val) :
    (outsAt0 m c t.val t.isLt).2.2 (ix2 y0 y1) = val_main_v20 (F := Ideal) (argA m c) (argW m c) (ix2 R y1) := by
  rw [accumulated m c t hf, product_reference]
  have hN := Pipeline.run_point_lt_of_flush t hf
  unfold part
  refine Fin.sum_mul_add_congr fun s k hl => ?_
  blk_point [iblk, V, idxs ⟨_, hN s⟩]

/-! ## The reference at an index -/

/-- The scale's gradient is the sum over the rows. -/
theorem dg_reference (a0 : Vec Ideal Cert.MixDhnReferenceIdeal.S2048x2560 .bf16) (w : Vec Ideal Cert.MixDhnReferenceIdeal.S2560x1024 .bf16) (x : Vec Ideal Cert.MixDhnReferenceIdeal.S2048x1024 .f32) (y : Cert.MixDhnReferenceIdeal.S1x1024.Idx) :
    val_main_v42 (F := Ideal) a0 w x y = ∑ r : Fin 2048, x (ix2 r (y 1)) * (inv fun k => x (ix2 r k)) * val_main_v20 (F := Ideal) a0 w (ix2 r (y 1)) := by
  idx_vars y
  unfold inv
  pointwise [Cert.MixDhnReferenceIdeal.Read.val_main_v0, Cert.MixDhnReferenceIdeal.Read.val_main_v1, Cert.MixDhnReferenceIdeal.Read.val_main_v2, Cert.MixDhnReferenceIdeal.Read.val_main_v3, Cert.MixDhnReferenceIdeal.Read.val_main_cst, Cert.MixDhnReferenceIdeal.Read.val_main_v4, Cert.MixDhnReferenceIdeal.Read.val_main_v5, Cert.MixDhnReferenceIdeal.Read.val_main_cst_0, Cert.MixDhnReferenceIdeal.Read.val_main_v6, Cert.MixDhnReferenceIdeal.Read.val_main_v7, Cert.MixDhnReferenceIdeal.Read.val_main_cst_1, Cert.MixDhnReferenceIdeal.Read.val_main_v8, Cert.MixDhnReferenceIdeal.Read.val_main_v9, Cert.MixDhnReferenceIdeal.Read.val_main_v10, Cert.MixDhnReferenceIdeal.Read.val_main_v11, Cert.MixDhnReferenceIdeal.Read.val_main_cst_2, Cert.MixDhnReferenceIdeal.Read.val_main_v12, Cert.MixDhnReferenceIdeal.Read.val_main_v13, Cert.MixDhnReferenceIdeal.Read.val_main_v14, Cert.MixDhnReferenceIdeal.Read.val_main_v15, Cert.MixDhnReferenceIdeal.Read.val_main_v16, Cert.MixDhnReferenceIdeal.Read.val_main_v17, Cert.MixDhnReferenceIdeal.Read.val_main_v18, Cert.MixDhnReferenceIdeal.Read.val_main_v19, Cert.MixDhnReferenceIdeal.Read.val_main_v21, Cert.MixDhnReferenceIdeal.Read.val_main_cst_3, Cert.MixDhnReferenceIdeal.Read.val_main_v22, Cert.MixDhnReferenceIdeal.Read.val_main_v23, Cert.MixDhnReferenceIdeal.Read.val_main_v24, Cert.MixDhnReferenceIdeal.Read.val_main_v25, Cert.MixDhnReferenceIdeal.Read.val_main_cst_4, Cert.MixDhnReferenceIdeal.Read.val_main_v26, Cert.MixDhnReferenceIdeal.Read.val_main_v27, Cert.MixDhnReferenceIdeal.Read.val_main_cst_5, Cert.MixDhnReferenceIdeal.Read.val_main_v28, Cert.MixDhnReferenceIdeal.Read.val_main_v29, Cert.MixDhnReferenceIdeal.Read.val_main_v30, Cert.MixDhnReferenceIdeal.Read.val_main_v31, Cert.MixDhnReferenceIdeal.Read.val_main_v32, Cert.MixDhnReferenceIdeal.Read.val_main_v33, Cert.MixDhnReferenceIdeal.Read.val_main_cst_6, Cert.MixDhnReferenceIdeal.Read.val_main_v34, Cert.MixDhnReferenceIdeal.Read.val_main_v35, Cert.MixDhnReferenceIdeal.Read.val_main_cst_7, Cert.MixDhnReferenceIdeal.Read.val_main_v36, Cert.MixDhnReferenceIdeal.Read.val_main_v37, Cert.MixDhnReferenceIdeal.Read.val_main_v38, Cert.MixDhnReferenceIdeal.Read.val_main_v39, Cert.MixDhnReferenceIdeal.Read.val_main_v40, Cert.MixDhnReferenceIdeal.Read.val_main_v41, Cert.MixDhnReferenceIdeal.Read.val_main_v42]
  simp only [Fin.sum_univ_one]

/-- The input's gradient, at an index, is the kernel's spelling. -/
theorem dx_reference (a0 : Vec Ideal Cert.MixDhnReferenceIdeal.S2048x2560 .bf16) (w : Vec Ideal Cert.MixDhnReferenceIdeal.S2560x1024 .bf16) (x : Vec Ideal Cert.MixDhnReferenceIdeal.S2048x1024 .f32) (g : Vec Ideal Cert.MixDhnReferenceIdeal.S1024 .f32) (d : Vec Ideal Cert.MixDhnReferenceIdeal.S2048x1024 .f32) (y : Cert.MixDhnReferenceIdeal.S2048x1024.Idx) :
    val_main_v41 (F := Ideal) a0 w x g d y = d y + (inv fun k => x (ix2 (y 0) k)) * (val_main_v20 (F := Ideal) a0 w y * g (ix1 (y 1))
      - x y * (inv fun k => x (ix2 (y 0) k)) * Ideal.div (∑ k : Fin 1024, (val_main_v20 (F := Ideal) a0 w (ix2 (y 0) k) * g (ix1 k) : EReal)
          * (x (ix2 (y 0) k) * inv fun k => x (ix2 (y 0) k))) (Ideal.ofBits .f32 1149239296#32)) := by
  idx_vars y
  refine Eq.trans ?_ (rms_gradient (fun k => x (ix2 y0 k)) (fun k => val_main_v20 (F := Ideal) a0 w (ix2 y0 k) * g (ix1 k)) (d (ix2 y0 y1)) y1).symm
  unfold inv
  pointwise [Cert.MixDhnReferenceIdeal.Read.val_main_v0, Cert.MixDhnReferenceIdeal.Read.val_main_v1, Cert.MixDhnReferenceIdeal.Read.val_main_v2, Cert.MixDhnReferenceIdeal.Read.val_main_v3, Cert.MixDhnReferenceIdeal.Read.val_main_cst, Cert.MixDhnReferenceIdeal.Read.val_main_v4, Cert.MixDhnReferenceIdeal.Read.val_main_v5, Cert.MixDhnReferenceIdeal.Read.val_main_cst_0, Cert.MixDhnReferenceIdeal.Read.val_main_v6, Cert.MixDhnReferenceIdeal.Read.val_main_v7, Cert.MixDhnReferenceIdeal.Read.val_main_cst_1, Cert.MixDhnReferenceIdeal.Read.val_main_v8, Cert.MixDhnReferenceIdeal.Read.val_main_v9, Cert.MixDhnReferenceIdeal.Read.val_main_v10, Cert.MixDhnReferenceIdeal.Read.val_main_v11, Cert.MixDhnReferenceIdeal.Read.val_main_cst_2, Cert.MixDhnReferenceIdeal.Read.val_main_v12, Cert.MixDhnReferenceIdeal.Read.val_main_v13, Cert.MixDhnReferenceIdeal.Read.val_main_v14, Cert.MixDhnReferenceIdeal.Read.val_main_v15, Cert.MixDhnReferenceIdeal.Read.val_main_v16, Cert.MixDhnReferenceIdeal.Read.val_main_v17, Cert.MixDhnReferenceIdeal.Read.val_main_v18, Cert.MixDhnReferenceIdeal.Read.val_main_v19, Cert.MixDhnReferenceIdeal.Read.val_main_v21, Cert.MixDhnReferenceIdeal.Read.val_main_cst_3, Cert.MixDhnReferenceIdeal.Read.val_main_v22, Cert.MixDhnReferenceIdeal.Read.val_main_v23, Cert.MixDhnReferenceIdeal.Read.val_main_v24, Cert.MixDhnReferenceIdeal.Read.val_main_v25, Cert.MixDhnReferenceIdeal.Read.val_main_cst_4, Cert.MixDhnReferenceIdeal.Read.val_main_v26, Cert.MixDhnReferenceIdeal.Read.val_main_v27, Cert.MixDhnReferenceIdeal.Read.val_main_cst_5, Cert.MixDhnReferenceIdeal.Read.val_main_v28, Cert.MixDhnReferenceIdeal.Read.val_main_v29, Cert.MixDhnReferenceIdeal.Read.val_main_v30, Cert.MixDhnReferenceIdeal.Read.val_main_v31, Cert.MixDhnReferenceIdeal.Read.val_main_v32, Cert.MixDhnReferenceIdeal.Read.val_main_v33, Cert.MixDhnReferenceIdeal.Read.val_main_cst_6, Cert.MixDhnReferenceIdeal.Read.val_main_v34, Cert.MixDhnReferenceIdeal.Read.val_main_v35, Cert.MixDhnReferenceIdeal.Read.val_main_cst_7, Cert.MixDhnReferenceIdeal.Read.val_main_v36, Cert.MixDhnReferenceIdeal.Read.val_main_v37, Cert.MixDhnReferenceIdeal.Read.val_main_v38, Cert.MixDhnReferenceIdeal.Read.val_main_v39, Cert.MixDhnReferenceIdeal.Read.val_main_v40, Cert.MixDhnReferenceIdeal.Read.val_main_v41, Cert.MixDhnReferenceIdeal.Read.val_main_v42]
  simp only [Fin.sum_univ_one]

/-! ## The results -/

/-- The scale's gradient is the reference's. -/
theorem final6 : (dats m 0 c).arrAt 6 cfg0.N
    = val_main_v42 (F := Ideal) (argA m c) (argW m c) (argX m c) := by
  refine (dats m 0 c).arrAt_eq_of_covers 6 _ (by decide +kernel) fun t hf y => ?_
  have hr := (flush0_6 t).mp hf
  blk_simp
  rw [after0_6]
  refine (scale m c t hr y).trans ?_
  rw [dg_reference]
  have hN := Pipeline.run_point_lt_of_flush t hr
  have ht8 : t.val < 4 := lt_of_lt_of_eq t.isLt N_0
  have hs : ∑ s : Fin 4, scalePart m c ⟨_, hN s⟩ y = ∑ i : Fin 2, ∑ r : Fin 1024,
      ((argX m c (ix2 ⟨i.val * 1024 + r.val, by omega⟩ (y 1)) : EReal)
        * (inv fun k => argX m c (ix2 ⟨i.val * 1024 + r.val, by omega⟩ k)))
        * val_main_v20 (F := Ideal) (argA m c) (argW m c) (ix2 ⟨i.val * 1024 + r.val, by omega⟩ (y 1)) := by
    have ht : ∀ i : Fin 2, scalePart m c ⟨4 * (t.val / 4) + (i.val * 2 + 1), hN ⟨i.val * 2 + 1, by omega⟩⟩ y = ∑ r : Fin 1024,
        ((argX m c (ix2 ⟨i.val * 1024 + r.val, by omega⟩ (y 1)) : EReal)
          * (inv fun k => argX m c (ix2 ⟨i.val * 1024 + r.val, by omega⟩ k)))
          * val_main_v20 (F := Ideal) (argA m c) (argW m c) (ix2 ⟨i.val * 1024 + r.val, by omega⟩ (y 1)) := by
      intro i
      unfold scalePart
      rw [if_pos (by dsimp only; omega)]
      refine Finset.sum_congr rfl fun r _ => ?_
      refine dg_row _ _ (fun k => argX m c (ix2 ⟨i.val * 1024 + r.val, by omega⟩ k)) _ r (y 1) ?_ ?_
      · exact product m c _ (by dsimp only; omega) r (y 1) ⟨i.val * 1024 + r.val, by omega⟩ (by dsimp only; omega)
      · intro k
        blk_point [iblk, V, idxs ⟨4 * (t.val / 4) + (i.val * 2 + 1), hN ⟨i.val * 2 + 1, by omega⟩⟩]
    rw [Fin.sum_univ_two, ← ht 0, ← ht 1]
    rw [Fin.sum_univ_four]
    have hz : ∀ s : Fin 4, ¬ s.val % 2 = 1 → scalePart m c ⟨_, hN s⟩ y = 0 := fun s h => if_neg (by dsimp only; omega)
    rw [hz 0 (by decide), hz 2 (by decide)]
    simp only [zero_add, add_zero]
    rfl
  rw [hs]
  refine Fin.sum_mul_add_congr fun i r hl => ?_
  blk_point [idxs t]

theorem block_x (t : Fin cfg0.N) (r k : Fin 1024) (R : Fin 2048) (hR : R.val = t.val / 2 * 1024 + r.val) :
    (show Vec Ideal S1024x1024 .f32 from iblk m c 2 t) (ix2 r k) = argX m c (ix2 R k) := by
  blk_point [iblk, V, idxs t]

theorem block_d (t : Fin cfg0.N) (r k : Fin 1024) (R : Fin 2048) (hR : R.val = t.val / 2 * 1024 + r.val) :
    (show Vec Ideal S1024x1024 .f32 from iblk m c 4 t) (ix2 r k) = argD m c (ix2 R k) := by
  blk_point [iblk, V, idxs t]

theorem block_g (t : Fin cfg0.N) (k : Fin 1024) : (show Vec Ideal S1x1024 .f32 from iblk m c 3 t) (ix2 0 k) = argG m c (ix1 k) := by
  blk_point [iblk, V, idxs t]

/-- A row of the input's gradient, written at a tile's last point. -/
theorem written_row (t : Fin cfg0.N) (hf : t.val % 2 = 1) (r l : Fin 1024) (R : Fin 2048)
    (hR : R.val = t.val / 2 * 1024 + r.val) :
    (outsAt0 m c t.val t.isLt).1 (ix2 r l) = val_main_v41 (F := Ideal) (argA m c) (argW m c) (argX m c) (argG m c) (argD m c) (ix2 R l) := by
  refine (written m c t hf (ix2 r l)).trans ?_
  rw [dx_reference (argA m c) (argW m c) (argX m c) (argG m c) (argD m c) (ix2 R l)]
  exact dx_row _ _ _ _ (fun k => val_main_v20 (F := Ideal) (argA m c) (argW m c) (ix2 R k)) (fun k => argX m c (ix2 R k)) (fun k => argD m c (ix2 R k))
    (fun k => argG m c (ix1 k)) r l (fun k => product m c t hf r k R hR) (fun k => block_x m c t r k R hR)
    (block_d m c t r l R hR) (fun k => block_g m c t k)

/-- The input's gradient is the reference's. -/
theorem final5 : (dats m 0 c).arrAt 5 cfg0.N
    = val_main_v41 (F := Ideal) (argA m c) (argW m c) (argX m c) (argG m c) (argD m c) := by
  refine (dats m 0 c).arrAt_eq_of_covers 5 _ (by decide +kernel) fun t hf y => ?_
  have hr := (flush0_5 t).mp hf
  blk_simp
  rw [after0_5]
  idx_vars y
  have ht8 : t.val < 4 := lt_of_lt_of_eq t.isLt N_0
  refine (written_row m c t hr y0 y1 ⟨t.val / 2 * 1024 + y0.val, by omega⟩ rfl).trans ?_
  blk_point [idxs t]

/-! ## The claims -/

theorem frame_reference : Cert.quiescent_MixDhnReferenceIdeal := fun m ρ _ =>
  (θ_run _ _ _).mono (fun r h => ⟨fun c => (h c).2.2, sem_eq_zero_of_no_sems (by decide) r.2⟩)
    (Cert.MixDhnReferenceIdeal.Value.run (F := Ideal) m ρ)

theorem algebraic : Cert.algebraic_MixDhnIdeal_MixDhnReferenceIdeal := by
  intro m g m' g' _ hargs
  refine ⟨_, _, Cert.MixDhnIdeal.Value.run_blocks m g, ?_⟩
  refine (θ_run _ _ _).mono (fun r h c => ?_) (Cert.MixDhnReferenceIdeal.Value.run (F := Ideal) m' g')
  obtain ⟨h0, h1, hk⟩ := h c
  obtain ⟨e0, e1, e2, e3, e4⟩ := hargs c
  refine ⟨h0.trans ?_, h1.trans ?_, hk⟩
  · rw [final5, Cert.MixDhnReferenceIdeal.Read.val_main_v41_eq, e0, e1, e2, e3, e4]
  · rw [final6, Cert.MixDhnReferenceIdeal.Read.val_main_v42_eq, e0, e1, e2]

end Cert.Step.MixDhn
-- ==== Proof.AttDwqkvClaim.lean ====
/- The gradient of the query, key and value weight: the kernel's tiled product is the reference's. -/
module

public import proofs.«01_k».proof.Defs
public import proofs.«01_k».proof.Proof.Gen.AttDwqkvIdeal.Value
public import proofs.«01_k».proof.Proof.Gen.AttDwqkvReferenceIdeal.Run
public import proofs.«01_k».proof.Proof.Gen.AttDwqkvReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.AttDwqkv

open Idealize.ShloMosaic Idealize.ShloMosaic.TcCoe Idealize.SL.Sem
open Cert.AttDwqkvIdeal Cert.AttDwqkvIdeal.Gen

variable (m : (ℓ : Loc nD τ sig) → Buf (Elt Ideal) ℓ) (c : Dev nD)

/-- The windows' blocks at a point. -/
theorem idxs : ∀ t : Fin cfg0.N, win0_0.index t = ![0, t.val] ∧ win0_1.index t = ![0, 0] ∧ win0_2.index t = ![t.val, 0] :=
  (by decide +kernel : ∀ t : Fin grid0.N, _)

/-- The result array is the reference's product. -/
theorem final : (dats m 0 c).arrAt 2 cfg0.N
    = Cert.AttDwqkvReferenceIdeal.Read.val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, Cert.AttDwqkvReferenceIdeal.Read.val_main_v0, Cert.AttDwqkvReferenceIdeal.Read.val_main_v1, Cert.AttDwqkvReferenceIdeal.Read.val_main_cst, Cert.AttDwqkvReferenceIdeal.Read.val_main_v2, Cert.AttDwqkvReferenceIdeal.Read.val_main_v3, Cert.AttDwqkvReferenceIdeal.Read.val_main_v4, Cert.AttDwqkvReferenceIdeal.Read.val_main_v5, Cert.AttDwqkvReferenceIdeal.Read.val_main_v6, Cert.AttDwqkvReferenceIdeal.Read.val_main_v7]
  blk_point [iblk, V, idxs t]

theorem frame_reference : Cert.quiescent_AttDwqkvReferenceIdeal := fun m ρ _ =>
  (θ_run _ _ _).mono (fun r h => ⟨fun c => (h c).2, sem_eq_zero_of_no_sems (by decide) r.2⟩)
    (Cert.AttDwqkvReferenceIdeal.Value.run (F := Ideal) m ρ)

theorem algebraic : Cert.algebraic_AttDwqkvIdeal_AttDwqkvReferenceIdeal := by
  intro m g m' g' _ hargs
  refine ⟨_, Cert.AttDwqkvIdeal.Value.run_blocks m g, ?_⟩
  refine (θ_run _ _ _).mono (fun r h c => ?_) (Cert.AttDwqkvReferenceIdeal.Value.run (F := Ideal) m' g')
  obtain ⟨h0, hk⟩ := h c
  obtain ⟨e0, e1⟩ := hargs c
  refine ⟨h0.trans ?_, hk⟩
  rw [final, Cert.AttDwqkvReferenceIdeal.Read.val_main_v7_eq, e0, e1]

end Cert.Step.AttDwqkv
-- ==== Proof.MixDwinClaim.lean ====
/- The gradient of the recurrent layer's first weight: the kernel's tiled product is the reference's. -/
module

public import proofs.«01_k».proof.Defs
public import proofs.«01_k».proof.Proof.Gen.MixDwinIdeal.Value
public import proofs.«01_k».proof.Proof.Gen.MixDwinReferenceIdeal.Run
public import proofs.«01_k».proof.Proof.Gen.MixDwinReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.MixDwin

open Idealize.ShloMosaic Idealize.ShloMosaic.TcCoe Idealize.SL.Sem
open Cert.MixDwinIdeal Cert.MixDwinIdeal.Gen

variable (m : (ℓ : Loc nD τ sig) → Buf (Elt Ideal) ℓ) (c : Dev nD)

/-- The windows' blocks at a point. -/
theorem idxs : ∀ t : Fin cfg0.N, win0_0.index t = ![0, t.val] ∧ win0_1.index t = ![0, 0] ∧ win0_2.index t = ![t.val, 0] :=
  (by decide +kernel : ∀ t : Fin grid0.N, _)

/-- The result array is the reference's product. -/
theorem final : (dats m 0 c).arrAt 2 cfg0.N
    = Cert.MixDwinReferenceIdeal.Read.val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, Cert.MixDwinReferenceIdeal.Read.val_main_v0, Cert.MixDwinReferenceIdeal.Read.val_main_v1, Cert.MixDwinReferenceIdeal.Read.val_main_cst, Cert.MixDwinReferenceIdeal.Read.val_main_v2, Cert.MixDwinReferenceIdeal.Read.val_main_v3, Cert.MixDwinReferenceIdeal.Read.val_main_v4, Cert.MixDwinReferenceIdeal.Read.val_main_v5, Cert.MixDwinReferenceIdeal.Read.val_main_v6, Cert.MixDwinReferenceIdeal.Read.val_main_v7]
  blk_point [iblk, V, idxs t]

theorem frame_reference : Cert.quiescent_MixDwinReferenceIdeal := fun m ρ _ =>
  (θ_run _ _ _).mono (fun r h => ⟨fun c => (h c).2, sem_eq_zero_of_no_sems (by decide) r.2⟩)
    (Cert.MixDwinReferenceIdeal.Value.run (F := Ideal) m ρ)

theorem algebraic : Cert.algebraic_MixDwinIdeal_MixDwinReferenceIdeal := by
  intro m g m' g' _ hargs
  refine ⟨_, Cert.MixDwinIdeal.Value.run_blocks m g, ?_⟩
  refine (θ_run _ _ _).mono (fun r h c => ?_) (Cert.MixDwinReferenceIdeal.Value.run (F := Ideal) m' g')
  obtain ⟨h0, hk⟩ := h c
  obtain ⟨e0, e1⟩ := hargs c
  refine ⟨h0.trans ?_, hk⟩
  rw [final, Cert.MixDwinReferenceIdeal.Read.val_main_v7_eq, e0, e1]

end Cert.Step.MixDwin
-- ==== Proof.MixDwoutClaim.lean ====
/- The gradient of the recurrent layer's second weight: the accumulated product is the reference's. -/
module

public import proofs.«01_k».proof.Defs
public import proofs.«01_k».proof.Proof.Gen.MixDwoutIdeal.Value
public import proofs.«01_k».proof.Proof.Gen.MixDwoutReferenceIdeal.Run
public import proofs.«01_k».proof.Proof.Gen.MixDwoutReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.MixDwout

open Idealize.ShloMosaic Idealize.ShloMosaic.TcCoe Idealize.SL.Sem
open Cert.MixDwoutIdeal Cert.MixDwoutIdeal.Gen

variable (m : (ℓ : Loc nD τ sig) → Buf (Elt Ideal) ℓ) (c : Dev nD)

/-- The windows' blocks at a point. -/
theorem idxs : ∀ t : Fin cfg0.N, win0_0.index t = ![t.val % 4, 0] ∧ win0_1.index t = ![t.val % 4, 0] ∧ win0_2.index t = ![0, 0] :=
  (by decide +kernel : ∀ t : Fin grid0.N, _)

/-- The first block's product, as stored in the accumulator. -/
theorem first_apply (x0 : Vec Ideal S512x1024 .bf16) (x1 : Vec Ideal S512x1024 .f32) (y : S1024x1024.Idx) :
    k0_pay2 (F := Ideal) x0 x1 y = (0 : EReal) + ∑ k : Fin 512, (x0 (ix2 k (y 0)) : EReal) * x1 (ix2 k (y 1)) := by
  idx_vars y
  pointwise [k0_pay2, k0_pay1]

/-- A later block's product is added to the accumulator. -/
theorem step_apply (x0 : Vec Ideal S512x1024 .bf16) (x1 : Vec Ideal S512x1024 .f32) (a : Vec Ideal S1024x1024 .f32) (y : S1024x1024.Idx) :
    k0_pay3 (F := Ideal) x0 x1 a y = a y + ∑ k : Fin 512, (x0 (ix2 k (y 0)) : EReal) * x1 (ix2 k (y 1)) := by
  idx_vars y
  pointwise [k0_pay3, k0_pay1]

/-- At a run's last point the result's block is the accumulator. -/
theorem written (t : Fin cfg0.N) (hf : t.val % 4 = 3) (y : S1024x1024.Idx) :
    ((outsAt0 m c t.val t.isLt).1 y : EReal) = (outsAt0 m c t.val t.isLt).2 y := by
  rw [outsAt0_C m c t (by omega) (by omega) hf]
  frame_out
  pointwise [k0_pay4]

/-- The accumulator at a run's last point: the sum of the run's products. -/
theorem accumulated (t : Fin cfg0.N) (hf : t.val % 4 = 3) (y : S1024x1024.Idx) :
    (outsAt0 m c t.val t.isLt).2 y = ∑ s : Fin 4, ∑ k : Fin 512,
      ((show Vec Ideal S512x1024 .bf16 from iblk m c 0 ⟨_, Pipeline.run_point_lt_of_flush t hf s⟩) (ix2 k (y 0)) : EReal)
        * (show Vec Ideal S512x1024 .f32 from iblk m c 1 ⟨_, Pipeline.run_point_lt_of_flush t hf s⟩) (ix2 k (y 1)) := by
  rw [Pipeline.eq_sum_fin_of_reset_step_apply_of_flush (fun n h => (outsAt0 m c n h).2) 4 (fun _ => (0 : EReal))
    (fun p j => ∑ k : Fin 512, ((show Vec Ideal S512x1024 .bf16 from iblk m c 0 p) (ix2 k (j 0)) : EReal)
      * (show Vec Ideal S512x1024 .f32 from iblk m c 1 p) (ix2 k (j 1))) ?_ ?_ t hf y, zero_add]
  · intro t h j
    rw [outsAt0_A m c t h (by have := t.isLt; have h : cfg0.N = 4 := N_0; omega) (by omega)]; frame_out; rw [first_apply]
  · intro t h j
    have h1 : 1 ≤ t.val := by by_contra h'; exact h (by omega)
    by_cases h3 : t.val % 4 = 3
    · rw [outsAt0_C m c t h h1 h3]; frame_out; rw [step_apply, read_unread_whole]
    · rw [outsAt0_B m c t h h1 h3]; frame_out; rw [step_apply, read_unread_whole]

/-- The result array is the reference's product. -/
theorem final : (dats m 0 c).arrAt 2 cfg0.N
    = Cert.MixDwoutReferenceIdeal.Read.val_main_v5 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2]
  refine (written m c t hr y).trans ?_
  rw [accumulated m c t hr y]
  idx_vars y
  pointwise [Cert.MixDwoutReferenceIdeal.Read.val_main_v0, Cert.MixDwoutReferenceIdeal.Read.val_main_cst, Cert.MixDwoutReferenceIdeal.Read.val_main_v1, Cert.MixDwoutReferenceIdeal.Read.val_main_v2, Cert.MixDwoutReferenceIdeal.Read.val_main_v3, Cert.MixDwoutReferenceIdeal.Read.val_main_v4, Cert.MixDwoutReferenceIdeal.Read.val_main_v5]
  refine Fin.sum_mul_add_congr fun s k hl => (mul_comm _ _).trans ?_
  blk_point [iblk, V, idxs t, idxs ⟨_, Pipeline.run_point_lt_of_flush t hr s⟩]

theorem frame_reference : Cert.quiescent_MixDwoutReferenceIdeal := fun m ρ _ =>
  (θ_run _ _ _).mono (fun r h => ⟨fun c => (h c).2, sem_eq_zero_of_no_sems (by decide) r.2⟩)
    (Cert.MixDwoutReferenceIdeal.Value.run (F := Ideal) m ρ)

theorem algebraic : Cert.algebraic_MixDwoutIdeal_MixDwoutReferenceIdeal := by
  intro m g m' g' _ hargs
  refine ⟨_, Cert.MixDwoutIdeal.Value.run_blocks m g, ?_⟩
  refine (θ_run _ _ _).mono (fun r h c => ?_) (Cert.MixDwoutReferenceIdeal.Value.run (F := Ideal) m' g')
  obtain ⟨h0, hk⟩ := h c
  obtain ⟨e0, e1⟩ := hargs c
  refine ⟨h0.trans ?_, hk⟩
  rw [final, Cert.MixDwoutReferenceIdeal.Read.val_main_v5_eq, e0, e1]

end Cert.Step.MixDwout
-- ==== Proof.MixDcatClaim.lean ====
/- The gradient of the joined branches: the kernel's tiled product is the reference's. -/
module

public import proofs.«01_k».proof.Defs
public import proofs.«01_k».proof.Proof.Gen.MixDcatIdeal.Value
public import proofs.«01_k».proof.Proof.Gen.MixDcatReferenceIdeal.Run
public import proofs.«01_k».proof.Proof.Gen.MixDcatReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.MixDcat

open Idealize.ShloMosaic Idealize.ShloMosaic.TcCoe Idealize.SL.Sem
open Cert.MixDcatIdeal Cert.MixDcatIdeal.Gen

variable (m : (ℓ : Loc nD τ sig) → Buf (Elt Ideal) ℓ) (c : Dev nD)

/-- The windows' blocks at a point. -/
theorem idxs : ∀ t : Fin cfg0.N, win0_0.index t = ![t.val, 0] ∧ win0_1.index t = ![0, 0] ∧ win0_2.index t = ![t.val, 0] :=
  (by decide +kernel : ∀ t : Fin grid0.N, _)

/-- The result array is the reference's product. -/
theorem final : (dats m 0 c).arrAt 2 cfg0.N
    = Cert.MixDcatReferenceIdeal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, Cert.MixDcatReferenceIdeal.Read.val_main_v0, Cert.MixDcatReferenceIdeal.Read.val_main_cst, Cert.MixDcatReferenceIdeal.Read.val_main_v1, Cert.MixDcatReferenceIdeal.Read.val_main_v2, Cert.MixDcatReferenceIdeal.Read.val_main_v3]
  blk_point [iblk, V, idxs t]

theorem frame_reference : Cert.quiescent_MixDcatReferenceIdeal := fun m ρ _ =>
  (θ_run _ _ _).mono (fun r h => ⟨fun c => (h c).2, sem_eq_zero_of_no_sems (by decide) r.2⟩)
    (Cert.MixDcatReferenceIdeal.Value.run (F := Ideal) m ρ)

theorem algebraic : Cert.algebraic_MixDcatIdeal_MixDcatReferenceIdeal := by
  intro m g m' g' _ hargs
  refine ⟨_, Cert.MixDcatIdeal.Value.run_blocks m g, ?_⟩
  refine (θ_run _ _ _).mono (fun r h c => ?_) (Cert.MixDcatReferenceIdeal.Value.run (F := Ideal) m' g')
  obtain ⟨h0, hk⟩ := h c
  obtain ⟨e0, e1⟩ := hargs c
  refine ⟨h0.trans ?_, hk⟩
  rw [final, Cert.MixDcatReferenceIdeal.Read.val_main_v3_eq, e0, e1]

end Cert.Step.MixDcat
-- ==== Proof.AttDwoClaim.lean ====
/- The gradient of the attention layer's last weight: the accumulated product is the reference's. -/
module

public import proofs.«01_k».proof.Defs
public import proofs.«01_k».proof.Proof.Gen.AttDwoIdeal.Value
public import proofs.«01_k».proof.Proof.Gen.AttDwoReferenceIdeal.Run
public import proofs.«01_k».proof.Proof.Gen.AttDwoReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.AttDwo

open Idealize.ShloMosaic Idealize.ShloMosaic.TcCoe Idealize.SL.Sem
open Cert.AttDwoIdeal Cert.AttDwoIdeal.Gen

variable (m : (ℓ : Loc nD τ sig) → Buf (Elt Ideal) ℓ) (c : Dev nD)

/-- The windows' blocks at a point. -/
theorem idxs : ∀ t : Fin cfg0.N, win0_0.index t = ![t.val % 4, 0] ∧ win0_1.index t = ![t.val % 4, 0] ∧ win0_2.index t = ![0, 0] :=
  (by decide +kernel : ∀ t : Fin grid0.N, _)

/-- The first block's product, as stored in the accumulator. -/
theorem first_apply (x0 : Vec Ideal S512x512 .bf16) (x1 : Vec Ideal S512x1024 .f32) (y : S512x1024.Idx) :
    k0_pay2 (F := Ideal) x0 x1 y = (0 : EReal) + ∑ k : Fin 512, (x0 (ix2 k (y 0)) : EReal) * x1 (ix2 k (y 1)) := by
  idx_vars y
  pointwise [k0_pay2, k0_pay1]

/-- A later block's product is added to the accumulator. -/
theorem step_apply (x0 : Vec Ideal S512x512 .bf16) (x1 : Vec Ideal S512x1024 .f32) (a : Vec Ideal S512x1024 .f32) (y : S512x1024.Idx) :
    k0_pay3 (F := Ideal) x0 x1 a y = a y + ∑ k : Fin 512, (x0 (ix2 k (y 0)) : EReal) * x1 (ix2 k (y 1)) := by
  idx_vars y
  pointwise [k0_pay3, k0_pay1]

/-- At a run's last point the result's block is the accumulator. -/
theorem written (t : Fin cfg0.N) (hf : t.val % 4 = 3) (y : S512x1024.Idx) :
    ((outsAt0 m c t.val t.isLt).1 y : EReal) = (outsAt0 m c t.val t.isLt).2 y := by
  rw [outsAt0_C m c t (by omega) (by omega) hf]
  frame_out

/-- The accumulator at a run's last point: the sum of the run's products. -/
theorem accumulated (t : Fin cfg0.N) (hf : t.val % 4 = 3) (y : S512x1024.Idx) :
    (outsAt0 m c t.val t.isLt).2 y = ∑ s : Fin 4, ∑ k : Fin 512,
      ((show Vec Ideal S512x512 .bf16 from iblk m c 0 ⟨_, Pipeline.run_point_lt_of_flush t hf s⟩) (ix2 k (y 0)) : EReal)
        * (show Vec Ideal S512x1024 .f32 from iblk m c 1 ⟨_, Pipeline.run_point_lt_of_flush t hf s⟩) (ix2 k (y 1)) := by
  rw [Pipeline.eq_sum_fin_of_reset_step_apply_of_flush (fun n h => (outsAt0 m c n h).2) 4 (fun _ => (0 : EReal))
    (fun p j => ∑ k : Fin 512, ((show Vec Ideal S512x512 .bf16 from iblk m c 0 p) (ix2 k (j 0)) : EReal)
      * (show Vec Ideal S512x1024 .f32 from iblk m c 1 p) (ix2 k (j 1))) ?_ ?_ t hf y, zero_add]
  · intro t h j
    rw [outsAt0_A m c t h (by have := t.isLt; have h : cfg0.N = 4 := N_0; omega) (by omega)]; frame_out; rw [first_apply]
  · intro t h j
    have h1 : 1 ≤ t.val := by by_contra h'; exact h (by omega)
    by_cases h3 : t.val % 4 = 3
    · rw [outsAt0_C m c t h h1 h3]; frame_out; rw [step_apply, read_unread_whole]
    · rw [outsAt0_B m c t h h1 h3]; frame_out; rw [step_apply, read_unread_whole]

/-- The result array is the reference's product. -/
theorem final : (dats m 0 c).arrAt 2 cfg0.N
    = Cert.AttDwoReferenceIdeal.Read.val_main_v4 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2]
  refine (written m c t hr y).trans ?_
  rw [accumulated m c t hr y]
  idx_vars y
  pointwise [Cert.AttDwoReferenceIdeal.Read.val_main_v0, Cert.AttDwoReferenceIdeal.Read.val_main_cst, Cert.AttDwoReferenceIdeal.Read.val_main_v1, Cert.AttDwoReferenceIdeal.Read.val_main_v2, Cert.AttDwoReferenceIdeal.Read.val_main_v3, Cert.AttDwoReferenceIdeal.Read.val_main_v4]
  refine Fin.sum_mul_add_congr fun s k hl => (mul_comm _ _).trans ?_
  blk_point [iblk, V, idxs t, idxs ⟨_, Pipeline.run_point_lt_of_flush t hr s⟩]

theorem frame_reference : Cert.quiescent_AttDwoReferenceIdeal := fun m ρ _ =>
  (θ_run _ _ _).mono (fun r h => ⟨fun c => (h c).2, sem_eq_zero_of_no_sems (by decide) r.2⟩)
    (Cert.AttDwoReferenceIdeal.Value.run (F := Ideal) m ρ)

theorem algebraic : Cert.algebraic_AttDwoIdeal_AttDwoReferenceIdeal := by
  intro m g m' g' _ hargs
  refine ⟨_, Cert.AttDwoIdeal.Value.run_blocks m g, ?_⟩
  refine (θ_run _ _ _).mono (fun r h c => ?_) (Cert.AttDwoReferenceIdeal.Value.run (F := Ideal) m' g')
  obtain ⟨h0, hk⟩ := h c
  obtain ⟨e0, e1⟩ := hargs c
  refine ⟨h0.trans ?_, hk⟩
  rw [final, Cert.AttDwoReferenceIdeal.Read.val_main_v4_eq, e0, e1]

end Cert.Step.AttDwo
-- ==== Proof.AttDmixClaim.lean ====
/- The gradient of the merged heads: the kernel's tiled product is the reference's. -/
module

public import proofs.«01_k».proof.Defs
public import proofs.«01_k».proof.Proof.Gen.AttDmixIdeal.Value
public import proofs.«01_k».proof.Proof.Gen.AttDmixReferenceIdeal.Run
public import proofs.«01_k».proof.Proof.Gen.AttDmixReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.AttDmix

open Idealize.ShloMosaic Idealize.ShloMosaic.TcCoe Idealize.SL.Sem
open Cert.AttDmixIdeal Cert.AttDmixIdeal.Gen

variable (m : (ℓ : Loc nD τ sig) → Buf (Elt Ideal) ℓ) (c : Dev nD)

/-- The windows' blocks at a point. -/
theorem idxs : ∀ t : Fin cfg0.N, win0_0.index t = ![t.val, 0] ∧ win0_1.index t = ![0, 0] ∧ win0_2.index t = ![t.val, 0] :=
  (by decide +kernel : ∀ t : Fin grid0.N, _)

/-- The result array is the reference's product. -/
theorem final : (dats m 0 c).arrAt 2 cfg0.N
    = Cert.AttDmixReferenceIdeal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, Cert.AttDmixReferenceIdeal.Read.val_main_v0, Cert.AttDmixReferenceIdeal.Read.val_main_cst, Cert.AttDmixReferenceIdeal.Read.val_main_v1, Cert.AttDmixReferenceIdeal.Read.val_main_v2, Cert.AttDmixReferenceIdeal.Read.val_main_v3]
  blk_point [iblk, V, idxs t]

theorem frame_reference : Cert.quiescent_AttDmixReferenceIdeal := fun m ρ _ =>
  (θ_run _ _ _).mono (fun r h => ⟨fun c => (h c).2, sem_eq_zero_of_no_sems (by decide) r.2⟩)
    (Cert.AttDmixReferenceIdeal.Value.run (F := Ideal) m ρ)

theorem algebraic : Cert.algebraic_AttDmixIdeal_AttDmixReferenceIdeal := by
  intro m g m' g' _ hargs
  refine ⟨_, Cert.AttDmixIdeal.Value.run_blocks m g, ?_⟩
  refine (θ_run _ _ _).mono (fun r h c => ?_) (Cert.AttDmixReferenceIdeal.Value.run (F := Ideal) m' g')
  obtain ⟨h0, hk⟩ := h c
  obtain ⟨e0, e1⟩ := hargs c
  refine ⟨h0.trans ?_, hk⟩
  rw [final, Cert.AttDmixReferenceIdeal.Read.val_main_v3_eq, e0, e1]

end Cert.Step.AttDmix
-- ==== Proof.S5DgluClaim.lean ====
/- The gradient of the recurrent layer's gate weight: the accumulated product is the reference's. -/
module

public import proofs.«01_k».proof.Defs
public import proofs.«01_k».proof.Proof.Gen.S5DgluIdeal.Value
public import proofs.«01_k».proof.Proof.Gen.S5DgluReferenceIdeal.Run
public import proofs.«01_k».proof.Proof.Gen.S5DgluReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.S5Dglu

open Idealize.ShloMosaic Idealize.ShloMosaic.TcCoe Idealize.SL.Sem
open Cert.S5DgluIdeal Cert.S5DgluIdeal.Gen

variable (m : (ℓ : Loc nD τ sig) → Buf (Elt Ideal) ℓ) (c : Dev nD)

/-- The windows' blocks at a point. -/
theorem idxs : ∀ t : Fin cfg0.N, win0_0.index t = ![t.val % 2, 0] ∧ win0_1.index t = ![t.val % 2, 0] ∧ win0_2.index t = ![0, 0] :=
  (by decide +kernel : ∀ t : Fin grid0.N, _)

/-- The first block's product, as stored in the accumulator. -/
theorem first_apply (x0 : Vec Ideal S1024x512 .bf16) (x1 : Vec Ideal S1024x512 .bf16) (y : S512x512.Idx) :
    k0_pay2 (F := Ideal) x0 x1 y = (0 : EReal) + ∑ k : Fin 1024, (x0 (ix2 k (y 0)) : EReal) * x1 (ix2 k (y 1)) := by
  idx_vars y
  pointwise [k0_pay2, k0_pay1]

/-- A later block's product is added to the accumulator. -/
theorem step_apply (x0 : Vec Ideal S1024x512 .bf16) (x1 : Vec Ideal S1024x512 .bf16) (a : Vec Ideal S512x512 .f32) (y : S512x512.Idx) :
    k0_pay3 (F := Ideal) x0 x1 a y = a y + ∑ k : Fin 1024, (x0 (ix2 k (y 0)) : EReal) * x1 (ix2 k (y 1)) := by
  idx_vars y
  pointwise [k0_pay3, k0_pay1]

/-- At a run's last point the result's block is the accumulator. -/
theorem written (t : Fin cfg0.N) (hf : t.val % 2 = 1) (y : S512x512.Idx) :
    ((outsAt0 m c t.val t.isLt).1 y : EReal) = (outsAt0 m c t.val t.isLt).2 y := by
  rw [outsAt0_B m c t (by omega) hf hf]
  frame_out
  pointwise [k0_pay4]

/-- The accumulator at a run's last point: the sum of the run's products. -/
theorem accumulated (t : Fin cfg0.N) (hf : t.val % 2 = 1) (y : S512x512.Idx) :
    (outsAt0 m c t.val t.isLt).2 y = ∑ s : Fin 2, ∑ k : Fin 1024,
      ((show Vec Ideal S1024x512 .bf16 from iblk m c 0 ⟨_, Pipeline.run_point_lt_of_flush t hf s⟩) (ix2 k (y 0)) : EReal)
        * (show Vec Ideal S1024x512 .bf16 from iblk m c 1 ⟨_, Pipeline.run_point_lt_of_flush t hf s⟩) (ix2 k (y 1)) := by
  rw [Pipeline.eq_sum_fin_of_reset_step_apply_of_flush (fun n h => (outsAt0 m c n h).2) 2 (fun _ => (0 : EReal))
    (fun p j => ∑ k : Fin 1024, ((show Vec Ideal S1024x512 .bf16 from iblk m c 0 p) (ix2 k (j 0)) : EReal)
      * (show Vec Ideal S1024x512 .bf16 from iblk m c 1 p) (ix2 k (j 1))) ?_ ?_ t hf y, zero_add]
  · intro t h j
    rw [outsAt0_A m c t h (by omega) (by omega)]; frame_out; rw [first_apply]
  · intro t h j
    rw [outsAt0_B m c t h (by omega) (by omega)]; frame_out; rw [step_apply, read_unread_whole]

/-- The result array is the reference's product. -/
theorem final : (dats m 0 c).arrAt 2 cfg0.N
    = Cert.S5DgluReferenceIdeal.Read.val_main_v6 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2]
  refine (written m c t hr y).trans ?_
  rw [accumulated m c t hr y]
  idx_vars y
  pointwise [Cert.S5DgluReferenceIdeal.Read.val_main_v0, Cert.S5DgluReferenceIdeal.Read.val_main_v1, Cert.S5DgluReferenceIdeal.Read.val_main_cst, Cert.S5DgluReferenceIdeal.Read.val_main_v2, Cert.S5DgluReferenceIdeal.Read.val_main_v3, Cert.S5DgluReferenceIdeal.Read.val_main_v4, Cert.S5DgluReferenceIdeal.Read.val_main_v5, Cert.S5DgluReferenceIdeal.Read.val_main_v6]
  refine Fin.sum_mul_add_congr fun s k hl => (mul_comm _ _).trans ?_
  blk_point [iblk, V, idxs t, idxs ⟨_, Pipeline.run_point_lt_of_flush t hr s⟩]

theorem frame_reference : Cert.quiescent_S5DgluReferenceIdeal := fun m ρ _ =>
  (θ_run _ _ _).mono (fun r h => ⟨fun c => (h c).2, sem_eq_zero_of_no_sems (by decide) r.2⟩)
    (Cert.S5DgluReferenceIdeal.Value.run (F := Ideal) m ρ)

theorem algebraic : Cert.algebraic_S5DgluIdeal_S5DgluReferenceIdeal := by
  intro m g m' g' _ hargs
  refine ⟨_, Cert.S5DgluIdeal.Value.run_blocks m g, ?_⟩
  refine (θ_run _ _ _).mono (fun r h c => ?_) (Cert.S5DgluReferenceIdeal.Value.run (F := Ideal) m' g')
  obtain ⟨h0, hk⟩ := h c
  obtain ⟨e0, e1⟩ := hargs c
  refine ⟨h0.trans ?_, hk⟩
  rw [final, Cert.S5DgluReferenceIdeal.Read.val_main_v6_eq, e0, e1]

end Cert.Step.S5Dglu
-- ==== Proof.FfnInRun.lean ====
/- The run of the norm and product of the feed-forward layer, for any float values. -/
module

public import proofs.«01_k».proof.Defs
public import proofs.«01_k».proof.Proof.Gen.FfnInIdeal.Skeleton
public import proofs.«01_k».proof.Proof.Gen.FfnInIdeal.Frame
public import Idealize.ShloMosaic.Lib.VecWindow
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Step.FfnIn

open Cert.FfnInIdeal Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

/-- The body's branch is taken at the first point. -/
theorem taken : ∀ t : Fin cfg0.N, k0_cond1 (grid0.coords t) = 1#1 ↔ t.val = 0 :=
  (by decide +kernel : ∀ t : Fin grid0.N, k0_cond1 (grid0.coords t) = 1#1 ↔ t.val = 0)

set_option maxHeartbeats 1000000 in
/-- The first point: the norm's output is stored in its array's buffer and kept in the scratch buffer. -/
theorem body_first (c : Dev nD) (i : grid0.Coords) (a0 : Memref sig .tc .vmem S2048x1024 .f32) (h0 : a0.IsWhole)
    (a1 : Memref sig .tc .vmem S1x1024 .f32) (h1 : a1.IsWhole) (a2 : Memref sig .tc .vmem S512x1024 .bf16) (h2 : a2.IsWhole)
    (a3 : Memref sig .tc .vmem S2048x1024 .bf16) (h3 : a3.IsWhole) (a4 : Memref sig .tc .vmem S2048x512 .f32) (h4 : a4.IsWhole)
    (a5 : Memref sig .tc .vmem S2048x1024 .bf16) (h5 : a5.IsWhole) (hc : k0_cond1 i = 1#1)
    (x0 : Vec F S2048x1024 .f32) (x1 : Vec F S1x1024 .f32) (x2 : Vec F S512x1024 .bf16) (E : Set ℕ) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) a4 fullShare d) ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare (k0_pay1 x0 x1) ∗ owns (c : Thread nD τ) a4 fullShare (k0_pay3 (k0_pay2 x0 x1) x2)
            ∗ owns (c : Thread nD τ) a5 fullShare (k0_pay2 x0 x1)) -∗ K ⟨⟩))
      ⊢ wp frame (wpE (defs₀ (F := F)) Variants.none c none) E (cc0_ffn_in i a0 h0 a1 h1 a2 h2 a3 h3 a4 h4 a5 h5) K := by
  simp only [cc0_ffn_in_eq_skeleton]; unfold cc0_ffn_in_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := h0.eq_unread hf0; obtain rfl := h1.eq_unread hf1; obtain rfl := h2.eq_unread hf2
  sl_exec (disch := sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro
    rw [View.read_writes_full, View.readAt_full, View.readAt_full, hf0, hf1]
  isplitl [H4]
  · iexists _; isplitr
    swap; · iexact H4
    ipureintro
    rw [View.read_writes_full, View.readAt_full, hf2]
    unfold body_first.sl.v3 body_first.sl.H5_1
    rw [View.readCov_full, View.readAt_full, View.readAt_full, hf0, hf1]
  · iexists _; isplitr
    swap; · iexact H5
    ipureintro
    unfold body_first.sl.H5_1
    rw [View.read_writes_full, View.readAt_full, View.readAt_full, hf0, hf1]

set_option maxHeartbeats 1000000 in
/-- A later point: the product reads the norm's output from the scratch buffer, and its array's buffer is untouched. -/
theorem body_later (c : Dev nD) (i : grid0.Coords) (a0 : Memref sig .tc .vmem S2048x1024 .f32) (h0 : a0.IsWhole)
    (a1 : Memref sig .tc .vmem S1x1024 .f32) (h1 : a1.IsWhole) (a2 : Memref sig .tc .vmem S512x1024 .bf16) (h2 : a2.IsWhole)
    (a3 : Memref sig .tc .vmem S2048x1024 .bf16) (h3 : a3.IsWhole) (a4 : Memref sig .tc .vmem S2048x512 .f32) (h4 : a4.IsWhole)
    (a5 : Memref sig .tc .vmem S2048x1024 .bf16) (h5 : a5.IsWhole) (hc : ¬ k0_cond1 i = 1#1)
    (x0 : Vec F S2048x1024 .f32) (x1 : Vec F S1x1024 .f32) (x2 : Vec F S512x1024 .bf16) (x3 x5 : Vec F S2048x1024 .bf16)
    (E : Set ℕ) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d) ∗ owns (c : Thread nD τ) a5 fullShare x5
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (k0_pay3 x5 x2)
            ∗ owns (c : Thread nD τ) a5 fullShare x5) -∗ K ⟨⟩))
      ⊢ wp frame (wpE (defs₀ (F := F)) Variants.none c none) E (cc0_ffn_in i a0 h0 a1 h1 a2 h2 a3 h3 a4 h4 a5 h5) K := by
  simp only [cc0_ffn_in_eq_skeleton]; unfold cc0_ffn_in_skel
  unfold owns
  iintro ⟨H0, H1, ⟨%f2, %hf2, H2⟩, H3, ⟨%d4, %f4, -, H4⟩, ⟨%f5, %hf5, H5⟩, Hk⟩
  obtain rfl := h2.eq_unread hf2; obtain rfl := h5.eq_unread hf5
  sl_exec (disch := sl_exact hc)
  sl_step
  iapply Hk
  isplitl [H0]; · iexact H0
  isplitl [H1]; · iexact H1
  isplitl [H2]
  · iexists _; isplitr; · ipureintro; exact h2.read_unread _
    iexact H2
  isplitl [H3]; · iexact H3
  isplitl [H4]
  · iexists _; isplitr
    swap; · iexact H4
    ipureintro
    rw [View.read_writes_full, View.readAt_full, View.readAt_full, hf2, hf5]
  · iexists _; isplitr; · ipureintro; exact h5.read_unread _
    iexact H5

/-! ## The proof data -/

variable (m : (ℓ : Loc nD τ sig) → Buf (Elt F) ℓ) (ρ : Dev nD → PrngReg)

/-- The first point. -/
def first : Fin cfg0.N := ⟨0, by rw [show cfg0.N = 11 from N_0]; omega⟩

/-- The norm's output, as the first point stores it, -/
def normed (c : Dev nD) : Vec F S2048x1024 .bf16 := k0_pay1 (iblk m c 0 first) (iblk m c 1 first)

/-- and as the scratch buffer keeps it. -/
def kept (c : Dev nD) : Vec F S2048x1024 .bf16 := k0_pay2 (iblk m c 0 first) (iblk m c 1 first)

/-- The scratch buffer. -/
abbrev scratch : Memref sig .tc .vmem S2048x1024 .bf16 := Memref.whole cc0_scratch0

/-- The invariant before a point: the scratch buffer at anything before the first, at the norm's output after it. -/
def inv : ℕ → Dev nD → sProp 𝕄
  | 0, c => Pipeline.ΦA spec0 c
  | _ + 1, c => iprop(owns (c : Thread nD τ) scratch fullShare (kept m c) ∗ (∃ r, prngReg c r))

theorem inv_pos (n : ℕ) (hn : n ≠ 0) (c : Dev nD) :
    inv m n c = iprop(owns (c : Thread nD τ) scratch fullShare (kept m c) ∗ (∃ r, prngReg c r)) := by
  cases n with
  | zero => exact absurd rfl hn
  | succ n => rfl

theorem scratch_any (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; rfl

/-- What every buffer holds after a point: an input its block, the norm's array its output, the product its block of columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => normed m c
    | ⟨4, _⟩ => k0_pay3 (kept m c) (iblk m c 2 t)
  Φ t := inv m t.val c
  q _ := fullShare
  owed _ := 0

theorem array (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = normed m c := by dsimp only [dats]
theorem after_4 (c : Dev nD) (t : Fin cfg0.N) : (dats m 0 c).after 4 t = k0_pay3 (kept m c) (iblk m c 2 t) := by dsimp only [dats]

theorem before_0 (c : Dev nD) (t : Fin cfg0.N) (d) : (dats m 0 c).before 0 t d = iblk m c 0 t :=
  before0_0_of m (dats m 0 c) (array m c 0) (after_0 m c) t d
theorem before_1 (c : Dev nD) (t : Fin cfg0.N) (d) : (dats m 0 c).before 1 t d = iblk m c 1 t :=
  before0_1_of m (dats m 0 c) (array m c 1) (after_1 m c) t d
theorem before_2 (c : Dev nD) (t : Fin cfg0.N) (d) : (dats m 0 c).before 2 t d = iblk m c 2 t :=
  before0_2_of m (dats m 0 c) (array m c 2) (after_2 m c) t d

/-- The norm's buffer has been stored into at every point but the first. -/
theorem stored : ∀ t : Fin cfg0.N, t.val ≠ 0 → cfg0.fresh 3 t.val = false :=
  (by decide +kernel : ∀ t : Fin grid0.N, t.val ≠ 0 → cfg0.fresh 3 t.val = false)

/-- It holds the norm's output from then on. -/
theorem before_3 (c : Dev nD) (t : Fin cfg0.N) (ht : t.val ≠ 0) (d) : (dats m 0 c).before 3 t d = normed m c := by
  rw [Dat.before_out_traj _ 3 rfl (fun _ _ => rfl) (fun t _ _ _ => by rw [after_3, after_3]) t.val t rfl d,
    if_neg (by rw [stored t ht]; exact Bool.false_ne_true), after_3]

theorem live_3 : ∀ t : Fin cfg0.N, t.val = 0 → cfg0.idle 3 (grid0.coords t) = false :=
  (by decide +kernel : ∀ t : Fin grid0.N, t.val = 0 → cfg0.idle 3 (grid0.coords t) = false)

theorem live_4 : ∀ t : Fin cfg0.N, cfg0.idle 4 (grid0.coords t) = false :=
  (by decide +kernel : ∀ t : Fin grid0.N, cfg0.idle 4 (grid0.coords t) = false)

/-- What the body owes for a window that it may leave as it found it, where it holds the window's contents in any case. -/
theorem leaves_of_after (c : Dev nD) (w : Fin cfg0.W) (t : Fin cfg0.N) (d : (cfg0.win w).block.Idx → Elt F (cfg0.win w).elt)
    (h : (dats m 0 c).before w t d = (dats m 0 c).after w t) :
    owns (c : Thread nD τ) ((cfg0.win w).stage (cfg0.slots t w)) fullShare ((dats m 0 c).after w t) ⊢ ((dats m 0 c).leavesExact w t : sProp 𝕄) := by
  unfold Dat.leavesExact
  cases cfg0.idle w (cfg0.grid.coords t)
  · exact .rfl
  · cases (cfg0.win w).flush t
    · dsimp only
      rw [← h]
      iintro H; iexists _; iexact H
    · exact .rfl

theorem leaves_live (c : Dev nD) (w : Fin cfg0.W) (t : Fin cfg0.N) (h : cfg0.idle w (grid0.coords t) = false) :
    ((dats m 0 c).leavesExact w t : sProp 𝕄) = owns (c : Thread nD τ) ((cfg0.win w).stage (cfg0.slots t w)) fullShare ((dats m 0 c).after w t) := by
  unfold Dat.leavesExact; rw [h]

/-! ## The obligation of the body -/

set_option maxHeartbeats 4000000 in
theorem body_triple (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t) := by
  unfold bodyAt0
  simp only [before_0, before_1, before_2]
  rw [show (dats m 0 c).owesAt () t.succ = (dats m 0 c).owesAt () t.castSucc from rfl,
    show (dats m 0 c).Φ t.succ = iprop(owns (c : Thread nD τ) scratch fullShare (kept m c) ∗ (∃ r, prngReg c r)) from rfl,
    leaves_live m c 0 t rfl, leaves_live m c 1 t rfl, leaves_live m c 2 t rfl, leaves_live m c 4 t (live_4 t),
    after_0, after_1, after_2, after_4]
  by_cases hz : t.val = 0
  · obtain rfl : t = first := Fin.ext hz
    rw [leaves_live m c 3 first (live_3 first rfl), after_3, show (dats m 0 c).Φ first.castSucc = Pipeline.ΦA spec0 c from rfl, scratch_any]
    iintro ⟨⟨HS, Hg⟩, Ho, ⟨%d0, H0⟩, ⟨%d1, H1⟩, ⟨%d2, H2⟩, ⟨%d3, H3⟩, ⟨%d4, H4⟩⟩
    iapply (body_first c (grid0.coords first) _ _ _ _ _ _ _ _ _ _ _ _ ((taken first).mpr rfl) (iblk m c 0 first) (iblk m c 1 first) (iblk m c 2 first) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · rw [show (dats m 0 c).Φ t.castSucc = inv m t.val c from rfl, inv_pos m t.val hz c]
    simp only [before_3 m c t hz]
    iintro ⟨⟨HS, Hg⟩, Ho, ⟨%d0, H0⟩, ⟨%d1, H1⟩, ⟨%d2, H2⟩, ⟨%d3, H3⟩, ⟨%d4, H4⟩⟩
    iapply (body_later c (grid0.coords t) _ _ _ _ _ _ _ _ _ _ _ _ (fun h => hz ((taken t).mp h)) (iblk m c 0 t) (iblk m c 1 t) (iblk m c 2 t) (normed m c) (kept m c) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]
    · iapply (leaves_of_after m c 3 t d3 (by rw [before_3 m c t hz, after_3]))
      iexact H3
    iexact H4

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body_triple m c t) rfl .rfl fun _ => .rfl

theorem entered (c : Dev nD) : Pipeline.ΦA spec0 c ⊢ (dats m 0 c).Φ 0 := Idealize.SL.BI.Entails.refl _

theorem left (c : Dev nD) : (dats m 0 c).Φ (Fin.last cfg0.N) ⊢ Pipeline.ΦA spec0 c := by
  rw [show (dats m 0 c).Φ (Fin.last cfg0.N) = inv m cfg0.N c from rfl, inv_pos m _ (by rw [show cfg0.N = 11 from N_0]; omega), scratch_any]
  iintro ⟨HS, Hg⟩
  isplitl [HS]
  · iexists _; iexact HS
  iexact Hg

/-! ## The run -/

set_option backward.isDefEq.respectTransparency.types false in
/-- The program's run: every array of the pipeline ends at what the proof data says, and every counter at zero. -/
theorem run_all : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := array m) (hin := entered m) (hout := left m)

/-- The program ends, its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (array m) ((θ_run defs _ _).mono (fun _ h => h.1) (run_all m ρ)))
    ((θ_run defs _ _).mono (fun _ h => h.2) (run_all m ρ))

end Cert.Step.FfnIn
-- ==== Proof.FfnInClaim.lean ====
/- The feed-forward layer's norm and first product. -/
module

public import proofs.«01_k».proof.Defs
public import proofs.«01_k».proof.Proof.Gen.FfnIn
public import proofs.«01_k».proof.Proof.FfnInRun
public import proofs.«01_k».proof.Proof.Gen.FfnInReferenceIdeal.Run
public import proofs.«01_k».proof.Proof.Gen.FfnInReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.FfnIn

open Idealize.ShloMosaic Idealize.ShloMosaic.TcCoe Idealize.SL.Sem
open Cert.FfnInIdeal Cert.FfnInIdeal.Gen
open Cert.FfnInReferenceIdeal.Read

variable (m : (ℓ : Loc nD τ sig) → Buf (Elt Ideal) ℓ) (c : Dev nD)

/-- The windows' blocks at a point. -/
theorem idxs : ∀ t : Fin cfg0.N, win0_0.index t = ![0, 0] ∧ win0_1.index t = ![0, 0] ∧ win0_2.index t = ![t.val, 0]
    ∧ win0_3.index t = ![0, 0] ∧ win0_4.index t = ![0, t.val] :=
  (by decide +kernel : ∀ t : Fin grid0.N, _)

abbrev argX : Vec Ideal S2048x1024 .f32 := m ((c : Thread nD τ).loc main_arg0)
abbrev argG : Vec Ideal S1024 .f32 := m ((c : Thread nD τ).loc main_arg1)
abbrev argW : Vec Ideal S5632x1024 .bf16 := m ((c : Thread nD τ).loc main_arg2)

/-- The norm's output is the reference's, -/
theorem normed_apply (y : S2048x1024.Idx) : normed m c y = val_main_v13 (F := Ideal) (argX m c) (argG m c) y := by
  idx_vars y
  unfold normed
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  blk_point [iblk, V, idxs first]

/-- and so is what the scratch buffer keeps. -/
theorem kept_apply (y : S2048x1024.Idx) : (kept m c y : EReal) = val_main_v13 (F := Ideal) (argX m c) (argG m c) y := by
  rw [← normed_apply]
  idx_vars y
  unfold normed kept
  pointwise [k0_pay1, k0_pay2]

/-- The product of a point, at an index. -/
theorem product_apply (a : Vec Ideal S2048x1024 .bf16) (w : Vec Ideal S512x1024 .bf16) (y : S2048x512.Idx) :
    k0_pay3 (F := Ideal) a w y = ∑ k : Fin 1024, (a (ix2 (y 0) k) : EReal) * w (ix2 (y 1) k) := by
  idx_vars y
  pointwise [k0_pay3]

/-- The reference's product, at an index. -/
theorem product_reference (x : Vec Ideal S2048x1024 .f32) (g : Vec Ideal S1024 .f32) (w : Vec Ideal S5632x1024 .bf16) (y : S2048x5632.Idx) :
    val_main_v16 (F := Ideal) x g w y = ∑ k : Fin 1024, (val_main_v13 (F := Ideal) x g (ix2 (y 0) k) : EReal) * w (ix2 (y 1) k) := by
  idx_vars y
  pointwise [val_main_v13, val_main_v14, val_main_v15, val_main_v16]

/-- The norm's array is the reference's. -/
theorem final3 : (dats m 0 c).arrAt 3 cfg0.N = val_main_v13 (F := Ideal) (argX m c) (argG m c) := by
  refine (dats m 0 c).arrAt_eq_of_covers 3 _ (by decide +kernel) fun t _ y => ?_
  blk_simp
  rw [after_3]
  refine (normed_apply m c y).trans ?_
  idx_vars y
  blk_point [idxs t]

/-- The product's array is the reference's. -/
theorem final4 : (dats m 0 c).arrAt 4 cfg0.N = val_main_v16 (F := Ideal) (argX m c) (argG m c) (argW m c) := by
  refine (dats m 0 c).arrAt_eq_of_covers 4 _ (by decide +kernel) fun t _ y => ?_
  blk_simp
  rw [after_4]
  refine (product_apply _ _ y).trans ?_
  rw [product_reference]
  refine Finset.sum_congr rfl fun k _ => ?_
  rw [kept_apply]
  idx_vars y
  blk_point [iblk, V, idxs t]

/-! ## The claims -/

/-- The kernel's table of bodies is the idealised program's, which has the same text. -/
theorem bodies : Cert.FfnIn.defs₀ (F := Bits) = Cert.FfnInIdeal.defs₀ (F := Bits) := by
  unfold Cert.FfnIn.defs₀ Cert.FfnInIdeal.defs₀
  congr 1
  funext l x
  match l, x with
  | 0, (t, s) => rfl

theorem tables : Cert.FfnIn.defs (F := Bits) = Cert.FfnInIdeal.defs (F := Bits) := by
  unfold Cert.FfnIn.defs Cert.FfnInIdeal.defs
  rw [bodies]
  rfl

theorem frame_kernel : Cert.quiescent_FfnIn := fun m ρ _ => by
  rw [tables]
  exact frame (F := Bits) m ρ

theorem frame_ideal : Cert.quiescent_FfnInIdeal := fun m ρ _ => frame (F := Ideal) m ρ

theorem frame_reference : Cert.quiescent_FfnInReferenceIdeal := fun m ρ _ =>
  (θ_run _ _ _).mono (fun r h => ⟨fun c => (h c).2.2, sem_eq_zero_of_no_sems (by decide) r.2⟩)
    (Cert.FfnInReferenceIdeal.Value.run (F := Ideal) m ρ)

theorem algebraic : Cert.algebraic_FfnInIdeal_FfnInReferenceIdeal := by
  intro m g m' g' _ hargs
  refine ⟨fun c => (dats m 0 c).arrAt 3 cfg0.N, fun c => (dats m 0 c).arrAt 4 cfg0.N,
    (θ_run _ _ _).mono (fun r h c => ⟨(h.1.1 c).1 3, (h.1.1 c).1 4, h.2.1 c⟩) (θ_run_and (run_all m g) (frame m g)), ?_⟩
  refine (θ_run _ _ _).mono (fun r h c => ?_) (Cert.FfnInReferenceIdeal.Value.run (F := Ideal) m' g')
  obtain ⟨h0, h1, hk⟩ := h c
  obtain ⟨e0, e1, e2⟩ := hargs c
  refine ⟨h0.trans ?_, h1.trans ?_, hk⟩
  · beta_reduce
    rw [final3, val_main_v13_eq, e0, e1]
  · beta_reduce
    rw [final4, val_main_v16_eq, e0, e1, e2]

end Cert.Step.FfnIn
-- ==== Proof.FfnOutClaim.lean ====
/- The feed-forward layer's second product and the residual. -/
module

public import proofs.«01_k».proof.Defs
public import proofs.«01_k».proof.Proof.Gen.FfnOutIdeal.Value
public import proofs.«01_k».proof.Proof.Gen.FfnOutReferenceIdeal.Run
public import proofs.«01_k».proof.Proof.Gen.FfnOutReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.FfnOut

open Idealize.ShloMosaic Idealize.ShloMosaic.TcCoe Idealize.SL.Sem
open Cert.FfnOutIdeal Cert.FfnOutIdeal.Gen

variable (m : (ℓ : Loc nD τ sig) → Buf (Elt Ideal) ℓ) (c : Dev nD)

/-- The windows' blocks at a point. -/
theorem idxs : ∀ t : Fin cfg0.N, win0_0.index t = ![t.val / 2, t.val % 2] ∧ win0_1.index t = ![t.val % 2, 0] ∧ win0_2.index t = ![t.val / 2, 0]
    ∧ win0_3.index t = ![t.val / 2, 0] :=
  (by decide +kernel : ∀ t : Fin grid0.N, _)

/-- The first block's product, as stored in the accumulator. -/
theorem first_apply (x0 : Vec Ideal S1024x1408 .bf16) (x1 : Vec Ideal S1408x1024 .bf16) (y : S1024x1024.Idx) :
    k0_pay2 (F := Ideal) x0 x1 y = (0 : EReal) + ∑ k : Fin 1408, (x0 (ix2 (y 0) k) : EReal) * x1 (ix2 k (y 1)) := by
  idx_vars y
  pointwise [k0_pay2, k0_pay1]

/-- A later block's product is added to the accumulator. -/
theorem step_apply (x0 : Vec Ideal S1024x1408 .bf16) (x1 : Vec Ideal S1408x1024 .bf16) (a : Vec Ideal S1024x1024 .f32) (y : S1024x1024.Idx) :
    k0_pay3 (F := Ideal) x0 x1 a y = a y + ∑ k : Fin 1408, (x0 (ix2 (y 0) k) : EReal) * x1 (ix2 k (y 1)) := by
  idx_vars y
  pointwise [k0_pay3, k0_pay1]

/-- At a run's last point the result's block is the accumulator and the residual's block. -/
theorem written (t : Fin cfg0.N) (hf : t.val % 2 = 1) (y : S1024x1024.Idx) :
    ((outsAt0 m c t.val t.isLt).1 y : EReal) = (outsAt0 m c t.val t.isLt).2 y + (show Vec Ideal S1024x1024 .f32 from iblk m c 2 t) y := by
  rw [outsAt0_B m c t (by omega) hf hf]
  frame_out
  pointwise [k0_pay4]

/-- The accumulator at a run's last point: the sum of the run's products. -/
theorem accumulated (t : Fin cfg0.N) (hf : t.val % 2 = 1) (y : S1024x1024.Idx) :
    (outsAt0 m c t.val t.isLt).2 y = ∑ s : Fin 2, ∑ k : Fin 1408,
      ((show Vec Ideal S1024x1408 .bf16 from iblk m c 0 ⟨_, Pipeline.run_point_lt_of_flush t hf s⟩) (ix2 (y 0) k) : EReal)
        * (show Vec Ideal S1408x1024 .bf16 from iblk m c 1 ⟨_, Pipeline.run_point_lt_of_flush t hf s⟩) (ix2 k (y 1)) := by
  rw [Pipeline.eq_sum_fin_of_reset_step_apply_of_flush (fun n h => (outsAt0 m c n h).2) 2 (fun _ => (0 : EReal))
    (fun p j => ∑ k : Fin 1408, ((show Vec Ideal S1024x1408 .bf16 from iblk m c 0 p) (ix2 (j 0) k) : EReal)
      * (show Vec Ideal S1408x1024 .bf16 from iblk m c 1 p) (ix2 k (j 1))) ?_ ?_ t hf y, zero_add]
  · intro t h j
    rw [outsAt0_A m c t h (by omega) (by omega)]; frame_out; rw [first_apply]
  · intro t h j
    rw [outsAt0_B m c t h (by omega) (by omega)]; frame_out; rw [step_apply, read_unread_whole]

/-- The result array is the reference's. -/
theorem final : (dats m 0 c).arrAt 3 cfg0.N
    = Cert.FfnOutReferenceIdeal.Read.val_main_v3 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  have hr := (flush0_3 t).mp hf
  blk_simp
  rw [after0_3]
  refine (written m c t hr y).trans ?_
  rw [accumulated m c t hr y]
  idx_vars y
  pointwise [Cert.FfnOutReferenceIdeal.Read.val_main_v0, Cert.FfnOutReferenceIdeal.Read.val_main_v1, Cert.FfnOutReferenceIdeal.Read.val_main_v2, Cert.FfnOutReferenceIdeal.Read.val_main_v3]
  refine (add_comm _ _).trans (congrArg₂ (· + ·) ?_ (Fin.sum_mul_add_congr fun s k hl => ?_))
  · blk_point [iblk, V, idxs t]
  · blk_point [iblk, V, idxs t, idxs ⟨_, Pipeline.run_point_lt_of_flush t hr s⟩]

theorem frame_reference : Cert.quiescent_FfnOutReferenceIdeal := fun m ρ _ =>
  (θ_run _ _ _).mono (fun r h => ⟨fun c => (h c).2, sem_eq_zero_of_no_sems (by decide) r.2⟩)
    (Cert.FfnOutReferenceIdeal.Value.run (F := Ideal) m ρ)

theorem algebraic : Cert.algebraic_FfnOutIdeal_FfnOutReferenceIdeal := by
  intro m g m' g' _ hargs
  refine ⟨_, Cert.FfnOutIdeal.Value.run_blocks m g, ?_⟩
  refine (θ_run _ _ _).mono (fun r h c => ?_) (Cert.FfnOutReferenceIdeal.Value.run (F := Ideal) m' g')
  obtain ⟨h0, hk⟩ := h c
  obtain ⟨e0, e1, e2⟩ := hargs c
  refine ⟨h0.trans ?_, hk⟩
  rw [final, Cert.FfnOutReferenceIdeal.Read.val_main_v3_eq, e0, e1, e2]

end Cert.Step.FfnOut
-- ==== Proof.MixOutClaim.lean ====
/- The recurrent layer's second product and the residual. -/
module

public import proofs.«01_k».proof.Defs
public import proofs.«01_k».proof.Proof.Gen.MixOutIdeal.Value
public import proofs.«01_k».proof.Proof.Gen.MixOutReferenceIdeal.Run
public import proofs.«01_k».proof.Proof.Gen.MixOutReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.MixOut

open Idealize.ShloMosaic Idealize.ShloMosaic.TcCoe Idealize.SL.Sem
open Cert.MixOutIdeal Cert.MixOutIdeal.Gen

variable (m : (ℓ : Loc nD τ sig) → Buf (Elt Ideal) ℓ) (c : Dev nD)

/-- The windows' blocks at a point. -/
theorem idxs : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The result array is the reference's. -/
theorem final : (dats m 0 c).arrAt 3 cfg0.N
    = Cert.MixOutReferenceIdeal.Read.val_main_v3 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  pointwise [k0_pay1, Cert.MixOutReferenceIdeal.Read.val_main_v0, Cert.MixOutReferenceIdeal.Read.val_main_v1, Cert.MixOutReferenceIdeal.Read.val_main_v2, Cert.MixOutReferenceIdeal.Read.val_main_v3]
  blk_point [iblk, V, idxs t]

theorem frame_reference : Cert.quiescent_MixOutReferenceIdeal := fun m ρ _ =>
  (θ_run _ _ _).mono (fun r h => ⟨fun c => (h c).2, sem_eq_zero_of_no_sems (by decide) r.2⟩)
    (Cert.MixOutReferenceIdeal.Value.run (F := Ideal) m ρ)

theorem algebraic : Cert.algebraic_MixOutIdeal_MixOutReferenceIdeal := by
  intro m g m' g' _ hargs
  refine ⟨_, Cert.MixOutIdeal.Value.run_blocks m g, ?_⟩
  refine (θ_run _ _ _).mono (fun r h c => ?_) (Cert.MixOutReferenceIdeal.Value.run (F := Ideal) m' g')
  obtain ⟨h0, hk⟩ := h c
  obtain ⟨e0, e1, e2⟩ := hargs c
  refine ⟨h0.trans ?_, hk⟩
  rw [final, Cert.MixOutReferenceIdeal.Read.val_main_v3_eq, e0, e1, e2]

end Cert.Step.MixOut
-- ==== Proof.AttOutClaim.lean ====
/- The attention layer's last product and the residual. -/
module

public import proofs.«01_k».proof.Defs
public import proofs.«01_k».proof.Proof.Gen.AttOutIdeal.Value
public import proofs.«01_k».proof.Proof.Gen.AttOutReferenceIdeal.Run
public import proofs.«01_k».proof.Proof.Gen.AttOutReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.AttOut

open Idealize.ShloMosaic Idealize.ShloMosaic.TcCoe Idealize.SL.Sem
open Cert.AttOutIdeal Cert.AttOutIdeal.Gen

variable (m : (ℓ : Loc nD τ sig) → Buf (Elt Ideal) ℓ) (c : Dev nD)

/-- The windows' blocks at a point. -/
theorem idxs : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The result array is the reference's. -/
theorem final : (dats m 0 c).arrAt 3 cfg0.N
    = Cert.AttOutReferenceIdeal.Read.val_main_v3 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  pointwise [k0_pay1, Cert.AttOutReferenceIdeal.Read.val_main_v0, Cert.AttOutReferenceIdeal.Read.val_main_v1, Cert.AttOutReferenceIdeal.Read.val_main_v2, Cert.AttOutReferenceIdeal.Read.val_main_v3]
  blk_point [iblk, V, idxs t]

theorem frame_reference : Cert.quiescent_AttOutReferenceIdeal := fun m ρ _ =>
  (θ_run _ _ _).mono (fun r h => ⟨fun c => (h c).2, sem_eq_zero_of_no_sems (by decide) r.2⟩)
    (Cert.AttOutReferenceIdeal.Value.run (F := Ideal) m ρ)

theorem algebraic : Cert.algebraic_AttOutIdeal_AttOutReferenceIdeal := by
  intro m g m' g' _ hargs
  refine ⟨_, Cert.AttOutIdeal.Value.run_blocks m g, ?_⟩
  refine (θ_run _ _ _).mono (fun r h c => ?_) (Cert.AttOutReferenceIdeal.Value.run (F := Ideal) m' g')
  obtain ⟨h0, hk⟩ := h c
  obtain ⟨e0, e1, e2⟩ := hargs c
  refine ⟨h0.trans ?_, hk⟩
  rw [final, Cert.AttOutReferenceIdeal.Read.val_main_v3_eq, e0, e1, e2]

end Cert.Step.AttOut
-- ==== Proof.AdamStep.lean ====
/- The optimiser's calls: the gradient summed over the devices and the step taken with it, at one element of a weight. -/
module

public import Idealize.ShloMosaic.Lib.Pointwise
public import Idealize.ShloMosaic.Lib.WordCmp

@[expose] public section

noncomputable section

namespace Cert.Step.Adam

open Idealize.ShloMosaic

/-! ## The device's number -/

/-- A word that the predicate of a call holds of is the number of one of the eight devices. -/
theorem device (w : BitVec 32) (h : IntOp.andi (IntOp.cmpi .sge w 0#32) (IntOp.cmpi .slt w 8#32) = 1#1) : w.toNat < 8 := by
  have andi_one (a b : BitVec 1) : IntOp.andi a b = 1#1 ↔ a = 1#1 ∧ b = 1#1 := by revert a b; decide
  have ofBool_one (b : Bool) : BitVec.ofBool b = 1#1 ↔ b = true := by revert b; decide
  rw [andi_one] at h
  obtain ⟨h0, h8⟩ := h
  simp only [IntOp.cmpi, ofBool_one, decide_eq_true_eq, BitVec.sle, BitVec.slt] at h0 h8
  have e0 : (0#32).toInt = 0 := by decide
  have e8 : (8#32).toInt = 8 := by decide
  rw [e0] at h0; rw [e8] at h8
  rw [BitVec.toInt_eq_toNat_cond] at h0 h8
  split at h0 <;> omega

/-! ## The summed gradient -/

/-- The gradient over the devices: device `w`'s own part and the received ones. -/
def total (w : BitVec 32) (own recv : Fin 8 → EReal) : EReal :=
  ∑ k : Fin 8, Scalar.select (IntOp.cmpi .eq (BitVec.ofNat 32 k.val) w) (own k) (recv k)

/-- One device's part, as the kernel chooses it: it has loaded the own part of device `w` alone. -/
theorem term (w : BitVec 32) (hw : w.toNat < 8) (own recv : Fin 8 → EReal) (k : Fin 8) :
    Scalar.select (IntOp.cmpi .eq w (BitVec.ofNat 32 k.val)) (own ⟨w.toNat, hw⟩) (recv k)
      = Scalar.select (IntOp.cmpi .eq (BitVec.ofNat 32 k.val) w) (own k) (recv k) := by
  by_cases h : w = BitVec.ofNat 32 k.val
  · have hk : (⟨w.toNat, hw⟩ : Fin 8) = k := Fin.ext (by
      show w.toNat = k.val
      simp only [h, BitVec.toNat_ofNat]; exact Nat.mod_eq_of_lt (by omega))
    rw [hk, ← h]
  · have h1 : IntOp.cmpi .eq w (BitVec.ofNat 32 k.val) = 0#1 := by
      simp only [IntOp.cmpi, beq_eq_false_iff_ne.mpr h]; rfl
    have h2 : IntOp.cmpi .eq (BitVec.ofNat 32 k.val) w = 0#1 := by
      simp only [IntOp.cmpi, beq_eq_false_iff_ne.mpr (Ne.symm h)]; rfl
    rw [h1, h2]; rfl

/-- The kernel's sum, device by device, is the gradient over the devices. -/
theorem total_eq (w : BitVec 32) (hw : w.toNat < 8) (own recv : Fin 8 → EReal) :
    total w own recv = ∑ k : Fin 8, Scalar.select (IntOp.cmpi .eq w (BitVec.ofNat 32 k.val)) (own ⟨w.toNat, hw⟩) (recv k) :=
  Finset.sum_congr rfl fun k _ => (term w hw own recv k).symm

/-- The same sum where the own part is the same array for every device. -/
theorem total_same (w : BitVec 32) (own : EReal) (recv : Fin 8 → EReal) :
    total w (fun _ => own) recv = ∑ k : Fin 8, Scalar.select (IntOp.cmpi .eq w (BitVec.ofNat 32 k.val)) own (recv k) :=
  Finset.sum_congr rfl fun k _ => by simp only [IntOp.cmpi, Bool.beq_comm (a := w)]

/-! ## The step -/

/-- The first moment after the step, -/
def first (g m : Ideal .f32) : Ideal .f32 :=
  FloatOps.addf (FloatOps.mulf (FloatOps.ofBits .f32 0x3F666666#32) m) (FloatOps.mulf (FloatOps.ofBits .f32 0x3DCCCCCD#32) g)

/-- the second moment after it, -/
def second (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- and the change of the weight. -/
def change (w g m v : Ideal .f32) : Ideal .f32 :=
  FloatOps.mulf (FloatOps.ofBits .f32 0xBA83126F#32)
    (FloatOps.addf
      (FloatOps.divf (FloatOps.divf (first g m) (FloatOps.ofBits .f32 0x3F26BD02#32))
        (FloatOps.addf (FloatOps.sqrt (FloatOps.divf (second g v) (FloatOps.ofBits .f32 0x3C231ACC#32))) (FloatOps.ofBits .f32 0x322BCC77#32)))
      (FloatOps.mulf (FloatOps.ofBits .f32 0x3C23D70A#32) w))

end Cert.Step.Adam
-- ==== Proof.S5GluUpdateClaim.lean ====
/- The step of the state-space block's gate. -/
module

public import proofs.«01_k».proof.Defs
public import proofs.«01_k».proof.Proof.AdamStep
public import proofs.«01_k».proof.Proof.Gen.Pre_s5_glu_update_on_mesh
public import proofs.«01_k».proof.Proof.Gen.S5GluUpdate
public import proofs.«01_k».proof.Proof.Gen.S5GluUpdateIdeal.Frame
public import proofs.«01_k».proof.Proof.Gen.S5GluUpdateReferenceIdeal.Run
public import proofs.«01_k».proof.Proof.Gen.S5GluUpdateReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.S5GluUpdate

open Idealize.ShloMosaic Idealize.ShloMosaic.TcCoe Idealize.SL.Sem
open Cert.Step.Adam

open Cert.S5GluUpdateIdeal Cert.S5GluUpdateIdeal.Gen
open Cert.S5GluUpdateReferenceIdeal.Read

/-! ## The device's number -/

section Number
variable {F : FTy → Type} [FloatOps F] (m : (ℓ : Loc nD τ sig) → Buf (Elt F) ℓ)

/-- The device's number. -/
abbrev me : BitVec 32 := m (((0 : Dev nD) : Thread nD τ).loc main_arg2) ix0

/-- The table holds it. -/
theorem table : tbl m 0 = fun _ => me m := by
  show V m 0 main_v0 = _
  entry_read
  funext y
  idx_vars y
  pointwise

/-- The blocks of the grid's points. -/
theorem blocks : ∀ t : Fin grid0.N, cc0_transform_0 (grid0.coords t) = ![0, 0, 0] ∧ cc0_transform_2 (grid0.coords t) = ![0, 0]
    ∧ cc0_transform_3 (grid0.coords t) = ![0, 0] ∧ cc0_transform_4 (grid0.coords t) = ![0, 0]
    ∧ cc0_transform_5 (grid0.coords t) = ![0, 0] ∧ cc0_transform_6 (grid0.coords t) = ![0, 0]
    ∧ cc0_transform_7 (grid0.coords t) = ![0, 0] ∧ cc0_transform_8 (grid0.coords t) = ![0, 0] := by
  decide +kernel

theorem own_block (i : grid0.Coords) : cc0_transform_1 inb_S1_S1_0 numel1_S1 (tbl m) i = ![(me m).toNat, (i 0).val, 0] := by
  have e : (tbl m).at 0 (Rect.unit (s := S1) ![0] S1.size inb_S1_S1_0) numel1_S1 = me m := by
    unfold Pipeline.Prefetch.Contents.at; rw [table]
  unfold cc0_transform_1
  rw [e]
  have h : (i 0).val < 2 ^ 32 := lt_trans (show (i 0).val < 1 from (i 0).isLt) (by decide)
  simp only [BitVec.toNat_ofNat, Nat.mod_eq_of_lt h]

theorem inside : ∀ (k : Fin 8) (i : grid0.Coords), ∃ h : (∀ a, ((![k.val, (i 0).val, 0] : Fin 3 → ℕ) a + 1) * S1x64x512.size a ≤ S8x64x512.size a),
    EltTy.bits .bf16 = 32 ∨ (Rect.block (s := S8x64x512) S1x64x512.size ![k.val, (i 0).val, 0] h).WholeWords (EltTy.packing .bf16) := by
  decide +kernel

/-- Its block of the own parts lies in their array. -/
theorem ok (hw : (me m).toNat < 8) : Ok m := by
  intro i
  rw [own_block]
  exact inside ⟨(me m).toNat, hw⟩ i

end Number

theorem pre_kernel (m) (h : Cert.Pre_S5GluUpdate m) : (me (F := Bits) m).toNat < 8 := device _ (congrFun (h 0) ix0)
theorem pre_ideal (m) (h : Cert.Pre_S5GluUpdateIdeal m) : (me (F := Ideal) m).toNat < 8 := device _ (congrFun (h 0) ix0)

section Ideal

variable (m : (ℓ : Loc nD τ sig) → Buf (Elt Ideal) ℓ) (c : Dev nD)

abbrev argR : Vec Ideal S8x64x512 .bf16 := m ((c : Thread nD τ).loc main_arg0)
abbrev argO : Vec Ideal S8x64x512 .bf16 := m ((c : Thread nD τ).loc main_arg1)
abbrev argW : Vec Ideal S64x512 .f32 := m ((c : Thread nD τ).loc main_arg3)
abbrev argM : Vec Ideal S64x512 .f32 := m ((c : Thread nD τ).loc main_arg4)
abbrev argV : Vec Ideal S64x512 .f32 := m ((c : Thread nD τ).loc main_arg5)

abbrev slab (k : ℕ) (h : ∀ a, (![k, 0, 0] : Fin 3 → ℕ) a + S1x64x512.size a ≤ S8x64x512.size a) (x : Vec Ideal S8x64x512 .bf16) : Vec Ideal S1x64x512 .bf16 :=
  View.ld x (Rect.unit ![k, 0, 0] ![1, 64, 512] h)

def grad (w : BitVec 32) (x0 : Vec Ideal S8x64x512 .bf16) (x1 : Vec Ideal S1x64x512 .bf16) : FVec Ideal S64x512 .f32 :=
  k0_pay5 (k0_pay3 w (k0_pay1 w x1 (slab 0 inb_S8x64x512_S1x64x512_0_0_0 x0) x1 (slab 1 inb_S8x64x512_S1x64x512_1_0_0 x0) x1 (slab 2 inb_S8x64x512_S1x64x512_2_0_0 x0))
      (k0_pay2 w x1 (slab 3 inb_S8x64x512_S1x64x512_3_0_0 x0))
      x1 (slab 4 inb_S8x64x512_S1x64x512_4_0_0 x0) x1 (slab 5 inb_S8x64x512_S1x64x512_5_0_0 x0) x1 (slab 6 inb_S8x64x512_S1x64x512_6_0_0 x0))
    (k0_pay4 w x1 (slab 7 inb_S8x64x512_S1x64x512_7_0_0 x0))

/-- The kernel's gradient, at an index. -/
theorem grad_apply (w : BitVec 32) (hw : w.toNat < 8) (x0 : Vec Ideal S8x64x512 .bf16) (own : Fin 8 → EReal) (x1 : Vec Ideal S1x64x512 .bf16) (y : S64x512.Idx)
    (h : x1 (ix3 0 (y 0) (y 1)) = own ⟨w.toNat, hw⟩) :
    grad w x0 x1 y = total w own (fun k => x0 (ix3 k (y 0) (y 1))) := by
  rw [total_eq w hw, Fin.sum_univ_eight, ← h]
  idx_vars y
  unfold grad
  pointwise [slab, k0_pay1, k0_pay2, k0_pay3, k0_pay4, k0_pay5]
  rfl

theorem ref5 (x0 x1 : Vec Ideal S8x64x512 .bf16) (x2 : IVec S_ 32) (y : S64x512.Idx) :
    val_main_v5 (F := Ideal) x0 x1 x2 y = total (x2 ix0) (fun k => x1 (ix3 k (y 0) (y 1))) (fun k => x0 (ix3 k (y 0) (y 1))) := by
  idx_vars y
  unfold total
  pointwise [val_main_v0, val_main_v1, val_main_v2, val_main_v3, val_main_v4, val_main_cst, val_main_v5]

/-- The reference's step, at an index: `change`, `first` and `second` of its gradient. -/
theorem ref_delta (x0 x1 : Vec Ideal S8x64x512 .bf16) (x2 : IVec S_ 32) (x3 x4 x5 : Vec Ideal S64x512 .f32) (y : S64x512.Idx) :
    val_main_v29 (F := Ideal) x0 x1 x2 x3 x4 x5 y = change (x3 y) (val_main_v5 x0 x1 x2 y) (x4 y) (x5 y) := rfl
theorem ref_first (x0 x1 : Vec Ideal S8x64x512 .bf16) (x2 : IVec S_ 32) (x4 : Vec Ideal S64x512 .f32) (y : S64x512.Idx) :
    val_main_v10 (F := Ideal) x0 x1 x2 x4 y = first (val_main_v5 x0 x1 x2 y) (x4 y) := rfl
theorem ref_second (x0 x1 : Vec Ideal S8x64x512 .bf16) (x2 : IVec S_ 32) (x5 : Vec Ideal S64x512 .f32) (y : S64x512.Idx) :
    val_main_v16 (F := Ideal) x0 x1 x2 x5 y = second (val_main_v5 x0 x1 x2 y) (x5 y) := rfl

theorem word_eq : View.readAt (Elt Ideal) (View.whole main_v0) (Rect.unit (s := S1) ![0] S1.size inb_S1_S1_0).toLoadRect (tbl m 0) (Shape.Idx.first (by decide)) = me m := by
  rw [table]; rfl

variable (hO : Ok m)

/-- What the body leaves in its four result blocks: the gradient and the step made of it. -/
theorem outs (t : Fin (cfgM m hO).N) (y : S64x512.Idx) :
    (outsAt0 m hO c t).1 y = grad (me m) (iblk m hO c 0 t) (iblk m hO c 1 t) y
    ∧ (outsAt0 m hO c t).2.1 y = change (iblk m hO c 2 t y) (grad (me m) (iblk m hO c 0 t) (iblk m hO c 1 t) y) (iblk m hO c 3 t y) (iblk m hO c 4 t y)
    ∧ (outsAt0 m hO c t).2.2.1 y = first (grad (me m) (iblk m hO c 0 t) (iblk m hO c 1 t) y) (iblk m hO c 3 t y)
    ∧ (outsAt0 m hO c t).2.2.2 y = second (grad (me m) (iblk m hO c 0 t) (iblk m hO c 1 t) y) (iblk m hO c 4 t y) := by
  unfold outsAt0
  frame_out
  rw [← word_eq m]
  unfold grad
  have e0 := (hs0_0 m hO t).read_unread (iblk m hO c 0 t)
  have e1 := (hs0_1 m hO t).read_unread (iblk m hO c 1 t)
  have e2 := (hs0_2 m hO t).read_unread (iblk m hO c 2 t)
  have e3 := (hs0_3 m hO t).read_unread (iblk m hO c 3 t)
  have e4 := (hs0_4 m hO t).read_unread (iblk m hO c 4 t)
  generalize View.read (Elt Ideal) (ms0_0 m hO t).view ((hs0_0 m hO t).unread (iblk m hO c 0 t)) = z0 at e0 ⊢
  generalize View.read (Elt Ideal) (ms0_1 m hO t).view ((hs0_1 m hO t).unread (iblk m hO c 1 t)) = z1 at e1 ⊢
  generalize View.read (Elt Ideal) (ms0_2 m hO t).view ((hs0_2 m hO t).unread (iblk m hO c 2 t)) = z2 at e2 ⊢
  generalize View.read (Elt Ideal) (ms0_3 m hO t).view ((hs0_3 m hO t).unread (iblk m hO c 3 t)) = z3 at e3 ⊢
  generalize View.read (Elt Ideal) (ms0_4 m hO t).view ((hs0_4 m hO t).unread (iblk m hO c 4 t)) = z4 at e4 ⊢
  subst e0 e1 e2 e3 e4
  exact ⟨rfl, rfl, rfl, rfl⟩

/-- The table of the first device, for the facts in which the device's number plays no part. -/
def zero : (pcfg0 (F := Ideal)).Adm := ⟨fun | 0 => fun _ => (0 : BitVec 32), by decide +kernel⟩

theorem cover : ((cfg0 zero).win 5).Covers ∧ ((cfg0 zero).win 6).Covers ∧ ((cfg0 zero).win 7).Covers ∧ ((cfg0 zero).win 8).Covers := by
  decide +kernel

theorem idxs (t : Fin (cfgM m hO).N) : (∀ a : Fin 3, ((cfgM m hO).win 0).index t a = ![0, 0, 0] a)
    ∧ (∀ a : Fin 3, ((cfgM m hO).win 1).index t a = ![(me m).toNat, (grid0.coords t 0).val, 0] a)
    ∧ (∀ a : Fin 2, ((cfgM m hO).win 2).index t a = ![0, 0] a) ∧ (∀ a : Fin 2, ((cfgM m hO).win 3).index t a = ![0, 0] a)
    ∧ (∀ a : Fin 2, ((cfgM m hO).win 4).index t a = ![0, 0] a) ∧ (∀ a : Fin 2, ((cfgM m hO).win 5).index t a = ![0, 0] a)
    ∧ (∀ a : Fin 2, ((cfgM m hO).win 6).index t a = ![0, 0] a) ∧ (∀ a : Fin 2, ((cfgM m hO).win 7).index t a = ![0, 0] a)
    ∧ (∀ a : Fin 2, ((cfgM m hO).win 8).index t a = ![0, 0] a) :=
  have h := blocks t
  ⟨congrFun h.1, congrFun (own_block m (grid0.coords t)), congrFun h.2.1, congrFun h.2.2.1, congrFun h.2.2.2.1, congrFun h.2.2.2.2.1,
    congrFun h.2.2.2.2.2.1, congrFun h.2.2.2.2.2.2.1, congrFun h.2.2.2.2.2.2.2⟩

/-- Where an element of a point's block lies in the weight. -/
def place (t : Fin (cfgM m hO).N) (y : S64x512.Idx) : S64x512.Idx := y

theorem embs (t : Fin (cfgM m hO).N) (y : S64x512.Idx) :
    (((cfgM m hO).win 5).blk t).view.emb y = place m hO t y ∧ (((cfgM m hO).win 6).blk t).view.emb y = place m hO t y
    ∧ (((cfgM m hO).win 7).blk t).view.emb y = place m hO t y ∧ (((cfgM m hO).win 8).blk t).view.emb y = place m hO t y := by
  unfold place
  idx_vars y
  refine ⟨?_, ?_, ?_, ?_⟩ <;> blk_ext [idxs m hO t]

theorem blk2 (t : Fin (cfgM m hO).N) (y : S64x512.Idx) : iblk m hO c 2 t y = argW m c (place m hO t y) := by
  unfold place
  idx_vars y
  blk_point [iblk, V, idxs m hO t]
theorem blk3 (t : Fin (cfgM m hO).N) (y : S64x512.Idx) : iblk m hO c 3 t y = argM m c (place m hO t y) := by
  unfold place
  idx_vars y
  blk_point [iblk, V, idxs m hO t]
theorem blk4 (t : Fin (cfgM m hO).N) (y : S64x512.Idx) : iblk m hO c 4 t y = argV m c (place m hO t y) := by
  unfold place
  idx_vars y
  blk_point [iblk, V, idxs m hO t]

/-- The gradient of a point's block is the reference's. -/
theorem grad_eq (hw : (me m).toNat < 8) (t : Fin (cfgM m hO).N) (y : S64x512.Idx) :
    grad (me m) (iblk m hO c 0 t) (iblk m hO c 1 t) y
      = val_main_v5 (F := Ideal) (argR m c) (argO m c) (m ((c : Thread nD τ).loc main_arg2)) (place m hO t y) := by
  have ec : c = 0 := Subsingleton.elim _ _
  have hy : ∀ k : Fin 8, iblk m hO c 0 t (ix3 k (y 0) (y 1)) = argR m c (ix3 k (place m hO t y 0) (place m hO t y 1)) := by
    unfold place
    idx_vars y
    intro k
    blk_point [iblk, V, idxs m hO t]
  have hx : iblk m hO c 1 t (ix3 0 (y 0) (y 1)) = argO m c (ix3 ⟨(me m).toNat, hw⟩ (place m hO t y 0) (place m hO t y 1)) := by
    unfold place
    idx_vars y
    blk_point [iblk, V, idxs m hO t]
  refine (grad_apply (me m) hw _ (fun k => argO m c (ix3 k (place m hO t y 0) (place m hO t y 1))) _ y hx).trans (Eq.trans ?_ (ref5 _ _ _ _).symm)
  subst ec
  exact congrArg (total (me m) _) (funext hy)

/-- The four result arrays are the reference's. -/
theorem final5 (hw : (me m).toNat < 8) : (dats m hO 0 c).arrAt 5 (cfgM m hO).N
    = val_main_v5 (F := Ideal) (argR m c) (argO m c) (m ((c : Thread nD τ).loc main_arg2)) := by
  refine (dats m hO 0 c).arrAt_eq_of_covers 5 _ cover.1 fun t _ y => ?_
  blk_simp
  rw [after0_5]
  refine (outs m c hO t y).1.trans ?_
  rw [(embs m hO t y).1]
  exact grad_eq m c hO hw t y

theorem final6 (hw : (me m).toNat < 8) : (dats m hO 0 c).arrAt 6 (cfgM m hO).N
    = val_main_v29 (F := Ideal) (argR m c) (argO m c) (m ((c : Thread nD τ).loc main_arg2)) (argW m c) (argM m c) (argV m c) := by
  refine (dats m hO 0 c).arrAt_eq_of_covers 6 _ cover.2.1 fun t _ y => ?_
  blk_simp
  rw [after0_6]
  refine (outs m c hO t y).2.1.trans ?_
  rw [(embs m hO t y).2.1, ref_delta, ← grad_eq m c hO hw t y, ← blk2 m c hO t y, ← blk3 m c hO t y, ← blk4 m c hO t y]

theorem final7 (hw : (me m).toNat < 8) : (dats m hO 0 c).arrAt 7 (cfgM m hO).N
    = val_main_v10 (F := Ideal) (argR m c) (argO m c) (m ((c : Thread nD τ).loc main_arg2)) (argM m c) := by
  refine (dats m hO 0 c).arrAt_eq_of_covers 7 _ cover.2.2.1 fun t _ y => ?_
  blk_simp
  rw [after0_7]
  refine (outs m c hO t y).2.2.1.trans ?_
  rw [(embs m hO t y).2.2.1, ref_first, ← grad_eq m c hO hw t y, ← blk3 m c hO t y]

theorem final8 (hw : (me m).toNat < 8) : (dats m hO 0 c).arrAt 8 (cfgM m hO).N
    = val_main_v16 (F := Ideal) (argR m c) (argO m c) (m ((c : Thread nD τ).loc main_arg2)) (argV m c) := by
  refine (dats m hO 0 c).arrAt_eq_of_covers 8 _ cover.2.2.2 fun t _ y => ?_
  blk_simp
  rw [after0_8]
  refine (outs m c hO t y).2.2.2.trans ?_
  rw [(embs m hO t y).2.2.2, ref_second, ← grad_eq m c hO hw t y, ← blk4 m c hO t y]

end Ideal

/-! ## The claims -/

/-- The kernel's table of bodies is the idealised program's, which has the same text. -/
theorem bodies : Cert.S5GluUpdate.defs₀ (F := Bits) = Cert.S5GluUpdateIdeal.defs₀ (F := Bits) := by
  unfold Cert.S5GluUpdate.defs₀ Cert.S5GluUpdateIdeal.defs₀
  congr 1
  funext l x
  match l, x with
  | 0, (t, s) => rfl

theorem tables : Cert.S5GluUpdate.defs (F := Bits) = Cert.S5GluUpdateIdeal.defs (F := Bits) := by
  unfold Cert.S5GluUpdate.defs Cert.S5GluUpdateIdeal.defs
  rw [bodies]
  rfl

theorem frame_kernel : Cert.quiescent_S5GluUpdate := fun m ρ h => by
  rw [tables]
  exact frame (F := Bits) m ρ (ok m (pre_kernel m h))

theorem frame_ideal : Cert.quiescent_S5GluUpdateIdeal := fun m ρ h => frame (F := Ideal) m ρ (ok m (pre_ideal m h))

theorem frame_reference : Cert.quiescent_S5GluUpdateReferenceIdeal := fun m ρ _ =>
  (θ_run _ _ _).mono (fun r h => ⟨fun c => (h c).2.2.2.2, sem_eq_zero_of_no_sems (by decide) r.2⟩)
    (Cert.S5GluUpdateReferenceIdeal.Value.run (F := Ideal) m ρ)

theorem algebraic : Cert.algebraic_S5GluUpdateIdeal_S5GluUpdateReferenceIdeal := by
  intro m g m' g' hpre hargs
  have hw := pre_ideal m hpre
  have hO := ok m hw
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N,
    (θ_run _ _ _).mono (fun r h c => ⟨(h.1 c).1 5, (h.1 c).1 6, (h.1 c).1 7, (h.1 c).1 8, h.2.1 c⟩)
      (θ_run_and (run_main m g hO) (frame m g hO)), ?_⟩
  refine (θ_run _ _ _).mono (fun r h c => ?_) (Cert.S5GluUpdateReferenceIdeal.Value.run (F := Ideal) m' g')
  obtain ⟨h0, h1, h2, h3, hk⟩ := h c
  obtain ⟨e0, e1, e2, e3, e4, e5⟩ := hargs c
  refine ⟨h0.trans ?_, h1.trans ?_, h2.trans ?_, h3.trans ?_, hk⟩
  · beta_reduce
    rw [final5 m c hO hw, val_main_v5_eq, e0, e1, e2]
  · beta_reduce
    rw [final6 m c hO hw, val_main_v29_eq, e0, e1, e2, e3, e4, e5]
  · beta_reduce
    rw [final7 m c hO hw, val_main_v10_eq, e0, e1, e2, e4]
  · beta_reduce
    rw [final8 m c hO hw, val_main_v16_eq, e0, e1, e2, e5]

end Cert.Step.S5GluUpdate
-- ==== Proof.AttWoUpdateClaim.lean ====
/- The step of the attention's output weight. -/
module

public import proofs.«01_k».proof.Defs
public import proofs.«01_k».proof.Proof.AdamStep
public import proofs.«01_k».proof.Proof.Gen.Pre_att_wo_update_on_mesh
public import proofs.«01_k».proof.Proof.Gen.AttWoUpdate
public import proofs.«01_k».proof.Proof.Gen.AttWoUpdateIdeal.Frame
public import proofs.«01_k».proof.Proof.Gen.AttWoUpdateReferenceIdeal.Run
public import proofs.«01_k».proof.Proof.Gen.AttWoUpdateReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.AttWoUpdate

open Idealize.ShloMosaic Idealize.ShloMosaic.TcCoe Idealize.SL.Sem
open Cert.Step.Adam

open Cert.AttWoUpdateIdeal Cert.AttWoUpdateIdeal.Gen
open Cert.AttWoUpdateReferenceIdeal.Read

/-! ## The device's number -/

section Number
variable {F : FTy → Type} [FloatOps F] (m : (ℓ : Loc nD τ sig) → Buf (Elt F) ℓ)

/-- The device's number. -/
abbrev me : BitVec 32 := m (((0 : Dev nD) : Thread nD τ).loc main_arg2) ix0

/-- The table holds it. -/
theorem table : tbl m 0 = fun _ => me m := by
  show V m 0 main_v0 = _
  entry_read
  funext y
  idx_vars y
  pointwise

/-- The blocks of the grid's points. -/
theorem blocks : ∀ t : Fin grid0.N, cc0_transform_0 (grid0.coords t) = ![0, t.val, 0] ∧ (grid0.coords t 0).val = t.val ∧ cc0_transform_2 (grid0.coords t) = ![t.val, 0]
    ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by
  decide +kernel

theorem own_block (i : grid0.Coords) : cc0_transform_1 inb_S1_S1_0 numel1_S1 (tbl m) i = ![(me m).toNat, (i 0).val, 0] := by
  have e : (tbl m).at 0 (Rect.unit (s := S1) ![0] S1.size inb_S1_S1_0) numel1_S1 = me m := by
    unfold Pipeline.Prefetch.Contents.at; rw [table]
  unfold cc0_transform_1
  rw [e]
  have h : (i 0).val < 2 ^ 32 := lt_trans (show (i 0).val < 4 from (i 0).isLt) (by decide)
  simp only [BitVec.toNat_ofNat, Nat.mod_eq_of_lt h]

theorem inside : ∀ (k : Fin 8) (i : grid0.Coords), ∃ h : (∀ a, ((![k.val, (i 0).val, 0] : Fin 3 → ℕ) a + 1) * S1x128x128.size a ≤ S8x512x128.size a),
    EltTy.bits .f32 = 32 ∨ (Rect.block (s := S8x512x128) S1x128x128.size ![k.val, (i 0).val, 0] h).WholeWords (EltTy.packing .f32) := by
  decide +kernel

/-- Its block of the own parts lies in their array. -/
theorem ok (hw : (me m).toNat < 8) : Ok m := by
  intro i
  rw [own_block]
  exact inside ⟨(me m).toNat, hw⟩ i

end Number

theorem pre_kernel (m) (h : Cert.Pre_AttWoUpdate m) : (me (F := Bits) m).toNat < 8 := device _ (congrFun (h 0) ix0)
theorem pre_ideal (m) (h : Cert.Pre_AttWoUpdateIdeal m) : (me (F := Ideal) m).toNat < 8 := device _ (congrFun (h 0) ix0)

section Ideal

variable (m : (ℓ : Loc nD τ sig) → Buf (Elt Ideal) ℓ) (c : Dev nD)

abbrev argR : Vec Ideal S8x512x128 .f32 := m ((c : Thread nD τ).loc main_arg0)
abbrev argO : Vec Ideal S8x512x128 .f32 := m ((c : Thread nD τ).loc main_arg1)
abbrev argW : Vec Ideal S512x128 .f32 := m ((c : Thread nD τ).loc main_arg3)
abbrev argM : Vec Ideal S512x128 .f32 := m ((c : Thread nD τ).loc main_arg4)
abbrev argV : Vec Ideal S512x128 .f32 := m ((c : Thread nD τ).loc main_arg5)

abbrev slab (k : ℕ) (h : ∀ a, (![k, 0, 0] : Fin 3 → ℕ) a + S1x128x128.size a ≤ S8x128x128.size a) (x : Vec Ideal S8x128x128 .f32) : Vec Ideal S1x128x128 .f32 :=
  View.ld x (Rect.unit ![k, 0, 0] ![1, 128, 128] h)

def grad (w : BitVec 32) (x0 : Vec Ideal S8x128x128 .f32) (x1 : Vec Ideal S1x128x128 .f32) : FVec Ideal S128x128 .f32 :=
  k0_pay5 w (k0_pay4 w x1 (slab 0 inb_S8x128x128_S1x128x128_0_0_0 x0) x1 (slab 1 inb_S8x128x128_S1x128x128_1_0_0 x0) x1 (slab 2 inb_S8x128x128_S1x128x128_2_0_0 x0) x1 (slab 3 inb_S8x128x128_S1x128x128_3_0_0 x0))
    (IntOp.cmpi .eq w 4#32) x1 (slab 4 inb_S8x128x128_S1x128x128_4_0_0 x0) x1 (slab 5 inb_S8x128x128_S1x128x128_5_0_0 x0) x1 (slab 6 inb_S8x128x128_S1x128x128_6_0_0 x0) x1 (slab 7 inb_S8x128x128_S1x128x128_7_0_0 x0)

/-- The kernel's gradient, at an index. -/
theorem grad_apply (w : BitVec 32) (hw : w.toNat < 8) (x0 : Vec Ideal S8x128x128 .f32) (own : Fin 8 → EReal) (x1 : Vec Ideal S1x128x128 .f32) (y : S128x128.Idx)
    (h : x1 (ix3 0 (y 0) (y 1)) = own ⟨w.toNat, hw⟩) :
    grad w x0 x1 y = total w own (fun k => x0 (ix3 k (y 0) (y 1))) := by
  rw [total_eq w hw, Fin.sum_univ_eight, ← h]
  idx_vars y
  unfold grad
  pointwise [slab, k0_pay4, k0_pay5]
  rfl

theorem ref5 (x0 x1 : Vec Ideal S8x512x128 .f32) (x2 : IVec S_ 32) (y : S512x128.Idx) :
    val_main_v4 (F := Ideal) x0 x1 x2 y = total (x2 ix0) (fun k => x1 (ix3 k (y 0) (y 1))) (fun k => x0 (ix3 k (y 0) (y 1))) := by
  idx_vars y
  unfold total
  pointwise [val_main_v0, val_main_v1, val_main_v2, val_main_v3, val_main_cst, val_main_v4]

/-- The reference's step, at an index: `change`, `first` and `second` of its gradient. -/
theorem ref_delta (x0 x1 : Vec Ideal S8x512x128 .f32) (x2 : IVec S_ 32) (x3 x4 x5 : Vec Ideal S512x128 .f32) (y : S512x128.Idx) :
    val_main_v28 (F := Ideal) x0 x1 x2 x3 x4 x5 y = change (x3 y) (val_main_v4 x0 x1 x2 y) (x4 y) (x5 y) := rfl
theorem ref_first (x0 x1 : Vec Ideal S8x512x128 .f32) (x2 : IVec S_ 32) (x4 : Vec Ideal S512x128 .f32) (y : S512x128.Idx) :
    val_main_v9 (F := Ideal) x0 x1 x2 x4 y = first (val_main_v4 x0 x1 x2 y) (x4 y) := rfl
theorem ref_second (x0 x1 : Vec Ideal S8x512x128 .f32) (x2 : IVec S_ 32) (x5 : Vec Ideal S512x128 .f32) (y : S512x128.Idx) :
    val_main_v15 (F := Ideal) x0 x1 x2 x5 y = second (val_main_v4 x0 x1 x2 y) (x5 y) := rfl

theorem word_eq : View.readAt (Elt Ideal) (View.whole main_v0) (Rect.unit (s := S1) ![0] S1.size inb_S1_S1_0).toLoadRect (tbl m 0) (Shape.Idx.first (by decide)) = me m := by
  rw [table]; rfl

variable (hO : Ok m)

/-- What the body leaves in its four result blocks: the gradient and the step made of it. -/
theorem outs (t : Fin (cfgM m hO).N) (y : S128x128.Idx) :
    (outsAt0 m hO c t).1 y = grad (me m) (iblk m hO c 0 t) (iblk m hO c 1 t) y
    ∧ (outsAt0 m hO c t).2.1 y = change (iblk m hO c 2 t y) (grad (me m) (iblk m hO c 0 t) (iblk m hO c 1 t) y) (iblk m hO c 3 t y) (iblk m hO c 4 t y)
    ∧ (outsAt0 m hO c t).2.2.1 y = first (grad (me m) (iblk m hO c 0 t) (iblk m hO c 1 t) y) (iblk m hO c 3 t y)
    ∧ (outsAt0 m hO c t).2.2.2 y = second (grad (me m) (iblk m hO c 0 t) (iblk m hO c 1 t) y) (iblk m hO c 4 t y) := by
  unfold outsAt0
  frame_out
  rw [← word_eq m]
  unfold grad
  have e0 := (hs0_0 m hO t).read_unread (iblk m hO c 0 t)
  have e1 := (hs0_1 m hO t).read_unread (iblk m hO c 1 t)
  have e2 := (hs0_2 m hO t).read_unread (iblk m hO c 2 t)
  have e3 := (hs0_3 m hO t).read_unread (iblk m hO c 3 t)
  have e4 := (hs0_4 m hO t).read_unread (iblk m hO c 4 t)
  generalize View.read (Elt Ideal) (ms0_0 m hO t).view ((hs0_0 m hO t).unread (iblk m hO c 0 t)) = z0 at e0 ⊢
  generalize View.read (Elt Ideal) (ms0_1 m hO t).view ((hs0_1 m hO t).unread (iblk m hO c 1 t)) = z1 at e1 ⊢
  generalize View.read (Elt Ideal) (ms0_2 m hO t).view ((hs0_2 m hO t).unread (iblk m hO c 2 t)) = z2 at e2 ⊢
  generalize View.read (Elt Ideal) (ms0_3 m hO t).view ((hs0_3 m hO t).unread (iblk m hO c 3 t)) = z3 at e3 ⊢
  generalize View.read (Elt Ideal) (ms0_4 m hO t).view ((hs0_4 m hO t).unread (iblk m hO c 4 t)) = z4 at e4 ⊢
  subst e0 e1 e2 e3 e4
  exact ⟨rfl, rfl, rfl, rfl⟩

/-- The table of the first device, for the facts in which the device's number plays no part. -/
def zero : (pcfg0 (F := Ideal)).Adm := ⟨fun | 0 => fun _ => (0 : BitVec 32), by decide +kernel⟩

theorem cover : ((cfg0 zero).win 5).Covers ∧ ((cfg0 zero).win 6).Covers ∧ ((cfg0 zero).win 7).Covers ∧ ((cfg0 zero).win 8).Covers := by
  decide +kernel

theorem idxs (t : Fin (cfgM m hO).N) : (∀ a : Fin 3, ((cfgM m hO).win 0).index t a = ![0, t.val, 0] a)
    ∧ (∀ a : Fin 3, ((cfgM m hO).win 1).index t a = ![(me m).toNat, t.val, 0] a)
    ∧ (∀ a : Fin 2, ((cfgM m hO).win 2).index t a = ![t.val, 0] a) ∧ (∀ a : Fin 2, ((cfgM m hO).win 3).index t a = ![t.val, 0] a)
    ∧ (∀ a : Fin 2, ((cfgM m hO).win 4).index t a = ![t.val, 0] a) ∧ (∀ a : Fin 2, ((cfgM m hO).win 5).index t a = ![t.val, 0] a)
    ∧ (∀ a : Fin 2, ((cfgM m hO).win 6).index t a = ![t.val, 0] a) ∧ (∀ a : Fin 2, ((cfgM m hO).win 7).index t a = ![t.val, 0] a)
    ∧ (∀ a : Fin 2, ((cfgM m hO).win 8).index t a = ![t.val, 0] a) :=
  have h := blocks t
  ⟨congrFun h.1, congrFun ((own_block m (grid0.coords t)).trans (by rw [h.2.1])), congrFun h.2.2.1, congrFun h.2.2.2.1, congrFun h.2.2.2.2.1,
    congrFun h.2.2.2.2.2.1, congrFun h.2.2.2.2.2.2.1, congrFun h.2.2.2.2.2.2.2.1, congrFun h.2.2.2.2.2.2.2.2⟩

/-- Where an element of a point's block lies in the weight. -/
def place (t : Fin (cfgM m hO).N) (y : S128x128.Idx) : S512x128.Idx :=
  ix2 ⟨t.val * 128 + (y 0).val, by have h : t.val < 4 := t.isLt; have h' : (y 0).val < 128 := (y 0).isLt; omega⟩ (y 1)

theorem embs (t : Fin (cfgM m hO).N) (y : S128x128.Idx) :
    (((cfgM m hO).win 5).blk t).view.emb y = place m hO t y ∧ (((cfgM m hO).win 6).blk t).view.emb y = place m hO t y
    ∧ (((cfgM m hO).win 7).blk t).view.emb y = place m hO t y ∧ (((cfgM m hO).win 8).blk t).view.emb y = place m hO t y := by
  unfold place
  idx_vars y
  refine ⟨?_, ?_, ?_, ?_⟩ <;> blk_ext [idxs m hO t]

theorem blk2 (t : Fin (cfgM m hO).N) (y : S128x128.Idx) : iblk m hO c 2 t y = argW m c (place m hO t y) := by
  unfold place
  idx_vars y
  blk_point [iblk, V, idxs m hO t]
theorem blk3 (t : Fin (cfgM m hO).N) (y : S128x128.Idx) : iblk m hO c 3 t y = argM m c (place m hO t y) := by
  unfold place
  idx_vars y
  blk_point [iblk, V, idxs m hO t]
theorem blk4 (t : Fin (cfgM m hO).N) (y : S128x128.Idx) : iblk m hO c 4 t y = argV m c (place m hO t y) := by
  unfold place
  idx_vars y
  blk_point [iblk, V, idxs m hO t]

/-- The gradient of a point's block is the reference's. -/
theorem grad_eq (hw : (me m).toNat < 8) (t : Fin (cfgM m hO).N) (y : S128x128.Idx) :
    grad (me m) (iblk m hO c 0 t) (iblk m hO c 1 t) y
      = val_main_v4 (F := Ideal) (argR m c) (argO m c) (m ((c : Thread nD τ).loc main_arg2)) (place m hO t y) := by
  have ec : c = 0 := Subsingleton.elim _ _
  have hy : ∀ k : Fin 8, iblk m hO c 0 t (ix3 k (y 0) (y 1)) = argR m c (ix3 k (place m hO t y 0) (place m hO t y 1)) := by
    unfold place
    idx_vars y
    intro k
    blk_point [iblk, V, idxs m hO t]
  have hx : iblk m hO c 1 t (ix3 0 (y 0) (y 1)) = argO m c (ix3 ⟨(me m).toNat, hw⟩ (place m hO t y 0) (place m hO t y 1)) := by
    unfold place
    idx_vars y
    blk_point [iblk, V, idxs m hO t]
  refine (grad_apply (me m) hw _ (fun k => argO m c (ix3 k (place m hO t y 0) (place m hO t y 1))) _ y hx).trans (Eq.trans ?_ (ref5 _ _ _ _).symm)
  subst ec
  exact congrArg (total (me m) _) (funext hy)

/-- The four result arrays are the reference's. -/
theorem final5 (hw : (me m).toNat < 8) : (dats m hO 0 c).arrAt 5 (cfgM m hO).N
    = val_main_v4 (F := Ideal) (argR m c) (argO m c) (m ((c : Thread nD τ).loc main_arg2)) := by
  refine (dats m hO 0 c).arrAt_eq_of_covers 5 _ cover.1 fun t _ y => ?_
  blk_simp
  rw [after0_5]
  refine (outs m c hO t y).1.trans ?_
  rw [(embs m hO t y).1]
  exact grad_eq m c hO hw t y

theorem final6 (hw : (me m).toNat < 8) : (dats m hO 0 c).arrAt 6 (cfgM m hO).N
    = val_main_v28 (F := Ideal) (argR m c) (argO m c) (m ((c : Thread nD τ).loc main_arg2)) (argW m c) (argM m c) (argV m c) := by
  refine (dats m hO 0 c).arrAt_eq_of_covers 6 _ cover.2.1 fun t _ y => ?_
  blk_simp
  rw [after0_6]
  refine (outs m c hO t y).2.1.trans ?_
  rw [(embs m hO t y).2.1, ref_delta, ← grad_eq m c hO hw t y, ← blk2 m c hO t y, ← blk3 m c hO t y, ← blk4 m c hO t y]

theorem final7 (hw : (me m).toNat < 8) : (dats m hO 0 c).arrAt 7 (cfgM m hO).N
    = val_main_v9 (F := Ideal) (argR m c) (argO m c) (m ((c : Thread nD τ).loc main_arg2)) (argM m c) := by
  refine (dats m hO 0 c).arrAt_eq_of_covers 7 _ cover.2.2.1 fun t _ y => ?_
  blk_simp
  rw [after0_7]
  refine (outs m c hO t y).2.2.1.trans ?_
  rw [(embs m hO t y).2.2.1, ref_first, ← grad_eq m c hO hw t y, ← blk3 m c hO t y]

theorem final8 (hw : (me m).toNat < 8) : (dats m hO 0 c).arrAt 8 (cfgM m hO).N
    = val_main_v15 (F := Ideal) (argR m c) (argO m c) (m ((c : Thread nD τ).loc main_arg2)) (argV m c) := by
  refine (dats m hO 0 c).arrAt_eq_of_covers 8 _ cover.2.2.2 fun t _ y => ?_
  blk_simp
  rw [after0_8]
  refine (outs m c hO t y).2.2.2.trans ?_
  rw [(embs m hO t y).2.2.2, ref_second, ← grad_eq m c hO hw t y, ← blk4 m c hO t y]

end Ideal

/-! ## The claims -/

/-- The kernel's table of bodies is the idealised program's, which has the same text. -/
theorem bodies : Cert.AttWoUpdate.defs₀ (F := Bits) = Cert.AttWoUpdateIdeal.defs₀ (F := Bits) := by
  unfold Cert.AttWoUpdate.defs₀ Cert.AttWoUpdateIdeal.defs₀
  congr 1
  funext l x
  match l, x with
  | 0, (t, s) => rfl

theorem tables : Cert.AttWoUpdate.defs (F := Bits) = Cert.AttWoUpdateIdeal.defs (F := Bits) := by
  unfold Cert.AttWoUpdate.defs Cert.AttWoUpdateIdeal.defs
  rw [bodies]
  rfl

theorem frame_kernel : Cert.quiescent_AttWoUpdate := fun m ρ h => by
  rw [tables]
  exact frame (F := Bits) m ρ (ok m (pre_kernel m h))

theorem frame_ideal : Cert.quiescent_AttWoUpdateIdeal := fun m ρ h => frame (F := Ideal) m ρ (ok m (pre_ideal m h))

theorem frame_reference : Cert.quiescent_AttWoUpdateReferenceIdeal := fun m ρ _ =>
  (θ_run _ _ _).mono (fun r h => ⟨fun c => (h c).2.2.2.2, sem_eq_zero_of_no_sems (by decide) r.2⟩)
    (Cert.AttWoUpdateReferenceIdeal.Value.run (F := Ideal) m ρ)

theorem algebraic : Cert.algebraic_AttWoUpdateIdeal_AttWoUpdateReferenceIdeal := by
  intro m g m' g' hpre hargs
  have hw := pre_ideal m hpre
  have hO := ok m hw
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N,
    (θ_run _ _ _).mono (fun r h c => ⟨(h.1 c).1 5, (h.1 c).1 6, (h.1 c).1 7, (h.1 c).1 8, h.2.1 c⟩)
      (θ_run_and (run_main m g hO) (frame m g hO)), ?_⟩
  refine (θ_run _ _ _).mono (fun r h c => ?_) (Cert.AttWoUpdateReferenceIdeal.Value.run (F := Ideal) m' g')
  obtain ⟨h0, h1, h2, h3, hk⟩ := h c
  obtain ⟨e0, e1, e2, e3, e4, e5⟩ := hargs c
  refine ⟨h0.trans ?_, h1.trans ?_, h2.trans ?_, h3.trans ?_, hk⟩
  · beta_reduce
    rw [final5 m c hO hw, val_main_v4_eq, e0, e1, e2]
  · beta_reduce
    rw [final6 m c hO hw, val_main_v28_eq, e0, e1, e2, e3, e4, e5]
  · beta_reduce
    rw [final7 m c hO hw, val_main_v9_eq, e0, e1, e2, e4]
  · beta_reduce
    rw [final8 m c hO hw, val_main_v15_eq, e0, e1, e2, e5]

end Cert.Step.AttWoUpdate
-- ==== Proof.MixWoutUpdateClaim.lean ====
/- The step of the mixer's output weight. -/
module

public import proofs.«01_k».proof.Defs
public import proofs.«01_k».proof.Proof.AdamStep
public import proofs.«01_k».proof.Proof.Gen.Pre_mix_wout_update_on_mesh
public import proofs.«01_k».proof.Proof.Gen.MixWoutUpdate
public import proofs.«01_k».proof.Proof.Gen.MixWoutUpdateIdeal.Frame
public import proofs.«01_k».proof.Proof.Gen.MixWoutUpdateReferenceIdeal.Run
public import proofs.«01_k».proof.Proof.Gen.MixWoutUpdateReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.MixWoutUpdate

open Idealize.ShloMosaic Idealize.ShloMosaic.TcCoe Idealize.SL.Sem
open Cert.Step.Adam

open Cert.MixWoutUpdateIdeal Cert.MixWoutUpdateIdeal.Gen
open Cert.MixWoutUpdateReferenceIdeal.Read

/-! ## The device's number -/

section Number
variable {F : FTy → Type} [FloatOps F] (m : (ℓ : Loc nD τ sig) → Buf (Elt F) ℓ)

/-- The device's number. -/
abbrev me : BitVec 32 := m (((0 : Dev nD) : Thread nD τ).loc main_arg2) ix0

/-- The table holds it. -/
theorem table : tbl m 0 = fun _ => me m := by
  show V m 0 main_v0 = _
  entry_read
  funext y
  idx_vars y
  pointwise

/-- The blocks of the grid's points. -/
theorem blocks : ∀ t : Fin grid0.N, cc0_transform_0 (grid0.coords t) = ![0, 0, 0] ∧ cc0_transform_2 (grid0.coords t) = ![0, 0]
    ∧ cc0_transform_3 (grid0.coords t) = ![0, 0] ∧ cc0_transform_4 (grid0.coords t) = ![0, 0]
    ∧ cc0_transform_5 (grid0.coords t) = ![0, 0] ∧ cc0_transform_6 (grid0.coords t) = ![0, 0]
    ∧ cc0_transform_7 (grid0.coords t) = ![0, 0] ∧ cc0_transform_8 (grid0.coords t) = ![0, 0] := by
  decide +kernel

theorem own_block (i : grid0.Coords) : cc0_transform_1 inb_S1_S1_0 numel1_S1 (tbl m) i = ![(me m).toNat, (i 0).val, 0] := by
  have e : (tbl m).at 0 (Rect.unit (s := S1) ![0] S1.size inb_S1_S1_0) numel1_S1 = me m := by
    unfold Pipeline.Prefetch.Contents.at; rw [table]
  unfold cc0_transform_1
  rw [e]
  have h : (i 0).val < 2 ^ 32 := lt_trans (show (i 0).val < 1 from (i 0).isLt) (by decide)
  simp only [BitVec.toNat_ofNat, Nat.mod_eq_of_lt h]

theorem inside : ∀ (k : Fin 8) (i : grid0.Coords), ∃ h : (∀ a, ((![k.val, (i 0).val, 0] : Fin 3 → ℕ) a + 1) * S1x128x1024.size a ≤ S8x128x1024.size a),
    EltTy.bits .bf16 = 32 ∨ (Rect.block (s := S8x128x1024) S1x128x1024.size ![k.val, (i 0).val, 0] h).WholeWords (EltTy.packing .bf16) := by
  decide +kernel

/-- Its block of the own parts lies in their array. -/
theorem ok (hw : (me m).toNat < 8) : Ok m := by
  intro i
  rw [own_block]
  exact inside ⟨(me m).toNat, hw⟩ i

end Number

theorem pre_kernel (m) (h : Cert.Pre_MixWoutUpdate m) : (me (F := Bits) m).toNat < 8 := device _ (congrFun (h 0) ix0)
theorem pre_ideal (m) (h : Cert.Pre_MixWoutUpdateIdeal m) : (me (F := Ideal) m).toNat < 8 := device _ (congrFun (h 0) ix0)

section Ideal

variable (m : (ℓ : Loc nD τ sig) → Buf (Elt Ideal) ℓ) (c : Dev nD)

abbrev argR : Vec Ideal S8x128x1024 .bf16 := m ((c : Thread nD τ).loc main_arg0)
abbrev argO : Vec Ideal S8x128x1024 .bf16 := m ((c : Thread nD τ).loc main_arg1)
abbrev argW : Vec Ideal S128x1024 .f32 := m ((c : Thread nD τ).loc main_arg3)
abbrev argM : Vec Ideal S128x1024 .f32 := m ((c : Thread nD τ).loc main_arg4)
abbrev argV : Vec Ideal S128x1024 .f32 := m ((c : Thread nD τ).loc main_arg5)

abbrev slab (k : ℕ) (h : ∀ a, (![k, 0, 0] : Fin 3 → ℕ) a + S1x128x1024.size a ≤ S8x128x1024.size a) (x : Vec Ideal S8x128x1024 .bf16) : Vec Ideal S1x128x1024 .bf16 :=
  View.ld x (Rect.unit ![k, 0, 0] ![1, 128, 1024] h)

def grad (w : BitVec 32) (x0 : Vec Ideal S8x128x1024 .bf16) (x1 : Vec Ideal S1x128x1024 .bf16) : FVec Ideal S128x1024 .f32 :=
  k0_pay5 (k0_pay3 w (k0_pay1 w x1 (slab 0 inb_S8x128x1024_S1x128x1024_0_0_0 x0) x1 (slab 1 inb_S8x128x1024_S1x128x1024_1_0_0 x0) x1 (slab 2 inb_S8x128x1024_S1x128x1024_2_0_0 x0))
      (k0_pay2 w x1 (slab 3 inb_S8x128x1024_S1x128x1024_3_0_0 x0))
      x1 (slab 4 inb_S8x128x1024_S1x128x1024_4_0_0 x0) x1 (slab 5 inb_S8x128x1024_S1x128x1024_5_0_0 x0) x1 (slab 6 inb_S8x128x1024_S1x128x1024_6_0_0 x0))
    (k0_pay4 w x1 (slab 7 inb_S8x128x1024_S1x128x1024_7_0_0 x0))

/-- The kernel's gradient, at an index. -/
theorem grad_apply (w : BitVec 32) (hw : w.toNat < 8) (x0 : Vec Ideal S8x128x1024 .bf16) (own : Fin 8 → EReal) (x1 : Vec Ideal S1x128x1024 .bf16) (y : S128x1024.Idx)
    (h : x1 (ix3 0 (y 0) (y 1)) = own ⟨w.toNat, hw⟩) :
    grad w x0 x1 y = total w own (fun k => x0 (ix3 k (y 0) (y 1))) := by
  rw [total_eq w hw, Fin.sum_univ_eight, ← h]
  idx_vars y
  unfold grad
  pointwise [slab, k0_pay1, k0_pay2, k0_pay3, k0_pay4, k0_pay5]
  rfl

theorem ref5 (x0 x1 : Vec Ideal S8x128x1024 .bf16) (x2 : IVec S_ 32) (y : S128x1024.Idx) :
    val_main_v5 (F := Ideal) x0 x1 x2 y = total (x2 ix0) (fun k => x1 (ix3 k (y 0) (y 1))) (fun k => x0 (ix3 k (y 0) (y 1))) := by
  idx_vars y
  unfold total
  pointwise [val_main_v0, val_main_v1, val_main_v2, val_main_v3, val_main_v4, val_main_cst, val_main_v5]

/-- The reference's step, at an index: `change`, `first` and `second` of its gradient. -/
theorem ref_delta (x0 x1 : Vec Ideal S8x128x1024 .bf16) (x2 : IVec S_ 32) (x3 x4 x5 : Vec Ideal S128x1024 .f32) (y : S128x1024.Idx) :
    val_main_v29 (F := Ideal) x0 x1 x2 x3 x4 x5 y = change (x3 y) (val_main_v5 x0 x1 x2 y) (x4 y) (x5 y) := rfl
theorem ref_first (x0 x1 : Vec Ideal S8x128x1024 .bf16) (x2 : IVec S_ 32) (x4 : Vec Ideal S128x1024 .f32) (y : S128x1024.Idx) :
    val_main_v10 (F := Ideal) x0 x1 x2 x4 y = first (val_main_v5 x0 x1 x2 y) (x4 y) := rfl
theorem ref_second (x0 x1 : Vec Ideal S8x128x1024 .bf16) (x2 : IVec S_ 32) (x5 : Vec Ideal S128x1024 .f32) (y : S128x1024.Idx) :
    val_main_v16 (F := Ideal) x0 x1 x2 x5 y = second (val_main_v5 x0 x1 x2 y) (x5 y) := rfl

theorem word_eq : View.readAt (Elt Ideal) (View.whole main_v0) (Rect.unit (s := S1) ![0] S1.size inb_S1_S1_0).toLoadRect (tbl m 0) (Shape.Idx.first (by decide)) = me m := by
  rw [table]; rfl

variable (hO : Ok m)

/-- What the body leaves in its four result blocks: the gradient and the step made of it. -/
theorem outs (t : Fin (cfgM m hO).N) (y : S128x1024.Idx) :
    (outsAt0 m hO c t).1 y = grad (me m) (iblk m hO c 0 t) (iblk m hO c 1 t) y
    ∧ (outsAt0 m hO c t).2.1 y = change (iblk m hO c 2 t y) (grad (me m) (iblk m hO c 0 t) (iblk m hO c 1 t) y) (iblk m hO c 3 t y) (iblk m hO c 4 t y)
    ∧ (outsAt0 m hO c t).2.2.1 y = first (grad (me m) (iblk m hO c 0 t) (iblk m hO c 1 t) y) (iblk m hO c 3 t y)
    ∧ (outsAt0 m hO c t).2.2.2 y = second (grad (me m) (iblk m hO c 0 t) (iblk m hO c 1 t) y) (iblk m hO c 4 t y) := by
  unfold outsAt0
  frame_out
  rw [← word_eq m]
  unfold grad
  have e0 := (hs0_0 m hO t).read_unread (iblk m hO c 0 t)
  have e1 := (hs0_1 m hO t).read_unread (iblk m hO c 1 t)
  have e2 := (hs0_2 m hO t).read_unread (iblk m hO c 2 t)
  have e3 := (hs0_3 m hO t).read_unread (iblk m hO c 3 t)
  have e4 := (hs0_4 m hO t).read_unread (iblk m hO c 4 t)
  generalize View.read (Elt Ideal) (ms0_0 m hO t).view ((hs0_0 m hO t).unread (iblk m hO c 0 t)) = z0 at e0 ⊢
  generalize View.read (Elt Ideal) (ms0_1 m hO t).view ((hs0_1 m hO t).unread (iblk m hO c 1 t)) = z1 at e1 ⊢
  generalize View.read (Elt Ideal) (ms0_2 m hO t).view ((hs0_2 m hO t).unread (iblk m hO c 2 t)) = z2 at e2 ⊢
  generalize View.read (Elt Ideal) (ms0_3 m hO t).view ((hs0_3 m hO t).unread (iblk m hO c 3 t)) = z3 at e3 ⊢
  generalize View.read (Elt Ideal) (ms0_4 m hO t).view ((hs0_4 m hO t).unread (iblk m hO c 4 t)) = z4 at e4 ⊢
  subst e0 e1 e2 e3 e4
  exact ⟨rfl, rfl, rfl, rfl⟩

/-- The table of the first device, for the facts in which the device's number plays no part. -/
def zero : (pcfg0 (F := Ideal)).Adm := ⟨fun | 0 => fun _ => (0 : BitVec 32), by decide +kernel⟩

theorem cover : ((cfg0 zero).win 5).Covers ∧ ((cfg0 zero).win 6).Covers ∧ ((cfg0 zero).win 7).Covers ∧ ((cfg0 zero).win 8).Covers := by
  decide +kernel

theorem idxs (t : Fin (cfgM m hO).N) : (∀ a : Fin 3, ((cfgM m hO).win 0).index t a = ![0, 0, 0] a)
    ∧ (∀ a : Fin 3, ((cfgM m hO).win 1).index t a = ![(me m).toNat, (grid0.coords t 0).val, 0] a)
    ∧ (∀ a : Fin 2, ((cfgM m hO).win 2).index t a = ![0, 0] a) ∧ (∀ a : Fin 2, ((cfgM m hO).win 3).index t a = ![0, 0] a)
    ∧ (∀ a : Fin 2, ((cfgM m hO).win 4).index t a = ![0, 0] a) ∧ (∀ a : Fin 2, ((cfgM m hO).win 5).index t a = ![0, 0] a)
    ∧ (∀ a : Fin 2, ((cfgM m hO).win 6).index t a = ![0, 0] a) ∧ (∀ a : Fin 2, ((cfgM m hO).win 7).index t a = ![0, 0] a)
    ∧ (∀ a : Fin 2, ((cfgM m hO).win 8).index t a = ![0, 0] a) :=
  have h := blocks t
  ⟨congrFun h.1, congrFun (own_block m (grid0.coords t)), congrFun h.2.1, congrFun h.2.2.1, congrFun h.2.2.2.1, congrFun h.2.2.2.2.1,
    congrFun h.2.2.2.2.2.1, congrFun h.2.2.2.2.2.2.1, congrFun h.2.2.2.2.2.2.2⟩

/-- Where an element of a point's block lies in the weight. -/
def place (t : Fin (cfgM m hO).N) (y : S128x1024.Idx) : S128x1024.Idx := y

theorem embs (t : Fin (cfgM m hO).N) (y : S128x1024.Idx) :
    (((cfgM m hO).win 5).blk t).view.emb y = place m hO t y ∧ (((cfgM m hO).win 6).blk t).view.emb y = place m hO t y
    ∧ (((cfgM m hO).win 7).blk t).view.emb y = place m hO t y ∧ (((cfgM m hO).win 8).blk t).view.emb y = place m hO t y := by
  unfold place
  idx_vars y
  refine ⟨?_, ?_, ?_, ?_⟩ <;> blk_ext [idxs m hO t]

theorem blk2 (t : Fin (cfgM m hO).N) (y : S128x1024.Idx) : iblk m hO c 2 t y = argW m c (place m hO t y) := by
  unfold place
  idx_vars y
  blk_point [iblk, V, idxs m hO t]
theorem blk3 (t : Fin (cfgM m hO).N) (y : S128x1024.Idx) : iblk m hO c 3 t y = argM m c (place m hO t y) := by
  unfold place
  idx_vars y
  blk_point [iblk, V, idxs m hO t]
theorem blk4 (t : Fin (cfgM m hO).N) (y : S128x1024.Idx) : iblk m hO c 4 t y = argV m c (place m hO t y) := by
  unfold place
  idx_vars y
  blk_point [iblk, V, idxs m hO t]

/-- The gradient of a point's block is the reference's. -/
theorem grad_eq (hw : (me m).toNat < 8) (t : Fin (cfgM m hO).N) (y : S128x1024.Idx) :
    grad (me m) (iblk m hO c 0 t) (iblk m hO c 1 t) y
      = val_main_v5 (F := Ideal) (argR m c) (argO m c) (m ((c : Thread nD τ).loc main_arg2)) (place m hO t y) := by
  have ec : c = 0 := Subsingleton.elim _ _
  have hy : ∀ k : Fin 8, iblk m hO c 0 t (ix3 k (y 0) (y 1)) = argR m c (ix3 k (place m hO t y 0) (place m hO t y 1)) := by
    unfold place
    idx_vars y
    intro k
    blk_point [iblk, V, idxs m hO t]
  have hx : iblk m hO c 1 t (ix3 0 (y 0) (y 1)) = argO m c (ix3 ⟨(me m).toNat, hw⟩ (place m hO t y 0) (place m hO t y 1)) := by
    unfold place
    idx_vars y
    blk_point [iblk, V, idxs m hO t]
  refine (grad_apply (me m) hw _ (fun k => argO m c (ix3 k (place m hO t y 0) (place m hO t y 1))) _ y hx).trans (Eq.trans ?_ (ref5 _ _ _ _).symm)
  subst ec
  exact congrArg (total (me m) _) (funext hy)

/-- The four result arrays are the reference's. -/
theorem final5 (hw : (me m).toNat < 8) : (dats m hO 0 c).arrAt 5 (cfgM m hO).N
    = val_main_v5 (F := Ideal) (argR m c) (argO m c) (m ((c : Thread nD τ).loc main_arg2)) := by
  refine (dats m hO 0 c).arrAt_eq_of_covers 5 _ cover.1 fun t _ y => ?_
  blk_simp
  rw [after0_5]
  refine (outs m c hO t y).1.trans ?_
  rw [(embs m hO t y).1]
  exact grad_eq m c hO hw t y

theorem final6 (hw : (me m).toNat < 8) : (dats m hO 0 c).arrAt 6 (cfgM m hO).N
    = val_main_v29 (F := Ideal) (argR m c) (argO m c) (m ((c : Thread nD τ).loc main_arg2)) (argW m c) (argM m c) (argV m c) := by
  refine (dats m hO 0 c).arrAt_eq_of_covers 6 _ cover.2.1 fun t _ y => ?_
  blk_simp
  rw [after0_6]
  refine (outs m c hO t y).2.1.trans ?_
  rw [(embs m hO t y).2.1, ref_delta, ← grad_eq m c hO hw t y, ← blk2 m c hO t y, ← blk3 m c hO t y, ← blk4 m c hO t y]

theorem final7 (hw : (me m).toNat < 8) : (dats m hO 0 c).arrAt 7 (cfgM m hO).N
    = val_main_v10 (F := Ideal) (argR m c) (argO m c) (m ((c : Thread nD τ).loc main_arg2)) (argM m c) := by
  refine (dats m hO 0 c).arrAt_eq_of_covers 7 _ cover.2.2.1 fun t _ y => ?_
  blk_simp
  rw [after0_7]
  refine (outs m c hO t y).2.2.1.trans ?_
  rw [(embs m hO t y).2.2.1, ref_first, ← grad_eq m c hO hw t y, ← blk3 m c hO t y]

theorem final8 (hw : (me m).toNat < 8) : (dats m hO 0 c).arrAt 8 (cfgM m hO).N
    = val_main_v16 (F := Ideal) (argR m c) (argO m c) (m ((c : Thread nD τ).loc main_arg2)) (argV m c) := by
  refine (dats m hO 0 c).arrAt_eq_of_covers 8 _ cover.2.2.2 fun t _ y => ?_
  blk_simp
  rw [after0_8]
  refine (outs m c hO t y).2.2.2.trans ?_
  rw [(embs m hO t y).2.2.2, ref_second, ← grad_eq m c hO hw t y, ← blk4 m c hO t y]

end Ideal

/-! ## The claims -/

/-- The kernel's table of bodies is the idealised program's, which has the same text. -/
theorem bodies : Cert.MixWoutUpdate.defs₀ (F := Bits) = Cert.MixWoutUpdateIdeal.defs₀ (F := Bits) := by
  unfold Cert.MixWoutUpdate.defs₀ Cert.MixWoutUpdateIdeal.defs₀
  congr 1
  funext l x
  match l, x with
  | 0, (t, s) => rfl

theorem tables : Cert.MixWoutUpdate.defs (F := Bits) = Cert.MixWoutUpdateIdeal.defs (F := Bits) := by
  unfold Cert.MixWoutUpdate.defs Cert.MixWoutUpdateIdeal.defs
  rw [bodies]
  rfl

theorem frame_kernel : Cert.quiescent_MixWoutUpdate := fun m ρ h => by
  rw [tables]
  exact frame (F := Bits) m ρ (ok m (pre_kernel m h))

theorem frame_ideal : Cert.quiescent_MixWoutUpdateIdeal := fun m ρ h => frame (F := Ideal) m ρ (ok m (pre_ideal m h))

theorem frame_reference : Cert.quiescent_MixWoutUpdateReferenceIdeal := fun m ρ _ =>
  (θ_run _ _ _).mono (fun r h => ⟨fun c => (h c).2.2.2.2, sem_eq_zero_of_no_sems (by decide) r.2⟩)
    (Cert.MixWoutUpdateReferenceIdeal.Value.run (F := Ideal) m ρ)

theorem algebraic : Cert.algebraic_MixWoutUpdateIdeal_MixWoutUpdateReferenceIdeal := by
  intro m g m' g' hpre hargs
  have hw := pre_ideal m hpre
  have hO := ok m hw
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N,
    (θ_run _ _ _).mono (fun r h c => ⟨(h.1 c).1 5, (h.1 c).1 6, (h.1 c).1 7, (h.1 c).1 8, h.2.1 c⟩)
      (θ_run_and (run_main m g hO) (frame m g hO)), ?_⟩
  refine (θ_run _ _ _).mono (fun r h c => ?_) (Cert.MixWoutUpdateReferenceIdeal.Value.run (F := Ideal) m' g')
  obtain ⟨h0, h1, h2, h3, hk⟩ := h c
  obtain ⟨e0, e1, e2, e3, e4, e5⟩ := hargs c
  refine ⟨h0.trans ?_, h1.trans ?_, h2.trans ?_, h3.trans ?_, hk⟩
  · beta_reduce
    rw [final5 m c hO hw, val_main_v5_eq, e0, e1, e2]
  · beta_reduce
    rw [final6 m c hO hw, val_main_v29_eq, e0, e1, e2, e3, e4, e5]
  · beta_reduce
    rw [final7 m c hO hw, val_main_v10_eq, e0, e1, e2, e4]
  · beta_reduce
    rw [final8 m c hO hw, val_main_v16_eq, e0, e1, e2, e5]

end Cert.Step.MixWoutUpdate
-- ==== Proof.MixWinUpdateClaim.lean ====
/- The step of the first weight of the recurrent layer, whose gradient is held transposed. -/
module

public import proofs.«01_k».proof.Defs
public import proofs.«01_k».proof.Proof.AdamStep
public import proofs.«01_k».proof.Proof.Gen.Pre_mix_win_update_on_mesh
public import proofs.«01_k».proof.Proof.Gen.MixWinUpdate
public import proofs.«01_k».proof.Proof.Gen.MixWinUpdateIdeal.Frame
public import proofs.«01_k».proof.Proof.Gen.MixWinUpdateReferenceIdeal.Run
public import proofs.«01_k».proof.Proof.Gen.MixWinUpdateReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.MixWinUpdate

open Idealize.ShloMosaic Idealize.ShloMosaic.TcCoe Idealize.SL.Sem
open Cert.Step.Adam

open Cert.MixWinUpdateIdeal Cert.MixWinUpdateIdeal.Gen
open Cert.MixWinUpdateReferenceIdeal.Read

/-! ## The device's number -/

section Number
variable {F : FTy → Type} [FloatOps F] (m : (ℓ : Loc nD τ sig) → Buf (Elt F) ℓ)

/-- The device's number. -/
abbrev me : BitVec 32 := m (((0 : Dev nD) : Thread nD τ).loc main_arg2) ix0

/-- The table holds it. -/
theorem table : tbl m 0 = fun _ => me m := by
  show StableHlo.after hostOps0 (fun b => m (0, b)) (Proc.devRef .tc main_v3) = _
  entry_read
  funext y
  idx_vars y
  pointwise

/-- The blocks of the grid's points. -/
theorem blocks : ∀ t : Fin grid0.N, cc0_transform_0 (grid0.coords t) = ![0, t.val, 0] ∧ (grid0.coords t 0).val = t.val ∧ cc0_transform_2 (grid0.coords t) = ![t.val, 0]
    ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by
  decide +kernel

theorem own_block (i : grid0.Coords) : cc0_transform_1 inb_S1_S1_0 numel1_S1 (tbl m) i = ![(me m).toNat, (i 0).val, 0] := by
  have e : (tbl m).at 0 (Rect.unit (s := S1) ![0] S1.size inb_S1_S1_0) numel1_S1 = me m := by
    unfold Pipeline.Prefetch.Contents.at; rw [table]
  unfold cc0_transform_1
  rw [e]
  have h : (i 0).val < 2 ^ 32 := lt_trans (show (i 0).val < 2 from (i 0).isLt) (by decide)
  simp only [BitVec.toNat_ofNat, Nat.mod_eq_of_lt h]

theorem inside : ∀ (k : Fin 8) (i : grid0.Coords), ∃ h : (∀ a, ((![k.val, (i 0).val, 0] : Fin 3 → ℕ) a + 1) * S1x160x1024.size a ≤ S8x320x1024.size a),
    EltTy.bits .bf16 = 32 ∨ (Rect.block (s := S8x320x1024) S1x160x1024.size ![k.val, (i 0).val, 0] h).WholeWords (EltTy.packing .bf16) := by
  decide +kernel

/-- Its block of the own parts lies in their array. -/
theorem ok (hw : (me m).toNat < 8) : Ok m := by
  intro i
  rw [own_block]
  exact inside ⟨(me m).toNat, hw⟩ i

end Number

theorem pre_kernel (m) (h : Cert.Pre_MixWinUpdate m) : (me (F := Bits) m).toNat < 8 := device _ (congrFun (h 0) ix0)
theorem pre_ideal (m) (h : Cert.Pre_MixWinUpdateIdeal m) : (me (F := Ideal) m).toNat < 8 := device _ (congrFun (h 0) ix0)

section Ideal

variable (m : (ℓ : Loc nD τ sig) → Buf (Elt Ideal) ℓ) (c : Dev nD)

abbrev argR : Vec Ideal S8x320x1024 .bf16 := m ((c : Thread nD τ).loc main_arg0)
abbrev argO : Vec Ideal S8x320x1024 .bf16 := m ((c : Thread nD τ).loc main_arg1)
abbrev argW : Vec Ideal S1024x320 .f32 := m ((c : Thread nD τ).loc main_arg3)
abbrev argM : Vec Ideal S1024x320 .f32 := m ((c : Thread nD τ).loc main_arg4)
abbrev argV : Vec Ideal S1024x320 .f32 := m ((c : Thread nD τ).loc main_arg5)

/-- A weight as the call takes it. -/
def turned (x : Vec Ideal S1024x320 .f32) : Vec Ideal S320x1024 .f32 := fun y => x (ix2 (y 1) (y 0))

abbrev slab (k : ℕ) (h : ∀ a, (![k, 0, 0] : Fin 3 → ℕ) a + S1x160x1024.size a ≤ S8x160x1024.size a) (x : Vec Ideal S8x160x1024 .bf16) : Vec Ideal S1x160x1024 .bf16 :=
  View.ld x (Rect.unit ![k, 0, 0] ![1, 160, 1024] h)

def grad (w : BitVec 32) (x0 : Vec Ideal S8x160x1024 .bf16) (x1 : Vec Ideal S1x160x1024 .bf16) : FVec Ideal S160x1024 .f32 :=
  k0_pay5 (k0_pay3 w (k0_pay1 w x1 (slab 0 inb_S8x160x1024_S1x160x1024_0_0_0 x0) x1 (slab 1 inb_S8x160x1024_S1x160x1024_1_0_0 x0) x1 (slab 2 inb_S8x160x1024_S1x160x1024_2_0_0 x0))
      (k0_pay2 w x1 (slab 3 inb_S8x160x1024_S1x160x1024_3_0_0 x0))
      x1 (slab 4 inb_S8x160x1024_S1x160x1024_4_0_0 x0) x1 (slab 5 inb_S8x160x1024_S1x160x1024_5_0_0 x0) x1 (slab 6 inb_S8x160x1024_S1x160x1024_6_0_0 x0))
    (k0_pay4 w x1 (slab 7 inb_S8x160x1024_S1x160x1024_7_0_0 x0))

/-- The kernel's gradient, at an index. -/
theorem grad_apply (w : BitVec 32) (hw : w.toNat < 8) (x0 : Vec Ideal S8x160x1024 .bf16) (own : Fin 8 → EReal) (x1 : Vec Ideal S1x160x1024 .bf16) (y : S160x1024.Idx)
    (h : x1 (ix3 0 (y 0) (y 1)) = own ⟨w.toNat, hw⟩) :
    grad w x0 x1 y = total w own (fun k => x0 (ix3 k (y 0) (y 1))) := by
  rw [total_eq w hw, Fin.sum_univ_eight, ← h]
  idx_vars y
  unfold grad
  pointwise [slab, k0_pay1, k0_pay2, k0_pay3, k0_pay4, k0_pay5]
  rfl

theorem ref5 (x0 x1 : Vec Ideal S8x320x1024 .bf16) (x2 : IVec S_ 32) (y : S320x1024.Idx) :
    val_main_v5 (F := Ideal) x0 x1 x2 y = total (x2 ix0) (fun k => x1 (ix3 k (y 0) (y 1))) (fun k => x0 (ix3 k (y 0) (y 1))) := by
  idx_vars y
  unfold total
  pointwise [val_main_v0, val_main_v1, val_main_v2, val_main_v3, val_main_v4, val_main_cst, val_main_v5]

/-- The casts of a weight to its own shape leave it. -/
theorem cast_same {α : Type} (x : S160x1024.Idx → α) : shapeCast S160x1024 x shapeCasts_S160x1024_S160x1024 = x := by
  funext y
  idx_vars y
  pointwise

theorem change_apply (v55 : FVec Ideal S160x1024 .f32) (v61 : FVec Ideal S160x1024 .bf16) (w p v : Vec Ideal S160x1024 .f32) (y : S160x1024.Idx) :
    k0_pay8 v55 v61 w p v y = change (w y) (k0_pay5 v55 v61 y) (p y) (v y) := by
  unfold k0_pay8 k0_pay6 k0_pay7
  simp only [cast_same]
  rfl
theorem first_apply (v55 : FVec Ideal S160x1024 .f32) (v61 : FVec Ideal S160x1024 .bf16) (p : Vec Ideal S160x1024 .f32) (y : S160x1024.Idx) :
    k0_pay6 v55 v61 p y = first (k0_pay5 v55 v61 y) (p y) := by
  unfold k0_pay6
  simp only [cast_same]
  rfl
theorem second_apply (v55 : FVec Ideal S160x1024 .f32) (v61 : FVec Ideal S160x1024 .bf16) (v : Vec Ideal S160x1024 .f32) (y : S160x1024.Idx) :
    k0_pay7 v55 v61 v y = second (k0_pay5 v55 v61 y) (v y) := by
  unfold k0_pay7
  simp only [cast_same]
  rfl

theorem word_eq : View.readAt (Elt Ideal) (View.whole main_v3) (Rect.unit (s := S1) ![0] S1.size inb_S1_S1_0).toLoadRect (tbl m 0) (Shape.Idx.first (by decide)) = me m := by
  rw [table]; rfl

variable (hO : Ok m)

/-- What the body leaves in its four result blocks: the gradient and the step made of it. -/
theorem outs (t : Fin (cfgM m hO).N) (y : S160x1024.Idx) :
    (outsAt0 m hO c t).1 y = grad (me m) (iblk m hO c 0 t) (iblk m hO c 1 t) y
    ∧ (outsAt0 m hO c t).2.1 y = change (iblk m hO c 2 t y) (grad (me m) (iblk m hO c 0 t) (iblk m hO c 1 t) y) (iblk m hO c 3 t y) (iblk m hO c 4 t y)
    ∧ (outsAt0 m hO c t).2.2.1 y = first (grad (me m) (iblk m hO c 0 t) (iblk m hO c 1 t) y) (iblk m hO c 3 t y)
    ∧ (outsAt0 m hO c t).2.2.2 y = second (grad (me m) (iblk m hO c 0 t) (iblk m hO c 1 t) y) (iblk m hO c 4 t y) := by
  unfold outsAt0
  frame_out
  rw [← word_eq m]
  unfold grad
  have e0 := (hs0_0 m hO t).read_unread (iblk m hO c 0 t)
  have e1 := (hs0_1 m hO t).read_unread (iblk m hO c 1 t)
  have e2 := (hs0_2 m hO t).read_unread (iblk m hO c 2 t)
  have e3 := (hs0_3 m hO t).read_unread (iblk m hO c 3 t)
  have e4 := (hs0_4 m hO t).read_unread (iblk m hO c 4 t)
  generalize View.read (Elt Ideal) (ms0_0 m hO t).view ((hs0_0 m hO t).unread (iblk m hO c 0 t)) = z0 at e0 ⊢
  generalize View.read (Elt Ideal) (ms0_1 m hO t).view ((hs0_1 m hO t).unread (iblk m hO c 1 t)) = z1 at e1 ⊢
  generalize View.read (Elt Ideal) (ms0_2 m hO t).view ((hs0_2 m hO t).unread (iblk m hO c 2 t)) = z2 at e2 ⊢
  generalize View.read (Elt Ideal) (ms0_3 m hO t).view ((hs0_3 m hO t).unread (iblk m hO c 3 t)) = z3 at e3 ⊢
  generalize View.read (Elt Ideal) (ms0_4 m hO t).view ((hs0_4 m hO t).unread (iblk m hO c 4 t)) = z4 at e4 ⊢
  subst e0 e1 e2 e3 e4
  exact ⟨rfl, change_apply _ _ _ _ _ _, first_apply _ _ _ _, second_apply _ _ _ _⟩

/-- The table of the first device, for the facts in which the device's number plays no part. -/
def zero : (pcfg0 (F := Ideal)).Adm := ⟨fun | 0 => fun _ => (0 : BitVec 32), by decide +kernel⟩

theorem cover : ((cfg0 zero).win 5).Covers ∧ ((cfg0 zero).win 6).Covers ∧ ((cfg0 zero).win 7).Covers ∧ ((cfg0 zero).win 8).Covers := by
  decide +kernel

theorem idxs (t : Fin (cfgM m hO).N) : (∀ a : Fin 3, ((cfgM m hO).win 0).index t a = ![0, t.val, 0] a)
    ∧ (∀ a : Fin 3, ((cfgM m hO).win 1).index t a = ![(me m).toNat, t.val, 0] a)
    ∧ (∀ a : Fin 2, ((cfgM m hO).win 2).index t a = ![t.val, 0] a) ∧ (∀ a : Fin 2, ((cfgM m hO).win 3).index t a = ![t.val, 0] a)
    ∧ (∀ a : Fin 2, ((cfgM m hO).win 4).index t a = ![t.val, 0] a) ∧ (∀ a : Fin 2, ((cfgM m hO).win 5).index t a = ![t.val, 0] a)
    ∧ (∀ a : Fin 2, ((cfgM m hO).win 6).index t a = ![t.val, 0] a) ∧ (∀ a : Fin 2, ((cfgM m hO).win 7).index t a = ![t.val, 0] a)
    ∧ (∀ a : Fin 2, ((cfgM m hO).win 8).index t a = ![t.val, 0] a) :=
  have h := blocks t
  ⟨congrFun h.1, congrFun ((own_block m (grid0.coords t)).trans (by rw [h.2.1])), congrFun h.2.2.1, congrFun h.2.2.2.1, congrFun h.2.2.2.2.1,
    congrFun h.2.2.2.2.2.1, congrFun h.2.2.2.2.2.2.1, congrFun h.2.2.2.2.2.2.2.1, congrFun h.2.2.2.2.2.2.2.2⟩

/-- Where an element of a point's block lies in the weight. -/
def place (t : Fin (cfgM m hO).N) (y : S160x1024.Idx) : S320x1024.Idx :=
  ix2 ⟨t.val * 160 + (y 0).val, by have h : t.val < 2 := t.isLt; have h' : (y 0).val < 160 := (y 0).isLt; omega⟩ (y 1)

theorem inputs (t : Fin (cfgM m hO).N) (y : S160x1024.Idx) :
    (((cfgM m hO).win 2).blk t).view.emb y = place m hO t y ∧ (((cfgM m hO).win 3).blk t).view.emb y = place m hO t y
    ∧ (((cfgM m hO).win 4).blk t).view.emb y = place m hO t y := by
  unfold place
  idx_vars y
  refine ⟨?_, ?_, ?_⟩ <;> blk_ext [idxs m hO t]

theorem embs (t : Fin (cfgM m hO).N) (y : S160x1024.Idx) :
    (((cfgM m hO).win 5).blk t).view.emb y = place m hO t y ∧ (((cfgM m hO).win 6).blk t).view.emb y = place m hO t y
    ∧ (((cfgM m hO).win 7).blk t).view.emb y = place m hO t y ∧ (((cfgM m hO).win 8).blk t).view.emb y = place m hO t y := by
  unfold place
  idx_vars y
  refine ⟨?_, ?_, ?_, ?_⟩ <;> blk_ext [idxs m hO t]

theorem taken : StableHlo.after hostOps0 (fun b => m (c, b)) (Proc.devRef .tc main_v0) = turned (argW m c)
    ∧ StableHlo.after hostOps0 (fun b => m (c, b)) (Proc.devRef .tc main_v1) = turned (argM m c)
    ∧ StableHlo.after hostOps0 (fun b => m (c, b)) (Proc.devRef .tc main_v2) = turned (argV m c) := by
  refine ⟨?_, ?_, ?_⟩ <;> (entry_read; funext y; idx_vars y; unfold turned; pointwise)

theorem blk2 (t : Fin (cfgM m hO).N) (y : S160x1024.Idx) : iblk m hO c 2 t y = turned (argW m c) (place m hO t y) :=
  (congrFun (taken m c).1 _).trans (congrArg (turned (argW m c)) (inputs m hO t y).1)
theorem blk3 (t : Fin (cfgM m hO).N) (y : S160x1024.Idx) : iblk m hO c 3 t y = turned (argM m c) (place m hO t y) :=
  (congrFun (taken m c).2.1 _).trans (congrArg (turned (argM m c)) (inputs m hO t y).2.1)
theorem blk4 (t : Fin (cfgM m hO).N) (y : S160x1024.Idx) : iblk m hO c 4 t y = turned (argV m c) (place m hO t y) :=
  (congrFun (taken m c).2.2 _).trans (congrArg (turned (argV m c)) (inputs m hO t y).2.2)

/-- The summed gradient as the call holds it, -/
def sums : Vec Ideal S320x1024 .f32 := val_main_v5 (F := Ideal) (argR m c) (argO m c) (m ((c : Thread nD τ).loc main_arg2))
/-- and the step with it. -/
def changes (g w p v : Vec Ideal S320x1024 .f32) : Vec Ideal S320x1024 .f32 := fun y => change (w y) (g y) (p y) (v y)
def firsts (g p : Vec Ideal S320x1024 .f32) : Vec Ideal S320x1024 .f32 := fun y => first (g y) (p y)
def seconds (g v : Vec Ideal S320x1024 .f32) : Vec Ideal S320x1024 .f32 := fun y => second (g y) (v y)

/-- The gradient of a point's block is the reference's. -/
theorem grad_eq (hw : (me m).toNat < 8) (t : Fin (cfgM m hO).N) (y : S160x1024.Idx) :
    grad (me m) (iblk m hO c 0 t) (iblk m hO c 1 t) y
      = sums m c (place m hO t y) := by
  have ec : c = 0 := Subsingleton.elim _ _
  have hy : ∀ k : Fin 8, iblk m hO c 0 t (ix3 k (y 0) (y 1)) = argR m c (ix3 k (place m hO t y 0) (place m hO t y 1)) := by
    unfold place
    idx_vars y
    intro k
    blk_point [iblk, V, idxs m hO t]
  have hx : iblk m hO c 1 t (ix3 0 (y 0) (y 1)) = argO m c (ix3 ⟨(me m).toNat, hw⟩ (place m hO t y 0) (place m hO t y 1)) := by
    unfold place
    idx_vars y
    blk_point [iblk, V, idxs m hO t]
  refine (grad_apply (me m) hw _ (fun k => argO m c (ix3 k (place m hO t y 0) (place m hO t y 1))) _ y hx).trans (Eq.trans ?_ (ref5 _ _ _ _).symm)
  subst ec
  exact congrArg (total (me m) _) (funext hy)

/-- The four result arrays of the call. -/
theorem final5 (hw : (me m).toNat < 8) : (dats m hO 0 c).arrAt 5 (cfgM m hO).N = sums m c := by
  refine (dats m hO 0 c).arrAt_eq_of_covers 5 _ cover.1 fun t _ y => ?_
  blk_simp
  rw [after0_5]
  refine (outs m c hO t y).1.trans ?_
  rw [(embs m hO t y).1]
  exact grad_eq m c hO hw t y

theorem final6 (hw : (me m).toNat < 8) : (dats m hO 0 c).arrAt 6 (cfgM m hO).N = changes (sums m c) (turned (argW m c)) (turned (argM m c)) (turned (argV m c)) := by
  refine (dats m hO 0 c).arrAt_eq_of_covers 6 _ cover.2.1 fun t _ y => ?_
  blk_simp
  rw [after0_6]
  refine (outs m c hO t y).2.1.trans ?_
  rw [(embs m hO t y).2.1, grad_eq m c hO hw t y, blk2 m c hO t y, blk3 m c hO t y, blk4 m c hO t y]
  rfl

theorem final7 (hw : (me m).toNat < 8) : (dats m hO 0 c).arrAt 7 (cfgM m hO).N = firsts (sums m c) (turned (argM m c)) := by
  refine (dats m hO 0 c).arrAt_eq_of_covers 7 _ cover.2.2.1 fun t _ y => ?_
  blk_simp
  rw [after0_7]
  refine (outs m c hO t y).2.2.1.trans ?_
  rw [(embs m hO t y).2.2.1, grad_eq m c hO hw t y, blk3 m c hO t y]
  rfl

theorem final8 (hw : (me m).toNat < 8) : (dats m hO 0 c).arrAt 8 (cfgM m hO).N = seconds (sums m c) (turned (argV m c)) := by
  refine (dats m hO 0 c).arrAt_eq_of_covers 8 _ cover.2.2.2 fun t _ y => ?_
  blk_simp
  rw [after0_8]
  refine (outs m c hO t y).2.2.2.trans ?_
  rw [(embs m hO t y).2.2.2, grad_eq m c hO hw t y, blk4 m c hO t y]
  rfl

/-! ## The results, turned back after the call -/

/-- What the core's arrays hold when the call ends. -/
def left : Valuation τ sig (Elt Ideal) :=
  Pipeline.withArrays (Pipeline.pin pcfgs (fun _ => adm m hO) 0).spec c (V0 m c) fun w => (dats m hO 0 c).arrAt w (Pipeline.pin pcfgs (fun _ => adm m hO) 0).N

theorem left_eq (hw : (me m).toNat < 8) : left m c hO (Proc.devRef .tc main_v4_0) = sums m c ∧ left m c hO (Proc.devRef .tc main_v4_1) = changes (sums m c) (turned (argW m c)) (turned (argM m c)) (turned (argV m c))
    ∧ left m c hO (Proc.devRef .tc main_v4_2) = firsts (sums m c) (turned (argM m c)) ∧ left m c hO (Proc.devRef .tc main_v4_3) = seconds (sums m c) (turned (argV m c)) :=
  have e w := Pipeline.withArrays_arr (Pipeline.pin pcfgs (fun _ => adm m hO) 0).spec (by exact (by decide : Function.Injective (Pipeline.arrRef spec0))) c (V0 m c)
    (fun w => (dats m hO 0 c).arrAt w (Pipeline.pin pcfgs (fun _ => adm m hO) 0).N) w
  ⟨(e 5).trans (final5 m c hO hw), (e 6).trans (final6 m c hO hw), (e 7).trans (final7 m c hO hw), (e 8).trans (final8 m c hO hw)⟩

/-- What they hold at the end. -/
def out (b : Ref sig .tc) : Buf (Elt Ideal) ((c : Thread nD τ).loc b) := StableHlo.after hostOps1 (left m c hO) (Proc.devRef .tc b)

theorem out_eq {r} (h : Pipeline.FramePost (Pipeline.pin pcfgs fun _ => adm m hO) (dats m hO) 0 (Pipeline.afterTail pcfgs (fun _ => adm m hO) (dats m hO) 0 (V0 m) [hostOps1]) r)
    (b : Ref sig .tc) (h0 : b.isScoped = false) (h1 : ∀ w, Pipeline.arrRef spec0 w ≠ b) :
    r.2.mem ((c : Thread nD τ).loc b) = out m c hO b :=
  (h c).2 b (Pipeline.mem_restRefs_of b h0 h1)

end Ideal

/-! ## The claims -/

/-- The kernel's table of bodies is the idealised program's, which has the same text. -/
theorem bodies : Cert.MixWinUpdate.defs₀ (F := Bits) = Cert.MixWinUpdateIdeal.defs₀ (F := Bits) := by
  unfold Cert.MixWinUpdate.defs₀ Cert.MixWinUpdateIdeal.defs₀
  congr 1
  funext l x
  match l, x with
  | 0, (t, s) => rfl

theorem tables : Cert.MixWinUpdate.defs (F := Bits) = Cert.MixWinUpdateIdeal.defs (F := Bits) := by
  unfold Cert.MixWinUpdate.defs Cert.MixWinUpdateIdeal.defs
  rw [bodies]
  rfl

set_option maxHeartbeats 1600000 in
/-- And so is what it does before and after the call. -/
theorem mains : Cert.MixWinUpdate.main (F := Bits) = Cert.MixWinUpdateIdeal.main (F := Bits) := funext fun _ => rfl

theorem frame_kernel : Cert.quiescent_MixWinUpdate := fun m ρ h => by
  rw [tables, mains]
  exact frame (F := Bits) m ρ (ok m (pre_kernel m h))

theorem frame_ideal : Cert.quiescent_MixWinUpdateIdeal := fun m ρ h => frame (F := Ideal) m ρ (ok m (pre_ideal m h))

theorem frame_reference : Cert.quiescent_MixWinUpdateReferenceIdeal := fun m ρ _ =>
  (θ_run _ _ _).mono (fun r h => ⟨fun c => (h c).2.2.2.2, sem_eq_zero_of_no_sems (by decide) r.2⟩)
    (Cert.MixWinUpdateReferenceIdeal.Value.run (F := Ideal) m ρ)

theorem algebraic : Cert.algebraic_MixWinUpdateIdeal_MixWinUpdateReferenceIdeal := by
  intro m g m' g' hpre hargs
  have hw := pre_ideal m hpre
  have hO := ok m hw
  refine ⟨(out m · hO main_v5), (out m · hO main_v6), (out m · hO main_v7), (out m · hO main_v8), ?_, ?_⟩
  · refine (θ_run _ _ _).mono (fun r h c => ?_) (θ_run_and (run_main m g hO) (frame m g hO))
    exact ⟨out_eq m c hO h.1 _ (by decide) (by decide), out_eq m c hO h.1 _ (by decide) (by decide),
      out_eq m c hO h.1 _ (by decide) (by decide), out_eq m c hO h.1 _ (by decide) (by decide), h.2.1 c⟩
  refine (θ_run _ _ _).mono (fun r h c => ?_) (Cert.MixWinUpdateReferenceIdeal.Value.run (F := Ideal) m' g')
  obtain ⟨e0, e1, e2, e3, e4, e5⟩ := hargs c
  obtain ⟨l5, l6, l7, l8⟩ := left_eq m c hO hw
  obtain ⟨h0, h1, h2, h3, hk⟩ := h c
  refine ⟨h0.trans ?_, h1.trans ?_, h2.trans ?_, h3.trans ?_, hk⟩
  · rw [val_main_v6_eq, e0, e1, e2]
    beta_reduce
    unfold out
    entry_read
    rw [l5]
    rfl
  · rw [val_main_v30_eq, e0, e1, e2, e3, e4, e5]
    beta_reduce
    unfold out
    entry_read
    rw [l6]
    funext y
    idx_vars y
    rfl
  · rw [val_main_v11_eq, e0, e1, e2, e4]
    beta_reduce
    unfold out
    entry_read
    rw [l7]
    funext y
    idx_vars y
    rfl
  · rw [val_main_v17_eq, e0, e1, e2, e5]
    beta_reduce
    unfold out
    entry_read
    rw [l8]
    funext y
    idx_vars y
    rfl

end Cert.Step.MixWinUpdate
-- ==== Proof.AttWqkvUpdateClaim.lean ====
/- The step of the weights of the queries, keys and values, whose gradient is held transposed. -/
module

public import proofs.«01_k».proof.Defs
public import proofs.«01_k».proof.Proof.AdamStep
public import proofs.«01_k».proof.Proof.Gen.Pre_att_wqkv_update_on_mesh
public import proofs.«01_k».proof.Proof.Gen.AttWqkvUpdate
public import proofs.«01_k».proof.Proof.Gen.AttWqkvUpdateIdeal.Frame
public import proofs.«01_k».proof.Proof.Gen.AttWqkvUpdateReferenceIdeal.Run
public import proofs.«01_k».proof.Proof.Gen.AttWqkvUpdateReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.AttWqkvUpdate

open Idealize.ShloMosaic Idealize.ShloMosaic.TcCoe Idealize.SL.Sem
open Cert.Step.Adam

open Cert.AttWqkvUpdateIdeal Cert.AttWqkvUpdateIdeal.Gen
open Cert.AttWqkvUpdateReferenceIdeal.Read

/-! ## The device's number -/

section Number
variable {F : FTy → Type} [FloatOps F] (m : (ℓ : Loc nD τ sig) → Buf (Elt F) ℓ)

/-- The device's number. -/
abbrev me : BitVec 32 := m (((0 : Dev nD) : Thread nD τ).loc main_arg2) ix0

/-- The table holds it. -/
theorem table : tbl m 0 = fun _ => me m := by
  show StableHlo.after hostOps0 (fun b => m (0, b)) (Proc.devRef .tc main_v3) = _
  entry_read
  funext y
  idx_vars y
  pointwise

/-- The blocks of the grid's points. -/
theorem blocks : ∀ t : Fin grid0.N, cc0_transform_0 (grid0.coords t) = ![0, t.val, 0] ∧ (grid0.coords t 0).val = t.val ∧ cc0_transform_2 (grid0.coords t) = ![t.val, 0]
    ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0] := by
  decide +kernel

theorem own_block (i : grid0.Coords) : cc0_transform_1 inb_S1_S1_0 numel1_S1 (tbl m) i = ![(me m).toNat, (i 0).val, 0] := by
  have e : (tbl m).at 0 (Rect.unit (s := S1) ![0] S1.size inb_S1_S1_0) numel1_S1 = me m := by
    unfold Pipeline.Prefetch.Contents.at; rw [table]
  unfold cc0_transform_1
  rw [e]
  have h : (i 0).val < 2 ^ 32 := lt_trans (show (i 0).val < 3 from (i 0).isLt) (by decide)
  simp only [BitVec.toNat_ofNat, Nat.mod_eq_of_lt h]

theorem inside : ∀ (k : Fin 8) (i : grid0.Coords), ∃ h : (∀ a, ((![k.val, (i 0).val, 0] : Fin 3 → ℕ) a + 1) * S1x192x1024.size a ≤ S8x576x1024.size a),
    EltTy.bits .bf16 = 32 ∨ (Rect.block (s := S8x576x1024) S1x192x1024.size ![k.val, (i 0).val, 0] h).WholeWords (EltTy.packing .bf16) := by
  decide +kernel

/-- Its block of the own parts lies in their array. -/
theorem ok (hw : (me m).toNat < 8) : Ok m := by
  intro i
  rw [own_block]
  exact inside ⟨(me m).toNat, hw⟩ i

end Number

theorem pre_kernel (m) (h : Cert.Pre_AttWqkvUpdate m) : (me (F := Bits) m).toNat < 8 := device _ (congrFun (h 0) ix0)
theorem pre_ideal (m) (h : Cert.Pre_AttWqkvUpdateIdeal m) : (me (F := Ideal) m).toNat < 8 := device _ (congrFun (h 0) ix0)

section Ideal

variable (m : (ℓ : Loc nD τ sig) → Buf (Elt Ideal) ℓ) (c : Dev nD)

abbrev argR : Vec Ideal S8x576x1024 .bf16 := m ((c : Thread nD τ).loc main_arg0)
abbrev argO : Vec Ideal S8x576x1024 .bf16 := m ((c : Thread nD τ).loc main_arg1)
abbrev argW : Vec Ideal S1024x576 .f32 := m ((c : Thread nD τ).loc main_arg3)
abbrev argM : Vec Ideal S1024x576 .f32 := m ((c : Thread nD τ).loc main_arg4)
abbrev argV : Vec Ideal S1024x576 .f32 := m ((c : Thread nD τ).loc main_arg5)

/-- A weight as the call takes it. -/
def turned (x : Vec Ideal S1024x576 .f32) : Vec Ideal S576x1024 .f32 := fun y => x (ix2 (y 1) (y 0))

abbrev slab (k : ℕ) (h : ∀ a, (![k, 0, 0] : Fin 3 → ℕ) a + S1x192x1024.size a ≤ S8x192x1024.size a) (x : Vec Ideal S8x192x1024 .bf16) : Vec Ideal S1x192x1024 .bf16 :=
  View.ld x (Rect.unit ![k, 0, 0] ![1, 192, 1024] h)

def grad (w : BitVec 32) (x0 : Vec Ideal S8x192x1024 .bf16) (x1 : Vec Ideal S1x192x1024 .bf16) : FVec Ideal S192x1024 .f32 :=
  k0_pay5 (k0_pay3 w (k0_pay1 w x1 (slab 0 inb_S8x192x1024_S1x192x1024_0_0_0 x0) x1 (slab 1 inb_S8x192x1024_S1x192x1024_1_0_0 x0) x1 (slab 2 inb_S8x192x1024_S1x192x1024_2_0_0 x0))
      (k0_pay2 w x1 (slab 3 inb_S8x192x1024_S1x192x1024_3_0_0 x0))
      x1 (slab 4 inb_S8x192x1024_S1x192x1024_4_0_0 x0) x1 (slab 5 inb_S8x192x1024_S1x192x1024_5_0_0 x0) x1 (slab 6 inb_S8x192x1024_S1x192x1024_6_0_0 x0))
    (k0_pay4 w x1 (slab 7 inb_S8x192x1024_S1x192x1024_7_0_0 x0))

/-- The kernel's gradient, at an index. -/
theorem grad_apply (w : BitVec 32) (hw : w.toNat < 8) (x0 : Vec Ideal S8x192x1024 .bf16) (own : Fin 8 → EReal) (x1 : Vec Ideal S1x192x1024 .bf16) (y : S192x1024.Idx)
    (h : x1 (ix3 0 (y 0) (y 1)) = own ⟨w.toNat, hw⟩) :
    grad w x0 x1 y = total w own (fun k => x0 (ix3 k (y 0) (y 1))) := by
  rw [total_eq w hw, Fin.sum_univ_eight, ← h]
  idx_vars y
  unfold grad
  pointwise [slab, k0_pay1, k0_pay2, k0_pay3, k0_pay4, k0_pay5]
  rfl

theorem ref5 (x0 x1 : Vec Ideal S8x576x1024 .bf16) (x2 : IVec S_ 32) (y : S576x1024.Idx) :
    val_main_v5 (F := Ideal) x0 x1 x2 y = total (x2 ix0) (fun k => x1 (ix3 k (y 0) (y 1))) (fun k => x0 (ix3 k (y 0) (y 1))) := by
  idx_vars y
  unfold total
  pointwise [val_main_v0, val_main_v1, val_main_v2, val_main_v3, val_main_v4, val_main_cst, val_main_v5]

/-- The casts of a weight to its own shape leave it. -/
theorem cast_same {α : Type} (x : S192x1024.Idx → α) : shapeCast S192x1024 x shapeCasts_S192x1024_S192x1024 = x := by
  funext y
  idx_vars y
  pointwise

theorem change_apply (v55 : FVec Ideal S192x1024 .f32) (v61 : FVec Ideal S192x1024 .bf16) (w p v : Vec Ideal S192x1024 .f32) (y : S192x1024.Idx) :
    k0_pay8 v55 v61 w p v y = change (w y) (k0_pay5 v55 v61 y) (p y) (v y) := by
  unfold k0_pay8 k0_pay6 k0_pay7
  simp only [cast_same]
  rfl
theorem first_apply (v55 : FVec Ideal S192x1024 .f32) (v61 : FVec Ideal S192x1024 .bf16) (p : Vec Ideal S192x1024 .f32) (y : S192x1024.Idx) :
    k0_pay6 v55 v61 p y = first (k0_pay5 v55 v61 y) (p y) := by
  unfold k0_pay6
  simp only [cast_same]
  rfl
theorem second_apply (v55 : FVec Ideal S192x1024 .f32) (v61 : FVec Ideal S192x1024 .bf16) (v : Vec Ideal S192x1024 .f32) (y : S192x1024.Idx) :
    k0_pay7 v55 v61 v y = second (k0_pay5 v55 v61 y) (v y) := by
  unfold k0_pay7
  simp only [cast_same]
  rfl

theorem word_eq : View.readAt (Elt Ideal) (View.whole main_v3) (Rect.unit (s := S1) ![0] S1.size inb_S1_S1_0).toLoadRect (tbl m 0) (Shape.Idx.first (by decide)) = me m := by
  rw [table]; rfl

variable (hO : Ok m)

/-- What the body leaves in its four result blocks: the gradient and the step made of it. -/
theorem outs (t : Fin (cfgM m hO).N) (y : S192x1024.Idx) :
    (outsAt0 m hO c t).1 y = grad (me m) (iblk m hO c 0 t) (iblk m hO c 1 t) y
    ∧ (outsAt0 m hO c t).2.1 y = change (iblk m hO c 2 t y) (grad (me m) (iblk m hO c 0 t) (iblk m hO c 1 t) y) (iblk m hO c 3 t y) (iblk m hO c 4 t y)
    ∧ (outsAt0 m hO c t).2.2.1 y = first (grad (me m) (iblk m hO c 0 t) (iblk m hO c 1 t) y) (iblk m hO c 3 t y)
    ∧ (outsAt0 m hO c t).2.2.2 y = second (grad (me m) (iblk m hO c 0 t) (iblk m hO c 1 t) y) (iblk m hO c 4 t y) := by
  unfold outsAt0
  frame_out
  rw [← word_eq m]
  unfold grad
  have e0 := (hs0_0 m hO t).read_unread (iblk m hO c 0 t)
  have e1 := (hs0_1 m hO t).read_unread (iblk m hO c 1 t)
  have e2 := (hs0_2 m hO t).read_unread (iblk m hO c 2 t)
  have e3 := (hs0_3 m hO t).read_unread (iblk m hO c 3 t)
  have e4 := (hs0_4 m hO t).read_unread (iblk m hO c 4 t)
  generalize View.read (Elt Ideal) (ms0_0 m hO t).view ((hs0_0 m hO t).unread (iblk m hO c 0 t)) = z0 at e0 ⊢
  generalize View.read (Elt Ideal) (ms0_1 m hO t).view ((hs0_1 m hO t).unread (iblk m hO c 1 t)) = z1 at e1 ⊢
  generalize View.read (Elt Ideal) (ms0_2 m hO t).view ((hs0_2 m hO t).unread (iblk m hO c 2 t)) = z2 at e2 ⊢
  generalize View.read (Elt Ideal) (ms0_3 m hO t).view ((hs0_3 m hO t).unread (iblk m hO c 3 t)) = z3 at e3 ⊢
  generalize View.read (Elt Ideal) (ms0_4 m hO t).view ((hs0_4 m hO t).unread (iblk m hO c 4 t)) = z4 at e4 ⊢
  subst e0 e1 e2 e3 e4
  exact ⟨rfl, change_apply _ _ _ _ _ _, first_apply _ _ _ _, second_apply _ _ _ _⟩

/-- The table of the first device, for the facts in which the device's number plays no part. -/
def zero : (pcfg0 (F := Ideal)).Adm := ⟨fun | 0 => fun _ => (0 : BitVec 32), by decide +kernel⟩

theorem cover : ((cfg0 zero).win 5).Covers ∧ ((cfg0 zero).win 6).Covers ∧ ((cfg0 zero).win 7).Covers ∧ ((cfg0 zero).win 8).Covers := by
  decide +kernel

theorem idxs (t : Fin (cfgM m hO).N) : (∀ a : Fin 3, ((cfgM m hO).win 0).index t a = ![0, t.val, 0] a)
    ∧ (∀ a : Fin 3, ((cfgM m hO).win 1).index t a = ![(me m).toNat, t.val, 0] a)
    ∧ (∀ a : Fin 2, ((cfgM m hO).win 2).index t a = ![t.val, 0] a) ∧ (∀ a : Fin 2, ((cfgM m hO).win 3).index t a = ![t.val, 0] a)
    ∧ (∀ a : Fin 2, ((cfgM m hO).win 4).index t a = ![t.val, 0] a) ∧ (∀ a : Fin 2, ((cfgM m hO).win 5).index t a = ![t.val, 0] a)
    ∧ (∀ a : Fin 2, ((cfgM m hO).win 6).index t a = ![t.val, 0] a) ∧ (∀ a : Fin 2, ((cfgM m hO).win 7).index t a = ![t.val, 0] a)
    ∧ (∀ a : Fin 2, ((cfgM m hO).win 8).index t a = ![t.val, 0] a) :=
  have h := blocks t
  ⟨congrFun h.1, congrFun ((own_block m (grid0.coords t)).trans (by rw [h.2.1])), congrFun h.2.2.1, congrFun h.2.2.2.1, congrFun h.2.2.2.2.1,
    congrFun h.2.2.2.2.2.1, congrFun h.2.2.2.2.2.2.1, congrFun h.2.2.2.2.2.2.2.1, congrFun h.2.2.2.2.2.2.2.2⟩

/-- Where an element of a point's block lies in the weight. -/
def place (t : Fin (cfgM m hO).N) (y : S192x1024.Idx) : S576x1024.Idx :=
  ix2 ⟨t.val * 192 + (y 0).val, by have h : t.val < 3 := t.isLt; have h' : (y 0).val < 192 := (y 0).isLt; omega⟩ (y 1)

theorem inputs (t : Fin (cfgM m hO).N) (y : S192x1024.Idx) :
    (((cfgM m hO).win 2).blk t).view.emb y = place m hO t y ∧ (((cfgM m hO).win 3).blk t).view.emb y = place m hO t y
    ∧ (((cfgM m hO).win 4).blk t).view.emb y = place m hO t y := by
  unfold place
  idx_vars y
  refine ⟨?_, ?_, ?_⟩ <;> blk_ext [idxs m hO t]

theorem embs (t : Fin (cfgM m hO).N) (y : S192x1024.Idx) :
    (((cfgM m hO).win 5).blk t).view.emb y = place m hO t y ∧ (((cfgM m hO).win 6).blk t).view.emb y = place m hO t y
    ∧ (((cfgM m hO).win 7).blk t).view.emb y = place m hO t y ∧ (((cfgM m hO).win 8).blk t).view.emb y = place m hO t y := by
  unfold place
  idx_vars y
  refine ⟨?_, ?_, ?_, ?_⟩ <;> blk_ext [idxs m hO t]

theorem taken : StableHlo.after hostOps0 (fun b => m (c, b)) (Proc.devRef .tc main_v0) = turned (argW m c)
    ∧ StableHlo.after hostOps0 (fun b => m (c, b)) (Proc.devRef .tc main_v1) = turned (argM m c)
    ∧ StableHlo.after hostOps0 (fun b => m (c, b)) (Proc.devRef .tc main_v2) = turned (argV m c) := by
  refine ⟨?_, ?_, ?_⟩ <;> (entry_read; funext y; idx_vars y; unfold turned; pointwise)

theorem blk2 (t : Fin (cfgM m hO).N) (y : S192x1024.Idx) : iblk m hO c 2 t y = turned (argW m c) (place m hO t y) :=
  (congrFun (taken m c).1 _).trans (congrArg (turned (argW m c)) (inputs m hO t y).1)
theorem blk3 (t : Fin (cfgM m hO).N) (y : S192x1024.Idx) : iblk m hO c 3 t y = turned (argM m c) (place m hO t y) :=
  (congrFun (taken m c).2.1 _).trans (congrArg (turned (argM m c)) (inputs m hO t y).2.1)
theorem blk4 (t : Fin (cfgM m hO).N) (y : S192x1024.Idx) : iblk m hO c 4 t y = turned (argV m c) (place m hO t y) :=
  (congrFun (taken m c).2.2 _).trans (congrArg (turned (argV m c)) (inputs m hO t y).2.2)

/-- The summed gradient as the call holds it, -/
def sums : Vec Ideal S576x1024 .f32 := val_main_v5 (F := Ideal) (argR m c) (argO m c) (m ((c : Thread nD τ).loc main_arg2))
/-- and the step with it. -/
def changes (g w p v : Vec Ideal S576x1024 .f32) : Vec Ideal S576x1024 .f32 := fun y => change (w y) (g y) (p y) (v y)
def firsts (g p : Vec Ideal S576x1024 .f32) : Vec Ideal S576x1024 .f32 := fun y => first (g y) (p y)
def seconds (g v : Vec Ideal S576x1024 .f32) : Vec Ideal S576x1024 .f32 := fun y => second (g y) (v y)

/-- The gradient of a point's block is the reference's. -/
theorem grad_eq (hw : (me m).toNat < 8) (t : Fin (cfgM m hO).N) (y : S192x1024.Idx) :
    grad (me m) (iblk m hO c 0 t) (iblk m hO c 1 t) y
      = sums m c (place m hO t y) := by
  have ec : c = 0 := Subsingleton.elim _ _
  have hy : ∀ k : Fin 8, iblk m hO c 0 t (ix3 k (y 0) (y 1)) = argR m c (ix3 k (place m hO t y 0) (place m hO t y 1)) := by
    unfold place
    idx_vars y
    intro k
    blk_point [iblk, V, idxs m hO t]
  have hx : iblk m hO c 1 t (ix3 0 (y 0) (y 1)) = argO m c (ix3 ⟨(me m).toNat, hw⟩ (place m hO t y 0) (place m hO t y 1)) := by
    unfold place
    idx_vars y
    blk_point [iblk, V, idxs m hO t]
  refine (grad_apply (me m) hw _ (fun k => argO m c (ix3 k (place m hO t y 0) (place m hO t y 1))) _ y hx).trans (Eq.trans ?_ (ref5 _ _ _ _).symm)
  subst ec
  exact congrArg (total (me m) _) (funext hy)

/-- The four result arrays of the call. -/
theorem final5 (hw : (me m).toNat < 8) : (dats m hO 0 c).arrAt 5 (cfgM m hO).N = sums m c := by
  refine (dats m hO 0 c).arrAt_eq_of_covers 5 _ cover.1 fun t _ y => ?_
  blk_simp
  rw [after0_5]
  refine (outs m c hO t y).1.trans ?_
  rw [(embs m hO t y).1]
  exact grad_eq m c hO hw t y

theorem final6 (hw : (me m).toNat < 8) : (dats m hO 0 c).arrAt 6 (cfgM m hO).N = changes (sums m c) (turned (argW m c)) (turned (argM m c)) (turned (argV m c)) := by
  refine (dats m hO 0 c).arrAt_eq_of_covers 6 _ cover.2.1 fun t _ y => ?_
  blk_simp
  rw [after0_6]
  refine (outs m c hO t y).2.1.trans ?_
  rw [(embs m hO t y).2.1, grad_eq m c hO hw t y, blk2 m c hO t y, blk3 m c hO t y, blk4 m c hO t y]
  rfl

theorem final7 (hw : (me m).toNat < 8) : (dats m hO 0 c).arrAt 7 (cfgM m hO).N = firsts (sums m c) (turned (argM m c)) := by
  refine (dats m hO 0 c).arrAt_eq_of_covers 7 _ cover.2.2.1 fun t _ y => ?_
  blk_simp
  rw [after0_7]
  refine (outs m c hO t y).2.2.1.trans ?_
  rw [(embs m hO t y).2.2.1, grad_eq m c hO hw t y, blk3 m c hO t y]
  rfl

theorem final8 (hw : (me m).toNat < 8) : (dats m hO 0 c).arrAt 8 (cfgM m hO).N = seconds (sums m c) (turned (argV m c)) := by
  refine (dats m hO 0 c).arrAt_eq_of_covers 8 _ cover.2.2.2 fun t _ y => ?_
  blk_simp
  rw [after0_8]
  refine (outs m c hO t y).2.2.2.trans ?_
  rw [(embs m hO t y).2.2.2, grad_eq m c hO hw t y, blk4 m c hO t y]
  rfl

/-! ## The results, turned back after the call -/

/-- What the core's arrays hold when the call ends. -/
def left : Valuation τ sig (Elt Ideal) :=
  Pipeline.withArrays (Pipeline.pin pcfgs (fun _ => adm m hO) 0).spec c (V0 m c) fun w => (dats m hO 0 c).arrAt w (Pipeline.pin pcfgs (fun _ => adm m hO) 0).N

theorem left_eq (hw : (me m).toNat < 8) : left m c hO (Proc.devRef .tc main_v4_0) = sums m c ∧ left m c hO (Proc.devRef .tc main_v4_1) = changes (sums m c) (turned (argW m c)) (turned (argM m c)) (turned (argV m c))
    ∧ left m c hO (Proc.devRef .tc main_v4_2) = firsts (sums m c) (turned (argM m c)) ∧ left m c hO (Proc.devRef .tc main_v4_3) = seconds (sums m c) (turned (argV m c)) :=
  have e w := Pipeline.withArrays_arr (Pipeline.pin pcfgs (fun _ => adm m hO) 0).spec (by exact (by decide : Function.Injective (Pipeline.arrRef spec0))) c (V0 m c)
    (fun w => (dats m hO 0 c).arrAt w (Pipeline.pin pcfgs (fun _ => adm m hO) 0).N) w
  ⟨(e 5).trans (final5 m c hO hw), (e 6).trans (final6 m c hO hw), (e 7).trans (final7 m c hO hw), (e 8).trans (final8 m c hO hw)⟩

/-- What they hold at the end. -/
def out (b : Ref sig .tc) : Buf (Elt Ideal) ((c : Thread nD τ).loc b) := StableHlo.after hostOps1 (left m c hO) (Proc.devRef .tc b)

theorem out_eq {r} (h : Pipeline.FramePost (Pipeline.pin pcfgs fun _ => adm m hO) (dats m hO) 0 (Pipeline.afterTail pcfgs (fun _ => adm m hO) (dats m hO) 0 (V0 m) [hostOps1]) r)
    (b : Ref sig .tc) (h0 : b.isScoped = false) (h1 : ∀ w, Pipeline.arrRef spec0 w ≠ b) :
    r.2.mem ((c : Thread nD τ).loc b) = out m c hO b :=
  (h c).2 b (Pipeline.mem_restRefs_of b h0 h1)

end Ideal

/-! ## The claims -/

/-- The kernel's table of bodies is the idealised program's, which has the same text. -/
theorem bodies : Cert.AttWqkvUpdate.defs₀ (F := Bits) = Cert.AttWqkvUpdateIdeal.defs₀ (F := Bits) := by
  unfold Cert.AttWqkvUpdate.defs₀ Cert.AttWqkvUpdateIdeal.defs₀
  congr 1
  funext l x
  match l, x with
  | 0, (t, s) => rfl

theorem tables : Cert.AttWqkvUpdate.defs (F := Bits) = Cert.AttWqkvUpdateIdeal.defs (F := Bits) := by
  unfold Cert.AttWqkvUpdate.defs Cert.AttWqkvUpdateIdeal.defs
  rw [bodies]
  rfl

set_option maxHeartbeats 1600000 in
/-- And so is what it does before and after the call. -/
theorem mains : Cert.AttWqkvUpdate.main (F := Bits) = Cert.AttWqkvUpdateIdeal.main (F := Bits) := funext fun _ => rfl

theorem frame_kernel : Cert.quiescent_AttWqkvUpdate := fun m ρ h => by
  rw [tables, mains]
  exact frame (F := Bits) m ρ (ok m (pre_kernel m h))

theorem frame_ideal : Cert.quiescent_AttWqkvUpdateIdeal := fun m ρ h => frame (F := Ideal) m ρ (ok m (pre_ideal m h))

theorem frame_reference : Cert.quiescent_AttWqkvUpdateReferenceIdeal := fun m ρ _ =>
  (θ_run _ _ _).mono (fun r h => ⟨fun c => (h c).2.2.2.2, sem_eq_zero_of_no_sems (by decide) r.2⟩)
    (Cert.AttWqkvUpdateReferenceIdeal.Value.run (F := Ideal) m ρ)

theorem algebraic : Cert.algebraic_AttWqkvUpdateIdeal_AttWqkvUpdateReferenceIdeal := by
  intro m g m' g' hpre hargs
  have hw := pre_ideal m hpre
  have hO := ok m hw
  refine ⟨(out m · hO main_v5), (out m · hO main_v6), (out m · hO main_v7), (out m · hO main_v8), ?_, ?_⟩
  · refine (θ_run _ _ _).mono (fun r h c => ?_) (θ_run_and (run_main m g hO) (frame m g hO))
    exact ⟨out_eq m c hO h.1 _ (by decide) (by decide), out_eq m c hO h.1 _ (by decide) (by decide),
      out_eq m c hO h.1 _ (by decide) (by decide), out_eq m c hO h.1 _ (by decide) (by decide), h.2.1 c⟩
  refine (θ_run _ _ _).mono (fun r h c => ?_) (Cert.AttWqkvUpdateReferenceIdeal.Value.run (F := Ideal) m' g')
  obtain ⟨e0, e1, e2, e3, e4, e5⟩ := hargs c
  obtain ⟨l5, l6, l7, l8⟩ := left_eq m c hO hw
  obtain ⟨h0, h1, h2, h3, hk⟩ := h c
  refine ⟨h0.trans ?_, h1.trans ?_, h2.trans ?_, h3.trans ?_, hk⟩
  · rw [val_main_v6_eq, e0, e1, e2]
    beta_reduce
    unfold out
    entry_read
    rw [l5]
    rfl
  · rw [val_main_v30_eq, e0, e1, e2, e3, e4, e5]
    beta_reduce
    unfold out
    entry_read
    rw [l6]
    funext y
    idx_vars y
    rfl
  · rw [val_main_v11_eq, e0, e1, e2, e4]
    beta_reduce
    unfold out
    entry_read
    rw [l7]
    funext y
    idx_vars y
    rfl
  · rw [val_main_v17_eq, e0, e1, e2, e5]
    beta_reduce
    unfold out
    entry_read
    rw [l8]
    funext y
    idx_vars y
    rfl

end Cert.Step.AttWqkvUpdate
-- ==== Proof.FfnWoutUpdate1Claim.lean ====
/- The step of the second weight of the feed-forward layers, layer 1's rows. -/
module

public import proofs.«01_k».proof.Defs
public import proofs.«01_k».proof.Proof.AdamStep
public import proofs.«01_k».proof.Proof.Gen.Pre_ffn_wout_update1_on_mesh
public import proofs.«01_k».proof.Proof.Gen.FfnWoutUpdate1
public import proofs.«01_k».proof.Proof.Gen.FfnWoutUpdate1Ideal.Frame
public import proofs.«01_k».proof.Proof.Gen.FfnWoutUpdate1ReferenceIdeal.Run
public import proofs.«01_k».proof.Proof.Gen.FfnWoutUpdate1ReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.FfnWoutUpdate1

open Idealize.ShloMosaic Idealize.ShloMosaic.TcCoe Idealize.SL.Sem
open Cert.Step.Adam

open Cert.FfnWoutUpdate1Ideal Cert.FfnWoutUpdate1Ideal.Gen
open Cert.FfnWoutUpdate1ReferenceIdeal.Read

/-! ## The device's number -/

section Number
variable {F : FTy → Type} [FloatOps F] (m : (ℓ : Loc nD τ sig) → Buf (Elt F) ℓ)

/-- The device's number. -/
abbrev me : BitVec 32 := m (((0 : Dev nD) : Thread nD τ).loc main_arg2) ix0

/-- The table holds it. -/
theorem table : tbl m 0 = fun _ => me m := by
  show StableHlo.after hostOps0 (fun b => m (0, b)) (Proc.devRef .tc main_v0) = _
  entry_read
  funext y
  idx_vars y
  pointwise

/-- The blocks of the grid's points. -/
theorem blocks : ∀ t : Fin grid0.N, cc0_transform_0 (grid0.coords t) = ![0, t.val, 0] ∧ (grid0.coords t 0).val = t.val ∧ cc0_transform_2 (grid0.coords t) = ![t.val + 2, 0]
    ∧ cc0_transform_3 (grid0.coords t) = ![t.val + 2, 0] ∧ cc0_transform_4 (grid0.coords t) = ![t.val + 2, 0]
    ∧ cc0_transform_5 (grid0.coords t) = ![t.val + 2, 0] ∧ cc0_transform_6 (grid0.coords t) = ![t.val + 2, 0]
    ∧ cc0_transform_7 (grid0.coords t) = ![t.val + 2, 0] ∧ cc0_transform_8 (grid0.coords t) = ![t.val + 2, 0] := by
  decide +kernel

theorem own_block (i : grid0.Coords) : cc0_transform_1 inb_S1_S1_0 numel1_S1 (tbl m) i = ![(me m).toNat, (i 0).val, 0] := by
  have e : (tbl m).at 0 (Rect.unit (s := S1) ![0] S1.size inb_S1_S1_0) numel1_S1 = me m := by
    unfold Pipeline.Prefetch.Contents.at; rw [table]
  unfold cc0_transform_1
  rw [e]
  have h : (i 0).val < 2 ^ 32 := lt_trans (show (i 0).val < 2 from (i 0).isLt) (by decide)
  simp only [BitVec.toNat_ofNat, Nat.mod_eq_of_lt h]

theorem inside : ∀ (k : Fin 8) (i : grid0.Coords), ∃ h : (∀ a, ((![k.val, (i 0).val, 0] : Fin 3 → ℕ) a + 1) * S1x176x1024.size a ≤ S8x352x1024.size a),
    EltTy.bits .bf16 = 32 ∨ (Rect.block (s := S8x352x1024) S1x176x1024.size ![k.val, (i 0).val, 0] h).WholeWords (EltTy.packing .bf16) := by
  decide +kernel

/-- Its block of the own parts lies in their array. -/
theorem ok (hw : (me m).toNat < 8) : Ok m := by
  intro i
  rw [own_block]
  exact inside ⟨(me m).toNat, hw⟩ i

end Number

theorem pre_kernel (m) (h : Cert.Pre_FfnWoutUpdate1 m) : (me (F := Bits) m).toNat < 8 := device _ (congrFun (h 0) ix0)
theorem pre_ideal (m) (h : Cert.Pre_FfnWoutUpdate1Ideal m) : (me (F := Ideal) m).toNat < 8 := device _ (congrFun (h 0) ix0)

section Ideal

variable (m : (ℓ : Loc nD τ sig) → Buf (Elt Ideal) ℓ) (c : Dev nD)

abbrev argR : Vec Ideal S8x352x1024 .bf16 := m ((c : Thread nD τ).loc main_arg0)
abbrev argO : Vec Ideal S8x352x1024 .bf16 := m ((c : Thread nD τ).loc main_arg1)
abbrev argW : Vec Ideal S704x1024 .f32 := m ((c : Thread nD τ).loc main_arg3)
abbrev argM : Vec Ideal S704x1024 .f32 := m ((c : Thread nD τ).loc main_arg4)
abbrev argV : Vec Ideal S704x1024 .f32 := m ((c : Thread nD τ).loc main_arg5)

abbrev slab (k : ℕ) (h : ∀ a, (![k, 0, 0] : Fin 3 → ℕ) a + S1x176x1024.size a ≤ S8x176x1024.size a) (x : Vec Ideal S8x176x1024 .bf16) : Vec Ideal S1x176x1024 .bf16 :=
  View.ld x (Rect.unit ![k, 0, 0] ![1, 176, 1024] h)

def grad (w : BitVec 32) (x0 : Vec Ideal S8x176x1024 .bf16) (x1 : Vec Ideal S1x176x1024 .bf16) : FVec Ideal S176x1024 .f32 :=
  k0_pay5 (k0_pay3 w (k0_pay1 w x1 (slab 0 inb_S8x176x1024_S1x176x1024_0_0_0 x0) x1 (slab 1 inb_S8x176x1024_S1x176x1024_1_0_0 x0) x1 (slab 2 inb_S8x176x1024_S1x176x1024_2_0_0 x0))
      (k0_pay2 w x1 (slab 3 inb_S8x176x1024_S1x176x1024_3_0_0 x0))
      x1 (slab 4 inb_S8x176x1024_S1x176x1024_4_0_0 x0) x1 (slab 5 inb_S8x176x1024_S1x176x1024_5_0_0 x0) x1 (slab 6 inb_S8x176x1024_S1x176x1024_6_0_0 x0))
    (k0_pay4 w x1 (slab 7 inb_S8x176x1024_S1x176x1024_7_0_0 x0))

/-- The kernel's gradient, at an index. -/
theorem grad_apply (w : BitVec 32) (hw : w.toNat < 8) (x0 : Vec Ideal S8x176x1024 .bf16) (own : Fin 8 → EReal) (x1 : Vec Ideal S1x176x1024 .bf16) (y : S176x1024.Idx)
    (h : x1 (ix3 0 (y 0) (y 1)) = own ⟨w.toNat, hw⟩) :
    grad w x0 x1 y = total w own (fun k => x0 (ix3 k (y 0) (y 1))) := by
  rw [total_eq w hw, Fin.sum_univ_eight, ← h]
  idx_vars y
  unfold grad
  pointwise [slab, k0_pay1, k0_pay2, k0_pay3, k0_pay4, k0_pay5]
  rfl

theorem ref6 (x0 x1 : Vec Ideal S8x352x1024 .bf16) (x2 : IVec S_ 32) (y : S352x1024.Idx) :
    val_main_v6 (F := Ideal) x0 x1 x2 y = total (x2 ix0) (fun k => x1 (ix3 k (y 0) (y 1))) (fun k => x0 (ix3 k (y 0) (y 1))) := by
  idx_vars y
  unfold total
  pointwise [val_main_v1, val_main_v2, val_main_v3, val_main_v4, val_main_v5, val_main_cst, val_main_v6]

theorem word_eq : View.readAt (Elt Ideal) (View.whole main_v0) (Rect.unit (s := S1) ![0] S1.size inb_S1_S1_0).toLoadRect (tbl m 0) (Shape.Idx.first (by decide)) = me m := by
  rw [table]; rfl

variable (hO : Ok m)

/-- What the body leaves in its four result blocks: the gradient and the step made of it. -/
theorem outs (t : Fin (cfgM m hO).N) (y : S176x1024.Idx) :
    (outsAt0 m hO c t).1 y = grad (me m) (iblk m hO c 0 t) (iblk m hO c 1 t) y
    ∧ (outsAt0 m hO c t).2.1 y = change (iblk m hO c 2 t y) (grad (me m) (iblk m hO c 0 t) (iblk m hO c 1 t) y) (iblk m hO c 3 t y) (iblk m hO c 4 t y)
    ∧ (outsAt0 m hO c t).2.2.1 y = first (grad (me m) (iblk m hO c 0 t) (iblk m hO c 1 t) y) (iblk m hO c 3 t y)
    ∧ (outsAt0 m hO c t).2.2.2 y = second (grad (me m) (iblk m hO c 0 t) (iblk m hO c 1 t) y) (iblk m hO c 4 t y) := by
  unfold outsAt0
  frame_out
  rw [← word_eq m]
  unfold grad
  have e0 := (hs0_0 m hO t).read_unread (iblk m hO c 0 t)
  have e1 := (hs0_1 m hO t).read_unread (iblk m hO c 1 t)
  have e2 := (hs0_2 m hO t).read_unread (iblk m hO c 2 t)
  have e3 := (hs0_3 m hO t).read_unread (iblk m hO c 3 t)
  have e4 := (hs0_4 m hO t).read_unread (iblk m hO c 4 t)
  generalize View.read (Elt Ideal) (ms0_0 m hO t).view ((hs0_0 m hO t).unread (iblk m hO c 0 t)) = z0 at e0 ⊢
  generalize View.read (Elt Ideal) (ms0_1 m hO t).view ((hs0_1 m hO t).unread (iblk m hO c 1 t)) = z1 at e1 ⊢
  generalize View.read (Elt Ideal) (ms0_2 m hO t).view ((hs0_2 m hO t).unread (iblk m hO c 2 t)) = z2 at e2 ⊢
  generalize View.read (Elt Ideal) (ms0_3 m hO t).view ((hs0_3 m hO t).unread (iblk m hO c 3 t)) = z3 at e3 ⊢
  generalize View.read (Elt Ideal) (ms0_4 m hO t).view ((hs0_4 m hO t).unread (iblk m hO c 4 t)) = z4 at e4 ⊢
  subst e0 e1 e2 e3 e4
  exact ⟨rfl, rfl, rfl, rfl⟩

/-- The table of the first device, for the facts in which the device's number plays no part. -/
def zero : (pcfg0 (F := Ideal)).Adm := ⟨fun | 0 => fun _ => (0 : BitVec 32), by decide +kernel⟩

theorem cover : ((cfg0 zero).win 5).CoversWhere (fun β => 2 ≤ β (0 : Fin 2)) ∧ ((cfg0 zero).win 6).CoversWhere (fun β => 2 ≤ β (0 : Fin 2))
    ∧ ((cfg0 zero).win 7).CoversWhere (fun β => 2 ≤ β (0 : Fin 2)) ∧ ((cfg0 zero).win 8).CoversWhere (fun β => 2 ≤ β (0 : Fin 2)) := by
  decide +kernel

theorem idxs (t : Fin (cfgM m hO).N) : (∀ a : Fin 3, ((cfgM m hO).win 0).index t a = ![0, t.val, 0] a)
    ∧ (∀ a : Fin 3, ((cfgM m hO).win 1).index t a = ![(me m).toNat, t.val, 0] a)
    ∧ (∀ a : Fin 2, ((cfgM m hO).win 2).index t a = ![t.val + 2, 0] a) ∧ (∀ a : Fin 2, ((cfgM m hO).win 3).index t a = ![t.val + 2, 0] a)
    ∧ (∀ a : Fin 2, ((cfgM m hO).win 4).index t a = ![t.val + 2, 0] a) ∧ (∀ a : Fin 2, ((cfgM m hO).win 5).index t a = ![t.val + 2, 0] a)
    ∧ (∀ a : Fin 2, ((cfgM m hO).win 6).index t a = ![t.val + 2, 0] a) ∧ (∀ a : Fin 2, ((cfgM m hO).win 7).index t a = ![t.val + 2, 0] a)
    ∧ (∀ a : Fin 2, ((cfgM m hO).win 8).index t a = ![t.val + 2, 0] a) :=
  have h := blocks t
  ⟨congrFun h.1, congrFun ((own_block m (grid0.coords t)).trans (by rw [h.2.1])), congrFun h.2.2.1, congrFun h.2.2.2.1, congrFun h.2.2.2.2.1,
    congrFun h.2.2.2.2.2.1, congrFun h.2.2.2.2.2.2.1, congrFun h.2.2.2.2.2.2.2.1, congrFun h.2.2.2.2.2.2.2.2⟩

/-- Where an element of a point's block lies in the gradient, -/
def place (t : Fin (cfgM m hO).N) (y : S176x1024.Idx) : S352x1024.Idx :=
  ix2 ⟨t.val * 176 + (y 0).val, by have h : t.val < 2 := t.isLt; have h' : (y 0).val < 176 := (y 0).isLt; omega⟩ (y 1)

/-- and where in the weights. -/
def spot (t : Fin (cfgM m hO).N) (y : S176x1024.Idx) : S704x1024.Idx :=
  ix2 ⟨(t.val + 2) * 176 + (y 0).val, by have h : t.val < 2 := t.isLt; have h' : (y 0).val < 176 := (y 0).isLt; omega⟩ (y 1)

/-- The gradient's element of one of the weights. -/
def half (z : S704x1024.Idx) : S352x1024.Idx := ix2 ⟨(z 0).val % 352, Nat.mod_lt _ (by decide)⟩ (z 1)

theorem half_eq (y : S352x1024.Idx) (z : S704x1024.Idx) (h0 : (z 0).val = 352 + (y 0).val) (h1 : (z 1).val = (y 1).val) : half z = y := by
  have hy : (y 0).val < 352 := (y 0).isLt
  funext a
  match a with
  | 0 => exact Fin.ext (show (z 0).val % 352 = (y 0).val by omega)
  | 1 => exact Fin.ext h1

theorem half_spot (t : Fin (cfgM m hO).N) (y : S176x1024.Idx) : half (spot m hO t y) = place m hO t y :=
  half_eq _ _ (show (t.val + 2) * 176 + (y 0).val = 352 + (t.val * 176 + (y 0).val) by omega) rfl

theorem inputs (t : Fin (cfgM m hO).N) (y : S176x1024.Idx) :
    (((cfgM m hO).win 2).blk t).view.emb y = spot m hO t y ∧ (((cfgM m hO).win 3).blk t).view.emb y = spot m hO t y
    ∧ (((cfgM m hO).win 4).blk t).view.emb y = spot m hO t y := by
  unfold spot
  idx_vars y
  refine ⟨?_, ?_, ?_⟩ <;> blk_ext [idxs m hO t]

theorem embs (t : Fin (cfgM m hO).N) (y : S176x1024.Idx) :
    (((cfgM m hO).win 5).blk t).view.emb y = spot m hO t y ∧ (((cfgM m hO).win 6).blk t).view.emb y = spot m hO t y
    ∧ (((cfgM m hO).win 7).blk t).view.emb y = spot m hO t y ∧ (((cfgM m hO).win 8).blk t).view.emb y = spot m hO t y := by
  unfold spot
  idx_vars y
  refine ⟨?_, ?_, ?_, ?_⟩ <;> blk_ext [idxs m hO t]

theorem blk2 (t : Fin (cfgM m hO).N) (y : S176x1024.Idx) : iblk m hO c 2 t y = argW m c (spot m hO t y) := by
  unfold spot
  idx_vars y
  blk_point [iblk, V, idxs m hO t]
theorem blk3 (t : Fin (cfgM m hO).N) (y : S176x1024.Idx) : iblk m hO c 3 t y = argM m c (spot m hO t y) := by
  unfold spot
  idx_vars y
  blk_point [iblk, V, idxs m hO t]
theorem blk4 (t : Fin (cfgM m hO).N) (y : S176x1024.Idx) : iblk m hO c 4 t y = argV m c (spot m hO t y) := by
  unfold spot
  idx_vars y
  blk_point [iblk, V, idxs m hO t]

/-- The summed gradient, -/
def sums : Vec Ideal S352x1024 .f32 := val_main_v6 (F := Ideal) (argR m c) (argO m c) (m ((c : Thread nD τ).loc main_arg2))
/-- and what the call leaves in its arrays: the gradient and the step with it in this layer's rows, what they held in the other's. -/
def kept (a b : Vec Ideal S704x1024 .f32) : Vec Ideal S704x1024 .f32 := fun z => if 2 ≤ (z 0).val / 176 then a z else b z
def grads : Vec Ideal S704x1024 .f32 := fun z => sums m c (half z)
def changes : Vec Ideal S704x1024 .f32 := fun z => change (argW m c z) (sums m c (half z)) (argM m c z) (argV m c z)
def firsts : Vec Ideal S704x1024 .f32 := fun z => first (sums m c (half z)) (argM m c z)
def seconds : Vec Ideal S704x1024 .f32 := fun z => second (sums m c (half z)) (argV m c z)

/-- The gradient of a point's block is the reference's. -/
theorem grad_eq (hw : (me m).toNat < 8) (t : Fin (cfgM m hO).N) (y : S176x1024.Idx) :
    grad (me m) (iblk m hO c 0 t) (iblk m hO c 1 t) y
      = sums m c (place m hO t y) := by
  have ec : c = 0 := Subsingleton.elim _ _
  have hy : ∀ k : Fin 8, iblk m hO c 0 t (ix3 k (y 0) (y 1)) = argR m c (ix3 k (place m hO t y 0) (place m hO t y 1)) := by
    unfold place
    idx_vars y
    intro k
    blk_point [iblk, V, idxs m hO t]
  have hx : iblk m hO c 1 t (ix3 0 (y 0) (y 1)) = argO m c (ix3 ⟨(me m).toNat, hw⟩ (place m hO t y 0) (place m hO t y 1)) := by
    unfold place
    idx_vars y
    blk_point [iblk, V, idxs m hO t]
  refine (grad_apply (me m) hw _ (fun k => argO m c (ix3 k (place m hO t y 0) (place m hO t y 1))) _ y hx).trans (Eq.trans ?_ (ref6 _ _ _ _).symm)
  subst ec
  exact congrArg (total (me m) _) (funext hy)

/-- The four result arrays of the call. -/
theorem final5 (hw : (me m).toNat < 8) : (dats m hO 0 c).arrAt 5 (cfgM m hO).N = kept (grads m c) ((dats m hO 0 c).A 5) := by
  refine (dats m hO 0 c).arrAt_eq_of_coversWhere 5 _ (fun β => 2 ≤ β (0 : Fin 2)) cover.1 (fun t _ y => ?_) (fun j => Iff.rfl)
  blk_simp
  rw [after0_5]
  refine (outs m c hO t y).1.trans ?_
  rw [(embs m hO t y).1, grad_eq m c hO hw t y, ← half_spot m hO t y]
  rfl

theorem final6 (hw : (me m).toNat < 8) : (dats m hO 0 c).arrAt 6 (cfgM m hO).N = kept (changes m c) ((dats m hO 0 c).A 6) := by
  refine (dats m hO 0 c).arrAt_eq_of_coversWhere 6 _ (fun β => 2 ≤ β (0 : Fin 2)) cover.2.1 (fun t _ y => ?_) (fun j => Iff.rfl)
  blk_simp
  rw [after0_6]
  refine (outs m c hO t y).2.1.trans ?_
  rw [(embs m hO t y).2.1, grad_eq m c hO hw t y, ← half_spot m hO t y, blk2 m c hO t y, blk3 m c hO t y, blk4 m c hO t y]
  rfl

theorem final7 (hw : (me m).toNat < 8) : (dats m hO 0 c).arrAt 7 (cfgM m hO).N = kept (firsts m c) ((dats m hO 0 c).A 7) := by
  refine (dats m hO 0 c).arrAt_eq_of_coversWhere 7 _ (fun β => 2 ≤ β (0 : Fin 2)) cover.2.2.1 (fun t _ y => ?_) (fun j => Iff.rfl)
  blk_simp
  rw [after0_7]
  refine (outs m c hO t y).2.2.1.trans ?_
  rw [(embs m hO t y).2.2.1, grad_eq m c hO hw t y, ← half_spot m hO t y, blk3 m c hO t y]
  rfl

theorem final8 (hw : (me m).toNat < 8) : (dats m hO 0 c).arrAt 8 (cfgM m hO).N = kept (seconds m c) ((dats m hO 0 c).A 8) := by
  refine (dats m hO 0 c).arrAt_eq_of_coversWhere 8 _ (fun β => 2 ≤ β (0 : Fin 2)) cover.2.2.2 (fun t _ y => ?_) (fun j => Iff.rfl)
  blk_simp
  rw [after0_8]
  refine (outs m c hO t y).2.2.2.trans ?_
  rw [(embs m hO t y).2.2.2, grad_eq m c hO hw t y, ← half_spot m hO t y, blk4 m c hO t y]
  rfl

/-! ## The results, cut out after the call -/

/-- What the core's arrays hold when the call ends. -/
def left : Valuation τ sig (Elt Ideal) :=
  Pipeline.withArrays (Pipeline.pin pcfgs (fun _ => adm m hO) 0).spec c (V0 m c) fun w => (dats m hO 0 c).arrAt w (Pipeline.pin pcfgs (fun _ => adm m hO) 0).N

theorem left_eq (hw : (me m).toNat < 8) : left m c hO (Proc.devRef .tc main_v1_0) = kept (grads m c) ((dats m hO 0 c).A 5) ∧ left m c hO (Proc.devRef .tc main_v1_1) = kept (changes m c) ((dats m hO 0 c).A 6)
    ∧ left m c hO (Proc.devRef .tc main_v1_2) = kept (firsts m c) ((dats m hO 0 c).A 7) ∧ left m c hO (Proc.devRef .tc main_v1_3) = kept (seconds m c) ((dats m hO 0 c).A 8) :=
  have e w := Pipeline.withArrays_arr (Pipeline.pin pcfgs (fun _ => adm m hO) 0).spec (by exact (by decide : Function.Injective (Pipeline.arrRef spec0))) c (V0 m c)
    (fun w => (dats m hO 0 c).arrAt w (Pipeline.pin pcfgs (fun _ => adm m hO) 0).N) w
  ⟨(e 5).trans (final5 m c hO hw), (e 6).trans (final6 m c hO hw), (e 7).trans (final7 m c hO hw), (e 8).trans (final8 m c hO hw)⟩

/-- What they hold at the end. -/
def out (b : Ref sig .tc) : Buf (Elt Ideal) ((c : Thread nD τ).loc b) := StableHlo.after hostOps1 (left m c hO) (Proc.devRef .tc b)

theorem out_eq {r} (h : Pipeline.FramePost (Pipeline.pin pcfgs fun _ => adm m hO) (dats m hO) 0 (Pipeline.afterTail pcfgs (fun _ => adm m hO) (dats m hO) 0 (V0 m) [hostOps1]) r)
    (b : Ref sig .tc) (h0 : b.isScoped = false) (h1 : ∀ w, Pipeline.arrRef spec0 w ≠ b) :
    r.2.mem ((c : Thread nD τ).loc b) = out m c hO b :=
  (h c).2 b (Pipeline.mem_restRefs_of b h0 h1)

/-- A slice of this layer's rows is of what was written. -/
theorem written (a b : Vec Ideal S704x1024 .f32) (y : S352x1024.Idx) (z : S704x1024.Idx) {x : EReal} (h0 : (z 0).val = 352 + (y 0).val) (h1 : (z 1).val = (y 1).val)
    (h : half z = y → a z = x) : kept a b z = x :=
  (if_pos (by omega)).trans (h (half_eq y z h0 h1))

end Ideal

/-! ## The claims -/

/-- The kernel's table of bodies is the idealised program's, which has the same text. -/
theorem bodies : Cert.FfnWoutUpdate1.defs₀ (F := Bits) = Cert.FfnWoutUpdate1Ideal.defs₀ (F := Bits) := by
  unfold Cert.FfnWoutUpdate1.defs₀ Cert.FfnWoutUpdate1Ideal.defs₀
  congr 1
  funext l x
  match l, x with
  | 0, (t, s) => rfl

theorem tables : Cert.FfnWoutUpdate1.defs (F := Bits) = Cert.FfnWoutUpdate1Ideal.defs (F := Bits) := by
  unfold Cert.FfnWoutUpdate1.defs Cert.FfnWoutUpdate1Ideal.defs
  rw [bodies]
  rfl

set_option maxHeartbeats 1760000 in
/-- And so is what it does before and after the call. -/
theorem mains : Cert.FfnWoutUpdate1.main (F := Bits) = Cert.FfnWoutUpdate1Ideal.main (F := Bits) := funext fun _ => rfl

theorem frame_kernel : Cert.quiescent_FfnWoutUpdate1 := fun m ρ h => by
  rw [tables, mains]
  exact frame (F := Bits) m ρ (ok m (pre_kernel m h))

theorem frame_ideal : Cert.quiescent_FfnWoutUpdate1Ideal := fun m ρ h => frame (F := Ideal) m ρ (ok m (pre_ideal m h))

theorem frame_reference : Cert.quiescent_FfnWoutUpdate1ReferenceIdeal := fun m ρ _ =>
  (θ_run _ _ _).mono (fun r h => ⟨fun c => (h c).2.2.2.2, sem_eq_zero_of_no_sems (by decide) r.2⟩)
    (Cert.FfnWoutUpdate1ReferenceIdeal.Value.run (F := Ideal) m ρ)

theorem algebraic : Cert.algebraic_FfnWoutUpdate1Ideal_FfnWoutUpdate1ReferenceIdeal := by
  intro m g m' g' hpre hargs
  have hw := pre_ideal m hpre
  have hO := ok m hw
  refine ⟨(out m · hO main_v2), (out m · hO main_v3), (out m · hO main_v4), (out m · hO main_v5), ?_, ?_⟩
  · refine (θ_run _ _ _).mono (fun r h c => ?_) (θ_run_and (run_main m g hO) (frame m g hO))
    exact ⟨out_eq m c hO h.1 _ (by decide) (by decide), out_eq m c hO h.1 _ (by decide) (by decide),
      out_eq m c hO h.1 _ (by decide) (by decide), out_eq m c hO h.1 _ (by decide) (by decide), h.2.1 c⟩
  refine (θ_run _ _ _).mono (fun r h c => ?_) (Cert.FfnWoutUpdate1ReferenceIdeal.Value.run (F := Ideal) m' g')
  obtain ⟨e0, e1, e2, e3, e4, e5⟩ := hargs c
  obtain ⟨l5, l6, l7, l8⟩ := left_eq m c hO hw
  obtain ⟨h0, h1, h2, h3, hk⟩ := h c
  refine ⟨h0.trans ?_, h1.trans ?_, h2.trans ?_, h3.trans ?_, hk⟩
  · rw [val_main_v6_eq, e0, e1, e2]
    beta_reduce
    unfold out
    entry_read
    rw [l5]
    funext y
    refine (written (grads m c) _ y (fun a => ⟨(![352, 0] : Fin 2 → ℕ) a + (y a).val, _⟩) ?_ ?_ ?_).symm
    · rfl
    · exact Nat.zero_add _
    · intro e
      unfold grads
      rw [e]
      rfl
  · rw [val_main_v32_eq, e0, e1, e2, e3, e4, e5]
    beta_reduce
    unfold out
    entry_read
    rw [l6]
    funext y
    refine (written (changes m c) _ y (fun a => ⟨(![352, 0] : Fin 2 → ℕ) a + (y a).val, _⟩) ?_ ?_ ?_).symm
    · rfl
    · exact Nat.zero_add _
    · intro e
      unfold changes
      rw [e]
      rfl
  · rw [val_main_v13_eq, e0, e1, e2, e4]
    beta_reduce
    unfold out
    entry_read
    rw [l7]
    funext y
    refine (written (firsts m c) _ y (fun a => ⟨(![352, 0] : Fin 2 → ℕ) a + (y a).val, _⟩) ?_ ?_ ?_).symm
    · rfl
    · exact Nat.zero_add _
    · intro e
      unfold firsts
      rw [e]
      rfl
  · rw [val_main_v19_eq, e0, e1, e2, e5]
    beta_reduce
    unfold out
    entry_read
    rw [l8]
    funext y
    refine (written (seconds m c) _ y (fun a => ⟨(![352, 0] : Fin 2 → ℕ) a + (y a).val, _⟩) ?_ ?_ ?_).symm
    · rfl
    · exact Nat.zero_add _
    · intro e
      unfold seconds
      rw [e]
      rfl

end Cert.Step.FfnWoutUpdate1
-- ==== Proof.FfnWinUpdate1Claim.lean ====
/- The step of the first weight of the feed-forward layers, layer 1's rows, whose gradient is held transposed. -/
module

public import proofs.«01_k».proof.Defs
public import proofs.«01_k».proof.Proof.AdamStep
public import proofs.«01_k».proof.Proof.Gen.Pre_ffn_win_update1_on_mesh
public import proofs.«01_k».proof.Proof.Gen.FfnWinUpdate1
public import proofs.«01_k».proof.Proof.Gen.FfnWinUpdate1Ideal.Frame
public import proofs.«01_k».proof.Proof.Gen.FfnWinUpdate1ReferenceIdeal.Run
public import proofs.«01_k».proof.Proof.Gen.FfnWinUpdate1ReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.FfnWinUpdate1

open Idealize.ShloMosaic Idealize.ShloMosaic.TcCoe Idealize.SL.Sem
open Cert.Step.Adam

open Cert.FfnWinUpdate1Ideal Cert.FfnWinUpdate1Ideal.Gen
open Cert.FfnWinUpdate1ReferenceIdeal.Read

/-! ## The device's number -/

section Number
variable {F : FTy → Type} [FloatOps F] (m : (ℓ : Loc nD τ sig) → Buf (Elt F) ℓ)

/-- The device's number. -/
abbrev me : BitVec 32 := m (((0 : Dev nD) : Thread nD τ).loc main_arg2) ix0

/-- The table holds it. -/
theorem table : tbl m 0 = fun _ => me m := by
  show StableHlo.after hostOps0 (fun b => m (0, b)) (Proc.devRef .tc main_v0) = _
  entry_read
  funext y
  idx_vars y
  pointwise

/-- The blocks of the grid's points. -/
theorem blocks : ∀ t : Fin grid0.N, cc0_transform_0 (grid0.coords t) = ![0, t.val, 0] ∧ (grid0.coords t 0).val = t.val ∧ cc0_transform_2 (grid0.coords t) = ![t.val + 4, 0]
    ∧ cc0_transform_3 (grid0.coords t) = ![t.val + 4, 0] ∧ cc0_transform_4 (grid0.coords t) = ![t.val + 4, 0]
    ∧ cc0_transform_5 (grid0.coords t) = ![t.val + 4, 0] ∧ cc0_transform_6 (grid0.coords t) = ![t.val + 4, 0]
    ∧ cc0_transform_7 (grid0.coords t) = ![t.val + 4, 0] ∧ cc0_transform_8 (grid0.coords t) = ![t.val + 4, 0] := by
  decide +kernel

theorem own_block (i : grid0.Coords) : cc0_transform_1 inb_S1_S1_0 numel1_S1 (tbl m) i = ![(me m).toNat, (i 0).val, 0] := by
  have e : (tbl m).at 0 (Rect.unit (s := S1) ![0] S1.size inb_S1_S1_0) numel1_S1 = me m := by
    unfold Pipeline.Prefetch.Contents.at; rw [table]
  unfold cc0_transform_1
  rw [e]
  have h : (i 0).val < 2 ^ 32 := lt_trans (show (i 0).val < 4 from (i 0).isLt) (by decide)
  simp only [BitVec.toNat_ofNat, Nat.mod_eq_of_lt h]

theorem inside : ∀ (k : Fin 8) (i : grid0.Coords), ∃ h : (∀ a, ((![k.val, (i 0).val, 0] : Fin 3 → ℕ) a + 1) * S1x176x1024.size a ≤ S8x704x1024.size a),
    EltTy.bits .bf16 = 32 ∨ (Rect.block (s := S8x704x1024) S1x176x1024.size ![k.val, (i 0).val, 0] h).WholeWords (EltTy.packing .bf16) := by
  decide +kernel

/-- Its block of the own parts lies in their array. -/
theorem ok (hw : (me m).toNat < 8) : Ok m := by
  intro i
  rw [own_block]
  exact inside ⟨(me m).toNat, hw⟩ i

end Number

theorem pre_kernel (m) (h : Cert.Pre_FfnWinUpdate1 m) : (me (F := Bits) m).toNat < 8 := device _ (congrFun (h 0) ix0)
theorem pre_ideal (m) (h : Cert.Pre_FfnWinUpdate1Ideal m) : (me (F := Ideal) m).toNat < 8 := device _ (congrFun (h 0) ix0)

section Ideal

variable (m : (ℓ : Loc nD τ sig) → Buf (Elt Ideal) ℓ) (c : Dev nD)

abbrev argR : Vec Ideal S8x704x1024 .bf16 := m ((c : Thread nD τ).loc main_arg0)
abbrev argO : Vec Ideal S8x704x1024 .bf16 := m ((c : Thread nD τ).loc main_arg1)
abbrev argW : Vec Ideal S1408x1024 .f32 := m ((c : Thread nD τ).loc main_arg3)
abbrev argM : Vec Ideal S1408x1024 .f32 := m ((c : Thread nD τ).loc main_arg4)
abbrev argV : Vec Ideal S1408x1024 .f32 := m ((c : Thread nD τ).loc main_arg5)

abbrev slab (k : ℕ) (h : ∀ a, (![k, 0, 0] : Fin 3 → ℕ) a + S1x176x1024.size a ≤ S8x176x1024.size a) (x : Vec Ideal S8x176x1024 .bf16) : Vec Ideal S1x176x1024 .bf16 :=
  View.ld x (Rect.unit ![k, 0, 0] ![1, 176, 1024] h)

def grad (w : BitVec 32) (x0 : Vec Ideal S8x176x1024 .bf16) (x1 : Vec Ideal S1x176x1024 .bf16) : FVec Ideal S176x1024 .f32 :=
  k0_pay5 (k0_pay3 w (k0_pay1 w x1 (slab 0 inb_S8x176x1024_S1x176x1024_0_0_0 x0) x1 (slab 1 inb_S8x176x1024_S1x176x1024_1_0_0 x0) x1 (slab 2 inb_S8x176x1024_S1x176x1024_2_0_0 x0))
      (k0_pay2 w x1 (slab 3 inb_S8x176x1024_S1x176x1024_3_0_0 x0))
      x1 (slab 4 inb_S8x176x1024_S1x176x1024_4_0_0 x0) x1 (slab 5 inb_S8x176x1024_S1x176x1024_5_0_0 x0) x1 (slab 6 inb_S8x176x1024_S1x176x1024_6_0_0 x0))
    (k0_pay4 w x1 (slab 7 inb_S8x176x1024_S1x176x1024_7_0_0 x0))

/-- The kernel's gradient, at an index. -/
theorem grad_apply (w : BitVec 32) (hw : w.toNat < 8) (x0 : Vec Ideal S8x176x1024 .bf16) (own : Fin 8 → EReal) (x1 : Vec Ideal S1x176x1024 .bf16) (y : S176x1024.Idx)
    (h : x1 (ix3 0 (y 0) (y 1)) = own ⟨w.toNat, hw⟩) :
    grad w x0 x1 y = total w own (fun k => x0 (ix3 k (y 0) (y 1))) := by
  rw [total_eq w hw, Fin.sum_univ_eight, ← h]
  idx_vars y
  unfold grad
  pointwise [slab, k0_pay1, k0_pay2, k0_pay3, k0_pay4, k0_pay5]
  rfl

theorem ref6 (x0 x1 : Vec Ideal S8x704x1024 .bf16) (x2 : IVec S_ 32) (y : S704x1024.Idx) :
    val_main_v6 (F := Ideal) x0 x1 x2 y = total (x2 ix0) (fun k => x1 (ix3 k (y 0) (y 1))) (fun k => x0 (ix3 k (y 0) (y 1))) := by
  idx_vars y
  unfold total
  pointwise [val_main_v1, val_main_v2, val_main_v3, val_main_v4, val_main_v5, val_main_cst, val_main_v6]

theorem word_eq : View.readAt (Elt Ideal) (View.whole main_v0) (Rect.unit (s := S1) ![0] S1.size inb_S1_S1_0).toLoadRect (tbl m 0) (Shape.Idx.first (by decide)) = me m := by
  rw [table]; rfl

variable (hO : Ok m)

/-- What the body leaves in its four result blocks: the gradient and the step made of it. -/
theorem outs (t : Fin (cfgM m hO).N) (y : S176x1024.Idx) :
    (outsAt0 m hO c t).1 y = grad (me m) (iblk m hO c 0 t) (iblk m hO c 1 t) y
    ∧ (outsAt0 m hO c t).2.1 y = change (iblk m hO c 2 t y) (grad (me m) (iblk m hO c 0 t) (iblk m hO c 1 t) y) (iblk m hO c 3 t y) (iblk m hO c 4 t y)
    ∧ (outsAt0 m hO c t).2.2.1 y = first (grad (me m) (iblk m hO c 0 t) (iblk m hO c 1 t) y) (iblk m hO c 3 t y)
    ∧ (outsAt0 m hO c t).2.2.2 y = second (grad (me m) (iblk m hO c 0 t) (iblk m hO c 1 t) y) (iblk m hO c 4 t y) := by
  unfold outsAt0
  frame_out
  rw [← word_eq m]
  unfold grad
  have e0 := (hs0_0 m hO t).read_unread (iblk m hO c 0 t)
  have e1 := (hs0_1 m hO t).read_unread (iblk m hO c 1 t)
  have e2 := (hs0_2 m hO t).read_unread (iblk m hO c 2 t)
  have e3 := (hs0_3 m hO t).read_unread (iblk m hO c 3 t)
  have e4 := (hs0_4 m hO t).read_unread (iblk m hO c 4 t)
  generalize View.read (Elt Ideal) (ms0_0 m hO t).view ((hs0_0 m hO t).unread (iblk m hO c 0 t)) = z0 at e0 ⊢
  generalize View.read (Elt Ideal) (ms0_1 m hO t).view ((hs0_1 m hO t).unread (iblk m hO c 1 t)) = z1 at e1 ⊢
  generalize View.read (Elt Ideal) (ms0_2 m hO t).view ((hs0_2 m hO t).unread (iblk m hO c 2 t)) = z2 at e2 ⊢
  generalize View.read (Elt Ideal) (ms0_3 m hO t).view ((hs0_3 m hO t).unread (iblk m hO c 3 t)) = z3 at e3 ⊢
  generalize View.read (Elt Ideal) (ms0_4 m hO t).view ((hs0_4 m hO t).unread (iblk m hO c 4 t)) = z4 at e4 ⊢
  subst e0 e1 e2 e3 e4
  exact ⟨rfl, rfl, rfl, rfl⟩

/-- The table of the first device, for the facts in which the device's number plays no part. -/
def zero : (pcfg0 (F := Ideal)).Adm := ⟨fun | 0 => fun _ => (0 : BitVec 32), by decide +kernel⟩

theorem cover : ((cfg0 zero).win 5).CoversWhere (fun β => 4 ≤ β (0 : Fin 2)) ∧ ((cfg0 zero).win 6).CoversWhere (fun β => 4 ≤ β (0 : Fin 2))
    ∧ ((cfg0 zero).win 7).CoversWhere (fun β => 4 ≤ β (0 : Fin 2)) ∧ ((cfg0 zero).win 8).CoversWhere (fun β => 4 ≤ β (0 : Fin 2)) := by
  decide +kernel

theorem idxs (t : Fin (cfgM m hO).N) : (∀ a : Fin 3, ((cfgM m hO).win 0).index t a = ![0, t.val, 0] a)
    ∧ (∀ a : Fin 3, ((cfgM m hO).win 1).index t a = ![(me m).toNat, t.val, 0] a)
    ∧ (∀ a : Fin 2, ((cfgM m hO).win 2).index t a = ![t.val + 4, 0] a) ∧ (∀ a : Fin 2, ((cfgM m hO).win 3).index t a = ![t.val + 4, 0] a)
    ∧ (∀ a : Fin 2, ((cfgM m hO).win 4).index t a = ![t.val + 4, 0] a) ∧ (∀ a : Fin 2, ((cfgM m hO).win 5).index t a = ![t.val + 4, 0] a)
    ∧ (∀ a : Fin 2, ((cfgM m hO).win 6).index t a = ![t.val + 4, 0] a) ∧ (∀ a : Fin 2, ((cfgM m hO).win 7).index t a = ![t.val + 4, 0] a)
    ∧ (∀ a : Fin 2, ((cfgM m hO).win 8).index t a = ![t.val + 4, 0] a) :=
  have h := blocks t
  ⟨congrFun h.1, congrFun ((own_block m (grid0.coords t)).trans (by rw [h.2.1])), congrFun h.2.2.1, congrFun h.2.2.2.1, congrFun h.2.2.2.2.1,
    congrFun h.2.2.2.2.2.1, congrFun h.2.2.2.2.2.2.1, congrFun h.2.2.2.2.2.2.2.1, congrFun h.2.2.2.2.2.2.2.2⟩

/-- Where an element of a point's block lies in the gradient, -/
def place (t : Fin (cfgM m hO).N) (y : S176x1024.Idx) : S704x1024.Idx :=
  ix2 ⟨t.val * 176 + (y 0).val, by have h : t.val < 4 := t.isLt; have h' : (y 0).val < 176 := (y 0).isLt; omega⟩ (y 1)

/-- and where in the weights. -/
def spot (t : Fin (cfgM m hO).N) (y : S176x1024.Idx) : S1408x1024.Idx :=
  ix2 ⟨(t.val + 4) * 176 + (y 0).val, by have h : t.val < 4 := t.isLt; have h' : (y 0).val < 176 := (y 0).isLt; omega⟩ (y 1)

/-- The gradient's element of one of the weights. -/
def half (z : S1408x1024.Idx) : S704x1024.Idx := ix2 ⟨(z 0).val % 704, Nat.mod_lt _ (by decide)⟩ (z 1)

theorem half_eq (y : S704x1024.Idx) (z : S1408x1024.Idx) (h0 : (z 0).val = 704 + (y 0).val) (h1 : (z 1).val = (y 1).val) : half z = y := by
  have hy : (y 0).val < 704 := (y 0).isLt
  funext a
  match a with
  | 0 => exact Fin.ext (show (z 0).val % 704 = (y 0).val by omega)
  | 1 => exact Fin.ext h1

theorem half_spot (t : Fin (cfgM m hO).N) (y : S176x1024.Idx) : half (spot m hO t y) = place m hO t y :=
  half_eq _ _ (show (t.val + 4) * 176 + (y 0).val = 704 + (t.val * 176 + (y 0).val) by omega) rfl

theorem inputs (t : Fin (cfgM m hO).N) (y : S176x1024.Idx) :
    (((cfgM m hO).win 2).blk t).view.emb y = spot m hO t y ∧ (((cfgM m hO).win 3).blk t).view.emb y = spot m hO t y
    ∧ (((cfgM m hO).win 4).blk t).view.emb y = spot m hO t y := by
  unfold spot
  idx_vars y
  refine ⟨?_, ?_, ?_⟩ <;> blk_ext [idxs m hO t]

theorem embs (t : Fin (cfgM m hO).N) (y : S176x1024.Idx) :
    (((cfgM m hO).win 5).blk t).view.emb y = spot m hO t y ∧ (((cfgM m hO).win 6).blk t).view.emb y = spot m hO t y
    ∧ (((cfgM m hO).win 7).blk t).view.emb y = spot m hO t y ∧ (((cfgM m hO).win 8).blk t).view.emb y = spot m hO t y := by
  unfold spot
  idx_vars y
  refine ⟨?_, ?_, ?_, ?_⟩ <;> blk_ext [idxs m hO t]

theorem blk2 (t : Fin (cfgM m hO).N) (y : S176x1024.Idx) : iblk m hO c 2 t y = argW m c (spot m hO t y) := by
  unfold spot
  idx_vars y
  blk_point [iblk, V, idxs m hO t]
theorem blk3 (t : Fin (cfgM m hO).N) (y : S176x1024.Idx) : iblk m hO c 3 t y = argM m c (spot m hO t y) := by
  unfold spot
  idx_vars y
  blk_point [iblk, V, idxs m hO t]
theorem blk4 (t : Fin (cfgM m hO).N) (y : S176x1024.Idx) : iblk m hO c 4 t y = argV m c (spot m hO t y) := by
  unfold spot
  idx_vars y
  blk_point [iblk, V, idxs m hO t]

/-- The summed gradient, -/
def sums : Vec Ideal S704x1024 .f32 := val_main_v6 (F := Ideal) (argR m c) (argO m c) (m ((c : Thread nD τ).loc main_arg2))
/-- and what the call leaves in its arrays: the gradient and the step with it in this layer's rows, what they held in the other's. -/
def kept (a b : Vec Ideal S1408x1024 .f32) : Vec Ideal S1408x1024 .f32 := fun z => if 4 ≤ (z 0).val / 176 then a z else b z
def grads : Vec Ideal S1408x1024 .f32 := fun z => sums m c (half z)
def changes : Vec Ideal S1408x1024 .f32 := fun z => change (argW m c z) (sums m c (half z)) (argM m c z) (argV m c z)
def firsts : Vec Ideal S1408x1024 .f32 := fun z => first (sums m c (half z)) (argM m c z)
def seconds : Vec Ideal S1408x1024 .f32 := fun z => second (sums m c (half z)) (argV m c z)

/-- The gradient of a point's block is the reference's. -/
theorem grad_eq (hw : (me m).toNat < 8) (t : Fin (cfgM m hO).N) (y : S176x1024.Idx) :
    grad (me m) (iblk m hO c 0 t) (iblk m hO c 1 t) y
      = sums m c (place m hO t y) := by
  have ec : c = 0 := Subsingleton.elim _ _
  have hy : ∀ k : Fin 8, iblk m hO c 0 t (ix3 k (y 0) (y 1)) = argR m c (ix3 k (place m hO t y 0) (place m hO t y 1)) := by
    unfold place
    idx_vars y
    intro k
    blk_point [iblk, V, idxs m hO t]
  have hx : iblk m hO c 1 t (ix3 0 (y 0) (y 1)) = argO m c (ix3 ⟨(me m).toNat, hw⟩ (place m hO t y 0) (place m hO t y 1)) := by
    unfold place
    idx_vars y
    blk_point [iblk, V, idxs m hO t]
  refine (grad_apply (me m) hw _ (fun k => argO m c (ix3 k (place m hO t y 0) (place m hO t y 1))) _ y hx).trans (Eq.trans ?_ (ref6 _ _ _ _).symm)
  subst ec
  exact congrArg (total (me m) _) (funext hy)

/-- The four result arrays of the call. -/
theorem final5 (hw : (me m).toNat < 8) : (dats m hO 0 c).arrAt 5 (cfgM m hO).N = kept (grads m c) ((dats m hO 0 c).A 5) := by
  refine (dats m hO 0 c).arrAt_eq_of_coversWhere 5 _ (fun β => 4 ≤ β (0 : Fin 2)) cover.1 (fun t _ y => ?_) (fun j => Iff.rfl)
  blk_simp
  rw [after0_5]
  refine (outs m c hO t y).1.trans ?_
  rw [(embs m hO t y).1, grad_eq m c hO hw t y, ← half_spot m hO t y]
  rfl

theorem final6 (hw : (me m).toNat < 8) : (dats m hO 0 c).arrAt 6 (cfgM m hO).N = kept (changes m c) ((dats m hO 0 c).A 6) := by
  refine (dats m hO 0 c).arrAt_eq_of_coversWhere 6 _ (fun β => 4 ≤ β (0 : Fin 2)) cover.2.1 (fun t _ y => ?_) (fun j => Iff.rfl)
  blk_simp
  rw [after0_6]
  refine (outs m c hO t y).2.1.trans ?_
  rw [(embs m hO t y).2.1, grad_eq m c hO hw t y, ← half_spot m hO t y, blk2 m c hO t y, blk3 m c hO t y, blk4 m c hO t y]
  rfl

theorem final7 (hw : (me m).toNat < 8) : (dats m hO 0 c).arrAt 7 (cfgM m hO).N = kept (firsts m c) ((dats m hO 0 c).A 7) := by
  refine (dats m hO 0 c).arrAt_eq_of_coversWhere 7 _ (fun β => 4 ≤ β (0 : Fin 2)) cover.2.2.1 (fun t _ y => ?_) (fun j => Iff.rfl)
  blk_simp
  rw [after0_7]
  refine (outs m c hO t y).2.2.1.trans ?_
  rw [(embs m hO t y).2.2.1, grad_eq m c hO hw t y, ← half_spot m hO t y, blk3 m c hO t y]
  rfl

theorem final8 (hw : (me m).toNat < 8) : (dats m hO 0 c).arrAt 8 (cfgM m hO).N = kept (seconds m c) ((dats m hO 0 c).A 8) := by
  refine (dats m hO 0 c).arrAt_eq_of_coversWhere 8 _ (fun β => 4 ≤ β (0 : Fin 2)) cover.2.2.2 (fun t _ y => ?_) (fun j => Iff.rfl)
  blk_simp
  rw [after0_8]
  refine (outs m c hO t y).2.2.2.trans ?_
  rw [(embs m hO t y).2.2.2, grad_eq m c hO hw t y, ← half_spot m hO t y, blk4 m c hO t y]
  rfl

/-! ## The results, cut out after the call -/

/-- What the core's arrays hold when the call ends. -/
def left : Valuation τ sig (Elt Ideal) :=
  Pipeline.withArrays (Pipeline.pin pcfgs (fun _ => adm m hO) 0).spec c (V0 m c) fun w => (dats m hO 0 c).arrAt w (Pipeline.pin pcfgs (fun _ => adm m hO) 0).N

theorem left_eq (hw : (me m).toNat < 8) : left m c hO (Proc.devRef .tc main_v1_0) = kept (grads m c) ((dats m hO 0 c).A 5) ∧ left m c hO (Proc.devRef .tc main_v1_1) = kept (changes m c) ((dats m hO 0 c).A 6)
    ∧ left m c hO (Proc.devRef .tc main_v1_2) = kept (firsts m c) ((dats m hO 0 c).A 7) ∧ left m c hO (Proc.devRef .tc main_v1_3) = kept (seconds m c) ((dats m hO 0 c).A 8) :=
  have e w := Pipeline.withArrays_arr (Pipeline.pin pcfgs (fun _ => adm m hO) 0).spec (by exact (by decide : Function.Injective (Pipeline.arrRef spec0))) c (V0 m c)
    (fun w => (dats m hO 0 c).arrAt w (Pipeline.pin pcfgs (fun _ => adm m hO) 0).N) w
  ⟨(e 5).trans (final5 m c hO hw), (e 6).trans (final6 m c hO hw), (e 7).trans (final7 m c hO hw), (e 8).trans (final8 m c hO hw)⟩

/-- What they hold at the end. -/
def out (b : Ref sig .tc) : Buf (Elt Ideal) ((c : Thread nD τ).loc b) := StableHlo.after hostOps1 (left m c hO) (Proc.devRef .tc b)

theorem out_eq {r} (h : Pipeline.FramePost (Pipeline.pin pcfgs fun _ => adm m hO) (dats m hO) 0 (Pipeline.afterTail pcfgs (fun _ => adm m hO) (dats m hO) 0 (V0 m) [hostOps1]) r)
    (b : Ref sig .tc) (h0 : b.isScoped = false) (h1 : ∀ w, Pipeline.arrRef spec0 w ≠ b) :
    r.2.mem ((c : Thread nD τ).loc b) = out m c hO b :=
  (h c).2 b (Pipeline.mem_restRefs_of b h0 h1)

/-- A slice of this layer's rows is of what was written. -/
theorem written (a b : Vec Ideal S1408x1024 .f32) (y : S704x1024.Idx) (z : S1408x1024.Idx) {x : EReal} (h0 : (z 0).val = 704 + (y 0).val) (h1 : (z 1).val = (y 1).val)
    (h : half z = y → a z = x) : kept a b z = x :=
  (if_pos (by omega)).trans (h (half_eq y z h0 h1))

end Ideal

/-! ## The claims -/

/-- The kernel's table of bodies is the idealised program's, which has the same text. -/
theorem bodies : Cert.FfnWinUpdate1.defs₀ (F := Bits) = Cert.FfnWinUpdate1Ideal.defs₀ (F := Bits) := by
  unfold Cert.FfnWinUpdate1.defs₀ Cert.FfnWinUpdate1Ideal.defs₀
  congr 1
  funext l x
  match l, x with
  | 0, (t, s) => rfl

theorem tables : Cert.FfnWinUpdate1.defs (F := Bits) = Cert.FfnWinUpdate1Ideal.defs (F := Bits) := by
  unfold Cert.FfnWinUpdate1.defs Cert.FfnWinUpdate1Ideal.defs
  rw [bodies]
  rfl

set_option maxHeartbeats 1760000 in
/-- And so is what it does before and after the call. -/
theorem mains : Cert.FfnWinUpdate1.main (F := Bits) = Cert.FfnWinUpdate1Ideal.main (F := Bits) := funext fun _ => rfl

theorem frame_kernel : Cert.quiescent_FfnWinUpdate1 := fun m ρ h => by
  rw [tables, mains]
  exact frame (F := Bits) m ρ (ok m (pre_kernel m h))

theorem frame_ideal : Cert.quiescent_FfnWinUpdate1Ideal := fun m ρ h => frame (F := Ideal) m ρ (ok m (pre_ideal m h))

theorem frame_reference : Cert.quiescent_FfnWinUpdate1ReferenceIdeal := fun m ρ _ =>
  (θ_run _ _ _).mono (fun r h => ⟨fun c => (h c).2.2.2.2, sem_eq_zero_of_no_sems (by decide) r.2⟩)
    (Cert.FfnWinUpdate1ReferenceIdeal.Value.run (F := Ideal) m ρ)

theorem algebraic : Cert.algebraic_FfnWinUpdate1Ideal_FfnWinUpdate1ReferenceIdeal := by
  intro m g m' g' hpre hargs
  have hw := pre_ideal m hpre
  have hO := ok m hw
  refine ⟨(out m · hO main_v2), (out m · hO main_v3), (out m · hO main_v4), (out m · hO main_v5), ?_, ?_⟩
  · refine (θ_run _ _ _).mono (fun r h c => ?_) (θ_run_and (run_main m g hO) (frame m g hO))
    exact ⟨out_eq m c hO h.1 _ (by decide) (by decide), out_eq m c hO h.1 _ (by decide) (by decide),
      out_eq m c hO h.1 _ (by decide) (by decide), out_eq m c hO h.1 _ (by decide) (by decide), h.2.1 c⟩
  refine (θ_run _ _ _).mono (fun r h c => ?_) (Cert.FfnWinUpdate1ReferenceIdeal.Value.run (F := Ideal) m' g')
  obtain ⟨e0, e1, e2, e3, e4, e5⟩ := hargs c
  obtain ⟨l5, l6, l7, l8⟩ := left_eq m c hO hw
  obtain ⟨h0, h1, h2, h3, hk⟩ := h c
  refine ⟨h0.trans ?_, h1.trans ?_, h2.trans ?_, h3.trans ?_, hk⟩
  · rw [val_main_v6_eq, e0, e1, e2]
    beta_reduce
    unfold out
    entry_read
    rw [l5]
    funext y
    refine (written (grads m c) _ y (fun a => ⟨(![704, 0] : Fin 2 → ℕ) a + (y a).val, _⟩) ?_ ?_ ?_).symm
    · rfl
    · exact Nat.zero_add _
    · intro e
      unfold grads
      rw [e]
      rfl
  · rw [val_main_v32_eq, e0, e1, e2, e3, e4, e5]
    beta_reduce
    unfold out
    entry_read
    rw [l6]
    funext y
    refine (written (changes m c) _ y (fun a => ⟨(![704, 0] : Fin 2 → ℕ) a + (y a).val, _⟩) ?_ ?_ ?_).symm
    · rfl
    · exact Nat.zero_add _
    · intro e
      unfold changes
      rw [e]
      rfl
  · rw [val_main_v13_eq, e0, e1, e2, e4]
    beta_reduce
    unfold out
    entry_read
    rw [l7]
    funext y
    refine (written (firsts m c) _ y (fun a => ⟨(![704, 0] : Fin 2 → ℕ) a + (y a).val, _⟩) ?_ ?_ ?_).symm
    · rfl
    · exact Nat.zero_add _
    · intro e
      unfold firsts
      rw [e]
      rfl
  · rw [val_main_v19_eq, e0, e1, e2, e5]
    beta_reduce
    unfold out
    entry_read
    rw [l8]
    funext y
    refine (written (seconds m c) _ y (fun a => ⟨(![704, 0] : Fin 2 → ℕ) a + (y a).val, _⟩) ?_ ?_ ?_).symm
    · rfl
    · exact Nat.zero_add _
    · intro e
      unfold seconds
      rw [e]
      rfl

end Cert.Step.FfnWinUpdate1
-- ==== Proof.FfnWoutUpdateClaim.lean ====
/- The step of the second weight of the feed-forward layers, layer 0's rows beside layer 1's. -/
module

public import proofs.«01_k».proof.Defs
public import proofs.«01_k».proof.Proof.AdamStep
public import proofs.«01_k».proof.Proof.Gen.Pre_ffn_wout_update_on_mesh
public import proofs.«01_k».proof.Proof.Gen.FfnWoutUpdate
public import proofs.«01_k».proof.Proof.Gen.FfnWoutUpdateIdeal.Frame
public import proofs.«01_k».proof.Proof.Gen.FfnWoutUpdateReferenceIdeal.Run
public import proofs.«01_k».proof.Proof.Gen.FfnWoutUpdateReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.FfnWoutUpdate

open Idealize.ShloMosaic Idealize.ShloMosaic.TcCoe Idealize.SL.Sem
open Cert.Step.Adam

open Cert.FfnWoutUpdateIdeal Cert.FfnWoutUpdateIdeal.Gen
open Cert.FfnWoutUpdateReferenceIdeal.Read
open Cert.FfnWoutUpdateReferenceIdeal (S352x1024)

/-! ## The device's number -/

section Number
variable {F : FTy → Type} [FloatOps F] (m : (ℓ : Loc nD τ sig) → Buf (Elt F) ℓ)

/-- The device's number. -/
abbrev me : BitVec 32 := m (((0 : Dev nD) : Thread nD τ).loc main_arg2) ix0

/-- The table holds it. -/
theorem table : tbl m 0 = fun _ => me m := by
  show StableHlo.after hostOps0 (fun b => m (0, b)) (Proc.devRef .tc main_v0) = _
  entry_read
  funext y
  idx_vars y
  pointwise

/-- The blocks of the grid's points. -/
theorem blocks : ∀ t : Fin grid0.N, cc0_transform_0 (grid0.coords t) = ![0, t.val, 0] ∧ (grid0.coords t 0).val = t.val ∧ cc0_transform_2 (grid0.coords t) = ![t.val, 0]
    ∧ cc0_transform_3 (grid0.coords t) = ![t.val, 0] ∧ cc0_transform_4 (grid0.coords t) = ![t.val, 0]
    ∧ cc0_transform_9 (grid0.coords t) = ![t.val, 0] ∧ cc0_transform_10 (grid0.coords t) = ![t.val, 0]
    ∧ cc0_transform_11 (grid0.coords t) = ![t.val, 0] ∧ cc0_transform_12 (grid0.coords t) = ![t.val, 0] := by
  decide +kernel

theorem own_block (i : grid0.Coords) : cc0_transform_1 inb_S1_S1_0 numel1_S1 (tbl m) i = ![(me m).toNat, (i 0).val, 0] := by
  have e : (tbl m).at 0 (Rect.unit (s := S1) ![0] S1.size inb_S1_S1_0) numel1_S1 = me m := by
    unfold Pipeline.Prefetch.Contents.at; rw [table]
  unfold cc0_transform_1
  rw [e]
  have h : (i 0).val < 2 ^ 32 := lt_trans (show (i 0).val < 2 from (i 0).isLt) (by decide)
  simp only [BitVec.toNat_ofNat, Nat.mod_eq_of_lt h]

theorem inside : ∀ (k : Fin 8) (i : grid0.Coords), ∃ h : (∀ a, ((![k.val, (i 0).val, 0] : Fin 3 → ℕ) a + 1) * S1x176x1024.size a ≤ S8x352x1024.size a),
    EltTy.bits .bf16 = 32 ∨ (Rect.block (s := S8x352x1024) S1x176x1024.size ![k.val, (i 0).val, 0] h).WholeWords (EltTy.packing .bf16) := by
  decide +kernel

/-- Its block of the own parts lies in their array. -/
theorem ok (hw : (me m).toNat < 8) : Ok m := by
  intro i
  rw [own_block]
  exact inside ⟨(me m).toNat, hw⟩ i

end Number

theorem pre_kernel (m) (h : Cert.Pre_FfnWoutUpdate m) : (me (F := Bits) m).toNat < 8 := device _ (congrFun (h 0) ix0)
theorem pre_ideal (m) (h : Cert.Pre_FfnWoutUpdateIdeal m) : (me (F := Ideal) m).toNat < 8 := device _ (congrFun (h 0) ix0)

section Ideal

variable (m : (ℓ : Loc nD τ sig) → Buf (Elt Ideal) ℓ) (c : Dev nD)

abbrev argR : Vec Ideal S8x352x1024 .bf16 := m ((c : Thread nD τ).loc main_arg0)
abbrev argO : Vec Ideal S8x352x1024 .bf16 := m ((c : Thread nD τ).loc main_arg1)
abbrev argW : Vec Ideal S704x1024 .f32 := m ((c : Thread nD τ).loc main_arg3)
abbrev argM : Vec Ideal S704x1024 .f32 := m ((c : Thread nD τ).loc main_arg4)
abbrev argV : Vec Ideal S704x1024 .f32 := m ((c : Thread nD τ).loc main_arg5)

abbrev slab (k : ℕ) (h : ∀ a, (![k, 0, 0] : Fin 3 → ℕ) a + S1x176x1024.size a ≤ S8x176x1024.size a) (x : Vec Ideal S8x176x1024 .bf16) : Vec Ideal S1x176x1024 .bf16 :=
  View.ld x (Rect.unit ![k, 0, 0] ![1, 176, 1024] h)

def grad (w : BitVec 32) (x0 : Vec Ideal S8x176x1024 .bf16) (x1 : Vec Ideal S1x176x1024 .bf16) : FVec Ideal S176x1024 .f32 :=
  k0_pay5 (k0_pay3 w (k0_pay1 w x1 (slab 0 inb_S8x176x1024_S1x176x1024_0_0_0 x0) x1 (slab 1 inb_S8x176x1024_S1x176x1024_1_0_0 x0) x1 (slab 2 inb_S8x176x1024_S1x176x1024_2_0_0 x0))
      (k0_pay2 w x1 (slab 3 inb_S8x176x1024_S1x176x1024_3_0_0 x0))
      x1 (slab 4 inb_S8x176x1024_S1x176x1024_4_0_0 x0) x1 (slab 5 inb_S8x176x1024_S1x176x1024_5_0_0 x0) x1 (slab 6 inb_S8x176x1024_S1x176x1024_6_0_0 x0))
    (k0_pay4 w x1 (slab 7 inb_S8x176x1024_S1x176x1024_7_0_0 x0))

/-- The kernel's gradient, at an index. -/
theorem grad_apply (w : BitVec 32) (hw : w.toNat < 8) (x0 : Vec Ideal S8x176x1024 .bf16) (own : Fin 8 → EReal) (x1 : Vec Ideal S1x176x1024 .bf16) (y : S176x1024.Idx)
    (h : x1 (ix3 0 (y 0) (y 1)) = own ⟨w.toNat, hw⟩) :
    grad w x0 x1 y = total w own (fun k => x0 (ix3 k (y 0) (y 1))) := by
  rw [total_eq w hw, Fin.sum_univ_eight, ← h]
  idx_vars y
  unfold grad
  pointwise [slab, k0_pay1, k0_pay2, k0_pay3, k0_pay4, k0_pay5]
  rfl

theorem ref6 (x0 x1 : Vec Ideal S8x352x1024 .bf16) (x2 : IVec S_ 32) (y : S352x1024.Idx) :
    val_main_v6 (F := Ideal) x0 x1 x2 y = total (x2 ix0) (fun k => x1 (ix3 k (y 0) (y 1))) (fun k => x0 (ix3 k (y 0) (y 1))) := by
  idx_vars y
  unfold total
  pointwise [val_main_v1, val_main_v2, val_main_v3, val_main_v4, val_main_v5, val_main_cst, val_main_v6]

theorem word_eq : View.readAt (Elt Ideal) (View.whole main_v0) (Rect.unit (s := S1) ![0] S1.size inb_S1_S1_0).toLoadRect (tbl m 0) (Shape.Idx.first (by decide)) = me m := by
  rw [table]; rfl

variable (hO : Ok m)

/-- What the body leaves in its four result blocks: the gradient and the step made of it. -/
theorem outs (t : Fin (cfgM m hO).N) (y : S176x1024.Idx) :
    (outsAt0 m hO c t).1 y = grad (me m) (iblk m hO c 0 t) (iblk m hO c 1 t) y
    ∧ (outsAt0 m hO c t).2.1 y = change (iblk m hO c 2 t y) (grad (me m) (iblk m hO c 0 t) (iblk m hO c 1 t) y) (iblk m hO c 3 t y) (iblk m hO c 4 t y)
    ∧ (outsAt0 m hO c t).2.2.1 y = first (grad (me m) (iblk m hO c 0 t) (iblk m hO c 1 t) y) (iblk m hO c 3 t y)
    ∧ (outsAt0 m hO c t).2.2.2 y = second (grad (me m) (iblk m hO c 0 t) (iblk m hO c 1 t) y) (iblk m hO c 4 t y) := by
  unfold outsAt0
  frame_out
  rw [← word_eq m]
  unfold grad
  have e0 := (hs0_0 m hO t).read_unread (iblk m hO c 0 t)
  have e1 := (hs0_1 m hO t).read_unread (iblk m hO c 1 t)
  have e2 := (hs0_2 m hO t).read_unread (iblk m hO c 2 t)
  have e3 := (hs0_3 m hO t).read_unread (iblk m hO c 3 t)
  have e4 := (hs0_4 m hO t).read_unread (iblk m hO c 4 t)
  generalize View.read (Elt Ideal) (ms0_0 m hO t).view ((hs0_0 m hO t).unread (iblk m hO c 0 t)) = z0 at e0 ⊢
  generalize View.read (Elt Ideal) (ms0_1 m hO t).view ((hs0_1 m hO t).unread (iblk m hO c 1 t)) = z1 at e1 ⊢
  generalize View.read (Elt Ideal) (ms0_2 m hO t).view ((hs0_2 m hO t).unread (iblk m hO c 2 t)) = z2 at e2 ⊢
  generalize View.read (Elt Ideal) (ms0_3 m hO t).view ((hs0_3 m hO t).unread (iblk m hO c 3 t)) = z3 at e3 ⊢
  generalize View.read (Elt Ideal) (ms0_4 m hO t).view ((hs0_4 m hO t).unread (iblk m hO c 4 t)) = z4 at e4 ⊢
  subst e0 e1 e2 e3 e4
  exact ⟨rfl, rfl, rfl, rfl⟩

/-- The table of the first device, for the facts in which the device's number plays no part. -/
def zero : (pcfg0 (F := Ideal)).Adm := ⟨fun | 0 => fun _ => (0 : BitVec 32), by decide +kernel⟩

theorem cover : ((cfg0 zero).win 5).CoversWhere (fun β => β (0 : Fin 2) < 2) ∧ ((cfg0 zero).win 6).CoversWhere (fun β => β (0 : Fin 2) < 2)
    ∧ ((cfg0 zero).win 7).CoversWhere (fun β => β (0 : Fin 2) < 2) ∧ ((cfg0 zero).win 8).CoversWhere (fun β => β (0 : Fin 2) < 2) := by
  decide +kernel

theorem idxs (t : Fin (cfgM m hO).N) : (∀ a : Fin 3, ((cfgM m hO).win 0).index t a = ![0, t.val, 0] a)
    ∧ (∀ a : Fin 3, ((cfgM m hO).win 1).index t a = ![(me m).toNat, t.val, 0] a)
    ∧ (∀ a : Fin 2, ((cfgM m hO).win 2).index t a = ![t.val, 0] a) ∧ (∀ a : Fin 2, ((cfgM m hO).win 3).index t a = ![t.val, 0] a)
    ∧ (∀ a : Fin 2, ((cfgM m hO).win 4).index t a = ![t.val, 0] a) ∧ (∀ a : Fin 2, ((cfgM m hO).win 5).index t a = ![t.val, 0] a)
    ∧ (∀ a : Fin 2, ((cfgM m hO).win 6).index t a = ![t.val, 0] a) ∧ (∀ a : Fin 2, ((cfgM m hO).win 7).index t a = ![t.val, 0] a)
    ∧ (∀ a : Fin 2, ((cfgM m hO).win 8).index t a = ![t.val, 0] a) :=
  have h := blocks t
  ⟨congrFun h.1, congrFun ((own_block m (grid0.coords t)).trans (by rw [h.2.1])), congrFun h.2.2.1, congrFun h.2.2.2.1, congrFun h.2.2.2.2.1,
    congrFun h.2.2.2.2.2.1, congrFun h.2.2.2.2.2.2.1, congrFun h.2.2.2.2.2.2.2.1, congrFun h.2.2.2.2.2.2.2.2⟩

/-- Where an element of a point's block lies in the gradient, -/
def place (t : Fin (cfgM m hO).N) (y : S176x1024.Idx) : S352x1024.Idx :=
  ix2 ⟨t.val * 176 + (y 0).val, by have h : t.val < 2 := t.isLt; have h' : (y 0).val < 176 := (y 0).isLt; omega⟩ (y 1)

/-- and where in the weights. -/
def spot (t : Fin (cfgM m hO).N) (y : S176x1024.Idx) : S704x1024.Idx :=
  ix2 ⟨(t.val) * 176 + (y 0).val, by have h : t.val < 2 := t.isLt; have h' : (y 0).val < 176 := (y 0).isLt; omega⟩ (y 1)

/-- The gradient's element of one of the weights. -/
def half (z : S704x1024.Idx) : S352x1024.Idx := ix2 ⟨(z 0).val % 352, Nat.mod_lt _ (by decide)⟩ (z 1)

theorem half_eq (y : S352x1024.Idx) (z : S704x1024.Idx) (h0 : (z 0).val = (y 0).val) (h1 : (z 1).val = (y 1).val) : half z = y := by
  have hy : (y 0).val < 352 := (y 0).isLt
  funext a
  match a with
  | 0 => exact Fin.ext (show (z 0).val % 352 = (y 0).val by omega)
  | 1 => exact Fin.ext h1

theorem half_spot (t : Fin (cfgM m hO).N) (y : S176x1024.Idx) : half (spot m hO t y) = place m hO t y :=
  half_eq _ _ (show (t.val) * 176 + (y 0).val = (t.val * 176 + (y 0).val) by omega) rfl

theorem inputs (t : Fin (cfgM m hO).N) (y : S176x1024.Idx) :
    (((cfgM m hO).win 2).blk t).view.emb y = spot m hO t y ∧ (((cfgM m hO).win 3).blk t).view.emb y = spot m hO t y
    ∧ (((cfgM m hO).win 4).blk t).view.emb y = spot m hO t y := by
  unfold spot
  idx_vars y
  refine ⟨?_, ?_, ?_⟩ <;> blk_ext [idxs m hO t]

theorem embs (t : Fin (cfgM m hO).N) (y : S176x1024.Idx) :
    (((cfgM m hO).win 5).blk t).view.emb y = spot m hO t y ∧ (((cfgM m hO).win 6).blk t).view.emb y = spot m hO t y
    ∧ (((cfgM m hO).win 7).blk t).view.emb y = spot m hO t y ∧ (((cfgM m hO).win 8).blk t).view.emb y = spot m hO t y := by
  unfold spot
  idx_vars y
  refine ⟨?_, ?_, ?_, ?_⟩ <;> blk_ext [idxs m hO t]

theorem blk2 (t : Fin (cfgM m hO).N) (y : S176x1024.Idx) : iblk m hO c 2 t y = argW m c (spot m hO t y) := by
  unfold spot
  idx_vars y
  blk_point [iblk, V, idxs m hO t]
theorem blk3 (t : Fin (cfgM m hO).N) (y : S176x1024.Idx) : iblk m hO c 3 t y = argM m c (spot m hO t y) := by
  unfold spot
  idx_vars y
  blk_point [iblk, V, idxs m hO t]
theorem blk4 (t : Fin (cfgM m hO).N) (y : S176x1024.Idx) : iblk m hO c 4 t y = argV m c (spot m hO t y) := by
  unfold spot
  idx_vars y
  blk_point [iblk, V, idxs m hO t]

/-- The summed gradient, -/
def sums : Vec Ideal S352x1024 .f32 := val_main_v6 (F := Ideal) (argR m c) (argO m c) (m ((c : Thread nD τ).loc main_arg2))
/-- and what the call leaves in its arrays: the gradient and the step with it in this layer's rows, what they held in the other's. -/
def kept (a b : Vec Ideal S704x1024 .f32) : Vec Ideal S704x1024 .f32 := fun z => if (z 0).val / 176 < 2 then a z else b z
def grads : Vec Ideal S704x1024 .f32 := fun z => sums m c (half z)
def changes : Vec Ideal S704x1024 .f32 := fun z => change (argW m c z) (sums m c (half z)) (argM m c z) (argV m c z)
def firsts : Vec Ideal S704x1024 .f32 := fun z => first (sums m c (half z)) (argM m c z)
def seconds : Vec Ideal S704x1024 .f32 := fun z => second (sums m c (half z)) (argV m c z)

/-- The gradient of a point's block is the reference's. -/
theorem grad_eq (hw : (me m).toNat < 8) (t : Fin (cfgM m hO).N) (y : S176x1024.Idx) :
    grad (me m) (iblk m hO c 0 t) (iblk m hO c 1 t) y
      = sums m c (place m hO t y) := by
  have ec : c = 0 := Subsingleton.elim _ _
  have hy : ∀ k : Fin 8, iblk m hO c 0 t (ix3 k (y 0) (y 1)) = argR m c (ix3 k (place m hO t y 0) (place m hO t y 1)) := by
    unfold place
    idx_vars y
    intro k
    blk_point [iblk, V, idxs m hO t]
  have hx : iblk m hO c 1 t (ix3 0 (y 0) (y 1)) = argO m c (ix3 ⟨(me m).toNat, hw⟩ (place m hO t y 0) (place m hO t y 1)) := by
    unfold place
    idx_vars y
    blk_point [iblk, V, idxs m hO t]
  refine (grad_apply (me m) hw _ (fun k => argO m c (ix3 k (place m hO t y 0) (place m hO t y 1))) _ y hx).trans (Eq.trans ?_ (ref6 _ _ _ _).symm)
  subst ec
  exact congrArg (total (me m) _) (funext hy)

/-- The four result arrays of the call. -/
theorem final5 (hw : (me m).toNat < 8) : (dats m hO 0 c).arrAt 5 (cfgM m hO).N = kept (grads m c) ((dats m hO 0 c).A 5) := by
  refine (dats m hO 0 c).arrAt_eq_of_coversWhere 5 _ (fun β => β (0 : Fin 2) < 2) cover.1 (fun t _ y => ?_) (fun j => Iff.rfl)
  blk_simp
  rw [after0_5]
  refine (outs m c hO t y).1.trans ?_
  rw [(embs m hO t y).1, grad_eq m c hO hw t y, ← half_spot m hO t y]
  rfl

theorem final6 (hw : (me m).toNat < 8) : (dats m hO 0 c).arrAt 6 (cfgM m hO).N = kept (changes m c) ((dats m hO 0 c).A 6) := by
  refine (dats m hO 0 c).arrAt_eq_of_coversWhere 6 _ (fun β => β (0 : Fin 2) < 2) cover.2.1 (fun t _ y => ?_) (fun j => Iff.rfl)
  blk_simp
  rw [after0_6]
  refine (outs m c hO t y).2.1.trans ?_
  rw [(embs m hO t y).2.1, grad_eq m c hO hw t y, ← half_spot m hO t y, blk2 m c hO t y, blk3 m c hO t y, blk4 m c hO t y]
  rfl

theorem final7 (hw : (me m).toNat < 8) : (dats m hO 0 c).arrAt 7 (cfgM m hO).N = kept (firsts m c) ((dats m hO 0 c).A 7) := by
  refine (dats m hO 0 c).arrAt_eq_of_coversWhere 7 _ (fun β => β (0 : Fin 2) < 2) cover.2.2.1 (fun t _ y => ?_) (fun j => Iff.rfl)
  blk_simp
  rw [after0_7]
  refine (outs m c hO t y).2.2.1.trans ?_
  rw [(embs m hO t y).2.2.1, grad_eq m c hO hw t y, ← half_spot m hO t y, blk3 m c hO t y]
  rfl

theorem final8 (hw : (me m).toNat < 8) : (dats m hO 0 c).arrAt 8 (cfgM m hO).N = kept (seconds m c) ((dats m hO 0 c).A 8) := by
  refine (dats m hO 0 c).arrAt_eq_of_coversWhere 8 _ (fun β => β (0 : Fin 2) < 2) cover.2.2.2 (fun t _ y => ?_) (fun j => Iff.rfl)
  blk_simp
  rw [after0_8]
  refine (outs m c hO t y).2.2.2.trans ?_
  rw [(embs m hO t y).2.2.2, grad_eq m c hO hw t y, ← half_spot m hO t y, blk4 m c hO t y]
  rfl

/-- The reference puts its step before the other layer's rows. -/
theorem joined (a b g : Vec Ideal S704x1024 .f32) (h : ∀ z, (z 0).val < 352 → a z = g z) (h' : ∀ z, ¬(z 0).val < 352 → b z = g z) : kept a b = g := by
  funext z
  unfold kept
  split
  · rename_i k
    exact h z (by omega)
  · rename_i k
    exact h' z (by omega)

/-- The rows of this layer, as the reference takes them. -/
theorem low (x : Vec Ideal S704x1024 .f32) (z : S704x1024.Idx) (hz : (z 0).val < 352) : x z = val_main_v0 (F := Ideal) x (ix2 ⟨(z 0).val, hz⟩ (z 1)) := by
  idx_vars z
  pointwise [val_main_v0]

/-- The arrays the call writes into. -/
theorem given : StableHlo.after hostOps0 (fun b => m (c, b)) (Proc.devRef .tc main_v1_0) = m ((c : Thread nD τ).loc main_arg6)
    ∧ StableHlo.after hostOps0 (fun b => m (c, b)) (Proc.devRef .tc main_v1_1) = m ((c : Thread nD τ).loc main_arg7)
    ∧ StableHlo.after hostOps0 (fun b => m (c, b)) (Proc.devRef .tc main_v1_2) = m ((c : Thread nD τ).loc main_arg8)
    ∧ StableHlo.after hostOps0 (fun b => m (c, b)) (Proc.devRef .tc main_v1_3) = m ((c : Thread nD τ).loc main_arg9) := by
  refine ⟨?_, ?_, ?_, ?_⟩ <;> (entry_read; rfl)

theorem join5 : kept (grads m c) ((dats m hO 0 c).A 5) = val_main_v34 (F := Ideal) (argR m c) (argO m c) (m ((c : Thread nD τ).loc main_arg2)) (m ((c : Thread nD τ).loc main_arg6)) := by
  refine joined _ _ _ (fun z hz => ?_) (fun z hz => ?_)
  · unfold grads
    rw [half_eq (ix2 ⟨(z 0).val, hz⟩ (z 1)) z rfl rfl]
    idx_vars z
    pointwise [val_main_v33, val_main_v34]
    refine Eq.trans ?_ (dif_pos (show z0.val < 352 from hz)).symm
    rfl
  · rw [A_eq]
    idx_vars z
    pointwise [val_main_v33, val_main_v34]
    refine (congrFun (given m c).1 _).trans (Eq.trans ?_ (dif_neg (show ¬z0.val < 352 from hz)).symm)
    exact congrArg (fun k => m ((c : Thread nD τ).loc main_arg6) (ix2 k z1)) (Fin.ext (show z0.val = 352 + (z0.val - 352) by omega))

theorem join6 : kept (changes m c) ((dats m hO 0 c).A 6) = val_main_v36 (F := Ideal) (argR m c) (argO m c) (m ((c : Thread nD τ).loc main_arg2)) (argW m c) (argM m c) (argV m c) (m ((c : Thread nD τ).loc main_arg7)) := by
  refine joined _ _ _ (fun z hz => ?_) (fun z hz => ?_)
  · unfold changes
    rw [half_eq (ix2 ⟨(z 0).val, hz⟩ (z 1)) z rfl rfl, low (argW m c) z hz, low (argM m c) z hz, low (argV m c) z hz]
    idx_vars z
    pointwise [val_main_v35, val_main_v36]
    refine Eq.trans ?_ (dif_pos (show z0.val < 352 from hz)).symm
    rfl
  · rw [A_eq]
    idx_vars z
    pointwise [val_main_v35, val_main_v36]
    refine (congrFun (given m c).2.1 _).trans (Eq.trans ?_ (dif_neg (show ¬z0.val < 352 from hz)).symm)
    exact congrArg (fun k => m ((c : Thread nD τ).loc main_arg7) (ix2 k z1)) (Fin.ext (show z0.val = 352 + (z0.val - 352) by omega))

theorem join7 : kept (firsts m c) ((dats m hO 0 c).A 7) = val_main_v38 (F := Ideal) (argR m c) (argO m c) (m ((c : Thread nD τ).loc main_arg2)) (argM m c) (m ((c : Thread nD τ).loc main_arg8)) := by
  refine joined _ _ _ (fun z hz => ?_) (fun z hz => ?_)
  · unfold firsts
    rw [half_eq (ix2 ⟨(z 0).val, hz⟩ (z 1)) z rfl rfl, low (argM m c) z hz]
    idx_vars z
    pointwise [val_main_v37, val_main_v38]
    refine Eq.trans ?_ (dif_pos (show z0.val < 352 from hz)).symm
    rfl
  · rw [A_eq]
    idx_vars z
    pointwise [val_main_v37, val_main_v38]
    refine (congrFun (given m c).2.2.1 _).trans (Eq.trans ?_ (dif_neg (show ¬z0.val < 352 from hz)).symm)
    exact congrArg (fun k => m ((c : Thread nD τ).loc main_arg8) (ix2 k z1)) (Fin.ext (show z0.val = 352 + (z0.val - 352) by omega))

theorem join8 : kept (seconds m c) ((dats m hO 0 c).A 8) = val_main_v40 (F := Ideal) (argR m c) (argO m c) (m ((c : Thread nD τ).loc main_arg2)) (argV m c) (m ((c : Thread nD τ).loc main_arg9)) := by
  refine joined _ _ _ (fun z hz => ?_) (fun z hz => ?_)
  · unfold seconds
    rw [half_eq (ix2 ⟨(z 0).val, hz⟩ (z 1)) z rfl rfl, low (argV m c) z hz]
    idx_vars z
    pointwise [val_main_v39, val_main_v40]
    refine Eq.trans ?_ (dif_pos (show z0.val < 352 from hz)).symm
    rfl
  · rw [A_eq]
    idx_vars z
    pointwise [val_main_v39, val_main_v40]
    refine (congrFun (given m c).2.2.2 _).trans (Eq.trans ?_ (dif_neg (show ¬z0.val < 352 from hz)).symm)
    exact congrArg (fun k => m ((c : Thread nD τ).loc main_arg9) (ix2 k z1)) (Fin.ext (show z0.val = 352 + (z0.val - 352) by omega))

end Ideal

/-! ## The claims -/

/-- The kernel's table of bodies is the idealised program's, which has the same text. -/
theorem bodies : Cert.FfnWoutUpdate.defs₀ (F := Bits) = Cert.FfnWoutUpdateIdeal.defs₀ (F := Bits) := by
  unfold Cert.FfnWoutUpdate.defs₀ Cert.FfnWoutUpdateIdeal.defs₀
  congr 1
  funext l x
  match l, x with
  | 0, (t, s) => rfl

theorem tables : Cert.FfnWoutUpdate.defs (F := Bits) = Cert.FfnWoutUpdateIdeal.defs (F := Bits) := by
  unfold Cert.FfnWoutUpdate.defs Cert.FfnWoutUpdateIdeal.defs
  rw [bodies]
  rfl

set_option maxHeartbeats 1760000 in
/-- And so is what it does before and after the call. -/
theorem mains : Cert.FfnWoutUpdate.main (F := Bits) = Cert.FfnWoutUpdateIdeal.main (F := Bits) := funext fun _ => rfl

theorem frame_kernel : Cert.quiescent_FfnWoutUpdate := fun m ρ h => by
  rw [tables, mains]
  exact frame (F := Bits) m ρ (ok m (pre_kernel m h))

theorem frame_ideal : Cert.quiescent_FfnWoutUpdateIdeal := fun m ρ h => frame (F := Ideal) m ρ (ok m (pre_ideal m h))

theorem frame_reference : Cert.quiescent_FfnWoutUpdateReferenceIdeal := fun m ρ _ =>
  (θ_run _ _ _).mono (fun r h => ⟨fun c => (h c).2.2.2.2, sem_eq_zero_of_no_sems (by decide) r.2⟩)
    (Cert.FfnWoutUpdateReferenceIdeal.Value.run (F := Ideal) m ρ)

theorem algebraic : Cert.algebraic_FfnWoutUpdateIdeal_FfnWoutUpdateReferenceIdeal := by
  intro m g m' g' hpre hargs
  have hw := pre_ideal m hpre
  have hO := ok m hw
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N,
    (θ_run _ _ _).mono (fun r h c => ⟨(h.1 c).1 5, (h.1 c).1 6, (h.1 c).1 7, (h.1 c).1 8, h.2.1 c⟩)
      (θ_run_and (run_main m g hO) (frame m g hO)), ?_⟩
  refine (θ_run _ _ _).mono (fun r h c => ?_) (Cert.FfnWoutUpdateReferenceIdeal.Value.run (F := Ideal) m' g')
  obtain ⟨h0, h1, h2, h3, hk⟩ := h c
  obtain ⟨e0, e1, e2, e3, e4, e5, e6, e7, e8, e9⟩ := hargs c
  refine ⟨h0.trans ?_, h1.trans ?_, h2.trans ?_, h3.trans ?_, hk⟩
  · beta_reduce
    rw [final5 m c hO hw, val_main_v34_eq, e0, e1, e2, e6, join5]
  · beta_reduce
    rw [final6 m c hO hw, val_main_v36_eq, e0, e1, e2, e3, e4, e5, e7, join6]
  · beta_reduce
    rw [final7 m c hO hw, val_main_v38_eq, e0, e1, e2, e4, e8, join7]
  · beta_reduce
    rw [final8 m c hO hw, val_main_v40_eq, e0, e1, e2, e5, e9, join8]

end Cert.Step.FfnWoutUpdate
-- ==== Proof.FfnWinUpdateClaim.lean ====
/- The step of the first weight of the feed-forward layers, layer 0's rows beside layer 1's, whose gradient is held transposed. -/
module

public import proofs.«01_k».proof.Defs
public import proofs.«01_k».proof.Proof.AdamStep
public import proofs.«01_k».proof.Proof.Gen.Pre_ffn_win_update_on_mesh
public import proofs.«01_k».proof.Proof.Gen.FfnWinUpdate
public import proofs.«01_k».proof.Proof.Gen.FfnWinUpdateIdeal.Frame
public import proofs.«01_k».proof.Proof.Gen.FfnWinUpdateReferenceIdeal.Run
public import proofs.«01_k».proof.Proof.Gen.FfnWinUpdateReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.FfnWinUpdate

open Idealize.ShloMosaic Idealize.ShloMosaic.TcCoe Idealize.SL.Sem
open Cert.Step.Adam

open Cert.FfnWinUpdateIdeal Cert.FfnWinUpdateIdeal.Gen
open Cert.FfnWinUpdateReferenceIdeal.Read
open Cert.FfnWinUpdateReferenceIdeal (S704x1024)

/-! ## The device's number -/

section Number
variable {F : FTy → Type} [FloatOps F] (m : (ℓ : Loc nD τ sig) → Buf (Elt F) ℓ)

/-- The device's number. -/
abbrev me : BitVec 32 := m (((0 : Dev nD) : Thread nD τ).loc main_arg2) ix0

/-- The table holds it. -/
theorem table : tbl m 0 = fun _ => me m := by
  show StableHlo.after hostOps0 (fun b => m (0, b)) (Proc.devRef .tc main_v0) = _
  entry_read
  funext y
  idx_vars y
  pointwise

/-- The blocks of the grid's points. -/
theorem blocks : ∀ t : Fin grid0.N, cc0_transform_0 (grid0.coords t) = ![0, t.val, 0] ∧ (grid0.coords t 0).val = t.val ∧ cc0_transform_2 (grid0.coords t) = ![t.val, 0]
    ∧ cc0_transform_3 (grid0.coords t) = ![t.val, 0] ∧ cc0_transform_4 (grid0.coords t) = ![t.val, 0]
    ∧ cc0_transform_9 (grid0.coords t) = ![t.val, 0] ∧ cc0_transform_10 (grid0.coords t) = ![t.val, 0]
    ∧ cc0_transform_11 (grid0.coords t) = ![t.val, 0] ∧ cc0_transform_12 (grid0.coords t) = ![t.val, 0] := by
  decide +kernel

theorem own_block (i : grid0.Coords) : cc0_transform_1 inb_S1_S1_0 numel1_S1 (tbl m) i = ![(me m).toNat, (i 0).val, 0] := by
  have e : (tbl m).at 0 (Rect.unit (s := S1) ![0] S1.size inb_S1_S1_0) numel1_S1 = me m := by
    unfold Pipeline.Prefetch.Contents.at; rw [table]
  unfold cc0_transform_1
  rw [e]
  have h : (i 0).val < 2 ^ 32 := lt_trans (show (i 0).val < 4 from (i 0).isLt) (by decide)
  simp only [BitVec.toNat_ofNat, Nat.mod_eq_of_lt h]

theorem inside : ∀ (k : Fin 8) (i : grid0.Coords), ∃ h : (∀ a, ((![k.val, (i 0).val, 0] : Fin 3 → ℕ) a + 1) * S1x176x1024.size a ≤ S8x704x1024.size a),
    EltTy.bits .bf16 = 32 ∨ (Rect.block (s := S8x704x1024) S1x176x1024.size ![k.val, (i 0).val, 0] h).WholeWords (EltTy.packing .bf16) := by
  decide +kernel

/-- Its block of the own parts lies in their array. -/
theorem ok (hw : (me m).toNat < 8) : Ok m := by
  intro i
  rw [own_block]
  exact inside ⟨(me m).toNat, hw⟩ i

end Number

theorem pre_kernel (m) (h : Cert.Pre_FfnWinUpdate m) : (me (F := Bits) m).toNat < 8 := device _ (congrFun (h 0) ix0)
theorem pre_ideal (m) (h : Cert.Pre_FfnWinUpdateIdeal m) : (me (F := Ideal) m).toNat < 8 := device _ (congrFun (h 0) ix0)

section Ideal

variable (m : (ℓ : Loc nD τ sig) → Buf (Elt Ideal) ℓ) (c : Dev nD)

abbrev argR : Vec Ideal S8x704x1024 .bf16 := m ((c : Thread nD τ).loc main_arg0)
abbrev argO : Vec Ideal S8x704x1024 .bf16 := m ((c : Thread nD τ).loc main_arg1)
abbrev argW : Vec Ideal S1408x1024 .f32 := m ((c : Thread nD τ).loc main_arg3)
abbrev argM : Vec Ideal S1408x1024 .f32 := m ((c : Thread nD τ).loc main_arg4)
abbrev argV : Vec Ideal S1408x1024 .f32 := m ((c : Thread nD τ).loc main_arg5)

abbrev slab (k : ℕ) (h : ∀ a, (![k, 0, 0] : Fin 3 → ℕ) a + S1x176x1024.size a ≤ S8x176x1024.size a) (x : Vec Ideal S8x176x1024 .bf16) : Vec Ideal S1x176x1024 .bf16 :=
  View.ld x (Rect.unit ![k, 0, 0] ![1, 176, 1024] h)

def grad (w : BitVec 32) (x0 : Vec Ideal S8x176x1024 .bf16) (x1 : Vec Ideal S1x176x1024 .bf16) : FVec Ideal S176x1024 .f32 :=
  k0_pay5 (k0_pay3 w (k0_pay1 w x1 (slab 0 inb_S8x176x1024_S1x176x1024_0_0_0 x0) x1 (slab 1 inb_S8x176x1024_S1x176x1024_1_0_0 x0) x1 (slab 2 inb_S8x176x1024_S1x176x1024_2_0_0 x0))
      (k0_pay2 w x1 (slab 3 inb_S8x176x1024_S1x176x1024_3_0_0 x0))
      x1 (slab 4 inb_S8x176x1024_S1x176x1024_4_0_0 x0) x1 (slab 5 inb_S8x176x1024_S1x176x1024_5_0_0 x0) x1 (slab 6 inb_S8x176x1024_S1x176x1024_6_0_0 x0))
    (k0_pay4 w x1 (slab 7 inb_S8x176x1024_S1x176x1024_7_0_0 x0))

/-- The kernel's gradient, at an index. -/
theorem grad_apply (w : BitVec 32) (hw : w.toNat < 8) (x0 : Vec Ideal S8x176x1024 .bf16) (own : Fin 8 → EReal) (x1 : Vec Ideal S1x176x1024 .bf16) (y : S176x1024.Idx)
    (h : x1 (ix3 0 (y 0) (y 1)) = own ⟨w.toNat, hw⟩) :
    grad w x0 x1 y = total w own (fun k => x0 (ix3 k (y 0) (y 1))) := by
  rw [total_eq w hw, Fin.sum_univ_eight, ← h]
  idx_vars y
  unfold grad
  pointwise [slab, k0_pay1, k0_pay2, k0_pay3, k0_pay4, k0_pay5]
  rfl

theorem ref6 (x0 x1 : Vec Ideal S8x704x1024 .bf16) (x2 : IVec S_ 32) (y : S704x1024.Idx) :
    val_main_v6 (F := Ideal) x0 x1 x2 y = total (x2 ix0) (fun k => x1 (ix3 k (y 0) (y 1))) (fun k => x0 (ix3 k (y 0) (y 1))) := by
  idx_vars y
  unfold total
  pointwise [val_main_v1, val_main_v2, val_main_v3, val_main_v4, val_main_v5, val_main_cst, val_main_v6]

theorem word_eq : View.readAt (Elt Ideal) (View.whole main_v0) (Rect.unit (s := S1) ![0] S1.size inb_S1_S1_0).toLoadRect (tbl m 0) (Shape.Idx.first (by decide)) = me m := by
  rw [table]; rfl

variable (hO : Ok m)

/-- What the body leaves in its four result blocks: the gradient and the step made of it. -/
theorem outs (t : Fin (cfgM m hO).N) (y : S176x1024.Idx) :
    (outsAt0 m hO c t).1 y = grad (me m) (iblk m hO c 0 t) (iblk m hO c 1 t) y
    ∧ (outsAt0 m hO c t).2.1 y = change (iblk m hO c 2 t y) (grad (me m) (iblk m hO c 0 t) (iblk m hO c 1 t) y) (iblk m hO c 3 t y) (iblk m hO c 4 t y)
    ∧ (outsAt0 m hO c t).2.2.1 y = first (grad (me m) (iblk m hO c 0 t) (iblk m hO c 1 t) y) (iblk m hO c 3 t y)
    ∧ (outsAt0 m hO c t).2.2.2 y = second (grad (me m) (iblk m hO c 0 t) (iblk m hO c 1 t) y) (iblk m hO c 4 t y) := by
  unfold outsAt0
  frame_out
  rw [← word_eq m]
  unfold grad
  have e0 := (hs0_0 m hO t).read_unread (iblk m hO c 0 t)
  have e1 := (hs0_1 m hO t).read_unread (iblk m hO c 1 t)
  have e2 := (hs0_2 m hO t).read_unread (iblk m hO c 2 t)
  have e3 := (hs0_3 m hO t).read_unread (iblk m hO c 3 t)
  have e4 := (hs0_4 m hO t).read_unread (iblk m hO c 4 t)
  generalize View.read (Elt Ideal) (ms0_0 m hO t).view ((hs0_0 m hO t).unread (iblk m hO c 0 t)) = z0 at e0 ⊢
  generalize View.read (Elt Ideal) (ms0_1 m hO t).view ((hs0_1 m hO t).unread (iblk m hO c 1 t)) = z1 at e1 ⊢
  generalize View.read (Elt Ideal) (ms0_2 m hO t).view ((hs0_2 m hO t).unread (iblk m hO c 2 t)) = z2 at e2 ⊢
  generalize View.read (Elt Ideal) (ms0_3 m hO t).view ((hs0_3 m hO t).unread (iblk m hO c 3 t)) = z3 at e3 ⊢
  generalize View.read (Elt Ideal) (ms0_4 m hO t).view ((hs0_4 m hO t).unread (iblk m hO c 4 t)) = z4 at e4 ⊢
  subst e0 e1 e2 e3 e4
  exact ⟨rfl, rfl, rfl, rfl⟩

/-- The table of the first device, for the facts in which the device's number plays no part. -/
def zero : (pcfg0 (F := Ideal)).Adm := ⟨fun | 0 => fun _ => (0 : BitVec 32), by decide +kernel⟩

theorem cover : ((cfg0 zero).win 5).CoversWhere (fun β => β (0 : Fin 2) < 4) ∧ ((cfg0 zero).win 6).CoversWhere (fun β => β (0 : Fin 2) < 4)
    ∧ ((cfg0 zero).win 7).CoversWhere (fun β => β (0 : Fin 2) < 4) ∧ ((cfg0 zero).win 8).CoversWhere (fun β => β (0 : Fin 2) < 4) := by
  decide +kernel

theorem idxs (t : Fin (cfgM m hO).N) : (∀ a : Fin 3, ((cfgM m hO).win 0).index t a = ![0, t.val, 0] a)
    ∧ (∀ a : Fin 3, ((cfgM m hO).win 1).index t a = ![(me m).toNat, t.val, 0] a)
    ∧ (∀ a : Fin 2, ((cfgM m hO).win 2).index t a = ![t.val, 0] a) ∧ (∀ a : Fin 2, ((cfgM m hO).win 3).index t a = ![t.val, 0] a)
    ∧ (∀ a : Fin 2, ((cfgM m hO).win 4).index t a = ![t.val, 0] a) ∧ (∀ a : Fin 2, ((cfgM m hO).win 5).index t a = ![t.val, 0] a)
    ∧ (∀ a : Fin 2, ((cfgM m hO).win 6).index t a = ![t.val, 0] a) ∧ (∀ a : Fin 2, ((cfgM m hO).win 7).index t a = ![t.val, 0] a)
    ∧ (∀ a : Fin 2, ((cfgM m hO).win 8).index t a = ![t.val, 0] a) :=
  have h := blocks t
  ⟨congrFun h.1, congrFun ((own_block m (grid0.coords t)).trans (by rw [h.2.1])), congrFun h.2.2.1, congrFun h.2.2.2.1, congrFun h.2.2.2.2.1,
    congrFun h.2.2.2.2.2.1, congrFun h.2.2.2.2.2.2.1, congrFun h.2.2.2.2.2.2.2.1, congrFun h.2.2.2.2.2.2.2.2⟩

/-- Where an element of a point's block lies in the gradient, -/
def place (t : Fin (cfgM m hO).N) (y : S176x1024.Idx) : S704x1024.Idx :=
  ix2 ⟨t.val * 176 + (y 0).val, by have h : t.val < 4 := t.isLt; have h' : (y 0).val < 176 := (y 0).isLt; omega⟩ (y 1)

/-- and where in the weights. -/
def spot (t : Fin (cfgM m hO).N) (y : S176x1024.Idx) : S1408x1024.Idx :=
  ix2 ⟨(t.val) * 176 + (y 0).val, by have h : t.val < 4 := t.isLt; have h' : (y 0).val < 176 := (y 0).isLt; omega⟩ (y 1)

/-- The gradient's element of one of the weights. -/
def half (z : S1408x1024.Idx) : S704x1024.Idx := ix2 ⟨(z 0).val % 704, Nat.mod_lt _ (by decide)⟩ (z 1)

theorem half_eq (y : S704x1024.Idx) (z : S1408x1024.Idx) (h0 : (z 0).val = (y 0).val) (h1 : (z 1).val = (y 1).val) : half z = y := by
  have hy : (y 0).val < 704 := (y 0).isLt
  funext a
  match a with
  | 0 => exact Fin.ext (show (z 0).val % 704 = (y 0).val by omega)
  | 1 => exact Fin.ext h1

theorem half_spot (t : Fin (cfgM m hO).N) (y : S176x1024.Idx) : half (spot m hO t y) = place m hO t y :=
  half_eq _ _ (show (t.val) * 176 + (y 0).val = (t.val * 176 + (y 0).val) by omega) rfl

theorem inputs (t : Fin (cfgM m hO).N) (y : S176x1024.Idx) :
    (((cfgM m hO).win 2).blk t).view.emb y = spot m hO t y ∧ (((cfgM m hO).win 3).blk t).view.emb y = spot m hO t y
    ∧ (((cfgM m hO).win 4).blk t).view.emb y = spot m hO t y := by
  unfold spot
  idx_vars y
  refine ⟨?_, ?_, ?_⟩ <;> blk_ext [idxs m hO t]

theorem embs (t : Fin (cfgM m hO).N) (y : S176x1024.Idx) :
    (((cfgM m hO).win 5).blk t).view.emb y = spot m hO t y ∧ (((cfgM m hO).win 6).blk t).view.emb y = spot m hO t y
    ∧ (((cfgM m hO).win 7).blk t).view.emb y = spot m hO t y ∧ (((cfgM m hO).win 8).blk t).view.emb y = spot m hO t y := by
  unfold spot
  idx_vars y
  refine ⟨?_, ?_, ?_, ?_⟩ <;> blk_ext [idxs m hO t]

theorem blk2 (t : Fin (cfgM m hO).N) (y : S176x1024.Idx) : iblk m hO c 2 t y = argW m c (spot m hO t y) := by
  unfold spot
  idx_vars y
  blk_point [iblk, V, idxs m hO t]
theorem blk3 (t : Fin (cfgM m hO).N) (y : S176x1024.Idx) : iblk m hO c 3 t y = argM m c (spot m hO t y) := by
  unfold spot
  idx_vars y
  blk_point [iblk, V, idxs m hO t]
theorem blk4 (t : Fin (cfgM m hO).N) (y : S176x1024.Idx) : iblk m hO c 4 t y = argV m c (spot m hO t y) := by
  unfold spot
  idx_vars y
  blk_point [iblk, V, idxs m hO t]

/-- The summed gradient, -/
def sums : Vec Ideal S704x1024 .f32 := val_main_v6 (F := Ideal) (argR m c) (argO m c) (m ((c : Thread nD τ).loc main_arg2))
/-- and what the call leaves in its arrays: the gradient and the step with it in this layer's rows, what they held in the other's. -/
def kept (a b : Vec Ideal S1408x1024 .f32) : Vec Ideal S1408x1024 .f32 := fun z => if (z 0).val / 176 < 4 then a z else b z
def grads : Vec Ideal S1408x1024 .f32 := fun z => sums m c (half z)
def changes : Vec Ideal S1408x1024 .f32 := fun z => change (argW m c z) (sums m c (half z)) (argM m c z) (argV m c z)
def firsts : Vec Ideal S1408x1024 .f32 := fun z => first (sums m c (half z)) (argM m c z)
def seconds : Vec Ideal S1408x1024 .f32 := fun z => second (sums m c (half z)) (argV m c z)

/-- The gradient of a point's block is the reference's. -/
theorem grad_eq (hw : (me m).toNat < 8) (t : Fin (cfgM m hO).N) (y : S176x1024.Idx) :
    grad (me m) (iblk m hO c 0 t) (iblk m hO c 1 t) y
      = sums m c (place m hO t y) := by
  have ec : c = 0 := Subsingleton.elim _ _
  have hy : ∀ k : Fin 8, iblk m hO c 0 t (ix3 k (y 0) (y 1)) = argR m c (ix3 k (place m hO t y 0) (place m hO t y 1)) := by
    unfold place
    idx_vars y
    intro k
    blk_point [iblk, V, idxs m hO t]
  have hx : iblk m hO c 1 t (ix3 0 (y 0) (y 1)) = argO m c (ix3 ⟨(me m).toNat, hw⟩ (place m hO t y 0) (place m hO t y 1)) := by
    unfold place
    idx_vars y
    blk_point [iblk, V, idxs m hO t]
  refine (grad_apply (me m) hw _ (fun k => argO m c (ix3 k (place m hO t y 0) (place m hO t y 1))) _ y hx).trans (Eq.trans ?_ (ref6 _ _ _ _).symm)
  subst ec
  exact congrArg (total (me m) _) (funext hy)

/-- The four result arrays of the call. -/
theorem final5 (hw : (me m).toNat < 8) : (dats m hO 0 c).arrAt 5 (cfgM m hO).N = kept (grads m c) ((dats m hO 0 c).A 5) := by
  refine (dats m hO 0 c).arrAt_eq_of_coversWhere 5 _ (fun β => β (0 : Fin 2) < 4) cover.1 (fun t _ y => ?_) (fun j => Iff.rfl)
  blk_simp
  rw [after0_5]
  refine (outs m c hO t y).1.trans ?_
  rw [(embs m hO t y).1, grad_eq m c hO hw t y, ← half_spot m hO t y]
  rfl

theorem final6 (hw : (me m).toNat < 8) : (dats m hO 0 c).arrAt 6 (cfgM m hO).N = kept (changes m c) ((dats m hO 0 c).A 6) := by
  refine (dats m hO 0 c).arrAt_eq_of_coversWhere 6 _ (fun β => β (0 : Fin 2) < 4) cover.2.1 (fun t _ y => ?_) (fun j => Iff.rfl)
  blk_simp
  rw [after0_6]
  refine (outs m c hO t y).2.1.trans ?_
  rw [(embs m hO t y).2.1, grad_eq m c hO hw t y, ← half_spot m hO t y, blk2 m c hO t y, blk3 m c hO t y, blk4 m c hO t y]
  rfl

theorem final7 (hw : (me m).toNat < 8) : (dats m hO 0 c).arrAt 7 (cfgM m hO).N = kept (firsts m c) ((dats m hO 0 c).A 7) := by
  refine (dats m hO 0 c).arrAt_eq_of_coversWhere 7 _ (fun β => β (0 : Fin 2) < 4) cover.2.2.1 (fun t _ y => ?_) (fun j => Iff.rfl)
  blk_simp
  rw [after0_7]
  refine (outs m c hO t y).2.2.1.trans ?_
  rw [(embs m hO t y).2.2.1, grad_eq m c hO hw t y, ← half_spot m hO t y, blk3 m c hO t y]
  rfl

theorem final8 (hw : (me m).toNat < 8) : (dats m hO 0 c).arrAt 8 (cfgM m hO).N = kept (seconds m c) ((dats m hO 0 c).A 8) := by
  refine (dats m hO 0 c).arrAt_eq_of_coversWhere 8 _ (fun β => β (0 : Fin 2) < 4) cover.2.2.2 (fun t _ y => ?_) (fun j => Iff.rfl)
  blk_simp
  rw [after0_8]
  refine (outs m c hO t y).2.2.2.trans ?_
  rw [(embs m hO t y).2.2.2, grad_eq m c hO hw t y, ← half_spot m hO t y, blk4 m c hO t y]
  rfl

/-- The reference puts its step before the other layer's rows. -/
theorem joined (a b g : Vec Ideal S1408x1024 .f32) (h : ∀ z, (z 0).val < 704 → a z = g z) (h' : ∀ z, ¬(z 0).val < 704 → b z = g z) : kept a b = g := by
  funext z
  unfold kept
  split
  · rename_i k
    exact h z (by omega)
  · rename_i k
    exact h' z (by omega)

/-- The rows of this layer, as the reference takes them. -/
theorem low (x : Vec Ideal S1408x1024 .f32) (z : S1408x1024.Idx) (hz : (z 0).val < 704) : x z = val_main_v0 (F := Ideal) x (ix2 ⟨(z 0).val, hz⟩ (z 1)) := by
  idx_vars z
  pointwise [val_main_v0]

/-- The arrays the call writes into. -/
theorem given : StableHlo.after hostOps0 (fun b => m (c, b)) (Proc.devRef .tc main_v1_0) = m ((c : Thread nD τ).loc main_arg6)
    ∧ StableHlo.after hostOps0 (fun b => m (c, b)) (Proc.devRef .tc main_v1_1) = m ((c : Thread nD τ).loc main_arg7)
    ∧ StableHlo.after hostOps0 (fun b => m (c, b)) (Proc.devRef .tc main_v1_2) = m ((c : Thread nD τ).loc main_arg8)
    ∧ StableHlo.after hostOps0 (fun b => m (c, b)) (Proc.devRef .tc main_v1_3) = m ((c : Thread nD τ).loc main_arg9) := by
  refine ⟨?_, ?_, ?_, ?_⟩ <;> (entry_read; rfl)

theorem join5 : kept (grads m c) ((dats m hO 0 c).A 5) = val_main_v34 (F := Ideal) (argR m c) (argO m c) (m ((c : Thread nD τ).loc main_arg2)) (m ((c : Thread nD τ).loc main_arg6)) := by
  refine joined _ _ _ (fun z hz => ?_) (fun z hz => ?_)
  · unfold grads
    rw [half_eq (ix2 ⟨(z 0).val, hz⟩ (z 1)) z rfl rfl]
    idx_vars z
    pointwise [val_main_v33, val_main_v34]
    refine Eq.trans ?_ (dif_pos (show z0.val < 704 from hz)).symm
    rfl
  · rw [A_eq]
    idx_vars z
    pointwise [val_main_v33, val_main_v34]
    refine (congrFun (given m c).1 _).trans (Eq.trans ?_ (dif_neg (show ¬z0.val < 704 from hz)).symm)
    exact congrArg (fun k => m ((c : Thread nD τ).loc main_arg6) (ix2 k z1)) (Fin.ext (show z0.val = 704 + (z0.val - 704) by omega))

theorem join6 : kept (changes m c) ((dats m hO 0 c).A 6) = val_main_v36 (F := Ideal) (argR m c) (argO m c) (m ((c : Thread nD τ).loc main_arg2)) (argW m c) (argM m c) (argV m c) (m ((c : Thread nD τ).loc main_arg7)) := by
  refine joined _ _ _ (fun z hz => ?_) (fun z hz => ?_)
  · unfold changes
    rw [half_eq (ix2 ⟨(z 0).val, hz⟩ (z 1)) z rfl rfl, low (argW m c) z hz, low (argM m c) z hz, low (argV m c) z hz]
    idx_vars z
    pointwise [val_main_v35, val_main_v36]
    refine Eq.trans ?_ (dif_pos (show z0.val < 704 from hz)).symm
    rfl
  · rw [A_eq]
    idx_vars z
    pointwise [val_main_v35, val_main_v36]
    refine (congrFun (given m c).2.1 _).trans (Eq.trans ?_ (dif_neg (show ¬z0.val < 704 from hz)).symm)
    exact congrArg (fun k => m ((c : Thread nD τ).loc main_arg7) (ix2 k z1)) (Fin.ext (show z0.val = 704 + (z0.val - 704) by omega))

theorem join7 : kept (firsts m c) ((dats m hO 0 c).A 7) = val_main_v38 (F := Ideal) (argR m c) (argO m c) (m ((c : Thread nD τ).loc main_arg2)) (argM m c) (m ((c : Thread nD τ).loc main_arg8)) := by
  refine joined _ _ _ (fun z hz => ?_) (fun z hz => ?_)
  · unfold firsts
    rw [half_eq (ix2 ⟨(z 0).val, hz⟩ (z 1)) z rfl rfl, low (argM m c) z hz]
    idx_vars z
    pointwise [val_main_v37, val_main_v38]
    refine Eq.trans ?_ (dif_pos (show z0.val < 704 from hz)).symm
    rfl
  · rw [A_eq]
    idx_vars z
    pointwise [val_main_v37, val_main_v38]
    refine (congrFun (given m c).2.2.1 _).trans (Eq.trans ?_ (dif_neg (show ¬z0.val < 704 from hz)).symm)
    exact congrArg (fun k => m ((c : Thread nD τ).loc main_arg8) (ix2 k z1)) (Fin.ext (show z0.val = 704 + (z0.val - 704) by omega))

theorem join8 : kept (seconds m c) ((dats m hO 0 c).A 8) = val_main_v40 (F := Ideal) (argR m c) (argO m c) (m ((c : Thread nD τ).loc main_arg2)) (argV m c) (m ((c : Thread nD τ).loc main_arg9)) := by
  refine joined _ _ _ (fun z hz => ?_) (fun z hz => ?_)
  · unfold seconds
    rw [half_eq (ix2 ⟨(z 0).val, hz⟩ (z 1)) z rfl rfl, low (argV m c) z hz]
    idx_vars z
    pointwise [val_main_v39, val_main_v40]
    refine Eq.trans ?_ (dif_pos (show z0.val < 704 from hz)).symm
    rfl
  · rw [A_eq]
    idx_vars z
    pointwise [val_main_v39, val_main_v40]
    refine (congrFun (given m c).2.2.2 _).trans (Eq.trans ?_ (dif_neg (show ¬z0.val < 704 from hz)).symm)
    exact congrArg (fun k => m ((c : Thread nD τ).loc main_arg9) (ix2 k z1)) (Fin.ext (show z0.val = 704 + (z0.val - 704) by omega))

end Ideal

/-! ## The claims -/

/-- The kernel's table of bodies is the idealised program's, which has the same text. -/
theorem bodies : Cert.FfnWinUpdate.defs₀ (F := Bits) = Cert.FfnWinUpdateIdeal.defs₀ (F := Bits) := by
  unfold Cert.FfnWinUpdate.defs₀ Cert.FfnWinUpdateIdeal.defs₀
  congr 1
  funext l x
  match l, x with
  | 0, (t, s) => rfl

theorem tables : Cert.FfnWinUpdate.defs (F := Bits) = Cert.FfnWinUpdateIdeal.defs (F := Bits) := by
  unfold Cert.FfnWinUpdate.defs Cert.FfnWinUpdateIdeal.defs
  rw [bodies]
  rfl

set_option maxHeartbeats 1760000 in
/-- And so is what it does before and after the call. -/
theorem mains : Cert.FfnWinUpdate.main (F := Bits) = Cert.FfnWinUpdateIdeal.main (F := Bits) := funext fun _ => rfl

theorem frame_kernel : Cert.quiescent_FfnWinUpdate := fun m ρ h => by
  rw [tables, mains]
  exact frame (F := Bits) m ρ (ok m (pre_kernel m h))

theorem frame_ideal : Cert.quiescent_FfnWinUpdateIdeal := fun m ρ h => frame (F := Ideal) m ρ (ok m (pre_ideal m h))

theorem frame_reference : Cert.quiescent_FfnWinUpdateReferenceIdeal := fun m ρ _ =>
  (θ_run _ _ _).mono (fun r h => ⟨fun c => (h c).2.2.2.2, sem_eq_zero_of_no_sems (by decide) r.2⟩)
    (Cert.FfnWinUpdateReferenceIdeal.Value.run (F := Ideal) m ρ)

theorem algebraic : Cert.algebraic_FfnWinUpdateIdeal_FfnWinUpdateReferenceIdeal := by
  intro m g m' g' hpre hargs
  have hw := pre_ideal m hpre
  have hO := ok m hw
  refine ⟨fun c => (dats m hO 0 c).arrAt 5 (cfgM m hO).N, fun c => (dats m hO 0 c).arrAt 6 (cfgM m hO).N,
    fun c => (dats m hO 0 c).arrAt 7 (cfgM m hO).N, fun c => (dats m hO 0 c).arrAt 8 (cfgM m hO).N,
    (θ_run _ _ _).mono (fun r h c => ⟨(h.1 c).1 5, (h.1 c).1 6, (h.1 c).1 7, (h.1 c).1 8, h.2.1 c⟩)
      (θ_run_and (run_main m g hO) (frame m g hO)), ?_⟩
  refine (θ_run _ _ _).mono (fun r h c => ?_) (Cert.FfnWinUpdateReferenceIdeal.Value.run (F := Ideal) m' g')
  obtain ⟨h0, h1, h2, h3, hk⟩ := h c
  obtain ⟨e0, e1, e2, e3, e4, e5, e6, e7, e8, e9⟩ := hargs c
  refine ⟨h0.trans ?_, h1.trans ?_, h2.trans ?_, h3.trans ?_, hk⟩
  · beta_reduce
    rw [final5 m c hO hw, val_main_v34_eq, e0, e1, e2, e6, join5]
  · beta_reduce
    rw [final6 m c hO hw, val_main_v36_eq, e0, e1, e2, e3, e4, e5, e7, join6]
  · beta_reduce
    rw [final7 m c hO hw, val_main_v38_eq, e0, e1, e2, e4, e8, join7]
  · beta_reduce
    rw [final8 m c hO hw, val_main_v40_eq, e0, e1, e2, e5, e9, join8]

end Cert.Step.FfnWinUpdate
-- ==== Proof.SmallUpdateClaim.lean ====
/- The step of the small weights, packed into one array, with the loss beside them. -/
module

public import proofs.«01_k».proof.Defs
public import proofs.«01_k».proof.Proof.AdamStep
public import proofs.«01_k».proof.Proof.Gen.SmallUpdate
public import proofs.«01_k».proof.Proof.Gen.SmallUpdateIdeal.Frame
public import proofs.«01_k».proof.Proof.Gen.SmallUpdateReferenceIdeal.Run
public import proofs.«01_k».proof.Proof.Gen.SmallUpdateReferenceIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Step.SmallUpdate

open Idealize.ShloMosaic Idealize.ShloMosaic.TcCoe Idealize.SL.Sem
open Cert.Step.Adam

open Cert.SmallUpdateIdeal Cert.SmallUpdateIdeal.Gen
open Cert.SmallUpdateReferenceIdeal.Read

section Number
variable {F : FTy → Type} [FloatOps F] (m : (ℓ : Loc nD τ sig) → Buf (Elt F) ℓ)

/-- The device's number. -/
abbrev me : BitVec 32 := m (((0 : Dev nD) : Thread nD τ).loc main_arg2) ix0

/-- The table holds it. -/
theorem table : tbl m 0 = fun _ => me m := by
  show StableHlo.after hostOps0 (fun b => m (0, b)) (Proc.devRef .tc main_v0) = _
  entry_read
  funext y
  idx_vars y
  pointwise

theorem ok : Ok m := trivial

/-- The blocks of the one point. -/
theorem blocks : ∀ t : Fin grid0.N, cc0_transform_0 (grid0.coords t) = ![0, 0, 0] ∧ cc0_transform_1 (grid0.coords t) = ![0, 0]
    ∧ cc0_transform_2 (grid0.coords t) = ![0, 0]
    ∧ cc0_transform_3 (grid0.coords t) = ![0, 0] ∧ cc0_transform_4 (grid0.coords t) = ![0, 0]
    ∧ cc0_transform_5 (grid0.coords t) = ![0, 0] ∧ cc0_transform_6 (grid0.coords t) = ![0, 0]
    ∧ cc0_transform_7 (grid0.coords t) = ![0, 0] ∧ cc0_transform_8 (grid0.coords t) = ![0, 0] := by
  decide +kernel

end Number

section Ideal

variable (m : (ℓ : Loc nD τ sig) → Buf (Elt Ideal) ℓ) (c : Dev nD)

abbrev argR : Vec Ideal S8x184x1024 .f32 := m ((c : Thread nD τ).loc main_arg0)
abbrev argO : Vec Ideal S184x1024 .f32 := m ((c : Thread nD τ).loc main_arg1)
abbrev argN : IVec S_ 32 := m ((c : Thread nD τ).loc main_arg2)
abbrev argW : Vec Ideal S184x1024 .f32 := m ((c : Thread nD τ).loc main_arg3)
abbrev argM : Vec Ideal S184x1024 .f32 := m ((c : Thread nD τ).loc main_arg4)
abbrev argV : Vec Ideal S184x1024 .f32 := m ((c : Thread nD τ).loc main_arg5)

abbrev slab (k : ℕ) (h : ∀ a, (![k, 0, 0] : Fin 3 → ℕ) a + S1x184x1024.size a ≤ S8x184x1024.size a) (x : Vec Ideal S8x184x1024 .f32) : Vec Ideal S1x184x1024 .f32 :=
  View.ld x (Rect.unit ![k, 0, 0] ![1, 184, 1024] h)

def grad (w : BitVec 32) (x0 : Vec Ideal S8x184x1024 .f32) (x1 : Vec Ideal S184x1024 .f32) : FVec Ideal S184x1024 .f32 :=
  k0_pay5 w (k0_pay3 w x1 (slab 0 inb_S8x184x1024_S1x184x1024_0_0_0 x0) x1 (slab 1 inb_S8x184x1024_S1x184x1024_1_0_0 x0) x1 (slab 2 inb_S8x184x1024_S1x184x1024_2_0_0 x0) x1 (slab 3 inb_S8x184x1024_S1x184x1024_3_0_0 x0))
    (IntOp.cmpi .eq w 4#32) x1 (k0_pay4 (slab 4 inb_S8x184x1024_S1x184x1024_4_0_0 x0)) x1 (slab 5 inb_S8x184x1024_S1x184x1024_5_0_0 x0) x1 (slab 6 inb_S8x184x1024_S1x184x1024_6_0_0 x0) x1 (slab 7 inb_S8x184x1024_S1x184x1024_7_0_0 x0)

/-- The kernel's gradient, at an index. -/
theorem grad_apply (w : BitVec 32) (x0 : Vec Ideal S8x184x1024 .f32) (x1 : Vec Ideal S184x1024 .f32) (y : S184x1024.Idx) :
    grad w x0 x1 y = total w (fun _ => x1 y) (fun k => x0 (ix3 k (y 0) (y 1))) := by
  rw [total_same, Fin.sum_univ_eight]
  idx_vars y
  unfold grad
  pointwise [slab, k0_pay3, k0_pay4, k0_pay5]
  rfl

theorem ref4 (x0 : Vec Ideal S8x184x1024 .f32) (x1 : Vec Ideal S184x1024 .f32) (x2 : IVec S_ 32) (y : S184x1024.Idx) :
    val_main_v4 (F := Ideal) x0 x1 x2 y = total (x2 ix0) (fun _ => x1 y) (fun k => x0 (ix3 k (y 0) (y 1))) := by
  idx_vars y
  unfold total
  pointwise [val_main_call0_v0, val_main_v0, val_main_v1, val_main_v2, val_main_v3, val_main_cst, val_main_v4]

theorem word_eq : View.readAt (Elt Ideal) (View.whole main_v0) (Rect.unit (s := S1) ![0] S1.size inb_S1_S1_0).toLoadRect (tbl m 0) (Shape.Idx.first (by decide)) = me m := by
  rw [table]; rfl

variable (hO : Ok m)

/-- What the body leaves in its four result blocks: the gradient and the step made of it. -/
theorem outs (t : Fin (cfgM m hO).N) (y : S184x1024.Idx) :
    (outsAt0 m hO c t).1 y = grad (me m) (iblk m hO c 0 t) (iblk m hO c 1 t) y
    ∧ (outsAt0 m hO c t).2.1 y = change (iblk m hO c 2 t y) (grad (me m) (iblk m hO c 0 t) (iblk m hO c 1 t) y) (iblk m hO c 3 t y) (iblk m hO c 4 t y)
    ∧ (outsAt0 m hO c t).2.2.1 y = first (grad (me m) (iblk m hO c 0 t) (iblk m hO c 1 t) y) (iblk m hO c 3 t y)
    ∧ (outsAt0 m hO c t).2.2.2 y = second (grad (me m) (iblk m hO c 0 t) (iblk m hO c 1 t) y) (iblk m hO c 4 t y) := by
  unfold outsAt0
  frame_out
  rw [← word_eq m]
  unfold grad
  have e0 := (hs0_0 m hO t).read_unread (iblk m hO c 0 t)
  have e1 := (hs0_1 m hO t).read_unread (iblk m hO c 1 t)
  have e2 := (hs0_2 m hO t).read_unread (iblk m hO c 2 t)
  have e3 := (hs0_3 m hO t).read_unread (iblk m hO c 3 t)
  have e4 := (hs0_4 m hO t).read_unread (iblk m hO c 4 t)
  generalize View.read (Elt Ideal) (ms0_0 m hO t).view ((hs0_0 m hO t).unread (iblk m hO c 0 t)) = z0 at e0 ⊢
  generalize View.read (Elt Ideal) (ms0_1 m hO t).view ((hs0_1 m hO t).unread (iblk m hO c 1 t)) = z1 at e1 ⊢
  generalize View.read (Elt Ideal) (ms0_2 m hO t).view ((hs0_2 m hO t).unread (iblk m hO c 2 t)) = z2 at e2 ⊢
  generalize View.read (Elt Ideal) (ms0_3 m hO t).view ((hs0_3 m hO t).unread (iblk m hO c 3 t)) = z3 at e3 ⊢
  generalize View.read (Elt Ideal) (ms0_4 m hO t).view ((hs0_4 m hO t).unread (iblk m hO c 4 t)) = z4 at e4 ⊢
  subst e0 e1 e2 e3 e4
  exact ⟨rfl, rfl, rfl, rfl⟩

/-- The table of the first device, for the facts in which the device's number plays no part. -/
def zero : (pcfg0 (F := Ideal)).Adm := ⟨fun | 0 => fun _ => (0 : BitVec 32), by decide +kernel⟩

theorem cover : ((cfg0 zero).win 5).Covers ∧ ((cfg0 zero).win 6).Covers ∧ ((cfg0 zero).win 7).Covers ∧ ((cfg0 zero).win 8).Covers := by
  decide +kernel

theorem idxs (t : Fin (cfgM m hO).N) : (∀ a : Fin 3, ((cfgM m hO).win 0).index t a = ![0, 0, 0] a)
    ∧ (∀ a : Fin 2, ((cfgM m hO).win 1).index t a = ![0, 0] a)
    ∧ (∀ a : Fin 2, ((cfgM m hO).win 2).index t a = ![0, 0] a) ∧ (∀ a : Fin 2, ((cfgM m hO).win 3).index t a = ![0, 0] a)
    ∧ (∀ a : Fin 2, ((cfgM m hO).win 4).index t a = ![0, 0] a) ∧ (∀ a : Fin 2, ((cfgM m hO).win 5).index t a = ![0, 0] a)
    ∧ (∀ a : Fin 2, ((cfgM m hO).win 6).index t a = ![0, 0] a) ∧ (∀ a : Fin 2, ((cfgM m hO).win 7).index t a = ![0, 0] a)
    ∧ (∀ a : Fin 2, ((cfgM m hO).win 8).index t a = ![0, 0] a) :=
  have h := blocks t
  ⟨congrFun h.1, congrFun h.2.1, congrFun h.2.2.1, congrFun h.2.2.2.1, congrFun h.2.2.2.2.1,
    congrFun h.2.2.2.2.2.1, congrFun h.2.2.2.2.2.2.1, congrFun h.2.2.2.2.2.2.2.1, congrFun h.2.2.2.2.2.2.2.2⟩

/-- Where an element of a point's block lies in the weight. -/
def place (t : Fin (cfgM m hO).N) (y : S184x1024.Idx) : S184x1024.Idx := y

theorem embs (t : Fin (cfgM m hO).N) (y : S184x1024.Idx) :
    (((cfgM m hO).win 5).blk t).view.emb y = place m hO t y ∧ (((cfgM m hO).win 6).blk t).view.emb y = place m hO t y
    ∧ (((cfgM m hO).win 7).blk t).view.emb y = place m hO t y ∧ (((cfgM m hO).win 8).blk t).view.emb y = place m hO t y := by
  unfold place
  idx_vars y
  refine ⟨?_, ?_, ?_, ?_⟩ <;> blk_ext [idxs m hO t]

theorem blk2 (t : Fin (cfgM m hO).N) (y : S184x1024.Idx) : iblk m hO c 2 t y = argW m c (place m hO t y) := by
  unfold place
  idx_vars y
  blk_point [iblk, V, idxs m hO t]
theorem blk3 (t : Fin (cfgM m hO).N) (y : S184x1024.Idx) : iblk m hO c 3 t y = argM m c (place m hO t y) := by
  unfold place
  idx_vars y
  blk_point [iblk, V, idxs m hO t]
theorem blk4 (t : Fin (cfgM m hO).N) (y : S184x1024.Idx) : iblk m hO c 4 t y = argV m c (place m hO t y) := by
  unfold place
  idx_vars y
  blk_point [iblk, V, idxs m hO t]

/-- The summed gradient, packed, -/
def sums : Vec Ideal S184x1024 .f32 := val_main_v4 (F := Ideal) (argR m c) (argO m c) (argN m c)
/-- and the step, packed. -/
def changes (g w p v : Vec Ideal S184x1024 .f32) : Vec Ideal S184x1024 .f32 := fun y => change (w y) (g y) (p y) (v y)
def firsts (g p : Vec Ideal S184x1024 .f32) : Vec Ideal S184x1024 .f32 := fun y => first (g y) (p y)
def seconds (g v : Vec Ideal S184x1024 .f32) : Vec Ideal S184x1024 .f32 := fun y => second (g y) (v y)

/-- The gradient of the point's block is the reference's. -/
theorem grad_eq (t : Fin (cfgM m hO).N) (y : S184x1024.Idx) :
    grad (me m) (iblk m hO c 0 t) (iblk m hO c 1 t) y = sums m c (place m hO t y) := by
  have ec : c = 0 := Subsingleton.elim _ _
  have hy : ∀ k : Fin 8, iblk m hO c 0 t (ix3 k (y 0) (y 1)) = argR m c (ix3 k (place m hO t y 0) (place m hO t y 1)) := by
    unfold place
    idx_vars y
    intro k
    blk_point [iblk, V, idxs m hO t]
  have hx : iblk m hO c 1 t y = argO m c (place m hO t y) := by
    unfold place
    idx_vars y
    blk_point [iblk, V, idxs m hO t]
  refine (grad_apply (me m) _ _ y).trans (Eq.trans ?_ (ref4 _ _ _ _).symm)
  subst ec
  exact congrArg₂ (fun a => total (me m) (fun _ => a)) hx (funext hy)

/-- The four result arrays of the call. -/
theorem final5 : (dats m hO 0 c).arrAt 5 (cfgM m hO).N = sums m c := by
  refine (dats m hO 0 c).arrAt_eq_of_covers 5 _ cover.1 fun t _ y => ?_
  blk_simp
  rw [after0_5]
  refine (outs m c hO t y).1.trans ?_
  rw [(embs m hO t y).1]
  exact grad_eq m c hO t y

theorem final6 : (dats m hO 0 c).arrAt 6 (cfgM m hO).N = changes (sums m c) (argW m c) (argM m c) (argV m c) := by
  refine (dats m hO 0 c).arrAt_eq_of_covers 6 _ cover.2.1 fun t _ y => ?_
  blk_simp
  rw [after0_6]
  refine (outs m c hO t y).2.1.trans ?_
  rw [(embs m hO t y).2.1, grad_eq m c hO t y, blk2 m c hO t y, blk3 m c hO t y, blk4 m c hO t y]
  rfl

theorem final7 : (dats m hO 0 c).arrAt 7 (cfgM m hO).N = firsts (sums m c) (argM m c) := by
  refine (dats m hO 0 c).arrAt_eq_of_covers 7 _ cover.2.2.1 fun t _ y => ?_
  blk_simp
  rw [after0_7]
  refine (outs m c hO t y).2.2.1.trans ?_
  rw [(embs m hO t y).2.2.1, grad_eq m c hO t y, blk3 m c hO t y]
  rfl

theorem final8 : (dats m hO 0 c).arrAt 8 (cfgM m hO).N = seconds (sums m c) (argV m c) := by
  refine (dats m hO 0 c).arrAt_eq_of_covers 8 _ cover.2.2.2 fun t _ y => ?_
  blk_simp
  rw [after0_8]
  refine (outs m c hO t y).2.2.2.trans ?_
  rw [(embs m hO t y).2.2.2, grad_eq m c hO t y, blk4 m c hO t y]
  rfl

/-! ## The results, read out of the packed arrays after the call -/

/-- What the core's arrays hold when the call ends. -/
def left : Valuation τ sig (Elt Ideal) :=
  Pipeline.withArrays (Pipeline.pin pcfgs (fun _ => adm m hO) 0).spec c (V0 m c) fun w => (dats m hO 0 c).arrAt w (Pipeline.pin pcfgs (fun _ => adm m hO) 0).N

theorem left_eq : left m c hO (Proc.devRef .tc main_v1_0) = sums m c ∧ left m c hO (Proc.devRef .tc main_v1_1) = changes (sums m c) (argW m c) (argM m c) (argV m c)
    ∧ left m c hO (Proc.devRef .tc main_v1_2) = firsts (sums m c) (argM m c) ∧ left m c hO (Proc.devRef .tc main_v1_3) = seconds (sums m c) (argV m c) :=
  have e w := Pipeline.withArrays_arr (Pipeline.pin pcfgs (fun _ => adm m hO) 0).spec (by exact (by decide : Function.Injective (Pipeline.arrRef spec0))) c (V0 m c)
    (fun w => (dats m hO 0 c).arrAt w (Pipeline.pin pcfgs (fun _ => adm m hO) 0).N) w
  ⟨(e 5).trans (final5 m c hO), (e 6).trans (final6 m c hO), (e 7).trans (final7 m c hO), (e 8).trans (final8 m c hO)⟩

/-- What the lines after the call make of it. -/
def out (b : Ref sig .tc) : Buf (Elt Ideal) ((c : Thread nD τ).loc b) := StableHlo.after hostOps1 (left m c hO) (Proc.devRef .tc b)

theorem out_eq {r} (h : Pipeline.FramePost (Pipeline.pin pcfgs fun _ => adm m hO) (dats m hO) 0 (Pipeline.afterTail pcfgs (fun _ => adm m hO) (dats m hO) 0 (V0 m) [hostOps1]) r)
    (b : Ref sig .tc) (h0 : b.isScoped = false) (h1 : ∀ w, Pipeline.arrRef spec0 w ≠ b) :
    r.2.mem ((c : Thread nD τ).loc b) = out m c hO b :=
  (h c).2 b (Pipeline.mem_restRefs_of b h0 h1)

end Ideal

/-! ## The claims -/

/-- The kernel's table of bodies is the idealised program's, which has the same text. -/
theorem bodies : Cert.SmallUpdate.defs₀ (F := Bits) = Cert.SmallUpdateIdeal.defs₀ (F := Bits) := by
  unfold Cert.SmallUpdate.defs₀ Cert.SmallUpdateIdeal.defs₀
  congr 1
  funext l x
  match l, x with
  | 0, (t, s) => rfl

theorem tables : Cert.SmallUpdate.defs (F := Bits) = Cert.SmallUpdateIdeal.defs (F := Bits) := by
  unfold Cert.SmallUpdate.defs Cert.SmallUpdateIdeal.defs
  rw [bodies]
  rfl

set_option maxHeartbeats 1600000 in
theorem part0 : Cert.SmallUpdate.main_part0 (F := Bits) = Cert.SmallUpdateIdeal.main_part0 (F := Bits) := funext fun _ => rfl
set_option maxHeartbeats 1600000 in
theorem part1 : Cert.SmallUpdate.main_part1 (F := Bits) = Cert.SmallUpdateIdeal.main_part1 (F := Bits) := funext fun _ => rfl
set_option maxHeartbeats 1600000 in
theorem part2 : Cert.SmallUpdate.main_part2 (F := Bits) = Cert.SmallUpdateIdeal.main_part2 (F := Bits) := funext fun _ => rfl

/-- And so is what it does before and after the call. -/
theorem mains : Cert.SmallUpdate.main (F := Bits) = Cert.SmallUpdateIdeal.main (F := Bits) := by
  funext c
  unfold Cert.SmallUpdate.main Cert.SmallUpdateIdeal.main
  rw [part0, part1, part2]
  rfl

theorem frame_kernel : Cert.quiescent_SmallUpdate := fun m ρ _ => by
  rw [tables, mains]
  exact frame (F := Bits) m ρ (ok m)

theorem frame_ideal : Cert.quiescent_SmallUpdateIdeal := fun m ρ _ => frame (F := Ideal) m ρ (ok m)

set_option maxHeartbeats 1600000 in
theorem frame_reference : Cert.quiescent_SmallUpdateReferenceIdeal := fun m ρ _ =>
  (θ_run _ _ _).mono (fun r h => ⟨fun c => (h c).2.2.2.2.2.2.2.2.2.2.2.2.2.2.2.2.2.2.2.2.2.2.2.2.2.2.2.2.2.2.2.2.2.2.2.2.2.2.2.2.2.2.2.2.2.2.2.2.2.2.2.2.2.2.2.2.2.2.2.2.2, sem_eq_zero_of_no_sems (by decide) r.2⟩)
    (Cert.SmallUpdateReferenceIdeal.Value.run (F := Ideal) m ρ)

set_option maxHeartbeats 1600000 in
theorem algebraic : Cert.algebraic_SmallUpdateIdeal_SmallUpdateReferenceIdeal := by
  intro m g m' g' _ hargs
  have hO := ok m
  refine ⟨(out m · hO main_v4), (out m · hO main_v7), (out m · hO main_v9), (out m · hO main_v10), (out m · hO main_v12), (out m · hO main_v14), (out m · hO main_v16),
    (out m · hO main_v18), (out m · hO main_v20), (out m · hO main_v22), (out m · hO main_v24), (out m · hO main_v26), (out m · hO main_v28), (out m · hO
    main_v30), (out m · hO main_v32), (out m · hO main_v34), (out m · hO main_v37), (out m · hO main_v39), (out m · hO main_v40), (out m · hO main_v42), (out m
    · hO main_v44), (out m · hO main_v46), (out m · hO main_v48), (out m · hO main_v50), (out m · hO main_v52), (out m · hO main_v54), (out m · hO main_v56),
    (out m · hO main_v58), (out m · hO main_v60), (out m · hO main_v62), (out m · hO main_v64), (out m · hO main_v67), (out m · hO main_v69), (out m · hO
    main_v70), (out m · hO main_v72), (out m · hO main_v74), (out m · hO main_v76), (out m · hO main_v78), (out m · hO main_v80), (out m · hO main_v82), (out m
    · hO main_v84), (out m · hO main_v86), (out m · hO main_v88), (out m · hO main_v90), (out m · hO main_v92), (out m · hO main_v94), (out m · hO main_v97),
    (out m · hO main_v99), (out m · hO main_v100), (out m · hO main_v102), (out m · hO main_v104), (out m · hO main_v106), (out m · hO main_v108), (out m · hO
    main_v110), (out m · hO main_v112), (out m · hO main_v114), (out m · hO main_v116), (out m · hO main_v118), (out m · hO main_v120), (out m · hO main_v122),
    (out m · hO main_v124), ?_, ?_⟩
  · refine (θ_run _ _ _).mono (fun r h c => ?_) (θ_run_and (run_main m g hO) (frame m g hO))
    obtain ⟨k0, k1, k2, k3, k4, k5⟩ := h.2.1 c
    and_intros
    all_goals first | assumption | exact out_eq m c hO h.1 _ (by decide) (by decide)
  refine (θ_run _ _ _).mono (fun r h c => ?_) (Cert.SmallUpdateReferenceIdeal.Value.run (F := Ideal) m' g')
  obtain ⟨e0, e1, e2, e3, e4, e5⟩ := hargs c
  have es : sums m c = val_main_v4 (F := Ideal) (m' ((c : Thread nD τ).loc Cert.SmallUpdateReferenceIdeal.main_arg0))
      (m' ((c : Thread nD τ).loc Cert.SmallUpdateReferenceIdeal.main_arg1)) (m' ((c : Thread nD τ).loc Cert.SmallUpdateReferenceIdeal.main_arg2)) := by
    rw [e0, e1, e2]; rfl
  obtain ⟨l5, l6, l7, l8⟩ := left_eq m c hO
  rw [es] at l5
  rw [es, argW, argM, argV, ← e3, ← e4, ← e5] at l6
  rw [es, argM, ← e4] at l7
  rw [es, argV, ← e5] at l8
  obtain ⟨h0, h1, h2, h3, h4, h5, h6, h7, h8, h9, h10, h11, h12, h13, h14, h15, h16, h17, h18, h19, h20, h21, h22, h23, h24, h25,
    h26, h27, h28, h29, h30, h31, h32, h33, h34, h35, h36, h37, h38, h39, h40, h41, h42, h43, h44, h45, h46, h47, h48,
    h49, h50, h51, h52, h53, h54, h55, h56, h57, h58, h59, h60, hk⟩ := h c
  clear h
  refine ⟨h0.trans ?_, h1.trans ?_, h2.trans ?_, h3.trans ?_, h4.trans ?_, h5.trans ?_, h6.trans ?_, h7.trans ?_, h8.trans ?_,
    h9.trans ?_, h10.trans ?_, h11.trans ?_, h12.trans ?_, h13.trans ?_, h14.trans ?_, h15.trans ?_, h16.trans ?_,
    h17.trans ?_, h18.trans ?_, h19.trans ?_, h20.trans ?_, h21.trans ?_, h22.trans ?_, h23.trans ?_, h24.trans ?_,
    h25.trans ?_, h26.trans ?_, h27.trans ?_, h28.trans ?_, h29.trans ?_, h30.trans ?_, h31.trans ?_, h32.trans ?_,
    h33.trans ?_, h34.trans ?_, h35.trans ?_, h36.trans ?_, h37.trans ?_, h38.trans ?_, h39.trans ?_, h40.trans ?_,
    h41.trans ?_, h42.trans ?_, h43.trans ?_, h44.trans ?_, h45.trans ?_, h46.trans ?_, h47.trans ?_, h48.trans ?_,
    h49.trans ?_, h50.trans ?_, h51.trans ?_, h52.trans ?_, h53.trans ?_, h54.trans ?_, h55.trans ?_, h56.trans ?_,
    h57.trans ?_, h58.trans ?_, h59.trans ?_, h60.trans ?_, hk⟩
  all_goals
    beta_reduce
    unfold out
    entry_read
    first | rw [l5] | rw [l6] | rw [l7] | rw [l8]
    rfl

end Cert.Step.SmallUpdate
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.FfnDhn
public import proofs.«01_k».proof.Proof.Gen.FfnDhn.Frame
public import proofs.«01_k».proof.Proof.Gen.FfnDhnIdeal
public import proofs.«01_k».proof.Proof.Gen.FfnDhnIdeal.Frame
public import proofs.«01_k».proof.Proof.Gen.FfnDhnReferenceIdeal
public import proofs.«01_k».proof.Proof.Gen.FfnDwinA
public import proofs.«01_k».proof.Proof.Gen.FfnDwinA.Frame
public import proofs.«01_k».proof.Proof.Gen.FfnDwinAIdeal
public import proofs.«01_k».proof.Proof.Gen.FfnDwinAIdeal.Frame
public import proofs.«01_k».proof.Proof.Gen.FfnDwinAReferenceIdeal
public import proofs.«01_k».proof.Proof.Gen.FfnDwinB
public import proofs.«01_k».proof.Proof.Gen.FfnDwinB.Frame
public import proofs.«01_k».proof.Proof.Gen.FfnDwinBIdeal
public import proofs.«01_k».proof.Proof.Gen.FfnDwinBIdeal.Frame
public import proofs.«01_k».proof.Proof.Gen.FfnDwinBReferenceIdeal
public import proofs.«01_k».proof.Proof.Gen.FfnDwout
public import proofs.«01_k».proof.Proof.Gen.FfnDwout.Frame
public import proofs.«01_k».proof.Proof.Gen.FfnDwoutIdeal
public import proofs.«01_k».proof.Proof.Gen.FfnDwoutIdeal.Frame
public import proofs.«01_k».proof.Proof.Gen.FfnDwoutReferenceIdeal
public import proofs.«01_k».proof.Proof.Gen.FfnDact
public import proofs.«01_k».proof.Proof.Gen.FfnDact.Frame
public import proofs.«01_k».proof.Proof.Gen.FfnDactIdeal
public import proofs.«01_k».proof.Proof.Gen.FfnDactIdeal.Frame
public import proofs.«01_k».proof.Proof.Gen.FfnDactReferenceIdeal
public import proofs.«01_k».proof.Proof.Gen.AttDhn
public import proofs.«01_k».proof.Proof.Gen.AttDhn.Frame
public import proofs.«01_k».proof.Proof.Gen.AttDhnIdeal
public import proofs.«01_k».proof.Proof.Gen.AttDhnIdeal.Frame
public import proofs.«01_k».proof.Proof.Gen.AttDhnReferenceIdeal
public import proofs.«01_k».proof.Proof.Gen.MixDhn
public import proofs.«01_k».proof.Proof.Gen.MixDhn.Frame
public import proofs.«01_k».proof.Proof.Gen.MixDhnIdeal
public import proofs.«01_k».proof.Proof.Gen.MixDhnIdeal.Frame
public import proofs.«01_k».proof.Proof.Gen.MixDhnReferenceIdeal
public import proofs.«01_k».proof.Proof.Gen.AttDwqkv
public import proofs.«01_k».proof.Proof.Gen.AttDwqkv.Frame
public import proofs.«01_k».proof.Proof.Gen.AttDwqkvIdeal
public import proofs.«01_k».proof.Proof.Gen.AttDwqkvIdeal.Frame
public import proofs.«01_k».proof.Proof.Gen.AttDwqkvReferenceIdeal
public import proofs.«01_k».proof.Proof.Gen.MixDwin
public import proofs.«01_k».proof.Proof.Gen.MixDwin.Frame
public import proofs.«01_k».proof.Proof.Gen.MixDwinIdeal
public import proofs.«01_k».proof.Proof.Gen.MixDwinIdeal.Frame
public import proofs.«01_k».proof.Proof.Gen.MixDwinReferenceIdeal
public import proofs.«01_k».proof.Proof.Gen.MixDwout
public import proofs.«01_k».proof.Proof.Gen.MixDwout.Frame
public import proofs.«01_k».proof.Proof.Gen.MixDwoutIdeal
public import proofs.«01_k».proof.Proof.Gen.MixDwoutIdeal.Frame
public import proofs.«01_k».proof.Proof.Gen.MixDwoutReferenceIdeal
public import proofs.«01_k».proof.Proof.Gen.MixDcat
public import proofs.«01_k».proof.Proof.Gen.MixDcat.Frame
public import proofs.«01_k».proof.Proof.Gen.MixDcatIdeal
public import proofs.«01_k».proof.Proof.Gen.MixDcatIdeal.Frame
public import proofs.«01_k».proof.Proof.Gen.MixDcatReferenceIdeal
public import proofs.«01_k».proof.Proof.Gen.AttDwo
public import proofs.«01_k».proof.Proof.Gen.AttDwo.Frame
public import proofs.«01_k».proof.Proof.Gen.AttDwoIdeal
public import proofs.«01_k».proof.Proof.Gen.AttDwoIdeal.Frame
public import proofs.«01_k».proof.Proof.Gen.AttDwoReferenceIdeal
public import proofs.«01_k».proof.Proof.Gen.AttDmix
public import proofs.«01_k».proof.Proof.Gen.AttDmix.Frame
public import proofs.«01_k».proof.Proof.Gen.AttDmixIdeal
public import proofs.«01_k».proof.Proof.Gen.AttDmixIdeal.Frame
public import proofs.«01_k».proof.Proof.Gen.AttDmixReferenceIdeal
public import proofs.«01_k».proof.Proof.Gen.FfnOut
public import proofs.«01_k».proof.Proof.Gen.FfnOut.Frame
public import proofs.«01_k».proof.Proof.Gen.FfnOutIdeal
public import proofs.«01_k».proof.Proof.Gen.FfnOutIdeal.Frame
public import proofs.«01_k».proof.Proof.Gen.FfnOutReferenceIdeal
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutReferenceIdeal
public import proofs.«01_k».proof.Proof.Gen.AttOut
public import proofs.«01_k».proof.Proof.Gen.AttOut.Frame
public import proofs.«01_k».proof.Proof.Gen.AttOutIdeal
public import proofs.«01_k».proof.Proof.Gen.AttOutIdeal.Frame
public import proofs.«01_k».proof.Proof.Gen.AttOutReferenceIdeal
public import proofs.«01_k».proof.Proof.Gen.S5Dglu
public import proofs.«01_k».proof.Proof.Gen.S5Dglu.Frame
public import proofs.«01_k».proof.Proof.Gen.S5DgluIdeal
public import proofs.«01_k».proof.Proof.Gen.S5DgluIdeal.Frame
public import proofs.«01_k».proof.Proof.Gen.S5DgluReferenceIdeal
public import proofs.«01_k».proof.Proof.Gen.FfnIn
public import proofs.«01_k».proof.Proof.Gen.FfnIn.Frame
public import proofs.«01_k».proof.Proof.Gen.FfnInIdeal
public import proofs.«01_k».proof.Proof.Gen.FfnInIdeal.Frame
public import proofs.«01_k».proof.Proof.Gen.FfnInReferenceIdeal
public import proofs.«01_k».proof.Proof.Gen.S5GluUpdate
public import proofs.«01_k».proof.Proof.Gen.S5GluUpdate.Frame
public import proofs.«01_k».proof.Proof.Gen.S5GluUpdateIdeal
public import proofs.«01_k».proof.Proof.Gen.S5GluUpdateIdeal.Frame
public import proofs.«01_k».proof.Proof.Gen.S5GluUpdateReferenceIdeal
public import proofs.«01_k».proof.Proof.Gen.AttWoUpdate
public import proofs.«01_k».proof.Proof.Gen.AttWoUpdate.Frame
public import proofs.«01_k».proof.Proof.Gen.AttWoUpdateIdeal
public import proofs.«01_k».proof.Proof.Gen.AttWoUpdateIdeal.Frame
public import proofs.«01_k».proof.Proof.Gen.AttWoUpdateReferenceIdeal
public import proofs.«01_k».proof.Proof.Gen.MixWoutUpdate
public import proofs.«01_k».proof.Proof.Gen.MixWoutUpdate.Frame
public import proofs.«01_k».proof.Proof.Gen.MixWoutUpdateIdeal
public import proofs.«01_k».proof.Proof.Gen.MixWoutUpdateIdeal.Frame
public import proofs.«01_k».proof.Proof.Gen.MixWoutUpdateReferenceIdeal
public import proofs.«01_k».proof.Proof.Gen.MixWinUpdate
public import proofs.«01_k».proof.Proof.Gen.MixWinUpdate.Frame
public import proofs.«01_k».proof.Proof.Gen.MixWinUpdateIdeal
public import proofs.«01_k».proof.Proof.Gen.MixWinUpdateIdeal.Frame
public import proofs.«01_k».proof.Proof.Gen.MixWinUpdateReferenceIdeal
public import proofs.«01_k».proof.Proof.Gen.AttWqkvUpdate
public import proofs.«01_k».proof.Proof.Gen.AttWqkvUpdate.Frame
public import proofs.«01_k».proof.Proof.Gen.AttWqkvUpdateIdeal
public import proofs.«01_k».proof.Proof.Gen.AttWqkvUpdateIdeal.Frame
public import proofs.«01_k».proof.Proof.Gen.AttWqkvUpdateReferenceIdeal
public import proofs.«01_k».proof.Proof.Gen.FfnWoutUpdate1
public import proofs.«01_k».proof.Proof.Gen.FfnWoutUpdate1.Frame
public import proofs.«01_k».proof.Proof.Gen.FfnWoutUpdate1Ideal
public import proofs.«01_k».proof.Proof.Gen.FfnWoutUpdate1Ideal.Frame
public import proofs.«01_k».proof.Proof.Gen.FfnWoutUpdate1ReferenceIdeal
public import proofs.«01_k».proof.Proof.Gen.FfnWinUpdate1
public import proofs.«01_k».proof.Proof.Gen.FfnWinUpdate1.Frame
public import proofs.«01_k».proof.Proof.Gen.FfnWinUpdate1Ideal
public import proofs.«01_k».proof.Proof.Gen.FfnWinUpdate1Ideal.Frame
public import proofs.«01_k».proof.Proof.Gen.FfnWinUpdate1ReferenceIdeal
public import proofs.«01_k».proof.Proof.Gen.FfnWoutUpdate
public import proofs.«01_k».proof.Proof.Gen.FfnWoutUpdate.Frame
public import proofs.«01_k».proof.Proof.Gen.FfnWoutUpdateIdeal
public import proofs.«01_k».proof.Proof.Gen.FfnWoutUpdateIdeal.Frame
public import proofs.«01_k».proof.Proof.Gen.FfnWoutUpdateReferenceIdeal
public import proofs.«01_k».proof.Proof.Gen.FfnWinUpdate
public import proofs.«01_k».proof.Proof.Gen.FfnWinUpdate.Frame
public import proofs.«01_k».proof.Proof.Gen.FfnWinUpdateIdeal
public import proofs.«01_k».proof.Proof.Gen.FfnWinUpdateIdeal.Frame
public import proofs.«01_k».proof.Proof.Gen.FfnWinUpdateReferenceIdeal
public import proofs.«01_k».proof.Proof.Gen.SmallUpdate
public import proofs.«01_k».proof.Proof.Gen.SmallUpdate.Frame
public import proofs.«01_k».proof.Proof.Gen.SmallUpdateIdeal
public import proofs.«01_k».proof.Proof.Gen.SmallUpdateIdeal.Frame
public import proofs.«01_k».proof.Proof.Gen.SmallUpdateReferenceIdeal
public import proofs.«01_k».proof.Proof.Gen.Pre_finite
public import proofs.«01_k».proof.Proof.Gen.Pre_s5_glu_update_on_mesh
public import proofs.«01_k».proof.Proof.Gen.Pre_att_wo_update_on_mesh
public import proofs.«01_k».proof.Proof.Gen.Pre_mix_wout_update_on_mesh
public import proofs.«01_k».proof.Proof.Gen.Pre_mix_win_update_on_mesh
public import proofs.«01_k».proof.Proof.Gen.Pre_att_wqkv_update_on_mesh
public import proofs.«01_k».proof.Proof.Gen.Pre_ffn_wout_update1_on_mesh
public import proofs.«01_k».proof.Proof.Gen.Pre_ffn_win_update1_on_mesh
public import proofs.«01_k».proof.Proof.Gen.Pre_ffn_wout_update_on_mesh
public import proofs.«01_k».proof.Proof.Gen.Pre_ffn_win_update_on_mesh
public import proofs.«01_k».proof.Proof.ConvClaim
public import proofs.«01_k».proof.Proof.FfnDhnClaim
public import proofs.«01_k».proof.Proof.FfnDwinAClaim
public import proofs.«01_k».proof.Proof.FfnDwinBClaim
public import proofs.«01_k».proof.Proof.FfnDwoutClaim
public import proofs.«01_k».proof.Proof.FfnDactClaim
public import proofs.«01_k».proof.Proof.AttDhnClaim
public import proofs.«01_k».proof.Proof.MixDhnClaim
public import proofs.«01_k».proof.Proof.AttDwqkvClaim
public import proofs.«01_k».proof.Proof.MixDwinClaim
public import proofs.«01_k».proof.Proof.MixDwoutClaim
public import proofs.«01_k».proof.Proof.MixDcatClaim
public import proofs.«01_k».proof.Proof.AttDwoClaim
public import proofs.«01_k».proof.Proof.AttDmixClaim
public import proofs.«01_k».proof.Proof.S5DgluClaim
public import proofs.«01_k».proof.Proof.FfnInClaim
public import proofs.«01_k».proof.Proof.FfnOutClaim
public import proofs.«01_k».proof.Proof.MixOutClaim
public import proofs.«01_k».proof.Proof.AttOutClaim
public import proofs.«01_k».proof.Proof.S5GluUpdateClaim
public import proofs.«01_k».proof.Proof.AttWoUpdateClaim
public import proofs.«01_k».proof.Proof.MixWoutUpdateClaim
public import proofs.«01_k».proof.Proof.MixWinUpdateClaim
public import proofs.«01_k».proof.Proof.AttWqkvUpdateClaim
public import proofs.«01_k».proof.Proof.FfnWoutUpdate1Claim
public import proofs.«01_k».proof.Proof.FfnWinUpdate1Claim
public import proofs.«01_k».proof.Proof.FfnWoutUpdateClaim
public import proofs.«01_k».proof.Proof.FfnWinUpdateClaim
public import proofs.«01_k».proof.Proof.SmallUpdateClaim
public import Idealize.ShloMosaic.Adequacy
public import Idealize.ShloMosaic.Init

@[expose] public section

noncomputable section

namespace Cert.Proof

open Idealize.ShloMosaic Idealize.SL.Sem

theorem claim : Cert.Claim := ⟨
  Cert.Kernel.Gen.facts,
  Cert.KernelIdeal.Gen.facts,
  Cert.ReferenceIdeal.Gen.facts,
  Cert.FfnDhn.Gen.facts,
  Cert.FfnDhnIdeal.Gen.facts,
  Cert.FfnDhnReferenceIdeal.Gen.facts,
  Cert.FfnDwinA.Gen.facts,
  Cert.FfnDwinAIdeal.Gen.facts,
  Cert.FfnDwinAReferenceIdeal.Gen.facts,
  Cert.FfnDwinB.Gen.facts,
  Cert.FfnDwinBIdeal.Gen.facts,
  Cert.FfnDwinBReferenceIdeal.Gen.facts,
  Cert.FfnDwout.Gen.facts,
  Cert.FfnDwoutIdeal.Gen.facts,
  Cert.FfnDwoutReferenceIdeal.Gen.facts,
  Cert.FfnDact.Gen.facts,
  Cert.FfnDactIdeal.Gen.facts,
  Cert.FfnDactReferenceIdeal.Gen.facts,
  Cert.AttDhn.Gen.facts,
  Cert.AttDhnIdeal.Gen.facts,
  Cert.AttDhnReferenceIdeal.Gen.facts,
  Cert.MixDhn.Gen.facts,
  Cert.MixDhnIdeal.Gen.facts,
  Cert.MixDhnReferenceIdeal.Gen.facts,
  Cert.AttDwqkv.Gen.facts,
  Cert.AttDwqkvIdeal.Gen.facts,
  Cert.AttDwqkvReferenceIdeal.Gen.facts,
  Cert.MixDwin.Gen.facts,
  Cert.MixDwinIdeal.Gen.facts,
  Cert.MixDwinReferenceIdeal.Gen.facts,
  Cert.MixDwout.Gen.facts,
  Cert.MixDwoutIdeal.Gen.facts,
  Cert.MixDwoutReferenceIdeal.Gen.facts,
  Cert.MixDcat.Gen.facts,
  Cert.MixDcatIdeal.Gen.facts,
  Cert.MixDcatReferenceIdeal.Gen.facts,
  Cert.AttDwo.Gen.facts,
  Cert.AttDwoIdeal.Gen.facts,
  Cert.AttDwoReferenceIdeal.Gen.facts,
  Cert.AttDmix.Gen.facts,
  Cert.AttDmixIdeal.Gen.facts,
  Cert.AttDmixReferenceIdeal.Gen.facts,
  Cert.FfnOut.Gen.facts,
  Cert.FfnOutIdeal.Gen.facts,
  Cert.FfnOutReferenceIdeal.Gen.facts,
  Cert.MixOut.Gen.facts,
  Cert.MixOutIdeal.Gen.facts,
  Cert.MixOutReferenceIdeal.Gen.facts,
  Cert.AttOut.Gen.facts,
  Cert.AttOutIdeal.Gen.facts,
  Cert.AttOutReferenceIdeal.Gen.facts,
  Cert.S5Dglu.Gen.facts,
  Cert.S5DgluIdeal.Gen.facts,
  Cert.S5DgluReferenceIdeal.Gen.facts,
  Cert.FfnIn.Gen.facts,
  Cert.FfnInIdeal.Gen.facts,
  Cert.FfnInReferenceIdeal.Gen.facts,
  Cert.S5GluUpdate.Gen.facts,
  Cert.S5GluUpdateIdeal.Gen.facts,
  Cert.S5GluUpdateReferenceIdeal.Gen.facts,
  Cert.AttWoUpdate.Gen.facts,
  Cert.AttWoUpdateIdeal.Gen.facts,
  Cert.AttWoUpdateReferenceIdeal.Gen.facts,
  Cert.MixWoutUpdate.Gen.facts,
  Cert.MixWoutUpdateIdeal.Gen.facts,
  Cert.MixWoutUpdateReferenceIdeal.Gen.facts,
  Cert.MixWinUpdate.Gen.facts,
  Cert.MixWinUpdateIdeal.Gen.facts,
  Cert.MixWinUpdateReferenceIdeal.Gen.facts,
  Cert.AttWqkvUpdate.Gen.facts,
  Cert.AttWqkvUpdateIdeal.Gen.facts,
  Cert.AttWqkvUpdateReferenceIdeal.Gen.facts,
  Cert.FfnWoutUpdate1.Gen.facts,
  Cert.FfnWoutUpdate1Ideal.Gen.facts,
  Cert.FfnWoutUpdate1ReferenceIdeal.Gen.facts,
  Cert.FfnWinUpdate1.Gen.facts,
  Cert.FfnWinUpdate1Ideal.Gen.facts,
  Cert.FfnWinUpdate1ReferenceIdeal.Gen.facts,
  Cert.FfnWoutUpdate.Gen.facts,
  Cert.FfnWoutUpdateIdeal.Gen.facts,
  Cert.FfnWoutUpdateReferenceIdeal.Gen.facts,
  Cert.FfnWinUpdate.Gen.facts,
  Cert.FfnWinUpdateIdeal.Gen.facts,
  Cert.FfnWinUpdateReferenceIdeal.Gen.facts,
  Cert.SmallUpdate.Gen.facts,
  Cert.SmallUpdateIdeal.Gen.facts,
  Cert.SmallUpdateReferenceIdeal.Gen.facts,
  Cert.Pre_finite.Gen.facts,
  Cert.Pre_s5_glu_update_on_mesh.Gen.facts,
  Cert.Pre_att_wo_update_on_mesh.Gen.facts,
  Cert.Pre_mix_wout_update_on_mesh.Gen.facts,
  Cert.Pre_mix_win_update_on_mesh.Gen.facts,
  Cert.Pre_att_wqkv_update_on_mesh.Gen.facts,
  Cert.Pre_ffn_wout_update1_on_mesh.Gen.facts,
  Cert.Pre_ffn_win_update1_on_mesh.Gen.facts,
  Cert.Pre_ffn_wout_update_on_mesh.Gen.facts,
  Cert.Pre_ffn_win_update_on_mesh.Gen.facts,
  fun m ρ _ => Cert.Kernel.Gen.frame m ρ,
  fun m ρ _ => Cert.KernelIdeal.Gen.frame m ρ,
  fun m ρ _ => Cert.KernelIdeal.Gen.frame m ρ,
  fun m ρ _ => Cert.Conv.frame_reference m ρ,
  fun m ρ _ => Cert.Conv.frame_reference m ρ,
  fun m ρ _ => Cert.FfnDhn.Gen.frame m ρ,
  fun m ρ _ => Cert.FfnDhnIdeal.Gen.frame m ρ,
  Cert.Step.FfnDhn.frame_reference,
  fun m ρ _ => Cert.FfnDwinA.Gen.frame m ρ,
  fun m ρ _ => Cert.FfnDwinAIdeal.Gen.frame m ρ,
  Cert.Step.FfnDwinA.frame_reference,
  fun m ρ _ => Cert.FfnDwinB.Gen.frame m ρ,
  fun m ρ _ => Cert.FfnDwinBIdeal.Gen.frame m ρ,
  Cert.Step.FfnDwinB.frame_reference,
  fun m ρ _ => Cert.FfnDwout.Gen.frame m ρ,
  fun m ρ _ => Cert.FfnDwoutIdeal.Gen.frame m ρ,
  Cert.Step.FfnDwout.frame_reference,
  fun m ρ _ => Cert.FfnDact.Gen.frame m ρ,
  fun m ρ _ => Cert.FfnDactIdeal.Gen.frame m ρ,
  Cert.Step.FfnDact.frame_reference,
  fun m ρ _ => Cert.AttDhn.Gen.frame m ρ,
  fun m ρ _ => Cert.AttDhnIdeal.Gen.frame m ρ,
  Cert.Step.AttDhn.frame_reference,
  fun m ρ _ => Cert.MixDhn.Gen.frame m ρ,
  fun m ρ _ => Cert.MixDhnIdeal.Gen.frame m ρ,
  Cert.Step.MixDhn.frame_reference,
  fun m ρ _ => Cert.AttDwqkv.Gen.frame m ρ,
  fun m ρ _ => Cert.AttDwqkvIdeal.Gen.frame m ρ,
  Cert.Step.AttDwqkv.frame_reference,
  fun m ρ _ => Cert.MixDwin.Gen.frame m ρ,
  fun m ρ _ => Cert.MixDwinIdeal.Gen.frame m ρ,
  Cert.Step.MixDwin.frame_reference,
  fun m ρ _ => Cert.MixDwout.Gen.frame m ρ,
  fun m ρ _ => Cert.MixDwoutIdeal.Gen.frame m ρ,
  Cert.Step.MixDwout.frame_reference,
  fun m ρ _ => Cert.MixDcat.Gen.frame m ρ,
  fun m ρ _ => Cert.MixDcatIdeal.Gen.frame m ρ,
  Cert.Step.MixDcat.frame_reference,
  fun m ρ _ => Cert.AttDwo.Gen.frame m ρ,
  fun m ρ _ => Cert.AttDwoIdeal.Gen.frame m ρ,
  Cert.Step.AttDwo.frame_reference,
  fun m ρ _ => Cert.AttDmix.Gen.frame m ρ,
  fun m ρ _ => Cert.AttDmixIdeal.Gen.frame m ρ,
  Cert.Step.AttDmix.frame_reference,
  fun m ρ _ => Cert.FfnOut.Gen.frame m ρ,
  fun m ρ _ => Cert.FfnOutIdeal.Gen.frame m ρ,
  Cert.Step.FfnOut.frame_reference,
  fun m ρ _ => Cert.MixOut.Gen.frame m ρ,
  fun m ρ _ => Cert.MixOutIdeal.Gen.frame m ρ,
  Cert.Step.MixOut.frame_reference,
  fun m ρ _ => Cert.AttOut.Gen.frame m ρ,
  fun m ρ _ => Cert.AttOutIdeal.Gen.frame m ρ,
  Cert.Step.AttOut.frame_reference,
  fun m ρ _ => Cert.S5Dglu.Gen.frame m ρ,
  fun m ρ _ => Cert.S5DgluIdeal.Gen.frame m ρ,
  Cert.Step.S5Dglu.frame_reference,
  Cert.Step.FfnIn.frame_kernel,
  Cert.Step.FfnIn.frame_ideal,
  Cert.Step.FfnIn.frame_reference,
  Cert.Step.S5GluUpdate.frame_kernel,
  Cert.Step.S5GluUpdate.frame_ideal,
  Cert.Step.S5GluUpdate.frame_reference,
  fun m ρ _ => Cert.Step.S5GluUpdate.frame_reference m ρ trivial,
  Cert.Step.AttWoUpdate.frame_kernel,
  Cert.Step.AttWoUpdate.frame_ideal,
  Cert.Step.AttWoUpdate.frame_reference,
  fun m ρ _ => Cert.Step.AttWoUpdate.frame_reference m ρ trivial,
  Cert.Step.MixWoutUpdate.frame_kernel,
  Cert.Step.MixWoutUpdate.frame_ideal,
  Cert.Step.MixWoutUpdate.frame_reference,
  fun m ρ _ => Cert.Step.MixWoutUpdate.frame_reference m ρ trivial,
  Cert.Step.MixWinUpdate.frame_kernel,
  Cert.Step.MixWinUpdate.frame_ideal,
  Cert.Step.MixWinUpdate.frame_reference,
  fun m ρ _ => Cert.Step.MixWinUpdate.frame_reference m ρ trivial,
  Cert.Step.AttWqkvUpdate.frame_kernel,
  Cert.Step.AttWqkvUpdate.frame_ideal,
  Cert.Step.AttWqkvUpdate.frame_reference,
  fun m ρ _ => Cert.Step.AttWqkvUpdate.frame_reference m ρ trivial,
  Cert.Step.FfnWoutUpdate1.frame_kernel,
  Cert.Step.FfnWoutUpdate1.frame_ideal,
  Cert.Step.FfnWoutUpdate1.frame_reference,
  fun m ρ _ => Cert.Step.FfnWoutUpdate1.frame_reference m ρ trivial,
  Cert.Step.FfnWinUpdate1.frame_kernel,
  Cert.Step.FfnWinUpdate1.frame_ideal,
  Cert.Step.FfnWinUpdate1.frame_reference,
  fun m ρ _ => Cert.Step.FfnWinUpdate1.frame_reference m ρ trivial,
  Cert.Step.FfnWoutUpdate.frame_kernel,
  Cert.Step.FfnWoutUpdate.frame_ideal,
  Cert.Step.FfnWoutUpdate.frame_reference,
  fun m ρ _ => Cert.Step.FfnWoutUpdate.frame_reference m ρ trivial,
  Cert.Step.FfnWinUpdate.frame_kernel,
  Cert.Step.FfnWinUpdate.frame_ideal,
  Cert.Step.FfnWinUpdate.frame_reference,
  fun m ρ _ => Cert.Step.FfnWinUpdate.frame_reference m ρ trivial,
  Cert.Step.SmallUpdate.frame_kernel,
  Cert.Step.SmallUpdate.frame_ideal,
  Cert.Step.SmallUpdate.frame_reference,
  trivial,
  Cert.Conv.algebraic,
  trivial,
  Cert.Step.FfnDhn.algebraic,
  trivial,
  Cert.Step.FfnDwinA.algebraic,
  trivial,
  Cert.Step.FfnDwinB.algebraic,
  trivial,
  Cert.Step.FfnDwout.algebraic,
  trivial,
  Cert.Step.FfnDact.algebraic,
  trivial,
  Cert.Step.AttDhn.algebraic,
  trivial,
  Cert.Step.MixDhn.algebraic,
  trivial,
  Cert.Step.AttDwqkv.algebraic,
  trivial,
  Cert.Step.MixDwin.algebraic,
  trivial,
  Cert.Step.MixDwout.algebraic,
  trivial,
  Cert.Step.MixDcat.algebraic,
  trivial,
  Cert.Step.AttDwo.algebraic,
  trivial,
  Cert.Step.AttDmix.algebraic,
  trivial,
  Cert.Step.FfnOut.algebraic,
  trivial,
  Cert.Step.MixOut.algebraic,
  trivial,
  Cert.Step.AttOut.algebraic,
  trivial,
  Cert.Step.S5Dglu.algebraic,
  trivial,
  Cert.Step.FfnIn.algebraic,
  trivial,
  Cert.Step.S5GluUpdate.algebraic,
  trivial,
  Cert.Step.AttWoUpdate.algebraic,
  trivial,
  Cert.Step.MixWoutUpdate.algebraic,
  trivial,
  Cert.Step.MixWinUpdate.algebraic,
  trivial,
  Cert.Step.AttWqkvUpdate.algebraic,
  trivial,
  Cert.Step.FfnWoutUpdate1.algebraic,
  trivial,
  Cert.Step.FfnWinUpdate1.algebraic,
  trivial,
  Cert.Step.FfnWoutUpdate.algebraic,
  trivial,
  Cert.Step.FfnWinUpdate.algebraic,
  trivial,
  Cert.Step.SmallUpdate.algebraic⟩

end Cert.Proof

end
